-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8x2048x256 : Shape := ⟨3, ![8, 2048, 256]⟩
abbrev S8x64 : Shape := ⟨2, ![8, 64]⟩
abbrev S8x2048 : Shape := ⟨2, ![8, 2048]⟩
abbrev S512x16 : Shape := ⟨2, ![512, 16]⟩
abbrev S16 : Shape := ⟨1, ![16]⟩
abbrev S_ : Shape := ⟨0, ![]⟩

class Facts : Prop where
  bcast_S_S8x64 : S_.BroadcastsInDim S8x64 (![] : Fin 0 → Fin S8x64.rank)
  reducesTo_S8x64_S_d0_1 : S8x64.ReducesTo [0, 1] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg3 : IVec S8x2048 32) (main_arg4 : IVec S8x2048 32) (main_v14 : IVec S_ 1) (main_c_7 : IVec S_ 32) : IVec S_ 1 :=
  let main_v15 : IVec S8x2048 32 := broadcastInDim S8x2048 ![] bcast_S_S8x2048 main_c_7
  let main_v16 : IVec S8x2048 1 := cmpi .sge main_arg3 main_v15
  let main_c_8 : IVec S_ 1 := constantI S_ 1 1#1
  let main_v17 : IVec S_ 1 := (fun x v => Host.reduce IntOp.andi x v reducesTo_S8x2048_S_d0_1 h_S_) main_v16 main_c_8
  let main_v18 : IVec S_ 1 := andi main_v14 main_v17
  let main_c_9 : IVec S_ 32 := constantI S_ 32 64#32
  let main_v19 : IVec S8x2048 32 := broadcastInDim S8x2048 ![] bcast_S_S8x2048 main_c_9
  let main_v20 : IVec S8x2048 1 := cmpi .slt main_arg3 main_v19
  let main_c_10 : IVec S_ 1 := constantI S_ 1 1#1
  let main_v21 : IVec S_ 1 := (fun x v => Host.reduce IntOp.andi x v reducesTo_S8x2048_S_d0_1 h_S_) main_v20 main_c_10
  let main_v22 : IVec S_ 1 := andi main_v18 main_v21
  let main_c_11 : IVec S_ 32 := constantI S_ 32 0#32
  let main_v23 : IVec S8x2048 32 := broadcastInDim S8x2048 ![] bcast_S_S8x2048 main_c_11
  let main_v24 : IVec S8x2048 1 := cmpi .sge main_arg4 main_v23
  let main_c_12 : IVec S_ 1 := constantI S_ 1 1#1
  let main_v25 : IVec S_ 1 := (fun x v => Host.reduce IntOp.andi x v reducesTo_S8x2048_S_d0_1 h_S_) main_v24 main_c_12
  let main_v26 : IVec S_ 1 := andi main_v22 main_v25
  let main_c_13 : IVec S_ 32 := constantI S_ 32 64#32
  let main_v27 : IVec S8x2048 32 := broadcastInDim S8x2048 ![] bcast_S_S8x2048 main_c_13
  let main_v28 : IVec S8x2048 1 := cmpi .slt main_arg4 main_v27
  let main_c_14 : IVec S_ 1 := constantI S_ 1 1#1
  let main_v29 : IVec S_ 1 := (fun x v => Host.reduce IntOp.andi x v reducesTo_S8x2048_S_d0_1 h_S_) main_v28 main_c_14
  let main_v30 : IVec S_ 1 := andi main_v26 main_v29
  main_v30

def fn {F : FTy → Type} [FloatOps F] (main_arg0 : FVec F S8x2048x256 .f32) (main_arg1 : IVec S8x64 32) (main_arg2 : IVec S8x64 32) (main_arg3 : IVec S8x2048 32) (main_arg4 : IVec S8x2048 32) (main_arg5 : FVec F S512x16 .f32) (main_arg6 : FVec F S16 .f32) : IVec S_ 1 :=
  let main_c : IVec S_ 32 := constantI S_ 32 0#32
  let main_v0 : IVec S8x64 32 := broadcastInDim S8x64 ![] bcast_S_S8x64 main_c
  let main_v1 : IVec S8x64 1 := cmpi .sge main_arg1 main_v0
  let main_c_0 : IVec S_ 1 := constantI S_ 1 1#1
  let main_v2 : IVec S_ 1 := (fun x v => Host.reduce IntOp.andi x v reducesTo_S8x64_S_d0_1 h_S_) main_v1 main_c_0
  let main_c_1 : IVec S_ 32 := constantI S_ 32 2016#32
  let main_v3 : IVec S8x64 32 := broadcastInDim S8x64 ![] bcast_S_S8x64 main_c_1
  let main_v4 : IVec S8x64 1 := cmpi .slt main_arg1 main_v3
  let main_c_2 : IVec S_ 1 := constantI S_ 1 1#1
  let main_v5 : IVec S_ 1 := (fun x v => Host.reduce IntOp.andi x v reducesTo_S8x64_S_d0_1 h_S_) main_v4 main_c_2
  let main_v6 : IVec S_ 1 := andi main_v2 main_v5
  let main_c_3 : IVec S_ 32 := constantI S_ 32 1#32
  let main_v7 : IVec S8x64 32 := broadcastInDim S8x64 ![] bcast_S_S8x64 main_c_3
  let main_v8 : IVec S8x64 1 := cmpi .sge main_arg2 main_v7
  let main_c_4 : IVec S_ 1 := constantI S_ 1 1#1
  let main_v9 : IVec S_ 1 := (fun x v => Host.reduce IntOp.andi x v reducesTo_S8x64_S_d0_1 h_S_) main_v8 main_c_4
  let main_v10 : IVec S_ 1 := andi main_v6 main_v9
  let main_c_5 : IVec S_ 32 := constantI S_ 32 32#32
  let main_v11 : IVec S8x64 32 := broadcastInDim S8x64 ![] bcast_S_S8x64 main_c_5
  let main_v12 : IVec S8x64 1 := cmpi .slt main_arg2 main_v11
  let main_c_6 : IVec S_ 1 := constantI S_ 1 1#1
  let main_v13 : IVec S_ 1 := (fun x v => Host.reduce IntOp.andi x v reducesTo_S8x64_S_d0_1 h_S_) main_v12 main_c_6
  let main_v14 : IVec S_ 1 := andi main_v10 main_v13
  let main_c_7 : IVec S_ 32 := constantI S_ 32 0#32
  fn_part1 (F := F) main_arg3 main_arg4 main_v14 main_c_7
-- ==== Kernel.lean ====
abbrev S8x2048x256 : Shape := ⟨3, ![8, 2048, 256]⟩
abbrev S8x64 : Shape := ⟨2, ![8, 64]⟩
abbrev S8x2048 : Shape := ⟨2, ![8, 2048]⟩
abbrev S512x16 : Shape := ⟨2, ![512, 16]⟩
abbrev S16 : Shape := ⟨1, ![16]⟩
abbrev S4x64x16 : Shape := ⟨3, ![4, 64, 16]⟩
abbrev S1x2048x256 : Shape := ⟨3, ![1, 2048, 256]⟩
abbrev S1x64x16 : Shape := ⟨3, ![1, 64, 16]⟩
abbrev S64x256 : Shape := ⟨2, ![64, 256]⟩
abbrev S40x256 : Shape := ⟨2, ![40, 256]⟩
abbrev S1x1 : Shape := ⟨2, ![1, 1]⟩
abbrev S1x40x256 : Shape := ⟨3, ![1, 40, 256]⟩
abbrev S256 : Shape := ⟨1, ![256]⟩
abbrev S1x256 : Shape := ⟨2, ![1, 256]⟩
abbrev S8x256 : Shape := ⟨2, ![8, 256]⟩
abbrev S256x16 : Shape := ⟨2, ![256, 16]⟩
abbrev S64x16 : Shape := ⟨2, ![64, 16]⟩
abbrev S1x16 : Shape := ⟨2, ![1, 16]⟩
abbrev S4x2048x16 : Shape := ⟨3, ![4, 2048, 16]⟩
abbrev S_ : Shape := ⟨0, ![]⟩
abbrev S1 : Shape := ⟨1, ![1]⟩
abbrev S1x256x16 : Shape := ⟨3, ![1, 256, 16]⟩
abbrev S4x2048 : Shape := ⟨2, ![4, 2048]⟩
abbrev S1x2048x16 : Shape := ⟨3, ![1, 2048, 16]⟩
abbrev S128x16 : Shape := ⟨2, ![128, 16]⟩
abbrev S2048x128 : Shape := ⟨2, ![2048, 128]⟩
abbrev S1x2048 : Shape := ⟨2, ![1, 2048]⟩
abbrev S2048 : Shape := ⟨1, ![2048]⟩
abbrev S2048x1 : Shape := ⟨2, ![2048, 1]⟩
abbrev S2048x16 : Shape := ⟨2, ![2048, 16]⟩
abbrev S8x2048x16 : Shape := ⟨3, ![8, 2048, 16]⟩

abbrev nBuf : Table → Nat
  | .hbm => 12
  | .local .tc .vmem => 18
  | .local .tc .smem => 2
  | .local .scVector .vmem => 5
  | _ => 0

abbrev bufTy : (tb : Table) → Fin (nBuf tb) → BufTy
  | .hbm, ⟨0, _⟩ => ⟨S8x2048x256, .f32⟩
  | .hbm, ⟨1, _⟩ => ⟨S8x2048, .i32⟩
  | .hbm, ⟨2, _⟩ => ⟨S8x2048, .i32⟩
  | .hbm, ⟨3, _⟩ => ⟨S512x16, .f32⟩
  | .hbm, ⟨4, _⟩ => ⟨S16, .f32⟩
  | .hbm, ⟨5, _⟩ => ⟨S4x64x16, .f32⟩
  | .hbm, ⟨6, _⟩ => ⟨S4x64x16, .f32⟩
  | .hbm, ⟨7, _⟩ => ⟨S4x2048x16, .f32⟩
  | .hbm, ⟨8, _⟩ => ⟨S4x2048, .i32⟩
  | .hbm, ⟨9, _⟩ => ⟨S4x2048, .i32⟩
  | .hbm, ⟨10, _⟩ => ⟨S4x2048x16, .f32⟩
  | .hbm, ⟨11, _⟩ => ⟨S8x2048x16, .f32⟩
  | .local .tc .vmem, ⟨0, _⟩ => ⟨S1x2048x256, .f32⟩
  | .local .tc .vmem, ⟨1, _⟩ => ⟨S1x2048x256, .f32⟩
  | .local .tc .vmem, ⟨2, _⟩ => ⟨S512x16, .f32⟩
  | .local .tc .vmem, ⟨3, _⟩ => ⟨S16, .f32⟩
  | .local .tc .vmem, ⟨4, _⟩ => ⟨S1x64x16, .f32⟩
  | .local .tc .vmem, ⟨5, _⟩ => ⟨S1x64x16, .f32⟩
  | .local .tc .vmem, ⟨6, _⟩ => ⟨S1x64x16, .f32⟩
  | .local .tc .vmem, ⟨7, _⟩ => ⟨S1x64x16, .f32⟩
  | .local .tc .vmem, ⟨8, _⟩ => ⟨S64x256, .f32⟩
  | .local .tc .vmem, ⟨9, _⟩ => ⟨S1x2048x256, .f32⟩
  | .local .tc .vmem, ⟨10, _⟩ => ⟨S1x2048x256, .f32⟩
  | .local .tc .vmem, ⟨11, _⟩ => ⟨S512x16, .f32⟩
  | .local .tc .vmem, ⟨12, _⟩ => ⟨S16, .f32⟩
  | .local .tc .vmem, ⟨13, _⟩ => ⟨S4x2048, .i32⟩
  | .local .tc .vmem, ⟨14, _⟩ => ⟨S4x2048, .i32⟩
  | .local .tc .vmem, ⟨15, _⟩ => ⟨S1x2048x16, .f32⟩
  | .local .tc .vmem, ⟨16, _⟩ => ⟨S1x2048x16, .f32⟩
  | .local .tc .vmem, ⟨17, _⟩ => ⟨S64x256, .f32⟩
  | .local .tc .smem, ⟨0, _⟩ => ⟨S8x64, .i32⟩
  | .local .tc .smem, ⟨1, _⟩ => ⟨S8x64, .i32⟩
  | .local .scVector .vmem, ⟨0, _⟩ => ⟨S64x16, .f32⟩
  | .local .scVector .vmem, ⟨1, _⟩ => ⟨S64x16, .f32⟩
  | .local .scVector .vmem, ⟨2, _⟩ => ⟨S256, .i32⟩
  | .local .scVector .vmem, ⟨3, _⟩ => ⟨S256, .i32⟩
  | .local .scVector .vmem, ⟨4, _⟩ => ⟨S256x16, .f32⟩
  | _, _ => ⟨S8x2048x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_arg1 : Ref sig .tc := ⟨.smem, 0, rfl⟩
abbrev main_arg2 : Ref sig .tc := ⟨.smem, 1, rfl⟩
abbrev main_v0_0_scv : Ref sig .scVector := ⟨.hbm, 5, rfl⟩
abbrev main_v0_1_scv : Ref sig .scVector := ⟨.hbm, 6, rfl⟩
abbrev main_arg3_scv : Ref sig .scVector := ⟨.hbm, 1, rfl⟩
abbrev main_arg4_scv : Ref sig .scVector := ⟨.hbm, 2, rfl⟩
abbrev main_v1_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc2_scratch0 : Ref sig .tc := ⟨.vmem, 17, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let arg0 : BitVec 32 := BitVec.ofNat 32 (i 0).val
  let c4_i32 : BitVec 32 := 4#32
  let v0 : BitVec 32 := Scalar.addi arg0 c4_i32
  let v2 : Index := Scalar.indexCast v0
  let c0 : Index := 0#32
  ![v2.toNat, 0]
def k0_off2 (v3 : BitVec 32) : Fin 3 → Nat :=
  let c0_6 : Index := 0#32
  let c0_i32 : BitVec 32 := 0#32
  let v7 : BitVec 1 := Scalar.cmpi .sgt v3 c0_i32
  let v8 : BitVec 32 := Scalar.extui v7
  let c0_i32_1 : BitVec 32 := 0#32
  let v9 : BitVec 1 := Scalar.cmpi .slt v3 c0_i32_1
  let v10 : BitVec 32 := Scalar.extui v9
  let v11 : BitVec 32 := Scalar.subi v8 v10
  let c8_i32 : BitVec 32 := 8#32
  let c0_i32_2 : BitVec 32 := 0#32
  let v12 : BitVec 1 := Scalar.cmpi .sgt c8_i32 c0_i32_2
  let v13 : BitVec 32 := Scalar.extui v12
  let c0_i32_3 : BitVec 32 := 0#32
  let v14 : BitVec 1 := Scalar.cmpi .slt c8_i32 c0_i32_3
  let v15 : BitVec 32 := Scalar.extui v14
  let v16 : BitVec 32 := Scalar.subi v13 v15
  let v17 : BitVec 1 := Scalar.cmpi .ne v11 v16
  let v18 : BitVec 32 := Scalar.remsi v3 c8_i32
  let c0_i32_4 : BitVec 32 := 0#32
  let v19 : BitVec 1 := Scalar.cmpi .ne v18 c0_i32_4
  let v20 : BitVec 1 := Scalar.andi v17 v19
  let v6 : BitVec 32 := Scalar.divsi v3 c8_i32
  let c1_i32 : BitVec 32 := 1#32
  let v21 : BitVec 32 := Scalar.subi v6 c1_i32
  let v22 : BitVec 32 := Scalar.select v20 v21 v6
  let c8_i32_5 : BitVec 32 := 8#32
  let v23 : BitVec 32 := Scalar.muli v22 c8_i32_5
  let v25 : Index := Scalar.indexCast v23
  let c0_7 : Index := 0#32
  ![0, v25.toNat, 0]

def k0_chk1 (v3 : BitVec 32) : Prop :=
  (∀ a, (k0_off2 v3) a + S1x40x256.size a ≤ S1x2048x256.size a)
theorem k0_off2_inb : ∀ (v3 : BitVec 32) (k0_hw1 : k0_chk1 v3), ∀ a, (k0_off2 v3) a + S1x40x256.size a ≤ S1x2048x256.size a := fun v3 k0_hw1 => k0_hw1

def k0_off3 (i : grid0.Coords) : Fin 2 → Nat :=
  let arg0 : BitVec 32 := BitVec.ofNat 32 (i 0).val
  let c4_i32 : BitVec 32 := 4#32
  let v0 : BitVec 32 := Scalar.addi arg0 c4_i32
  let v36 : Index := Scalar.indexCast v0
  let c1 : Index := 1#32
  ![v36.toNat, 1]
def k0_off4 (v37 : BitVec 32) : Fin 3 → Nat :=
  let c0_18 : Index := 0#32
  let c0_i32_11 : BitVec 32 := 0#32
  let v41 : BitVec 1 := Scalar.cmpi .sgt v37 c0_i32_11
  let v42 : BitVec 32 := Scalar.extui v41
  let c0_i32_12 : BitVec 32 := 0#32
  let v43 : BitVec 1 := Scalar.cmpi .slt v37 c0_i32_12
  let v44 : BitVec 32 := Scalar.extui v43
  let v45 : BitVec 32 := Scalar.subi v42 v44
  let c8_i32_10 : BitVec 32 := 8#32
  let c0_i32_13 : BitVec 32 := 0#32
  let v46 : BitVec 1 := Scalar.cmpi .sgt c8_i32_10 c0_i32_13
  let v47 : BitVec 32 := Scalar.extui v46
  let c0_i32_14 : BitVec 32 := 0#32
  let v48 : BitVec 1 := Scalar.cmpi .slt c8_i32_10 c0_i32_14
  let v49 : BitVec 32 := Scalar.extui v48
  let v50 : BitVec 32 := Scalar.subi v47 v49
  let v51 : BitVec 1 := Scalar.cmpi .ne v45 v50
  let v52 : BitVec 32 := Scalar.remsi v37 c8_i32_10
  let c0_i32_15 : BitVec 32 := 0#32
  let v53 : BitVec 1 := Scalar.cmpi .ne v52 c0_i32_15
  let v54 : BitVec 1 := Scalar.andi v51 v53
  let v40 : BitVec 32 := Scalar.divsi v37 c8_i32_10
  let c1_i32_16 : BitVec 32 := 1#32
  let v55 : BitVec 32 := Scalar.subi v40 c1_i32_16
  let v56 : BitVec 32 := Scalar.select v54 v55 v40
  let c8_i32_17 : BitVec 32 := 8#32
  let v57 : BitVec 32 := Scalar.muli v56 c8_i32_17
  let v59 : Index := Scalar.indexCast v57
  let c0_19 : Index := 0#32
  ![0, v59.toNat, 0]

def k0_chk2 (v37 : BitVec 32) : Prop :=
  (∀ a, (k0_off4 v37) a + S1x40x256.size a ≤ S1x2048x256.size a)
theorem k0_off4_inb : ∀ (v37 : BitVec 32) (k0_hw2 : k0_chk2 v37), ∀ a, (k0_off4 v37) a + S1x40x256.size a ≤ S1x2048x256.size a := fun v37 k0_hw2 => k0_hw2

def k0_off5 (i : grid0.Coords) : Fin 2 → Nat :=
  let arg0 : BitVec 32 := BitVec.ofNat 32 (i 0).val
  let c4_i32 : BitVec 32 := 4#32
  let v0 : BitVec 32 := Scalar.addi arg0 c4_i32
  let v70 : Index := Scalar.indexCast v0
  let c2 : Index := 2#32
  ![v70.toNat, 2]
def k0_off6 (v71 : BitVec 32) : Fin 3 → Nat :=
  let c0_31 : Index := 0#32
  let c0_i32_24 : BitVec 32 := 0#32
  let v75 : BitVec 1 := Scalar.cmpi .sgt v71 c0_i32_24
  let v76 : BitVec 32 := Scalar.extui v75
  let c0_i32_25 : BitVec 32 := 0#32
  let v77 : BitVec 1 := Scalar.cmpi .slt v71 c0_i32_25
  let v78 : BitVec 32 := Scalar.extui v77
  let v79 : BitVec 32 := Scalar.subi v76 v78
  let c8_i32_23 : BitVec 32 := 8#32
  let c0_i32_26 : BitVec 32 := 0#32
  let v80 : BitVec 1 := Scalar.cmpi .sgt c8_i32_23 c0_i32_26
  let v81 : BitVec 32 := Scalar.extui v80
  let c0_i32_27 : BitVec 32 := 0#32
  let v82 : BitVec 1 := Scalar.cmpi .slt c8_i32_23 c0_i32_27
  let v83 : BitVec 32 := Scalar.extui v82
  let v84 : BitVec 32 := Scalar.subi v81 v83
  let v85 : BitVec 1 := Scalar.cmpi .ne v79 v84
  let v86 : BitVec 32 := Scalar.remsi v71 c8_i32_23
  let c0_i32_28 : BitVec 32 := 0#32
  let v87 : BitVec 1 := Scalar.cmpi .ne v86 c0_i32_28
  let v88 : BitVec 1 := Scalar.andi v85 v87
  let v74 : BitVec 32 := Scalar.divsi v71 c8_i32_23
  let c1_i32_29 : BitVec 32 := 1#32
  let v89 : BitVec 32 := Scalar.subi v74 c1_i32_29
  let v90 : BitVec 32 := Scalar.select v88 v89 v74
  let c8_i32_30 : BitVec 32 := 8#32
  let v91 : BitVec 32 := Scalar.muli v90 c8_i32_30
  let v93 : Index := Scalar.indexCast v91
  let c0_32 : Index := 0#32
  ![0, v93.toNat, 0]

def k0_chk3 (v71 : BitVec 32) : Prop :=
  (∀ a, (k0_off6 v71) a + S1x40x256.size a ≤ S1x2048x256.size a)
theorem k0_off6_inb : ∀ (v71 : BitVec 32) (k0_hw3 : k0_chk3 v71), ∀ a, (k0_off6 v71) a + S1x40x256.size a ≤ S1x2048x256.size a := fun v71 k0_hw3 => k0_hw3

def k0_off7 (i : grid0.Coords) : Fin 2 → Nat :=
  let arg0 : BitVec 32 := BitVec.ofNat 32 (i 0).val
  let c4_i32 : BitVec 32 := 4#32
  let v0 : BitVec 32 := Scalar.addi arg0 c4_i32
  let v104 : Index := Scalar.indexCast v0
  let c3 : Index := 3#32
  ![v104.toNat, 3]
def k0_off8 (v105 : BitVec 32) : Fin 3 → Nat :=
  let c0_44 : Index := 0#32
  let c0_i32_37 : BitVec 32 := 0#32
  let v109 : BitVec 1 := Scalar.cmpi .sgt v105 c0_i32_37
  let v110 : BitVec 32 := Scalar.extui v109
  let c0_i32_38 : BitVec 32 := 0#32
  let v111 : BitVec 1 := Scalar.cmpi .slt v105 c0_i32_38
  let v112 : BitVec 32 := Scalar.extui v111
  let v113 : BitVec 32 := Scalar.subi v110 v112
  let c8_i32_36 : BitVec 32 := 8#32
  let c0_i32_39 : BitVec 32 := 0#32
  let v114 : BitVec 1 := Scalar.cmpi .sgt c8_i32_36 c0_i32_39
  let v115 : BitVec 32 := Scalar.extui v114
  let c0_i32_40 : BitVec 32 := 0#32
  let v116 : BitVec 1 := Scalar.cmpi .slt c8_i32_36 c0_i32_40
  let v117 : BitVec 32 := Scalar.extui v116
  let v118 : BitVec 32 := Scalar.subi v115 v117
  let v119 : BitVec 1 := Scalar.cmpi .ne v113 v118
  let v120 : BitVec 32 := Scalar.remsi v105 c8_i32_36
  let c0_i32_41 : BitVec 32 := 0#32
  let v121 : BitVec 1 := Scalar.cmpi .ne v120 c0_i32_41
  let v122 : BitVec 1 := Scalar.andi v119 v121
  let v108 : BitVec 32 := Scalar.divsi v105 c8_i32_36
  let c1_i32_42 : BitVec 32 := 1#32
  let v123 : BitVec 32 := Scalar.subi v108 c1_i32_42
  let v124 : BitVec 32 := Scalar.select v122 v123 v108
  let c8_i32_43 : BitVec 32 := 8#32
  let v125 : BitVec 32 := Scalar.muli v124 c8_i32_43
  let v127 : Index := Scalar.indexCast v125
  let c0_45 : Index := 0#32
  ![0, v127.toNat, 0]

def k0_chk4 (v105 : BitVec 32) : Prop :=
  (∀ a, (k0_off8 v105) a + S1x40x256.size a ≤ S1x2048x256.size a)
theorem k0_off8_inb : ∀ (v105 : BitVec 32) (k0_hw4 : k0_chk4 v105), ∀ a, (k0_off8 v105) a + S1x40x256.size a ≤ S1x2048x256.size a := fun v105 k0_hw4 => k0_hw4

def k0_off9 (i : grid0.Coords) : Fin 2 → Nat :=
  let arg0 : BitVec 32 := BitVec.ofNat 32 (i 0).val
  let c4_i32 : BitVec 32 := 4#32
  let v0 : BitVec 32 := Scalar.addi arg0 c4_i32
  let v138 : Index := Scalar.indexCast v0
  let c4 : Index := 4#32
  ![v138.toNat, 4]
def k0_off10 (v139 : BitVec 32) : Fin 3 → Nat :=
  let c0_57 : Index := 0#32
  let c0_i32_50 : BitVec 32 := 0#32
  let v143 : BitVec 1 := Scalar.cmpi .sgt v139 c0_i32_50
  let v144 : BitVec 32 := Scalar.extui v143
  let c0_i32_51 : BitVec 32 := 0#32
  let v145 : BitVec 1 := Scalar.cmpi .slt v139 c0_i32_51
  let v146 : BitVec 32 := Scalar.extui v145
  let v147 : BitVec 32 := Scalar.subi v144 v146
  let c8_i32_49 : BitVec 32 := 8#32
  let c0_i32_52 : BitVec 32 := 0#32
  let v148 : BitVec 1 := Scalar.cmpi .sgt c8_i32_49 c0_i32_52
  let v149 : BitVec 32 := Scalar.extui v148
  let c0_i32_53 : BitVec 32 := 0#32
  let v150 : BitVec 1 := Scalar.cmpi .slt c8_i32_49 c0_i32_53
  let v151 : BitVec 32 := Scalar.extui v150
  let v152 : BitVec 32 := Scalar.subi v149 v151
  let v153 : BitVec 1 := Scalar.cmpi .ne v147 v152
  let v154 : BitVec 32 := Scalar.remsi v139 c8_i32_49
  let c0_i32_54 : BitVec 32 := 0#32
  let v155 : BitVec 1 := Scalar.cmpi .ne v154 c0_i32_54
  let v156 : BitVec 1 := Scalar.andi v153 v155
  let v142 : BitVec 32 := Scalar.divsi v139 c8_i32_49
  let c1_i32_55 : BitVec 32 := 1#32
  let v157 : BitVec 32 := Scalar.subi v142 c1_i32_55
  let v158 : BitVec 32 := Scalar.select v156 v157 v142
  let c8_i32_56 : BitVec 32 := 8#32
  let v159 : BitVec 32 := Scalar.muli v158 c8_i32_56
  let v161 : Index := Scalar.indexCast v159
  let c0_58 : Index := 0#32
  ![0, v161.toNat, 0]

def k0_chk5 (v139 : BitVec 32) : Prop :=
  (∀ a, (k0_off10 v139) a + S1x40x256.size a ≤ S1x2048x256.size a)
theorem k0_off10_inb : ∀ (v139 : BitVec 32) (k0_hw5 : k0_chk5 v139), ∀ a, (k0_off10 v139) a + S1x40x256.size a ≤ S1x2048x256.size a := fun v139 k0_hw5 => k0_hw5

def k0_off11 (i : grid0.Coords) : Fin 2 → Nat :=
  let arg0 : BitVec 32 := BitVec.ofNat 32 (i 0).val
  let c4_i32 : BitVec 32 := 4#32
  let v0 : BitVec 32 := Scalar.addi arg0 c4_i32
  let v172 : Index := Scalar.indexCast v0
  let c5 : Index := 5#32
  ![v172.toNat, 5]
def k0_off12 (v173 : BitVec 32) : Fin 3 → Nat :=
  let c0_70 : Index := 0#32
  let c0_i32_63 : BitVec 32 := 0#32
  let v177 : BitVec 1 := Scalar.cmpi .sgt v173 c0_i32_63
  let v178 : BitVec 32 := Scalar.extui v177
  let c0_i32_64 : BitVec 32 := 0#32
  let v179 : BitVec 1 := Scalar.cmpi .slt v173 c0_i32_64
  let v180 : BitVec 32 := Scalar.extui v179
  let v181 : BitVec 32 := Scalar.subi v178 v180
  let c8_i32_62 : BitVec 32 := 8#32
  let c0_i32_65 : BitVec 32 := 0#32
  let v182 : BitVec 1 := Scalar.cmpi .sgt c8_i32_62 c0_i32_65
  let v183 : BitVec 32 := Scalar.extui v182
  let c0_i32_66 : BitVec 32 := 0#32
  let v184 : BitVec 1 := Scalar.cmpi .slt c8_i32_62 c0_i32_66
  let v185 : BitVec 32 := Scalar.extui v184
  let v186 : BitVec 32 := Scalar.subi v183 v185
  let v187 : BitVec 1 := Scalar.cmpi .ne v181 v186
  let v188 : BitVec 32 := Scalar.remsi v173 c8_i32_62
  let c0_i32_67 : BitVec 32 := 0#32
  let v189 : BitVec 1 := Scalar.cmpi .ne v188 c0_i32_67
  let v190 : BitVec 1 := Scalar.andi v187 v189
  let v176 : BitVec 32 := Scalar.divsi v173 c8_i32_62
  let c1_i32_68 : BitVec 32 := 1#32
  let v191 : BitVec 32 := Scalar.subi v176 c1_i32_68
  let v192 : BitVec 32 := Scalar.select v190 v191 v176
  let c8_i32_69 : BitVec 32 := 8#32
  let v193 : BitVec 32 := Scalar.muli v192 c8_i32_69
  let v195 : Index := Scalar.indexCast v193
  let c0_71 : Index := 0#32
  ![0, v195.toNat, 0]

def k0_chk6 (v173 : BitVec 32) : Prop :=
  (∀ a, (k0_off12 v173) a + S1x40x256.size a ≤ S1x2048x256.size a)
theorem k0_off12_inb : ∀ (v173 : BitVec 32) (k0_hw6 : k0_chk6 v173), ∀ a, (k0_off12 v173) a + S1x40x256.size a ≤ S1x2048x256.size a := fun v173 k0_hw6 => k0_hw6

def k0_off13 (i : grid0.Coords) : Fin 2 → Nat :=
  let arg0 : BitVec 32 := BitVec.ofNat 32 (i 0).val
  let c4_i32 : BitVec 32 := 4#32
  let v0 : BitVec 32 := Scalar.addi arg0 c4_i32
  let v206 : Index := Scalar.indexCast v0
  let c6 : Index := 6#32
  ![v206.toNat, 6]
def k0_off14 (v207 : BitVec 32) : Fin 3 → Nat :=
  let c0_83 : Index := 0#32
  let c0_i32_76 : BitVec 32 := 0#32
  let v211 : BitVec 1 := Scalar.cmpi .sgt v207 c0_i32_76
  let v212 : BitVec 32 := Scalar.extui v211
  let c0_i32_77 : BitVec 32 := 0#32
  let v213 : BitVec 1 := Scalar.cmpi .slt v207 c0_i32_77
  let v214 : BitVec 32 := Scalar.extui v213
  let v215 : BitVec 32 := Scalar.subi v212 v214
  let c8_i32_75 : BitVec 32 := 8#32
  let c0_i32_78 : BitVec 32 := 0#32
  let v216 : BitVec 1 := Scalar.cmpi .sgt c8_i32_75 c0_i32_78
  let v217 : BitVec 32 := Scalar.extui v216
  let c0_i32_79 : BitVec 32 := 0#32
  let v218 : BitVec 1 := Scalar.cmpi .slt c8_i32_75 c0_i32_79
  let v219 : BitVec 32 := Scalar.extui v218
  let v220 : BitVec 32 := Scalar.subi v217 v219
  let v221 : BitVec 1 := Scalar.cmpi .ne v215 v220
  let v222 : BitVec 32 := Scalar.remsi v207 c8_i32_75
  let c0_i32_80 : BitVec 32 := 0#32
  let v223 : BitVec 1 := Scalar.cmpi .ne v222 c0_i32_80
  let v224 : BitVec 1 := Scalar.andi v221 v223
  let v210 : BitVec 32 := Scalar.divsi v207 c8_i32_75
  let c1_i32_81 : BitVec 32 := 1#32
  let v225 : BitVec 32 := Scalar.subi v210 c1_i32_81
  let v226 : BitVec 32 := Scalar.select v224 v225 v210
  let c8_i32_82 : BitVec 32 := 8#32
  let v227 : BitVec 32 := Scalar.muli v226 c8_i32_82
  let v229 : Index := Scalar.indexCast v227
  let c0_84 : Index := 0#32
  ![0, v229.toNat, 0]

def k0_chk7 (v207 : BitVec 32) : Prop :=
  (∀ a, (k0_off14 v207) a + S1x40x256.size a ≤ S1x2048x256.size a)
theorem k0_off14_inb : ∀ (v207 : BitVec 32) (k0_hw7 : k0_chk7 v207), ∀ a, (k0_off14 v207) a + S1x40x256.size a ≤ S1x2048x256.size a := fun v207 k0_hw7 => k0_hw7

def k0_off15 (i : grid0.Coords) : Fin 2 → Nat :=
  let arg0 : BitVec 32 := BitVec.ofNat 32 (i 0).val
  let c4_i32 : BitVec 32 := 4#32
  let v0 : BitVec 32 := Scalar.addi arg0 c4_i32
  let v240 : Index := Scalar.indexCast v0
  let c7 : Index := 7#32
  ![v240.toNat, 7]
def k0_off16 (v241 : BitVec 32) : Fin 3 → Nat :=
  let c0_96 : Index := 0#32
  let c0_i32_89 : BitVec 32 := 0#32
  let v245 : BitVec 1 := Scalar.cmpi .sgt v241 c0_i32_89
  let v246 : BitVec 32 := Scalar.extui v245
  let c0_i32_90 : BitVec 32 := 0#32
  let v247 : BitVec 1 := Scalar.cmpi .slt v241 c0_i32_90
  let v248 : BitVec 32 := Scalar.extui v247
  let v249 : BitVec 32 := Scalar.subi v246 v248
  let c8_i32_88 : BitVec 32 := 8#32
  let c0_i32_91 : BitVec 32 := 0#32
  let v250 : BitVec 1 := Scalar.cmpi .sgt c8_i32_88 c0_i32_91
  let v251 : BitVec 32 := Scalar.extui v250
  let c0_i32_92 : BitVec 32 := 0#32
  let v252 : BitVec 1 := Scalar.cmpi .slt c8_i32_88 c0_i32_92
  let v253 : BitVec 32 := Scalar.extui v252
  let v254 : BitVec 32 := Scalar.subi v251 v253
  let v255 : BitVec 1 := Scalar.cmpi .ne v249 v254
  let v256 : BitVec 32 := Scalar.remsi v241 c8_i32_88
  let c0_i32_93 : BitVec 32 := 0#32
  let v257 : BitVec 1 := Scalar.cmpi .ne v256 c0_i32_93
  let v258 : BitVec 1 := Scalar.andi v255 v257
  let v244 : BitVec 32 := Scalar.divsi v241 c8_i32_88
  let c1_i32_94 : BitVec 32 := 1#32
  let v259 : BitVec 32 := Scalar.subi v244 c1_i32_94
  let v260 : BitVec 32 := Scalar.select v258 v259 v244
  let c8_i32_95 : BitVec 32 := 8#32
  let v261 : BitVec 32 := Scalar.muli v260 c8_i32_95
  let v263 : Index := Scalar.indexCast v261
  let c0_97 : Index := 0#32
  ![0, v263.toNat, 0]

def k0_chk8 (v241 : BitVec 32) : Prop :=
  (∀ a, (k0_off16 v241) a + S1x40x256.size a ≤ S1x2048x256.size a)
theorem k0_off16_inb : ∀ (v241 : BitVec 32) (k0_hw8 : k0_chk8 v241), ∀ a, (k0_off16 v241) a + S1x40x256.size a ≤ S1x2048x256.size a := fun v241 k0_hw8 => k0_hw8

def k0_off17 (i : grid0.Coords) : Fin 2 → Nat :=
  let arg0 : BitVec 32 := BitVec.ofNat 32 (i 0).val
  let c4_i32 : BitVec 32 := 4#32
  let v0 : BitVec 32 := Scalar.addi arg0 c4_i32
  let v278 : Index := Scalar.indexCast v0
  let c8 : Index := 8#32
  ![v278.toNat, 8]
def k0_off18 (v279 : BitVec 32) : Fin 3 → Nat :=
  let c0_111 : Index := 0#32
  let c0_i32_104 : BitVec 32 := 0#32
  let v283 : BitVec 1 := Scalar.cmpi .sgt v279 c0_i32_104
  let v284 : BitVec 32 := Scalar.extui v283
  let c0_i32_105 : BitVec 32 := 0#32
  let v285 : BitVec 1 := Scalar.cmpi .slt v279 c0_i32_105
  let v286 : BitVec 32 := Scalar.extui v285
  let v287 : BitVec 32 := Scalar.subi v284 v286
  let c8_i32_103 : BitVec 32 := 8#32
  let c0_i32_106 : BitVec 32 := 0#32
  let v288 : BitVec 1 := Scalar.cmpi .sgt c8_i32_103 c0_i32_106
  let v289 : BitVec 32 := Scalar.extui v288
  let c0_i32_107 : BitVec 32 := 0#32
  let v290 : BitVec 1 := Scalar.cmpi .slt c8_i32_103 c0_i32_107
  let v291 : BitVec 32 := Scalar.extui v290
  let v292 : BitVec 32 := Scalar.subi v289 v291
  let v293 : BitVec 1 := Scalar.cmpi .ne v287 v292
  let v294 : BitVec 32 := Scalar.remsi v279 c8_i32_103
  let c0_i32_108 : BitVec 32 := 0#32
  let v295 : BitVec 1 := Scalar.cmpi .ne v294 c0_i32_108
  let v296 : BitVec 1 := Scalar.andi v293 v295
  let v282 : BitVec 32 := Scalar.divsi v279 c8_i32_103
  let c1_i32_109 : BitVec 32 := 1#32
  let v297 : BitVec 32 := Scalar.subi v282 c1_i32_109
  let v298 : BitVec 32 := Scalar.select v296 v297 v282
  let c8_i32_110 : BitVec 32 := 8#32
  let v299 : BitVec 32 := Scalar.muli v298 c8_i32_110
  let v301 : Index := Scalar.indexCast v299
  let c0_112 : Index := 0#32
  ![0, v301.toNat, 0]

def k0_chk9 (v279 : BitVec 32) : Prop :=
  (∀ a, (k0_off18 v279) a + S1x40x256.size a ≤ S1x2048x256.size a)
theorem k0_off18_inb : ∀ (v279 : BitVec 32) (k0_hw9 : k0_chk9 v279), ∀ a, (k0_off18 v279) a + S1x40x256.size a ≤ S1x2048x256.size a := fun v279 k0_hw9 => k0_hw9

def k0_off19 (i : grid0.Coords) : Fin 2 → Nat :=
  let arg0 : BitVec 32 := BitVec.ofNat 32 (i 0).val
  let c4_i32 : BitVec 32 := 4#32
  let v0 : BitVec 32 := Scalar.addi arg0 c4_i32
  let v312 : Index := Scalar.indexCast v0
  let c9 : Index := 9#32
  ![v312.toNat, 9]
def k0_off20 (v313 : BitVec 32) : Fin 3 → Nat :=
  let c0_124 : Index := 0#32
  let c0_i32_117 : BitVec 32 := 0#32
  let v317 : BitVec 1 := Scalar.cmpi .sgt v313 c0_i32_117
  let v318 : BitVec 32 := Scalar.extui v317
  let c0_i32_118 : BitVec 32 := 0#32
  let v319 : BitVec 1 := Scalar.cmpi .slt v313 c0_i32_118
  let v320 : BitVec 32 := Scalar.extui v319
  let v321 : BitVec 32 := Scalar.subi v318 v320
  let c8_i32_116 : BitVec 32 := 8#32
  let c0_i32_119 : BitVec 32 := 0#32
  let v322 : BitVec 1 := Scalar.cmpi .sgt c8_i32_116 c0_i32_119
  let v323 : BitVec 32 := Scalar.extui v322
  let c0_i32_120 : BitVec 32 := 0#32
  let v324 : BitVec 1 := Scalar.cmpi .slt c8_i32_116 c0_i32_120
  let v325 : BitVec 32 := Scalar.extui v324
  let v326 : BitVec 32 := Scalar.subi v323 v325
  let v327 : BitVec 1 := Scalar.cmpi .ne v321 v326
  let v328 : BitVec 32 := Scalar.remsi v313 c8_i32_116
  let c0_i32_121 : BitVec 32 := 0#32
  let v329 : BitVec 1 := Scalar.cmpi .ne v328 c0_i32_121
  let v330 : BitVec 1 := Scalar.andi v327 v329
  let v316 : BitVec 32 := Scalar.divsi v313 c8_i32_116
  let c1_i32_122 : BitVec 32 := 1#32
  let v331 : BitVec 32 := Scalar.subi v316 c1_i32_122
  let v332 : BitVec 32 := Scalar.select v330 v331 v316
  let c8_i32_123 : BitVec 32 := 8#32
  let v333 : BitVec 32 := Scalar.muli v332 c8_i32_123
  let v335 : Index := Scalar.indexCast v333
  let c0_125 : Index := 0#32
  ![0, v335.toNat, 0]

def k0_chk10 (v313 : BitVec 32) : Prop :=
  (∀ a, (k0_off20 v313) a + S1x40x256.size a ≤ S1x2048x256.size a)
theorem k0_off20_inb : ∀ (v313 : BitVec 32) (k0_hw10 : k0_chk10 v313), ∀ a, (k0_off20 v313) a + S1x40x256.size a ≤ S1x2048x256.size a := fun v313 k0_hw10 => k0_hw10

def k0_off21 (i : grid0.Coords) : Fin 2 → Nat :=
  let arg0 : BitVec 32 := BitVec.ofNat 32 (i 0).val
  let c4_i32 : BitVec 32 := 4#32
  let v0 : BitVec 32 := Scalar.addi arg0 c4_i32
  let v346 : Index := Scalar.indexCast v0
  let c10 : Index := 10#32
  ![v346.toNat, 10]
def k0_off22 (v347 : BitVec 32) : Fin 3 → Nat :=
  let c0_137 : Index := 0#32
  let c0_i32_130 : BitVec 32 := 0#32
  let v351 : BitVec 1 := Scalar.cmpi .sgt v347 c0_i32_130
  let v352 : BitVec 32 := Scalar.extui v351
  let c0_i32_131 : BitVec 32 := 0#32
  let v353 : BitVec 1 := Scalar.cmpi .slt v347 c0_i32_131
  let v354 : BitVec 32 := Scalar.extui v353
  let v355 : BitVec 32 := Scalar.subi v352 v354
  let c8_i32_129 : BitVec 32 := 8#32
  let c0_i32_132 : BitVec 32 := 0#32
  let v356 : BitVec 1 := Scalar.cmpi .sgt c8_i32_129 c0_i32_132
  let v357 : BitVec 32 := Scalar.extui v356
  let c0_i32_133 : BitVec 32 := 0#32
  let v358 : BitVec 1 := Scalar.cmpi .slt c8_i32_129 c0_i32_133
  let v359 : BitVec 32 := Scalar.extui v358
  let v360 : BitVec 32 := Scalar.subi v357 v359
  let v361 : BitVec 1 := Scalar.cmpi .ne v355 v360
  let v362 : BitVec 32 := Scalar.remsi v347 c8_i32_129
  let c0_i32_134 : BitVec 32 := 0#32
  let v363 : BitVec 1 := Scalar.cmpi .ne v362 c0_i32_134
  let v364 : BitVec 1 := Scalar.andi v361 v363
  let v350 : BitVec 32 := Scalar.divsi v347 c8_i32_129
  let c1_i32_135 : BitVec 32 := 1#32
  let v365 : BitVec 32 := Scalar.subi v350 c1_i32_135
  let v366 : BitVec 32 := Scalar.select v364 v365 v350
  let c8_i32_136 : BitVec 32 := 8#32
  let v367 : BitVec 32 := Scalar.muli v366 c8_i32_136
  let v369 : Index := Scalar.indexCast v367
  let c0_138 : Index := 0#32
  ![0, v369.toNat, 0]

def k0_chk11 (v347 : BitVec 32) : Prop :=
  (∀ a, (k0_off22 v347) a + S1x40x256.size a ≤ S1x2048x256.size a)
theorem k0_off22_inb : ∀ (v347 : BitVec 32) (k0_hw11 : k0_chk11 v347), ∀ a, (k0_off22 v347) a + S1x40x256.size a ≤ S1x2048x256.size a := fun v347 k0_hw11 => k0_hw11

def k0_off23 (i : grid0.Coords) : Fin 2 → Nat :=
  let arg0 : BitVec 32 := BitVec.ofNat 32 (i 0).val
  let c4_i32 : BitVec 32 := 4#32
  let v0 : BitVec 32 := Scalar.addi arg0 c4_i32
  let v380 : Index := Scalar.indexCast v0
  let c11 : Index := 11#32
  ![v380.toNat, 11]
def k0_off24 (v381 : BitVec 32) : Fin 3 → Nat :=
  let c0_150 : Index := 0#32
  let c0_i32_143 : BitVec 32 := 0#32
  let v385 : BitVec 1 := Scalar.cmpi .sgt v381 c0_i32_143
  let v386 : BitVec 32 := Scalar.extui v385
  let c0_i32_144 : BitVec 32 := 0#32
  let v387 : BitVec 1 := Scalar.cmpi .slt v381 c0_i32_144
  let v388 : BitVec 32 := Scalar.extui v387
  let v389 : BitVec 32 := Scalar.subi v386 v388
  let c8_i32_142 : BitVec 32 := 8#32
  let c0_i32_145 : BitVec 32 := 0#32
  let v390 : BitVec 1 := Scalar.cmpi .sgt c8_i32_142 c0_i32_145
  let v391 : BitVec 32 := Scalar.extui v390
  let c0_i32_146 : BitVec 32 := 0#32
  let v392 : BitVec 1 := Scalar.cmpi .slt c8_i32_142 c0_i32_146
  let v393 : BitVec 32 := Scalar.extui v392
  let v394 : BitVec 32 := Scalar.subi v391 v393
  let v395 : BitVec 1 := Scalar.cmpi .ne v389 v394
  let v396 : BitVec 32 := Scalar.remsi v381 c8_i32_142
  let c0_i32_147 : BitVec 32 := 0#32
  let v397 : BitVec 1 := Scalar.cmpi .ne v396 c0_i32_147
  let v398 : BitVec 1 := Scalar.andi v395 v397
  let v384 : BitVec 32 := Scalar.divsi v381 c8_i32_142
  let c1_i32_148 : BitVec 32 := 1#32
  let v399 : BitVec 32 := Scalar.subi v384 c1_i32_148
  let v400 : BitVec 32 := Scalar.select v398 v399 v384
  let c8_i32_149 : BitVec 32 := 8#32
  let v401 : BitVec 32 := Scalar.muli v400 c8_i32_149
  let v403 : Index := Scalar.indexCast v401
  let c0_151 : Index := 0#32
  ![0, v403.toNat, 0]

def k0_chk12 (v381 : BitVec 32) : Prop :=
  (∀ a, (k0_off24 v381) a + S1x40x256.size a ≤ S1x2048x256.size a)
theorem k0_off24_inb : ∀ (v381 : BitVec 32) (k0_hw12 : k0_chk12 v381), ∀ a, (k0_off24 v381) a + S1x40x256.size a ≤ S1x2048x256.size a := fun v381 k0_hw12 => k0_hw12

def k0_off25 (i : grid0.Coords) : Fin 2 → Nat :=
  let arg0 : BitVec 32 := BitVec.ofNat 32 (i 0).val
  let c4_i32 : BitVec 32 := 4#32
  let v0 : BitVec 32 := Scalar.addi arg0 c4_i32
  let v414 : Index := Scalar.indexCast v0
  let c12 : Index := 12#32
  ![v414.toNat, 12]
def k0_off26 (v415 : BitVec 32) : Fin 3 → Nat :=
  let c0_163 : Index := 0#32
  let c0_i32_156 : BitVec 32 := 0#32
  let v419 : BitVec 1 := Scalar.cmpi .sgt v415 c0_i32_156
  let v420 : BitVec 32 := Scalar.extui v419
  let c0_i32_157 : BitVec 32 := 0#32
  let v421 : BitVec 1 := Scalar.cmpi .slt v415 c0_i32_157
  let v422 : BitVec 32 := Scalar.extui v421
  let v423 : BitVec 32 := Scalar.subi v420 v422
  let c8_i32_155 : BitVec 32 := 8#32
  let c0_i32_158 : BitVec 32 := 0#32
  let v424 : BitVec 1 := Scalar.cmpi .sgt c8_i32_155 c0_i32_158
  let v425 : BitVec 32 := Scalar.extui v424
  let c0_i32_159 : BitVec 32 := 0#32
  let v426 : BitVec 1 := Scalar.cmpi .slt c8_i32_155 c0_i32_159
  let v427 : BitVec 32 := Scalar.extui v426
  let v428 : BitVec 32 := Scalar.subi v425 v427
  let v429 : BitVec 1 := Scalar.cmpi .ne v423 v428
  let v430 : BitVec 32 := Scalar.remsi v415 c8_i32_155
  let c0_i32_160 : BitVec 32 := 0#32
  let v431 : BitVec 1 := Scalar.cmpi .ne v430 c0_i32_160
  let v432 : BitVec 1 := Scalar.andi v429 v431
  let v418 : BitVec 32 := Scalar.divsi v415 c8_i32_155
  let c1_i32_161 : BitVec 32 := 1#32
  let v433 : BitVec 32 := Scalar.subi v418 c1_i32_161
  let v434 : BitVec 32 := Scalar.select v432 v433 v418
  let c8_i32_162 : BitVec 32 := 8#32
  let v435 : BitVec 32 := Scalar.muli v434 c8_i32_162
  let v437 : Index := Scalar.indexCast v435
  let c0_164 : Index := 0#32
  ![0, v437.toNat, 0]

def k0_chk13 (v415 : BitVec 32) : Prop :=
  (∀ a, (k0_off26 v415) a + S1x40x256.size a ≤ S1x2048x256.size a)
theorem k0_off26_inb : ∀ (v415 : BitVec 32) (k0_hw13 : k0_chk13 v415), ∀ a, (k0_off26 v415) a + S1x40x256.size a ≤ S1x2048x256.size a := fun v415 k0_hw13 => k0_hw13

def k0_off27 (i : grid0.Coords) : Fin 2 → Nat :=
  let arg0 : BitVec 32 := BitVec.ofNat 32 (i 0).val
  let c4_i32 : BitVec 32 := 4#32
  let v0 : BitVec 32 := Scalar.addi arg0 c4_i32
  let v448 : Index := Scalar.indexCast v0
  let c13 : Index := 13#32
  ![v448.toNat, 13]
def k0_off28 (v449 : BitVec 32) : Fin 3 → Nat :=
  let c0_176 : Index := 0#32
  let c0_i32_169 : BitVec 32 := 0#32
  let v453 : BitVec 1 := Scalar.cmpi .sgt v449 c0_i32_169
  let v454 : BitVec 32 := Scalar.extui v453
  let c0_i32_170 : BitVec 32 := 0#32
  let v455 : BitVec 1 := Scalar.cmpi .slt v449 c0_i32_170
  let v456 : BitVec 32 := Scalar.extui v455
  let v457 : BitVec 32 := Scalar.subi v454 v456
  let c8_i32_168 : BitVec 32 := 8#32
  let c0_i32_171 : BitVec 32 := 0#32
  let v458 : BitVec 1 := Scalar.cmpi .sgt c8_i32_168 c0_i32_171
  let v459 : BitVec 32 := Scalar.extui v458
  let c0_i32_172 : BitVec 32 := 0#32
  let v460 : BitVec 1 := Scalar.cmpi .slt c8_i32_168 c0_i32_172
  let v461 : BitVec 32 := Scalar.extui v460
  let v462 : BitVec 32 := Scalar.subi v459 v461
  let v463 : BitVec 1 := Scalar.cmpi .ne v457 v462
  let v464 : BitVec 32 := Scalar.remsi v449 c8_i32_168
  let c0_i32_173 : BitVec 32 := 0#32
  let v465 : BitVec 1 := Scalar.cmpi .ne v464 c0_i32_173
  let v466 : BitVec 1 := Scalar.andi v463 v465
  let v452 : BitVec 32 := Scalar.divsi v449 c8_i32_168
  let c1_i32_174 : BitVec 32 := 1#32
  let v467 : BitVec 32 := Scalar.subi v452 c1_i32_174
  let v468 : BitVec 32 := Scalar.select v466 v467 v452
  let c8_i32_175 : BitVec 32 := 8#32
  let v469 : BitVec 32 := Scalar.muli v468 c8_i32_175
  let v471 : Index := Scalar.indexCast v469
  let c0_177 : Index := 0#32
  ![0, v471.toNat, 0]

def k0_chk14 (v449 : BitVec 32) : Prop :=
  (∀ a, (k0_off28 v449) a + S1x40x256.size a ≤ S1x2048x256.size a)
theorem k0_off28_inb : ∀ (v449 : BitVec 32) (k0_hw14 : k0_chk14 v449), ∀ a, (k0_off28 v449) a + S1x40x256.size a ≤ S1x2048x256.size a := fun v449 k0_hw14 => k0_hw14

def k0_off29 (i : grid0.Coords) : Fin 2 → Nat :=
  let arg0 : BitVec 32 := BitVec.ofNat 32 (i 0).val
  let c4_i32 : BitVec 32 := 4#32
  let v0 : BitVec 32 := Scalar.addi arg0 c4_i32
  let v482 : Index := Scalar.indexCast v0
  let c14 : Index := 14#32
  ![v482.toNat, 14]
def k0_off30 (v483 : BitVec 32) : Fin 3 → Nat :=
  let c0_189 : Index := 0#32
  let c0_i32_182 : BitVec 32 := 0#32
  let v487 : BitVec 1 := Scalar.cmpi .sgt v483 c0_i32_182
  let v488 : BitVec 32 := Scalar.extui v487
  let c0_i32_183 : BitVec 32 := 0#32
  let v489 : BitVec 1 := Scalar.cmpi .slt v483 c0_i32_183
  let v490 : BitVec 32 := Scalar.extui v489
  let v491 : BitVec 32 := Scalar.subi v488 v490
  let c8_i32_181 : BitVec 32 := 8#32
  let c0_i32_184 : BitVec 32 := 0#32
  let v492 : BitVec 1 := Scalar.cmpi .sgt c8_i32_181 c0_i32_184
  let v493 : BitVec 32 := Scalar.extui v492
  let c0_i32_185 : BitVec 32 := 0#32
  let v494 : BitVec 1 := Scalar.cmpi .slt c8_i32_181 c0_i32_185
  let v495 : BitVec 32 := Scalar.extui v494
  let v496 : BitVec 32 := Scalar.subi v493 v495
  let v497 : BitVec 1 := Scalar.cmpi .ne v491 v496
  let v498 : BitVec 32 := Scalar.remsi v483 c8_i32_181
  let c0_i32_186 : BitVec 32 := 0#32
  let v499 : BitVec 1 := Scalar.cmpi .ne v498 c0_i32_186
  let v500 : BitVec 1 := Scalar.andi v497 v499
  let v486 : BitVec 32 := Scalar.divsi v483 c8_i32_181
  let c1_i32_187 : BitVec 32 := 1#32
  let v501 : BitVec 32 := Scalar.subi v486 c1_i32_187
  let v502 : BitVec 32 := Scalar.select v500 v501 v486
  let c8_i32_188 : BitVec 32 := 8#32
  let v503 : BitVec 32 := Scalar.muli v502 c8_i32_188
  let v505 : Index := Scalar.indexCast v503
  let c0_190 : Index := 0#32
  ![0, v505.toNat, 0]

def k0_chk15 (v483 : BitVec 32) : Prop :=
  (∀ a, (k0_off30 v483) a + S1x40x256.size a ≤ S1x2048x256.size a)
theorem k0_off30_inb : ∀ (v483 : BitVec 32) (k0_hw15 : k0_chk15 v483), ∀ a, (k0_off30 v483) a + S1x40x256.size a ≤ S1x2048x256.size a := fun v483 k0_hw15 => k0_hw15

def k0_off31 (i : grid0.Coords) : Fin 2 → Nat :=
  let arg0 : BitVec 32 := BitVec.ofNat 32 (i 0).val
  let c4_i32 : BitVec 32 := 4#32
  let v0 : BitVec 32 := Scalar.addi arg0 c4_i32
  let v516 : Index := Scalar.indexCast v0
  let c15 : Index := 15#32
  ![v516.toNat, 15]
def k0_off32 (v517 : BitVec 32) : Fin 3 → Nat :=
  let c0_202 : Index := 0#32
  let c0_i32_195 : BitVec 32 := 0#32
  let v521 : BitVec 1 := Scalar.cmpi .sgt v517 c0_i32_195
  let v522 : BitVec 32 := Scalar.extui v521
  let c0_i32_196 : BitVec 32 := 0#32
  let v523 : BitVec 1 := Scalar.cmpi .slt v517 c0_i32_196
  let v524 : BitVec 32 := Scalar.extui v523
  let v525 : BitVec 32 := Scalar.subi v522 v524
  let c8_i32_194 : BitVec 32 := 8#32
  let c0_i32_197 : BitVec 32 := 0#32
  let v526 : BitVec 1 := Scalar.cmpi .sgt c8_i32_194 c0_i32_197
  let v527 : BitVec 32 := Scalar.extui v526
  let c0_i32_198 : BitVec 32 := 0#32
  let v528 : BitVec 1 := Scalar.cmpi .slt c8_i32_194 c0_i32_198
  let v529 : BitVec 32 := Scalar.extui v528
  let v530 : BitVec 32 := Scalar.subi v527 v529
  let v531 : BitVec 1 := Scalar.cmpi .ne v525 v530
  let v532 : BitVec 32 := Scalar.remsi v517 c8_i32_194
  let c0_i32_199 : BitVec 32 := 0#32
  let v533 : BitVec 1 := Scalar.cmpi .ne v532 c0_i32_199
  let v534 : BitVec 1 := Scalar.andi v531 v533
  let v520 : BitVec 32 := Scalar.divsi v517 c8_i32_194
  let c1_i32_200 : BitVec 32 := 1#32
  let v535 : BitVec 32 := Scalar.subi v520 c1_i32_200
  let v536 : BitVec 32 := Scalar.select v534 v535 v520
  let c8_i32_201 : BitVec 32 := 8#32
  let v537 : BitVec 32 := Scalar.muli v536 c8_i32_201
  let v539 : Index := Scalar.indexCast v537
  let c0_203 : Index := 0#32
  ![0, v539.toNat, 0]

def k0_chk16 (v517 : BitVec 32) : Prop :=
  (∀ a, (k0_off32 v517) a + S1x40x256.size a ≤ S1x2048x256.size a)
theorem k0_off32_inb : ∀ (v517 : BitVec 32) (k0_hw16 : k0_chk16 v517), ∀ a, (k0_off32 v517) a + S1x40x256.size a ≤ S1x2048x256.size a := fun v517 k0_hw16 => k0_hw16

def k0_off33 (i : grid0.Coords) : Fin 2 → Nat :=
  let arg0 : BitVec 32 := BitVec.ofNat 32 (i 0).val
  let c4_i32 : BitVec 32 := 4#32
  let v0 : BitVec 32 := Scalar.addi arg0 c4_i32
  let v554 : Index := Scalar.indexCast v0
  let c16 : Index := 16#32
  ![v554.toNat, 16]
def k0_off34 (v555 : BitVec 32) : Fin 3 → Nat :=
  let c0_217 : Index := 0#32
  let c0_i32_210 : BitVec 32 := 0#32
  let v559 : BitVec 1 := Scalar.cmpi .sgt v555 c0_i32_210
  let v560 : BitVec 32 := Scalar.extui v559
  let c0_i32_211 : BitVec 32 := 0#32
  let v561 : BitVec 1 := Scalar.cmpi .slt v555 c0_i32_211
  let v562 : BitVec 32 := Scalar.extui v561
  let v563 : BitVec 32 := Scalar.subi v560 v562
  let c8_i32_209 : BitVec 32 := 8#32
  let c0_i32_212 : BitVec 32 := 0#32
  let v564 : BitVec 1 := Scalar.cmpi .sgt c8_i32_209 c0_i32_212
  let v565 : BitVec 32 := Scalar.extui v564
  let c0_i32_213 : BitVec 32 := 0#32
  let v566 : BitVec 1 := Scalar.cmpi .slt c8_i32_209 c0_i32_213
  let v567 : BitVec 32 := Scalar.extui v566
  let v568 : BitVec 32 := Scalar.subi v565 v567
  let v569 : BitVec 1 := Scalar.cmpi .ne v563 v568
  let v570 : BitVec 32 := Scalar.remsi v555 c8_i32_209
  let c0_i32_214 : BitVec 32 := 0#32
  let v571 : BitVec 1 := Scalar.cmpi .ne v570 c0_i32_214
  let v572 : BitVec 1 := Scalar.andi v569 v571
  let v558 : BitVec 32 := Scalar.divsi v555 c8_i32_209
  let c1_i32_215 : BitVec 32 := 1#32
  let v573 : BitVec 32 := Scalar.subi v558 c1_i32_215
  let v574 : BitVec 32 := Scalar.select v572 v573 v558
  let c8_i32_216 : BitVec 32 := 8#32
  let v575 : BitVec 32 := Scalar.muli v574 c8_i32_216
  let v577 : Index := Scalar.indexCast v575
  let c0_218 : Index := 0#32
  ![0, v577.toNat, 0]

def k0_chk17 (v555 : BitVec 32) : Prop :=
  (∀ a, (k0_off34 v555) a + S1x40x256.size a ≤ S1x2048x256.size a)
theorem k0_off34_inb : ∀ (v555 : BitVec 32) (k0_hw17 : k0_chk17 v555), ∀ a, (k0_off34 v555) a + S1x40x256.size a ≤ S1x2048x256.size a := fun v555 k0_hw17 => k0_hw17

def k0_off35 (i : grid0.Coords) : Fin 2 → Nat :=
  let arg0 : BitVec 32 := BitVec.ofNat 32 (i 0).val
  let c4_i32 : BitVec 32 := 4#32
  let v0 : BitVec 32 := Scalar.addi arg0 c4_i32
  let v588 : Index := Scalar.indexCast v0
  let c17 : Index := 17#32
  ![v588.toNat, 17]
def k0_off36 (v589 : BitVec 32) : Fin 3 → Nat :=
  let c0_230 : Index := 0#32
  let c0_i32_223 : BitVec 32 := 0#32
  let v593 : BitVec 1 := Scalar.cmpi .sgt v589 c0_i32_223
  let v594 : BitVec 32 := Scalar.extui v593
  let c0_i32_224 : BitVec 32 := 0#32
  let v595 : BitVec 1 := Scalar.cmpi .slt v589 c0_i32_224
  let v596 : BitVec 32 := Scalar.extui v595
  let v597 : BitVec 32 := Scalar.subi v594 v596
  let c8_i32_222 : BitVec 32 := 8#32
  let c0_i32_225 : BitVec 32 := 0#32
  let v598 : BitVec 1 := Scalar.cmpi .sgt c8_i32_222 c0_i32_225
  let v599 : BitVec 32 := Scalar.extui v598
  let c0_i32_226 : BitVec 32 := 0#32
  let v600 : BitVec 1 := Scalar.cmpi .slt c8_i32_222 c0_i32_226
  let v601 : BitVec 32 := Scalar.extui v600
  let v602 : BitVec 32 := Scalar.subi v599 v601
  let v603 : BitVec 1 := Scalar.cmpi .ne v597 v602
  let v604 : BitVec 32 := Scalar.remsi v589 c8_i32_222
  let c0_i32_227 : BitVec 32 := 0#32
  let v605 : BitVec 1 := Scalar.cmpi .ne v604 c0_i32_227
  let v606 : BitVec 1 := Scalar.andi v603 v605
  let v592 : BitVec 32 := Scalar.divsi v589 c8_i32_222
  let c1_i32_228 : BitVec 32 := 1#32
  let v607 : BitVec 32 := Scalar.subi v592 c1_i32_228
  let v608 : BitVec 32 := Scalar.select v606 v607 v592
  let c8_i32_229 : BitVec 32 := 8#32
  let v609 : BitVec 32 := Scalar.muli v608 c8_i32_229
  let v611 : Index := Scalar.indexCast v609
  let c0_231 : Index := 0#32
  ![0, v611.toNat, 0]

def k0_chk18 (v589 : BitVec 32) : Prop :=
  (∀ a, (k0_off36 v589) a + S1x40x256.size a ≤ S1x2048x256.size a)
theorem k0_off36_inb : ∀ (v589 : BitVec 32) (k0_hw18 : k0_chk18 v589), ∀ a, (k0_off36 v589) a + S1x40x256.size a ≤ S1x2048x256.size a := fun v589 k0_hw18 => k0_hw18

def k0_off37 (i : grid0.Coords) : Fin 2 → Nat :=
  let arg0 : BitVec 32 := BitVec.ofNat 32 (i 0).val
  let c4_i32 : BitVec 32 := 4#32
  let v0 : BitVec 32 := Scalar.addi arg0 c4_i32
  let v622 : Index := Scalar.indexCast v0
  let c18 : Index := 18#32
  ![v622.toNat, 18]
def k0_off38 (v623 : BitVec 32) : Fin 3 → Nat :=
  let c0_243 : Index := 0#32
  let c0_i32_236 : BitVec 32 := 0#32
  let v627 : BitVec 1 := Scalar.cmpi .sgt v623 c0_i32_236
  let v628 : BitVec 32 := Scalar.extui v627
  let c0_i32_237 : BitVec 32 := 0#32
  let v629 : BitVec 1 := Scalar.cmpi .slt v623 c0_i32_237
  let v630 : BitVec 32 := Scalar.extui v629
  let v631 : BitVec 32 := Scalar.subi v628 v630
  let c8_i32_235 : BitVec 32 := 8#32
  let c0_i32_238 : BitVec 32 := 0#32
  let v632 : BitVec 1 := Scalar.cmpi .sgt c8_i32_235 c0_i32_238
  let v633 : BitVec 32 := Scalar.extui v632
  let c0_i32_239 : BitVec 32 := 0#32
  let v634 : BitVec 1 := Scalar.cmpi .slt c8_i32_235 c0_i32_239
  let v635 : BitVec 32 := Scalar.extui v634
  let v636 : BitVec 32 := Scalar.subi v633 v635
  let v637 : BitVec 1 := Scalar.cmpi .ne v631 v636
  let v638 : BitVec 32 := Scalar.remsi v623 c8_i32_235
  let c0_i32_240 : BitVec 32 := 0#32
  let v639 : BitVec 1 := Scalar.cmpi .ne v638 c0_i32_240
  let v640 : BitVec 1 := Scalar.andi v637 v639
  let v626 : BitVec 32 := Scalar.divsi v623 c8_i32_235
  let c1_i32_241 : BitVec 32 := 1#32
  let v641 : BitVec 32 := Scalar.subi v626 c1_i32_241
  let v642 : BitVec 32 := Scalar.select v640 v641 v626
  let c8_i32_242 : BitVec 32 := 8#32
  let v643 : BitVec 32 := Scalar.muli v642 c8_i32_242
  let v645 : Index := Scalar.indexCast v643
  let c0_244 : Index := 0#32
  ![0, v645.toNat, 0]

def k0_chk19 (v623 : BitVec 32) : Prop :=
  (∀ a, (k0_off38 v623) a + S1x40x256.size a ≤ S1x2048x256.size a)
theorem k0_off38_inb : ∀ (v623 : BitVec 32) (k0_hw19 : k0_chk19 v623), ∀ a, (k0_off38 v623) a + S1x40x256.size a ≤ S1x2048x256.size a := fun v623 k0_hw19 => k0_hw19

def k0_off39 (i : grid0.Coords) : Fin 2 → Nat :=
  let arg0 : BitVec 32 := BitVec.ofNat 32 (i 0).val
  let c4_i32 : BitVec 32 := 4#32
  let v0 : BitVec 32 := Scalar.addi arg0 c4_i32
  let v656 : Index := Scalar.indexCast v0
  let c19 : Index := 19#32
  ![v656.toNat, 19]
def k0_off40 (v657 : BitVec 32) : Fin 3 → Nat :=
  let c0_256 : Index := 0#32
  let c0_i32_249 : BitVec 32 := 0#32
  let v661 : BitVec 1 := Scalar.cmpi .sgt v657 c0_i32_249
  let v662 : BitVec 32 := Scalar.extui v661
  let c0_i32_250 : BitVec 32 := 0#32
  let v663 : BitVec 1 := Scalar.cmpi .slt v657 c0_i32_250
  let v664 : BitVec 32 := Scalar.extui v663
  let v665 : BitVec 32 := Scalar.subi v662 v664
  let c8_i32_248 : BitVec 32 := 8#32
  let c0_i32_251 : BitVec 32 := 0#32
  let v666 : BitVec 1 := Scalar.cmpi .sgt c8_i32_248 c0_i32_251
  let v667 : BitVec 32 := Scalar.extui v666
  let c0_i32_252 : BitVec 32 := 0#32
  let v668 : BitVec 1 := Scalar.cmpi .slt c8_i32_248 c0_i32_252
  let v669 : BitVec 32 := Scalar.extui v668
  let v670 : BitVec 32 := Scalar.subi v667 v669
  let v671 : BitVec 1 := Scalar.cmpi .ne v665 v670
  let v672 : BitVec 32 := Scalar.remsi v657 c8_i32_248
  let c0_i32_253 : BitVec 32 := 0#32
  let v673 : BitVec 1 := Scalar.cmpi .ne v672 c0_i32_253
  let v674 : BitVec 1 := Scalar.andi v671 v673
  let v660 : BitVec 32 := Scalar.divsi v657 c8_i32_248
  let c1_i32_254 : BitVec 32 := 1#32
  let v675 : BitVec 32 := Scalar.subi v660 c1_i32_254
  let v676 : BitVec 32 := Scalar.select v674 v675 v660
  let c8_i32_255 : BitVec 32 := 8#32
  let v677 : BitVec 32 := Scalar.muli v676 c8_i32_255
  let v679 : Index := Scalar.indexCast v677
  let c0_257 : Index := 0#32
  ![0, v679.toNat, 0]

def k0_chk20 (v657 : BitVec 32) : Prop :=
  (∀ a, (k0_off40 v657) a + S1x40x256.size a ≤ S1x2048x256.size a)
theorem k0_off40_inb : ∀ (v657 : BitVec 32) (k0_hw20 : k0_chk20 v657), ∀ a, (k0_off40 v657) a + S1x40x256.size a ≤ S1x2048x256.size a := fun v657 k0_hw20 => k0_hw20

def k0_off41 (i : grid0.Coords) : Fin 2 → Nat :=
  let arg0 : BitVec 32 := BitVec.ofNat 32 (i 0).val
  let c4_i32 : BitVec 32 := 4#32
  let v0 : BitVec 32 := Scalar.addi arg0 c4_i32
  let v690 : Index := Scalar.indexCast v0
  let c20 : Index := 20#32
  ![v690.toNat, 20]
def k0_off42 (v691 : BitVec 32) : Fin 3 → Nat :=
  let c0_269 : Index := 0#32
  let c0_i32_262 : BitVec 32 := 0#32
  let v695 : BitVec 1 := Scalar.cmpi .sgt v691 c0_i32_262
  let v696 : BitVec 32 := Scalar.extui v695
  let c0_i32_263 : BitVec 32 := 0#32
  let v697 : BitVec 1 := Scalar.cmpi .slt v691 c0_i32_263
  let v698 : BitVec 32 := Scalar.extui v697
  let v699 : BitVec 32 := Scalar.subi v696 v698
  let c8_i32_261 : BitVec 32 := 8#32
  let c0_i32_264 : BitVec 32 := 0#32
  let v700 : BitVec 1 := Scalar.cmpi .sgt c8_i32_261 c0_i32_264
  let v701 : BitVec 32 := Scalar.extui v700
  let c0_i32_265 : BitVec 32 := 0#32
  let v702 : BitVec 1 := Scalar.cmpi .slt c8_i32_261 c0_i32_265
  let v703 : BitVec 32 := Scalar.extui v702
  let v704 : BitVec 32 := Scalar.subi v701 v703
  let v705 : BitVec 1 := Scalar.cmpi .ne v699 v704
  let v706 : BitVec 32 := Scalar.remsi v691 c8_i32_261
  let c0_i32_266 : BitVec 32 := 0#32
  let v707 : BitVec 1 := Scalar.cmpi .ne v706 c0_i32_266
  let v708 : BitVec 1 := Scalar.andi v705 v707
  let v694 : BitVec 32 := Scalar.divsi v691 c8_i32_261
  let c1_i32_267 : BitVec 32 := 1#32
  let v709 : BitVec 32 := Scalar.subi v694 c1_i32_267
  let v710 : BitVec 32 := Scalar.select v708 v709 v694
  let c8_i32_268 : BitVec 32 := 8#32
  let v711 : BitVec 32 := Scalar.muli v710 c8_i32_268
  let v713 : Index := Scalar.indexCast v711
  let c0_270 : Index := 0#32
  ![0, v713.toNat, 0]

def k0_chk21 (v691 : BitVec 32) : Prop :=
  (∀ a, (k0_off42 v691) a + S1x40x256.size a ≤ S1x2048x256.size a)
theorem k0_off42_inb : ∀ (v691 : BitVec 32) (k0_hw21 : k0_chk21 v691), ∀ a, (k0_off42 v691) a + S1x40x256.size a ≤ S1x2048x256.size a := fun v691 k0_hw21 => k0_hw21

def k0_off43 (i : grid0.Coords) : Fin 2 → Nat :=
  let arg0 : BitVec 32 := BitVec.ofNat 32 (i 0).val
  let c4_i32 : BitVec 32 := 4#32
  let v0 : BitVec 32 := Scalar.addi arg0 c4_i32
  let v724 : Index := Scalar.indexCast v0
  let c21 : Index := 21#32
  ![v724.toNat, 21]
def k0_off44 (v725 : BitVec 32) : Fin 3 → Nat :=
  let c0_282 : Index := 0#32
  let c0_i32_275 : BitVec 32 := 0#32
  let v729 : BitVec 1 := Scalar.cmpi .sgt v725 c0_i32_275
  let v730 : BitVec 32 := Scalar.extui v729
  let c0_i32_276 : BitVec 32 := 0#32
  let v731 : BitVec 1 := Scalar.cmpi .slt v725 c0_i32_276
  let v732 : BitVec 32 := Scalar.extui v731
  let v733 : BitVec 32 := Scalar.subi v730 v732
  let c8_i32_274 : BitVec 32 := 8#32
  let c0_i32_277 : BitVec 32 := 0#32
  let v734 : BitVec 1 := Scalar.cmpi .sgt c8_i32_274 c0_i32_277
  let v735 : BitVec 32 := Scalar.extui v734
  let c0_i32_278 : BitVec 32 := 0#32
  let v736 : BitVec 1 := Scalar.cmpi .slt c8_i32_274 c0_i32_278
  let v737 : BitVec 32 := Scalar.extui v736
  let v738 : BitVec 32 := Scalar.subi v735 v737
  let v739 : BitVec 1 := Scalar.cmpi .ne v733 v738
  let v740 : BitVec 32 := Scalar.remsi v725 c8_i32_274
  let c0_i32_279 : BitVec 32 := 0#32
  let v741 : BitVec 1 := Scalar.cmpi .ne v740 c0_i32_279
  let v742 : BitVec 1 := Scalar.andi v739 v741
  let v728 : BitVec 32 := Scalar.divsi v725 c8_i32_274
  let c1_i32_280 : BitVec 32 := 1#32
  let v743 : BitVec 32 := Scalar.subi v728 c1_i32_280
  let v744 : BitVec 32 := Scalar.select v742 v743 v728
  let c8_i32_281 : BitVec 32 := 8#32
  let v745 : BitVec 32 := Scalar.muli v744 c8_i32_281
  let v747 : Index := Scalar.indexCast v745
  let c0_283 : Index := 0#32
  ![0, v747.toNat, 0]

def k0_chk22 (v725 : BitVec 32) : Prop :=
  (∀ a, (k0_off44 v725) a + S1x40x256.size a ≤ S1x2048x256.size a)
theorem k0_off44_inb : ∀ (v725 : BitVec 32) (k0_hw22 : k0_chk22 v725), ∀ a, (k0_off44 v725) a + S1x40x256.size a ≤ S1x2048x256.size a := fun v725 k0_hw22 => k0_hw22

def k0_off45 (i : grid0.Coords) : Fin 2 → Nat :=
  let arg0 : BitVec 32 := BitVec.ofNat 32 (i 0).val
  let c4_i32 : BitVec 32 := 4#32
  let v0 : BitVec 32 := Scalar.addi arg0 c4_i32
  let v758 : Index := Scalar.indexCast v0
  let c22 : Index := 22#32
  ![v758.toNat, 22]
def k0_off46 (v759 : BitVec 32) : Fin 3 → Nat :=
  let c0_295 : Index := 0#32
  let c0_i32_288 : BitVec 32 := 0#32
  let v763 : BitVec 1 := Scalar.cmpi .sgt v759 c0_i32_288
  let v764 : BitVec 32 := Scalar.extui v763
  let c0_i32_289 : BitVec 32 := 0#32
  let v765 : BitVec 1 := Scalar.cmpi .slt v759 c0_i32_289
  let v766 : BitVec 32 := Scalar.extui v765
  let v767 : BitVec 32 := Scalar.subi v764 v766
  let c8_i32_287 : BitVec 32 := 8#32
  let c0_i32_290 : BitVec 32 := 0#32
  let v768 : BitVec 1 := Scalar.cmpi .sgt c8_i32_287 c0_i32_290
  let v769 : BitVec 32 := Scalar.extui v768
  let c0_i32_291 : BitVec 32 := 0#32
  let v770 : BitVec 1 := Scalar.cmpi .slt c8_i32_287 c0_i32_291
  let v771 : BitVec 32 := Scalar.extui v770
  let v772 : BitVec 32 := Scalar.subi v769 v771
  let v773 : BitVec 1 := Scalar.cmpi .ne v767 v772
  let v774 : BitVec 32 := Scalar.remsi v759 c8_i32_287
  let c0_i32_292 : BitVec 32 := 0#32
  let v775 : BitVec 1 := Scalar.cmpi .ne v774 c0_i32_292
  let v776 : BitVec 1 := Scalar.andi v773 v775
  let v762 : BitVec 32 := Scalar.divsi v759 c8_i32_287
  let c1_i32_293 : BitVec 32 := 1#32
  let v777 : BitVec 32 := Scalar.subi v762 c1_i32_293
  let v778 : BitVec 32 := Scalar.select v776 v777 v762
  let c8_i32_294 : BitVec 32 := 8#32
  let v779 : BitVec 32 := Scalar.muli v778 c8_i32_294
  let v781 : Index := Scalar.indexCast v779
  let c0_296 : Index := 0#32
  ![0, v781.toNat, 0]

def k0_chk23 (v759 : BitVec 32) : Prop :=
  (∀ a, (k0_off46 v759) a + S1x40x256.size a ≤ S1x2048x256.size a)
theorem k0_off46_inb : ∀ (v759 : BitVec 32) (k0_hw23 : k0_chk23 v759), ∀ a, (k0_off46 v759) a + S1x40x256.size a ≤ S1x2048x256.size a := fun v759 k0_hw23 => k0_hw23

def k0_off47 (i : grid0.Coords) : Fin 2 → Nat :=
  let arg0 : BitVec 32 := BitVec.ofNat 32 (i 0).val
  let c4_i32 : BitVec 32 := 4#32
  let v0 : BitVec 32 := Scalar.addi arg0 c4_i32
  let v792 : Index := Scalar.indexCast v0
  let c23 : Index := 23#32
  ![v792.toNat, 23]
def k0_off48 (v793 : BitVec 32) : Fin 3 → Nat :=
  let c0_308 : Index := 0#32
  let c0_i32_301 : BitVec 32 := 0#32
  let v797 : BitVec 1 := Scalar.cmpi .sgt v793 c0_i32_301
  let v798 : BitVec 32 := Scalar.extui v797
  let c0_i32_302 : BitVec 32 := 0#32
  let v799 : BitVec 1 := Scalar.cmpi .slt v793 c0_i32_302
  let v800 : BitVec 32 := Scalar.extui v799
  let v801 : BitVec 32 := Scalar.subi v798 v800
  let c8_i32_300 : BitVec 32 := 8#32
  let c0_i32_303 : BitVec 32 := 0#32
  let v802 : BitVec 1 := Scalar.cmpi .sgt c8_i32_300 c0_i32_303
  let v803 : BitVec 32 := Scalar.extui v802
  let c0_i32_304 : BitVec 32 := 0#32
  let v804 : BitVec 1 := Scalar.cmpi .slt c8_i32_300 c0_i32_304
  let v805 : BitVec 32 := Scalar.extui v804
  let v806 : BitVec 32 := Scalar.subi v803 v805
  let v807 : BitVec 1 := Scalar.cmpi .ne v801 v806
  let v808 : BitVec 32 := Scalar.remsi v793 c8_i32_300
  let c0_i32_305 : BitVec 32 := 0#32
  let v809 : BitVec 1 := Scalar.cmpi .ne v808 c0_i32_305
  let v810 : BitVec 1 := Scalar.andi v807 v809
  let v796 : BitVec 32 := Scalar.divsi v793 c8_i32_300
  let c1_i32_306 : BitVec 32 := 1#32
  let v811 : BitVec 32 := Scalar.subi v796 c1_i32_306
  let v812 : BitVec 32 := Scalar.select v810 v811 v796
  let c8_i32_307 : BitVec 32 := 8#32
  let v813 : BitVec 32 := Scalar.muli v812 c8_i32_307
  let v815 : Index := Scalar.indexCast v813
  let c0_309 : Index := 0#32
  ![0, v815.toNat, 0]

def k0_chk24 (v793 : BitVec 32) : Prop :=
  (∀ a, (k0_off48 v793) a + S1x40x256.size a ≤ S1x2048x256.size a)
theorem k0_off48_inb : ∀ (v793 : BitVec 32) (k0_hw24 : k0_chk24 v793), ∀ a, (k0_off48 v793) a + S1x40x256.size a ≤ S1x2048x256.size a := fun v793 k0_hw24 => k0_hw24

def k0_off49 (i : grid0.Coords) : Fin 2 → Nat :=
  let arg0 : BitVec 32 := BitVec.ofNat 32 (i 0).val
  let c4_i32 : BitVec 32 := 4#32
  let v0 : BitVec 32 := Scalar.addi arg0 c4_i32
  let v830 : Index := Scalar.indexCast v0
  let c24 : Index := 24#32
  ![v830.toNat, 24]
def k0_off50 (v831 : BitVec 32) : Fin 3 → Nat :=
  let c0_323 : Index := 0#32
  let c0_i32_316 : BitVec 32 := 0#32
  let v835 : BitVec 1 := Scalar.cmpi .sgt v831 c0_i32_316
  let v836 : BitVec 32 := Scalar.extui v835
  let c0_i32_317 : BitVec 32 := 0#32
  let v837 : BitVec 1 := Scalar.cmpi .slt v831 c0_i32_317
  let v838 : BitVec 32 := Scalar.extui v837
  let v839 : BitVec 32 := Scalar.subi v836 v838
  let c8_i32_315 : BitVec 32 := 8#32
  let c0_i32_318 : BitVec 32 := 0#32
  let v840 : BitVec 1 := Scalar.cmpi .sgt c8_i32_315 c0_i32_318
  let v841 : BitVec 32 := Scalar.extui v840
  let c0_i32_319 : BitVec 32 := 0#32
  let v842 : BitVec 1 := Scalar.cmpi .slt c8_i32_315 c0_i32_319
  let v843 : BitVec 32 := Scalar.extui v842
  let v844 : BitVec 32 := Scalar.subi v841 v843
  let v845 : BitVec 1 := Scalar.cmpi .ne v839 v844
  let v846 : BitVec 32 := Scalar.remsi v831 c8_i32_315
  let c0_i32_320 : BitVec 32 := 0#32
  let v847 : BitVec 1 := Scalar.cmpi .ne v846 c0_i32_320
  let v848 : BitVec 1 := Scalar.andi v845 v847
  let v834 : BitVec 32 := Scalar.divsi v831 c8_i32_315
  let c1_i32_321 : BitVec 32 := 1#32
  let v849 : BitVec 32 := Scalar.subi v834 c1_i32_321
  let v850 : BitVec 32 := Scalar.select v848 v849 v834
  let c8_i32_322 : BitVec 32 := 8#32
  let v851 : BitVec 32 := Scalar.muli v850 c8_i32_322
  let v853 : Index := Scalar.indexCast v851
  let c0_324 : Index := 0#32
  ![0, v853.toNat, 0]

def k0_chk25 (v831 : BitVec 32) : Prop :=
  (∀ a, (k0_off50 v831) a + S1x40x256.size a ≤ S1x2048x256.size a)
theorem k0_off50_inb : ∀ (v831 : BitVec 32) (k0_hw25 : k0_chk25 v831), ∀ a, (k0_off50 v831) a + S1x40x256.size a ≤ S1x2048x256.size a := fun v831 k0_hw25 => k0_hw25

def k0_off51 (i : grid0.Coords) : Fin 2 → Nat :=
  let arg0 : BitVec 32 := BitVec.ofNat 32 (i 0).val
  let c4_i32 : BitVec 32 := 4#32
  let v0 : BitVec 32 := Scalar.addi arg0 c4_i32
  let v864 : Index := Scalar.indexCast v0
  let c25 : Index := 25#32
  ![v864.toNat, 25]
def k0_off52 (v865 : BitVec 32) : Fin 3 → Nat :=
  let c0_336 : Index := 0#32
  let c0_i32_329 : BitVec 32 := 0#32
  let v869 : BitVec 1 := Scalar.cmpi .sgt v865 c0_i32_329
  let v870 : BitVec 32 := Scalar.extui v869
  let c0_i32_330 : BitVec 32 := 0#32
  let v871 : BitVec 1 := Scalar.cmpi .slt v865 c0_i32_330
  let v872 : BitVec 32 := Scalar.extui v871
  let v873 : BitVec 32 := Scalar.subi v870 v872
  let c8_i32_328 : BitVec 32 := 8#32
  let c0_i32_331 : BitVec 32 := 0#32
  let v874 : BitVec 1 := Scalar.cmpi .sgt c8_i32_328 c0_i32_331
  let v875 : BitVec 32 := Scalar.extui v874
  let c0_i32_332 : BitVec 32 := 0#32
  let v876 : BitVec 1 := Scalar.cmpi .slt c8_i32_328 c0_i32_332
  let v877 : BitVec 32 := Scalar.extui v876
  let v878 : BitVec 32 := Scalar.subi v875 v877
  let v879 : BitVec 1 := Scalar.cmpi .ne v873 v878
  let v880 : BitVec 32 := Scalar.remsi v865 c8_i32_328
  let c0_i32_333 : BitVec 32 := 0#32
  let v881 : BitVec 1 := Scalar.cmpi .ne v880 c0_i32_333
  let v882 : BitVec 1 := Scalar.andi v879 v881
  let v868 : BitVec 32 := Scalar.divsi v865 c8_i32_328
  let c1_i32_334 : BitVec 32 := 1#32
  let v883 : BitVec 32 := Scalar.subi v868 c1_i32_334
  let v884 : BitVec 32 := Scalar.select v882 v883 v868
  let c8_i32_335 : BitVec 32 := 8#32
  let v885 : BitVec 32 := Scalar.muli v884 c8_i32_335
  let v887 : Index := Scalar.indexCast v885
  let c0_337 : Index := 0#32
  ![0, v887.toNat, 0]

def k0_chk26 (v865 : BitVec 32) : Prop :=
  (∀ a, (k0_off52 v865) a + S1x40x256.size a ≤ S1x2048x256.size a)
theorem k0_off52_inb : ∀ (v865 : BitVec 32) (k0_hw26 : k0_chk26 v865), ∀ a, (k0_off52 v865) a + S1x40x256.size a ≤ S1x2048x256.size a := fun v865 k0_hw26 => k0_hw26

def k0_off53 (i : grid0.Coords) : Fin 2 → Nat :=
  let arg0 : BitVec 32 := BitVec.ofNat 32 (i 0).val
  let c4_i32 : BitVec 32 := 4#32
  let v0 : BitVec 32 := Scalar.addi arg0 c4_i32
  let v898 : Index := Scalar.indexCast v0
  let c26 : Index := 26#32
  ![v898.toNat, 26]
def k0_off54 (v899 : BitVec 32) : Fin 3 → Nat :=
  let c0_349 : Index := 0#32
  let c0_i32_342 : BitVec 32 := 0#32
  let v903 : BitVec 1 := Scalar.cmpi .sgt v899 c0_i32_342
  let v904 : BitVec 32 := Scalar.extui v903
  let c0_i32_343 : BitVec 32 := 0#32
  let v905 : BitVec 1 := Scalar.cmpi .slt v899 c0_i32_343
  let v906 : BitVec 32 := Scalar.extui v905
  let v907 : BitVec 32 := Scalar.subi v904 v906
  let c8_i32_341 : BitVec 32 := 8#32
  let c0_i32_344 : BitVec 32 := 0#32
  let v908 : BitVec 1 := Scalar.cmpi .sgt c8_i32_341 c0_i32_344
  let v909 : BitVec 32 := Scalar.extui v908
  let c0_i32_345 : BitVec 32 := 0#32
  let v910 : BitVec 1 := Scalar.cmpi .slt c8_i32_341 c0_i32_345
  let v911 : BitVec 32 := Scalar.extui v910
  let v912 : BitVec 32 := Scalar.subi v909 v911
  let v913 : BitVec 1 := Scalar.cmpi .ne v907 v912
  let v914 : BitVec 32 := Scalar.remsi v899 c8_i32_341
  let c0_i32_346 : BitVec 32 := 0#32
  let v915 : BitVec 1 := Scalar.cmpi .ne v914 c0_i32_346
  let v916 : BitVec 1 := Scalar.andi v913 v915
  let v902 : BitVec 32 := Scalar.divsi v899 c8_i32_341
  let c1_i32_347 : BitVec 32 := 1#32
  let v917 : BitVec 32 := Scalar.subi v902 c1_i32_347
  let v918 : BitVec 32 := Scalar.select v916 v917 v902
  let c8_i32_348 : BitVec 32 := 8#32
  let v919 : BitVec 32 := Scalar.muli v918 c8_i32_348
  let v921 : Index := Scalar.indexCast v919
  let c0_350 : Index := 0#32
  ![0, v921.toNat, 0]

def k0_chk27 (v899 : BitVec 32) : Prop :=
  (∀ a, (k0_off54 v899) a + S1x40x256.size a ≤ S1x2048x256.size a)
theorem k0_off54_inb : ∀ (v899 : BitVec 32) (k0_hw27 : k0_chk27 v899), ∀ a, (k0_off54 v899) a + S1x40x256.size a ≤ S1x2048x256.size a := fun v899 k0_hw27 => k0_hw27

def k0_off55 (i : grid0.Coords) : Fin 2 → Nat :=
  let arg0 : BitVec 32 := BitVec.ofNat 32 (i 0).val
  let c4_i32 : BitVec 32 := 4#32
  let v0 : BitVec 32 := Scalar.addi arg0 c4_i32
  let v932 : Index := Scalar.indexCast v0
  let c27 : Index := 27#32
  ![v932.toNat, 27]
def k0_off56 (v933 : BitVec 32) : Fin 3 → Nat :=
  let c0_362 : Index := 0#32
  let c0_i32_355 : BitVec 32 := 0#32
  let v937 : BitVec 1 := Scalar.cmpi .sgt v933 c0_i32_355
  let v938 : BitVec 32 := Scalar.extui v937
  let c0_i32_356 : BitVec 32 := 0#32
  let v939 : BitVec 1 := Scalar.cmpi .slt v933 c0_i32_356
  let v940 : BitVec 32 := Scalar.extui v939
  let v941 : BitVec 32 := Scalar.subi v938 v940
  let c8_i32_354 : BitVec 32 := 8#32
  let c0_i32_357 : BitVec 32 := 0#32
  let v942 : BitVec 1 := Scalar.cmpi .sgt c8_i32_354 c0_i32_357
  let v943 : BitVec 32 := Scalar.extui v942
  let c0_i32_358 : BitVec 32 := 0#32
  let v944 : BitVec 1 := Scalar.cmpi .slt c8_i32_354 c0_i32_358
  let v945 : BitVec 32 := Scalar.extui v944
  let v946 : BitVec 32 := Scalar.subi v943 v945
  let v947 : BitVec 1 := Scalar.cmpi .ne v941 v946
  let v948 : BitVec 32 := Scalar.remsi v933 c8_i32_354
  let c0_i32_359 : BitVec 32 := 0#32
  let v949 : BitVec 1 := Scalar.cmpi .ne v948 c0_i32_359
  let v950 : BitVec 1 := Scalar.andi v947 v949
  let v936 : BitVec 32 := Scalar.divsi v933 c8_i32_354
  let c1_i32_360 : BitVec 32 := 1#32
  let v951 : BitVec 32 := Scalar.subi v936 c1_i32_360
  let v952 : BitVec 32 := Scalar.select v950 v951 v936
  let c8_i32_361 : BitVec 32 := 8#32
  let v953 : BitVec 32 := Scalar.muli v952 c8_i32_361
  let v955 : Index := Scalar.indexCast v953
  let c0_363 : Index := 0#32
  ![0, v955.toNat, 0]

def k0_chk28 (v933 : BitVec 32) : Prop :=
  (∀ a, (k0_off56 v933) a + S1x40x256.size a ≤ S1x2048x256.size a)
theorem k0_off56_inb : ∀ (v933 : BitVec 32) (k0_hw28 : k0_chk28 v933), ∀ a, (k0_off56 v933) a + S1x40x256.size a ≤ S1x2048x256.size a := fun v933 k0_hw28 => k0_hw28

def k0_off57 (i : grid0.Coords) : Fin 2 → Nat :=
  let arg0 : BitVec 32 := BitVec.ofNat 32 (i 0).val
  let c4_i32 : BitVec 32 := 4#32
  let v0 : BitVec 32 := Scalar.addi arg0 c4_i32
  let v966 : Index := Scalar.indexCast v0
  let c28 : Index := 28#32
  ![v966.toNat, 28]
def k0_off58 (v967 : BitVec 32) : Fin 3 → Nat :=
  let c0_375 : Index := 0#32
  let c0_i32_368 : BitVec 32 := 0#32
  let v971 : BitVec 1 := Scalar.cmpi .sgt v967 c0_i32_368
  let v972 : BitVec 32 := Scalar.extui v971
  let c0_i32_369 : BitVec 32 := 0#32
  let v973 : BitVec 1 := Scalar.cmpi .slt v967 c0_i32_369
  let v974 : BitVec 32 := Scalar.extui v973
  let v975 : BitVec 32 := Scalar.subi v972 v974
  let c8_i32_367 : BitVec 32 := 8#32
  let c0_i32_370 : BitVec 32 := 0#32
  let v976 : BitVec 1 := Scalar.cmpi .sgt c8_i32_367 c0_i32_370
  let v977 : BitVec 32 := Scalar.extui v976
  let c0_i32_371 : BitVec 32 := 0#32
  let v978 : BitVec 1 := Scalar.cmpi .slt c8_i32_367 c0_i32_371
  let v979 : BitVec 32 := Scalar.extui v978
  let v980 : BitVec 32 := Scalar.subi v977 v979
  let v981 : BitVec 1 := Scalar.cmpi .ne v975 v980
  let v982 : BitVec 32 := Scalar.remsi v967 c8_i32_367
  let c0_i32_372 : BitVec 32 := 0#32
  let v983 : BitVec 1 := Scalar.cmpi .ne v982 c0_i32_372
  let v984 : BitVec 1 := Scalar.andi v981 v983
  let v970 : BitVec 32 := Scalar.divsi v967 c8_i32_367
  let c1_i32_373 : BitVec 32 := 1#32
  let v985 : BitVec 32 := Scalar.subi v970 c1_i32_373
  let v986 : BitVec 32 := Scalar.select v984 v985 v970
  let c8_i32_374 : BitVec 32 := 8#32
  let v987 : BitVec 32 := Scalar.muli v986 c8_i32_374
  let v989 : Index := Scalar.indexCast v987
  let c0_376 : Index := 0#32
  ![0, v989.toNat, 0]

def k0_chk29 (v967 : BitVec 32) : Prop :=
  (∀ a, (k0_off58 v967) a + S1x40x256.size a ≤ S1x2048x256.size a)
theorem k0_off58_inb : ∀ (v967 : BitVec 32) (k0_hw29 : k0_chk29 v967), ∀ a, (k0_off58 v967) a + S1x40x256.size a ≤ S1x2048x256.size a := fun v967 k0_hw29 => k0_hw29

def k0_off59 (i : grid0.Coords) : Fin 2 → Nat :=
  let arg0 : BitVec 32 := BitVec.ofNat 32 (i 0).val
  let c4_i32 : BitVec 32 := 4#32
  let v0 : BitVec 32 := Scalar.addi arg0 c4_i32
  let v1000 : Index := Scalar.indexCast v0
  let c29 : Index := 29#32
  ![v1000.toNat, 29]
def k0_off60 (v1001 : BitVec 32) : Fin 3 → Nat :=
  let c0_388 : Index := 0#32
  let c0_i32_381 : BitVec 32 := 0#32
  let v1005 : BitVec 1 := Scalar.cmpi .sgt v1001 c0_i32_381
  let v1006 : BitVec 32 := Scalar.extui v1005
  let c0_i32_382 : BitVec 32 := 0#32
  let v1007 : BitVec 1 := Scalar.cmpi .slt v1001 c0_i32_382
  let v1008 : BitVec 32 := Scalar.extui v1007
  let v1009 : BitVec 32 := Scalar.subi v1006 v1008
  let c8_i32_380 : BitVec 32 := 8#32
  let c0_i32_383 : BitVec 32 := 0#32
  let v1010 : BitVec 1 := Scalar.cmpi .sgt c8_i32_380 c0_i32_383
  let v1011 : BitVec 32 := Scalar.extui v1010
  let c0_i32_384 : BitVec 32 := 0#32
  let v1012 : BitVec 1 := Scalar.cmpi .slt c8_i32_380 c0_i32_384
  let v1013 : BitVec 32 := Scalar.extui v1012
  let v1014 : BitVec 32 := Scalar.subi v1011 v1013
  let v1015 : BitVec 1 := Scalar.cmpi .ne v1009 v1014
  let v1016 : BitVec 32 := Scalar.remsi v1001 c8_i32_380
  let c0_i32_385 : BitVec 32 := 0#32
  let v1017 : BitVec 1 := Scalar.cmpi .ne v1016 c0_i32_385
  let v1018 : BitVec 1 := Scalar.andi v1015 v1017
  let v1004 : BitVec 32 := Scalar.divsi v1001 c8_i32_380
  let c1_i32_386 : BitVec 32 := 1#32
  let v1019 : BitVec 32 := Scalar.subi v1004 c1_i32_386
  let v1020 : BitVec 32 := Scalar.select v1018 v1019 v1004
  let c8_i32_387 : BitVec 32 := 8#32
  let v1021 : BitVec 32 := Scalar.muli v1020 c8_i32_387
  let v1023 : Index := Scalar.indexCast v1021
  let c0_389 : Index := 0#32
  ![0, v1023.toNat, 0]

def k0_chk30 (v1001 : BitVec 32) : Prop :=
  (∀ a, (k0_off60 v1001) a + S1x40x256.size a ≤ S1x2048x256.size a)
theorem k0_off60_inb : ∀ (v1001 : BitVec 32) (k0_hw30 : k0_chk30 v1001), ∀ a, (k0_off60 v1001) a + S1x40x256.size a ≤ S1x2048x256.size a := fun v1001 k0_hw30 => k0_hw30

def k0_off61 (i : grid0.Coords) : Fin 2 → Nat :=
  let arg0 : BitVec 32 := BitVec.ofNat 32 (i 0).val
  let c4_i32 : BitVec 32 := 4#32
  let v0 : BitVec 32 := Scalar.addi arg0 c4_i32
  let v1034 : Index := Scalar.indexCast v0
  let c30 : Index := 30#32
  ![v1034.toNat, 30]
def k0_off62 (v1035 : BitVec 32) : Fin 3 → Nat :=
  let c0_401 : Index := 0#32
  let c0_i32_394 : BitVec 32 := 0#32
  let v1039 : BitVec 1 := Scalar.cmpi .sgt v1035 c0_i32_394
  let v1040 : BitVec 32 := Scalar.extui v1039
  let c0_i32_395 : BitVec 32 := 0#32
  let v1041 : BitVec 1 := Scalar.cmpi .slt v1035 c0_i32_395
  let v1042 : BitVec 32 := Scalar.extui v1041
  let v1043 : BitVec 32 := Scalar.subi v1040 v1042
  let c8_i32_393 : BitVec 32 := 8#32
  let c0_i32_396 : BitVec 32 := 0#32
  let v1044 : BitVec 1 := Scalar.cmpi .sgt c8_i32_393 c0_i32_396
  let v1045 : BitVec 32 := Scalar.extui v1044
  let c0_i32_397 : BitVec 32 := 0#32
  let v1046 : BitVec 1 := Scalar.cmpi .slt c8_i32_393 c0_i32_397
  let v1047 : BitVec 32 := Scalar.extui v1046
  let v1048 : BitVec 32 := Scalar.subi v1045 v1047
  let v1049 : BitVec 1 := Scalar.cmpi .ne v1043 v1048
  let v1050 : BitVec 32 := Scalar.remsi v1035 c8_i32_393
  let c0_i32_398 : BitVec 32 := 0#32
  let v1051 : BitVec 1 := Scalar.cmpi .ne v1050 c0_i32_398
  let v1052 : BitVec 1 := Scalar.andi v1049 v1051
  let v1038 : BitVec 32 := Scalar.divsi v1035 c8_i32_393
  let c1_i32_399 : BitVec 32 := 1#32
  let v1053 : BitVec 32 := Scalar.subi v1038 c1_i32_399
  let v1054 : BitVec 32 := Scalar.select v1052 v1053 v1038
  let c8_i32_400 : BitVec 32 := 8#32
  let v1055 : BitVec 32 := Scalar.muli v1054 c8_i32_400
  let v1057 : Index := Scalar.indexCast v1055
  let c0_402 : Index := 0#32
  ![0, v1057.toNat, 0]

def k0_chk31 (v1035 : BitVec 32) : Prop :=
  (∀ a, (k0_off62 v1035) a + S1x40x256.size a ≤ S1x2048x256.size a)
theorem k0_off62_inb : ∀ (v1035 : BitVec 32) (k0_hw31 : k0_chk31 v1035), ∀ a, (k0_off62 v1035) a + S1x40x256.size a ≤ S1x2048x256.size a := fun v1035 k0_hw31 => k0_hw31

def k0_off63 (i : grid0.Coords) : Fin 2 → Nat :=
  let arg0 : BitVec 32 := BitVec.ofNat 32 (i 0).val
  let c4_i32 : BitVec 32 := 4#32
  let v0 : BitVec 32 := Scalar.addi arg0 c4_i32
  let v1068 : Index := Scalar.indexCast v0
  let c31 : Index := 31#32
  ![v1068.toNat, 31]
def k0_off64 (v1069 : BitVec 32) : Fin 3 → Nat :=
  let c0_414 : Index := 0#32
  let c0_i32_407 : BitVec 32 := 0#32
  let v1073 : BitVec 1 := Scalar.cmpi .sgt v1069 c0_i32_407
  let v1074 : BitVec 32 := Scalar.extui v1073
  let c0_i32_408 : BitVec 32 := 0#32
  let v1075 : BitVec 1 := Scalar.cmpi .slt v1069 c0_i32_408
  let v1076 : BitVec 32 := Scalar.extui v1075
  let v1077 : BitVec 32 := Scalar.subi v1074 v1076
  let c8_i32_406 : BitVec 32 := 8#32
  let c0_i32_409 : BitVec 32 := 0#32
  let v1078 : BitVec 1 := Scalar.cmpi .sgt c8_i32_406 c0_i32_409
  let v1079 : BitVec 32 := Scalar.extui v1078
  let c0_i32_410 : BitVec 32 := 0#32
  let v1080 : BitVec 1 := Scalar.cmpi .slt c8_i32_406 c0_i32_410
  let v1081 : BitVec 32 := Scalar.extui v1080
  let v1082 : BitVec 32 := Scalar.subi v1079 v1081
  let v1083 : BitVec 1 := Scalar.cmpi .ne v1077 v1082
  let v1084 : BitVec 32 := Scalar.remsi v1069 c8_i32_406
  let c0_i32_411 : BitVec 32 := 0#32
  let v1085 : BitVec 1 := Scalar.cmpi .ne v1084 c0_i32_411
  let v1086 : BitVec 1 := Scalar.andi v1083 v1085
  let v1072 : BitVec 32 := Scalar.divsi v1069 c8_i32_406
  let c1_i32_412 : BitVec 32 := 1#32
  let v1087 : BitVec 32 := Scalar.subi v1072 c1_i32_412
  let v1088 : BitVec 32 := Scalar.select v1086 v1087 v1072
  let c8_i32_413 : BitVec 32 := 8#32
  let v1089 : BitVec 32 := Scalar.muli v1088 c8_i32_413
  let v1091 : Index := Scalar.indexCast v1089
  let c0_415 : Index := 0#32
  ![0, v1091.toNat, 0]

def k0_chk32 (v1069 : BitVec 32) : Prop :=
  (∀ a, (k0_off64 v1069) a + S1x40x256.size a ≤ S1x2048x256.size a)
theorem k0_off64_inb : ∀ (v1069 : BitVec 32) (k0_hw32 : k0_chk32 v1069), ∀ a, (k0_off64 v1069) a + S1x40x256.size a ≤ S1x2048x256.size a := fun v1069 k0_hw32 => k0_hw32

def k0_off65 (i : grid0.Coords) : Fin 2 → Nat :=
  let arg0 : BitVec 32 := BitVec.ofNat 32 (i 0).val
  let c4_i32 : BitVec 32 := 4#32
  let v0 : BitVec 32 := Scalar.addi arg0 c4_i32
  let v1106 : Index := Scalar.indexCast v0
  let c32 : Index := 32#32
  ![v1106.toNat, 32]
def k0_off66 (v1107 : BitVec 32) : Fin 3 → Nat :=
  let c0_429 : Index := 0#32
  let c0_i32_422 : BitVec 32 := 0#32
  let v1111 : BitVec 1 := Scalar.cmpi .sgt v1107 c0_i32_422
  let v1112 : BitVec 32 := Scalar.extui v1111
  let c0_i32_423 : BitVec 32 := 0#32
  let v1113 : BitVec 1 := Scalar.cmpi .slt v1107 c0_i32_423
  let v1114 : BitVec 32 := Scalar.extui v1113
  let v1115 : BitVec 32 := Scalar.subi v1112 v1114
  let c8_i32_421 : BitVec 32 := 8#32
  let c0_i32_424 : BitVec 32 := 0#32
  let v1116 : BitVec 1 := Scalar.cmpi .sgt c8_i32_421 c0_i32_424
  let v1117 : BitVec 32 := Scalar.extui v1116
  let c0_i32_425 : BitVec 32 := 0#32
  let v1118 : BitVec 1 := Scalar.cmpi .slt c8_i32_421 c0_i32_425
  let v1119 : BitVec 32 := Scalar.extui v1118
  let v1120 : BitVec 32 := Scalar.subi v1117 v1119
  let v1121 : BitVec 1 := Scalar.cmpi .ne v1115 v1120
  let v1122 : BitVec 32 := Scalar.remsi v1107 c8_i32_421
  let c0_i32_426 : BitVec 32 := 0#32
  let v1123 : BitVec 1 := Scalar.cmpi .ne v1122 c0_i32_426
  let v1124 : BitVec 1 := Scalar.andi v1121 v1123
  let v1110 : BitVec 32 := Scalar.divsi v1107 c8_i32_421
  let c1_i32_427 : BitVec 32 := 1#32
  let v1125 : BitVec 32 := Scalar.subi v1110 c1_i32_427
  let v1126 : BitVec 32 := Scalar.select v1124 v1125 v1110
  let c8_i32_428 : BitVec 32 := 8#32
  let v1127 : BitVec 32 := Scalar.muli v1126 c8_i32_428
  let v1129 : Index := Scalar.indexCast v1127
  let c0_430 : Index := 0#32
  ![0, v1129.toNat, 0]

def k0_chk33 (v1107 : BitVec 32) : Prop :=
  (∀ a, (k0_off66 v1107) a + S1x40x256.size a ≤ S1x2048x256.size a)
theorem k0_off66_inb : ∀ (v1107 : BitVec 32) (k0_hw33 : k0_chk33 v1107), ∀ a, (k0_off66 v1107) a + S1x40x256.size a ≤ S1x2048x256.size a := fun v1107 k0_hw33 => k0_hw33

def k0_off67 (i : grid0.Coords) : Fin 2 → Nat :=
  let arg0 : BitVec 32 := BitVec.ofNat 32 (i 0).val
  let c4_i32 : BitVec 32 := 4#32
  let v0 : BitVec 32 := Scalar.addi arg0 c4_i32
  let v1140 : Index := Scalar.indexCast v0
  let c33 : Index := 33#32
  ![v1140.toNat, 33]
def k0_off68 (v1141 : BitVec 32) : Fin 3 → Nat :=
  let c0_442 : Index := 0#32
  let c0_i32_435 : BitVec 32 := 0#32
  let v1145 : BitVec 1 := Scalar.cmpi .sgt v1141 c0_i32_435
  let v1146 : BitVec 32 := Scalar.extui v1145
  let c0_i32_436 : BitVec 32 := 0#32
  let v1147 : BitVec 1 := Scalar.cmpi .slt v1141 c0_i32_436
  let v1148 : BitVec 32 := Scalar.extui v1147
  let v1149 : BitVec 32 := Scalar.subi v1146 v1148
  let c8_i32_434 : BitVec 32 := 8#32
  let c0_i32_437 : BitVec 32 := 0#32
  let v1150 : BitVec 1 := Scalar.cmpi .sgt c8_i32_434 c0_i32_437
  let v1151 : BitVec 32 := Scalar.extui v1150
  let c0_i32_438 : BitVec 32 := 0#32
  let v1152 : BitVec 1 := Scalar.cmpi .slt c8_i32_434 c0_i32_438
  let v1153 : BitVec 32 := Scalar.extui v1152
  let v1154 : BitVec 32 := Scalar.subi v1151 v1153
  let v1155 : BitVec 1 := Scalar.cmpi .ne v1149 v1154
  let v1156 : BitVec 32 := Scalar.remsi v1141 c8_i32_434
  let c0_i32_439 : BitVec 32 := 0#32
  let v1157 : BitVec 1 := Scalar.cmpi .ne v1156 c0_i32_439
  let v1158 : BitVec 1 := Scalar.andi v1155 v1157
  let v1144 : BitVec 32 := Scalar.divsi v1141 c8_i32_434
  let c1_i32_440 : BitVec 32 := 1#32
  let v1159 : BitVec 32 := Scalar.subi v1144 c1_i32_440
  let v1160 : BitVec 32 := Scalar.select v1158 v1159 v1144
  let c8_i32_441 : BitVec 32 := 8#32
  let v1161 : BitVec 32 := Scalar.muli v1160 c8_i32_441
  let v1163 : Index := Scalar.indexCast v1161
  let c0_443 : Index := 0#32
  ![0, v1163.toNat, 0]

def k0_chk34 (v1141 : BitVec 32) : Prop :=
  (∀ a, (k0_off68 v1141) a + S1x40x256.size a ≤ S1x2048x256.size a)
theorem k0_off68_inb : ∀ (v1141 : BitVec 32) (k0_hw34 : k0_chk34 v1141), ∀ a, (k0_off68 v1141) a + S1x40x256.size a ≤ S1x2048x256.size a := fun v1141 k0_hw34 => k0_hw34

def k0_off69 (i : grid0.Coords) : Fin 2 → Nat :=
  let arg0 : BitVec 32 := BitVec.ofNat 32 (i 0).val
  let c4_i32 : BitVec 32 := 4#32
  let v0 : BitVec 32 := Scalar.addi arg0 c4_i32
  let v1174 : Index := Scalar.indexCast v0
  let c34 : Index := 34#32
  ![v1174.toNat, 34]
def k0_off70 (v1175 : BitVec 32) : Fin 3 → Nat :=
  let c0_455 : Index := 0#32
  let c0_i32_448 : BitVec 32 := 0#32
  let v1179 : BitVec 1 := Scalar.cmpi .sgt v1175 c0_i32_448
  let v1180 : BitVec 32 := Scalar.extui v1179
  let c0_i32_449 : BitVec 32 := 0#32
  let v1181 : BitVec 1 := Scalar.cmpi .slt v1175 c0_i32_449
  let v1182 : BitVec 32 := Scalar.extui v1181
  let v1183 : BitVec 32 := Scalar.subi v1180 v1182
  let c8_i32_447 : BitVec 32 := 8#32
  let c0_i32_450 : BitVec 32 := 0#32
  let v1184 : BitVec 1 := Scalar.cmpi .sgt c8_i32_447 c0_i32_450
  let v1185 : BitVec 32 := Scalar.extui v1184
  let c0_i32_451 : BitVec 32 := 0#32
  let v1186 : BitVec 1 := Scalar.cmpi .slt c8_i32_447 c0_i32_451
  let v1187 : BitVec 32 := Scalar.extui v1186
  let v1188 : BitVec 32 := Scalar.subi v1185 v1187
  let v1189 : BitVec 1 := Scalar.cmpi .ne v1183 v1188
  let v1190 : BitVec 32 := Scalar.remsi v1175 c8_i32_447
  let c0_i32_452 : BitVec 32 := 0#32
  let v1191 : BitVec 1 := Scalar.cmpi .ne v1190 c0_i32_452
  let v1192 : BitVec 1 := Scalar.andi v1189 v1191
  let v1178 : BitVec 32 := Scalar.divsi v1175 c8_i32_447
  let c1_i32_453 : BitVec 32 := 1#32
  let v1193 : BitVec 32 := Scalar.subi v1178 c1_i32_453
  let v1194 : BitVec 32 := Scalar.select v1192 v1193 v1178
  let c8_i32_454 : BitVec 32 := 8#32
  let v1195 : BitVec 32 := Scalar.muli v1194 c8_i32_454
  let v1197 : Index := Scalar.indexCast v1195
  let c0_456 : Index := 0#32
  ![0, v1197.toNat, 0]

def k0_chk35 (v1175 : BitVec 32) : Prop :=
  (∀ a, (k0_off70 v1175) a + S1x40x256.size a ≤ S1x2048x256.size a)
theorem k0_off70_inb : ∀ (v1175 : BitVec 32) (k0_hw35 : k0_chk35 v1175), ∀ a, (k0_off70 v1175) a + S1x40x256.size a ≤ S1x2048x256.size a := fun v1175 k0_hw35 => k0_hw35

def k0_off71 (i : grid0.Coords) : Fin 2 → Nat :=
  let arg0 : BitVec 32 := BitVec.ofNat 32 (i 0).val
  let c4_i32 : BitVec 32 := 4#32
  let v0 : BitVec 32 := Scalar.addi arg0 c4_i32
  let v1208 : Index := Scalar.indexCast v0
  let c35 : Index := 35#32
  ![v1208.toNat, 35]
def k0_off72 (v1209 : BitVec 32) : Fin 3 → Nat :=
  let c0_468 : Index := 0#32
  let c0_i32_461 : BitVec 32 := 0#32
  let v1213 : BitVec 1 := Scalar.cmpi .sgt v1209 c0_i32_461
  let v1214 : BitVec 32 := Scalar.extui v1213
  let c0_i32_462 : BitVec 32 := 0#32
  let v1215 : BitVec 1 := Scalar.cmpi .slt v1209 c0_i32_462
  let v1216 : BitVec 32 := Scalar.extui v1215
  let v1217 : BitVec 32 := Scalar.subi v1214 v1216
  let c8_i32_460 : BitVec 32 := 8#32
  let c0_i32_463 : BitVec 32 := 0#32
  let v1218 : BitVec 1 := Scalar.cmpi .sgt c8_i32_460 c0_i32_463
  let v1219 : BitVec 32 := Scalar.extui v1218
  let c0_i32_464 : BitVec 32 := 0#32
  let v1220 : BitVec 1 := Scalar.cmpi .slt c8_i32_460 c0_i32_464
  let v1221 : BitVec 32 := Scalar.extui v1220
  let v1222 : BitVec 32 := Scalar.subi v1219 v1221
  let v1223 : BitVec 1 := Scalar.cmpi .ne v1217 v1222
  let v1224 : BitVec 32 := Scalar.remsi v1209 c8_i32_460
  let c0_i32_465 : BitVec 32 := 0#32
  let v1225 : BitVec 1 := Scalar.cmpi .ne v1224 c0_i32_465
  let v1226 : BitVec 1 := Scalar.andi v1223 v1225
  let v1212 : BitVec 32 := Scalar.divsi v1209 c8_i32_460
  let c1_i32_466 : BitVec 32 := 1#32
  let v1227 : BitVec 32 := Scalar.subi v1212 c1_i32_466
  let v1228 : BitVec 32 := Scalar.select v1226 v1227 v1212
  let c8_i32_467 : BitVec 32 := 8#32
  let v1229 : BitVec 32 := Scalar.muli v1228 c8_i32_467
  let v1231 : Index := Scalar.indexCast v1229
  let c0_469 : Index := 0#32
  ![0, v1231.toNat, 0]

def k0_chk36 (v1209 : BitVec 32) : Prop :=
  (∀ a, (k0_off72 v1209) a + S1x40x256.size a ≤ S1x2048x256.size a)
theorem k0_off72_inb : ∀ (v1209 : BitVec 32) (k0_hw36 : k0_chk36 v1209), ∀ a, (k0_off72 v1209) a + S1x40x256.size a ≤ S1x2048x256.size a := fun v1209 k0_hw36 => k0_hw36

def k0_off73 (i : grid0.Coords) : Fin 2 → Nat :=
  let arg0 : BitVec 32 := BitVec.ofNat 32 (i 0).val
  let c4_i32 : BitVec 32 := 4#32
  let v0 : BitVec 32 := Scalar.addi arg0 c4_i32
  let v1242 : Index := Scalar.indexCast v0
  let c36 : Index := 36#32
  ![v1242.toNat, 36]
def k0_off74 (v1243 : BitVec 32) : Fin 3 → Nat :=
  let c0_481 : Index := 0#32
  let c0_i32_474 : BitVec 32 := 0#32
  let v1247 : BitVec 1 := Scalar.cmpi .sgt v1243 c0_i32_474
  let v1248 : BitVec 32 := Scalar.extui v1247
  let c0_i32_475 : BitVec 32 := 0#32
  let v1249 : BitVec 1 := Scalar.cmpi .slt v1243 c0_i32_475
  let v1250 : BitVec 32 := Scalar.extui v1249
  let v1251 : BitVec 32 := Scalar.subi v1248 v1250
  let c8_i32_473 : BitVec 32 := 8#32
  let c0_i32_476 : BitVec 32 := 0#32
  let v1252 : BitVec 1 := Scalar.cmpi .sgt c8_i32_473 c0_i32_476
  let v1253 : BitVec 32 := Scalar.extui v1252
  let c0_i32_477 : BitVec 32 := 0#32
  let v1254 : BitVec 1 := Scalar.cmpi .slt c8_i32_473 c0_i32_477
  let v1255 : BitVec 32 := Scalar.extui v1254
  let v1256 : BitVec 32 := Scalar.subi v1253 v1255
  let v1257 : BitVec 1 := Scalar.cmpi .ne v1251 v1256
  let v1258 : BitVec 32 := Scalar.remsi v1243 c8_i32_473
  let c0_i32_478 : BitVec 32 := 0#32
  let v1259 : BitVec 1 := Scalar.cmpi .ne v1258 c0_i32_478
  let v1260 : BitVec 1 := Scalar.andi v1257 v1259
  let v1246 : BitVec 32 := Scalar.divsi v1243 c8_i32_473
  let c1_i32_479 : BitVec 32 := 1#32
  let v1261 : BitVec 32 := Scalar.subi v1246 c1_i32_479
  let v1262 : BitVec 32 := Scalar.select v1260 v1261 v1246
  let c8_i32_480 : BitVec 32 := 8#32
  let v1263 : BitVec 32 := Scalar.muli v1262 c8_i32_480
  let v1265 : Index := Scalar.indexCast v1263
  let c0_482 : Index := 0#32
  ![0, v1265.toNat, 0]

def k0_chk37 (v1243 : BitVec 32) : Prop :=
  (∀ a, (k0_off74 v1243) a + S1x40x256.size a ≤ S1x2048x256.size a)
theorem k0_off74_inb : ∀ (v1243 : BitVec 32) (k0_hw37 : k0_chk37 v1243), ∀ a, (k0_off74 v1243) a + S1x40x256.size a ≤ S1x2048x256.size a := fun v1243 k0_hw37 => k0_hw37

def k0_off75 (i : grid0.Coords) : Fin 2 → Nat :=
  let arg0 : BitVec 32 := BitVec.ofNat 32 (i 0).val
  let c4_i32 : BitVec 32 := 4#32
  let v0 : BitVec 32 := Scalar.addi arg0 c4_i32
  let v1276 : Index := Scalar.indexCast v0
  let c37 : Index := 37#32
  ![v1276.toNat, 37]
def k0_off76 (v1277 : BitVec 32) : Fin 3 → Nat :=
  let c0_494 : Index := 0#32
  let c0_i32_487 : BitVec 32 := 0#32
  let v1281 : BitVec 1 := Scalar.cmpi .sgt v1277 c0_i32_487
  let v1282 : BitVec 32 := Scalar.extui v1281
  let c0_i32_488 : BitVec 32 := 0#32
  let v1283 : BitVec 1 := Scalar.cmpi .slt v1277 c0_i32_488
  let v1284 : BitVec 32 := Scalar.extui v1283
  let v1285 : BitVec 32 := Scalar.subi v1282 v1284
  let c8_i32_486 : BitVec 32 := 8#32
  let c0_i32_489 : BitVec 32 := 0#32
  let v1286 : BitVec 1 := Scalar.cmpi .sgt c8_i32_486 c0_i32_489
  let v1287 : BitVec 32 := Scalar.extui v1286
  let c0_i32_490 : BitVec 32 := 0#32
  let v1288 : BitVec 1 := Scalar.cmpi .slt c8_i32_486 c0_i32_490
  let v1289 : BitVec 32 := Scalar.extui v1288
  let v1290 : BitVec 32 := Scalar.subi v1287 v1289
  let v1291 : BitVec 1 := Scalar.cmpi .ne v1285 v1290
  let v1292 : BitVec 32 := Scalar.remsi v1277 c8_i32_486
  let c0_i32_491 : BitVec 32 := 0#32
  let v1293 : BitVec 1 := Scalar.cmpi .ne v1292 c0_i32_491
  let v1294 : BitVec 1 := Scalar.andi v1291 v1293
  let v1280 : BitVec 32 := Scalar.divsi v1277 c8_i32_486
  let c1_i32_492 : BitVec 32 := 1#32
  let v1295 : BitVec 32 := Scalar.subi v1280 c1_i32_492
  let v1296 : BitVec 32 := Scalar.select v1294 v1295 v1280
  let c8_i32_493 : BitVec 32 := 8#32
  let v1297 : BitVec 32 := Scalar.muli v1296 c8_i32_493
  let v1299 : Index := Scalar.indexCast v1297
  let c0_495 : Index := 0#32
  ![0, v1299.toNat, 0]

def k0_chk38 (v1277 : BitVec 32) : Prop :=
  (∀ a, (k0_off76 v1277) a + S1x40x256.size a ≤ S1x2048x256.size a)
theorem k0_off76_inb : ∀ (v1277 : BitVec 32) (k0_hw38 : k0_chk38 v1277), ∀ a, (k0_off76 v1277) a + S1x40x256.size a ≤ S1x2048x256.size a := fun v1277 k0_hw38 => k0_hw38

def k0_off77 (i : grid0.Coords) : Fin 2 → Nat :=
  let arg0 : BitVec 32 := BitVec.ofNat 32 (i 0).val
  let c4_i32 : BitVec 32 := 4#32
  let v0 : BitVec 32 := Scalar.addi arg0 c4_i32
  let v1310 : Index := Scalar.indexCast v0
  let c38 : Index := 38#32
  ![v1310.toNat, 38]
def k0_off78 (v1311 : BitVec 32) : Fin 3 → Nat :=
  let c0_507 : Index := 0#32
  let c0_i32_500 : BitVec 32 := 0#32
  let v1315 : BitVec 1 := Scalar.cmpi .sgt v1311 c0_i32_500
  let v1316 : BitVec 32 := Scalar.extui v1315
  let c0_i32_501 : BitVec 32 := 0#32
  let v1317 : BitVec 1 := Scalar.cmpi .slt v1311 c0_i32_501
  let v1318 : BitVec 32 := Scalar.extui v1317
  let v1319 : BitVec 32 := Scalar.subi v1316 v1318
  let c8_i32_499 : BitVec 32 := 8#32
  let c0_i32_502 : BitVec 32 := 0#32
  let v1320 : BitVec 1 := Scalar.cmpi .sgt c8_i32_499 c0_i32_502
  let v1321 : BitVec 32 := Scalar.extui v1320
  let c0_i32_503 : BitVec 32 := 0#32
  let v1322 : BitVec 1 := Scalar.cmpi .slt c8_i32_499 c0_i32_503
  let v1323 : BitVec 32 := Scalar.extui v1322
  let v1324 : BitVec 32 := Scalar.subi v1321 v1323
  let v1325 : BitVec 1 := Scalar.cmpi .ne v1319 v1324
  let v1326 : BitVec 32 := Scalar.remsi v1311 c8_i32_499
  let c0_i32_504 : BitVec 32 := 0#32
  let v1327 : BitVec 1 := Scalar.cmpi .ne v1326 c0_i32_504
  let v1328 : BitVec 1 := Scalar.andi v1325 v1327
  let v1314 : BitVec 32 := Scalar.divsi v1311 c8_i32_499
  let c1_i32_505 : BitVec 32 := 1#32
  let v1329 : BitVec 32 := Scalar.subi v1314 c1_i32_505
  let v1330 : BitVec 32 := Scalar.select v1328 v1329 v1314
  let c8_i32_506 : BitVec 32 := 8#32
  let v1331 : BitVec 32 := Scalar.muli v1330 c8_i32_506
  let v1333 : Index := Scalar.indexCast v1331
  let c0_508 : Index := 0#32
  ![0, v1333.toNat, 0]

def k0_chk39 (v1311 : BitVec 32) : Prop :=
  (∀ a, (k0_off78 v1311) a + S1x40x256.size a ≤ S1x2048x256.size a)
theorem k0_off78_inb : ∀ (v1311 : BitVec 32) (k0_hw39 : k0_chk39 v1311), ∀ a, (k0_off78 v1311) a + S1x40x256.size a ≤ S1x2048x256.size a := fun v1311 k0_hw39 => k0_hw39

def k0_off79 (i : grid0.Coords) : Fin 2 → Nat :=
  let arg0 : BitVec 32 := BitVec.ofNat 32 (i 0).val
  let c4_i32 : BitVec 32 := 4#32
  let v0 : BitVec 32 := Scalar.addi arg0 c4_i32
  let v1344 : Index := Scalar.indexCast v0
  let c39 : Index := 39#32
  ![v1344.toNat, 39]
def k0_off80 (v1345 : BitVec 32) : Fin 3 → Nat :=
  let c0_520 : Index := 0#32
  let c0_i32_513 : BitVec 32 := 0#32
  let v1349 : BitVec 1 := Scalar.cmpi .sgt v1345 c0_i32_513
  let v1350 : BitVec 32 := Scalar.extui v1349
  let c0_i32_514 : BitVec 32 := 0#32
  let v1351 : BitVec 1 := Scalar.cmpi .slt v1345 c0_i32_514
  let v1352 : BitVec 32 := Scalar.extui v1351
  let v1353 : BitVec 32 := Scalar.subi v1350 v1352
  let c8_i32_512 : BitVec 32 := 8#32
  let c0_i32_515 : BitVec 32 := 0#32
  let v1354 : BitVec 1 := Scalar.cmpi .sgt c8_i32_512 c0_i32_515
  let v1355 : BitVec 32 := Scalar.extui v1354
  let c0_i32_516 : BitVec 32 := 0#32
  let v1356 : BitVec 1 := Scalar.cmpi .slt c8_i32_512 c0_i32_516
  let v1357 : BitVec 32 := Scalar.extui v1356
  let v1358 : BitVec 32 := Scalar.subi v1355 v1357
  let v1359 : BitVec 1 := Scalar.cmpi .ne v1353 v1358
  let v1360 : BitVec 32 := Scalar.remsi v1345 c8_i32_512
  let c0_i32_517 : BitVec 32 := 0#32
  let v1361 : BitVec 1 := Scalar.cmpi .ne v1360 c0_i32_517
  let v1362 : BitVec 1 := Scalar.andi v1359 v1361
  let v1348 : BitVec 32 := Scalar.divsi v1345 c8_i32_512
  let c1_i32_518 : BitVec 32 := 1#32
  let v1363 : BitVec 32 := Scalar.subi v1348 c1_i32_518
  let v1364 : BitVec 32 := Scalar.select v1362 v1363 v1348
  let c8_i32_519 : BitVec 32 := 8#32
  let v1365 : BitVec 32 := Scalar.muli v1364 c8_i32_519
  let v1367 : Index := Scalar.indexCast v1365
  let c0_521 : Index := 0#32
  ![0, v1367.toNat, 0]

def k0_chk40 (v1345 : BitVec 32) : Prop :=
  (∀ a, (k0_off80 v1345) a + S1x40x256.size a ≤ S1x2048x256.size a)
theorem k0_off80_inb : ∀ (v1345 : BitVec 32) (k0_hw40 : k0_chk40 v1345), ∀ a, (k0_off80 v1345) a + S1x40x256.size a ≤ S1x2048x256.size a := fun v1345 k0_hw40 => k0_hw40

def k0_off81 (i : grid0.Coords) : Fin 2 → Nat :=
  let arg0 : BitVec 32 := BitVec.ofNat 32 (i 0).val
  let c4_i32 : BitVec 32 := 4#32
  let v0 : BitVec 32 := Scalar.addi arg0 c4_i32
  let v1382 : Index := Scalar.indexCast v0
  let c40 : Index := 40#32
  ![v1382.toNat, 40]
def k0_off82 (v1383 : BitVec 32) : Fin 3 → Nat :=
  let c0_535 : Index := 0#32
  let c0_i32_528 : BitVec 32 := 0#32
  let v1387 : BitVec 1 := Scalar.cmpi .sgt v1383 c0_i32_528
  let v1388 : BitVec 32 := Scalar.extui v1387
  let c0_i32_529 : BitVec 32 := 0#32
  let v1389 : BitVec 1 := Scalar.cmpi .slt v1383 c0_i32_529
  let v1390 : BitVec 32 := Scalar.extui v1389
  let v1391 : BitVec 32 := Scalar.subi v1388 v1390
  let c8_i32_527 : BitVec 32 := 8#32
  let c0_i32_530 : BitVec 32 := 0#32
  let v1392 : BitVec 1 := Scalar.cmpi .sgt c8_i32_527 c0_i32_530
  let v1393 : BitVec 32 := Scalar.extui v1392
  let c0_i32_531 : BitVec 32 := 0#32
  let v1394 : BitVec 1 := Scalar.cmpi .slt c8_i32_527 c0_i32_531
  let v1395 : BitVec 32 := Scalar.extui v1394
  let v1396 : BitVec 32 := Scalar.subi v1393 v1395
  let v1397 : BitVec 1 := Scalar.cmpi .ne v1391 v1396
  let v1398 : BitVec 32 := Scalar.remsi v1383 c8_i32_527
  let c0_i32_532 : BitVec 32 := 0#32
  let v1399 : BitVec 1 := Scalar.cmpi .ne v1398 c0_i32_532
  let v1400 : BitVec 1 := Scalar.andi v1397 v1399
  let v1386 : BitVec 32 := Scalar.divsi v1383 c8_i32_527
  let c1_i32_533 : BitVec 32 := 1#32
  let v1401 : BitVec 32 := Scalar.subi v1386 c1_i32_533
  let v1402 : BitVec 32 := Scalar.select v1400 v1401 v1386
  let c8_i32_534 : BitVec 32 := 8#32
  let v1403 : BitVec 32 := Scalar.muli v1402 c8_i32_534
  let v1405 : Index := Scalar.indexCast v1403
  let c0_536 : Index := 0#32
  ![0, v1405.toNat, 0]

def k0_chk41 (v1383 : BitVec 32) : Prop :=
  (∀ a, (k0_off82 v1383) a + S1x40x256.size a ≤ S1x2048x256.size a)
theorem k0_off82_inb : ∀ (v1383 : BitVec 32) (k0_hw41 : k0_chk41 v1383), ∀ a, (k0_off82 v1383) a + S1x40x256.size a ≤ S1x2048x256.size a := fun v1383 k0_hw41 => k0_hw41

def k0_off83 (i : grid0.Coords) : Fin 2 → Nat :=
  let arg0 : BitVec 32 := BitVec.ofNat 32 (i 0).val
  let c4_i32 : BitVec 32 := 4#32
  let v0 : BitVec 32 := Scalar.addi arg0 c4_i32
  let v1416 : Index := Scalar.indexCast v0
  let c41 : Index := 41#32
  ![v1416.toNat, 41]
def k0_off84 (v1417 : BitVec 32) : Fin 3 → Nat :=
  let c0_548 : Index := 0#32
  let c0_i32_541 : BitVec 32 := 0#32
  let v1421 : BitVec 1 := Scalar.cmpi .sgt v1417 c0_i32_541
  let v1422 : BitVec 32 := Scalar.extui v1421
  let c0_i32_542 : BitVec 32 := 0#32
  let v1423 : BitVec 1 := Scalar.cmpi .slt v1417 c0_i32_542
  let v1424 : BitVec 32 := Scalar.extui v1423
  let v1425 : BitVec 32 := Scalar.subi v1422 v1424
  let c8_i32_540 : BitVec 32 := 8#32
  let c0_i32_543 : BitVec 32 := 0#32
  let v1426 : BitVec 1 := Scalar.cmpi .sgt c8_i32_540 c0_i32_543
  let v1427 : BitVec 32 := Scalar.extui v1426
  let c0_i32_544 : BitVec 32 := 0#32
  let v1428 : BitVec 1 := Scalar.cmpi .slt c8_i32_540 c0_i32_544
  let v1429 : BitVec 32 := Scalar.extui v1428
  let v1430 : BitVec 32 := Scalar.subi v1427 v1429
  let v1431 : BitVec 1 := Scalar.cmpi .ne v1425 v1430
  let v1432 : BitVec 32 := Scalar.remsi v1417 c8_i32_540
  let c0_i32_545 : BitVec 32 := 0#32
  let v1433 : BitVec 1 := Scalar.cmpi .ne v1432 c0_i32_545
  let v1434 : BitVec 1 := Scalar.andi v1431 v1433
  let v1420 : BitVec 32 := Scalar.divsi v1417 c8_i32_540
  let c1_i32_546 : BitVec 32 := 1#32
  let v1435 : BitVec 32 := Scalar.subi v1420 c1_i32_546
  let v1436 : BitVec 32 := Scalar.select v1434 v1435 v1420
  let c8_i32_547 : BitVec 32 := 8#32
  let v1437 : BitVec 32 := Scalar.muli v1436 c8_i32_547
  let v1439 : Index := Scalar.indexCast v1437
  let c0_549 : Index := 0#32
  ![0, v1439.toNat, 0]

def k0_chk42 (v1417 : BitVec 32) : Prop :=
  (∀ a, (k0_off84 v1417) a + S1x40x256.size a ≤ S1x2048x256.size a)
theorem k0_off84_inb : ∀ (v1417 : BitVec 32) (k0_hw42 : k0_chk42 v1417), ∀ a, (k0_off84 v1417) a + S1x40x256.size a ≤ S1x2048x256.size a := fun v1417 k0_hw42 => k0_hw42

def k0_off85 (i : grid0.Coords) : Fin 2 → Nat :=
  let arg0 : BitVec 32 := BitVec.ofNat 32 (i 0).val
  let c4_i32 : BitVec 32 := 4#32
  let v0 : BitVec 32 := Scalar.addi arg0 c4_i32
  let v1450 : Index := Scalar.indexCast v0
  let c42 : Index := 42#32
  ![v1450.toNat, 42]
def k0_off86 (v1451 : BitVec 32) : Fin 3 → Nat :=
  let c0_561 : Index := 0#32
  let c0_i32_554 : BitVec 32 := 0#32
  let v1455 : BitVec 1 := Scalar.cmpi .sgt v1451 c0_i32_554
  let v1456 : BitVec 32 := Scalar.extui v1455
  let c0_i32_555 : BitVec 32 := 0#32
  let v1457 : BitVec 1 := Scalar.cmpi .slt v1451 c0_i32_555
  let v1458 : BitVec 32 := Scalar.extui v1457
  let v1459 : BitVec 32 := Scalar.subi v1456 v1458
  let c8_i32_553 : BitVec 32 := 8#32
  let c0_i32_556 : BitVec 32 := 0#32
  let v1460 : BitVec 1 := Scalar.cmpi .sgt c8_i32_553 c0_i32_556
  let v1461 : BitVec 32 := Scalar.extui v1460
  let c0_i32_557 : BitVec 32 := 0#32
  let v1462 : BitVec 1 := Scalar.cmpi .slt c8_i32_553 c0_i32_557
  let v1463 : BitVec 32 := Scalar.extui v1462
  let v1464 : BitVec 32 := Scalar.subi v1461 v1463
  let v1465 : BitVec 1 := Scalar.cmpi .ne v1459 v1464
  let v1466 : BitVec 32 := Scalar.remsi v1451 c8_i32_553
  let c0_i32_558 : BitVec 32 := 0#32
  let v1467 : BitVec 1 := Scalar.cmpi .ne v1466 c0_i32_558
  let v1468 : BitVec 1 := Scalar.andi v1465 v1467
  let v1454 : BitVec 32 := Scalar.divsi v1451 c8_i32_553
  let c1_i32_559 : BitVec 32 := 1#32
  let v1469 : BitVec 32 := Scalar.subi v1454 c1_i32_559
  let v1470 : BitVec 32 := Scalar.select v1468 v1469 v1454
  let c8_i32_560 : BitVec 32 := 8#32
  let v1471 : BitVec 32 := Scalar.muli v1470 c8_i32_560
  let v1473 : Index := Scalar.indexCast v1471
  let c0_562 : Index := 0#32
  ![0, v1473.toNat, 0]

def k0_chk43 (v1451 : BitVec 32) : Prop :=
  (∀ a, (k0_off86 v1451) a + S1x40x256.size a ≤ S1x2048x256.size a)
theorem k0_off86_inb : ∀ (v1451 : BitVec 32) (k0_hw43 : k0_chk43 v1451), ∀ a, (k0_off86 v1451) a + S1x40x256.size a ≤ S1x2048x256.size a := fun v1451 k0_hw43 => k0_hw43

def k0_off87 (i : grid0.Coords) : Fin 2 → Nat :=
  let arg0 : BitVec 32 := BitVec.ofNat 32 (i 0).val
  let c4_i32 : BitVec 32 := 4#32
  let v0 : BitVec 32 := Scalar.addi arg0 c4_i32
  let v1484 : Index := Scalar.indexCast v0
  let c43 : Index := 43#32
  ![v1484.toNat, 43]
def k0_off88 (v1485 : BitVec 32) : Fin 3 → Nat :=
  let c0_574 : Index := 0#32
  let c0_i32_567 : BitVec 32 := 0#32
  let v1489 : BitVec 1 := Scalar.cmpi .sgt v1485 c0_i32_567
  let v1490 : BitVec 32 := Scalar.extui v1489
  let c0_i32_568 : BitVec 32 := 0#32
  let v1491 : BitVec 1 := Scalar.cmpi .slt v1485 c0_i32_568
  let v1492 : BitVec 32 := Scalar.extui v1491
  let v1493 : BitVec 32 := Scalar.subi v1490 v1492
  let c8_i32_566 : BitVec 32 := 8#32
  let c0_i32_569 : BitVec 32 := 0#32
  let v1494 : BitVec 1 := Scalar.cmpi .sgt c8_i32_566 c0_i32_569
  let v1495 : BitVec 32 := Scalar.extui v1494
  let c0_i32_570 : BitVec 32 := 0#32
  let v1496 : BitVec 1 := Scalar.cmpi .slt c8_i32_566 c0_i32_570
  let v1497 : BitVec 32 := Scalar.extui v1496
  let v1498 : BitVec 32 := Scalar.subi v1495 v1497
  let v1499 : BitVec 1 := Scalar.cmpi .ne v1493 v1498
  let v1500 : BitVec 32 := Scalar.remsi v1485 c8_i32_566
  let c0_i32_571 : BitVec 32 := 0#32
  let v1501 : BitVec 1 := Scalar.cmpi .ne v1500 c0_i32_571
  let v1502 : BitVec 1 := Scalar.andi v1499 v1501
  let v1488 : BitVec 32 := Scalar.divsi v1485 c8_i32_566
  let c1_i32_572 : BitVec 32 := 1#32
  let v1503 : BitVec 32 := Scalar.subi v1488 c1_i32_572
  let v1504 : BitVec 32 := Scalar.select v1502 v1503 v1488
  let c8_i32_573 : BitVec 32 := 8#32
  let v1505 : BitVec 32 := Scalar.muli v1504 c8_i32_573
  let v1507 : Index := Scalar.indexCast v1505
  let c0_575 : Index := 0#32
  ![0, v1507.toNat, 0]

def k0_chk44 (v1485 : BitVec 32) : Prop :=
  (∀ a, (k0_off88 v1485) a + S1x40x256.size a ≤ S1x2048x256.size a)
theorem k0_off88_inb : ∀ (v1485 : BitVec 32) (k0_hw44 : k0_chk44 v1485), ∀ a, (k0_off88 v1485) a + S1x40x256.size a ≤ S1x2048x256.size a := fun v1485 k0_hw44 => k0_hw44

def k0_off89 (i : grid0.Coords) : Fin 2 → Nat :=
  let arg0 : BitVec 32 := BitVec.ofNat 32 (i 0).val
  let c4_i32 : BitVec 32 := 4#32
  let v0 : BitVec 32 := Scalar.addi arg0 c4_i32
  let v1518 : Index := Scalar.indexCast v0
  let c44 : Index := 44#32
  ![v1518.toNat, 44]
def k0_off90 (v1519 : BitVec 32) : Fin 3 → Nat :=
  let c0_587 : Index := 0#32
  let c0_i32_580 : BitVec 32 := 0#32
  let v1523 : BitVec 1 := Scalar.cmpi .sgt v1519 c0_i32_580
  let v1524 : BitVec 32 := Scalar.extui v1523
  let c0_i32_581 : BitVec 32 := 0#32
  let v1525 : BitVec 1 := Scalar.cmpi .slt v1519 c0_i32_581
  let v1526 : BitVec 32 := Scalar.extui v1525
  let v1527 : BitVec 32 := Scalar.subi v1524 v1526
  let c8_i32_579 : BitVec 32 := 8#32
  let c0_i32_582 : BitVec 32 := 0#32
  let v1528 : BitVec 1 := Scalar.cmpi .sgt c8_i32_579 c0_i32_582
  let v1529 : BitVec 32 := Scalar.extui v1528
  let c0_i32_583 : BitVec 32 := 0#32
  let v1530 : BitVec 1 := Scalar.cmpi .slt c8_i32_579 c0_i32_583
  let v1531 : BitVec 32 := Scalar.extui v1530
  let v1532 : BitVec 32 := Scalar.subi v1529 v1531
  let v1533 : BitVec 1 := Scalar.cmpi .ne v1527 v1532
  let v1534 : BitVec 32 := Scalar.remsi v1519 c8_i32_579
  let c0_i32_584 : BitVec 32 := 0#32
  let v1535 : BitVec 1 := Scalar.cmpi .ne v1534 c0_i32_584
  let v1536 : BitVec 1 := Scalar.andi v1533 v1535
  let v1522 : BitVec 32 := Scalar.divsi v1519 c8_i32_579
  let c1_i32_585 : BitVec 32 := 1#32
  let v1537 : BitVec 32 := Scalar.subi v1522 c1_i32_585
  let v1538 : BitVec 32 := Scalar.select v1536 v1537 v1522
  let c8_i32_586 : BitVec 32 := 8#32
  let v1539 : BitVec 32 := Scalar.muli v1538 c8_i32_586
  let v1541 : Index := Scalar.indexCast v1539
  let c0_588 : Index := 0#32
  ![0, v1541.toNat, 0]

def k0_chk45 (v1519 : BitVec 32) : Prop :=
  (∀ a, (k0_off90 v1519) a + S1x40x256.size a ≤ S1x2048x256.size a)
theorem k0_off90_inb : ∀ (v1519 : BitVec 32) (k0_hw45 : k0_chk45 v1519), ∀ a, (k0_off90 v1519) a + S1x40x256.size a ≤ S1x2048x256.size a := fun v1519 k0_hw45 => k0_hw45

def k0_off91 (i : grid0.Coords) : Fin 2 → Nat :=
  let arg0 : BitVec 32 := BitVec.ofNat 32 (i 0).val
  let c4_i32 : BitVec 32 := 4#32
  let v0 : BitVec 32 := Scalar.addi arg0 c4_i32
  let v1552 : Index := Scalar.indexCast v0
  let c45 : Index := 45#32
  ![v1552.toNat, 45]
def k0_off92 (v1553 : BitVec 32) : Fin 3 → Nat :=
  let c0_600 : Index := 0#32
  let c0_i32_593 : BitVec 32 := 0#32
  let v1557 : BitVec 1 := Scalar.cmpi .sgt v1553 c0_i32_593
  let v1558 : BitVec 32 := Scalar.extui v1557
  let c0_i32_594 : BitVec 32 := 0#32
  let v1559 : BitVec 1 := Scalar.cmpi .slt v1553 c0_i32_594
  let v1560 : BitVec 32 := Scalar.extui v1559
  let v1561 : BitVec 32 := Scalar.subi v1558 v1560
  let c8_i32_592 : BitVec 32 := 8#32
  let c0_i32_595 : BitVec 32 := 0#32
  let v1562 : BitVec 1 := Scalar.cmpi .sgt c8_i32_592 c0_i32_595
  let v1563 : BitVec 32 := Scalar.extui v1562
  let c0_i32_596 : BitVec 32 := 0#32
  let v1564 : BitVec 1 := Scalar.cmpi .slt c8_i32_592 c0_i32_596
  let v1565 : BitVec 32 := Scalar.extui v1564
  let v1566 : BitVec 32 := Scalar.subi v1563 v1565
  let v1567 : BitVec 1 := Scalar.cmpi .ne v1561 v1566
  let v1568 : BitVec 32 := Scalar.remsi v1553 c8_i32_592
  let c0_i32_597 : BitVec 32 := 0#32
  let v1569 : BitVec 1 := Scalar.cmpi .ne v1568 c0_i32_597
  let v1570 : BitVec 1 := Scalar.andi v1567 v1569
  let v1556 : BitVec 32 := Scalar.divsi v1553 c8_i32_592
  let c1_i32_598 : BitVec 32 := 1#32
  let v1571 : BitVec 32 := Scalar.subi v1556 c1_i32_598
  let v1572 : BitVec 32 := Scalar.select v1570 v1571 v1556
  let c8_i32_599 : BitVec 32 := 8#32
  let v1573 : BitVec 32 := Scalar.muli v1572 c8_i32_599
  let v1575 : Index := Scalar.indexCast v1573
  let c0_601 : Index := 0#32
  ![0, v1575.toNat, 0]

def k0_chk46 (v1553 : BitVec 32) : Prop :=
  (∀ a, (k0_off92 v1553) a + S1x40x256.size a ≤ S1x2048x256.size a)
theorem k0_off92_inb : ∀ (v1553 : BitVec 32) (k0_hw46 : k0_chk46 v1553), ∀ a, (k0_off92 v1553) a + S1x40x256.size a ≤ S1x2048x256.size a := fun v1553 k0_hw46 => k0_hw46

def k0_off93 (i : grid0.Coords) : Fin 2 → Nat :=
  let arg0 : BitVec 32 := BitVec.ofNat 32 (i 0).val
  let c4_i32 : BitVec 32 := 4#32
  let v0 : BitVec 32 := Scalar.addi arg0 c4_i32
  let v1586 : Index := Scalar.indexCast v0
  let c46 : Index := 46#32
  ![v1586.toNat, 46]
def k0_off94 (v1587 : BitVec 32) : Fin 3 → Nat :=
  let c0_613 : Index := 0#32
  let c0_i32_606 : BitVec 32 := 0#32
  let v1591 : BitVec 1 := Scalar.cmpi .sgt v1587 c0_i32_606
  let v1592 : BitVec 32 := Scalar.extui v1591
  let c0_i32_607 : BitVec 32 := 0#32
  let v1593 : BitVec 1 := Scalar.cmpi .slt v1587 c0_i32_607
  let v1594 : BitVec 32 := Scalar.extui v1593
  let v1595 : BitVec 32 := Scalar.subi v1592 v1594
  let c8_i32_605 : BitVec 32 := 8#32
  let c0_i32_608 : BitVec 32 := 0#32
  let v1596 : BitVec 1 := Scalar.cmpi .sgt c8_i32_605 c0_i32_608
  let v1597 : BitVec 32 := Scalar.extui v1596
  let c0_i32_609 : BitVec 32 := 0#32
  let v1598 : BitVec 1 := Scalar.cmpi .slt c8_i32_605 c0_i32_609
  let v1599 : BitVec 32 := Scalar.extui v1598
  let v1600 : BitVec 32 := Scalar.subi v1597 v1599
  let v1601 : BitVec 1 := Scalar.cmpi .ne v1595 v1600
  let v1602 : BitVec 32 := Scalar.remsi v1587 c8_i32_605
  let c0_i32_610 : BitVec 32 := 0#32
  let v1603 : BitVec 1 := Scalar.cmpi .ne v1602 c0_i32_610
  let v1604 : BitVec 1 := Scalar.andi v1601 v1603
  let v1590 : BitVec 32 := Scalar.divsi v1587 c8_i32_605
  let c1_i32_611 : BitVec 32 := 1#32
  let v1605 : BitVec 32 := Scalar.subi v1590 c1_i32_611
  let v1606 : BitVec 32 := Scalar.select v1604 v1605 v1590
  let c8_i32_612 : BitVec 32 := 8#32
  let v1607 : BitVec 32 := Scalar.muli v1606 c8_i32_612
  let v1609 : Index := Scalar.indexCast v1607
  let c0_614 : Index := 0#32
  ![0, v1609.toNat, 0]

def k0_chk47 (v1587 : BitVec 32) : Prop :=
  (∀ a, (k0_off94 v1587) a + S1x40x256.size a ≤ S1x2048x256.size a)
theorem k0_off94_inb : ∀ (v1587 : BitVec 32) (k0_hw47 : k0_chk47 v1587), ∀ a, (k0_off94 v1587) a + S1x40x256.size a ≤ S1x2048x256.size a := fun v1587 k0_hw47 => k0_hw47

def k0_off95 (i : grid0.Coords) : Fin 2 → Nat :=
  let arg0 : BitVec 32 := BitVec.ofNat 32 (i 0).val
  let c4_i32 : BitVec 32 := 4#32
  let v0 : BitVec 32 := Scalar.addi arg0 c4_i32
  let v1620 : Index := Scalar.indexCast v0
  let c47 : Index := 47#32
  ![v1620.toNat, 47]
def k0_off96 (v1621 : BitVec 32) : Fin 3 → Nat :=
  let c0_626 : Index := 0#32
  let c0_i32_619 : BitVec 32 := 0#32
  let v1625 : BitVec 1 := Scalar.cmpi .sgt v1621 c0_i32_619
  let v1626 : BitVec 32 := Scalar.extui v1625
  let c0_i32_620 : BitVec 32 := 0#32
  let v1627 : BitVec 1 := Scalar.cmpi .slt v1621 c0_i32_620
  let v1628 : BitVec 32 := Scalar.extui v1627
  let v1629 : BitVec 32 := Scalar.subi v1626 v1628
  let c8_i32_618 : BitVec 32 := 8#32
  let c0_i32_621 : BitVec 32 := 0#32
  let v1630 : BitVec 1 := Scalar.cmpi .sgt c8_i32_618 c0_i32_621
  let v1631 : BitVec 32 := Scalar.extui v1630
  let c0_i32_622 : BitVec 32 := 0#32
  let v1632 : BitVec 1 := Scalar.cmpi .slt c8_i32_618 c0_i32_622
  let v1633 : BitVec 32 := Scalar.extui v1632
  let v1634 : BitVec 32 := Scalar.subi v1631 v1633
  let v1635 : BitVec 1 := Scalar.cmpi .ne v1629 v1634
  let v1636 : BitVec 32 := Scalar.remsi v1621 c8_i32_618
  let c0_i32_623 : BitVec 32 := 0#32
  let v1637 : BitVec 1 := Scalar.cmpi .ne v1636 c0_i32_623
  let v1638 : BitVec 1 := Scalar.andi v1635 v1637
  let v1624 : BitVec 32 := Scalar.divsi v1621 c8_i32_618
  let c1_i32_624 : BitVec 32 := 1#32
  let v1639 : BitVec 32 := Scalar.subi v1624 c1_i32_624
  let v1640 : BitVec 32 := Scalar.select v1638 v1639 v1624
  let c8_i32_625 : BitVec 32 := 8#32
  let v1641 : BitVec 32 := Scalar.muli v1640 c8_i32_625
  let v1643 : Index := Scalar.indexCast v1641
  let c0_627 : Index := 0#32
  ![0, v1643.toNat, 0]

def k0_chk48 (v1621 : BitVec 32) : Prop :=
  (∀ a, (k0_off96 v1621) a + S1x40x256.size a ≤ S1x2048x256.size a)
theorem k0_off96_inb : ∀ (v1621 : BitVec 32) (k0_hw48 : k0_chk48 v1621), ∀ a, (k0_off96 v1621) a + S1x40x256.size a ≤ S1x2048x256.size a := fun v1621 k0_hw48 => k0_hw48

def k0_off97 (i : grid0.Coords) : Fin 2 → Nat :=
  let arg0 : BitVec 32 := BitVec.ofNat 32 (i 0).val
  let c4_i32 : BitVec 32 := 4#32
  let v0 : BitVec 32 := Scalar.addi arg0 c4_i32
  let v1658 : Index := Scalar.indexCast v0
  let c48 : Index := 48#32
  ![v1658.toNat, 48]
def k0_off98 (v1659 : BitVec 32) : Fin 3 → Nat :=
  let c0_641 : Index := 0#32
  let c0_i32_634 : BitVec 32 := 0#32
  let v1663 : BitVec 1 := Scalar.cmpi .sgt v1659 c0_i32_634
  let v1664 : BitVec 32 := Scalar.extui v1663
  let c0_i32_635 : BitVec 32 := 0#32
  let v1665 : BitVec 1 := Scalar.cmpi .slt v1659 c0_i32_635
  let v1666 : BitVec 32 := Scalar.extui v1665
  let v1667 : BitVec 32 := Scalar.subi v1664 v1666
  let c8_i32_633 : BitVec 32 := 8#32
  let c0_i32_636 : BitVec 32 := 0#32
  let v1668 : BitVec 1 := Scalar.cmpi .sgt c8_i32_633 c0_i32_636
  let v1669 : BitVec 32 := Scalar.extui v1668
  let c0_i32_637 : BitVec 32 := 0#32
  let v1670 : BitVec 1 := Scalar.cmpi .slt c8_i32_633 c0_i32_637
  let v1671 : BitVec 32 := Scalar.extui v1670
  let v1672 : BitVec 32 := Scalar.subi v1669 v1671
  let v1673 : BitVec 1 := Scalar.cmpi .ne v1667 v1672
  let v1674 : BitVec 32 := Scalar.remsi v1659 c8_i32_633
  let c0_i32_638 : BitVec 32 := 0#32
  let v1675 : BitVec 1 := Scalar.cmpi .ne v1674 c0_i32_638
  let v1676 : BitVec 1 := Scalar.andi v1673 v1675
  let v1662 : BitVec 32 := Scalar.divsi v1659 c8_i32_633
  let c1_i32_639 : BitVec 32 := 1#32
  let v1677 : BitVec 32 := Scalar.subi v1662 c1_i32_639
  let v1678 : BitVec 32 := Scalar.select v1676 v1677 v1662
  let c8_i32_640 : BitVec 32 := 8#32
  let v1679 : BitVec 32 := Scalar.muli v1678 c8_i32_640
  let v1681 : Index := Scalar.indexCast v1679
  let c0_642 : Index := 0#32
  ![0, v1681.toNat, 0]

def k0_chk49 (v1659 : BitVec 32) : Prop :=
  (∀ a, (k0_off98 v1659) a + S1x40x256.size a ≤ S1x2048x256.size a)
theorem k0_off98_inb : ∀ (v1659 : BitVec 32) (k0_hw49 : k0_chk49 v1659), ∀ a, (k0_off98 v1659) a + S1x40x256.size a ≤ S1x2048x256.size a := fun v1659 k0_hw49 => k0_hw49

def k0_off99 (i : grid0.Coords) : Fin 2 → Nat :=
  let arg0 : BitVec 32 := BitVec.ofNat 32 (i 0).val
  let c4_i32 : BitVec 32 := 4#32
  let v0 : BitVec 32 := Scalar.addi arg0 c4_i32
  let v1692 : Index := Scalar.indexCast v0
  let c49 : Index := 49#32
  ![v1692.toNat, 49]
def k0_off100 (v1693 : BitVec 32) : Fin 3 → Nat :=
  let c0_654 : Index := 0#32
  let c0_i32_647 : BitVec 32 := 0#32
  let v1697 : BitVec 1 := Scalar.cmpi .sgt v1693 c0_i32_647
  let v1698 : BitVec 32 := Scalar.extui v1697
  let c0_i32_648 : BitVec 32 := 0#32
  let v1699 : BitVec 1 := Scalar.cmpi .slt v1693 c0_i32_648
  let v1700 : BitVec 32 := Scalar.extui v1699
  let v1701 : BitVec 32 := Scalar.subi v1698 v1700
  let c8_i32_646 : BitVec 32 := 8#32
  let c0_i32_649 : BitVec 32 := 0#32
  let v1702 : BitVec 1 := Scalar.cmpi .sgt c8_i32_646 c0_i32_649
  let v1703 : BitVec 32 := Scalar.extui v1702
  let c0_i32_650 : BitVec 32 := 0#32
  let v1704 : BitVec 1 := Scalar.cmpi .slt c8_i32_646 c0_i32_650
  let v1705 : BitVec 32 := Scalar.extui v1704
  let v1706 : BitVec 32 := Scalar.subi v1703 v1705
  let v1707 : BitVec 1 := Scalar.cmpi .ne v1701 v1706
  let v1708 : BitVec 32 := Scalar.remsi v1693 c8_i32_646
  let c0_i32_651 : BitVec 32 := 0#32
  let v1709 : BitVec 1 := Scalar.cmpi .ne v1708 c0_i32_651
  let v1710 : BitVec 1 := Scalar.andi v1707 v1709
  let v1696 : BitVec 32 := Scalar.divsi v1693 c8_i32_646
  let c1_i32_652 : BitVec 32 := 1#32
  let v1711 : BitVec 32 := Scalar.subi v1696 c1_i32_652
  let v1712 : BitVec 32 := Scalar.select v1710 v1711 v1696
  let c8_i32_653 : BitVec 32 := 8#32
  let v1713 : BitVec 32 := Scalar.muli v1712 c8_i32_653
  let v1715 : Index := Scalar.indexCast v1713
  let c0_655 : Index := 0#32
  ![0, v1715.toNat, 0]

def k0_chk50 (v1693 : BitVec 32) : Prop :=
  (∀ a, (k0_off100 v1693) a + S1x40x256.size a ≤ S1x2048x256.size a)
theorem k0_off100_inb : ∀ (v1693 : BitVec 32) (k0_hw50 : k0_chk50 v1693), ∀ a, (k0_off100 v1693) a + S1x40x256.size a ≤ S1x2048x256.size a := fun v1693 k0_hw50 => k0_hw50

def k0_off101 (i : grid0.Coords) : Fin 2 → Nat :=
  let arg0 : BitVec 32 := BitVec.ofNat 32 (i 0).val
  let c4_i32 : BitVec 32 := 4#32
  let v0 : BitVec 32 := Scalar.addi arg0 c4_i32
  let v1726 : Index := Scalar.indexCast v0
  let c50 : Index := 50#32
  ![v1726.toNat, 50]
def k0_off102 (v1727 : BitVec 32) : Fin 3 → Nat :=
  let c0_667 : Index := 0#32
  let c0_i32_660 : BitVec 32 := 0#32
  let v1731 : BitVec 1 := Scalar.cmpi .sgt v1727 c0_i32_660
  let v1732 : BitVec 32 := Scalar.extui v1731
  let c0_i32_661 : BitVec 32 := 0#32
  let v1733 : BitVec 1 := Scalar.cmpi .slt v1727 c0_i32_661
  let v1734 : BitVec 32 := Scalar.extui v1733
  let v1735 : BitVec 32 := Scalar.subi v1732 v1734
  let c8_i32_659 : BitVec 32 := 8#32
  let c0_i32_662 : BitVec 32 := 0#32
  let v1736 : BitVec 1 := Scalar.cmpi .sgt c8_i32_659 c0_i32_662
  let v1737 : BitVec 32 := Scalar.extui v1736
  let c0_i32_663 : BitVec 32 := 0#32
  let v1738 : BitVec 1 := Scalar.cmpi .slt c8_i32_659 c0_i32_663
  let v1739 : BitVec 32 := Scalar.extui v1738
  let v1740 : BitVec 32 := Scalar.subi v1737 v1739
  let v1741 : BitVec 1 := Scalar.cmpi .ne v1735 v1740
  let v1742 : BitVec 32 := Scalar.remsi v1727 c8_i32_659
  let c0_i32_664 : BitVec 32 := 0#32
  let v1743 : BitVec 1 := Scalar.cmpi .ne v1742 c0_i32_664
  let v1744 : BitVec 1 := Scalar.andi v1741 v1743
  let v1730 : BitVec 32 := Scalar.divsi v1727 c8_i32_659
  let c1_i32_665 : BitVec 32 := 1#32
  let v1745 : BitVec 32 := Scalar.subi v1730 c1_i32_665
  let v1746 : BitVec 32 := Scalar.select v1744 v1745 v1730
  let c8_i32_666 : BitVec 32 := 8#32
  let v1747 : BitVec 32 := Scalar.muli v1746 c8_i32_666
  let v1749 : Index := Scalar.indexCast v1747
  let c0_668 : Index := 0#32
  ![0, v1749.toNat, 0]

def k0_chk51 (v1727 : BitVec 32) : Prop :=
  (∀ a, (k0_off102 v1727) a + S1x40x256.size a ≤ S1x2048x256.size a)
theorem k0_off102_inb : ∀ (v1727 : BitVec 32) (k0_hw51 : k0_chk51 v1727), ∀ a, (k0_off102 v1727) a + S1x40x256.size a ≤ S1x2048x256.size a := fun v1727 k0_hw51 => k0_hw51

def k0_off103 (i : grid0.Coords) : Fin 2 → Nat :=
  let arg0 : BitVec 32 := BitVec.ofNat 32 (i 0).val
  let c4_i32 : BitVec 32 := 4#32
  let v0 : BitVec 32 := Scalar.addi arg0 c4_i32
  let v1760 : Index := Scalar.indexCast v0
  let c51 : Index := 51#32
  ![v1760.toNat, 51]
def k0_off104 (v1761 : BitVec 32) : Fin 3 → Nat :=
  let c0_680 : Index := 0#32
  let c0_i32_673 : BitVec 32 := 0#32
  let v1765 : BitVec 1 := Scalar.cmpi .sgt v1761 c0_i32_673
  let v1766 : BitVec 32 := Scalar.extui v1765
  let c0_i32_674 : BitVec 32 := 0#32
  let v1767 : BitVec 1 := Scalar.cmpi .slt v1761 c0_i32_674
  let v1768 : BitVec 32 := Scalar.extui v1767
  let v1769 : BitVec 32 := Scalar.subi v1766 v1768
  let c8_i32_672 : BitVec 32 := 8#32
  let c0_i32_675 : BitVec 32 := 0#32
  let v1770 : BitVec 1 := Scalar.cmpi .sgt c8_i32_672 c0_i32_675
  let v1771 : BitVec 32 := Scalar.extui v1770
  let c0_i32_676 : BitVec 32 := 0#32
  let v1772 : BitVec 1 := Scalar.cmpi .slt c8_i32_672 c0_i32_676
  let v1773 : BitVec 32 := Scalar.extui v1772
  let v1774 : BitVec 32 := Scalar.subi v1771 v1773
  let v1775 : BitVec 1 := Scalar.cmpi .ne v1769 v1774
  let v1776 : BitVec 32 := Scalar.remsi v1761 c8_i32_672
  let c0_i32_677 : BitVec 32 := 0#32
  let v1777 : BitVec 1 := Scalar.cmpi .ne v1776 c0_i32_677
  let v1778 : BitVec 1 := Scalar.andi v1775 v1777
  let v1764 : BitVec 32 := Scalar.divsi v1761 c8_i32_672
  let c1_i32_678 : BitVec 32 := 1#32
  let v1779 : BitVec 32 := Scalar.subi v1764 c1_i32_678
  let v1780 : BitVec 32 := Scalar.select v1778 v1779 v1764
  let c8_i32_679 : BitVec 32 := 8#32
  let v1781 : BitVec 32 := Scalar.muli v1780 c8_i32_679
  let v1783 : Index := Scalar.indexCast v1781
  let c0_681 : Index := 0#32
  ![0, v1783.toNat, 0]

def k0_chk52 (v1761 : BitVec 32) : Prop :=
  (∀ a, (k0_off104 v1761) a + S1x40x256.size a ≤ S1x2048x256.size a)
theorem k0_off104_inb : ∀ (v1761 : BitVec 32) (k0_hw52 : k0_chk52 v1761), ∀ a, (k0_off104 v1761) a + S1x40x256.size a ≤ S1x2048x256.size a := fun v1761 k0_hw52 => k0_hw52

def k0_off105 (i : grid0.Coords) : Fin 2 → Nat :=
  let arg0 : BitVec 32 := BitVec.ofNat 32 (i 0).val
  let c4_i32 : BitVec 32 := 4#32
  let v0 : BitVec 32 := Scalar.addi arg0 c4_i32
  let v1794 : Index := Scalar.indexCast v0
  let c52 : Index := 52#32
  ![v1794.toNat, 52]
def k0_off106 (v1795 : BitVec 32) : Fin 3 → Nat :=
  let c0_693 : Index := 0#32
  let c0_i32_686 : BitVec 32 := 0#32
  let v1799 : BitVec 1 := Scalar.cmpi .sgt v1795 c0_i32_686
  let v1800 : BitVec 32 := Scalar.extui v1799
  let c0_i32_687 : BitVec 32 := 0#32
  let v1801 : BitVec 1 := Scalar.cmpi .slt v1795 c0_i32_687
  let v1802 : BitVec 32 := Scalar.extui v1801
  let v1803 : BitVec 32 := Scalar.subi v1800 v1802
  let c8_i32_685 : BitVec 32 := 8#32
  let c0_i32_688 : BitVec 32 := 0#32
  let v1804 : BitVec 1 := Scalar.cmpi .sgt c8_i32_685 c0_i32_688
  let v1805 : BitVec 32 := Scalar.extui v1804
  let c0_i32_689 : BitVec 32 := 0#32
  let v1806 : BitVec 1 := Scalar.cmpi .slt c8_i32_685 c0_i32_689
  let v1807 : BitVec 32 := Scalar.extui v1806
  let v1808 : BitVec 32 := Scalar.subi v1805 v1807
  let v1809 : BitVec 1 := Scalar.cmpi .ne v1803 v1808
  let v1810 : BitVec 32 := Scalar.remsi v1795 c8_i32_685
  let c0_i32_690 : BitVec 32 := 0#32
  let v1811 : BitVec 1 := Scalar.cmpi .ne v1810 c0_i32_690
  let v1812 : BitVec 1 := Scalar.andi v1809 v1811
  let v1798 : BitVec 32 := Scalar.divsi v1795 c8_i32_685
  let c1_i32_691 : BitVec 32 := 1#32
  let v1813 : BitVec 32 := Scalar.subi v1798 c1_i32_691
  let v1814 : BitVec 32 := Scalar.select v1812 v1813 v1798
  let c8_i32_692 : BitVec 32 := 8#32
  let v1815 : BitVec 32 := Scalar.muli v1814 c8_i32_692
  let v1817 : Index := Scalar.indexCast v1815
  let c0_694 : Index := 0#32
  ![0, v1817.toNat, 0]

def k0_chk53 (v1795 : BitVec 32) : Prop :=
  (∀ a, (k0_off106 v1795) a + S1x40x256.size a ≤ S1x2048x256.size a)
theorem k0_off106_inb : ∀ (v1795 : BitVec 32) (k0_hw53 : k0_chk53 v1795), ∀ a, (k0_off106 v1795) a + S1x40x256.size a ≤ S1x2048x256.size a := fun v1795 k0_hw53 => k0_hw53

def k0_off107 (i : grid0.Coords) : Fin 2 → Nat :=
  let arg0 : BitVec 32 := BitVec.ofNat 32 (i 0).val
  let c4_i32 : BitVec 32 := 4#32
  let v0 : BitVec 32 := Scalar.addi arg0 c4_i32
  let v1828 : Index := Scalar.indexCast v0
  let c53 : Index := 53#32
  ![v1828.toNat, 53]
def k0_off108 (v1829 : BitVec 32) : Fin 3 → Nat :=
  let c0_706 : Index := 0#32
  let c0_i32_699 : BitVec 32 := 0#32
  let v1833 : BitVec 1 := Scalar.cmpi .sgt v1829 c0_i32_699
  let v1834 : BitVec 32 := Scalar.extui v1833
  let c0_i32_700 : BitVec 32 := 0#32
  let v1835 : BitVec 1 := Scalar.cmpi .slt v1829 c0_i32_700
  let v1836 : BitVec 32 := Scalar.extui v1835
  let v1837 : BitVec 32 := Scalar.subi v1834 v1836
  let c8_i32_698 : BitVec 32 := 8#32
  let c0_i32_701 : BitVec 32 := 0#32
  let v1838 : BitVec 1 := Scalar.cmpi .sgt c8_i32_698 c0_i32_701
  let v1839 : BitVec 32 := Scalar.extui v1838
  let c0_i32_702 : BitVec 32 := 0#32
  let v1840 : BitVec 1 := Scalar.cmpi .slt c8_i32_698 c0_i32_702
  let v1841 : BitVec 32 := Scalar.extui v1840
  let v1842 : BitVec 32 := Scalar.subi v1839 v1841
  let v1843 : BitVec 1 := Scalar.cmpi .ne v1837 v1842
  let v1844 : BitVec 32 := Scalar.remsi v1829 c8_i32_698
  let c0_i32_703 : BitVec 32 := 0#32
  let v1845 : BitVec 1 := Scalar.cmpi .ne v1844 c0_i32_703
  let v1846 : BitVec 1 := Scalar.andi v1843 v1845
  let v1832 : BitVec 32 := Scalar.divsi v1829 c8_i32_698
  let c1_i32_704 : BitVec 32 := 1#32
  let v1847 : BitVec 32 := Scalar.subi v1832 c1_i32_704
  let v1848 : BitVec 32 := Scalar.select v1846 v1847 v1832
  let c8_i32_705 : BitVec 32 := 8#32
  let v1849 : BitVec 32 := Scalar.muli v1848 c8_i32_705
  let v1851 : Index := Scalar.indexCast v1849
  let c0_707 : Index := 0#32
  ![0, v1851.toNat, 0]

def k0_chk54 (v1829 : BitVec 32) : Prop :=
  (∀ a, (k0_off108 v1829) a + S1x40x256.size a ≤ S1x2048x256.size a)
theorem k0_off108_inb : ∀ (v1829 : BitVec 32) (k0_hw54 : k0_chk54 v1829), ∀ a, (k0_off108 v1829) a + S1x40x256.size a ≤ S1x2048x256.size a := fun v1829 k0_hw54 => k0_hw54

def k0_off109 (i : grid0.Coords) : Fin 2 → Nat :=
  let arg0 : BitVec 32 := BitVec.ofNat 32 (i 0).val
  let c4_i32 : BitVec 32 := 4#32
  let v0 : BitVec 32 := Scalar.addi arg0 c4_i32
  let v1862 : Index := Scalar.indexCast v0
  let c54 : Index := 54#32
  ![v1862.toNat, 54]
def k0_off110 (v1863 : BitVec 32) : Fin 3 → Nat :=
  let c0_719 : Index := 0#32
  let c0_i32_712 : BitVec 32 := 0#32
  let v1867 : BitVec 1 := Scalar.cmpi .sgt v1863 c0_i32_712
  let v1868 : BitVec 32 := Scalar.extui v1867
  let c0_i32_713 : BitVec 32 := 0#32
  let v1869 : BitVec 1 := Scalar.cmpi .slt v1863 c0_i32_713
  let v1870 : BitVec 32 := Scalar.extui v1869
  let v1871 : BitVec 32 := Scalar.subi v1868 v1870
  let c8_i32_711 : BitVec 32 := 8#32
  let c0_i32_714 : BitVec 32 := 0#32
  let v1872 : BitVec 1 := Scalar.cmpi .sgt c8_i32_711 c0_i32_714
  let v1873 : BitVec 32 := Scalar.extui v1872
  let c0_i32_715 : BitVec 32 := 0#32
  let v1874 : BitVec 1 := Scalar.cmpi .slt c8_i32_711 c0_i32_715
  let v1875 : BitVec 32 := Scalar.extui v1874
  let v1876 : BitVec 32 := Scalar.subi v1873 v1875
  let v1877 : BitVec 1 := Scalar.cmpi .ne v1871 v1876
  let v1878 : BitVec 32 := Scalar.remsi v1863 c8_i32_711
  let c0_i32_716 : BitVec 32 := 0#32
  let v1879 : BitVec 1 := Scalar.cmpi .ne v1878 c0_i32_716
  let v1880 : BitVec 1 := Scalar.andi v1877 v1879
  let v1866 : BitVec 32 := Scalar.divsi v1863 c8_i32_711
  let c1_i32_717 : BitVec 32 := 1#32
  let v1881 : BitVec 32 := Scalar.subi v1866 c1_i32_717
  let v1882 : BitVec 32 := Scalar.select v1880 v1881 v1866
  let c8_i32_718 : BitVec 32 := 8#32
  let v1883 : BitVec 32 := Scalar.muli v1882 c8_i32_718
  let v1885 : Index := Scalar.indexCast v1883
  let c0_720 : Index := 0#32
  ![0, v1885.toNat, 0]

def k0_chk55 (v1863 : BitVec 32) : Prop :=
  (∀ a, (k0_off110 v1863) a + S1x40x256.size a ≤ S1x2048x256.size a)
theorem k0_off110_inb : ∀ (v1863 : BitVec 32) (k0_hw55 : k0_chk55 v1863), ∀ a, (k0_off110 v1863) a + S1x40x256.size a ≤ S1x2048x256.size a := fun v1863 k0_hw55 => k0_hw55

def k0_off111 (i : grid0.Coords) : Fin 2 → Nat :=
  let arg0 : BitVec 32 := BitVec.ofNat 32 (i 0).val
  let c4_i32 : BitVec 32 := 4#32
  let v0 : BitVec 32 := Scalar.addi arg0 c4_i32
  let v1896 : Index := Scalar.indexCast v0
  let c55 : Index := 55#32
  ![v1896.toNat, 55]
def k0_off112 (v1897 : BitVec 32) : Fin 3 → Nat :=
  let c0_732 : Index := 0#32
  let c0_i32_725 : BitVec 32 := 0#32
  let v1901 : BitVec 1 := Scalar.cmpi .sgt v1897 c0_i32_725
  let v1902 : BitVec 32 := Scalar.extui v1901
  let c0_i32_726 : BitVec 32 := 0#32
  let v1903 : BitVec 1 := Scalar.cmpi .slt v1897 c0_i32_726
  let v1904 : BitVec 32 := Scalar.extui v1903
  let v1905 : BitVec 32 := Scalar.subi v1902 v1904
  let c8_i32_724 : BitVec 32 := 8#32
  let c0_i32_727 : BitVec 32 := 0#32
  let v1906 : BitVec 1 := Scalar.cmpi .sgt c8_i32_724 c0_i32_727
  let v1907 : BitVec 32 := Scalar.extui v1906
  let c0_i32_728 : BitVec 32 := 0#32
  let v1908 : BitVec 1 := Scalar.cmpi .slt c8_i32_724 c0_i32_728
  let v1909 : BitVec 32 := Scalar.extui v1908
  let v1910 : BitVec 32 := Scalar.subi v1907 v1909
  let v1911 : BitVec 1 := Scalar.cmpi .ne v1905 v1910
  let v1912 : BitVec 32 := Scalar.remsi v1897 c8_i32_724
  let c0_i32_729 : BitVec 32 := 0#32
  let v1913 : BitVec 1 := Scalar.cmpi .ne v1912 c0_i32_729
  let v1914 : BitVec 1 := Scalar.andi v1911 v1913
  let v1900 : BitVec 32 := Scalar.divsi v1897 c8_i32_724
  let c1_i32_730 : BitVec 32 := 1#32
  let v1915 : BitVec 32 := Scalar.subi v1900 c1_i32_730
  let v1916 : BitVec 32 := Scalar.select v1914 v1915 v1900
  let c8_i32_731 : BitVec 32 := 8#32
  let v1917 : BitVec 32 := Scalar.muli v1916 c8_i32_731
  let v1919 : Index := Scalar.indexCast v1917
  let c0_733 : Index := 0#32
  ![0, v1919.toNat, 0]

def k0_chk56 (v1897 : BitVec 32) : Prop :=
  (∀ a, (k0_off112 v1897) a + S1x40x256.size a ≤ S1x2048x256.size a)
theorem k0_off112_inb : ∀ (v1897 : BitVec 32) (k0_hw56 : k0_chk56 v1897), ∀ a, (k0_off112 v1897) a + S1x40x256.size a ≤ S1x2048x256.size a := fun v1897 k0_hw56 => k0_hw56

def k0_off113 (i : grid0.Coords) : Fin 2 → Nat :=
  let arg0 : BitVec 32 := BitVec.ofNat 32 (i 0).val
  let c4_i32 : BitVec 32 := 4#32
  let v0 : BitVec 32 := Scalar.addi arg0 c4_i32
  let v1934 : Index := Scalar.indexCast v0
  let c56 : Index := 56#32
  ![v1934.toNat, 56]
def k0_off114 (v1935 : BitVec 32) : Fin 3 → Nat :=
  let c0_747 : Index := 0#32
  let c0_i32_740 : BitVec 32 := 0#32
  let v1939 : BitVec 1 := Scalar.cmpi .sgt v1935 c0_i32_740
  let v1940 : BitVec 32 := Scalar.extui v1939
  let c0_i32_741 : BitVec 32 := 0#32
  let v1941 : BitVec 1 := Scalar.cmpi .slt v1935 c0_i32_741
  let v1942 : BitVec 32 := Scalar.extui v1941
  let v1943 : BitVec 32 := Scalar.subi v1940 v1942
  let c8_i32_739 : BitVec 32 := 8#32
  let c0_i32_742 : BitVec 32 := 0#32
  let v1944 : BitVec 1 := Scalar.cmpi .sgt c8_i32_739 c0_i32_742
  let v1945 : BitVec 32 := Scalar.extui v1944
  let c0_i32_743 : BitVec 32 := 0#32
  let v1946 : BitVec 1 := Scalar.cmpi .slt c8_i32_739 c0_i32_743
  let v1947 : BitVec 32 := Scalar.extui v1946
  let v1948 : BitVec 32 := Scalar.subi v1945 v1947
  let v1949 : BitVec 1 := Scalar.cmpi .ne v1943 v1948
  let v1950 : BitVec 32 := Scalar.remsi v1935 c8_i32_739
  let c0_i32_744 : BitVec 32 := 0#32
  let v1951 : BitVec 1 := Scalar.cmpi .ne v1950 c0_i32_744
  let v1952 : BitVec 1 := Scalar.andi v1949 v1951
  let v1938 : BitVec 32 := Scalar.divsi v1935 c8_i32_739
  let c1_i32_745 : BitVec 32 := 1#32
  let v1953 : BitVec 32 := Scalar.subi v1938 c1_i32_745
  let v1954 : BitVec 32 := Scalar.select v1952 v1953 v1938
  let c8_i32_746 : BitVec 32 := 8#32
  let v1955 : BitVec 32 := Scalar.muli v1954 c8_i32_746
  let v1957 : Index := Scalar.indexCast v1955
  let c0_748 : Index := 0#32
  ![0, v1957.toNat, 0]

def k0_chk57 (v1935 : BitVec 32) : Prop :=
  (∀ a, (k0_off114 v1935) a + S1x40x256.size a ≤ S1x2048x256.size a)
theorem k0_off114_inb : ∀ (v1935 : BitVec 32) (k0_hw57 : k0_chk57 v1935), ∀ a, (k0_off114 v1935) a + S1x40x256.size a ≤ S1x2048x256.size a := fun v1935 k0_hw57 => k0_hw57

def k0_off115 (i : grid0.Coords) : Fin 2 → Nat :=
  let arg0 : BitVec 32 := BitVec.ofNat 32 (i 0).val
  let c4_i32 : BitVec 32 := 4#32
  let v0 : BitVec 32 := Scalar.addi arg0 c4_i32
  let v1968 : Index := Scalar.indexCast v0
  let c57 : Index := 57#32
  ![v1968.toNat, 57]
def k0_off116 (v1969 : BitVec 32) : Fin 3 → Nat :=
  let c0_760 : Index := 0#32
  let c0_i32_753 : BitVec 32 := 0#32
  let v1973 : BitVec 1 := Scalar.cmpi .sgt v1969 c0_i32_753
  let v1974 : BitVec 32 := Scalar.extui v1973
  let c0_i32_754 : BitVec 32 := 0#32
  let v1975 : BitVec 1 := Scalar.cmpi .slt v1969 c0_i32_754
  let v1976 : BitVec 32 := Scalar.extui v1975
  let v1977 : BitVec 32 := Scalar.subi v1974 v1976
  let c8_i32_752 : BitVec 32 := 8#32
  let c0_i32_755 : BitVec 32 := 0#32
  let v1978 : BitVec 1 := Scalar.cmpi .sgt c8_i32_752 c0_i32_755
  let v1979 : BitVec 32 := Scalar.extui v1978
  let c0_i32_756 : BitVec 32 := 0#32
  let v1980 : BitVec 1 := Scalar.cmpi .slt c8_i32_752 c0_i32_756
  let v1981 : BitVec 32 := Scalar.extui v1980
  let v1982 : BitVec 32 := Scalar.subi v1979 v1981
  let v1983 : BitVec 1 := Scalar.cmpi .ne v1977 v1982
  let v1984 : BitVec 32 := Scalar.remsi v1969 c8_i32_752
  let c0_i32_757 : BitVec 32 := 0#32
  let v1985 : BitVec 1 := Scalar.cmpi .ne v1984 c0_i32_757
  let v1986 : BitVec 1 := Scalar.andi v1983 v1985
  let v1972 : BitVec 32 := Scalar.divsi v1969 c8_i32_752
  let c1_i32_758 : BitVec 32 := 1#32
  let v1987 : BitVec 32 := Scalar.subi v1972 c1_i32_758
  let v1988 : BitVec 32 := Scalar.select v1986 v1987 v1972
  let c8_i32_759 : BitVec 32 := 8#32
  let v1989 : BitVec 32 := Scalar.muli v1988 c8_i32_759
  let v1991 : Index := Scalar.indexCast v1989
  let c0_761 : Index := 0#32
  ![0, v1991.toNat, 0]

def k0_chk58 (v1969 : BitVec 32) : Prop :=
  (∀ a, (k0_off116 v1969) a + S1x40x256.size a ≤ S1x2048x256.size a)
theorem k0_off116_inb : ∀ (v1969 : BitVec 32) (k0_hw58 : k0_chk58 v1969), ∀ a, (k0_off116 v1969) a + S1x40x256.size a ≤ S1x2048x256.size a := fun v1969 k0_hw58 => k0_hw58

def k0_off117 (i : grid0.Coords) : Fin 2 → Nat :=
  let arg0 : BitVec 32 := BitVec.ofNat 32 (i 0).val
  let c4_i32 : BitVec 32 := 4#32
  let v0 : BitVec 32 := Scalar.addi arg0 c4_i32
  let v2002 : Index := Scalar.indexCast v0
  let c58 : Index := 58#32
  ![v2002.toNat, 58]
def k0_off118 (v2003 : BitVec 32) : Fin 3 → Nat :=
  let c0_773 : Index := 0#32
  let c0_i32_766 : BitVec 32 := 0#32
  let v2007 : BitVec 1 := Scalar.cmpi .sgt v2003 c0_i32_766
  let v2008 : BitVec 32 := Scalar.extui v2007
  let c0_i32_767 : BitVec 32 := 0#32
  let v2009 : BitVec 1 := Scalar.cmpi .slt v2003 c0_i32_767
  let v2010 : BitVec 32 := Scalar.extui v2009
  let v2011 : BitVec 32 := Scalar.subi v2008 v2010
  let c8_i32_765 : BitVec 32 := 8#32
  let c0_i32_768 : BitVec 32 := 0#32
  let v2012 : BitVec 1 := Scalar.cmpi .sgt c8_i32_765 c0_i32_768
  let v2013 : BitVec 32 := Scalar.extui v2012
  let c0_i32_769 : BitVec 32 := 0#32
  let v2014 : BitVec 1 := Scalar.cmpi .slt c8_i32_765 c0_i32_769
  let v2015 : BitVec 32 := Scalar.extui v2014
  let v2016 : BitVec 32 := Scalar.subi v2013 v2015
  let v2017 : BitVec 1 := Scalar.cmpi .ne v2011 v2016
  let v2018 : BitVec 32 := Scalar.remsi v2003 c8_i32_765
  let c0_i32_770 : BitVec 32 := 0#32
  let v2019 : BitVec 1 := Scalar.cmpi .ne v2018 c0_i32_770
  let v2020 : BitVec 1 := Scalar.andi v2017 v2019
  let v2006 : BitVec 32 := Scalar.divsi v2003 c8_i32_765
  let c1_i32_771 : BitVec 32 := 1#32
  let v2021 : BitVec 32 := Scalar.subi v2006 c1_i32_771
  let v2022 : BitVec 32 := Scalar.select v2020 v2021 v2006
  let c8_i32_772 : BitVec 32 := 8#32
  let v2023 : BitVec 32 := Scalar.muli v2022 c8_i32_772
  let v2025 : Index := Scalar.indexCast v2023
  let c0_774 : Index := 0#32
  ![0, v2025.toNat, 0]

def k0_chk59 (v2003 : BitVec 32) : Prop :=
  (∀ a, (k0_off118 v2003) a + S1x40x256.size a ≤ S1x2048x256.size a)
theorem k0_off118_inb : ∀ (v2003 : BitVec 32) (k0_hw59 : k0_chk59 v2003), ∀ a, (k0_off118 v2003) a + S1x40x256.size a ≤ S1x2048x256.size a := fun v2003 k0_hw59 => k0_hw59

def k0_off119 (i : grid0.Coords) : Fin 2 → Nat :=
  let arg0 : BitVec 32 := BitVec.ofNat 32 (i 0).val
  let c4_i32 : BitVec 32 := 4#32
  let v0 : BitVec 32 := Scalar.addi arg0 c4_i32
  let v2036 : Index := Scalar.indexCast v0
  let c59 : Index := 59#32
  ![v2036.toNat, 59]
def k0_off120 (v2037 : BitVec 32) : Fin 3 → Nat :=
  let c0_786 : Index := 0#32
  let c0_i32_779 : BitVec 32 := 0#32
  let v2041 : BitVec 1 := Scalar.cmpi .sgt v2037 c0_i32_779
  let v2042 : BitVec 32 := Scalar.extui v2041
  let c0_i32_780 : BitVec 32 := 0#32
  let v2043 : BitVec 1 := Scalar.cmpi .slt v2037 c0_i32_780
  let v2044 : BitVec 32 := Scalar.extui v2043
  let v2045 : BitVec 32 := Scalar.subi v2042 v2044
  let c8_i32_778 : BitVec 32 := 8#32
  let c0_i32_781 : BitVec 32 := 0#32
  let v2046 : BitVec 1 := Scalar.cmpi .sgt c8_i32_778 c0_i32_781
  let v2047 : BitVec 32 := Scalar.extui v2046
  let c0_i32_782 : BitVec 32 := 0#32
  let v2048 : BitVec 1 := Scalar.cmpi .slt c8_i32_778 c0_i32_782
  let v2049 : BitVec 32 := Scalar.extui v2048
  let v2050 : BitVec 32 := Scalar.subi v2047 v2049
  let v2051 : BitVec 1 := Scalar.cmpi .ne v2045 v2050
  let v2052 : BitVec 32 := Scalar.remsi v2037 c8_i32_778
  let c0_i32_783 : BitVec 32 := 0#32
  let v2053 : BitVec 1 := Scalar.cmpi .ne v2052 c0_i32_783
  let v2054 : BitVec 1 := Scalar.andi v2051 v2053
  let v2040 : BitVec 32 := Scalar.divsi v2037 c8_i32_778
  let c1_i32_784 : BitVec 32 := 1#32
  let v2055 : BitVec 32 := Scalar.subi v2040 c1_i32_784
  let v2056 : BitVec 32 := Scalar.select v2054 v2055 v2040
  let c8_i32_785 : BitVec 32 := 8#32
  let v2057 : BitVec 32 := Scalar.muli v2056 c8_i32_785
  let v2059 : Index := Scalar.indexCast v2057
  let c0_787 : Index := 0#32
  ![0, v2059.toNat, 0]

def k0_chk60 (v2037 : BitVec 32) : Prop :=
  (∀ a, (k0_off120 v2037) a + S1x40x256.size a ≤ S1x2048x256.size a)
theorem k0_off120_inb : ∀ (v2037 : BitVec 32) (k0_hw60 : k0_chk60 v2037), ∀ a, (k0_off120 v2037) a + S1x40x256.size a ≤ S1x2048x256.size a := fun v2037 k0_hw60 => k0_hw60

def k0_off121 (i : grid0.Coords) : Fin 2 → Nat :=
  let arg0 : BitVec 32 := BitVec.ofNat 32 (i 0).val
  let c4_i32 : BitVec 32 := 4#32
  let v0 : BitVec 32 := Scalar.addi arg0 c4_i32
  let v2070 : Index := Scalar.indexCast v0
  let c60 : Index := 60#32
  ![v2070.toNat, 60]
def k0_off122 (v2071 : BitVec 32) : Fin 3 → Nat :=
  let c0_799 : Index := 0#32
  let c0_i32_792 : BitVec 32 := 0#32
  let v2075 : BitVec 1 := Scalar.cmpi .sgt v2071 c0_i32_792
  let v2076 : BitVec 32 := Scalar.extui v2075
  let c0_i32_793 : BitVec 32 := 0#32
  let v2077 : BitVec 1 := Scalar.cmpi .slt v2071 c0_i32_793
  let v2078 : BitVec 32 := Scalar.extui v2077
  let v2079 : BitVec 32 := Scalar.subi v2076 v2078
  let c8_i32_791 : BitVec 32 := 8#32
  let c0_i32_794 : BitVec 32 := 0#32
  let v2080 : BitVec 1 := Scalar.cmpi .sgt c8_i32_791 c0_i32_794
  let v2081 : BitVec 32 := Scalar.extui v2080
  let c0_i32_795 : BitVec 32 := 0#32
  let v2082 : BitVec 1 := Scalar.cmpi .slt c8_i32_791 c0_i32_795
  let v2083 : BitVec 32 := Scalar.extui v2082
  let v2084 : BitVec 32 := Scalar.subi v2081 v2083
  let v2085 : BitVec 1 := Scalar.cmpi .ne v2079 v2084
  let v2086 : BitVec 32 := Scalar.remsi v2071 c8_i32_791
  let c0_i32_796 : BitVec 32 := 0#32
  let v2087 : BitVec 1 := Scalar.cmpi .ne v2086 c0_i32_796
  let v2088 : BitVec 1 := Scalar.andi v2085 v2087
  let v2074 : BitVec 32 := Scalar.divsi v2071 c8_i32_791
  let c1_i32_797 : BitVec 32 := 1#32
  let v2089 : BitVec 32 := Scalar.subi v2074 c1_i32_797
  let v2090 : BitVec 32 := Scalar.select v2088 v2089 v2074
  let c8_i32_798 : BitVec 32 := 8#32
  let v2091 : BitVec 32 := Scalar.muli v2090 c8_i32_798
  let v2093 : Index := Scalar.indexCast v2091
  let c0_800 : Index := 0#32
  ![0, v2093.toNat, 0]

def k0_chk61 (v2071 : BitVec 32) : Prop :=
  (∀ a, (k0_off122 v2071) a + S1x40x256.size a ≤ S1x2048x256.size a)
theorem k0_off122_inb : ∀ (v2071 : BitVec 32) (k0_hw61 : k0_chk61 v2071), ∀ a, (k0_off122 v2071) a + S1x40x256.size a ≤ S1x2048x256.size a := fun v2071 k0_hw61 => k0_hw61

def k0_off123 (i : grid0.Coords) : Fin 2 → Nat :=
  let arg0 : BitVec 32 := BitVec.ofNat 32 (i 0).val
  let c4_i32 : BitVec 32 := 4#32
  let v0 : BitVec 32 := Scalar.addi arg0 c4_i32
  let v2104 : Index := Scalar.indexCast v0
  let c61 : Index := 61#32
  ![v2104.toNat, 61]
def k0_off124 (v2105 : BitVec 32) : Fin 3 → Nat :=
  let c0_812 : Index := 0#32
  let c0_i32_805 : BitVec 32 := 0#32
  let v2109 : BitVec 1 := Scalar.cmpi .sgt v2105 c0_i32_805
  let v2110 : BitVec 32 := Scalar.extui v2109
  let c0_i32_806 : BitVec 32 := 0#32
  let v2111 : BitVec 1 := Scalar.cmpi .slt v2105 c0_i32_806
  let v2112 : BitVec 32 := Scalar.extui v2111
  let v2113 : BitVec 32 := Scalar.subi v2110 v2112
  let c8_i32_804 : BitVec 32 := 8#32
  let c0_i32_807 : BitVec 32 := 0#32
  let v2114 : BitVec 1 := Scalar.cmpi .sgt c8_i32_804 c0_i32_807
  let v2115 : BitVec 32 := Scalar.extui v2114
  let c0_i32_808 : BitVec 32 := 0#32
  let v2116 : BitVec 1 := Scalar.cmpi .slt c8_i32_804 c0_i32_808
  let v2117 : BitVec 32 := Scalar.extui v2116
  let v2118 : BitVec 32 := Scalar.subi v2115 v2117
  let v2119 : BitVec 1 := Scalar.cmpi .ne v2113 v2118
  let v2120 : BitVec 32 := Scalar.remsi v2105 c8_i32_804
  let c0_i32_809 : BitVec 32 := 0#32
  let v2121 : BitVec 1 := Scalar.cmpi .ne v2120 c0_i32_809
  let v2122 : BitVec 1 := Scalar.andi v2119 v2121
  let v2108 : BitVec 32 := Scalar.divsi v2105 c8_i32_804
  let c1_i32_810 : BitVec 32 := 1#32
  let v2123 : BitVec 32 := Scalar.subi v2108 c1_i32_810
  let v2124 : BitVec 32 := Scalar.select v2122 v2123 v2108
  let c8_i32_811 : BitVec 32 := 8#32
  let v2125 : BitVec 32 := Scalar.muli v2124 c8_i32_811
  let v2127 : Index := Scalar.indexCast v2125
  let c0_813 : Index := 0#32
  ![0, v2127.toNat, 0]

def k0_chk62 (v2105 : BitVec 32) : Prop :=
  (∀ a, (k0_off124 v2105) a + S1x40x256.size a ≤ S1x2048x256.size a)
theorem k0_off124_inb : ∀ (v2105 : BitVec 32) (k0_hw62 : k0_chk62 v2105), ∀ a, (k0_off124 v2105) a + S1x40x256.size a ≤ S1x2048x256.size a := fun v2105 k0_hw62 => k0_hw62

def k0_off125 (i : grid0.Coords) : Fin 2 → Nat :=
  let arg0 : BitVec 32 := BitVec.ofNat 32 (i 0).val
  let c4_i32 : BitVec 32 := 4#32
  let v0 : BitVec 32 := Scalar.addi arg0 c4_i32
  let v2138 : Index := Scalar.indexCast v0
  let c62 : Index := 62#32
  ![v2138.toNat, 62]
def k0_off126 (v2139 : BitVec 32) : Fin 3 → Nat :=
  let c0_825 : Index := 0#32
  let c0_i32_818 : BitVec 32 := 0#32
  let v2143 : BitVec 1 := Scalar.cmpi .sgt v2139 c0_i32_818
  let v2144 : BitVec 32 := Scalar.extui v2143
  let c0_i32_819 : BitVec 32 := 0#32
  let v2145 : BitVec 1 := Scalar.cmpi .slt v2139 c0_i32_819
  let v2146 : BitVec 32 := Scalar.extui v2145
  let v2147 : BitVec 32 := Scalar.subi v2144 v2146
  let c8_i32_817 : BitVec 32 := 8#32
  let c0_i32_820 : BitVec 32 := 0#32
  let v2148 : BitVec 1 := Scalar.cmpi .sgt c8_i32_817 c0_i32_820
  let v2149 : BitVec 32 := Scalar.extui v2148
  let c0_i32_821 : BitVec 32 := 0#32
  let v2150 : BitVec 1 := Scalar.cmpi .slt c8_i32_817 c0_i32_821
  let v2151 : BitVec 32 := Scalar.extui v2150
  let v2152 : BitVec 32 := Scalar.subi v2149 v2151
  let v2153 : BitVec 1 := Scalar.cmpi .ne v2147 v2152
  let v2154 : BitVec 32 := Scalar.remsi v2139 c8_i32_817
  let c0_i32_822 : BitVec 32 := 0#32
  let v2155 : BitVec 1 := Scalar.cmpi .ne v2154 c0_i32_822
  let v2156 : BitVec 1 := Scalar.andi v2153 v2155
  let v2142 : BitVec 32 := Scalar.divsi v2139 c8_i32_817
  let c1_i32_823 : BitVec 32 := 1#32
  let v2157 : BitVec 32 := Scalar.subi v2142 c1_i32_823
  let v2158 : BitVec 32 := Scalar.select v2156 v2157 v2142
  let c8_i32_824 : BitVec 32 := 8#32
  let v2159 : BitVec 32 := Scalar.muli v2158 c8_i32_824
  let v2161 : Index := Scalar.indexCast v2159
  let c0_826 : Index := 0#32
  ![0, v2161.toNat, 0]

def k0_chk63 (v2139 : BitVec 32) : Prop :=
  (∀ a, (k0_off126 v2139) a + S1x40x256.size a ≤ S1x2048x256.size a)
theorem k0_off126_inb : ∀ (v2139 : BitVec 32) (k0_hw63 : k0_chk63 v2139), ∀ a, (k0_off126 v2139) a + S1x40x256.size a ≤ S1x2048x256.size a := fun v2139 k0_hw63 => k0_hw63

def k0_off127 (i : grid0.Coords) : Fin 2 → Nat :=
  let arg0 : BitVec 32 := BitVec.ofNat 32 (i 0).val
  let c4_i32 : BitVec 32 := 4#32
  let v0 : BitVec 32 := Scalar.addi arg0 c4_i32
  let v2172 : Index := Scalar.indexCast v0
  let c63 : Index := 63#32
  ![v2172.toNat, 63]
def k0_off128 (v2173 : BitVec 32) : Fin 3 → Nat :=
  let c0_838 : Index := 0#32
  let c0_i32_831 : BitVec 32 := 0#32
  let v2177 : BitVec 1 := Scalar.cmpi .sgt v2173 c0_i32_831
  let v2178 : BitVec 32 := Scalar.extui v2177
  let c0_i32_832 : BitVec 32 := 0#32
  let v2179 : BitVec 1 := Scalar.cmpi .slt v2173 c0_i32_832
  let v2180 : BitVec 32 := Scalar.extui v2179
  let v2181 : BitVec 32 := Scalar.subi v2178 v2180
  let c8_i32_830 : BitVec 32 := 8#32
  let c0_i32_833 : BitVec 32 := 0#32
  let v2182 : BitVec 1 := Scalar.cmpi .sgt c8_i32_830 c0_i32_833
  let v2183 : BitVec 32 := Scalar.extui v2182
  let c0_i32_834 : BitVec 32 := 0#32
  let v2184 : BitVec 1 := Scalar.cmpi .slt c8_i32_830 c0_i32_834
  let v2185 : BitVec 32 := Scalar.extui v2184
  let v2186 : BitVec 32 := Scalar.subi v2183 v2185
  let v2187 : BitVec 1 := Scalar.cmpi .ne v2181 v2186
  let v2188 : BitVec 32 := Scalar.remsi v2173 c8_i32_830
  let c0_i32_835 : BitVec 32 := 0#32
  let v2189 : BitVec 1 := Scalar.cmpi .ne v2188 c0_i32_835
  let v2190 : BitVec 1 := Scalar.andi v2187 v2189
  let v2176 : BitVec 32 := Scalar.divsi v2173 c8_i32_830
  let c1_i32_836 : BitVec 32 := 1#32
  let v2191 : BitVec 32 := Scalar.subi v2176 c1_i32_836
  let v2192 : BitVec 32 := Scalar.select v2190 v2191 v2176
  let c8_i32_837 : BitVec 32 := 8#32
  let v2193 : BitVec 32 := Scalar.muli v2192 c8_i32_837
  let v2195 : Index := Scalar.indexCast v2193
  let c0_839 : Index := 0#32
  ![0, v2195.toNat, 0]

def k0_chk64 (v2173 : BitVec 32) : Prop :=
  (∀ a, (k0_off128 v2173) a + S1x40x256.size a ≤ S1x2048x256.size a)
theorem k0_off128_inb : ∀ (v2173 : BitVec 32) (k0_hw64 : k0_chk64 v2173), ∀ a, (k0_off128 v2173) a + S1x40x256.size a ≤ S1x2048x256.size a := fun v2173 k0_hw64 => k0_hw64

def cc0_transform_0 (i : grid0.Coords) : Fin 3 → Nat :=
  let arg0 : BitVec 32 := BitVec.ofNat 32 (i 0).val
  let c8_i32 : BitVec 32 := 8#32
  let v0 : BitVec 32 := Scalar.addi arg0 c8_i32
  let c4_i32 : BitVec 32 := 4#32
  let v1 : BitVec 32 := Scalar.subi v0 c4_i32
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c256_i32 : BitVec 32 := 256#32
  let v30 : BitVec 32 := Scalar.muli v29 c256_i32
  v30
def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_10 : BitVec 32 := 0#32
  let c0_i32_11 : BitVec 32 := 0#32
  ![v18.toNat, 0, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c4_i32 : BitVec 32 := 4#32
  let v19 : BitVec 32 := Scalar.addi v18 c4_i32
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c256_i32 : BitVec 32 := 256#32
  let v30 : BitVec 32 := Scalar.muli v29 c256_i32
  let v31 : BitVec 32 := v30
  ![v19.toNat, v31.toNat]
@[reducible] def k1_t1_loop : Scf.Loop 32 :=
  let c0_i32_27 : BitVec 32 := 0#32
  let c16_i32 : BitVec 32 := 16#32
  let v64 : BitVec 32 := Scalar.addi c0_i32_27 c16_i32
  let c1_i32_28 : BitVec 32 := 1#32
  ⟨c0_i32_27, v64, c1_i32_28⟩
def k1_mult2 (k1_t1 : Fin k1_t1_loop.trips) : BitVec 32 :=
  let c0_i32_27 : BitVec 32 := 0#32
  let c1_i32_28 : BitVec 32 := 1#32
  let arg16 : BitVec 32 := Scf.iv c0_i32_27 c1_i32_28 k1_t1
  let c16_i32_30 : BitVec 32 := 16#32
  let v66 : BitVec 32 := Scalar.muli arg16 c16_i32_30
  v66
def k1_off3 (k1_t1 : Fin k1_t1_loop.trips) : Fin 1 → Nat :=
  let c0_i32_27 : BitVec 32 := 0#32
  let c1_i32_28 : BitVec 32 := 1#32
  let arg16 : BitVec 32 := Scf.iv c0_i32_27 c1_i32_28 k1_t1
  let c16_i32_30 : BitVec 32 := 16#32
  let v66 : BitVec 32 := Scalar.muli arg16 c16_i32_30
  let v67 : BitVec 32 := v66
  let v68 : Index := Scalar.indexCast v67
  ![v68.toNat]
def k1_off4 (v74 : BitVec 32) : Fin 2 → Nat :=
  let v75 : Index := Scalar.indexCast v74
  let c0 : Index := 0#32
  ![v75.toNat, 0]

def k1_chk1 (v74 : BitVec 32) : Prop :=
  (∀ a, (k1_off4 v74) a + S1x16.size a ≤ S64x16.size a)
theorem k1_off4_inb : ∀ (v74 : BitVec 32) (k1_hw1 : k1_chk1 v74), ∀ a, (k1_off4 v74) a + S1x16.size a ≤ S64x16.size a := fun v74 k1_hw1 => k1_hw1

def k1_off5 (v78 : BitVec 32) : Fin 2 → Nat :=
  let v79 : Index := Scalar.indexCast v78
  let c0_32 : Index := 0#32
  ![v79.toNat, 0]

def k1_chk2 (v78 : BitVec 32) : Prop :=
  (∀ a, (k1_off5 v78) a + S1x16.size a ≤ S64x16.size a)
theorem k1_off5_inb : ∀ (v78 : BitVec 32) (k1_hw2 : k1_chk2 v78), ∀ a, (k1_off5 v78) a + S1x16.size a ≤ S64x16.size a := fun v78 k1_hw2 => k1_hw2

def k1_off6 (k1_t1 : Fin k1_t1_loop.trips) : Fin 2 → Nat :=
  let c0_i32_27 : BitVec 32 := 0#32
  let c1_i32_28 : BitVec 32 := 1#32
  let arg16 : BitVec 32 := Scf.iv c0_i32_27 c1_i32_28 k1_t1
  let c16_i32_30 : BitVec 32 := 16#32
  let v66 : BitVec 32 := Scalar.muli arg16 c16_i32_30
  let v67 : BitVec 32 := v66
  let c0_i32_31 : BitVec 32 := 0#32
  let v72 : BitVec 32 := Scalar.addi v67 c0_i32_31
  let v82 : Index := Scalar.indexCast v72
  let c0_33 : Index := 0#32
  ![v82.toNat, 0]
def k1_off7 (v86 : BitVec 32) : Fin 2 → Nat :=
  let v87 : Index := Scalar.indexCast v86
  let c0_35 : Index := 0#32
  ![v87.toNat, 0]

def k1_chk3 (v86 : BitVec 32) : Prop :=
  (∀ a, (k1_off7 v86) a + S1x16.size a ≤ S64x16.size a)
theorem k1_off7_inb : ∀ (v86 : BitVec 32) (k1_hw3 : k1_chk3 v86), ∀ a, (k1_off7 v86) a + S1x16.size a ≤ S64x16.size a := fun v86 k1_hw3 => k1_hw3

def k1_off8 (v90 : BitVec 32) : Fin 2 → Nat :=
  let v91 : Index := Scalar.indexCast v90
  let c0_36 : Index := 0#32
  ![v91.toNat, 0]

def k1_chk4 (v90 : BitVec 32) : Prop :=
  (∀ a, (k1_off8 v90) a + S1x16.size a ≤ S64x16.size a)
theorem k1_off8_inb : ∀ (v90 : BitVec 32) (k1_hw4 : k1_chk4 v90), ∀ a, (k1_off8 v90) a + S1x16.size a ≤ S64x16.size a := fun v90 k1_hw4 => k1_hw4

def k1_off9 (k1_t1 : Fin k1_t1_loop.trips) : Fin 2 → Nat :=
  let c0_i32_27 : BitVec 32 := 0#32
  let c1_i32_28 : BitVec 32 := 1#32
  let arg16 : BitVec 32 := Scf.iv c0_i32_27 c1_i32_28 k1_t1
  let c16_i32_30 : BitVec 32 := 16#32
  let v66 : BitVec 32 := Scalar.muli arg16 c16_i32_30
  let v67 : BitVec 32 := v66
  let c1_i32_34 : BitVec 32 := 1#32
  let v84 : BitVec 32 := Scalar.addi v67 c1_i32_34
  let v94 : Index := Scalar.indexCast v84
  let c0_37 : Index := 0#32
  ![v94.toNat, 0]
def k1_off10 (v98 : BitVec 32) : Fin 2 → Nat :=
  let v99 : Index := Scalar.indexCast v98
  let c0_39 : Index := 0#32
  ![v99.toNat, 0]

def k1_chk5 (v98 : BitVec 32) : Prop :=
  (∀ a, (k1_off10 v98) a + S1x16.size a ≤ S64x16.size a)
theorem k1_off10_inb : ∀ (v98 : BitVec 32) (k1_hw5 : k1_chk5 v98), ∀ a, (k1_off10 v98) a + S1x16.size a ≤ S64x16.size a := fun v98 k1_hw5 => k1_hw5

def k1_off11 (v102 : BitVec 32) : Fin 2 → Nat :=
  let v103 : Index := Scalar.indexCast v102
  let c0_40 : Index := 0#32
  ![v103.toNat, 0]

def k1_chk6 (v102 : BitVec 32) : Prop :=
  (∀ a, (k1_off11 v102) a + S1x16.size a ≤ S64x16.size a)
theorem k1_off11_inb : ∀ (v102 : BitVec 32) (k1_hw6 : k1_chk6 v102), ∀ a, (k1_off11 v102) a + S1x16.size a ≤ S64x16.size a := fun v102 k1_hw6 => k1_hw6

def k1_off12 (k1_t1 : Fin k1_t1_loop.trips) : Fin 2 → Nat :=
  let c0_i32_27 : BitVec 32 := 0#32
  let c1_i32_28 : BitVec 32 := 1#32
  let arg16 : BitVec 32 := Scf.iv c0_i32_27 c1_i32_28 k1_t1
  let c16_i32_30 : BitVec 32 := 16#32
  let v66 : BitVec 32 := Scalar.muli arg16 c16_i32_30
  let v67 : BitVec 32 := v66
  let c2_i32_38 : BitVec 32 := 2#32
  let v96 : BitVec 32 := Scalar.addi v67 c2_i32_38
  let v106 : Index := Scalar.indexCast v96
  let c0_41 : Index := 0#32
  ![v106.toNat, 0]
def k1_off13 (v110 : BitVec 32) : Fin 2 → Nat :=
  let v111 : Index := Scalar.indexCast v110
  let c0_42 : Index := 0#32
  ![v111.toNat, 0]

def k1_chk7 (v110 : BitVec 32) : Prop :=
  (∀ a, (k1_off13 v110) a + S1x16.size a ≤ S64x16.size a)
theorem k1_off13_inb : ∀ (v110 : BitVec 32) (k1_hw7 : k1_chk7 v110), ∀ a, (k1_off13 v110) a + S1x16.size a ≤ S64x16.size a := fun v110 k1_hw7 => k1_hw7

def k1_off14 (v114 : BitVec 32) : Fin 2 → Nat :=
  let v115 : Index := Scalar.indexCast v114
  let c0_43 : Index := 0#32
  ![v115.toNat, 0]

def k1_chk8 (v114 : BitVec 32) : Prop :=
  (∀ a, (k1_off14 v114) a + S1x16.size a ≤ S64x16.size a)
theorem k1_off14_inb : ∀ (v114 : BitVec 32) (k1_hw8 : k1_chk8 v114), ∀ a, (k1_off14 v114) a + S1x16.size a ≤ S64x16.size a := fun v114 k1_hw8 => k1_hw8

def k1_off15 (k1_t1 : Fin k1_t1_loop.trips) : Fin 2 → Nat :=
  let c0_i32_27 : BitVec 32 := 0#32
  let c1_i32_28 : BitVec 32 := 1#32
  let arg16 : BitVec 32 := Scf.iv c0_i32_27 c1_i32_28 k1_t1
  let c16_i32_30 : BitVec 32 := 16#32
  let v66 : BitVec 32 := Scalar.muli arg16 c16_i32_30
  let v67 : BitVec 32 := v66
  let c3_i32 : BitVec 32 := 3#32
  let v108 : BitVec 32 := Scalar.addi v67 c3_i32
  let v118 : Index := Scalar.indexCast v108
  let c0_44 : Index := 0#32
  ![v118.toNat, 0]
def k1_off16 (v122 : BitVec 32) : Fin 2 → Nat :=
  let v123 : Index := Scalar.indexCast v122
  let c0_46 : Index := 0#32
  ![v123.toNat, 0]

def k1_chk9 (v122 : BitVec 32) : Prop :=
  (∀ a, (k1_off16 v122) a + S1x16.size a ≤ S64x16.size a)
theorem k1_off16_inb : ∀ (v122 : BitVec 32) (k1_hw9 : k1_chk9 v122), ∀ a, (k1_off16 v122) a + S1x16.size a ≤ S64x16.size a := fun v122 k1_hw9 => k1_hw9

def k1_off17 (v126 : BitVec 32) : Fin 2 → Nat :=
  let v127 : Index := Scalar.indexCast v126
  let c0_47 : Index := 0#32
  ![v127.toNat, 0]

def k1_chk10 (v126 : BitVec 32) : Prop :=
  (∀ a, (k1_off17 v126) a + S1x16.size a ≤ S64x16.size a)
theorem k1_off17_inb : ∀ (v126 : BitVec 32) (k1_hw10 : k1_chk10 v126), ∀ a, (k1_off17 v126) a + S1x16.size a ≤ S64x16.size a := fun v126 k1_hw10 => k1_hw10

def k1_off18 (k1_t1 : Fin k1_t1_loop.trips) : Fin 2 → Nat :=
  let c0_i32_27 : BitVec 32 := 0#32
  let c1_i32_28 : BitVec 32 := 1#32
  let arg16 : BitVec 32 := Scf.iv c0_i32_27 c1_i32_28 k1_t1
  let c16_i32_30 : BitVec 32 := 16#32
  let v66 : BitVec 32 := Scalar.muli arg16 c16_i32_30
  let v67 : BitVec 32 := v66
  let c4_i32_45 : BitVec 32 := 4#32
  let v120 : BitVec 32 := Scalar.addi v67 c4_i32_45
  let v130 : Index := Scalar.indexCast v120
  let c0_48 : Index := 0#32
  ![v130.toNat, 0]
def k1_off19 (v134 : BitVec 32) : Fin 2 → Nat :=
  let v135 : Index := Scalar.indexCast v134
  let c0_49 : Index := 0#32
  ![v135.toNat, 0]

def k1_chk11 (v134 : BitVec 32) : Prop :=
  (∀ a, (k1_off19 v134) a + S1x16.size a ≤ S64x16.size a)
theorem k1_off19_inb : ∀ (v134 : BitVec 32) (k1_hw11 : k1_chk11 v134), ∀ a, (k1_off19 v134) a + S1x16.size a ≤ S64x16.size a := fun v134 k1_hw11 => k1_hw11

def k1_off20 (v138 : BitVec 32) : Fin 2 → Nat :=
  let v139 : Index := Scalar.indexCast v138
  let c0_50 : Index := 0#32
  ![v139.toNat, 0]

def k1_chk12 (v138 : BitVec 32) : Prop :=
  (∀ a, (k1_off20 v138) a + S1x16.size a ≤ S64x16.size a)
theorem k1_off20_inb : ∀ (v138 : BitVec 32) (k1_hw12 : k1_chk12 v138), ∀ a, (k1_off20 v138) a + S1x16.size a ≤ S64x16.size a := fun v138 k1_hw12 => k1_hw12

def k1_off21 (k1_t1 : Fin k1_t1_loop.trips) : Fin 2 → Nat :=
  let c0_i32_27 : BitVec 32 := 0#32
  let c1_i32_28 : BitVec 32 := 1#32
  let arg16 : BitVec 32 := Scf.iv c0_i32_27 c1_i32_28 k1_t1
  let c16_i32_30 : BitVec 32 := 16#32
  let v66 : BitVec 32 := Scalar.muli arg16 c16_i32_30
  let v67 : BitVec 32 := v66
  let c5_i32 : BitVec 32 := 5#32
  let v132 : BitVec 32 := Scalar.addi v67 c5_i32
  let v142 : Index := Scalar.indexCast v132
  let c0_51 : Index := 0#32
  ![v142.toNat, 0]
def k1_off22 (v146 : BitVec 32) : Fin 2 → Nat :=
  let v147 : Index := Scalar.indexCast v146
  let c0_52 : Index := 0#32
  ![v147.toNat, 0]

def k1_chk13 (v146 : BitVec 32) : Prop :=
  (∀ a, (k1_off22 v146) a + S1x16.size a ≤ S64x16.size a)
theorem k1_off22_inb : ∀ (v146 : BitVec 32) (k1_hw13 : k1_chk13 v146), ∀ a, (k1_off22 v146) a + S1x16.size a ≤ S64x16.size a := fun v146 k1_hw13 => k1_hw13

def k1_off23 (v150 : BitVec 32) : Fin 2 → Nat :=
  let v151 : Index := Scalar.indexCast v150
  let c0_53 : Index := 0#32
  ![v151.toNat, 0]

def k1_chk14 (v150 : BitVec 32) : Prop :=
  (∀ a, (k1_off23 v150) a + S1x16.size a ≤ S64x16.size a)
theorem k1_off23_inb : ∀ (v150 : BitVec 32) (k1_hw14 : k1_chk14 v150), ∀ a, (k1_off23 v150) a + S1x16.size a ≤ S64x16.size a := fun v150 k1_hw14 => k1_hw14

def k1_off24 (k1_t1 : Fin k1_t1_loop.trips) : Fin 2 → Nat :=
  let c0_i32_27 : BitVec 32 := 0#32
  let c1_i32_28 : BitVec 32 := 1#32
  let arg16 : BitVec 32 := Scf.iv c0_i32_27 c1_i32_28 k1_t1
  let c16_i32_30 : BitVec 32 := 16#32
  let v66 : BitVec 32 := Scalar.muli arg16 c16_i32_30
  let v67 : BitVec 32 := v66
  let c6_i32 : BitVec 32 := 6#32
  let v144 : BitVec 32 := Scalar.addi v67 c6_i32
  let v154 : Index := Scalar.indexCast v144
  let c0_54 : Index := 0#32
  ![v154.toNat, 0]
def k1_off25 (v158 : BitVec 32) : Fin 2 → Nat :=
  let v159 : Index := Scalar.indexCast v158
  let c0_55 : Index := 0#32
  ![v159.toNat, 0]

def k1_chk15 (v158 : BitVec 32) : Prop :=
  (∀ a, (k1_off25 v158) a + S1x16.size a ≤ S64x16.size a)
theorem k1_off25_inb : ∀ (v158 : BitVec 32) (k1_hw15 : k1_chk15 v158), ∀ a, (k1_off25 v158) a + S1x16.size a ≤ S64x16.size a := fun v158 k1_hw15 => k1_hw15

def k1_off26 (v162 : BitVec 32) : Fin 2 → Nat :=
  let v163 : Index := Scalar.indexCast v162
  let c0_56 : Index := 0#32
  ![v163.toNat, 0]

def k1_chk16 (v162 : BitVec 32) : Prop :=
  (∀ a, (k1_off26 v162) a + S1x16.size a ≤ S64x16.size a)
theorem k1_off26_inb : ∀ (v162 : BitVec 32) (k1_hw16 : k1_chk16 v162), ∀ a, (k1_off26 v162) a + S1x16.size a ≤ S64x16.size a := fun v162 k1_hw16 => k1_hw16

def k1_off27 (k1_t1 : Fin k1_t1_loop.trips) : Fin 2 → Nat :=
  let c0_i32_27 : BitVec 32 := 0#32
  let c1_i32_28 : BitVec 32 := 1#32
  let arg16 : BitVec 32 := Scf.iv c0_i32_27 c1_i32_28 k1_t1
  let c16_i32_30 : BitVec 32 := 16#32
  let v66 : BitVec 32 := Scalar.muli arg16 c16_i32_30
  let v67 : BitVec 32 := v66
  let c7_i32 : BitVec 32 := 7#32
  let v156 : BitVec 32 := Scalar.addi v67 c7_i32
  let v166 : Index := Scalar.indexCast v156
  let c0_57 : Index := 0#32
  ![v166.toNat, 0]
def k1_off28 (v170 : BitVec 32) : Fin 2 → Nat :=
  let v171 : Index := Scalar.indexCast v170
  let c0_59 : Index := 0#32
  ![v171.toNat, 0]

def k1_chk17 (v170 : BitVec 32) : Prop :=
  (∀ a, (k1_off28 v170) a + S1x16.size a ≤ S64x16.size a)
theorem k1_off28_inb : ∀ (v170 : BitVec 32) (k1_hw17 : k1_chk17 v170), ∀ a, (k1_off28 v170) a + S1x16.size a ≤ S64x16.size a := fun v170 k1_hw17 => k1_hw17

def k1_off29 (v174 : BitVec 32) : Fin 2 → Nat :=
  let v175 : Index := Scalar.indexCast v174
  let c0_60 : Index := 0#32
  ![v175.toNat, 0]

def k1_chk18 (v174 : BitVec 32) : Prop :=
  (∀ a, (k1_off29 v174) a + S1x16.size a ≤ S64x16.size a)
theorem k1_off29_inb : ∀ (v174 : BitVec 32) (k1_hw18 : k1_chk18 v174), ∀ a, (k1_off29 v174) a + S1x16.size a ≤ S64x16.size a := fun v174 k1_hw18 => k1_hw18

def k1_off30 (k1_t1 : Fin k1_t1_loop.trips) : Fin 2 → Nat :=
  let c0_i32_27 : BitVec 32 := 0#32
  let c1_i32_28 : BitVec 32 := 1#32
  let arg16 : BitVec 32 := Scf.iv c0_i32_27 c1_i32_28 k1_t1
  let c16_i32_30 : BitVec 32 := 16#32
  let v66 : BitVec 32 := Scalar.muli arg16 c16_i32_30
  let v67 : BitVec 32 := v66
  let c8_i32_58 : BitVec 32 := 8#32
  let v168 : BitVec 32 := Scalar.addi v67 c8_i32_58
  let v178 : Index := Scalar.indexCast v168
  let c0_61 : Index := 0#32
  ![v178.toNat, 0]
def k1_off31 (v182 : BitVec 32) : Fin 2 → Nat :=
  let v183 : Index := Scalar.indexCast v182
  let c0_62 : Index := 0#32
  ![v183.toNat, 0]

def k1_chk19 (v182 : BitVec 32) : Prop :=
  (∀ a, (k1_off31 v182) a + S1x16.size a ≤ S64x16.size a)
theorem k1_off31_inb : ∀ (v182 : BitVec 32) (k1_hw19 : k1_chk19 v182), ∀ a, (k1_off31 v182) a + S1x16.size a ≤ S64x16.size a := fun v182 k1_hw19 => k1_hw19

def k1_off32 (v186 : BitVec 32) : Fin 2 → Nat :=
  let v187 : Index := Scalar.indexCast v186
  let c0_63 : Index := 0#32
  ![v187.toNat, 0]

def k1_chk20 (v186 : BitVec 32) : Prop :=
  (∀ a, (k1_off32 v186) a + S1x16.size a ≤ S64x16.size a)
theorem k1_off32_inb : ∀ (v186 : BitVec 32) (k1_hw20 : k1_chk20 v186), ∀ a, (k1_off32 v186) a + S1x16.size a ≤ S64x16.size a := fun v186 k1_hw20 => k1_hw20

def k1_off33 (k1_t1 : Fin k1_t1_loop.trips) : Fin 2 → Nat :=
  let c0_i32_27 : BitVec 32 := 0#32
  let c1_i32_28 : BitVec 32 := 1#32
  let arg16 : BitVec 32 := Scf.iv c0_i32_27 c1_i32_28 k1_t1
  let c16_i32_30 : BitVec 32 := 16#32
  let v66 : BitVec 32 := Scalar.muli arg16 c16_i32_30
  let v67 : BitVec 32 := v66
  let c9_i32 : BitVec 32 := 9#32
  let v180 : BitVec 32 := Scalar.addi v67 c9_i32
  let v190 : Index := Scalar.indexCast v180
  let c0_64 : Index := 0#32
  ![v190.toNat, 0]
def k1_off34 (v194 : BitVec 32) : Fin 2 → Nat :=
  let v195 : Index := Scalar.indexCast v194
  let c0_65 : Index := 0#32
  ![v195.toNat, 0]

def k1_chk21 (v194 : BitVec 32) : Prop :=
  (∀ a, (k1_off34 v194) a + S1x16.size a ≤ S64x16.size a)
theorem k1_off34_inb : ∀ (v194 : BitVec 32) (k1_hw21 : k1_chk21 v194), ∀ a, (k1_off34 v194) a + S1x16.size a ≤ S64x16.size a := fun v194 k1_hw21 => k1_hw21

def k1_off35 (v198 : BitVec 32) : Fin 2 → Nat :=
  let v199 : Index := Scalar.indexCast v198
  let c0_66 : Index := 0#32
  ![v199.toNat, 0]

def k1_chk22 (v198 : BitVec 32) : Prop :=
  (∀ a, (k1_off35 v198) a + S1x16.size a ≤ S64x16.size a)
theorem k1_off35_inb : ∀ (v198 : BitVec 32) (k1_hw22 : k1_chk22 v198), ∀ a, (k1_off35 v198) a + S1x16.size a ≤ S64x16.size a := fun v198 k1_hw22 => k1_hw22

def k1_off36 (k1_t1 : Fin k1_t1_loop.trips) : Fin 2 → Nat :=
  let c0_i32_27 : BitVec 32 := 0#32
  let c1_i32_28 : BitVec 32 := 1#32
  let arg16 : BitVec 32 := Scf.iv c0_i32_27 c1_i32_28 k1_t1
  let c16_i32_30 : BitVec 32 := 16#32
  let v66 : BitVec 32 := Scalar.muli arg16 c16_i32_30
  let v67 : BitVec 32 := v66
  let c10_i32 : BitVec 32 := 10#32
  let v192 : BitVec 32 := Scalar.addi v67 c10_i32
  let v202 : Index := Scalar.indexCast v192
  let c0_67 : Index := 0#32
  ![v202.toNat, 0]
def k1_off37 (v206 : BitVec 32) : Fin 2 → Nat :=
  let v207 : Index := Scalar.indexCast v206
  let c0_68 : Index := 0#32
  ![v207.toNat, 0]

def k1_chk23 (v206 : BitVec 32) : Prop :=
  (∀ a, (k1_off37 v206) a + S1x16.size a ≤ S64x16.size a)
theorem k1_off37_inb : ∀ (v206 : BitVec 32) (k1_hw23 : k1_chk23 v206), ∀ a, (k1_off37 v206) a + S1x16.size a ≤ S64x16.size a := fun v206 k1_hw23 => k1_hw23

def k1_off38 (v210 : BitVec 32) : Fin 2 → Nat :=
  let v211 : Index := Scalar.indexCast v210
  let c0_69 : Index := 0#32
  ![v211.toNat, 0]

def k1_chk24 (v210 : BitVec 32) : Prop :=
  (∀ a, (k1_off38 v210) a + S1x16.size a ≤ S64x16.size a)
theorem k1_off38_inb : ∀ (v210 : BitVec 32) (k1_hw24 : k1_chk24 v210), ∀ a, (k1_off38 v210) a + S1x16.size a ≤ S64x16.size a := fun v210 k1_hw24 => k1_hw24

def k1_off39 (k1_t1 : Fin k1_t1_loop.trips) : Fin 2 → Nat :=
  let c0_i32_27 : BitVec 32 := 0#32
  let c1_i32_28 : BitVec 32 := 1#32
  let arg16 : BitVec 32 := Scf.iv c0_i32_27 c1_i32_28 k1_t1
  let c16_i32_30 : BitVec 32 := 16#32
  let v66 : BitVec 32 := Scalar.muli arg16 c16_i32_30
  let v67 : BitVec 32 := v66
  let c11_i32 : BitVec 32 := 11#32
  let v204 : BitVec 32 := Scalar.addi v67 c11_i32
  let v214 : Index := Scalar.indexCast v204
  let c0_70 : Index := 0#32
  ![v214.toNat, 0]
def k1_off40 (v218 : BitVec 32) : Fin 2 → Nat :=
  let v219 : Index := Scalar.indexCast v218
  let c0_71 : Index := 0#32
  ![v219.toNat, 0]

def k1_chk25 (v218 : BitVec 32) : Prop :=
  (∀ a, (k1_off40 v218) a + S1x16.size a ≤ S64x16.size a)
theorem k1_off40_inb : ∀ (v218 : BitVec 32) (k1_hw25 : k1_chk25 v218), ∀ a, (k1_off40 v218) a + S1x16.size a ≤ S64x16.size a := fun v218 k1_hw25 => k1_hw25

def k1_off41 (v222 : BitVec 32) : Fin 2 → Nat :=
  let v223 : Index := Scalar.indexCast v222
  let c0_72 : Index := 0#32
  ![v223.toNat, 0]

def k1_chk26 (v222 : BitVec 32) : Prop :=
  (∀ a, (k1_off41 v222) a + S1x16.size a ≤ S64x16.size a)
theorem k1_off41_inb : ∀ (v222 : BitVec 32) (k1_hw26 : k1_chk26 v222), ∀ a, (k1_off41 v222) a + S1x16.size a ≤ S64x16.size a := fun v222 k1_hw26 => k1_hw26

def k1_off42 (k1_t1 : Fin k1_t1_loop.trips) : Fin 2 → Nat :=
  let c0_i32_27 : BitVec 32 := 0#32
  let c1_i32_28 : BitVec 32 := 1#32
  let arg16 : BitVec 32 := Scf.iv c0_i32_27 c1_i32_28 k1_t1
  let c16_i32_30 : BitVec 32 := 16#32
  let v66 : BitVec 32 := Scalar.muli arg16 c16_i32_30
  let v67 : BitVec 32 := v66
  let c12_i32 : BitVec 32 := 12#32
  let v216 : BitVec 32 := Scalar.addi v67 c12_i32
  let v226 : Index := Scalar.indexCast v216
  let c0_73 : Index := 0#32
  ![v226.toNat, 0]
def k1_off43 (v230 : BitVec 32) : Fin 2 → Nat :=
  let v231 : Index := Scalar.indexCast v230
  let c0_74 : Index := 0#32
  ![v231.toNat, 0]

def k1_chk27 (v230 : BitVec 32) : Prop :=
  (∀ a, (k1_off43 v230) a + S1x16.size a ≤ S64x16.size a)
theorem k1_off43_inb : ∀ (v230 : BitVec 32) (k1_hw27 : k1_chk27 v230), ∀ a, (k1_off43 v230) a + S1x16.size a ≤ S64x16.size a := fun v230 k1_hw27 => k1_hw27

def k1_off44 (v234 : BitVec 32) : Fin 2 → Nat :=
  let v235 : Index := Scalar.indexCast v234
  let c0_75 : Index := 0#32
  ![v235.toNat, 0]

def k1_chk28 (v234 : BitVec 32) : Prop :=
  (∀ a, (k1_off44 v234) a + S1x16.size a ≤ S64x16.size a)
theorem k1_off44_inb : ∀ (v234 : BitVec 32) (k1_hw28 : k1_chk28 v234), ∀ a, (k1_off44 v234) a + S1x16.size a ≤ S64x16.size a := fun v234 k1_hw28 => k1_hw28

def k1_off45 (k1_t1 : Fin k1_t1_loop.trips) : Fin 2 → Nat :=
  let c0_i32_27 : BitVec 32 := 0#32
  let c1_i32_28 : BitVec 32 := 1#32
  let arg16 : BitVec 32 := Scf.iv c0_i32_27 c1_i32_28 k1_t1
  let c16_i32_30 : BitVec 32 := 16#32
  let v66 : BitVec 32 := Scalar.muli arg16 c16_i32_30
  let v67 : BitVec 32 := v66
  let c13_i32 : BitVec 32 := 13#32
  let v228 : BitVec 32 := Scalar.addi v67 c13_i32
  let v238 : Index := Scalar.indexCast v228
  let c0_76 : Index := 0#32
  ![v238.toNat, 0]
def k1_off46 (v242 : BitVec 32) : Fin 2 → Nat :=
  let v243 : Index := Scalar.indexCast v242
  let c0_77 : Index := 0#32
  ![v243.toNat, 0]

def k1_chk29 (v242 : BitVec 32) : Prop :=
  (∀ a, (k1_off46 v242) a + S1x16.size a ≤ S64x16.size a)
theorem k1_off46_inb : ∀ (v242 : BitVec 32) (k1_hw29 : k1_chk29 v242), ∀ a, (k1_off46 v242) a + S1x16.size a ≤ S64x16.size a := fun v242 k1_hw29 => k1_hw29

def k1_off47 (v246 : BitVec 32) : Fin 2 → Nat :=
  let v247 : Index := Scalar.indexCast v246
  let c0_78 : Index := 0#32
  ![v247.toNat, 0]

def k1_chk30 (v246 : BitVec 32) : Prop :=
  (∀ a, (k1_off47 v246) a + S1x16.size a ≤ S64x16.size a)
theorem k1_off47_inb : ∀ (v246 : BitVec 32) (k1_hw30 : k1_chk30 v246), ∀ a, (k1_off47 v246) a + S1x16.size a ≤ S64x16.size a := fun v246 k1_hw30 => k1_hw30

def k1_off48 (k1_t1 : Fin k1_t1_loop.trips) : Fin 2 → Nat :=
  let c0_i32_27 : BitVec 32 := 0#32
  let c1_i32_28 : BitVec 32 := 1#32
  let arg16 : BitVec 32 := Scf.iv c0_i32_27 c1_i32_28 k1_t1
  let c16_i32_30 : BitVec 32 := 16#32
  let v66 : BitVec 32 := Scalar.muli arg16 c16_i32_30
  let v67 : BitVec 32 := v66
  let c14_i32 : BitVec 32 := 14#32
  let v240 : BitVec 32 := Scalar.addi v67 c14_i32
  let v250 : Index := Scalar.indexCast v240
  let c0_79 : Index := 0#32
  ![v250.toNat, 0]
def k1_off49 (v254 : BitVec 32) : Fin 2 → Nat :=
  let v255 : Index := Scalar.indexCast v254
  let c0_80 : Index := 0#32
  ![v255.toNat, 0]

def k1_chk31 (v254 : BitVec 32) : Prop :=
  (∀ a, (k1_off49 v254) a + S1x16.size a ≤ S64x16.size a)
theorem k1_off49_inb : ∀ (v254 : BitVec 32) (k1_hw31 : k1_chk31 v254), ∀ a, (k1_off49 v254) a + S1x16.size a ≤ S64x16.size a := fun v254 k1_hw31 => k1_hw31

def k1_off50 (v258 : BitVec 32) : Fin 2 → Nat :=
  let v259 : Index := Scalar.indexCast v258
  let c0_81 : Index := 0#32
  ![v259.toNat, 0]

def k1_chk32 (v258 : BitVec 32) : Prop :=
  (∀ a, (k1_off50 v258) a + S1x16.size a ≤ S64x16.size a)
theorem k1_off50_inb : ∀ (v258 : BitVec 32) (k1_hw32 : k1_chk32 v258), ∀ a, (k1_off50 v258) a + S1x16.size a ≤ S64x16.size a := fun v258 k1_hw32 => k1_hw32

def k1_off51 (k1_t1 : Fin k1_t1_loop.trips) : Fin 2 → Nat :=
  let c0_i32_27 : BitVec 32 := 0#32
  let c1_i32_28 : BitVec 32 := 1#32
  let arg16 : BitVec 32 := Scf.iv c0_i32_27 c1_i32_28 k1_t1
  let c16_i32_30 : BitVec 32 := 16#32
  let v66 : BitVec 32 := Scalar.muli arg16 c16_i32_30
  let v67 : BitVec 32 := v66
  let c15_i32 : BitVec 32 := 15#32
  let v252 : BitVec 32 := Scalar.addi v67 c15_i32
  let v262 : Index := Scalar.indexCast v252
  let c0_82 : Index := 0#32
  ![v262.toNat, 0]
def k1_off52 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c256_i32 : BitVec 32 := 256#32
  let v30 : BitVec 32 := Scalar.muli v29 c256_i32
  let v31 : BitVec 32 := v30
  let c0_i32_30_r0 : BitVec 32 := 0#32
  ![v18.toNat, v31.toNat, 0]
abbrev grid2 : Pipeline.Grid := ⟨1, ![4], ![false]⟩

abbrev pre2 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 2 → Nat :=
  let arg0 : BitVec 32 := BitVec.ofNat 32 (i 0).val
  let v1 : Index := Scalar.indexCast arg0
  let c0 : Index := 0#32
  ![v1.toNat, 0]
def k2_off2 (v2 : BitVec 32) : Fin 3 → Nat :=
  let c0_6 : Index := 0#32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v2 c8_i32
  let c0_i32_4 : BitVec 32 := 0#32
  let v18 : BitVec 1 := Scalar.cmpi .ne v17 c0_i32_4
  let v19 : BitVec 1 := Scalar.andi v16 v18
  let v5 : BitVec 32 := Scalar.divsi v2 c8_i32
  let c1_i32 : BitVec 32 := 1#32
  let v20 : BitVec 32 := Scalar.subi v5 c1_i32
  let v21 : BitVec 32 := Scalar.select v19 v20 v5
  let c8_i32_5 : BitVec 32 := 8#32
  let v22 : BitVec 32 := Scalar.muli v21 c8_i32_5
  let v24 : Index := Scalar.indexCast v22
  let c0_7 : Index := 0#32
  ![0, v24.toNat, 0]

def k2_chk1 (v2 : BitVec 32) : Prop :=
  (∀ a, (k2_off2 v2) a + S1x40x256.size a ≤ S1x2048x256.size a)
theorem k2_off2_inb : ∀ (v2 : BitVec 32) (k2_hw1 : k2_chk1 v2), ∀ a, (k2_off2 v2) a + S1x40x256.size a ≤ S1x2048x256.size a := fun v2 k2_hw1 => k2_hw1

def k2_off3 (i : grid2.Coords) : Fin 2 → Nat :=
  let arg0 : BitVec 32 := BitVec.ofNat 32 (i 0).val
  let v35 : Index := Scalar.indexCast arg0
  let c1 : Index := 1#32
  ![v35.toNat, 1]
def k2_off4 (v36 : BitVec 32) : Fin 3 → Nat :=
  let c0_18 : Index := 0#32
  let c0_i32_11 : BitVec 32 := 0#32
  let v40 : BitVec 1 := Scalar.cmpi .sgt v36 c0_i32_11
  let v41 : BitVec 32 := Scalar.extui v40
  let c0_i32_12 : BitVec 32 := 0#32
  let v42 : BitVec 1 := Scalar.cmpi .slt v36 c0_i32_12
  let v43 : BitVec 32 := Scalar.extui v42
  let v44 : BitVec 32 := Scalar.subi v41 v43
  let c8_i32_10 : BitVec 32 := 8#32
  let c0_i32_13 : BitVec 32 := 0#32
  let v45 : BitVec 1 := Scalar.cmpi .sgt c8_i32_10 c0_i32_13
  let v46 : BitVec 32 := Scalar.extui v45
  let c0_i32_14 : BitVec 32 := 0#32
  let v47 : BitVec 1 := Scalar.cmpi .slt c8_i32_10 c0_i32_14
  let v48 : BitVec 32 := Scalar.extui v47
  let v49 : BitVec 32 := Scalar.subi v46 v48
  let v50 : BitVec 1 := Scalar.cmpi .ne v44 v49
  let v51 : BitVec 32 := Scalar.remsi v36 c8_i32_10
  let c0_i32_15 : BitVec 32 := 0#32
  let v52 : BitVec 1 := Scalar.cmpi .ne v51 c0_i32_15
  let v53 : BitVec 1 := Scalar.andi v50 v52
  let v39 : BitVec 32 := Scalar.divsi v36 c8_i32_10
  let c1_i32_16 : BitVec 32 := 1#32
  let v54 : BitVec 32 := Scalar.subi v39 c1_i32_16
  let v55 : BitVec 32 := Scalar.select v53 v54 v39
  let c8_i32_17 : BitVec 32 := 8#32
  let v56 : BitVec 32 := Scalar.muli v55 c8_i32_17
  let v58 : Index := Scalar.indexCast v56
  let c0_19 : Index := 0#32
  ![0, v58.toNat, 0]

def k2_chk2 (v36 : BitVec 32) : Prop :=
  (∀ a, (k2_off4 v36) a + S1x40x256.size a ≤ S1x2048x256.size a)
theorem k2_off4_inb : ∀ (v36 : BitVec 32) (k2_hw2 : k2_chk2 v36), ∀ a, (k2_off4 v36) a + S1x40x256.size a ≤ S1x2048x256.size a := fun v36 k2_hw2 => k2_hw2

def k2_off5 (i : grid2.Coords) : Fin 2 → Nat :=
  let arg0 : BitVec 32 := BitVec.ofNat 32 (i 0).val
  let v69 : Index := Scalar.indexCast arg0
  let c2 : Index := 2#32
  ![v69.toNat, 2]
def k2_off6 (v70 : BitVec 32) : Fin 3 → Nat :=
  let c0_31 : Index := 0#32
  let c0_i32_24 : BitVec 32 := 0#32
  let v74 : BitVec 1 := Scalar.cmpi .sgt v70 c0_i32_24
  let v75 : BitVec 32 := Scalar.extui v74
  let c0_i32_25 : BitVec 32 := 0#32
  let v76 : BitVec 1 := Scalar.cmpi .slt v70 c0_i32_25
  let v77 : BitVec 32 := Scalar.extui v76
  let v78 : BitVec 32 := Scalar.subi v75 v77
  let c8_i32_23 : BitVec 32 := 8#32
  let c0_i32_26 : BitVec 32 := 0#32
  let v79 : BitVec 1 := Scalar.cmpi .sgt c8_i32_23 c0_i32_26
  let v80 : BitVec 32 := Scalar.extui v79
  let c0_i32_27 : BitVec 32 := 0#32
  let v81 : BitVec 1 := Scalar.cmpi .slt c8_i32_23 c0_i32_27
  let v82 : BitVec 32 := Scalar.extui v81
  let v83 : BitVec 32 := Scalar.subi v80 v82
  let v84 : BitVec 1 := Scalar.cmpi .ne v78 v83
  let v85 : BitVec 32 := Scalar.remsi v70 c8_i32_23
  let c0_i32_28 : BitVec 32 := 0#32
  let v86 : BitVec 1 := Scalar.cmpi .ne v85 c0_i32_28
  let v87 : BitVec 1 := Scalar.andi v84 v86
  let v73 : BitVec 32 := Scalar.divsi v70 c8_i32_23
  let c1_i32_29 : BitVec 32 := 1#32
  let v88 : BitVec 32 := Scalar.subi v73 c1_i32_29
  let v89 : BitVec 32 := Scalar.select v87 v88 v73
  let c8_i32_30 : BitVec 32 := 8#32
  let v90 : BitVec 32 := Scalar.muli v89 c8_i32_30
  let v92 : Index := Scalar.indexCast v90
  let c0_32 : Index := 0#32
  ![0, v92.toNat, 0]

def k2_chk3 (v70 : BitVec 32) : Prop :=
  (∀ a, (k2_off6 v70) a + S1x40x256.size a ≤ S1x2048x256.size a)
theorem k2_off6_inb : ∀ (v70 : BitVec 32) (k2_hw3 : k2_chk3 v70), ∀ a, (k2_off6 v70) a + S1x40x256.size a ≤ S1x2048x256.size a := fun v70 k2_hw3 => k2_hw3

def k2_off7 (i : grid2.Coords) : Fin 2 → Nat :=
  let arg0 : BitVec 32 := BitVec.ofNat 32 (i 0).val
  let v103 : Index := Scalar.indexCast arg0
  let c3 : Index := 3#32
  ![v103.toNat, 3]
def k2_off8 (v104 : BitVec 32) : Fin 3 → Nat :=
  let c0_44 : Index := 0#32
  let c0_i32_37 : BitVec 32 := 0#32
  let v108 : BitVec 1 := Scalar.cmpi .sgt v104 c0_i32_37
  let v109 : BitVec 32 := Scalar.extui v108
  let c0_i32_38 : BitVec 32 := 0#32
  let v110 : BitVec 1 := Scalar.cmpi .slt v104 c0_i32_38
  let v111 : BitVec 32 := Scalar.extui v110
  let v112 : BitVec 32 := Scalar.subi v109 v111
  let c8_i32_36 : BitVec 32 := 8#32
  let c0_i32_39 : BitVec 32 := 0#32
  let v113 : BitVec 1 := Scalar.cmpi .sgt c8_i32_36 c0_i32_39
  let v114 : BitVec 32 := Scalar.extui v113
  let c0_i32_40 : BitVec 32 := 0#32
  let v115 : BitVec 1 := Scalar.cmpi .slt c8_i32_36 c0_i32_40
  let v116 : BitVec 32 := Scalar.extui v115
  let v117 : BitVec 32 := Scalar.subi v114 v116
  let v118 : BitVec 1 := Scalar.cmpi .ne v112 v117
  let v119 : BitVec 32 := Scalar.remsi v104 c8_i32_36
  let c0_i32_41 : BitVec 32 := 0#32
  let v120 : BitVec 1 := Scalar.cmpi .ne v119 c0_i32_41
  let v121 : BitVec 1 := Scalar.andi v118 v120
  let v107 : BitVec 32 := Scalar.divsi v104 c8_i32_36
  let c1_i32_42 : BitVec 32 := 1#32
  let v122 : BitVec 32 := Scalar.subi v107 c1_i32_42
  let v123 : BitVec 32 := Scalar.select v121 v122 v107
  let c8_i32_43 : BitVec 32 := 8#32
  let v124 : BitVec 32 := Scalar.muli v123 c8_i32_43
  let v126 : Index := Scalar.indexCast v124
  let c0_45 : Index := 0#32
  ![0, v126.toNat, 0]

def k2_chk4 (v104 : BitVec 32) : Prop :=
  (∀ a, (k2_off8 v104) a + S1x40x256.size a ≤ S1x2048x256.size a)
theorem k2_off8_inb : ∀ (v104 : BitVec 32) (k2_hw4 : k2_chk4 v104), ∀ a, (k2_off8 v104) a + S1x40x256.size a ≤ S1x2048x256.size a := fun v104 k2_hw4 => k2_hw4

def k2_off9 (i : grid2.Coords) : Fin 2 → Nat :=
  let arg0 : BitVec 32 := BitVec.ofNat 32 (i 0).val
  let v137 : Index := Scalar.indexCast arg0
  let c4 : Index := 4#32
  ![v137.toNat, 4]
def k2_off10 (v138 : BitVec 32) : Fin 3 → Nat :=
  let c0_57 : Index := 0#32
  let c0_i32_50 : BitVec 32 := 0#32
  let v142 : BitVec 1 := Scalar.cmpi .sgt v138 c0_i32_50
  let v143 : BitVec 32 := Scalar.extui v142
  let c0_i32_51 : BitVec 32 := 0#32
  let v144 : BitVec 1 := Scalar.cmpi .slt v138 c0_i32_51
  let v145 : BitVec 32 := Scalar.extui v144
  let v146 : BitVec 32 := Scalar.subi v143 v145
  let c8_i32_49 : BitVec 32 := 8#32
  let c0_i32_52 : BitVec 32 := 0#32
  let v147 : BitVec 1 := Scalar.cmpi .sgt c8_i32_49 c0_i32_52
  let v148 : BitVec 32 := Scalar.extui v147
  let c0_i32_53 : BitVec 32 := 0#32
  let v149 : BitVec 1 := Scalar.cmpi .slt c8_i32_49 c0_i32_53
  let v150 : BitVec 32 := Scalar.extui v149
  let v151 : BitVec 32 := Scalar.subi v148 v150
  let v152 : BitVec 1 := Scalar.cmpi .ne v146 v151
  let v153 : BitVec 32 := Scalar.remsi v138 c8_i32_49
  let c0_i32_54 : BitVec 32 := 0#32
  let v154 : BitVec 1 := Scalar.cmpi .ne v153 c0_i32_54
  let v155 : BitVec 1 := Scalar.andi v152 v154
  let v141 : BitVec 32 := Scalar.divsi v138 c8_i32_49
  let c1_i32_55 : BitVec 32 := 1#32
  let v156 : BitVec 32 := Scalar.subi v141 c1_i32_55
  let v157 : BitVec 32 := Scalar.select v155 v156 v141
  let c8_i32_56 : BitVec 32 := 8#32
  let v158 : BitVec 32 := Scalar.muli v157 c8_i32_56
  let v160 : Index := Scalar.indexCast v158
  let c0_58 : Index := 0#32
  ![0, v160.toNat, 0]

def k2_chk5 (v138 : BitVec 32) : Prop :=
  (∀ a, (k2_off10 v138) a + S1x40x256.size a ≤ S1x2048x256.size a)
theorem k2_off10_inb : ∀ (v138 : BitVec 32) (k2_hw5 : k2_chk5 v138), ∀ a, (k2_off10 v138) a + S1x40x256.size a ≤ S1x2048x256.size a := fun v138 k2_hw5 => k2_hw5

def k2_off11 (i : grid2.Coords) : Fin 2 → Nat :=
  let arg0 : BitVec 32 := BitVec.ofNat 32 (i 0).val
  let v171 : Index := Scalar.indexCast arg0
  let c5 : Index := 5#32
  ![v171.toNat, 5]
def k2_off12 (v172 : BitVec 32) : Fin 3 → Nat :=
  let c0_70 : Index := 0#32
  let c0_i32_63 : BitVec 32 := 0#32
  let v176 : BitVec 1 := Scalar.cmpi .sgt v172 c0_i32_63
  let v177 : BitVec 32 := Scalar.extui v176
  let c0_i32_64 : BitVec 32 := 0#32
  let v178 : BitVec 1 := Scalar.cmpi .slt v172 c0_i32_64
  let v179 : BitVec 32 := Scalar.extui v178
  let v180 : BitVec 32 := Scalar.subi v177 v179
  let c8_i32_62 : BitVec 32 := 8#32
  let c0_i32_65 : BitVec 32 := 0#32
  let v181 : BitVec 1 := Scalar.cmpi .sgt c8_i32_62 c0_i32_65
  let v182 : BitVec 32 := Scalar.extui v181
  let c0_i32_66 : BitVec 32 := 0#32
  let v183 : BitVec 1 := Scalar.cmpi .slt c8_i32_62 c0_i32_66
  let v184 : BitVec 32 := Scalar.extui v183
  let v185 : BitVec 32 := Scalar.subi v182 v184
  let v186 : BitVec 1 := Scalar.cmpi .ne v180 v185
  let v187 : BitVec 32 := Scalar.remsi v172 c8_i32_62
  let c0_i32_67 : BitVec 32 := 0#32
  let v188 : BitVec 1 := Scalar.cmpi .ne v187 c0_i32_67
  let v189 : BitVec 1 := Scalar.andi v186 v188
  let v175 : BitVec 32 := Scalar.divsi v172 c8_i32_62
  let c1_i32_68 : BitVec 32 := 1#32
  let v190 : BitVec 32 := Scalar.subi v175 c1_i32_68
  let v191 : BitVec 32 := Scalar.select v189 v190 v175
  let c8_i32_69 : BitVec 32 := 8#32
  let v192 : BitVec 32 := Scalar.muli v191 c8_i32_69
  let v194 : Index := Scalar.indexCast v192
  let c0_71 : Index := 0#32
  ![0, v194.toNat, 0]

def k2_chk6 (v172 : BitVec 32) : Prop :=
  (∀ a, (k2_off12 v172) a + S1x40x256.size a ≤ S1x2048x256.size a)
theorem k2_off12_inb : ∀ (v172 : BitVec 32) (k2_hw6 : k2_chk6 v172), ∀ a, (k2_off12 v172) a + S1x40x256.size a ≤ S1x2048x256.size a := fun v172 k2_hw6 => k2_hw6

def k2_off13 (i : grid2.Coords) : Fin 2 → Nat :=
  let arg0 : BitVec 32 := BitVec.ofNat 32 (i 0).val
  let v205 : Index := Scalar.indexCast arg0
  let c6 : Index := 6#32
  ![v205.toNat, 6]
def k2_off14 (v206 : BitVec 32) : Fin 3 → Nat :=
  let c0_83 : Index := 0#32
  let c0_i32_76 : BitVec 32 := 0#32
  let v210 : BitVec 1 := Scalar.cmpi .sgt v206 c0_i32_76
  let v211 : BitVec 32 := Scalar.extui v210
  let c0_i32_77 : BitVec 32 := 0#32
  let v212 : BitVec 1 := Scalar.cmpi .slt v206 c0_i32_77
  let v213 : BitVec 32 := Scalar.extui v212
  let v214 : BitVec 32 := Scalar.subi v211 v213
  let c8_i32_75 : BitVec 32 := 8#32
  let c0_i32_78 : BitVec 32 := 0#32
  let v215 : BitVec 1 := Scalar.cmpi .sgt c8_i32_75 c0_i32_78
  let v216 : BitVec 32 := Scalar.extui v215
  let c0_i32_79 : BitVec 32 := 0#32
  let v217 : BitVec 1 := Scalar.cmpi .slt c8_i32_75 c0_i32_79
  let v218 : BitVec 32 := Scalar.extui v217
  let v219 : BitVec 32 := Scalar.subi v216 v218
  let v220 : BitVec 1 := Scalar.cmpi .ne v214 v219
  let v221 : BitVec 32 := Scalar.remsi v206 c8_i32_75
  let c0_i32_80 : BitVec 32 := 0#32
  let v222 : BitVec 1 := Scalar.cmpi .ne v221 c0_i32_80
  let v223 : BitVec 1 := Scalar.andi v220 v222
  let v209 : BitVec 32 := Scalar.divsi v206 c8_i32_75
  let c1_i32_81 : BitVec 32 := 1#32
  let v224 : BitVec 32 := Scalar.subi v209 c1_i32_81
  let v225 : BitVec 32 := Scalar.select v223 v224 v209
  let c8_i32_82 : BitVec 32 := 8#32
  let v226 : BitVec 32 := Scalar.muli v225 c8_i32_82
  let v228 : Index := Scalar.indexCast v226
  let c0_84 : Index := 0#32
  ![0, v228.toNat, 0]

def k2_chk7 (v206 : BitVec 32) : Prop :=
  (∀ a, (k2_off14 v206) a + S1x40x256.size a ≤ S1x2048x256.size a)
theorem k2_off14_inb : ∀ (v206 : BitVec 32) (k2_hw7 : k2_chk7 v206), ∀ a, (k2_off14 v206) a + S1x40x256.size a ≤ S1x2048x256.size a := fun v206 k2_hw7 => k2_hw7

def k2_off15 (i : grid2.Coords) : Fin 2 → Nat :=
  let arg0 : BitVec 32 := BitVec.ofNat 32 (i 0).val
  let v239 : Index := Scalar.indexCast arg0
  let c7 : Index := 7#32
  ![v239.toNat, 7]
def k2_off16 (v240 : BitVec 32) : Fin 3 → Nat :=
  let c0_96 : Index := 0#32
  let c0_i32_89 : BitVec 32 := 0#32
  let v244 : BitVec 1 := Scalar.cmpi .sgt v240 c0_i32_89
  let v245 : BitVec 32 := Scalar.extui v244
  let c0_i32_90 : BitVec 32 := 0#32
  let v246 : BitVec 1 := Scalar.cmpi .slt v240 c0_i32_90
  let v247 : BitVec 32 := Scalar.extui v246
  let v248 : BitVec 32 := Scalar.subi v245 v247
  let c8_i32_88 : BitVec 32 := 8#32
  let c0_i32_91 : BitVec 32 := 0#32
  let v249 : BitVec 1 := Scalar.cmpi .sgt c8_i32_88 c0_i32_91
  let v250 : BitVec 32 := Scalar.extui v249
  let c0_i32_92 : BitVec 32 := 0#32
  let v251 : BitVec 1 := Scalar.cmpi .slt c8_i32_88 c0_i32_92
  let v252 : BitVec 32 := Scalar.extui v251
  let v253 : BitVec 32 := Scalar.subi v250 v252
  let v254 : BitVec 1 := Scalar.cmpi .ne v248 v253
  let v255 : BitVec 32 := Scalar.remsi v240 c8_i32_88
  let c0_i32_93 : BitVec 32 := 0#32
  let v256 : BitVec 1 := Scalar.cmpi .ne v255 c0_i32_93
  let v257 : BitVec 1 := Scalar.andi v254 v256
  let v243 : BitVec 32 := Scalar.divsi v240 c8_i32_88
  let c1_i32_94 : BitVec 32 := 1#32
  let v258 : BitVec 32 := Scalar.subi v243 c1_i32_94
  let v259 : BitVec 32 := Scalar.select v257 v258 v243
  let c8_i32_95 : BitVec 32 := 8#32
  let v260 : BitVec 32 := Scalar.muli v259 c8_i32_95
  let v262 : Index := Scalar.indexCast v260
  let c0_97 : Index := 0#32
  ![0, v262.toNat, 0]

def k2_chk8 (v240 : BitVec 32) : Prop :=
  (∀ a, (k2_off16 v240) a + S1x40x256.size a ≤ S1x2048x256.size a)
theorem k2_off16_inb : ∀ (v240 : BitVec 32) (k2_hw8 : k2_chk8 v240), ∀ a, (k2_off16 v240) a + S1x40x256.size a ≤ S1x2048x256.size a := fun v240 k2_hw8 => k2_hw8

def k2_off17 (i : grid2.Coords) : Fin 2 → Nat :=
  let arg0 : BitVec 32 := BitVec.ofNat 32 (i 0).val
  let v277 : Index := Scalar.indexCast arg0
  let c8 : Index := 8#32
  ![v277.toNat, 8]
def k2_off18 (v278 : BitVec 32) : Fin 3 → Nat :=
  let c0_111 : Index := 0#32
  let c0_i32_104 : BitVec 32 := 0#32
  let v282 : BitVec 1 := Scalar.cmpi .sgt v278 c0_i32_104
  let v283 : BitVec 32 := Scalar.extui v282
  let c0_i32_105 : BitVec 32 := 0#32
  let v284 : BitVec 1 := Scalar.cmpi .slt v278 c0_i32_105
  let v285 : BitVec 32 := Scalar.extui v284
  let v286 : BitVec 32 := Scalar.subi v283 v285
  let c8_i32_103 : BitVec 32 := 8#32
  let c0_i32_106 : BitVec 32 := 0#32
  let v287 : BitVec 1 := Scalar.cmpi .sgt c8_i32_103 c0_i32_106
  let v288 : BitVec 32 := Scalar.extui v287
  let c0_i32_107 : BitVec 32 := 0#32
  let v289 : BitVec 1 := Scalar.cmpi .slt c8_i32_103 c0_i32_107
  let v290 : BitVec 32 := Scalar.extui v289
  let v291 : BitVec 32 := Scalar.subi v288 v290
  let v292 : BitVec 1 := Scalar.cmpi .ne v286 v291
  let v293 : BitVec 32 := Scalar.remsi v278 c8_i32_103
  let c0_i32_108 : BitVec 32 := 0#32
  let v294 : BitVec 1 := Scalar.cmpi .ne v293 c0_i32_108
  let v295 : BitVec 1 := Scalar.andi v292 v294
  let v281 : BitVec 32 := Scalar.divsi v278 c8_i32_103
  let c1_i32_109 : BitVec 32 := 1#32
  let v296 : BitVec 32 := Scalar.subi v281 c1_i32_109
  let v297 : BitVec 32 := Scalar.select v295 v296 v281
  let c8_i32_110 : BitVec 32 := 8#32
  let v298 : BitVec 32 := Scalar.muli v297 c8_i32_110
  let v300 : Index := Scalar.indexCast v298
  let c0_112 : Index := 0#32
  ![0, v300.toNat, 0]

def k2_chk9 (v278 : BitVec 32) : Prop :=
  (∀ a, (k2_off18 v278) a + S1x40x256.size a ≤ S1x2048x256.size a)
theorem k2_off18_inb : ∀ (v278 : BitVec 32) (k2_hw9 : k2_chk9 v278), ∀ a, (k2_off18 v278) a + S1x40x256.size a ≤ S1x2048x256.size a := fun v278 k2_hw9 => k2_hw9

def k2_off19 (i : grid2.Coords) : Fin 2 → Nat :=
  let arg0 : BitVec 32 := BitVec.ofNat 32 (i 0).val
  let v311 : Index := Scalar.indexCast arg0
  let c9 : Index := 9#32
  ![v311.toNat, 9]
def k2_off20 (v312 : BitVec 32) : Fin 3 → Nat :=
  let c0_124 : Index := 0#32
  let c0_i32_117 : BitVec 32 := 0#32
  let v316 : BitVec 1 := Scalar.cmpi .sgt v312 c0_i32_117
  let v317 : BitVec 32 := Scalar.extui v316
  let c0_i32_118 : BitVec 32 := 0#32
  let v318 : BitVec 1 := Scalar.cmpi .slt v312 c0_i32_118
  let v319 : BitVec 32 := Scalar.extui v318
  let v320 : BitVec 32 := Scalar.subi v317 v319
  let c8_i32_116 : BitVec 32 := 8#32
  let c0_i32_119 : BitVec 32 := 0#32
  let v321 : BitVec 1 := Scalar.cmpi .sgt c8_i32_116 c0_i32_119
  let v322 : BitVec 32 := Scalar.extui v321
  let c0_i32_120 : BitVec 32 := 0#32
  let v323 : BitVec 1 := Scalar.cmpi .slt c8_i32_116 c0_i32_120
  let v324 : BitVec 32 := Scalar.extui v323
  let v325 : BitVec 32 := Scalar.subi v322 v324
  let v326 : BitVec 1 := Scalar.cmpi .ne v320 v325
  let v327 : BitVec 32 := Scalar.remsi v312 c8_i32_116
  let c0_i32_121 : BitVec 32 := 0#32
  let v328 : BitVec 1 := Scalar.cmpi .ne v327 c0_i32_121
  let v329 : BitVec 1 := Scalar.andi v326 v328
  let v315 : BitVec 32 := Scalar.divsi v312 c8_i32_116
  let c1_i32_122 : BitVec 32 := 1#32
  let v330 : BitVec 32 := Scalar.subi v315 c1_i32_122
  let v331 : BitVec 32 := Scalar.select v329 v330 v315
  let c8_i32_123 : BitVec 32 := 8#32
  let v332 : BitVec 32 := Scalar.muli v331 c8_i32_123
  let v334 : Index := Scalar.indexCast v332
  let c0_125 : Index := 0#32
  ![0, v334.toNat, 0]

def k2_chk10 (v312 : BitVec 32) : Prop :=
  (∀ a, (k2_off20 v312) a + S1x40x256.size a ≤ S1x2048x256.size a)
theorem k2_off20_inb : ∀ (v312 : BitVec 32) (k2_hw10 : k2_chk10 v312), ∀ a, (k2_off20 v312) a + S1x40x256.size a ≤ S1x2048x256.size a := fun v312 k2_hw10 => k2_hw10

def k2_off21 (i : grid2.Coords) : Fin 2 → Nat :=
  let arg0 : BitVec 32 := BitVec.ofNat 32 (i 0).val
  let v345 : Index := Scalar.indexCast arg0
  let c10 : Index := 10#32
  ![v345.toNat, 10]
def k2_off22 (v346 : BitVec 32) : Fin 3 → Nat :=
  let c0_137 : Index := 0#32
  let c0_i32_130 : BitVec 32 := 0#32
  let v350 : BitVec 1 := Scalar.cmpi .sgt v346 c0_i32_130
  let v351 : BitVec 32 := Scalar.extui v350
  let c0_i32_131 : BitVec 32 := 0#32
  let v352 : BitVec 1 := Scalar.cmpi .slt v346 c0_i32_131
  let v353 : BitVec 32 := Scalar.extui v352
  let v354 : BitVec 32 := Scalar.subi v351 v353
  let c8_i32_129 : BitVec 32 := 8#32
  let c0_i32_132 : BitVec 32 := 0#32
  let v355 : BitVec 1 := Scalar.cmpi .sgt c8_i32_129 c0_i32_132
  let v356 : BitVec 32 := Scalar.extui v355
  let c0_i32_133 : BitVec 32 := 0#32
  let v357 : BitVec 1 := Scalar.cmpi .slt c8_i32_129 c0_i32_133
  let v358 : BitVec 32 := Scalar.extui v357
  let v359 : BitVec 32 := Scalar.subi v356 v358
  let v360 : BitVec 1 := Scalar.cmpi .ne v354 v359
  let v361 : BitVec 32 := Scalar.remsi v346 c8_i32_129
  let c0_i32_134 : BitVec 32 := 0#32
  let v362 : BitVec 1 := Scalar.cmpi .ne v361 c0_i32_134
  let v363 : BitVec 1 := Scalar.andi v360 v362
  let v349 : BitVec 32 := Scalar.divsi v346 c8_i32_129
  let c1_i32_135 : BitVec 32 := 1#32
  let v364 : BitVec 32 := Scalar.subi v349 c1_i32_135
  let v365 : BitVec 32 := Scalar.select v363 v364 v349
  let c8_i32_136 : BitVec 32 := 8#32
  let v366 : BitVec 32 := Scalar.muli v365 c8_i32_136
  let v368 : Index := Scalar.indexCast v366
  let c0_138 : Index := 0#32
  ![0, v368.toNat, 0]

def k2_chk11 (v346 : BitVec 32) : Prop :=
  (∀ a, (k2_off22 v346) a + S1x40x256.size a ≤ S1x2048x256.size a)
theorem k2_off22_inb : ∀ (v346 : BitVec 32) (k2_hw11 : k2_chk11 v346), ∀ a, (k2_off22 v346) a + S1x40x256.size a ≤ S1x2048x256.size a := fun v346 k2_hw11 => k2_hw11

def k2_off23 (i : grid2.Coords) : Fin 2 → Nat :=
  let arg0 : BitVec 32 := BitVec.ofNat 32 (i 0).val
  let v379 : Index := Scalar.indexCast arg0
  let c11 : Index := 11#32
  ![v379.toNat, 11]
def k2_off24 (v380 : BitVec 32) : Fin 3 → Nat :=
  let c0_150 : Index := 0#32
  let c0_i32_143 : BitVec 32 := 0#32
  let v384 : BitVec 1 := Scalar.cmpi .sgt v380 c0_i32_143
  let v385 : BitVec 32 := Scalar.extui v384
  let c0_i32_144 : BitVec 32 := 0#32
  let v386 : BitVec 1 := Scalar.cmpi .slt v380 c0_i32_144
  let v387 : BitVec 32 := Scalar.extui v386
  let v388 : BitVec 32 := Scalar.subi v385 v387
  let c8_i32_142 : BitVec 32 := 8#32
  let c0_i32_145 : BitVec 32 := 0#32
  let v389 : BitVec 1 := Scalar.cmpi .sgt c8_i32_142 c0_i32_145
  let v390 : BitVec 32 := Scalar.extui v389
  let c0_i32_146 : BitVec 32 := 0#32
  let v391 : BitVec 1 := Scalar.cmpi .slt c8_i32_142 c0_i32_146
  let v392 : BitVec 32 := Scalar.extui v391
  let v393 : BitVec 32 := Scalar.subi v390 v392
  let v394 : BitVec 1 := Scalar.cmpi .ne v388 v393
  let v395 : BitVec 32 := Scalar.remsi v380 c8_i32_142
  let c0_i32_147 : BitVec 32 := 0#32
  let v396 : BitVec 1 := Scalar.cmpi .ne v395 c0_i32_147
  let v397 : BitVec 1 := Scalar.andi v394 v396
  let v383 : BitVec 32 := Scalar.divsi v380 c8_i32_142
  let c1_i32_148 : BitVec 32 := 1#32
  let v398 : BitVec 32 := Scalar.subi v383 c1_i32_148
  let v399 : BitVec 32 := Scalar.select v397 v398 v383
  let c8_i32_149 : BitVec 32 := 8#32
  let v400 : BitVec 32 := Scalar.muli v399 c8_i32_149
  let v402 : Index := Scalar.indexCast v400
  let c0_151 : Index := 0#32
  ![0, v402.toNat, 0]

def k2_chk12 (v380 : BitVec 32) : Prop :=
  (∀ a, (k2_off24 v380) a + S1x40x256.size a ≤ S1x2048x256.size a)
theorem k2_off24_inb : ∀ (v380 : BitVec 32) (k2_hw12 : k2_chk12 v380), ∀ a, (k2_off24 v380) a + S1x40x256.size a ≤ S1x2048x256.size a := fun v380 k2_hw12 => k2_hw12

def k2_off25 (i : grid2.Coords) : Fin 2 → Nat :=
  let arg0 : BitVec 32 := BitVec.ofNat 32 (i 0).val
  let v413 : Index := Scalar.indexCast arg0
  let c12 : Index := 12#32
  ![v413.toNat, 12]
def k2_off26 (v414 : BitVec 32) : Fin 3 → Nat :=
  let c0_163 : Index := 0#32
  let c0_i32_156 : BitVec 32 := 0#32
  let v418 : BitVec 1 := Scalar.cmpi .sgt v414 c0_i32_156
  let v419 : BitVec 32 := Scalar.extui v418
  let c0_i32_157 : BitVec 32 := 0#32
  let v420 : BitVec 1 := Scalar.cmpi .slt v414 c0_i32_157
  let v421 : BitVec 32 := Scalar.extui v420
  let v422 : BitVec 32 := Scalar.subi v419 v421
  let c8_i32_155 : BitVec 32 := 8#32
  let c0_i32_158 : BitVec 32 := 0#32
  let v423 : BitVec 1 := Scalar.cmpi .sgt c8_i32_155 c0_i32_158
  let v424 : BitVec 32 := Scalar.extui v423
  let c0_i32_159 : BitVec 32 := 0#32
  let v425 : BitVec 1 := Scalar.cmpi .slt c8_i32_155 c0_i32_159
  let v426 : BitVec 32 := Scalar.extui v425
  let v427 : BitVec 32 := Scalar.subi v424 v426
  let v428 : BitVec 1 := Scalar.cmpi .ne v422 v427
  let v429 : BitVec 32 := Scalar.remsi v414 c8_i32_155
  let c0_i32_160 : BitVec 32 := 0#32
  let v430 : BitVec 1 := Scalar.cmpi .ne v429 c0_i32_160
  let v431 : BitVec 1 := Scalar.andi v428 v430
  let v417 : BitVec 32 := Scalar.divsi v414 c8_i32_155
  let c1_i32_161 : BitVec 32 := 1#32
  let v432 : BitVec 32 := Scalar.subi v417 c1_i32_161
  let v433 : BitVec 32 := Scalar.select v431 v432 v417
  let c8_i32_162 : BitVec 32 := 8#32
  let v434 : BitVec 32 := Scalar.muli v433 c8_i32_162
  let v436 : Index := Scalar.indexCast v434
  let c0_164 : Index := 0#32
  ![0, v436.toNat, 0]

def k2_chk13 (v414 : BitVec 32) : Prop :=
  (∀ a, (k2_off26 v414) a + S1x40x256.size a ≤ S1x2048x256.size a)
theorem k2_off26_inb : ∀ (v414 : BitVec 32) (k2_hw13 : k2_chk13 v414), ∀ a, (k2_off26 v414) a + S1x40x256.size a ≤ S1x2048x256.size a := fun v414 k2_hw13 => k2_hw13

def k2_off27 (i : grid2.Coords) : Fin 2 → Nat :=
  let arg0 : BitVec 32 := BitVec.ofNat 32 (i 0).val
  let v447 : Index := Scalar.indexCast arg0
  let c13 : Index := 13#32
  ![v447.toNat, 13]
def k2_off28 (v448 : BitVec 32) : Fin 3 → Nat :=
  let c0_176 : Index := 0#32
  let c0_i32_169 : BitVec 32 := 0#32
  let v452 : BitVec 1 := Scalar.cmpi .sgt v448 c0_i32_169
  let v453 : BitVec 32 := Scalar.extui v452
  let c0_i32_170 : BitVec 32 := 0#32
  let v454 : BitVec 1 := Scalar.cmpi .slt v448 c0_i32_170
  let v455 : BitVec 32 := Scalar.extui v454
  let v456 : BitVec 32 := Scalar.subi v453 v455
  let c8_i32_168 : BitVec 32 := 8#32
  let c0_i32_171 : BitVec 32 := 0#32
  let v457 : BitVec 1 := Scalar.cmpi .sgt c8_i32_168 c0_i32_171
  let v458 : BitVec 32 := Scalar.extui v457
  let c0_i32_172 : BitVec 32 := 0#32
  let v459 : BitVec 1 := Scalar.cmpi .slt c8_i32_168 c0_i32_172
  let v460 : BitVec 32 := Scalar.extui v459
  let v461 : BitVec 32 := Scalar.subi v458 v460
  let v462 : BitVec 1 := Scalar.cmpi .ne v456 v461
  let v463 : BitVec 32 := Scalar.remsi v448 c8_i32_168
  let c0_i32_173 : BitVec 32 := 0#32
  let v464 : BitVec 1 := Scalar.cmpi .ne v463 c0_i32_173
  let v465 : BitVec 1 := Scalar.andi v462 v464
  let v451 : BitVec 32 := Scalar.divsi v448 c8_i32_168
  let c1_i32_174 : BitVec 32 := 1#32
  let v466 : BitVec 32 := Scalar.subi v451 c1_i32_174
  let v467 : BitVec 32 := Scalar.select v465 v466 v451
  let c8_i32_175 : BitVec 32 := 8#32
  let v468 : BitVec 32 := Scalar.muli v467 c8_i32_175
  let v470 : Index := Scalar.indexCast v468
  let c0_177 : Index := 0#32
  ![0, v470.toNat, 0]

def k2_chk14 (v448 : BitVec 32) : Prop :=
  (∀ a, (k2_off28 v448) a + S1x40x256.size a ≤ S1x2048x256.size a)
theorem k2_off28_inb : ∀ (v448 : BitVec 32) (k2_hw14 : k2_chk14 v448), ∀ a, (k2_off28 v448) a + S1x40x256.size a ≤ S1x2048x256.size a := fun v448 k2_hw14 => k2_hw14

def k2_off29 (i : grid2.Coords) : Fin 2 → Nat :=
  let arg0 : BitVec 32 := BitVec.ofNat 32 (i 0).val
  let v481 : Index := Scalar.indexCast arg0
  let c14 : Index := 14#32
  ![v481.toNat, 14]
def k2_off30 (v482 : BitVec 32) : Fin 3 → Nat :=
  let c0_189 : Index := 0#32
  let c0_i32_182 : BitVec 32 := 0#32
  let v486 : BitVec 1 := Scalar.cmpi .sgt v482 c0_i32_182
  let v487 : BitVec 32 := Scalar.extui v486
  let c0_i32_183 : BitVec 32 := 0#32
  let v488 : BitVec 1 := Scalar.cmpi .slt v482 c0_i32_183
  let v489 : BitVec 32 := Scalar.extui v488
  let v490 : BitVec 32 := Scalar.subi v487 v489
  let c8_i32_181 : BitVec 32 := 8#32
  let c0_i32_184 : BitVec 32 := 0#32
  let v491 : BitVec 1 := Scalar.cmpi .sgt c8_i32_181 c0_i32_184
  let v492 : BitVec 32 := Scalar.extui v491
  let c0_i32_185 : BitVec 32 := 0#32
  let v493 : BitVec 1 := Scalar.cmpi .slt c8_i32_181 c0_i32_185
  let v494 : BitVec 32 := Scalar.extui v493
  let v495 : BitVec 32 := Scalar.subi v492 v494
  let v496 : BitVec 1 := Scalar.cmpi .ne v490 v495
  let v497 : BitVec 32 := Scalar.remsi v482 c8_i32_181
  let c0_i32_186 : BitVec 32 := 0#32
  let v498 : BitVec 1 := Scalar.cmpi .ne v497 c0_i32_186
  let v499 : BitVec 1 := Scalar.andi v496 v498
  let v485 : BitVec 32 := Scalar.divsi v482 c8_i32_181
  let c1_i32_187 : BitVec 32 := 1#32
  let v500 : BitVec 32 := Scalar.subi v485 c1_i32_187
  let v501 : BitVec 32 := Scalar.select v499 v500 v485
  let c8_i32_188 : BitVec 32 := 8#32
  let v502 : BitVec 32 := Scalar.muli v501 c8_i32_188
  let v504 : Index := Scalar.indexCast v502
  let c0_190 : Index := 0#32
  ![0, v504.toNat, 0]

def k2_chk15 (v482 : BitVec 32) : Prop :=
  (∀ a, (k2_off30 v482) a + S1x40x256.size a ≤ S1x2048x256.size a)
theorem k2_off30_inb : ∀ (v482 : BitVec 32) (k2_hw15 : k2_chk15 v482), ∀ a, (k2_off30 v482) a + S1x40x256.size a ≤ S1x2048x256.size a := fun v482 k2_hw15 => k2_hw15

def k2_off31 (i : grid2.Coords) : Fin 2 → Nat :=
  let arg0 : BitVec 32 := BitVec.ofNat 32 (i 0).val
  let v515 : Index := Scalar.indexCast arg0
  let c15 : Index := 15#32
  ![v515.toNat, 15]
def k2_off32 (v516 : BitVec 32) : Fin 3 → Nat :=
  let c0_202 : Index := 0#32
  let c0_i32_195 : BitVec 32 := 0#32
  let v520 : BitVec 1 := Scalar.cmpi .sgt v516 c0_i32_195
  let v521 : BitVec 32 := Scalar.extui v520
  let c0_i32_196 : BitVec 32 := 0#32
  let v522 : BitVec 1 := Scalar.cmpi .slt v516 c0_i32_196
  let v523 : BitVec 32 := Scalar.extui v522
  let v524 : BitVec 32 := Scalar.subi v521 v523
  let c8_i32_194 : BitVec 32 := 8#32
  let c0_i32_197 : BitVec 32 := 0#32
  let v525 : BitVec 1 := Scalar.cmpi .sgt c8_i32_194 c0_i32_197
  let v526 : BitVec 32 := Scalar.extui v525
  let c0_i32_198 : BitVec 32 := 0#32
  let v527 : BitVec 1 := Scalar.cmpi .slt c8_i32_194 c0_i32_198
  let v528 : BitVec 32 := Scalar.extui v527
  let v529 : BitVec 32 := Scalar.subi v526 v528
  let v530 : BitVec 1 := Scalar.cmpi .ne v524 v529
  let v531 : BitVec 32 := Scalar.remsi v516 c8_i32_194
  let c0_i32_199 : BitVec 32 := 0#32
  let v532 : BitVec 1 := Scalar.cmpi .ne v531 c0_i32_199
  let v533 : BitVec 1 := Scalar.andi v530 v532
  let v519 : BitVec 32 := Scalar.divsi v516 c8_i32_194
  let c1_i32_200 : BitVec 32 := 1#32
  let v534 : BitVec 32 := Scalar.subi v519 c1_i32_200
  let v535 : BitVec 32 := Scalar.select v533 v534 v519
  let c8_i32_201 : BitVec 32 := 8#32
  let v536 : BitVec 32 := Scalar.muli v535 c8_i32_201
  let v538 : Index := Scalar.indexCast v536
  let c0_203 : Index := 0#32
  ![0, v538.toNat, 0]

def k2_chk16 (v516 : BitVec 32) : Prop :=
  (∀ a, (k2_off32 v516) a + S1x40x256.size a ≤ S1x2048x256.size a)
theorem k2_off32_inb : ∀ (v516 : BitVec 32) (k2_hw16 : k2_chk16 v516), ∀ a, (k2_off32 v516) a + S1x40x256.size a ≤ S1x2048x256.size a := fun v516 k2_hw16 => k2_hw16

def k2_off33 (i : grid2.Coords) : Fin 2 → Nat :=
  let arg0 : BitVec 32 := BitVec.ofNat 32 (i 0).val
  let v553 : Index := Scalar.indexCast arg0
  let c16 : Index := 16#32
  ![v553.toNat, 16]
def k2_off34 (v554 : BitVec 32) : Fin 3 → Nat :=
  let c0_217 : Index := 0#32
  let c0_i32_210 : BitVec 32 := 0#32
  let v558 : BitVec 1 := Scalar.cmpi .sgt v554 c0_i32_210
  let v559 : BitVec 32 := Scalar.extui v558
  let c0_i32_211 : BitVec 32 := 0#32
  let v560 : BitVec 1 := Scalar.cmpi .slt v554 c0_i32_211
  let v561 : BitVec 32 := Scalar.extui v560
  let v562 : BitVec 32 := Scalar.subi v559 v561
  let c8_i32_209 : BitVec 32 := 8#32
  let c0_i32_212 : BitVec 32 := 0#32
  let v563 : BitVec 1 := Scalar.cmpi .sgt c8_i32_209 c0_i32_212
  let v564 : BitVec 32 := Scalar.extui v563
  let c0_i32_213 : BitVec 32 := 0#32
  let v565 : BitVec 1 := Scalar.cmpi .slt c8_i32_209 c0_i32_213
  let v566 : BitVec 32 := Scalar.extui v565
  let v567 : BitVec 32 := Scalar.subi v564 v566
  let v568 : BitVec 1 := Scalar.cmpi .ne v562 v567
  let v569 : BitVec 32 := Scalar.remsi v554 c8_i32_209
  let c0_i32_214 : BitVec 32 := 0#32
  let v570 : BitVec 1 := Scalar.cmpi .ne v569 c0_i32_214
  let v571 : BitVec 1 := Scalar.andi v568 v570
  let v557 : BitVec 32 := Scalar.divsi v554 c8_i32_209
  let c1_i32_215 : BitVec 32 := 1#32
  let v572 : BitVec 32 := Scalar.subi v557 c1_i32_215
  let v573 : BitVec 32 := Scalar.select v571 v572 v557
  let c8_i32_216 : BitVec 32 := 8#32
  let v574 : BitVec 32 := Scalar.muli v573 c8_i32_216
  let v576 : Index := Scalar.indexCast v574
  let c0_218 : Index := 0#32
  ![0, v576.toNat, 0]

def k2_chk17 (v554 : BitVec 32) : Prop :=
  (∀ a, (k2_off34 v554) a + S1x40x256.size a ≤ S1x2048x256.size a)
theorem k2_off34_inb : ∀ (v554 : BitVec 32) (k2_hw17 : k2_chk17 v554), ∀ a, (k2_off34 v554) a + S1x40x256.size a ≤ S1x2048x256.size a := fun v554 k2_hw17 => k2_hw17

def k2_off35 (i : grid2.Coords) : Fin 2 → Nat :=
  let arg0 : BitVec 32 := BitVec.ofNat 32 (i 0).val
  let v587 : Index := Scalar.indexCast arg0
  let c17 : Index := 17#32
  ![v587.toNat, 17]
def k2_off36 (v588 : BitVec 32) : Fin 3 → Nat :=
  let c0_230 : Index := 0#32
  let c0_i32_223 : BitVec 32 := 0#32
  let v592 : BitVec 1 := Scalar.cmpi .sgt v588 c0_i32_223
  let v593 : BitVec 32 := Scalar.extui v592
  let c0_i32_224 : BitVec 32 := 0#32
  let v594 : BitVec 1 := Scalar.cmpi .slt v588 c0_i32_224
  let v595 : BitVec 32 := Scalar.extui v594
  let v596 : BitVec 32 := Scalar.subi v593 v595
  let c8_i32_222 : BitVec 32 := 8#32
  let c0_i32_225 : BitVec 32 := 0#32
  let v597 : BitVec 1 := Scalar.cmpi .sgt c8_i32_222 c0_i32_225
  let v598 : BitVec 32 := Scalar.extui v597
  let c0_i32_226 : BitVec 32 := 0#32
  let v599 : BitVec 1 := Scalar.cmpi .slt c8_i32_222 c0_i32_226
  let v600 : BitVec 32 := Scalar.extui v599
  let v601 : BitVec 32 := Scalar.subi v598 v600
  let v602 : BitVec 1 := Scalar.cmpi .ne v596 v601
  let v603 : BitVec 32 := Scalar.remsi v588 c8_i32_222
  let c0_i32_227 : BitVec 32 := 0#32
  let v604 : BitVec 1 := Scalar.cmpi .ne v603 c0_i32_227
  let v605 : BitVec 1 := Scalar.andi v602 v604
  let v591 : BitVec 32 := Scalar.divsi v588 c8_i32_222
  let c1_i32_228 : BitVec 32 := 1#32
  let v606 : BitVec 32 := Scalar.subi v591 c1_i32_228
  let v607 : BitVec 32 := Scalar.select v605 v606 v591
  let c8_i32_229 : BitVec 32 := 8#32
  let v608 : BitVec 32 := Scalar.muli v607 c8_i32_229
  let v610 : Index := Scalar.indexCast v608
  let c0_231 : Index := 0#32
  ![0, v610.toNat, 0]

def k2_chk18 (v588 : BitVec 32) : Prop :=
  (∀ a, (k2_off36 v588) a + S1x40x256.size a ≤ S1x2048x256.size a)
theorem k2_off36_inb : ∀ (v588 : BitVec 32) (k2_hw18 : k2_chk18 v588), ∀ a, (k2_off36 v588) a + S1x40x256.size a ≤ S1x2048x256.size a := fun v588 k2_hw18 => k2_hw18

def k2_off37 (i : grid2.Coords) : Fin 2 → Nat :=
  let arg0 : BitVec 32 := BitVec.ofNat 32 (i 0).val
  let v621 : Index := Scalar.indexCast arg0
  let c18 : Index := 18#32
  ![v621.toNat, 18]
def k2_off38 (v622 : BitVec 32) : Fin 3 → Nat :=
  let c0_243 : Index := 0#32
  let c0_i32_236 : BitVec 32 := 0#32
  let v626 : BitVec 1 := Scalar.cmpi .sgt v622 c0_i32_236
  let v627 : BitVec 32 := Scalar.extui v626
  let c0_i32_237 : BitVec 32 := 0#32
  let v628 : BitVec 1 := Scalar.cmpi .slt v622 c0_i32_237
  let v629 : BitVec 32 := Scalar.extui v628
  let v630 : BitVec 32 := Scalar.subi v627 v629
  let c8_i32_235 : BitVec 32 := 8#32
  let c0_i32_238 : BitVec 32 := 0#32
  let v631 : BitVec 1 := Scalar.cmpi .sgt c8_i32_235 c0_i32_238
  let v632 : BitVec 32 := Scalar.extui v631
  let c0_i32_239 : BitVec 32 := 0#32
  let v633 : BitVec 1 := Scalar.cmpi .slt c8_i32_235 c0_i32_239
  let v634 : BitVec 32 := Scalar.extui v633
  let v635 : BitVec 32 := Scalar.subi v632 v634
  let v636 : BitVec 1 := Scalar.cmpi .ne v630 v635
  let v637 : BitVec 32 := Scalar.remsi v622 c8_i32_235
  let c0_i32_240 : BitVec 32 := 0#32
  let v638 : BitVec 1 := Scalar.cmpi .ne v637 c0_i32_240
  let v639 : BitVec 1 := Scalar.andi v636 v638
  let v625 : BitVec 32 := Scalar.divsi v622 c8_i32_235
  let c1_i32_241 : BitVec 32 := 1#32
  let v640 : BitVec 32 := Scalar.subi v625 c1_i32_241
  let v641 : BitVec 32 := Scalar.select v639 v640 v625
  let c8_i32_242 : BitVec 32 := 8#32
  let v642 : BitVec 32 := Scalar.muli v641 c8_i32_242
  let v644 : Index := Scalar.indexCast v642
  let c0_244 : Index := 0#32
  ![0, v644.toNat, 0]

def k2_chk19 (v622 : BitVec 32) : Prop :=
  (∀ a, (k2_off38 v622) a + S1x40x256.size a ≤ S1x2048x256.size a)
theorem k2_off38_inb : ∀ (v622 : BitVec 32) (k2_hw19 : k2_chk19 v622), ∀ a, (k2_off38 v622) a + S1x40x256.size a ≤ S1x2048x256.size a := fun v622 k2_hw19 => k2_hw19

def k2_off39 (i : grid2.Coords) : Fin 2 → Nat :=
  let arg0 : BitVec 32 := BitVec.ofNat 32 (i 0).val
  let v655 : Index := Scalar.indexCast arg0
  let c19 : Index := 19#32
  ![v655.toNat, 19]
def k2_off40 (v656 : BitVec 32) : Fin 3 → Nat :=
  let c0_256 : Index := 0#32
  let c0_i32_249 : BitVec 32 := 0#32
  let v660 : BitVec 1 := Scalar.cmpi .sgt v656 c0_i32_249
  let v661 : BitVec 32 := Scalar.extui v660
  let c0_i32_250 : BitVec 32 := 0#32
  let v662 : BitVec 1 := Scalar.cmpi .slt v656 c0_i32_250
  let v663 : BitVec 32 := Scalar.extui v662
  let v664 : BitVec 32 := Scalar.subi v661 v663
  let c8_i32_248 : BitVec 32 := 8#32
  let c0_i32_251 : BitVec 32 := 0#32
  let v665 : BitVec 1 := Scalar.cmpi .sgt c8_i32_248 c0_i32_251
  let v666 : BitVec 32 := Scalar.extui v665
  let c0_i32_252 : BitVec 32 := 0#32
  let v667 : BitVec 1 := Scalar.cmpi .slt c8_i32_248 c0_i32_252
  let v668 : BitVec 32 := Scalar.extui v667
  let v669 : BitVec 32 := Scalar.subi v666 v668
  let v670 : BitVec 1 := Scalar.cmpi .ne v664 v669
  let v671 : BitVec 32 := Scalar.remsi v656 c8_i32_248
  let c0_i32_253 : BitVec 32 := 0#32
  let v672 : BitVec 1 := Scalar.cmpi .ne v671 c0_i32_253
  let v673 : BitVec 1 := Scalar.andi v670 v672
  let v659 : BitVec 32 := Scalar.divsi v656 c8_i32_248
  let c1_i32_254 : BitVec 32 := 1#32
  let v674 : BitVec 32 := Scalar.subi v659 c1_i32_254
  let v675 : BitVec 32 := Scalar.select v673 v674 v659
  let c8_i32_255 : BitVec 32 := 8#32
  let v676 : BitVec 32 := Scalar.muli v675 c8_i32_255
  let v678 : Index := Scalar.indexCast v676
  let c0_257 : Index := 0#32
  ![0, v678.toNat, 0]

def k2_chk20 (v656 : BitVec 32) : Prop :=
  (∀ a, (k2_off40 v656) a + S1x40x256.size a ≤ S1x2048x256.size a)
theorem k2_off40_inb : ∀ (v656 : BitVec 32) (k2_hw20 : k2_chk20 v656), ∀ a, (k2_off40 v656) a + S1x40x256.size a ≤ S1x2048x256.size a := fun v656 k2_hw20 => k2_hw20

def k2_off41 (i : grid2.Coords) : Fin 2 → Nat :=
  let arg0 : BitVec 32 := BitVec.ofNat 32 (i 0).val
  let v689 : Index := Scalar.indexCast arg0
  let c20 : Index := 20#32
  ![v689.toNat, 20]
def k2_off42 (v690 : BitVec 32) : Fin 3 → Nat :=
  let c0_269 : Index := 0#32
  let c0_i32_262 : BitVec 32 := 0#32
  let v694 : BitVec 1 := Scalar.cmpi .sgt v690 c0_i32_262
  let v695 : BitVec 32 := Scalar.extui v694
  let c0_i32_263 : BitVec 32 := 0#32
  let v696 : BitVec 1 := Scalar.cmpi .slt v690 c0_i32_263
  let v697 : BitVec 32 := Scalar.extui v696
  let v698 : BitVec 32 := Scalar.subi v695 v697
  let c8_i32_261 : BitVec 32 := 8#32
  let c0_i32_264 : BitVec 32 := 0#32
  let v699 : BitVec 1 := Scalar.cmpi .sgt c8_i32_261 c0_i32_264
  let v700 : BitVec 32 := Scalar.extui v699
  let c0_i32_265 : BitVec 32 := 0#32
  let v701 : BitVec 1 := Scalar.cmpi .slt c8_i32_261 c0_i32_265
  let v702 : BitVec 32 := Scalar.extui v701
  let v703 : BitVec 32 := Scalar.subi v700 v702
  let v704 : BitVec 1 := Scalar.cmpi .ne v698 v703
  let v705 : BitVec 32 := Scalar.remsi v690 c8_i32_261
  let c0_i32_266 : BitVec 32 := 0#32
  let v706 : BitVec 1 := Scalar.cmpi .ne v705 c0_i32_266
  let v707 : BitVec 1 := Scalar.andi v704 v706
  let v693 : BitVec 32 := Scalar.divsi v690 c8_i32_261
  let c1_i32_267 : BitVec 32 := 1#32
  let v708 : BitVec 32 := Scalar.subi v693 c1_i32_267
  let v709 : BitVec 32 := Scalar.select v707 v708 v693
  let c8_i32_268 : BitVec 32 := 8#32
  let v710 : BitVec 32 := Scalar.muli v709 c8_i32_268
  let v712 : Index := Scalar.indexCast v710
  let c0_270 : Index := 0#32
  ![0, v712.toNat, 0]

def k2_chk21 (v690 : BitVec 32) : Prop :=
  (∀ a, (k2_off42 v690) a + S1x40x256.size a ≤ S1x2048x256.size a)
theorem k2_off42_inb : ∀ (v690 : BitVec 32) (k2_hw21 : k2_chk21 v690), ∀ a, (k2_off42 v690) a + S1x40x256.size a ≤ S1x2048x256.size a := fun v690 k2_hw21 => k2_hw21

def k2_off43 (i : grid2.Coords) : Fin 2 → Nat :=
  let arg0 : BitVec 32 := BitVec.ofNat 32 (i 0).val
  let v723 : Index := Scalar.indexCast arg0
  let c21 : Index := 21#32
  ![v723.toNat, 21]
def k2_off44 (v724 : BitVec 32) : Fin 3 → Nat :=
  let c0_282 : Index := 0#32
  let c0_i32_275 : BitVec 32 := 0#32
  let v728 : BitVec 1 := Scalar.cmpi .sgt v724 c0_i32_275
  let v729 : BitVec 32 := Scalar.extui v728
  let c0_i32_276 : BitVec 32 := 0#32
  let v730 : BitVec 1 := Scalar.cmpi .slt v724 c0_i32_276
  let v731 : BitVec 32 := Scalar.extui v730
  let v732 : BitVec 32 := Scalar.subi v729 v731
  let c8_i32_274 : BitVec 32 := 8#32
  let c0_i32_277 : BitVec 32 := 0#32
  let v733 : BitVec 1 := Scalar.cmpi .sgt c8_i32_274 c0_i32_277
  let v734 : BitVec 32 := Scalar.extui v733
  let c0_i32_278 : BitVec 32 := 0#32
  let v735 : BitVec 1 := Scalar.cmpi .slt c8_i32_274 c0_i32_278
  let v736 : BitVec 32 := Scalar.extui v735
  let v737 : BitVec 32 := Scalar.subi v734 v736
  let v738 : BitVec 1 := Scalar.cmpi .ne v732 v737
  let v739 : BitVec 32 := Scalar.remsi v724 c8_i32_274
  let c0_i32_279 : BitVec 32 := 0#32
  let v740 : BitVec 1 := Scalar.cmpi .ne v739 c0_i32_279
  let v741 : BitVec 1 := Scalar.andi v738 v740
  let v727 : BitVec 32 := Scalar.divsi v724 c8_i32_274
  let c1_i32_280 : BitVec 32 := 1#32
  let v742 : BitVec 32 := Scalar.subi v727 c1_i32_280
  let v743 : BitVec 32 := Scalar.select v741 v742 v727
  let c8_i32_281 : BitVec 32 := 8#32
  let v744 : BitVec 32 := Scalar.muli v743 c8_i32_281
  let v746 : Index := Scalar.indexCast v744
  let c0_283 : Index := 0#32
  ![0, v746.toNat, 0]

def k2_chk22 (v724 : BitVec 32) : Prop :=
  (∀ a, (k2_off44 v724) a + S1x40x256.size a ≤ S1x2048x256.size a)
theorem k2_off44_inb : ∀ (v724 : BitVec 32) (k2_hw22 : k2_chk22 v724), ∀ a, (k2_off44 v724) a + S1x40x256.size a ≤ S1x2048x256.size a := fun v724 k2_hw22 => k2_hw22

def k2_off45 (i : grid2.Coords) : Fin 2 → Nat :=
  let arg0 : BitVec 32 := BitVec.ofNat 32 (i 0).val
  let v757 : Index := Scalar.indexCast arg0
  let c22 : Index := 22#32
  ![v757.toNat, 22]
def k2_off46 (v758 : BitVec 32) : Fin 3 → Nat :=
  let c0_295 : Index := 0#32
  let c0_i32_288 : BitVec 32 := 0#32
  let v762 : BitVec 1 := Scalar.cmpi .sgt v758 c0_i32_288
  let v763 : BitVec 32 := Scalar.extui v762
  let c0_i32_289 : BitVec 32 := 0#32
  let v764 : BitVec 1 := Scalar.cmpi .slt v758 c0_i32_289
  let v765 : BitVec 32 := Scalar.extui v764
  let v766 : BitVec 32 := Scalar.subi v763 v765
  let c8_i32_287 : BitVec 32 := 8#32
  let c0_i32_290 : BitVec 32 := 0#32
  let v767 : BitVec 1 := Scalar.cmpi .sgt c8_i32_287 c0_i32_290
  let v768 : BitVec 32 := Scalar.extui v767
  let c0_i32_291 : BitVec 32 := 0#32
  let v769 : BitVec 1 := Scalar.cmpi .slt c8_i32_287 c0_i32_291
  let v770 : BitVec 32 := Scalar.extui v769
  let v771 : BitVec 32 := Scalar.subi v768 v770
  let v772 : BitVec 1 := Scalar.cmpi .ne v766 v771
  let v773 : BitVec 32 := Scalar.remsi v758 c8_i32_287
  let c0_i32_292 : BitVec 32 := 0#32
  let v774 : BitVec 1 := Scalar.cmpi .ne v773 c0_i32_292
  let v775 : BitVec 1 := Scalar.andi v772 v774
  let v761 : BitVec 32 := Scalar.divsi v758 c8_i32_287
  let c1_i32_293 : BitVec 32 := 1#32
  let v776 : BitVec 32 := Scalar.subi v761 c1_i32_293
  let v777 : BitVec 32 := Scalar.select v775 v776 v761
  let c8_i32_294 : BitVec 32 := 8#32
  let v778 : BitVec 32 := Scalar.muli v777 c8_i32_294
  let v780 : Index := Scalar.indexCast v778
  let c0_296 : Index := 0#32
  ![0, v780.toNat, 0]

def k2_chk23 (v758 : BitVec 32) : Prop :=
  (∀ a, (k2_off46 v758) a + S1x40x256.size a ≤ S1x2048x256.size a)
theorem k2_off46_inb : ∀ (v758 : BitVec 32) (k2_hw23 : k2_chk23 v758), ∀ a, (k2_off46 v758) a + S1x40x256.size a ≤ S1x2048x256.size a := fun v758 k2_hw23 => k2_hw23

def k2_off47 (i : grid2.Coords) : Fin 2 → Nat :=
  let arg0 : BitVec 32 := BitVec.ofNat 32 (i 0).val
  let v791 : Index := Scalar.indexCast arg0
  let c23 : Index := 23#32
  ![v791.toNat, 23]
def k2_off48 (v792 : BitVec 32) : Fin 3 → Nat :=
  let c0_308 : Index := 0#32
  let c0_i32_301 : BitVec 32 := 0#32
  let v796 : BitVec 1 := Scalar.cmpi .sgt v792 c0_i32_301
  let v797 : BitVec 32 := Scalar.extui v796
  let c0_i32_302 : BitVec 32 := 0#32
  let v798 : BitVec 1 := Scalar.cmpi .slt v792 c0_i32_302
  let v799 : BitVec 32 := Scalar.extui v798
  let v800 : BitVec 32 := Scalar.subi v797 v799
  let c8_i32_300 : BitVec 32 := 8#32
  let c0_i32_303 : BitVec 32 := 0#32
  let v801 : BitVec 1 := Scalar.cmpi .sgt c8_i32_300 c0_i32_303
  let v802 : BitVec 32 := Scalar.extui v801
  let c0_i32_304 : BitVec 32 := 0#32
  let v803 : BitVec 1 := Scalar.cmpi .slt c8_i32_300 c0_i32_304
  let v804 : BitVec 32 := Scalar.extui v803
  let v805 : BitVec 32 := Scalar.subi v802 v804
  let v806 : BitVec 1 := Scalar.cmpi .ne v800 v805
  let v807 : BitVec 32 := Scalar.remsi v792 c8_i32_300
  let c0_i32_305 : BitVec 32 := 0#32
  let v808 : BitVec 1 := Scalar.cmpi .ne v807 c0_i32_305
  let v809 : BitVec 1 := Scalar.andi v806 v808
  let v795 : BitVec 32 := Scalar.divsi v792 c8_i32_300
  let c1_i32_306 : BitVec 32 := 1#32
  let v810 : BitVec 32 := Scalar.subi v795 c1_i32_306
  let v811 : BitVec 32 := Scalar.select v809 v810 v795
  let c8_i32_307 : BitVec 32 := 8#32
  let v812 : BitVec 32 := Scalar.muli v811 c8_i32_307
  let v814 : Index := Scalar.indexCast v812
  let c0_309 : Index := 0#32
  ![0, v814.toNat, 0]

def k2_chk24 (v792 : BitVec 32) : Prop :=
  (∀ a, (k2_off48 v792) a + S1x40x256.size a ≤ S1x2048x256.size a)
theorem k2_off48_inb : ∀ (v792 : BitVec 32) (k2_hw24 : k2_chk24 v792), ∀ a, (k2_off48 v792) a + S1x40x256.size a ≤ S1x2048x256.size a := fun v792 k2_hw24 => k2_hw24

def k2_off49 (i : grid2.Coords) : Fin 2 → Nat :=
  let arg0 : BitVec 32 := BitVec.ofNat 32 (i 0).val
  let v829 : Index := Scalar.indexCast arg0
  let c24 : Index := 24#32
  ![v829.toNat, 24]
def k2_off50 (v830 : BitVec 32) : Fin 3 → Nat :=
  let c0_323 : Index := 0#32
  let c0_i32_316 : BitVec 32 := 0#32
  let v834 : BitVec 1 := Scalar.cmpi .sgt v830 c0_i32_316
  let v835 : BitVec 32 := Scalar.extui v834
  let c0_i32_317 : BitVec 32 := 0#32
  let v836 : BitVec 1 := Scalar.cmpi .slt v830 c0_i32_317
  let v837 : BitVec 32 := Scalar.extui v836
  let v838 : BitVec 32 := Scalar.subi v835 v837
  let c8_i32_315 : BitVec 32 := 8#32
  let c0_i32_318 : BitVec 32 := 0#32
  let v839 : BitVec 1 := Scalar.cmpi .sgt c8_i32_315 c0_i32_318
  let v840 : BitVec 32 := Scalar.extui v839
  let c0_i32_319 : BitVec 32 := 0#32
  let v841 : BitVec 1 := Scalar.cmpi .slt c8_i32_315 c0_i32_319
  let v842 : BitVec 32 := Scalar.extui v841
  let v843 : BitVec 32 := Scalar.subi v840 v842
  let v844 : BitVec 1 := Scalar.cmpi .ne v838 v843
  let v845 : BitVec 32 := Scalar.remsi v830 c8_i32_315
  let c0_i32_320 : BitVec 32 := 0#32
  let v846 : BitVec 1 := Scalar.cmpi .ne v845 c0_i32_320
  let v847 : BitVec 1 := Scalar.andi v844 v846
  let v833 : BitVec 32 := Scalar.divsi v830 c8_i32_315
  let c1_i32_321 : BitVec 32 := 1#32
  let v848 : BitVec 32 := Scalar.subi v833 c1_i32_321
  let v849 : BitVec 32 := Scalar.select v847 v848 v833
  let c8_i32_322 : BitVec 32 := 8#32
  let v850 : BitVec 32 := Scalar.muli v849 c8_i32_322
  let v852 : Index := Scalar.indexCast v850
  let c0_324 : Index := 0#32
  ![0, v852.toNat, 0]

def k2_chk25 (v830 : BitVec 32) : Prop :=
  (∀ a, (k2_off50 v830) a + S1x40x256.size a ≤ S1x2048x256.size a)
theorem k2_off50_inb : ∀ (v830 : BitVec 32) (k2_hw25 : k2_chk25 v830), ∀ a, (k2_off50 v830) a + S1x40x256.size a ≤ S1x2048x256.size a := fun v830 k2_hw25 => k2_hw25

def k2_off51 (i : grid2.Coords) : Fin 2 → Nat :=
  let arg0 : BitVec 32 := BitVec.ofNat 32 (i 0).val
  let v863 : Index := Scalar.indexCast arg0
  let c25 : Index := 25#32
  ![v863.toNat, 25]
def k2_off52 (v864 : BitVec 32) : Fin 3 → Nat :=
  let c0_336 : Index := 0#32
  let c0_i32_329 : BitVec 32 := 0#32
  let v868 : BitVec 1 := Scalar.cmpi .sgt v864 c0_i32_329
  let v869 : BitVec 32 := Scalar.extui v868
  let c0_i32_330 : BitVec 32 := 0#32
  let v870 : BitVec 1 := Scalar.cmpi .slt v864 c0_i32_330
  let v871 : BitVec 32 := Scalar.extui v870
  let v872 : BitVec 32 := Scalar.subi v869 v871
  let c8_i32_328 : BitVec 32 := 8#32
  let c0_i32_331 : BitVec 32 := 0#32
  let v873 : BitVec 1 := Scalar.cmpi .sgt c8_i32_328 c0_i32_331
  let v874 : BitVec 32 := Scalar.extui v873
  let c0_i32_332 : BitVec 32 := 0#32
  let v875 : BitVec 1 := Scalar.cmpi .slt c8_i32_328 c0_i32_332
  let v876 : BitVec 32 := Scalar.extui v875
  let v877 : BitVec 32 := Scalar.subi v874 v876
  let v878 : BitVec 1 := Scalar.cmpi .ne v872 v877
  let v879 : BitVec 32 := Scalar.remsi v864 c8_i32_328
  let c0_i32_333 : BitVec 32 := 0#32
  let v880 : BitVec 1 := Scalar.cmpi .ne v879 c0_i32_333
  let v881 : BitVec 1 := Scalar.andi v878 v880
  let v867 : BitVec 32 := Scalar.divsi v864 c8_i32_328
  let c1_i32_334 : BitVec 32 := 1#32
  let v882 : BitVec 32 := Scalar.subi v867 c1_i32_334
  let v883 : BitVec 32 := Scalar.select v881 v882 v867
  let c8_i32_335 : BitVec 32 := 8#32
  let v884 : BitVec 32 := Scalar.muli v883 c8_i32_335
  let v886 : Index := Scalar.indexCast v884
  let c0_337 : Index := 0#32
  ![0, v886.toNat, 0]

def k2_chk26 (v864 : BitVec 32) : Prop :=
  (∀ a, (k2_off52 v864) a + S1x40x256.size a ≤ S1x2048x256.size a)
theorem k2_off52_inb : ∀ (v864 : BitVec 32) (k2_hw26 : k2_chk26 v864), ∀ a, (k2_off52 v864) a + S1x40x256.size a ≤ S1x2048x256.size a := fun v864 k2_hw26 => k2_hw26

def k2_off53 (i : grid2.Coords) : Fin 2 → Nat :=
  let arg0 : BitVec 32 := BitVec.ofNat 32 (i 0).val
  let v897 : Index := Scalar.indexCast arg0
  let c26 : Index := 26#32
  ![v897.toNat, 26]
def k2_off54 (v898 : BitVec 32) : Fin 3 → Nat :=
  let c0_349 : Index := 0#32
  let c0_i32_342 : BitVec 32 := 0#32
  let v902 : BitVec 1 := Scalar.cmpi .sgt v898 c0_i32_342
  let v903 : BitVec 32 := Scalar.extui v902
  let c0_i32_343 : BitVec 32 := 0#32
  let v904 : BitVec 1 := Scalar.cmpi .slt v898 c0_i32_343
  let v905 : BitVec 32 := Scalar.extui v904
  let v906 : BitVec 32 := Scalar.subi v903 v905
  let c8_i32_341 : BitVec 32 := 8#32
  let c0_i32_344 : BitVec 32 := 0#32
  let v907 : BitVec 1 := Scalar.cmpi .sgt c8_i32_341 c0_i32_344
  let v908 : BitVec 32 := Scalar.extui v907
  let c0_i32_345 : BitVec 32 := 0#32
  let v909 : BitVec 1 := Scalar.cmpi .slt c8_i32_341 c0_i32_345
  let v910 : BitVec 32 := Scalar.extui v909
  let v911 : BitVec 32 := Scalar.subi v908 v910
  let v912 : BitVec 1 := Scalar.cmpi .ne v906 v911
  let v913 : BitVec 32 := Scalar.remsi v898 c8_i32_341
  let c0_i32_346 : BitVec 32 := 0#32
  let v914 : BitVec 1 := Scalar.cmpi .ne v913 c0_i32_346
  let v915 : BitVec 1 := Scalar.andi v912 v914
  let v901 : BitVec 32 := Scalar.divsi v898 c8_i32_341
  let c1_i32_347 : BitVec 32 := 1#32
  let v916 : BitVec 32 := Scalar.subi v901 c1_i32_347
  let v917 : BitVec 32 := Scalar.select v915 v916 v901
  let c8_i32_348 : BitVec 32 := 8#32
  let v918 : BitVec 32 := Scalar.muli v917 c8_i32_348
  let v920 : Index := Scalar.indexCast v918
  let c0_350 : Index := 0#32
  ![0, v920.toNat, 0]

def k2_chk27 (v898 : BitVec 32) : Prop :=
  (∀ a, (k2_off54 v898) a + S1x40x256.size a ≤ S1x2048x256.size a)
theorem k2_off54_inb : ∀ (v898 : BitVec 32) (k2_hw27 : k2_chk27 v898), ∀ a, (k2_off54 v898) a + S1x40x256.size a ≤ S1x2048x256.size a := fun v898 k2_hw27 => k2_hw27

def k2_off55 (i : grid2.Coords) : Fin 2 → Nat :=
  let arg0 : BitVec 32 := BitVec.ofNat 32 (i 0).val
  let v931 : Index := Scalar.indexCast arg0
  let c27 : Index := 27#32
  ![v931.toNat, 27]
def k2_off56 (v932 : BitVec 32) : Fin 3 → Nat :=
  let c0_362 : Index := 0#32
  let c0_i32_355 : BitVec 32 := 0#32
  let v936 : BitVec 1 := Scalar.cmpi .sgt v932 c0_i32_355
  let v937 : BitVec 32 := Scalar.extui v936
  let c0_i32_356 : BitVec 32 := 0#32
  let v938 : BitVec 1 := Scalar.cmpi .slt v932 c0_i32_356
  let v939 : BitVec 32 := Scalar.extui v938
  let v940 : BitVec 32 := Scalar.subi v937 v939
  let c8_i32_354 : BitVec 32 := 8#32
  let c0_i32_357 : BitVec 32 := 0#32
  let v941 : BitVec 1 := Scalar.cmpi .sgt c8_i32_354 c0_i32_357
  let v942 : BitVec 32 := Scalar.extui v941
  let c0_i32_358 : BitVec 32 := 0#32
  let v943 : BitVec 1 := Scalar.cmpi .slt c8_i32_354 c0_i32_358
  let v944 : BitVec 32 := Scalar.extui v943
  let v945 : BitVec 32 := Scalar.subi v942 v944
  let v946 : BitVec 1 := Scalar.cmpi .ne v940 v945
  let v947 : BitVec 32 := Scalar.remsi v932 c8_i32_354
  let c0_i32_359 : BitVec 32 := 0#32
  let v948 : BitVec 1 := Scalar.cmpi .ne v947 c0_i32_359
  let v949 : BitVec 1 := Scalar.andi v946 v948
  let v935 : BitVec 32 := Scalar.divsi v932 c8_i32_354
  let c1_i32_360 : BitVec 32 := 1#32
  let v950 : BitVec 32 := Scalar.subi v935 c1_i32_360
  let v951 : BitVec 32 := Scalar.select v949 v950 v935
  let c8_i32_361 : BitVec 32 := 8#32
  let v952 : BitVec 32 := Scalar.muli v951 c8_i32_361
  let v954 : Index := Scalar.indexCast v952
  let c0_363 : Index := 0#32
  ![0, v954.toNat, 0]

def k2_chk28 (v932 : BitVec 32) : Prop :=
  (∀ a, (k2_off56 v932) a + S1x40x256.size a ≤ S1x2048x256.size a)
theorem k2_off56_inb : ∀ (v932 : BitVec 32) (k2_hw28 : k2_chk28 v932), ∀ a, (k2_off56 v932) a + S1x40x256.size a ≤ S1x2048x256.size a := fun v932 k2_hw28 => k2_hw28

def k2_off57 (i : grid2.Coords) : Fin 2 → Nat :=
  let arg0 : BitVec 32 := BitVec.ofNat 32 (i 0).val
  let v965 : Index := Scalar.indexCast arg0
  let c28 : Index := 28#32
  ![v965.toNat, 28]
def k2_off58 (v966 : BitVec 32) : Fin 3 → Nat :=
  let c0_375 : Index := 0#32
  let c0_i32_368 : BitVec 32 := 0#32
  let v970 : BitVec 1 := Scalar.cmpi .sgt v966 c0_i32_368
  let v971 : BitVec 32 := Scalar.extui v970
  let c0_i32_369 : BitVec 32 := 0#32
  let v972 : BitVec 1 := Scalar.cmpi .slt v966 c0_i32_369
  let v973 : BitVec 32 := Scalar.extui v972
  let v974 : BitVec 32 := Scalar.subi v971 v973
  let c8_i32_367 : BitVec 32 := 8#32
  let c0_i32_370 : BitVec 32 := 0#32
  let v975 : BitVec 1 := Scalar.cmpi .sgt c8_i32_367 c0_i32_370
  let v976 : BitVec 32 := Scalar.extui v975
  let c0_i32_371 : BitVec 32 := 0#32
  let v977 : BitVec 1 := Scalar.cmpi .slt c8_i32_367 c0_i32_371
  let v978 : BitVec 32 := Scalar.extui v977
  let v979 : BitVec 32 := Scalar.subi v976 v978
  let v980 : BitVec 1 := Scalar.cmpi .ne v974 v979
  let v981 : BitVec 32 := Scalar.remsi v966 c8_i32_367
  let c0_i32_372 : BitVec 32 := 0#32
  let v982 : BitVec 1 := Scalar.cmpi .ne v981 c0_i32_372
  let v983 : BitVec 1 := Scalar.andi v980 v982
  let v969 : BitVec 32 := Scalar.divsi v966 c8_i32_367
  let c1_i32_373 : BitVec 32 := 1#32
  let v984 : BitVec 32 := Scalar.subi v969 c1_i32_373
  let v985 : BitVec 32 := Scalar.select v983 v984 v969
  let c8_i32_374 : BitVec 32 := 8#32
  let v986 : BitVec 32 := Scalar.muli v985 c8_i32_374
  let v988 : Index := Scalar.indexCast v986
  let c0_376 : Index := 0#32
  ![0, v988.toNat, 0]

def k2_chk29 (v966 : BitVec 32) : Prop :=
  (∀ a, (k2_off58 v966) a + S1x40x256.size a ≤ S1x2048x256.size a)
theorem k2_off58_inb : ∀ (v966 : BitVec 32) (k2_hw29 : k2_chk29 v966), ∀ a, (k2_off58 v966) a + S1x40x256.size a ≤ S1x2048x256.size a := fun v966 k2_hw29 => k2_hw29

def k2_off59 (i : grid2.Coords) : Fin 2 → Nat :=
  let arg0 : BitVec 32 := BitVec.ofNat 32 (i 0).val
  let v999 : Index := Scalar.indexCast arg0
  let c29 : Index := 29#32
  ![v999.toNat, 29]
def k2_off60 (v1000 : BitVec 32) : Fin 3 → Nat :=
  let c0_388 : Index := 0#32
  let c0_i32_381 : BitVec 32 := 0#32
  let v1004 : BitVec 1 := Scalar.cmpi .sgt v1000 c0_i32_381
  let v1005 : BitVec 32 := Scalar.extui v1004
  let c0_i32_382 : BitVec 32 := 0#32
  let v1006 : BitVec 1 := Scalar.cmpi .slt v1000 c0_i32_382
  let v1007 : BitVec 32 := Scalar.extui v1006
  let v1008 : BitVec 32 := Scalar.subi v1005 v1007
  let c8_i32_380 : BitVec 32 := 8#32
  let c0_i32_383 : BitVec 32 := 0#32
  let v1009 : BitVec 1 := Scalar.cmpi .sgt c8_i32_380 c0_i32_383
  let v1010 : BitVec 32 := Scalar.extui v1009
  let c0_i32_384 : BitVec 32 := 0#32
  let v1011 : BitVec 1 := Scalar.cmpi .slt c8_i32_380 c0_i32_384
  let v1012 : BitVec 32 := Scalar.extui v1011
  let v1013 : BitVec 32 := Scalar.subi v1010 v1012
  let v1014 : BitVec 1 := Scalar.cmpi .ne v1008 v1013
  let v1015 : BitVec 32 := Scalar.remsi v1000 c8_i32_380
  let c0_i32_385 : BitVec 32 := 0#32
  let v1016 : BitVec 1 := Scalar.cmpi .ne v1015 c0_i32_385
  let v1017 : BitVec 1 := Scalar.andi v1014 v1016
  let v1003 : BitVec 32 := Scalar.divsi v1000 c8_i32_380
  let c1_i32_386 : BitVec 32 := 1#32
  let v1018 : BitVec 32 := Scalar.subi v1003 c1_i32_386
  let v1019 : BitVec 32 := Scalar.select v1017 v1018 v1003
  let c8_i32_387 : BitVec 32 := 8#32
  let v1020 : BitVec 32 := Scalar.muli v1019 c8_i32_387
  let v1022 : Index := Scalar.indexCast v1020
  let c0_389 : Index := 0#32
  ![0, v1022.toNat, 0]

def k2_chk30 (v1000 : BitVec 32) : Prop :=
  (∀ a, (k2_off60 v1000) a + S1x40x256.size a ≤ S1x2048x256.size a)
theorem k2_off60_inb : ∀ (v1000 : BitVec 32) (k2_hw30 : k2_chk30 v1000), ∀ a, (k2_off60 v1000) a + S1x40x256.size a ≤ S1x2048x256.size a := fun v1000 k2_hw30 => k2_hw30

def k2_off61 (i : grid2.Coords) : Fin 2 → Nat :=
  let arg0 : BitVec 32 := BitVec.ofNat 32 (i 0).val
  let v1033 : Index := Scalar.indexCast arg0
  let c30 : Index := 30#32
  ![v1033.toNat, 30]
def k2_off62 (v1034 : BitVec 32) : Fin 3 → Nat :=
  let c0_401 : Index := 0#32
  let c0_i32_394 : BitVec 32 := 0#32
  let v1038 : BitVec 1 := Scalar.cmpi .sgt v1034 c0_i32_394
  let v1039 : BitVec 32 := Scalar.extui v1038
  let c0_i32_395 : BitVec 32 := 0#32
  let v1040 : BitVec 1 := Scalar.cmpi .slt v1034 c0_i32_395
  let v1041 : BitVec 32 := Scalar.extui v1040
  let v1042 : BitVec 32 := Scalar.subi v1039 v1041
  let c8_i32_393 : BitVec 32 := 8#32
  let c0_i32_396 : BitVec 32 := 0#32
  let v1043 : BitVec 1 := Scalar.cmpi .sgt c8_i32_393 c0_i32_396
  let v1044 : BitVec 32 := Scalar.extui v1043
  let c0_i32_397 : BitVec 32 := 0#32
  let v1045 : BitVec 1 := Scalar.cmpi .slt c8_i32_393 c0_i32_397
  let v1046 : BitVec 32 := Scalar.extui v1045
  let v1047 : BitVec 32 := Scalar.subi v1044 v1046
  let v1048 : BitVec 1 := Scalar.cmpi .ne v1042 v1047
  let v1049 : BitVec 32 := Scalar.remsi v1034 c8_i32_393
  let c0_i32_398 : BitVec 32 := 0#32
  let v1050 : BitVec 1 := Scalar.cmpi .ne v1049 c0_i32_398
  let v1051 : BitVec 1 := Scalar.andi v1048 v1050
  let v1037 : BitVec 32 := Scalar.divsi v1034 c8_i32_393
  let c1_i32_399 : BitVec 32 := 1#32
  let v1052 : BitVec 32 := Scalar.subi v1037 c1_i32_399
  let v1053 : BitVec 32 := Scalar.select v1051 v1052 v1037
  let c8_i32_400 : BitVec 32 := 8#32
  let v1054 : BitVec 32 := Scalar.muli v1053 c8_i32_400
  let v1056 : Index := Scalar.indexCast v1054
  let c0_402 : Index := 0#32
  ![0, v1056.toNat, 0]

def k2_chk31 (v1034 : BitVec 32) : Prop :=
  (∀ a, (k2_off62 v1034) a + S1x40x256.size a ≤ S1x2048x256.size a)
theorem k2_off62_inb : ∀ (v1034 : BitVec 32) (k2_hw31 : k2_chk31 v1034), ∀ a, (k2_off62 v1034) a + S1x40x256.size a ≤ S1x2048x256.size a := fun v1034 k2_hw31 => k2_hw31

def k2_off63 (i : grid2.Coords) : Fin 2 → Nat :=
  let arg0 : BitVec 32 := BitVec.ofNat 32 (i 0).val
  let v1067 : Index := Scalar.indexCast arg0
  let c31 : Index := 31#32
  ![v1067.toNat, 31]
def k2_off64 (v1068 : BitVec 32) : Fin 3 → Nat :=
  let c0_414 : Index := 0#32
  let c0_i32_407 : BitVec 32 := 0#32
  let v1072 : BitVec 1 := Scalar.cmpi .sgt v1068 c0_i32_407
  let v1073 : BitVec 32 := Scalar.extui v1072
  let c0_i32_408 : BitVec 32 := 0#32
  let v1074 : BitVec 1 := Scalar.cmpi .slt v1068 c0_i32_408
  let v1075 : BitVec 32 := Scalar.extui v1074
  let v1076 : BitVec 32 := Scalar.subi v1073 v1075
  let c8_i32_406 : BitVec 32 := 8#32
  let c0_i32_409 : BitVec 32 := 0#32
  let v1077 : BitVec 1 := Scalar.cmpi .sgt c8_i32_406 c0_i32_409
  let v1078 : BitVec 32 := Scalar.extui v1077
  let c0_i32_410 : BitVec 32 := 0#32
  let v1079 : BitVec 1 := Scalar.cmpi .slt c8_i32_406 c0_i32_410
  let v1080 : BitVec 32 := Scalar.extui v1079
  let v1081 : BitVec 32 := Scalar.subi v1078 v1080
  let v1082 : BitVec 1 := Scalar.cmpi .ne v1076 v1081
  let v1083 : BitVec 32 := Scalar.remsi v1068 c8_i32_406
  let c0_i32_411 : BitVec 32 := 0#32
  let v1084 : BitVec 1 := Scalar.cmpi .ne v1083 c0_i32_411
  let v1085 : BitVec 1 := Scalar.andi v1082 v1084
  let v1071 : BitVec 32 := Scalar.divsi v1068 c8_i32_406
  let c1_i32_412 : BitVec 32 := 1#32
  let v1086 : BitVec 32 := Scalar.subi v1071 c1_i32_412
  let v1087 : BitVec 32 := Scalar.select v1085 v1086 v1071
  let c8_i32_413 : BitVec 32 := 8#32
  let v1088 : BitVec 32 := Scalar.muli v1087 c8_i32_413
  let v1090 : Index := Scalar.indexCast v1088
  let c0_415 : Index := 0#32
  ![0, v1090.toNat, 0]

def k2_chk32 (v1068 : BitVec 32) : Prop :=
  (∀ a, (k2_off64 v1068) a + S1x40x256.size a ≤ S1x2048x256.size a)
theorem k2_off64_inb : ∀ (v1068 : BitVec 32) (k2_hw32 : k2_chk32 v1068), ∀ a, (k2_off64 v1068) a + S1x40x256.size a ≤ S1x2048x256.size a := fun v1068 k2_hw32 => k2_hw32

def k2_off65 (i : grid2.Coords) : Fin 2 → Nat :=
  let arg0 : BitVec 32 := BitVec.ofNat 32 (i 0).val
  let v1105 : Index := Scalar.indexCast arg0
  let c32 : Index := 32#32
  ![v1105.toNat, 32]
def k2_off66 (v1106 : BitVec 32) : Fin 3 → Nat :=
  let c0_429 : Index := 0#32
  let c0_i32_422 : BitVec 32 := 0#32
  let v1110 : BitVec 1 := Scalar.cmpi .sgt v1106 c0_i32_422
  let v1111 : BitVec 32 := Scalar.extui v1110
  let c0_i32_423 : BitVec 32 := 0#32
  let v1112 : BitVec 1 := Scalar.cmpi .slt v1106 c0_i32_423
  let v1113 : BitVec 32 := Scalar.extui v1112
  let v1114 : BitVec 32 := Scalar.subi v1111 v1113
  let c8_i32_421 : BitVec 32 := 8#32
  let c0_i32_424 : BitVec 32 := 0#32
  let v1115 : BitVec 1 := Scalar.cmpi .sgt c8_i32_421 c0_i32_424
  let v1116 : BitVec 32 := Scalar.extui v1115
  let c0_i32_425 : BitVec 32 := 0#32
  let v1117 : BitVec 1 := Scalar.cmpi .slt c8_i32_421 c0_i32_425
  let v1118 : BitVec 32 := Scalar.extui v1117
  let v1119 : BitVec 32 := Scalar.subi v1116 v1118
  let v1120 : BitVec 1 := Scalar.cmpi .ne v1114 v1119
  let v1121 : BitVec 32 := Scalar.remsi v1106 c8_i32_421
  let c0_i32_426 : BitVec 32 := 0#32
  let v1122 : BitVec 1 := Scalar.cmpi .ne v1121 c0_i32_426
  let v1123 : BitVec 1 := Scalar.andi v1120 v1122
  let v1109 : BitVec 32 := Scalar.divsi v1106 c8_i32_421
  let c1_i32_427 : BitVec 32 := 1#32
  let v1124 : BitVec 32 := Scalar.subi v1109 c1_i32_427
  let v1125 : BitVec 32 := Scalar.select v1123 v1124 v1109
  let c8_i32_428 : BitVec 32 := 8#32
  let v1126 : BitVec 32 := Scalar.muli v1125 c8_i32_428
  let v1128 : Index := Scalar.indexCast v1126
  let c0_430 : Index := 0#32
  ![0, v1128.toNat, 0]

def k2_chk33 (v1106 : BitVec 32) : Prop :=
  (∀ a, (k2_off66 v1106) a + S1x40x256.size a ≤ S1x2048x256.size a)
theorem k2_off66_inb : ∀ (v1106 : BitVec 32) (k2_hw33 : k2_chk33 v1106), ∀ a, (k2_off66 v1106) a + S1x40x256.size a ≤ S1x2048x256.size a := fun v1106 k2_hw33 => k2_hw33

def k2_off67 (i : grid2.Coords) : Fin 2 → Nat :=
  let arg0 : BitVec 32 := BitVec.ofNat 32 (i 0).val
  let v1139 : Index := Scalar.indexCast arg0
  let c33 : Index := 33#32
  ![v1139.toNat, 33]
def k2_off68 (v1140 : BitVec 32) : Fin 3 → Nat :=
  let c0_442 : Index := 0#32
  let c0_i32_435 : BitVec 32 := 0#32
  let v1144 : BitVec 1 := Scalar.cmpi .sgt v1140 c0_i32_435
  let v1145 : BitVec 32 := Scalar.extui v1144
  let c0_i32_436 : BitVec 32 := 0#32
  let v1146 : BitVec 1 := Scalar.cmpi .slt v1140 c0_i32_436
  let v1147 : BitVec 32 := Scalar.extui v1146
  let v1148 : BitVec 32 := Scalar.subi v1145 v1147
  let c8_i32_434 : BitVec 32 := 8#32
  let c0_i32_437 : BitVec 32 := 0#32
  let v1149 : BitVec 1 := Scalar.cmpi .sgt c8_i32_434 c0_i32_437
  let v1150 : BitVec 32 := Scalar.extui v1149
  let c0_i32_438 : BitVec 32 := 0#32
  let v1151 : BitVec 1 := Scalar.cmpi .slt c8_i32_434 c0_i32_438
  let v1152 : BitVec 32 := Scalar.extui v1151
  let v1153 : BitVec 32 := Scalar.subi v1150 v1152
  let v1154 : BitVec 1 := Scalar.cmpi .ne v1148 v1153
  let v1155 : BitVec 32 := Scalar.remsi v1140 c8_i32_434
  let c0_i32_439 : BitVec 32 := 0#32
  let v1156 : BitVec 1 := Scalar.cmpi .ne v1155 c0_i32_439
  let v1157 : BitVec 1 := Scalar.andi v1154 v1156
  let v1143 : BitVec 32 := Scalar.divsi v1140 c8_i32_434
  let c1_i32_440 : BitVec 32 := 1#32
  let v1158 : BitVec 32 := Scalar.subi v1143 c1_i32_440
  let v1159 : BitVec 32 := Scalar.select v1157 v1158 v1143
  let c8_i32_441 : BitVec 32 := 8#32
  let v1160 : BitVec 32 := Scalar.muli v1159 c8_i32_441
  let v1162 : Index := Scalar.indexCast v1160
  let c0_443 : Index := 0#32
  ![0, v1162.toNat, 0]

def k2_chk34 (v1140 : BitVec 32) : Prop :=
  (∀ a, (k2_off68 v1140) a + S1x40x256.size a ≤ S1x2048x256.size a)
theorem k2_off68_inb : ∀ (v1140 : BitVec 32) (k2_hw34 : k2_chk34 v1140), ∀ a, (k2_off68 v1140) a + S1x40x256.size a ≤ S1x2048x256.size a := fun v1140 k2_hw34 => k2_hw34

def k2_off69 (i : grid2.Coords) : Fin 2 → Nat :=
  let arg0 : BitVec 32 := BitVec.ofNat 32 (i 0).val
  let v1173 : Index := Scalar.indexCast arg0
  let c34 : Index := 34#32
  ![v1173.toNat, 34]
def k2_off70 (v1174 : BitVec 32) : Fin 3 → Nat :=
  let c0_455 : Index := 0#32
  let c0_i32_448 : BitVec 32 := 0#32
  let v1178 : BitVec 1 := Scalar.cmpi .sgt v1174 c0_i32_448
  let v1179 : BitVec 32 := Scalar.extui v1178
  let c0_i32_449 : BitVec 32 := 0#32
  let v1180 : BitVec 1 := Scalar.cmpi .slt v1174 c0_i32_449
  let v1181 : BitVec 32 := Scalar.extui v1180
  let v1182 : BitVec 32 := Scalar.subi v1179 v1181
  let c8_i32_447 : BitVec 32 := 8#32
  let c0_i32_450 : BitVec 32 := 0#32
  let v1183 : BitVec 1 := Scalar.cmpi .sgt c8_i32_447 c0_i32_450
  let v1184 : BitVec 32 := Scalar.extui v1183
  let c0_i32_451 : BitVec 32 := 0#32
  let v1185 : BitVec 1 := Scalar.cmpi .slt c8_i32_447 c0_i32_451
  let v1186 : BitVec 32 := Scalar.extui v1185
  let v1187 : BitVec 32 := Scalar.subi v1184 v1186
  let v1188 : BitVec 1 := Scalar.cmpi .ne v1182 v1187
  let v1189 : BitVec 32 := Scalar.remsi v1174 c8_i32_447
  let c0_i32_452 : BitVec 32 := 0#32
  let v1190 : BitVec 1 := Scalar.cmpi .ne v1189 c0_i32_452
  let v1191 : BitVec 1 := Scalar.andi v1188 v1190
  let v1177 : BitVec 32 := Scalar.divsi v1174 c8_i32_447
  let c1_i32_453 : BitVec 32 := 1#32
  let v1192 : BitVec 32 := Scalar.subi v1177 c1_i32_453
  let v1193 : BitVec 32 := Scalar.select v1191 v1192 v1177
  let c8_i32_454 : BitVec 32 := 8#32
  let v1194 : BitVec 32 := Scalar.muli v1193 c8_i32_454
  let v1196 : Index := Scalar.indexCast v1194
  let c0_456 : Index := 0#32
  ![0, v1196.toNat, 0]

def k2_chk35 (v1174 : BitVec 32) : Prop :=
  (∀ a, (k2_off70 v1174) a + S1x40x256.size a ≤ S1x2048x256.size a)
theorem k2_off70_inb : ∀ (v1174 : BitVec 32) (k2_hw35 : k2_chk35 v1174), ∀ a, (k2_off70 v1174) a + S1x40x256.size a ≤ S1x2048x256.size a := fun v1174 k2_hw35 => k2_hw35

def k2_off71 (i : grid2.Coords) : Fin 2 → Nat :=
  let arg0 : BitVec 32 := BitVec.ofNat 32 (i 0).val
  let v1207 : Index := Scalar.indexCast arg0
  let c35 : Index := 35#32
  ![v1207.toNat, 35]
def k2_off72 (v1208 : BitVec 32) : Fin 3 → Nat :=
  let c0_468 : Index := 0#32
  let c0_i32_461 : BitVec 32 := 0#32
  let v1212 : BitVec 1 := Scalar.cmpi .sgt v1208 c0_i32_461
  let v1213 : BitVec 32 := Scalar.extui v1212
  let c0_i32_462 : BitVec 32 := 0#32
  let v1214 : BitVec 1 := Scalar.cmpi .slt v1208 c0_i32_462
  let v1215 : BitVec 32 := Scalar.extui v1214
  let v1216 : BitVec 32 := Scalar.subi v1213 v1215
  let c8_i32_460 : BitVec 32 := 8#32
  let c0_i32_463 : BitVec 32 := 0#32
  let v1217 : BitVec 1 := Scalar.cmpi .sgt c8_i32_460 c0_i32_463
  let v1218 : BitVec 32 := Scalar.extui v1217
  let c0_i32_464 : BitVec 32 := 0#32
  let v1219 : BitVec 1 := Scalar.cmpi .slt c8_i32_460 c0_i32_464
  let v1220 : BitVec 32 := Scalar.extui v1219
  let v1221 : BitVec 32 := Scalar.subi v1218 v1220
  let v1222 : BitVec 1 := Scalar.cmpi .ne v1216 v1221
  let v1223 : BitVec 32 := Scalar.remsi v1208 c8_i32_460
  let c0_i32_465 : BitVec 32 := 0#32
  let v1224 : BitVec 1 := Scalar.cmpi .ne v1223 c0_i32_465
  let v1225 : BitVec 1 := Scalar.andi v1222 v1224
  let v1211 : BitVec 32 := Scalar.divsi v1208 c8_i32_460
  let c1_i32_466 : BitVec 32 := 1#32
  let v1226 : BitVec 32 := Scalar.subi v1211 c1_i32_466
  let v1227 : BitVec 32 := Scalar.select v1225 v1226 v1211
  let c8_i32_467 : BitVec 32 := 8#32
  let v1228 : BitVec 32 := Scalar.muli v1227 c8_i32_467
  let v1230 : Index := Scalar.indexCast v1228
  let c0_469 : Index := 0#32
  ![0, v1230.toNat, 0]

def k2_chk36 (v1208 : BitVec 32) : Prop :=
  (∀ a, (k2_off72 v1208) a + S1x40x256.size a ≤ S1x2048x256.size a)
theorem k2_off72_inb : ∀ (v1208 : BitVec 32) (k2_hw36 : k2_chk36 v1208), ∀ a, (k2_off72 v1208) a + S1x40x256.size a ≤ S1x2048x256.size a := fun v1208 k2_hw36 => k2_hw36

def k2_off73 (i : grid2.Coords) : Fin 2 → Nat :=
  let arg0 : BitVec 32 := BitVec.ofNat 32 (i 0).val
  let v1241 : Index := Scalar.indexCast arg0
  let c36 : Index := 36#32
  ![v1241.toNat, 36]
def k2_off74 (v1242 : BitVec 32) : Fin 3 → Nat :=
  let c0_481 : Index := 0#32
  let c0_i32_474 : BitVec 32 := 0#32
  let v1246 : BitVec 1 := Scalar.cmpi .sgt v1242 c0_i32_474
  let v1247 : BitVec 32 := Scalar.extui v1246
  let c0_i32_475 : BitVec 32 := 0#32
  let v1248 : BitVec 1 := Scalar.cmpi .slt v1242 c0_i32_475
  let v1249 : BitVec 32 := Scalar.extui v1248
  let v1250 : BitVec 32 := Scalar.subi v1247 v1249
  let c8_i32_473 : BitVec 32 := 8#32
  let c0_i32_476 : BitVec 32 := 0#32
  let v1251 : BitVec 1 := Scalar.cmpi .sgt c8_i32_473 c0_i32_476
  let v1252 : BitVec 32 := Scalar.extui v1251
  let c0_i32_477 : BitVec 32 := 0#32
  let v1253 : BitVec 1 := Scalar.cmpi .slt c8_i32_473 c0_i32_477
  let v1254 : BitVec 32 := Scalar.extui v1253
  let v1255 : BitVec 32 := Scalar.subi v1252 v1254
  let v1256 : BitVec 1 := Scalar.cmpi .ne v1250 v1255
  let v1257 : BitVec 32 := Scalar.remsi v1242 c8_i32_473
  let c0_i32_478 : BitVec 32 := 0#32
  let v1258 : BitVec 1 := Scalar.cmpi .ne v1257 c0_i32_478
  let v1259 : BitVec 1 := Scalar.andi v1256 v1258
  let v1245 : BitVec 32 := Scalar.divsi v1242 c8_i32_473
  let c1_i32_479 : BitVec 32 := 1#32
  let v1260 : BitVec 32 := Scalar.subi v1245 c1_i32_479
  let v1261 : BitVec 32 := Scalar.select v1259 v1260 v1245
  let c8_i32_480 : BitVec 32 := 8#32
  let v1262 : BitVec 32 := Scalar.muli v1261 c8_i32_480
  let v1264 : Index := Scalar.indexCast v1262
  let c0_482 : Index := 0#32
  ![0, v1264.toNat, 0]

def k2_chk37 (v1242 : BitVec 32) : Prop :=
  (∀ a, (k2_off74 v1242) a + S1x40x256.size a ≤ S1x2048x256.size a)
theorem k2_off74_inb : ∀ (v1242 : BitVec 32) (k2_hw37 : k2_chk37 v1242), ∀ a, (k2_off74 v1242) a + S1x40x256.size a ≤ S1x2048x256.size a := fun v1242 k2_hw37 => k2_hw37

def k2_off75 (i : grid2.Coords) : Fin 2 → Nat :=
  let arg0 : BitVec 32 := BitVec.ofNat 32 (i 0).val
  let v1275 : Index := Scalar.indexCast arg0
  let c37 : Index := 37#32
  ![v1275.toNat, 37]
def k2_off76 (v1276 : BitVec 32) : Fin 3 → Nat :=
  let c0_494 : Index := 0#32
  let c0_i32_487 : BitVec 32 := 0#32
  let v1280 : BitVec 1 := Scalar.cmpi .sgt v1276 c0_i32_487
  let v1281 : BitVec 32 := Scalar.extui v1280
  let c0_i32_488 : BitVec 32 := 0#32
  let v1282 : BitVec 1 := Scalar.cmpi .slt v1276 c0_i32_488
  let v1283 : BitVec 32 := Scalar.extui v1282
  let v1284 : BitVec 32 := Scalar.subi v1281 v1283
  let c8_i32_486 : BitVec 32 := 8#32
  let c0_i32_489 : BitVec 32 := 0#32
  let v1285 : BitVec 1 := Scalar.cmpi .sgt c8_i32_486 c0_i32_489
  let v1286 : BitVec 32 := Scalar.extui v1285
  let c0_i32_490 : BitVec 32 := 0#32
  let v1287 : BitVec 1 := Scalar.cmpi .slt c8_i32_486 c0_i32_490
  let v1288 : BitVec 32 := Scalar.extui v1287
  let v1289 : BitVec 32 := Scalar.subi v1286 v1288
  let v1290 : BitVec 1 := Scalar.cmpi .ne v1284 v1289
  let v1291 : BitVec 32 := Scalar.remsi v1276 c8_i32_486
  let c0_i32_491 : BitVec 32 := 0#32
  let v1292 : BitVec 1 := Scalar.cmpi .ne v1291 c0_i32_491
  let v1293 : BitVec 1 := Scalar.andi v1290 v1292
  let v1279 : BitVec 32 := Scalar.divsi v1276 c8_i32_486
  let c1_i32_492 : BitVec 32 := 1#32
  let v1294 : BitVec 32 := Scalar.subi v1279 c1_i32_492
  let v1295 : BitVec 32 := Scalar.select v1293 v1294 v1279
  let c8_i32_493 : BitVec 32 := 8#32
  let v1296 : BitVec 32 := Scalar.muli v1295 c8_i32_493
  let v1298 : Index := Scalar.indexCast v1296
  let c0_495 : Index := 0#32
  ![0, v1298.toNat, 0]

def k2_chk38 (v1276 : BitVec 32) : Prop :=
  (∀ a, (k2_off76 v1276) a + S1x40x256.size a ≤ S1x2048x256.size a)
theorem k2_off76_inb : ∀ (v1276 : BitVec 32) (k2_hw38 : k2_chk38 v1276), ∀ a, (k2_off76 v1276) a + S1x40x256.size a ≤ S1x2048x256.size a := fun v1276 k2_hw38 => k2_hw38

def k2_off77 (i : grid2.Coords) : Fin 2 → Nat :=
  let arg0 : BitVec 32 := BitVec.ofNat 32 (i 0).val
  let v1309 : Index := Scalar.indexCast arg0
  let c38 : Index := 38#32
  ![v1309.toNat, 38]
def k2_off78 (v1310 : BitVec 32) : Fin 3 → Nat :=
  let c0_507 : Index := 0#32
  let c0_i32_500 : BitVec 32 := 0#32
  let v1314 : BitVec 1 := Scalar.cmpi .sgt v1310 c0_i32_500
  let v1315 : BitVec 32 := Scalar.extui v1314
  let c0_i32_501 : BitVec 32 := 0#32
  let v1316 : BitVec 1 := Scalar.cmpi .slt v1310 c0_i32_501
  let v1317 : BitVec 32 := Scalar.extui v1316
  let v1318 : BitVec 32 := Scalar.subi v1315 v1317
  let c8_i32_499 : BitVec 32 := 8#32
  let c0_i32_502 : BitVec 32 := 0#32
  let v1319 : BitVec 1 := Scalar.cmpi .sgt c8_i32_499 c0_i32_502
  let v1320 : BitVec 32 := Scalar.extui v1319
  let c0_i32_503 : BitVec 32 := 0#32
  let v1321 : BitVec 1 := Scalar.cmpi .slt c8_i32_499 c0_i32_503
  let v1322 : BitVec 32 := Scalar.extui v1321
  let v1323 : BitVec 32 := Scalar.subi v1320 v1322
  let v1324 : BitVec 1 := Scalar.cmpi .ne v1318 v1323
  let v1325 : BitVec 32 := Scalar.remsi v1310 c8_i32_499
  let c0_i32_504 : BitVec 32 := 0#32
  let v1326 : BitVec 1 := Scalar.cmpi .ne v1325 c0_i32_504
  let v1327 : BitVec 1 := Scalar.andi v1324 v1326
  let v1313 : BitVec 32 := Scalar.divsi v1310 c8_i32_499
  let c1_i32_505 : BitVec 32 := 1#32
  let v1328 : BitVec 32 := Scalar.subi v1313 c1_i32_505
  let v1329 : BitVec 32 := Scalar.select v1327 v1328 v1313
  let c8_i32_506 : BitVec 32 := 8#32
  let v1330 : BitVec 32 := Scalar.muli v1329 c8_i32_506
  let v1332 : Index := Scalar.indexCast v1330
  let c0_508 : Index := 0#32
  ![0, v1332.toNat, 0]

def k2_chk39 (v1310 : BitVec 32) : Prop :=
  (∀ a, (k2_off78 v1310) a + S1x40x256.size a ≤ S1x2048x256.size a)
theorem k2_off78_inb : ∀ (v1310 : BitVec 32) (k2_hw39 : k2_chk39 v1310), ∀ a, (k2_off78 v1310) a + S1x40x256.size a ≤ S1x2048x256.size a := fun v1310 k2_hw39 => k2_hw39

def k2_off79 (i : grid2.Coords) : Fin 2 → Nat :=
  let arg0 : BitVec 32 := BitVec.ofNat 32 (i 0).val
  let v1343 : Index := Scalar.indexCast arg0
  let c39 : Index := 39#32
  ![v1343.toNat, 39]
def k2_off80 (v1344 : BitVec 32) : Fin 3 → Nat :=
  let c0_520 : Index := 0#32
  let c0_i32_513 : BitVec 32 := 0#32
  let v1348 : BitVec 1 := Scalar.cmpi .sgt v1344 c0_i32_513
  let v1349 : BitVec 32 := Scalar.extui v1348
  let c0_i32_514 : BitVec 32 := 0#32
  let v1350 : BitVec 1 := Scalar.cmpi .slt v1344 c0_i32_514
  let v1351 : BitVec 32 := Scalar.extui v1350
  let v1352 : BitVec 32 := Scalar.subi v1349 v1351
  let c8_i32_512 : BitVec 32 := 8#32
  let c0_i32_515 : BitVec 32 := 0#32
  let v1353 : BitVec 1 := Scalar.cmpi .sgt c8_i32_512 c0_i32_515
  let v1354 : BitVec 32 := Scalar.extui v1353
  let c0_i32_516 : BitVec 32 := 0#32
  let v1355 : BitVec 1 := Scalar.cmpi .slt c8_i32_512 c0_i32_516
  let v1356 : BitVec 32 := Scalar.extui v1355
  let v1357 : BitVec 32 := Scalar.subi v1354 v1356
  let v1358 : BitVec 1 := Scalar.cmpi .ne v1352 v1357
  let v1359 : BitVec 32 := Scalar.remsi v1344 c8_i32_512
  let c0_i32_517 : BitVec 32 := 0#32
  let v1360 : BitVec 1 := Scalar.cmpi .ne v1359 c0_i32_517
  let v1361 : BitVec 1 := Scalar.andi v1358 v1360
  let v1347 : BitVec 32 := Scalar.divsi v1344 c8_i32_512
  let c1_i32_518 : BitVec 32 := 1#32
  let v1362 : BitVec 32 := Scalar.subi v1347 c1_i32_518
  let v1363 : BitVec 32 := Scalar.select v1361 v1362 v1347
  let c8_i32_519 : BitVec 32 := 8#32
  let v1364 : BitVec 32 := Scalar.muli v1363 c8_i32_519
  let v1366 : Index := Scalar.indexCast v1364
  let c0_521 : Index := 0#32
  ![0, v1366.toNat, 0]

def k2_chk40 (v1344 : BitVec 32) : Prop :=
  (∀ a, (k2_off80 v1344) a + S1x40x256.size a ≤ S1x2048x256.size a)
theorem k2_off80_inb : ∀ (v1344 : BitVec 32) (k2_hw40 : k2_chk40 v1344), ∀ a, (k2_off80 v1344) a + S1x40x256.size a ≤ S1x2048x256.size a := fun v1344 k2_hw40 => k2_hw40

def k2_off81 (i : grid2.Coords) : Fin 2 → Nat :=
  let arg0 : BitVec 32 := BitVec.ofNat 32 (i 0).val
  let v1381 : Index := Scalar.indexCast arg0
  let c40 : Index := 40#32
  ![v1381.toNat, 40]
def k2_off82 (v1382 : BitVec 32) : Fin 3 → Nat :=
  let c0_535 : Index := 0#32
  let c0_i32_528 : BitVec 32 := 0#32
  let v1386 : BitVec 1 := Scalar.cmpi .sgt v1382 c0_i32_528
  let v1387 : BitVec 32 := Scalar.extui v1386
  let c0_i32_529 : BitVec 32 := 0#32
  let v1388 : BitVec 1 := Scalar.cmpi .slt v1382 c0_i32_529
  let v1389 : BitVec 32 := Scalar.extui v1388
  let v1390 : BitVec 32 := Scalar.subi v1387 v1389
  let c8_i32_527 : BitVec 32 := 8#32
  let c0_i32_530 : BitVec 32 := 0#32
  let v1391 : BitVec 1 := Scalar.cmpi .sgt c8_i32_527 c0_i32_530
  let v1392 : BitVec 32 := Scalar.extui v1391
  let c0_i32_531 : BitVec 32 := 0#32
  let v1393 : BitVec 1 := Scalar.cmpi .slt c8_i32_527 c0_i32_531
  let v1394 : BitVec 32 := Scalar.extui v1393
  let v1395 : BitVec 32 := Scalar.subi v1392 v1394
  let v1396 : BitVec 1 := Scalar.cmpi .ne v1390 v1395
  let v1397 : BitVec 32 := Scalar.remsi v1382 c8_i32_527
  let c0_i32_532 : BitVec 32 := 0#32
  let v1398 : BitVec 1 := Scalar.cmpi .ne v1397 c0_i32_532
  let v1399 : BitVec 1 := Scalar.andi v1396 v1398
  let v1385 : BitVec 32 := Scalar.divsi v1382 c8_i32_527
  let c1_i32_533 : BitVec 32 := 1#32
  let v1400 : BitVec 32 := Scalar.subi v1385 c1_i32_533
  let v1401 : BitVec 32 := Scalar.select v1399 v1400 v1385
  let c8_i32_534 : BitVec 32 := 8#32
  let v1402 : BitVec 32 := Scalar.muli v1401 c8_i32_534
  let v1404 : Index := Scalar.indexCast v1402
  let c0_536 : Index := 0#32
  ![0, v1404.toNat, 0]

def k2_chk41 (v1382 : BitVec 32) : Prop :=
  (∀ a, (k2_off82 v1382) a + S1x40x256.size a ≤ S1x2048x256.size a)
theorem k2_off82_inb : ∀ (v1382 : BitVec 32) (k2_hw41 : k2_chk41 v1382), ∀ a, (k2_off82 v1382) a + S1x40x256.size a ≤ S1x2048x256.size a := fun v1382 k2_hw41 => k2_hw41

def k2_off83 (i : grid2.Coords) : Fin 2 → Nat :=
  let arg0 : BitVec 32 := BitVec.ofNat 32 (i 0).val
  let v1415 : Index := Scalar.indexCast arg0
  let c41 : Index := 41#32
  ![v1415.toNat, 41]
def k2_off84 (v1416 : BitVec 32) : Fin 3 → Nat :=
  let c0_548 : Index := 0#32
  let c0_i32_541 : BitVec 32 := 0#32
  let v1420 : BitVec 1 := Scalar.cmpi .sgt v1416 c0_i32_541
  let v1421 : BitVec 32 := Scalar.extui v1420
  let c0_i32_542 : BitVec 32 := 0#32
  let v1422 : BitVec 1 := Scalar.cmpi .slt v1416 c0_i32_542
  let v1423 : BitVec 32 := Scalar.extui v1422
  let v1424 : BitVec 32 := Scalar.subi v1421 v1423
  let c8_i32_540 : BitVec 32 := 8#32
  let c0_i32_543 : BitVec 32 := 0#32
  let v1425 : BitVec 1 := Scalar.cmpi .sgt c8_i32_540 c0_i32_543
  let v1426 : BitVec 32 := Scalar.extui v1425
  let c0_i32_544 : BitVec 32 := 0#32
  let v1427 : BitVec 1 := Scalar.cmpi .slt c8_i32_540 c0_i32_544
  let v1428 : BitVec 32 := Scalar.extui v1427
  let v1429 : BitVec 32 := Scalar.subi v1426 v1428
  let v1430 : BitVec 1 := Scalar.cmpi .ne v1424 v1429
  let v1431 : BitVec 32 := Scalar.remsi v1416 c8_i32_540
  let c0_i32_545 : BitVec 32 := 0#32
  let v1432 : BitVec 1 := Scalar.cmpi .ne v1431 c0_i32_545
  let v1433 : BitVec 1 := Scalar.andi v1430 v1432
  let v1419 : BitVec 32 := Scalar.divsi v1416 c8_i32_540
  let c1_i32_546 : BitVec 32 := 1#32
  let v1434 : BitVec 32 := Scalar.subi v1419 c1_i32_546
  let v1435 : BitVec 32 := Scalar.select v1433 v1434 v1419
  let c8_i32_547 : BitVec 32 := 8#32
  let v1436 : BitVec 32 := Scalar.muli v1435 c8_i32_547
  let v1438 : Index := Scalar.indexCast v1436
  let c0_549 : Index := 0#32
  ![0, v1438.toNat, 0]

def k2_chk42 (v1416 : BitVec 32) : Prop :=
  (∀ a, (k2_off84 v1416) a + S1x40x256.size a ≤ S1x2048x256.size a)
theorem k2_off84_inb : ∀ (v1416 : BitVec 32) (k2_hw42 : k2_chk42 v1416), ∀ a, (k2_off84 v1416) a + S1x40x256.size a ≤ S1x2048x256.size a := fun v1416 k2_hw42 => k2_hw42

def k2_off85 (i : grid2.Coords) : Fin 2 → Nat :=
  let arg0 : BitVec 32 := BitVec.ofNat 32 (i 0).val
  let v1449 : Index := Scalar.indexCast arg0
  let c42 : Index := 42#32
  ![v1449.toNat, 42]
def k2_off86 (v1450 : BitVec 32) : Fin 3 → Nat :=
  let c0_561 : Index := 0#32
  let c0_i32_554 : BitVec 32 := 0#32
  let v1454 : BitVec 1 := Scalar.cmpi .sgt v1450 c0_i32_554
  let v1455 : BitVec 32 := Scalar.extui v1454
  let c0_i32_555 : BitVec 32 := 0#32
  let v1456 : BitVec 1 := Scalar.cmpi .slt v1450 c0_i32_555
  let v1457 : BitVec 32 := Scalar.extui v1456
  let v1458 : BitVec 32 := Scalar.subi v1455 v1457
  let c8_i32_553 : BitVec 32 := 8#32
  let c0_i32_556 : BitVec 32 := 0#32
  let v1459 : BitVec 1 := Scalar.cmpi .sgt c8_i32_553 c0_i32_556
  let v1460 : BitVec 32 := Scalar.extui v1459
  let c0_i32_557 : BitVec 32 := 0#32
  let v1461 : BitVec 1 := Scalar.cmpi .slt c8_i32_553 c0_i32_557
  let v1462 : BitVec 32 := Scalar.extui v1461
  let v1463 : BitVec 32 := Scalar.subi v1460 v1462
  let v1464 : BitVec 1 := Scalar.cmpi .ne v1458 v1463
  let v1465 : BitVec 32 := Scalar.remsi v1450 c8_i32_553
  let c0_i32_558 : BitVec 32 := 0#32
  let v1466 : BitVec 1 := Scalar.cmpi .ne v1465 c0_i32_558
  let v1467 : BitVec 1 := Scalar.andi v1464 v1466
  let v1453 : BitVec 32 := Scalar.divsi v1450 c8_i32_553
  let c1_i32_559 : BitVec 32 := 1#32
  let v1468 : BitVec 32 := Scalar.subi v1453 c1_i32_559
  let v1469 : BitVec 32 := Scalar.select v1467 v1468 v1453
  let c8_i32_560 : BitVec 32 := 8#32
  let v1470 : BitVec 32 := Scalar.muli v1469 c8_i32_560
  let v1472 : Index := Scalar.indexCast v1470
  let c0_562 : Index := 0#32
  ![0, v1472.toNat, 0]

def k2_chk43 (v1450 : BitVec 32) : Prop :=
  (∀ a, (k2_off86 v1450) a + S1x40x256.size a ≤ S1x2048x256.size a)
theorem k2_off86_inb : ∀ (v1450 : BitVec 32) (k2_hw43 : k2_chk43 v1450), ∀ a, (k2_off86 v1450) a + S1x40x256.size a ≤ S1x2048x256.size a := fun v1450 k2_hw43 => k2_hw43

def k2_off87 (i : grid2.Coords) : Fin 2 → Nat :=
  let arg0 : BitVec 32 := BitVec.ofNat 32 (i 0).val
  let v1483 : Index := Scalar.indexCast arg0
  let c43 : Index := 43#32
  ![v1483.toNat, 43]
def k2_off88 (v1484 : BitVec 32) : Fin 3 → Nat :=
  let c0_574 : Index := 0#32
  let c0_i32_567 : BitVec 32 := 0#32
  let v1488 : BitVec 1 := Scalar.cmpi .sgt v1484 c0_i32_567
  let v1489 : BitVec 32 := Scalar.extui v1488
  let c0_i32_568 : BitVec 32 := 0#32
  let v1490 : BitVec 1 := Scalar.cmpi .slt v1484 c0_i32_568
  let v1491 : BitVec 32 := Scalar.extui v1490
  let v1492 : BitVec 32 := Scalar.subi v1489 v1491
  let c8_i32_566 : BitVec 32 := 8#32
  let c0_i32_569 : BitVec 32 := 0#32
  let v1493 : BitVec 1 := Scalar.cmpi .sgt c8_i32_566 c0_i32_569
  let v1494 : BitVec 32 := Scalar.extui v1493
  let c0_i32_570 : BitVec 32 := 0#32
  let v1495 : BitVec 1 := Scalar.cmpi .slt c8_i32_566 c0_i32_570
  let v1496 : BitVec 32 := Scalar.extui v1495
  let v1497 : BitVec 32 := Scalar.subi v1494 v1496
  let v1498 : BitVec 1 := Scalar.cmpi .ne v1492 v1497
  let v1499 : BitVec 32 := Scalar.remsi v1484 c8_i32_566
  let c0_i32_571 : BitVec 32 := 0#32
  let v1500 : BitVec 1 := Scalar.cmpi .ne v1499 c0_i32_571
  let v1501 : BitVec 1 := Scalar.andi v1498 v1500
  let v1487 : BitVec 32 := Scalar.divsi v1484 c8_i32_566
  let c1_i32_572 : BitVec 32 := 1#32
  let v1502 : BitVec 32 := Scalar.subi v1487 c1_i32_572
  let v1503 : BitVec 32 := Scalar.select v1501 v1502 v1487
  let c8_i32_573 : BitVec 32 := 8#32
  let v1504 : BitVec 32 := Scalar.muli v1503 c8_i32_573
  let v1506 : Index := Scalar.indexCast v1504
  let c0_575 : Index := 0#32
  ![0, v1506.toNat, 0]

def k2_chk44 (v1484 : BitVec 32) : Prop :=
  (∀ a, (k2_off88 v1484) a + S1x40x256.size a ≤ S1x2048x256.size a)
theorem k2_off88_inb : ∀ (v1484 : BitVec 32) (k2_hw44 : k2_chk44 v1484), ∀ a, (k2_off88 v1484) a + S1x40x256.size a ≤ S1x2048x256.size a := fun v1484 k2_hw44 => k2_hw44

def k2_off89 (i : grid2.Coords) : Fin 2 → Nat :=
  let arg0 : BitVec 32 := BitVec.ofNat 32 (i 0).val
  let v1517 : Index := Scalar.indexCast arg0
  let c44 : Index := 44#32
  ![v1517.toNat, 44]
def k2_off90 (v1518 : BitVec 32) : Fin 3 → Nat :=
  let c0_587 : Index := 0#32
  let c0_i32_580 : BitVec 32 := 0#32
  let v1522 : BitVec 1 := Scalar.cmpi .sgt v1518 c0_i32_580
  let v1523 : BitVec 32 := Scalar.extui v1522
  let c0_i32_581 : BitVec 32 := 0#32
  let v1524 : BitVec 1 := Scalar.cmpi .slt v1518 c0_i32_581
  let v1525 : BitVec 32 := Scalar.extui v1524
  let v1526 : BitVec 32 := Scalar.subi v1523 v1525
  let c8_i32_579 : BitVec 32 := 8#32
  let c0_i32_582 : BitVec 32 := 0#32
  let v1527 : BitVec 1 := Scalar.cmpi .sgt c8_i32_579 c0_i32_582
  let v1528 : BitVec 32 := Scalar.extui v1527
  let c0_i32_583 : BitVec 32 := 0#32
  let v1529 : BitVec 1 := Scalar.cmpi .slt c8_i32_579 c0_i32_583
  let v1530 : BitVec 32 := Scalar.extui v1529
  let v1531 : BitVec 32 := Scalar.subi v1528 v1530
  let v1532 : BitVec 1 := Scalar.cmpi .ne v1526 v1531
  let v1533 : BitVec 32 := Scalar.remsi v1518 c8_i32_579
  let c0_i32_584 : BitVec 32 := 0#32
  let v1534 : BitVec 1 := Scalar.cmpi .ne v1533 c0_i32_584
  let v1535 : BitVec 1 := Scalar.andi v1532 v1534
  let v1521 : BitVec 32 := Scalar.divsi v1518 c8_i32_579
  let c1_i32_585 : BitVec 32 := 1#32
  let v1536 : BitVec 32 := Scalar.subi v1521 c1_i32_585
  let v1537 : BitVec 32 := Scalar.select v1535 v1536 v1521
  let c8_i32_586 : BitVec 32 := 8#32
  let v1538 : BitVec 32 := Scalar.muli v1537 c8_i32_586
  let v1540 : Index := Scalar.indexCast v1538
  let c0_588 : Index := 0#32
  ![0, v1540.toNat, 0]

def k2_chk45 (v1518 : BitVec 32) : Prop :=
  (∀ a, (k2_off90 v1518) a + S1x40x256.size a ≤ S1x2048x256.size a)
theorem k2_off90_inb : ∀ (v1518 : BitVec 32) (k2_hw45 : k2_chk45 v1518), ∀ a, (k2_off90 v1518) a + S1x40x256.size a ≤ S1x2048x256.size a := fun v1518 k2_hw45 => k2_hw45

def k2_off91 (i : grid2.Coords) : Fin 2 → Nat :=
  let arg0 : BitVec 32 := BitVec.ofNat 32 (i 0).val
  let v1551 : Index := Scalar.indexCast arg0
  let c45 : Index := 45#32
  ![v1551.toNat, 45]
def k2_off92 (v1552 : BitVec 32) : Fin 3 → Nat :=
  let c0_600 : Index := 0#32
  let c0_i32_593 : BitVec 32 := 0#32
  let v1556 : BitVec 1 := Scalar.cmpi .sgt v1552 c0_i32_593
  let v1557 : BitVec 32 := Scalar.extui v1556
  let c0_i32_594 : BitVec 32 := 0#32
  let v1558 : BitVec 1 := Scalar.cmpi .slt v1552 c0_i32_594
  let v1559 : BitVec 32 := Scalar.extui v1558
  let v1560 : BitVec 32 := Scalar.subi v1557 v1559
  let c8_i32_592 : BitVec 32 := 8#32
  let c0_i32_595 : BitVec 32 := 0#32
  let v1561 : BitVec 1 := Scalar.cmpi .sgt c8_i32_592 c0_i32_595
  let v1562 : BitVec 32 := Scalar.extui v1561
  let c0_i32_596 : BitVec 32 := 0#32
  let v1563 : BitVec 1 := Scalar.cmpi .slt c8_i32_592 c0_i32_596
  let v1564 : BitVec 32 := Scalar.extui v1563
  let v1565 : BitVec 32 := Scalar.subi v1562 v1564
  let v1566 : BitVec 1 := Scalar.cmpi .ne v1560 v1565
  let v1567 : BitVec 32 := Scalar.remsi v1552 c8_i32_592
  let c0_i32_597 : BitVec 32 := 0#32
  let v1568 : BitVec 1 := Scalar.cmpi .ne v1567 c0_i32_597
  let v1569 : BitVec 1 := Scalar.andi v1566 v1568
  let v1555 : BitVec 32 := Scalar.divsi v1552 c8_i32_592
  let c1_i32_598 : BitVec 32 := 1#32
  let v1570 : BitVec 32 := Scalar.subi v1555 c1_i32_598
  let v1571 : BitVec 32 := Scalar.select v1569 v1570 v1555
  let c8_i32_599 : BitVec 32 := 8#32
  let v1572 : BitVec 32 := Scalar.muli v1571 c8_i32_599
  let v1574 : Index := Scalar.indexCast v1572
  let c0_601 : Index := 0#32
  ![0, v1574.toNat, 0]

def k2_chk46 (v1552 : BitVec 32) : Prop :=
  (∀ a, (k2_off92 v1552) a + S1x40x256.size a ≤ S1x2048x256.size a)
theorem k2_off92_inb : ∀ (v1552 : BitVec 32) (k2_hw46 : k2_chk46 v1552), ∀ a, (k2_off92 v1552) a + S1x40x256.size a ≤ S1x2048x256.size a := fun v1552 k2_hw46 => k2_hw46

def k2_off93 (i : grid2.Coords) : Fin 2 → Nat :=
  let arg0 : BitVec 32 := BitVec.ofNat 32 (i 0).val
  let v1585 : Index := Scalar.indexCast arg0
  let c46 : Index := 46#32
  ![v1585.toNat, 46]
def k2_off94 (v1586 : BitVec 32) : Fin 3 → Nat :=
  let c0_613 : Index := 0#32
  let c0_i32_606 : BitVec 32 := 0#32
  let v1590 : BitVec 1 := Scalar.cmpi .sgt v1586 c0_i32_606
  let v1591 : BitVec 32 := Scalar.extui v1590
  let c0_i32_607 : BitVec 32 := 0#32
  let v1592 : BitVec 1 := Scalar.cmpi .slt v1586 c0_i32_607
  let v1593 : BitVec 32 := Scalar.extui v1592
  let v1594 : BitVec 32 := Scalar.subi v1591 v1593
  let c8_i32_605 : BitVec 32 := 8#32
  let c0_i32_608 : BitVec 32 := 0#32
  let v1595 : BitVec 1 := Scalar.cmpi .sgt c8_i32_605 c0_i32_608
  let v1596 : BitVec 32 := Scalar.extui v1595
  let c0_i32_609 : BitVec 32 := 0#32
  let v1597 : BitVec 1 := Scalar.cmpi .slt c8_i32_605 c0_i32_609
  let v1598 : BitVec 32 := Scalar.extui v1597
  let v1599 : BitVec 32 := Scalar.subi v1596 v1598
  let v1600 : BitVec 1 := Scalar.cmpi .ne v1594 v1599
  let v1601 : BitVec 32 := Scalar.remsi v1586 c8_i32_605
  let c0_i32_610 : BitVec 32 := 0#32
  let v1602 : BitVec 1 := Scalar.cmpi .ne v1601 c0_i32_610
  let v1603 : BitVec 1 := Scalar.andi v1600 v1602
  let v1589 : BitVec 32 := Scalar.divsi v1586 c8_i32_605
  let c1_i32_611 : BitVec 32 := 1#32
  let v1604 : BitVec 32 := Scalar.subi v1589 c1_i32_611
  let v1605 : BitVec 32 := Scalar.select v1603 v1604 v1589
  let c8_i32_612 : BitVec 32 := 8#32
  let v1606 : BitVec 32 := Scalar.muli v1605 c8_i32_612
  let v1608 : Index := Scalar.indexCast v1606
  let c0_614 : Index := 0#32
  ![0, v1608.toNat, 0]

def k2_chk47 (v1586 : BitVec 32) : Prop :=
  (∀ a, (k2_off94 v1586) a + S1x40x256.size a ≤ S1x2048x256.size a)
theorem k2_off94_inb : ∀ (v1586 : BitVec 32) (k2_hw47 : k2_chk47 v1586), ∀ a, (k2_off94 v1586) a + S1x40x256.size a ≤ S1x2048x256.size a := fun v1586 k2_hw47 => k2_hw47

def k2_off95 (i : grid2.Coords) : Fin 2 → Nat :=
  let arg0 : BitVec 32 := BitVec.ofNat 32 (i 0).val
  let v1619 : Index := Scalar.indexCast arg0
  let c47 : Index := 47#32
  ![v1619.toNat, 47]
def k2_off96 (v1620 : BitVec 32) : Fin 3 → Nat :=
  let c0_626 : Index := 0#32
  let c0_i32_619 : BitVec 32 := 0#32
  let v1624 : BitVec 1 := Scalar.cmpi .sgt v1620 c0_i32_619
  let v1625 : BitVec 32 := Scalar.extui v1624
  let c0_i32_620 : BitVec 32 := 0#32
  let v1626 : BitVec 1 := Scalar.cmpi .slt v1620 c0_i32_620
  let v1627 : BitVec 32 := Scalar.extui v1626
  let v1628 : BitVec 32 := Scalar.subi v1625 v1627
  let c8_i32_618 : BitVec 32 := 8#32
  let c0_i32_621 : BitVec 32 := 0#32
  let v1629 : BitVec 1 := Scalar.cmpi .sgt c8_i32_618 c0_i32_621
  let v1630 : BitVec 32 := Scalar.extui v1629
  let c0_i32_622 : BitVec 32 := 0#32
  let v1631 : BitVec 1 := Scalar.cmpi .slt c8_i32_618 c0_i32_622
  let v1632 : BitVec 32 := Scalar.extui v1631
  let v1633 : BitVec 32 := Scalar.subi v1630 v1632
  let v1634 : BitVec 1 := Scalar.cmpi .ne v1628 v1633
  let v1635 : BitVec 32 := Scalar.remsi v1620 c8_i32_618
  let c0_i32_623 : BitVec 32 := 0#32
  let v1636 : BitVec 1 := Scalar.cmpi .ne v1635 c0_i32_623
  let v1637 : BitVec 1 := Scalar.andi v1634 v1636
  let v1623 : BitVec 32 := Scalar.divsi v1620 c8_i32_618
  let c1_i32_624 : BitVec 32 := 1#32
  let v1638 : BitVec 32 := Scalar.subi v1623 c1_i32_624
  let v1639 : BitVec 32 := Scalar.select v1637 v1638 v1623
  let c8_i32_625 : BitVec 32 := 8#32
  let v1640 : BitVec 32 := Scalar.muli v1639 c8_i32_625
  let v1642 : Index := Scalar.indexCast v1640
  let c0_627 : Index := 0#32
  ![0, v1642.toNat, 0]

def k2_chk48 (v1620 : BitVec 32) : Prop :=
  (∀ a, (k2_off96 v1620) a + S1x40x256.size a ≤ S1x2048x256.size a)
theorem k2_off96_inb : ∀ (v1620 : BitVec 32) (k2_hw48 : k2_chk48 v1620), ∀ a, (k2_off96 v1620) a + S1x40x256.size a ≤ S1x2048x256.size a := fun v1620 k2_hw48 => k2_hw48

def k2_off97 (i : grid2.Coords) : Fin 2 → Nat :=
  let arg0 : BitVec 32 := BitVec.ofNat 32 (i 0).val
  let v1657 : Index := Scalar.indexCast arg0
  let c48 : Index := 48#32
  ![v1657.toNat, 48]
def k2_off98 (v1658 : BitVec 32) : Fin 3 → Nat :=
  let c0_641 : Index := 0#32
  let c0_i32_634 : BitVec 32 := 0#32
  let v1662 : BitVec 1 := Scalar.cmpi .sgt v1658 c0_i32_634
  let v1663 : BitVec 32 := Scalar.extui v1662
  let c0_i32_635 : BitVec 32 := 0#32
  let v1664 : BitVec 1 := Scalar.cmpi .slt v1658 c0_i32_635
  let v1665 : BitVec 32 := Scalar.extui v1664
  let v1666 : BitVec 32 := Scalar.subi v1663 v1665
  let c8_i32_633 : BitVec 32 := 8#32
  let c0_i32_636 : BitVec 32 := 0#32
  let v1667 : BitVec 1 := Scalar.cmpi .sgt c8_i32_633 c0_i32_636
  let v1668 : BitVec 32 := Scalar.extui v1667
  let c0_i32_637 : BitVec 32 := 0#32
  let v1669 : BitVec 1 := Scalar.cmpi .slt c8_i32_633 c0_i32_637
  let v1670 : BitVec 32 := Scalar.extui v1669
  let v1671 : BitVec 32 := Scalar.subi v1668 v1670
  let v1672 : BitVec 1 := Scalar.cmpi .ne v1666 v1671
  let v1673 : BitVec 32 := Scalar.remsi v1658 c8_i32_633
  let c0_i32_638 : BitVec 32 := 0#32
  let v1674 : BitVec 1 := Scalar.cmpi .ne v1673 c0_i32_638
  let v1675 : BitVec 1 := Scalar.andi v1672 v1674
  let v1661 : BitVec 32 := Scalar.divsi v1658 c8_i32_633
  let c1_i32_639 : BitVec 32 := 1#32
  let v1676 : BitVec 32 := Scalar.subi v1661 c1_i32_639
  let v1677 : BitVec 32 := Scalar.select v1675 v1676 v1661
  let c8_i32_640 : BitVec 32 := 8#32
  let v1678 : BitVec 32 := Scalar.muli v1677 c8_i32_640
  let v1680 : Index := Scalar.indexCast v1678
  let c0_642 : Index := 0#32
  ![0, v1680.toNat, 0]

def k2_chk49 (v1658 : BitVec 32) : Prop :=
  (∀ a, (k2_off98 v1658) a + S1x40x256.size a ≤ S1x2048x256.size a)
theorem k2_off98_inb : ∀ (v1658 : BitVec 32) (k2_hw49 : k2_chk49 v1658), ∀ a, (k2_off98 v1658) a + S1x40x256.size a ≤ S1x2048x256.size a := fun v1658 k2_hw49 => k2_hw49

def k2_off99 (i : grid2.Coords) : Fin 2 → Nat :=
  let arg0 : BitVec 32 := BitVec.ofNat 32 (i 0).val
  let v1691 : Index := Scalar.indexCast arg0
  let c49 : Index := 49#32
  ![v1691.toNat, 49]
def k2_off100 (v1692 : BitVec 32) : Fin 3 → Nat :=
  let c0_654 : Index := 0#32
  let c0_i32_647 : BitVec 32 := 0#32
  let v1696 : BitVec 1 := Scalar.cmpi .sgt v1692 c0_i32_647
  let v1697 : BitVec 32 := Scalar.extui v1696
  let c0_i32_648 : BitVec 32 := 0#32
  let v1698 : BitVec 1 := Scalar.cmpi .slt v1692 c0_i32_648
  let v1699 : BitVec 32 := Scalar.extui v1698
  let v1700 : BitVec 32 := Scalar.subi v1697 v1699
  let c8_i32_646 : BitVec 32 := 8#32
  let c0_i32_649 : BitVec 32 := 0#32
  let v1701 : BitVec 1 := Scalar.cmpi .sgt c8_i32_646 c0_i32_649
  let v1702 : BitVec 32 := Scalar.extui v1701
  let c0_i32_650 : BitVec 32 := 0#32
  let v1703 : BitVec 1 := Scalar.cmpi .slt c8_i32_646 c0_i32_650
  let v1704 : BitVec 32 := Scalar.extui v1703
  let v1705 : BitVec 32 := Scalar.subi v1702 v1704
  let v1706 : BitVec 1 := Scalar.cmpi .ne v1700 v1705
  let v1707 : BitVec 32 := Scalar.remsi v1692 c8_i32_646
  let c0_i32_651 : BitVec 32 := 0#32
  let v1708 : BitVec 1 := Scalar.cmpi .ne v1707 c0_i32_651
  let v1709 : BitVec 1 := Scalar.andi v1706 v1708
  let v1695 : BitVec 32 := Scalar.divsi v1692 c8_i32_646
  let c1_i32_652 : BitVec 32 := 1#32
  let v1710 : BitVec 32 := Scalar.subi v1695 c1_i32_652
  let v1711 : BitVec 32 := Scalar.select v1709 v1710 v1695
  let c8_i32_653 : BitVec 32 := 8#32
  let v1712 : BitVec 32 := Scalar.muli v1711 c8_i32_653
  let v1714 : Index := Scalar.indexCast v1712
  let c0_655 : Index := 0#32
  ![0, v1714.toNat, 0]

def k2_chk50 (v1692 : BitVec 32) : Prop :=
  (∀ a, (k2_off100 v1692) a + S1x40x256.size a ≤ S1x2048x256.size a)
theorem k2_off100_inb : ∀ (v1692 : BitVec 32) (k2_hw50 : k2_chk50 v1692), ∀ a, (k2_off100 v1692) a + S1x40x256.size a ≤ S1x2048x256.size a := fun v1692 k2_hw50 => k2_hw50

def k2_off101 (i : grid2.Coords) : Fin 2 → Nat :=
  let arg0 : BitVec 32 := BitVec.ofNat 32 (i 0).val
  let v1725 : Index := Scalar.indexCast arg0
  let c50 : Index := 50#32
  ![v1725.toNat, 50]
def k2_off102 (v1726 : BitVec 32) : Fin 3 → Nat :=
  let c0_667 : Index := 0#32
  let c0_i32_660 : BitVec 32 := 0#32
  let v1730 : BitVec 1 := Scalar.cmpi .sgt v1726 c0_i32_660
  let v1731 : BitVec 32 := Scalar.extui v1730
  let c0_i32_661 : BitVec 32 := 0#32
  let v1732 : BitVec 1 := Scalar.cmpi .slt v1726 c0_i32_661
  let v1733 : BitVec 32 := Scalar.extui v1732
  let v1734 : BitVec 32 := Scalar.subi v1731 v1733
  let c8_i32_659 : BitVec 32 := 8#32
  let c0_i32_662 : BitVec 32 := 0#32
  let v1735 : BitVec 1 := Scalar.cmpi .sgt c8_i32_659 c0_i32_662
  let v1736 : BitVec 32 := Scalar.extui v1735
  let c0_i32_663 : BitVec 32 := 0#32
  let v1737 : BitVec 1 := Scalar.cmpi .slt c8_i32_659 c0_i32_663
  let v1738 : BitVec 32 := Scalar.extui v1737
  let v1739 : BitVec 32 := Scalar.subi v1736 v1738
  let v1740 : BitVec 1 := Scalar.cmpi .ne v1734 v1739
  let v1741 : BitVec 32 := Scalar.remsi v1726 c8_i32_659
  let c0_i32_664 : BitVec 32 := 0#32
  let v1742 : BitVec 1 := Scalar.cmpi .ne v1741 c0_i32_664
  let v1743 : BitVec 1 := Scalar.andi v1740 v1742
  let v1729 : BitVec 32 := Scalar.divsi v1726 c8_i32_659
  let c1_i32_665 : BitVec 32 := 1#32
  let v1744 : BitVec 32 := Scalar.subi v1729 c1_i32_665
  let v1745 : BitVec 32 := Scalar.select v1743 v1744 v1729
  let c8_i32_666 : BitVec 32 := 8#32
  let v1746 : BitVec 32 := Scalar.muli v1745 c8_i32_666
  let v1748 : Index := Scalar.indexCast v1746
  let c0_668 : Index := 0#32
  ![0, v1748.toNat, 0]

def k2_chk51 (v1726 : BitVec 32) : Prop :=
  (∀ a, (k2_off102 v1726) a + S1x40x256.size a ≤ S1x2048x256.size a)
theorem k2_off102_inb : ∀ (v1726 : BitVec 32) (k2_hw51 : k2_chk51 v1726), ∀ a, (k2_off102 v1726) a + S1x40x256.size a ≤ S1x2048x256.size a := fun v1726 k2_hw51 => k2_hw51

def k2_off103 (i : grid2.Coords) : Fin 2 → Nat :=
  let arg0 : BitVec 32 := BitVec.ofNat 32 (i 0).val
  let v1759 : Index := Scalar.indexCast arg0
  let c51 : Index := 51#32
  ![v1759.toNat, 51]
def k2_off104 (v1760 : BitVec 32) : Fin 3 → Nat :=
  let c0_680 : Index := 0#32
  let c0_i32_673 : BitVec 32 := 0#32
  let v1764 : BitVec 1 := Scalar.cmpi .sgt v1760 c0_i32_673
  let v1765 : BitVec 32 := Scalar.extui v1764
  let c0_i32_674 : BitVec 32 := 0#32
  let v1766 : BitVec 1 := Scalar.cmpi .slt v1760 c0_i32_674
  let v1767 : BitVec 32 := Scalar.extui v1766
  let v1768 : BitVec 32 := Scalar.subi v1765 v1767
  let c8_i32_672 : BitVec 32 := 8#32
  let c0_i32_675 : BitVec 32 := 0#32
  let v1769 : BitVec 1 := Scalar.cmpi .sgt c8_i32_672 c0_i32_675
  let v1770 : BitVec 32 := Scalar.extui v1769
  let c0_i32_676 : BitVec 32 := 0#32
  let v1771 : BitVec 1 := Scalar.cmpi .slt c8_i32_672 c0_i32_676
  let v1772 : BitVec 32 := Scalar.extui v1771
  let v1773 : BitVec 32 := Scalar.subi v1770 v1772
  let v1774 : BitVec 1 := Scalar.cmpi .ne v1768 v1773
  let v1775 : BitVec 32 := Scalar.remsi v1760 c8_i32_672
  let c0_i32_677 : BitVec 32 := 0#32
  let v1776 : BitVec 1 := Scalar.cmpi .ne v1775 c0_i32_677
  let v1777 : BitVec 1 := Scalar.andi v1774 v1776
  let v1763 : BitVec 32 := Scalar.divsi v1760 c8_i32_672
  let c1_i32_678 : BitVec 32 := 1#32
  let v1778 : BitVec 32 := Scalar.subi v1763 c1_i32_678
  let v1779 : BitVec 32 := Scalar.select v1777 v1778 v1763
  let c8_i32_679 : BitVec 32 := 8#32
  let v1780 : BitVec 32 := Scalar.muli v1779 c8_i32_679
  let v1782 : Index := Scalar.indexCast v1780
  let c0_681 : Index := 0#32
  ![0, v1782.toNat, 0]

def k2_chk52 (v1760 : BitVec 32) : Prop :=
  (∀ a, (k2_off104 v1760) a + S1x40x256.size a ≤ S1x2048x256.size a)
theorem k2_off104_inb : ∀ (v1760 : BitVec 32) (k2_hw52 : k2_chk52 v1760), ∀ a, (k2_off104 v1760) a + S1x40x256.size a ≤ S1x2048x256.size a := fun v1760 k2_hw52 => k2_hw52

def k2_off105 (i : grid2.Coords) : Fin 2 → Nat :=
  let arg0 : BitVec 32 := BitVec.ofNat 32 (i 0).val
  let v1793 : Index := Scalar.indexCast arg0
  let c52 : Index := 52#32
  ![v1793.toNat, 52]
def k2_off106 (v1794 : BitVec 32) : Fin 3 → Nat :=
  let c0_693 : Index := 0#32
  let c0_i32_686 : BitVec 32 := 0#32
  let v1798 : BitVec 1 := Scalar.cmpi .sgt v1794 c0_i32_686
  let v1799 : BitVec 32 := Scalar.extui v1798
  let c0_i32_687 : BitVec 32 := 0#32
  let v1800 : BitVec 1 := Scalar.cmpi .slt v1794 c0_i32_687
  let v1801 : BitVec 32 := Scalar.extui v1800
  let v1802 : BitVec 32 := Scalar.subi v1799 v1801
  let c8_i32_685 : BitVec 32 := 8#32
  let c0_i32_688 : BitVec 32 := 0#32
  let v1803 : BitVec 1 := Scalar.cmpi .sgt c8_i32_685 c0_i32_688
  let v1804 : BitVec 32 := Scalar.extui v1803
  let c0_i32_689 : BitVec 32 := 0#32
  let v1805 : BitVec 1 := Scalar.cmpi .slt c8_i32_685 c0_i32_689
  let v1806 : BitVec 32 := Scalar.extui v1805
  let v1807 : BitVec 32 := Scalar.subi v1804 v1806
  let v1808 : BitVec 1 := Scalar.cmpi .ne v1802 v1807
  let v1809 : BitVec 32 := Scalar.remsi v1794 c8_i32_685
  let c0_i32_690 : BitVec 32 := 0#32
  let v1810 : BitVec 1 := Scalar.cmpi .ne v1809 c0_i32_690
  let v1811 : BitVec 1 := Scalar.andi v1808 v1810
  let v1797 : BitVec 32 := Scalar.divsi v1794 c8_i32_685
  let c1_i32_691 : BitVec 32 := 1#32
  let v1812 : BitVec 32 := Scalar.subi v1797 c1_i32_691
  let v1813 : BitVec 32 := Scalar.select v1811 v1812 v1797
  let c8_i32_692 : BitVec 32 := 8#32
  let v1814 : BitVec 32 := Scalar.muli v1813 c8_i32_692
  let v1816 : Index := Scalar.indexCast v1814
  let c0_694 : Index := 0#32
  ![0, v1816.toNat, 0]

def k2_chk53 (v1794 : BitVec 32) : Prop :=
  (∀ a, (k2_off106 v1794) a + S1x40x256.size a ≤ S1x2048x256.size a)
theorem k2_off106_inb : ∀ (v1794 : BitVec 32) (k2_hw53 : k2_chk53 v1794), ∀ a, (k2_off106 v1794) a + S1x40x256.size a ≤ S1x2048x256.size a := fun v1794 k2_hw53 => k2_hw53

def k2_off107 (i : grid2.Coords) : Fin 2 → Nat :=
  let arg0 : BitVec 32 := BitVec.ofNat 32 (i 0).val
  let v1827 : Index := Scalar.indexCast arg0
  let c53 : Index := 53#32
  ![v1827.toNat, 53]
def k2_off108 (v1828 : BitVec 32) : Fin 3 → Nat :=
  let c0_706 : Index := 0#32
  let c0_i32_699 : BitVec 32 := 0#32
  let v1832 : BitVec 1 := Scalar.cmpi .sgt v1828 c0_i32_699
  let v1833 : BitVec 32 := Scalar.extui v1832
  let c0_i32_700 : BitVec 32 := 0#32
  let v1834 : BitVec 1 := Scalar.cmpi .slt v1828 c0_i32_700
  let v1835 : BitVec 32 := Scalar.extui v1834
  let v1836 : BitVec 32 := Scalar.subi v1833 v1835
  let c8_i32_698 : BitVec 32 := 8#32
  let c0_i32_701 : BitVec 32 := 0#32
  let v1837 : BitVec 1 := Scalar.cmpi .sgt c8_i32_698 c0_i32_701
  let v1838 : BitVec 32 := Scalar.extui v1837
  let c0_i32_702 : BitVec 32 := 0#32
  let v1839 : BitVec 1 := Scalar.cmpi .slt c8_i32_698 c0_i32_702
  let v1840 : BitVec 32 := Scalar.extui v1839
  let v1841 : BitVec 32 := Scalar.subi v1838 v1840
  let v1842 : BitVec 1 := Scalar.cmpi .ne v1836 v1841
  let v1843 : BitVec 32 := Scalar.remsi v1828 c8_i32_698
  let c0_i32_703 : BitVec 32 := 0#32
  let v1844 : BitVec 1 := Scalar.cmpi .ne v1843 c0_i32_703
  let v1845 : BitVec 1 := Scalar.andi v1842 v1844
  let v1831 : BitVec 32 := Scalar.divsi v1828 c8_i32_698
  let c1_i32_704 : BitVec 32 := 1#32
  let v1846 : BitVec 32 := Scalar.subi v1831 c1_i32_704
  let v1847 : BitVec 32 := Scalar.select v1845 v1846 v1831
  let c8_i32_705 : BitVec 32 := 8#32
  let v1848 : BitVec 32 := Scalar.muli v1847 c8_i32_705
  let v1850 : Index := Scalar.indexCast v1848
  let c0_707 : Index := 0#32
  ![0, v1850.toNat, 0]

def k2_chk54 (v1828 : BitVec 32) : Prop :=
  (∀ a, (k2_off108 v1828) a + S1x40x256.size a ≤ S1x2048x256.size a)
theorem k2_off108_inb : ∀ (v1828 : BitVec 32) (k2_hw54 : k2_chk54 v1828), ∀ a, (k2_off108 v1828) a + S1x40x256.size a ≤ S1x2048x256.size a := fun v1828 k2_hw54 => k2_hw54

def k2_off109 (i : grid2.Coords) : Fin 2 → Nat :=
  let arg0 : BitVec 32 := BitVec.ofNat 32 (i 0).val
  let v1861 : Index := Scalar.indexCast arg0
  let c54 : Index := 54#32
  ![v1861.toNat, 54]
def k2_off110 (v1862 : BitVec 32) : Fin 3 → Nat :=
  let c0_719 : Index := 0#32
  let c0_i32_712 : BitVec 32 := 0#32
  let v1866 : BitVec 1 := Scalar.cmpi .sgt v1862 c0_i32_712
  let v1867 : BitVec 32 := Scalar.extui v1866
  let c0_i32_713 : BitVec 32 := 0#32
  let v1868 : BitVec 1 := Scalar.cmpi .slt v1862 c0_i32_713
  let v1869 : BitVec 32 := Scalar.extui v1868
  let v1870 : BitVec 32 := Scalar.subi v1867 v1869
  let c8_i32_711 : BitVec 32 := 8#32
  let c0_i32_714 : BitVec 32 := 0#32
  let v1871 : BitVec 1 := Scalar.cmpi .sgt c8_i32_711 c0_i32_714
  let v1872 : BitVec 32 := Scalar.extui v1871
  let c0_i32_715 : BitVec 32 := 0#32
  let v1873 : BitVec 1 := Scalar.cmpi .slt c8_i32_711 c0_i32_715
  let v1874 : BitVec 32 := Scalar.extui v1873
  let v1875 : BitVec 32 := Scalar.subi v1872 v1874
  let v1876 : BitVec 1 := Scalar.cmpi .ne v1870 v1875
  let v1877 : BitVec 32 := Scalar.remsi v1862 c8_i32_711
  let c0_i32_716 : BitVec 32 := 0#32
  let v1878 : BitVec 1 := Scalar.cmpi .ne v1877 c0_i32_716
  let v1879 : BitVec 1 := Scalar.andi v1876 v1878
  let v1865 : BitVec 32 := Scalar.divsi v1862 c8_i32_711
  let c1_i32_717 : BitVec 32 := 1#32
  let v1880 : BitVec 32 := Scalar.subi v1865 c1_i32_717
  let v1881 : BitVec 32 := Scalar.select v1879 v1880 v1865
  let c8_i32_718 : BitVec 32 := 8#32
  let v1882 : BitVec 32 := Scalar.muli v1881 c8_i32_718
  let v1884 : Index := Scalar.indexCast v1882
  let c0_720 : Index := 0#32
  ![0, v1884.toNat, 0]

def k2_chk55 (v1862 : BitVec 32) : Prop :=
  (∀ a, (k2_off110 v1862) a + S1x40x256.size a ≤ S1x2048x256.size a)
theorem k2_off110_inb : ∀ (v1862 : BitVec 32) (k2_hw55 : k2_chk55 v1862), ∀ a, (k2_off110 v1862) a + S1x40x256.size a ≤ S1x2048x256.size a := fun v1862 k2_hw55 => k2_hw55

def k2_off111 (i : grid2.Coords) : Fin 2 → Nat :=
  let arg0 : BitVec 32 := BitVec.ofNat 32 (i 0).val
  let v1895 : Index := Scalar.indexCast arg0
  let c55 : Index := 55#32
  ![v1895.toNat, 55]
def k2_off112 (v1896 : BitVec 32) : Fin 3 → Nat :=
  let c0_732 : Index := 0#32
  let c0_i32_725 : BitVec 32 := 0#32
  let v1900 : BitVec 1 := Scalar.cmpi .sgt v1896 c0_i32_725
  let v1901 : BitVec 32 := Scalar.extui v1900
  let c0_i32_726 : BitVec 32 := 0#32
  let v1902 : BitVec 1 := Scalar.cmpi .slt v1896 c0_i32_726
  let v1903 : BitVec 32 := Scalar.extui v1902
  let v1904 : BitVec 32 := Scalar.subi v1901 v1903
  let c8_i32_724 : BitVec 32 := 8#32
  let c0_i32_727 : BitVec 32 := 0#32
  let v1905 : BitVec 1 := Scalar.cmpi .sgt c8_i32_724 c0_i32_727
  let v1906 : BitVec 32 := Scalar.extui v1905
  let c0_i32_728 : BitVec 32 := 0#32
  let v1907 : BitVec 1 := Scalar.cmpi .slt c8_i32_724 c0_i32_728
  let v1908 : BitVec 32 := Scalar.extui v1907
  let v1909 : BitVec 32 := Scalar.subi v1906 v1908
  let v1910 : BitVec 1 := Scalar.cmpi .ne v1904 v1909
  let v1911 : BitVec 32 := Scalar.remsi v1896 c8_i32_724
  let c0_i32_729 : BitVec 32 := 0#32
  let v1912 : BitVec 1 := Scalar.cmpi .ne v1911 c0_i32_729
  let v1913 : BitVec 1 := Scalar.andi v1910 v1912
  let v1899 : BitVec 32 := Scalar.divsi v1896 c8_i32_724
  let c1_i32_730 : BitVec 32 := 1#32
  let v1914 : BitVec 32 := Scalar.subi v1899 c1_i32_730
  let v1915 : BitVec 32 := Scalar.select v1913 v1914 v1899
  let c8_i32_731 : BitVec 32 := 8#32
  let v1916 : BitVec 32 := Scalar.muli v1915 c8_i32_731
  let v1918 : Index := Scalar.indexCast v1916
  let c0_733 : Index := 0#32
  ![0, v1918.toNat, 0]

def k2_chk56 (v1896 : BitVec 32) : Prop :=
  (∀ a, (k2_off112 v1896) a + S1x40x256.size a ≤ S1x2048x256.size a)
theorem k2_off112_inb : ∀ (v1896 : BitVec 32) (k2_hw56 : k2_chk56 v1896), ∀ a, (k2_off112 v1896) a + S1x40x256.size a ≤ S1x2048x256.size a := fun v1896 k2_hw56 => k2_hw56

def k2_off113 (i : grid2.Coords) : Fin 2 → Nat :=
  let arg0 : BitVec 32 := BitVec.ofNat 32 (i 0).val
  let v1933 : Index := Scalar.indexCast arg0
  let c56 : Index := 56#32
  ![v1933.toNat, 56]
def k2_off114 (v1934 : BitVec 32) : Fin 3 → Nat :=
  let c0_747 : Index := 0#32
  let c0_i32_740 : BitVec 32 := 0#32
  let v1938 : BitVec 1 := Scalar.cmpi .sgt v1934 c0_i32_740
  let v1939 : BitVec 32 := Scalar.extui v1938
  let c0_i32_741 : BitVec 32 := 0#32
  let v1940 : BitVec 1 := Scalar.cmpi .slt v1934 c0_i32_741
  let v1941 : BitVec 32 := Scalar.extui v1940
  let v1942 : BitVec 32 := Scalar.subi v1939 v1941
  let c8_i32_739 : BitVec 32 := 8#32
  let c0_i32_742 : BitVec 32 := 0#32
  let v1943 : BitVec 1 := Scalar.cmpi .sgt c8_i32_739 c0_i32_742
  let v1944 : BitVec 32 := Scalar.extui v1943
  let c0_i32_743 : BitVec 32 := 0#32
  let v1945 : BitVec 1 := Scalar.cmpi .slt c8_i32_739 c0_i32_743
  let v1946 : BitVec 32 := Scalar.extui v1945
  let v1947 : BitVec 32 := Scalar.subi v1944 v1946
  let v1948 : BitVec 1 := Scalar.cmpi .ne v1942 v1947
  let v1949 : BitVec 32 := Scalar.remsi v1934 c8_i32_739
  let c0_i32_744 : BitVec 32 := 0#32
  let v1950 : BitVec 1 := Scalar.cmpi .ne v1949 c0_i32_744
  let v1951 : BitVec 1 := Scalar.andi v1948 v1950
  let v1937 : BitVec 32 := Scalar.divsi v1934 c8_i32_739
  let c1_i32_745 : BitVec 32 := 1#32
  let v1952 : BitVec 32 := Scalar.subi v1937 c1_i32_745
  let v1953 : BitVec 32 := Scalar.select v1951 v1952 v1937
  let c8_i32_746 : BitVec 32 := 8#32
  let v1954 : BitVec 32 := Scalar.muli v1953 c8_i32_746
  let v1956 : Index := Scalar.indexCast v1954
  let c0_748 : Index := 0#32
  ![0, v1956.toNat, 0]

def k2_chk57 (v1934 : BitVec 32) : Prop :=
  (∀ a, (k2_off114 v1934) a + S1x40x256.size a ≤ S1x2048x256.size a)
theorem k2_off114_inb : ∀ (v1934 : BitVec 32) (k2_hw57 : k2_chk57 v1934), ∀ a, (k2_off114 v1934) a + S1x40x256.size a ≤ S1x2048x256.size a := fun v1934 k2_hw57 => k2_hw57

def k2_off115 (i : grid2.Coords) : Fin 2 → Nat :=
  let arg0 : BitVec 32 := BitVec.ofNat 32 (i 0).val
  let v1967 : Index := Scalar.indexCast arg0
  let c57 : Index := 57#32
  ![v1967.toNat, 57]
def k2_off116 (v1968 : BitVec 32) : Fin 3 → Nat :=
  let c0_760 : Index := 0#32
  let c0_i32_753 : BitVec 32 := 0#32
  let v1972 : BitVec 1 := Scalar.cmpi .sgt v1968 c0_i32_753
  let v1973 : BitVec 32 := Scalar.extui v1972
  let c0_i32_754 : BitVec 32 := 0#32
  let v1974 : BitVec 1 := Scalar.cmpi .slt v1968 c0_i32_754
  let v1975 : BitVec 32 := Scalar.extui v1974
  let v1976 : BitVec 32 := Scalar.subi v1973 v1975
  let c8_i32_752 : BitVec 32 := 8#32
  let c0_i32_755 : BitVec 32 := 0#32
  let v1977 : BitVec 1 := Scalar.cmpi .sgt c8_i32_752 c0_i32_755
  let v1978 : BitVec 32 := Scalar.extui v1977
  let c0_i32_756 : BitVec 32 := 0#32
  let v1979 : BitVec 1 := Scalar.cmpi .slt c8_i32_752 c0_i32_756
  let v1980 : BitVec 32 := Scalar.extui v1979
  let v1981 : BitVec 32 := Scalar.subi v1978 v1980
  let v1982 : BitVec 1 := Scalar.cmpi .ne v1976 v1981
  let v1983 : BitVec 32 := Scalar.remsi v1968 c8_i32_752
  let c0_i32_757 : BitVec 32 := 0#32
  let v1984 : BitVec 1 := Scalar.cmpi .ne v1983 c0_i32_757
  let v1985 : BitVec 1 := Scalar.andi v1982 v1984
  let v1971 : BitVec 32 := Scalar.divsi v1968 c8_i32_752
  let c1_i32_758 : BitVec 32 := 1#32
  let v1986 : BitVec 32 := Scalar.subi v1971 c1_i32_758
  let v1987 : BitVec 32 := Scalar.select v1985 v1986 v1971
  let c8_i32_759 : BitVec 32 := 8#32
  let v1988 : BitVec 32 := Scalar.muli v1987 c8_i32_759
  let v1990 : Index := Scalar.indexCast v1988
  let c0_761 : Index := 0#32
  ![0, v1990.toNat, 0]

def k2_chk58 (v1968 : BitVec 32) : Prop :=
  (∀ a, (k2_off116 v1968) a + S1x40x256.size a ≤ S1x2048x256.size a)
theorem k2_off116_inb : ∀ (v1968 : BitVec 32) (k2_hw58 : k2_chk58 v1968), ∀ a, (k2_off116 v1968) a + S1x40x256.size a ≤ S1x2048x256.size a := fun v1968 k2_hw58 => k2_hw58

def k2_off117 (i : grid2.Coords) : Fin 2 → Nat :=
  let arg0 : BitVec 32 := BitVec.ofNat 32 (i 0).val
  let v2001 : Index := Scalar.indexCast arg0
  let c58 : Index := 58#32
  ![v2001.toNat, 58]
def k2_off118 (v2002 : BitVec 32) : Fin 3 → Nat :=
  let c0_773 : Index := 0#32
  let c0_i32_766 : BitVec 32 := 0#32
  let v2006 : BitVec 1 := Scalar.cmpi .sgt v2002 c0_i32_766
  let v2007 : BitVec 32 := Scalar.extui v2006
  let c0_i32_767 : BitVec 32 := 0#32
  let v2008 : BitVec 1 := Scalar.cmpi .slt v2002 c0_i32_767
  let v2009 : BitVec 32 := Scalar.extui v2008
  let v2010 : BitVec 32 := Scalar.subi v2007 v2009
  let c8_i32_765 : BitVec 32 := 8#32
  let c0_i32_768 : BitVec 32 := 0#32
  let v2011 : BitVec 1 := Scalar.cmpi .sgt c8_i32_765 c0_i32_768
  let v2012 : BitVec 32 := Scalar.extui v2011
  let c0_i32_769 : BitVec 32 := 0#32
  let v2013 : BitVec 1 := Scalar.cmpi .slt c8_i32_765 c0_i32_769
  let v2014 : BitVec 32 := Scalar.extui v2013
  let v2015 : BitVec 32 := Scalar.subi v2012 v2014
  let v2016 : BitVec 1 := Scalar.cmpi .ne v2010 v2015
  let v2017 : BitVec 32 := Scalar.remsi v2002 c8_i32_765
  let c0_i32_770 : BitVec 32 := 0#32
  let v2018 : BitVec 1 := Scalar.cmpi .ne v2017 c0_i32_770
  let v2019 : BitVec 1 := Scalar.andi v2016 v2018
  let v2005 : BitVec 32 := Scalar.divsi v2002 c8_i32_765
  let c1_i32_771 : BitVec 32 := 1#32
  let v2020 : BitVec 32 := Scalar.subi v2005 c1_i32_771
  let v2021 : BitVec 32 := Scalar.select v2019 v2020 v2005
  let c8_i32_772 : BitVec 32 := 8#32
  let v2022 : BitVec 32 := Scalar.muli v2021 c8_i32_772
  let v2024 : Index := Scalar.indexCast v2022
  let c0_774 : Index := 0#32
  ![0, v2024.toNat, 0]

def k2_chk59 (v2002 : BitVec 32) : Prop :=
  (∀ a, (k2_off118 v2002) a + S1x40x256.size a ≤ S1x2048x256.size a)
theorem k2_off118_inb : ∀ (v2002 : BitVec 32) (k2_hw59 : k2_chk59 v2002), ∀ a, (k2_off118 v2002) a + S1x40x256.size a ≤ S1x2048x256.size a := fun v2002 k2_hw59 => k2_hw59

def k2_off119 (i : grid2.Coords) : Fin 2 → Nat :=
  let arg0 : BitVec 32 := BitVec.ofNat 32 (i 0).val
  let v2035 : Index := Scalar.indexCast arg0
  let c59 : Index := 59#32
  ![v2035.toNat, 59]
def k2_off120 (v2036 : BitVec 32) : Fin 3 → Nat :=
  let c0_786 : Index := 0#32
  let c0_i32_779 : BitVec 32 := 0#32
  let v2040 : BitVec 1 := Scalar.cmpi .sgt v2036 c0_i32_779
  let v2041 : BitVec 32 := Scalar.extui v2040
  let c0_i32_780 : BitVec 32 := 0#32
  let v2042 : BitVec 1 := Scalar.cmpi .slt v2036 c0_i32_780
  let v2043 : BitVec 32 := Scalar.extui v2042
  let v2044 : BitVec 32 := Scalar.subi v2041 v2043
  let c8_i32_778 : BitVec 32 := 8#32
  let c0_i32_781 : BitVec 32 := 0#32
  let v2045 : BitVec 1 := Scalar.cmpi .sgt c8_i32_778 c0_i32_781
  let v2046 : BitVec 32 := Scalar.extui v2045
  let c0_i32_782 : BitVec 32 := 0#32
  let v2047 : BitVec 1 := Scalar.cmpi .slt c8_i32_778 c0_i32_782
  let v2048 : BitVec 32 := Scalar.extui v2047
  let v2049 : BitVec 32 := Scalar.subi v2046 v2048
  let v2050 : BitVec 1 := Scalar.cmpi .ne v2044 v2049
  let v2051 : BitVec 32 := Scalar.remsi v2036 c8_i32_778
  let c0_i32_783 : BitVec 32 := 0#32
  let v2052 : BitVec 1 := Scalar.cmpi .ne v2051 c0_i32_783
  let v2053 : BitVec 1 := Scalar.andi v2050 v2052
  let v2039 : BitVec 32 := Scalar.divsi v2036 c8_i32_778
  let c1_i32_784 : BitVec 32 := 1#32
  let v2054 : BitVec 32 := Scalar.subi v2039 c1_i32_784
  let v2055 : BitVec 32 := Scalar.select v2053 v2054 v2039
  let c8_i32_785 : BitVec 32 := 8#32
  let v2056 : BitVec 32 := Scalar.muli v2055 c8_i32_785
  let v2058 : Index := Scalar.indexCast v2056
  let c0_787 : Index := 0#32
  ![0, v2058.toNat, 0]

def k2_chk60 (v2036 : BitVec 32) : Prop :=
  (∀ a, (k2_off120 v2036) a + S1x40x256.size a ≤ S1x2048x256.size a)
theorem k2_off120_inb : ∀ (v2036 : BitVec 32) (k2_hw60 : k2_chk60 v2036), ∀ a, (k2_off120 v2036) a + S1x40x256.size a ≤ S1x2048x256.size a := fun v2036 k2_hw60 => k2_hw60

def k2_off121 (i : grid2.Coords) : Fin 2 → Nat :=
  let arg0 : BitVec 32 := BitVec.ofNat 32 (i 0).val
  let v2069 : Index := Scalar.indexCast arg0
  let c60 : Index := 60#32
  ![v2069.toNat, 60]
def k2_off122 (v2070 : BitVec 32) : Fin 3 → Nat :=
  let c0_799 : Index := 0#32
  let c0_i32_792 : BitVec 32 := 0#32
  let v2074 : BitVec 1 := Scalar.cmpi .sgt v2070 c0_i32_792
  let v2075 : BitVec 32 := Scalar.extui v2074
  let c0_i32_793 : BitVec 32 := 0#32
  let v2076 : BitVec 1 := Scalar.cmpi .slt v2070 c0_i32_793
  let v2077 : BitVec 32 := Scalar.extui v2076
  let v2078 : BitVec 32 := Scalar.subi v2075 v2077
  let c8_i32_791 : BitVec 32 := 8#32
  let c0_i32_794 : BitVec 32 := 0#32
  let v2079 : BitVec 1 := Scalar.cmpi .sgt c8_i32_791 c0_i32_794
  let v2080 : BitVec 32 := Scalar.extui v2079
  let c0_i32_795 : BitVec 32 := 0#32
  let v2081 : BitVec 1 := Scalar.cmpi .slt c8_i32_791 c0_i32_795
  let v2082 : BitVec 32 := Scalar.extui v2081
  let v2083 : BitVec 32 := Scalar.subi v2080 v2082
  let v2084 : BitVec 1 := Scalar.cmpi .ne v2078 v2083
  let v2085 : BitVec 32 := Scalar.remsi v2070 c8_i32_791
  let c0_i32_796 : BitVec 32 := 0#32
  let v2086 : BitVec 1 := Scalar.cmpi .ne v2085 c0_i32_796
  let v2087 : BitVec 1 := Scalar.andi v2084 v2086
  let v2073 : BitVec 32 := Scalar.divsi v2070 c8_i32_791
  let c1_i32_797 : BitVec 32 := 1#32
  let v2088 : BitVec 32 := Scalar.subi v2073 c1_i32_797
  let v2089 : BitVec 32 := Scalar.select v2087 v2088 v2073
  let c8_i32_798 : BitVec 32 := 8#32
  let v2090 : BitVec 32 := Scalar.muli v2089 c8_i32_798
  let v2092 : Index := Scalar.indexCast v2090
  let c0_800 : Index := 0#32
  ![0, v2092.toNat, 0]

def k2_chk61 (v2070 : BitVec 32) : Prop :=
  (∀ a, (k2_off122 v2070) a + S1x40x256.size a ≤ S1x2048x256.size a)
theorem k2_off122_inb : ∀ (v2070 : BitVec 32) (k2_hw61 : k2_chk61 v2070), ∀ a, (k2_off122 v2070) a + S1x40x256.size a ≤ S1x2048x256.size a := fun v2070 k2_hw61 => k2_hw61

def k2_off123 (i : grid2.Coords) : Fin 2 → Nat :=
  let arg0 : BitVec 32 := BitVec.ofNat 32 (i 0).val
  let v2103 : Index := Scalar.indexCast arg0
  let c61 : Index := 61#32
  ![v2103.toNat, 61]
def k2_off124 (v2104 : BitVec 32) : Fin 3 → Nat :=
  let c0_812 : Index := 0#32
  let c0_i32_805 : BitVec 32 := 0#32
  let v2108 : BitVec 1 := Scalar.cmpi .sgt v2104 c0_i32_805
  let v2109 : BitVec 32 := Scalar.extui v2108
  let c0_i32_806 : BitVec 32 := 0#32
  let v2110 : BitVec 1 := Scalar.cmpi .slt v2104 c0_i32_806
  let v2111 : BitVec 32 := Scalar.extui v2110
  let v2112 : BitVec 32 := Scalar.subi v2109 v2111
  let c8_i32_804 : BitVec 32 := 8#32
  let c0_i32_807 : BitVec 32 := 0#32
  let v2113 : BitVec 1 := Scalar.cmpi .sgt c8_i32_804 c0_i32_807
  let v2114 : BitVec 32 := Scalar.extui v2113
  let c0_i32_808 : BitVec 32 := 0#32
  let v2115 : BitVec 1 := Scalar.cmpi .slt c8_i32_804 c0_i32_808
  let v2116 : BitVec 32 := Scalar.extui v2115
  let v2117 : BitVec 32 := Scalar.subi v2114 v2116
  let v2118 : BitVec 1 := Scalar.cmpi .ne v2112 v2117
  let v2119 : BitVec 32 := Scalar.remsi v2104 c8_i32_804
  let c0_i32_809 : BitVec 32 := 0#32
  let v2120 : BitVec 1 := Scalar.cmpi .ne v2119 c0_i32_809
  let v2121 : BitVec 1 := Scalar.andi v2118 v2120
  let v2107 : BitVec 32 := Scalar.divsi v2104 c8_i32_804
  let c1_i32_810 : BitVec 32 := 1#32
  let v2122 : BitVec 32 := Scalar.subi v2107 c1_i32_810
  let v2123 : BitVec 32 := Scalar.select v2121 v2122 v2107
  let c8_i32_811 : BitVec 32 := 8#32
  let v2124 : BitVec 32 := Scalar.muli v2123 c8_i32_811
  let v2126 : Index := Scalar.indexCast v2124
  let c0_813 : Index := 0#32
  ![0, v2126.toNat, 0]

def k2_chk62 (v2104 : BitVec 32) : Prop :=
  (∀ a, (k2_off124 v2104) a + S1x40x256.size a ≤ S1x2048x256.size a)
theorem k2_off124_inb : ∀ (v2104 : BitVec 32) (k2_hw62 : k2_chk62 v2104), ∀ a, (k2_off124 v2104) a + S1x40x256.size a ≤ S1x2048x256.size a := fun v2104 k2_hw62 => k2_hw62

def k2_off125 (i : grid2.Coords) : Fin 2 → Nat :=
  let arg0 : BitVec 32 := BitVec.ofNat 32 (i 0).val
  let v2137 : Index := Scalar.indexCast arg0
  let c62 : Index := 62#32
  ![v2137.toNat, 62]
def k2_off126 (v2138 : BitVec 32) : Fin 3 → Nat :=
  let c0_825 : Index := 0#32
  let c0_i32_818 : BitVec 32 := 0#32
  let v2142 : BitVec 1 := Scalar.cmpi .sgt v2138 c0_i32_818
  let v2143 : BitVec 32 := Scalar.extui v2142
  let c0_i32_819 : BitVec 32 := 0#32
  let v2144 : BitVec 1 := Scalar.cmpi .slt v2138 c0_i32_819
  let v2145 : BitVec 32 := Scalar.extui v2144
  let v2146 : BitVec 32 := Scalar.subi v2143 v2145
  let c8_i32_817 : BitVec 32 := 8#32
  let c0_i32_820 : BitVec 32 := 0#32
  let v2147 : BitVec 1 := Scalar.cmpi .sgt c8_i32_817 c0_i32_820
  let v2148 : BitVec 32 := Scalar.extui v2147
  let c0_i32_821 : BitVec 32 := 0#32
  let v2149 : BitVec 1 := Scalar.cmpi .slt c8_i32_817 c0_i32_821
  let v2150 : BitVec 32 := Scalar.extui v2149
  let v2151 : BitVec 32 := Scalar.subi v2148 v2150
  let v2152 : BitVec 1 := Scalar.cmpi .ne v2146 v2151
  let v2153 : BitVec 32 := Scalar.remsi v2138 c8_i32_817
  let c0_i32_822 : BitVec 32 := 0#32
  let v2154 : BitVec 1 := Scalar.cmpi .ne v2153 c0_i32_822
  let v2155 : BitVec 1 := Scalar.andi v2152 v2154
  let v2141 : BitVec 32 := Scalar.divsi v2138 c8_i32_817
  let c1_i32_823 : BitVec 32 := 1#32
  let v2156 : BitVec 32 := Scalar.subi v2141 c1_i32_823
  let v2157 : BitVec 32 := Scalar.select v2155 v2156 v2141
  let c8_i32_824 : BitVec 32 := 8#32
  let v2158 : BitVec 32 := Scalar.muli v2157 c8_i32_824
  let v2160 : Index := Scalar.indexCast v2158
  let c0_826 : Index := 0#32
  ![0, v2160.toNat, 0]

def k2_chk63 (v2138 : BitVec 32) : Prop :=
  (∀ a, (k2_off126 v2138) a + S1x40x256.size a ≤ S1x2048x256.size a)
theorem k2_off126_inb : ∀ (v2138 : BitVec 32) (k2_hw63 : k2_chk63 v2138), ∀ a, (k2_off126 v2138) a + S1x40x256.size a ≤ S1x2048x256.size a := fun v2138 k2_hw63 => k2_hw63

def k2_off127 (i : grid2.Coords) : Fin 2 → Nat :=
  let arg0 : BitVec 32 := BitVec.ofNat 32 (i 0).val
  let v2171 : Index := Scalar.indexCast arg0
  let c63 : Index := 63#32
  ![v2171.toNat, 63]
def k2_off128 (v2172 : BitVec 32) : Fin 3 → Nat :=
  let c0_838 : Index := 0#32
  let c0_i32_831 : BitVec 32 := 0#32
  let v2176 : BitVec 1 := Scalar.cmpi .sgt v2172 c0_i32_831
  let v2177 : BitVec 32 := Scalar.extui v2176
  let c0_i32_832 : BitVec 32 := 0#32
  let v2178 : BitVec 1 := Scalar.cmpi .slt v2172 c0_i32_832
  let v2179 : BitVec 32 := Scalar.extui v2178
  let v2180 : BitVec 32 := Scalar.subi v2177 v2179
  let c8_i32_830 : BitVec 32 := 8#32
  let c0_i32_833 : BitVec 32 := 0#32
  let v2181 : BitVec 1 := Scalar.cmpi .sgt c8_i32_830 c0_i32_833
  let v2182 : BitVec 32 := Scalar.extui v2181
  let c0_i32_834 : BitVec 32 := 0#32
  let v2183 : BitVec 1 := Scalar.cmpi .slt c8_i32_830 c0_i32_834
  let v2184 : BitVec 32 := Scalar.extui v2183
  let v2185 : BitVec 32 := Scalar.subi v2182 v2184
  let v2186 : BitVec 1 := Scalar.cmpi .ne v2180 v2185
  let v2187 : BitVec 32 := Scalar.remsi v2172 c8_i32_830
  let c0_i32_835 : BitVec 32 := 0#32
  let v2188 : BitVec 1 := Scalar.cmpi .ne v2187 c0_i32_835
  let v2189 : BitVec 1 := Scalar.andi v2186 v2188
  let v2175 : BitVec 32 := Scalar.divsi v2172 c8_i32_830
  let c1_i32_836 : BitVec 32 := 1#32
  let v2190 : BitVec 32 := Scalar.subi v2175 c1_i32_836
  let v2191 : BitVec 32 := Scalar.select v2189 v2190 v2175
  let c8_i32_837 : BitVec 32 := 8#32
  let v2192 : BitVec 32 := Scalar.muli v2191 c8_i32_837
  let v2194 : Index := Scalar.indexCast v2192
  let c0_839 : Index := 0#32
  ![0, v2194.toNat, 0]

def k2_chk64 (v2172 : BitVec 32) : Prop :=
  (∀ a, (k2_off128 v2172) a + S1x40x256.size a ≤ S1x2048x256.size a)
theorem k2_off128_inb : ∀ (v2172 : BitVec 32) (k2_hw64 : k2_chk64 v2172), ∀ a, (k2_off128 v2172) a + S1x40x256.size a ≤ S1x2048x256.size a := fun v2172 k2_hw64 => k2_hw64

def k2_off129 (i : grid2.Coords) : Fin 2 → Nat :=
  let arg0 : BitVec 32 := BitVec.ofNat 32 (i 0).val
  let v2220 : Index := Scalar.indexCast arg0
  let c0_852 : Index := 0#32
  ![v2220.toNat, 0]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x2048 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4x2048 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x2048x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x2048x256 : Shape := ⟨3, ![8, 2048, 256]⟩
abbrev S8x64 : Shape := ⟨2, ![8, 64]⟩
abbrev S8x2048 : Shape := ⟨2, ![8, 2048]⟩
abbrev S512x16 : Shape := ⟨2, ![512, 16]⟩
abbrev S16 : Shape := ⟨1, ![16]⟩
abbrev S2048 : Shape := ⟨1, ![2048]⟩
abbrev S64x8 : Shape := ⟨2, ![64, 8]⟩
abbrev S_ : Shape := ⟨0, ![]⟩
abbrev S64x8x256 : Shape := ⟨3, ![64, 8, 256]⟩
abbrev S1x8 : Shape := ⟨2, ![1, 8]⟩
abbrev S8 : Shape := ⟨1, ![8]⟩
abbrev S1x2048 : Shape := ⟨2, ![1, 2048]⟩
abbrev S8x1 : Shape := ⟨2, ![8, 1]⟩
abbrev S8x2048x1 : Shape := ⟨3, ![8, 2048, 1]⟩
abbrev S8x256 : Shape := ⟨2, ![8, 256]⟩
abbrev S1x8x256 : Shape := ⟨3, ![1, 8, 256]⟩
abbrev S8x64x256 : Shape := ⟨3, ![8, 64, 256]⟩
abbrev S8x2048x2 : Shape := ⟨3, ![8, 2048, 2]⟩
abbrev S8x2048x512 : Shape := ⟨3, ![8, 2048, 512]⟩
abbrev S8x2048x16 : Shape := ⟨3, ![8, 2048, 16]⟩
abbrev S1x1x16 : Shape := ⟨3, ![1, 1, 16]⟩

abbrev nBuf : Space → Nat
  | .hbm => 98
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x64, .i32⟩
  | .hbm, ⟨2, _⟩ => ⟨S8x64, .i32⟩
  | .hbm, ⟨3, _⟩ => ⟨S8x2048, .i32⟩
  | .hbm, ⟨4, _⟩ => ⟨S8x2048, .i32⟩
  | .hbm, ⟨5, _⟩ => ⟨S512x16, .f32⟩
  | .hbm, ⟨6, _⟩ => ⟨S16, .f32⟩
  | .hbm, ⟨7, _⟩ => ⟨S2048, .i32⟩
  | .hbm, ⟨8, _⟩ => ⟨S8x64, .i32⟩
  | .hbm, ⟨9, _⟩ => ⟨S64x8, .i32⟩
  | .hbm, ⟨10, _⟩ => ⟨S64x8, .i32⟩
  | .hbm, ⟨11, _⟩ => ⟨S_, .f32⟩
  | .hbm, ⟨12, _⟩ => ⟨S64x8x256, .f32⟩
  | .hbm, ⟨13, _⟩ => ⟨S_, .i32⟩
  | .hbm, ⟨14, _⟩ => ⟨S64x8, .i32⟩
  | .hbm, ⟨15, _⟩ => ⟨S64x8, .i32⟩
  | .hbm, ⟨16, _⟩ => ⟨S2048, .i32⟩
  | .hbm, ⟨17, _⟩ => ⟨S8x2048x256, .f32⟩
  | .hbm, ⟨18, _⟩ => ⟨S_, .i32⟩
  | .hbm, ⟨19, _⟩ => ⟨S64x8x256, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S1x8, .i32⟩
  | .hbm, ⟨24, _⟩ => ⟨S8, .i32⟩
  | .hbm, ⟨25, _⟩ => ⟨S_, .i32⟩
  | .hbm, ⟨26, _⟩ => ⟨S1x8, .i32⟩
  | .hbm, ⟨27, _⟩ => ⟨S8, .i32⟩
  | .hbm, ⟨28, _⟩ => ⟨S1x2048, .i32⟩
  | .hbm, ⟨29, _⟩ => ⟨S8x1, .i32⟩
  | .hbm, ⟨30, _⟩ => ⟨S8x2048, .i32⟩
  | .hbm, ⟨31, _⟩ => ⟨S8x2048, .i32⟩
  | .hbm, ⟨32, _⟩ => ⟨S8x2048, .i1⟩
  | .hbm, ⟨33, _⟩ => ⟨S1x2048, .i32⟩
  | .hbm, ⟨34, _⟩ => ⟨S8x1, .i32⟩
  | .hbm, ⟨35, _⟩ => ⟨S8x2048, .i32⟩
  | .hbm, ⟨36, _⟩ => ⟨S8x2048, .i32⟩
  | .hbm, ⟨37, _⟩ => ⟨S8x2048, .i1⟩
  | .hbm, ⟨38, _⟩ => ⟨S8x2048, .i1⟩
  | .hbm, ⟨39, _⟩ => ⟨S8x2048x1, .i1⟩
  | .hbm, ⟨40, _⟩ => ⟨S_, .f32⟩
  | .hbm, ⟨41, _⟩ => ⟨S8x2048x256, .i1⟩
  | .hbm, ⟨42, _⟩ => ⟨S8x2048x256, .f32⟩
  | .hbm, ⟨43, _⟩ => ⟨S8x2048x256, .f32⟩
  | .hbm, ⟨44, _⟩ => ⟨S_, .f32⟩
  | .hbm, ⟨45, _⟩ => ⟨S8x256, .f32⟩
  | .hbm, ⟨46, _⟩ => ⟨S1x8x256, .f32⟩
  | .hbm, ⟨47, _⟩ => ⟨S_, .i32⟩
  | .hbm, ⟨48, _⟩ => ⟨S_, .i32⟩
  | .hbm, ⟨49, _⟩ => ⟨S64x8x256, .f32⟩
  | .hbm, ⟨50, _⟩ => ⟨S_, .i32⟩
  | .hbm, ⟨51, _⟩ => ⟨S_, .i32⟩
  | .hbm, ⟨52, _⟩ => ⟨S8x64x256, .f32⟩
  | .hbm, ⟨53, _⟩ => ⟨S8, .i32⟩
  | .hbm, ⟨54, _⟩ => ⟨S8x1, .i32⟩
  | .hbm, ⟨55, _⟩ => ⟨S_, .i32⟩
  | .hbm, ⟨56, _⟩ => ⟨S8x1, .i32⟩
  | .hbm, ⟨57, _⟩ => ⟨S8x1, .i1⟩
  | .hbm, ⟨58, _⟩ => ⟨S_, .i32⟩
  | .hbm, ⟨59, _⟩ => ⟨S8x1, .i32⟩
  | .hbm, ⟨60, _⟩ => ⟨S8x1, .i32⟩
  | .hbm, ⟨61, _⟩ => ⟨S8x1, .i32⟩
  | .hbm, ⟨62, _⟩ => ⟨S_, .i32⟩
  | .hbm, ⟨63, _⟩ => ⟨S8x2048, .i32⟩
  | .hbm, ⟨64, _⟩ => ⟨S8x2048, .i1⟩
  | .hbm, ⟨65, _⟩ => ⟨S_, .i32⟩
  | .hbm, ⟨66, _⟩ => ⟨S8x2048, .i32⟩
  | .hbm, ⟨67, _⟩ => ⟨S8x2048, .i32⟩
  | .hbm, ⟨68, _⟩ => ⟨S8x2048, .i32⟩
  | .hbm, ⟨69, _⟩ => ⟨S8x2048, .i32⟩
  | .hbm, ⟨70, _⟩ => ⟨S8x2048x1, .i32⟩
  | .hbm, ⟨71, _⟩ => ⟨S8x2048x1, .i32⟩
  | .hbm, ⟨72, _⟩ => ⟨S8x2048x2, .i32⟩
  | .hbm, ⟨73, _⟩ => ⟨S8x2048x256, .f32⟩
  | .hbm, ⟨74, _⟩ => ⟨S_, .i32⟩
  | .hbm, ⟨75, _⟩ => ⟨S8x1, .i32⟩
  | .hbm, ⟨76, _⟩ => ⟨S8x1, .i1⟩
  | .hbm, ⟨77, _⟩ => ⟨S_, .i32⟩
  | .hbm, ⟨78, _⟩ => ⟨S8x1, .i32⟩
  | .hbm, ⟨79, _⟩ => ⟨S8x1, .i32⟩
  | .hbm, ⟨80, _⟩ => ⟨S8x1, .i32⟩
  | .hbm, ⟨81, _⟩ => ⟨S_, .i32⟩
  | .hbm, ⟨82, _⟩ => ⟨S8x2048, .i32⟩
  | .hbm, ⟨83, _⟩ => ⟨S8x2048, .i1⟩
  | .hbm, ⟨84, _⟩ => ⟨S_, .i32⟩
  | .hbm, ⟨85, _⟩ => ⟨S8x2048, .i32⟩
  | .hbm, ⟨86, _⟩ => ⟨S8x2048, .i32⟩
  | .hbm, ⟨87, _⟩ => ⟨S8x2048, .i32⟩
  | .hbm, ⟨88, _⟩ => ⟨S8x2048, .i32⟩
  | .hbm, ⟨89, _⟩ => ⟨S8x2048x1, .i32⟩
  | .hbm, ⟨90, _⟩ => ⟨S8x2048x1, .i32⟩
  | .hbm, ⟨91, _⟩ => ⟨S8x2048x2, .i32⟩
  | .hbm, ⟨92, _⟩ => ⟨S8x2048x256, .f32⟩
  | .hbm, ⟨93, _⟩ => ⟨S8x2048x512, .f32⟩
  | .hbm, ⟨94, _⟩ => ⟨S8x2048x16, .f32⟩
  | .hbm, ⟨95, _⟩ => ⟨S1x1x16, .f32⟩
  | .hbm, ⟨96, _⟩ => ⟨S8x2048x16, .f32⟩
  | .hbm, ⟨97, _⟩ => ⟨S8x2048x16, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_c : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_while0c_c_13 : Ref sig .tc := ⟨.hbm, 20, rfl⟩
abbrev main_while0c_v44 : Ref sig .tc := ⟨.hbm, 21, rfl⟩
abbrev main_while0b_call0_c : Ref sig .tc := ⟨.hbm, 22, rfl⟩
abbrev main_while0b_call0_v0 : Ref sig .tc := ⟨.hbm, 23, rfl⟩
abbrev main_while0b_v44 : Ref sig .tc := ⟨.hbm, 24, rfl⟩
abbrev main_while0b_call1_c : Ref sig .tc := ⟨.hbm, 25, rfl⟩
abbrev main_while0b_call1_v0 : Ref sig .tc := ⟨.hbm, 26, rfl⟩
abbrev main_while0b_v45 : Ref sig .tc := ⟨.hbm, 27, rfl⟩
abbrev main_while0b_v46 : Ref sig .tc := ⟨.hbm, 28, rfl⟩
abbrev main_while0b_v47 : Ref sig .tc := ⟨.hbm, 29, rfl⟩
abbrev main_while0b_v48 : Ref sig .tc := ⟨.hbm, 30, rfl⟩
abbrev main_while0b_v49 : Ref sig .tc := ⟨.hbm, 31, rfl⟩
abbrev main_while0b_v50 : Ref sig .tc := ⟨.hbm, 32, rfl⟩
abbrev main_while0b_v51 : Ref sig .tc := ⟨.hbm, 33, rfl⟩
abbrev main_while0b_v52 : Ref sig .tc := ⟨.hbm, 34, rfl⟩
abbrev main_while0b_v53 : Ref sig .tc := ⟨.hbm, 35, rfl⟩
abbrev main_while0b_v54 : Ref sig .tc := ⟨.hbm, 36, rfl⟩
abbrev main_while0b_v55 : Ref sig .tc := ⟨.hbm, 37, rfl⟩
abbrev main_while0b_v56 : Ref sig .tc := ⟨.hbm, 38, rfl⟩
abbrev main_while0b_v57 : Ref sig .tc := ⟨.hbm, 39, rfl⟩
abbrev main_while0b_cst_13 : Ref sig .tc := ⟨.hbm, 40, rfl⟩
abbrev main_while0b_call2_v0 : Ref sig .tc := ⟨.hbm, 41, rfl⟩
abbrev main_while0b_call2_v1 : Ref sig .tc := ⟨.hbm, 42, rfl⟩
abbrev main_while0b_v58 : Ref sig .tc := ⟨.hbm, 43, rfl⟩
abbrev main_while0b_cst_14 : Ref sig .tc := ⟨.hbm, 44, rfl⟩
abbrev main_while0b_v59 : Ref sig .tc := ⟨.hbm, 45, rfl⟩
abbrev main_while0b_call3_v0 : Ref sig .tc := ⟨.hbm, 46, rfl⟩
abbrev main_while0b_call3_c : Ref sig .tc := ⟨.hbm, 47, rfl⟩
abbrev main_while0b_call3_c_0 : Ref sig .tc := ⟨.hbm, 48, rfl⟩
abbrev main_while0b_v60 : Ref sig .tc := ⟨.hbm, 49, rfl⟩
abbrev main_while0b_c_15 : Ref sig .tc := ⟨.hbm, 50, rfl⟩
abbrev main_while0b_v61 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_c_0 : Ref sig .tc := ⟨.hbm, 55, rfl⟩
abbrev main_v9 : Ref sig .tc := ⟨.hbm, 56, rfl⟩
abbrev main_v10 : Ref sig .tc := ⟨.hbm, 57, rfl⟩
abbrev main_c_1 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_c_2 : Ref sig .tc := ⟨.hbm, 62, rfl⟩
abbrev main_v14 : Ref sig .tc := ⟨.hbm, 63, rfl⟩
abbrev main_v15 : Ref sig .tc := ⟨.hbm, 64, rfl⟩
abbrev main_c_3 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_c_4 : Ref sig .tc := ⟨.hbm, 74, rfl⟩
abbrev main_v24 : Ref sig .tc := ⟨.hbm, 75, rfl⟩
abbrev main_v25 : Ref sig .tc := ⟨.hbm, 76, rfl⟩
abbrev main_c_5 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_c_6 : Ref sig .tc := ⟨.hbm, 81, rfl⟩
abbrev main_v29 : Ref sig .tc := ⟨.hbm, 82, rfl⟩
abbrev main_v30 : Ref sig .tc := ⟨.hbm, 83, rfl⟩
abbrev main_c_7 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩

abbrev nD : Nat := 1
abbrev τ : Topo := Topo.v7x

variable {F : FTy → Type} [FloatOps F]

abbrev main_while0_count : Scf.Loop 32 := ⟨0#32, 64#32, 1#32⟩
-- ==== Proof.Ranges.lean ====
/- What the precondition says of the integer arguments, as numbers. -/
module

public import proofs.«01_k».proof.Proof.Gen.Pre_in_range
public import Idealize.ShloMosaic.Lib.ReduceAll
public import Idealize.ShloMosaic.Lib.Tactic

@[expose] public section

noncomputable section

namespace Cert.Ranges

open Idealize.ShloMosaic Cert.Pre_in_range Cert.Pre_in_range.Gen

instance : Subsingleton S_.Idx := ⟨fun a b => funext fun k => k.elim0⟩

/-- A word between two constants, compared as signed words, is between them as a natural number. -/
theorem between (x : BitVec 32) (a b : Nat) (ha : a < 2 ^ 31) (hb : b < 2 ^ 31) (h0 : IntOp.cmpi .sge x (BitVec.ofNat 32 a) = 1#1)
    (h1 : IntOp.cmpi .slt x (BitVec.ofNat 32 b) = 1#1) : a ≤ x.toNat ∧ x.toNat < b := by
  rw [IntOp.cmpi_sge] at h0
  rw [IntOp.cmpi_slt] at h1
  rw [BitVec.toInt_eq_toNat_cond] at h0 h1
  rw [BitVec.toInt_eq_toNat_cond] at h0 h1
  have e : ∀ n : Nat, n < 2 ^ 31 → (BitVec.ofNat 32 n).toNat = n := fun n hn => by rw [BitVec.toNat_ofNat]; exact Nat.mod_eq_of_lt (by omega)
  rw [e a ha] at h0
  rw [e b hb] at h1
  have := x.isLt
  split at h0 <;> split at h0 <;> split at h1 <;> omega

/-- The integer arguments are in the ranges they are drawn from. -/
theorem ranges {F : FTy → Type} [FloatOps F] (E : FVec F S8x2048x256 .f32) (lo ln : IVec S8x64 32) (hd tl : IVec S8x2048 32) (W : FVec F S512x16 .f32)
    (b : FVec F S16 .f32) (h : fn E lo ln hd tl W b = fun _ => 1#1) :
    (∀ i, (lo i).toNat < 2016) ∧ (∀ i, 1 ≤ (ln i).toNat ∧ (ln i).toNat < 32) ∧ (∀ i, (hd i).toNat < 64) ∧ (∀ i, (tl i).toNat < 64) := by
  have e := congrFun h (fun k => k.elim0)
  have hand : ∀ (x y : IVec S_ 1) (i : S_.Idx), andi x y i = IntOp.andi (x i) (y i) := fun _ _ _ => rfl
  simp only [fn, fn_part1, hand, IntOp.andi_eq_one] at e
  obtain ⟨⟨⟨⟨⟨⟨⟨h0, h1⟩, h2⟩, h3⟩, h4⟩, h5⟩, h6⟩, h7⟩ := e
  have all : ∀ {s : Shape} {axes : List (Fin s.rank)} (x init) (hr : s.ReducesTo axes S_) (hu) (j), Host.reduce IntOp.andi x init hr hu j = 1#1 → ∀ i, x i = 1#1 :=
    fun x init hr hu j e i => Host.reduce_andi_all (u := S_) x init hr hu j e i
  refine ⟨fun i => (between _ 0 2016 (by omega) (by omega) (all _ _ _ _ _ h0 i) (all _ _ _ _ _ h1 i)).2,
    fun i => between _ 1 32 (by omega) (by omega) (all _ _ _ _ _ h2 i) (all _ _ _ _ _ h3 i),
    fun i => (between _ 0 64 (by omega) (by omega) (all _ _ _ _ _ h4 i) (all _ _ _ _ _ h5 i)).2,
    fun i => (between _ 0 64 (by omega) (by omega) (all _ _ _ _ _ h6 i) (all _ _ _ _ _ h7 i)).2⟩

end Cert.Ranges

end
-- ==== Proof.KernelIdealSpans.lean ====
/- The two TensorCore kernels, regrouped: each pools 64 spans, eight at a time, and stores the eight pooled rows into its
   scratch. One span is a program of four reads; a group is eight spans and a store; each printed kernel is its eight groups
   followed by its own last part. -/
module

public import proofs.«01_k».proof.Proof.Gen.KernelIdeal.Skeleton
public import Idealize.ShloMosaic.Lib.Pipeline.Regions

@[expose] public section

noncomputable section

namespace Cert.KernelIdeal.Spans

open Idealize.ShloMosaic Idealize.SL.Sem
open Cert.KernelIdeal.Gen

variable {F : FTy → Type} [FloatOps F]

/-- The programs a TensorCore kernel's body is one of. -/
abbrev TcProg (F : FTy → Type) [FloatOps F] := Prog (TpuEff nD τ sig (Elt F) Λ₀ .tc) PUnit

/-- Where a span's start and length stand in the tables: row `r`, column `s`. -/
def entry (r : BitVec 32) (s : Nat) : Fin 2 → Nat := ![(Scalar.indexCast r).toNat, s]

theorem entry_inb {r : BitVec 32} (hr : r.toNat < 8) {s : Nat} (hs : s < 64) :
    ∀ a, entry r s a + S1x1.size a ≤ S8x64.size a := by
  intro a
  have h1 : (Scalar.indexCast r).toNat = r.toNat := rfl
  fin_cases a
  · show (Scalar.indexCast r).toNat + 1 ≤ 8; omega
  · show s + 1 ≤ 64; omega

/-- The pooled row of one span, from its start, its length and the forty rows read. -/
def row (lo len : BitVec 32) (w : Vec F S1x40x256 .f32) : FVec F S1x256 .f32 := k0_pay4 lo len w

/-- One span: read its start and its length, read forty rows, go on with the pooled row. -/
def span (a1 a2 : Memref sig .tc .smem S8x64 .i32) (a3 : Memref sig .tc .vmem S1x2048x256 .f32)
    (r : BitVec 32) (hr : r.toNat < 8) (s : Nat) (hs : s < 64) (k : FVec F S1x256 .f32 → TcProg F) : TcProg F :=
  smemLoadElt a1 (Rect.unit (s := S8x64) (entry r s) S1x1.size (entry_inb hr hs)) (View.loads_smem_one rfl numel1_S1x1)
    (Shape.Idx.first (numel1_S1x1.symm ▸ Nat.one_pos)) fun lo =>
  .op (.assume (k0_chk1 lo) (k0_chk1.dec lo)) fun h =>
  smemLoadElt a2 (Rect.unit (s := S8x64) (entry r s) S1x1.size (entry_inb hr hs)) (View.loads_smem_one rfl numel1_S1x1)
    (Shape.Idx.first (numel1_S1x1.symm ▸ Nat.one_pos)) fun len =>
  .op (.load a3 (Rect.unit (s := S1x2048x256) (k0_off2 lo) S1x40x256.size (k0_off2_inb lo h.down)).toLoadRect (View.loadsAt_vmem h_S1x40x256)) fun w =>
  k (row lo len w)

theorem grp_inb {g : Nat} (hg : g < 8) : ∀ a, (![8 * g, 0] : Fin 2 → Nat) a + S8x256.size a ≤ S64x256.size a := by
  intro a
  fin_cases a
  · show 8 * g + 8 ≤ 64; omega
  · show 0 + 256 ≤ 256; omega

/-- The eight rows of a group, stacked. -/
def stack (r0 r1 r2 r3 r4 r5 r6 r7 : FVec F S1x256 .f32) : FVec F S8x256 .f32 :=
  shapeCast S8x256 (concatenate S8x256 0 [⟨S1x256, r0⟩, ⟨S1x256, r1⟩, ⟨S1x256, r2⟩, ⟨S1x256, r3⟩, ⟨S1x256, r4⟩, ⟨S1x256, r5⟩, ⟨S1x256, r6⟩, ⟨S1x256, r7⟩]
    concatenates_S1x256_S1x256_S1x256_S1x256_S1x256_S1x256_S1x256_S1x256_S8x256_d0) shapeCasts_S8x256_S8x256

/-- One group: eight spans, their rows stacked and stored. -/
def group (a1 a2 : Memref sig .tc .smem S8x64 .i32) (a3 : Memref sig .tc .vmem S1x2048x256 .f32) (sc : Memref sig .tc .vmem S64x256 .f32)
    (r : BitVec 32) (hr : r.toNat < 8) (g : Nat) (hg : g < 8) (k : TcProg F) : TcProg F :=
  span a1 a2 a3 r hr (8 * g) (by omega) fun r0 => span a1 a2 a3 r hr (8 * g + 1) (by omega) fun r1 =>
  span a1 a2 a3 r hr (8 * g + 2) (by omega) fun r2 => span a1 a2 a3 r hr (8 * g + 3) (by omega) fun r3 =>
  span a1 a2 a3 r hr (8 * g + 4) (by omega) fun r4 => span a1 a2 a3 r hr (8 * g + 5) (by omega) fun r5 =>
  span a1 a2 a3 r hr (8 * g + 6) (by omega) fun r6 => span a1 a2 a3 r hr (8 * g + 7) (by omega) fun r7 =>
  .op (.load sc (Rect.unit (s := S64x256) ![8 * g, 0] S8x256.size (grp_inb hg)).toLoadRect (View.loadsAt_vmem h_S8x256)) fun _ =>
  .op (.store sc (Rect.unit (s := S64x256) ![8 * g, 0] S8x256.size (grp_inb hg)) (stack r0 r1 r2 r3 r4 r5 r6 r7) Finset.univ
    (View.stores_vmem_bits_univ h_S8x256 rfl) (.inl rfl)) fun _ => k

/-- The row of the tables the first kernel reads at a grid point: four past the point. -/
def rowA (i : grid0.Coords) : BitVec 32 := Scalar.addi (BitVec.ofNat 32 (i 0).val) 4#32

theorem rowA_lt (i : grid0.Coords) : (rowA i).toNat < 8 := by
  have h : (i 0).val < 4 := (i 0).isLt
  show ((BitVec.ofNat 32 (i 0).val) + 4#32).toNat < 8
  rw [BitVec.toNat_add, BitVec.toNat_ofNat, BitVec.toNat_ofNat]; omega

/-- The first kernel after its groups: the two products of the pooled rows with the weight's halves, the bias on the first. -/
def endA (arg4 : Memref sig .tc .vmem S512x16 .f32) (arg5 : Memref sig .tc .vmem S16 .f32) (arg6 arg7 : Memref sig .tc .vmem S1x64x16 .f32) (arg8 : Memref sig .tc .vmem S64x256 .f32) : TcProg F := do
  let v2210 : Vec F S64x256 .f32 ← Prog.lift (.load arg8 (Rect.unit (s := S64x256) ![0, 0] S64x256.size inb_S64x256_S64x256_0_0).toLoadRect (View.loadsAt_vmem h_S64x256))
  let v2211 : Vec F S256x16 .f32 ← Prog.lift (.load arg4 (Rect.unit (s := S512x16) ![0, 0] S256x16.size inb_S512x16_S256x16_0_0).toLoadRect (View.loadsAt_vmem h_S256x16))
  let v2213 : Vec F S16 .f32 ← Prog.lift (.load arg5 (Rect.unit (s := S16) ![0] S16.size inb_S16_S16_0).toLoadRect (View.loadsAt_vmem h_S16))
  let _v2217 : Vec F S1x64x16 .f32 ← Prog.lift (.load arg6 (Rect.unit (s := S1x64x16) ![0, 0, 0] S1x64x16.size inb_S1x64x16_S1x64x16_0_0_0).toLoadRect (View.loadsAt_vmem h_S1x64x16))
  Prog.lift (.store arg6 (Rect.unit (s := S1x64x16) ![0, 0, 0] S1x64x16.size inb_S1x64x16_S1x64x16_0_0_0) (k0_pay2 v2210 v2211 v2213) Finset.univ (View.stores_vmem_bits_univ h_S1x64x16 rfl) (.inl rfl))
  let v2220 : Vec F S256x16 .f32 ← Prog.lift (.load arg4 (Rect.unit (s := S512x16) ![256, 0] S256x16.size inb_S512x16_S256x16_256_0).toLoadRect (View.loadsAt_vmem h_S256x16))
  let _v2222 : Vec F S1x64x16 .f32 ← Prog.lift (.load arg7 (Rect.unit (s := S1x64x16) ![0, 0, 0] S1x64x16.size inb_S1x64x16_S1x64x16_0_0_0).toLoadRect (View.loadsAt_vmem h_S1x64x16))
  Prog.lift (.store arg7 (Rect.unit (s := S1x64x16) ![0, 0, 0] S1x64x16.size inb_S1x64x16_S1x64x16_0_0_0) (k0_pay3 v2210 v2220) Finset.univ (View.stores_vmem_bits_univ h_S1x64x16 rfl) (.inl rfl))
  pure ⟨⟩

/-- Groups run in the order of a list. -/
def groups (a1 a2 : Memref sig .tc .smem S8x64 .i32) (a3 : Memref sig .tc .vmem S1x2048x256 .f32) (sc : Memref sig .tc .vmem S64x256 .f32)
    (r : BitVec 32) (hr : r.toNat < 8) : List (Fin 8) → TcProg F → TcProg F
  | [], k => k
  | g :: gs, k => group a1 a2 a3 sc r hr g.val g.isLt (groups a1 a2 a3 sc r hr gs k)

set_option maxRecDepth 1000000 in
/-- The first kernel is its eight groups and its last part. -/
theorem kernelA_eq (i : grid0.Coords) (arg1 : Memref sig .tc .smem S8x64 .i32) (harg1 : arg1.IsWhole) (arg2 : Memref sig .tc .smem S8x64 .i32) (harg2 : arg2.IsWhole) (arg3 : Memref sig .tc .vmem S1x2048x256 .f32) (harg3 : arg3.IsWhole) (arg4 : Memref sig .tc .vmem S512x16 .f32) (harg4 : arg4.IsWhole) (arg5 : Memref sig .tc .vmem S16 .f32) (harg5 : arg5.IsWhole) (arg6 : Memref sig .tc .vmem S1x64x16 .f32) (harg6 : arg6.IsWhole) (arg7 : Memref sig .tc .vmem S1x64x16 .f32) (harg7 : arg7.IsWhole) (arg8 : Memref sig .tc .vmem S64x256 .f32) (harg8 : arg8.IsWhole) :
    cc0__pool_project_kernel (F := F) i arg1 harg1 arg2 harg2 arg3 harg3 arg4 harg4 arg5 harg5 arg6 harg6 arg7 harg7 arg8 harg8
      = groups arg1 arg2 arg3 arg8 (rowA i) (rowA_lt i) [0, 1, 2, 3, 4, 5, 6, 7] (endA arg4 arg5 arg6 arg7 arg8) := by
  chain_rfl

/-- The row of the tables the second kernel reads at a grid point: the point. -/
def rowB (i : grid2.Coords) : BitVec 32 := BitVec.ofNat 32 (i 0).val

theorem rowB_lt (i : grid2.Coords) : (rowB i).toNat < 8 := by
  have h : (i 0).val < 4 := (i 0).isLt
  show (BitVec.ofNat 32 (i 0).val).toNat < 8
  rw [BitVec.toNat_ofNat]; omega

/-- The second kernel after its groups: the two products stacked, and the product of the selection with them. -/
def endB (i : grid2.Coords) (arg4 : Memref sig .tc .vmem S512x16 .f32) (arg5 : Memref sig .tc .vmem S16 .f32) (arg6 arg7 : Memref sig .tc .vmem S4x2048 .i32) (arg8 : Memref sig .tc .vmem S1x2048x16 .f32) (arg9 : Memref sig .tc .vmem S64x256 .f32) : TcProg F := do
  let p : Vec F S64x256 .f32 ← Prog.lift (.load arg9 (Rect.unit (s := S64x256) ![0, 0] S64x256.size inb_S64x256_S64x256_0_0).toLoadRect (View.loadsAt_vmem h_S64x256))
  let w0 : Vec F S256x16 .f32 ← Prog.lift (.load arg4 (Rect.unit (s := S512x16) ![0, 0] S256x16.size inb_S512x16_S256x16_0_0).toLoadRect (View.loadsAt_vmem h_S256x16))
  let b : Vec F S16 .f32 ← Prog.lift (.load arg5 (Rect.unit (s := S16) ![0] S16.size inb_S16_S16_0).toLoadRect (View.loadsAt_vmem h_S16))
  let w1 : Vec F S256x16 .f32 ← Prog.lift (.load arg4 (Rect.unit (s := S512x16) ![256, 0] S256x16.size inb_S512x16_S256x16_256_0).toLoadRect (View.loadsAt_vmem h_S256x16))
  let hd : Vec F S1x2048 .i32 ← Prog.lift (.load arg6 (Rect.unit (s := S4x2048) (k2_off129 i) S1x2048.size (k2_off129_inb i)).toLoadRect (View.loadsAt_vmem h_S1x2048))
  let tl : Vec F S1x2048 .i32 ← Prog.lift (.load arg7 (Rect.unit (s := S4x2048) (k2_off129 i) S1x2048.size (k2_off129_inb i)).toLoadRect (View.loadsAt_vmem h_S1x2048))
  let _o : Vec F S1x2048x16 .f32 ← Prog.lift (.load arg8 (Rect.unit (s := S1x2048x16) ![0, 0, 0] S1x2048x16.size inb_S1x2048x16_S1x2048x16_0_0_0).toLoadRect (View.loadsAt_vmem h_S1x2048x16))
  Prog.lift (.store arg8 (Rect.unit (s := S1x2048x16) ![0, 0, 0] S1x2048x16.size inb_S1x2048x16_S1x2048x16_0_0_0) (k2_pay1 (k2_pay86 p w0 b w1 hd tl)) Finset.univ (View.stores_vmem_bits_univ h_S1x2048x16 rfl) (.inl rfl))
  pure ⟨⟩

set_option maxRecDepth 1000000 in
/-- The second kernel is its eight groups and its last part. -/
theorem kernelB_eq (i : grid2.Coords) (arg1 : Memref sig .tc .smem S8x64 .i32) (harg1 : arg1.IsWhole) (arg2 : Memref sig .tc .smem S8x64 .i32) (harg2 : arg2.IsWhole) (arg3 : Memref sig .tc .vmem S1x2048x256 .f32) (harg3 : arg3.IsWhole) (arg4 : Memref sig .tc .vmem S512x16 .f32) (harg4 : arg4.IsWhole) (arg5 : Memref sig .tc .vmem S16 .f32) (harg5 : arg5.IsWhole) (arg6 : Memref sig .tc .vmem S4x2048 .i32) (harg6 : arg6.IsWhole) (arg7 : Memref sig .tc .vmem S4x2048 .i32) (harg7 : arg7.IsWhole) (arg8 : Memref sig .tc .vmem S1x2048x16 .f32) (harg8 : arg8.IsWhole) (arg9 : Memref sig .tc .vmem S64x256 .f32) (harg9 : arg9.IsWhole) :
    cc2__pool_project_score_kernel (F := F) i arg1 harg1 arg2 harg2 arg3 harg3 arg4 harg4 arg5 harg5 arg6 harg6 arg7 harg7 arg8 harg8 arg9 harg9
      = groups arg1 arg2 arg3 arg9 (rowB i) (rowB_lt i) [0, 1, 2, 3, 4, 5, 6, 7] (endB i arg4 arg5 arg6 arg7 arg8 arg9) := by
  chain_rfl

end Cert.KernelIdeal.Spans

end
-- ==== Proof.KernelIdealRows.lean ====
/- The SparseCore tile's loop body, regrouped: a trip reads sixteen head numbers and sixteen tail numbers and then makes
   sixteen rows of the block, one by one; each row reads a row of either table and stores their sum. -/
module

public import proofs.«01_k».proof.Proof.KernelIdealSpans

@[expose] public section

noncomputable section

namespace Cert.KernelIdeal.Rows

open Idealize.ShloMosaic Idealize.SL.Sem
open Cert.KernelIdeal.Gen

variable {F : FTy → Type} [FloatOps F]

/-- The programs a tile's body is one of. -/
abbrev TileProg (F : FTy → Type) [FloatOps F] (c : Fin τ.nSC) (s : Fin τ.nSub) (α : Type) := Prog (TpuEff nD τ sig (Elt F) Λ₀ (.scVector c s)) α

theorem lane_slices {j : Nat} (hj : j < 16) : S16.Slices ![j] S1 := by
  refine ⟨rfl, fun a => ?_⟩
  fin_cases a
  show j + 1 ≤ 16; omega

/-- Lane `j` of sixteen row numbers. -/
def lane (v : Vec F S16 .i32) (j : Nat) (hj : j < 16) : BitVec 32 := extractAt ![0] (extractStridedSlice S1 ![j] v (lane_slices hj)) inpos_S1_p0

/-- Where row `j` of a trip stands in the block. -/
def rowOff (t : Fin k1_t1_loop.trips) (j : Nat) : Fin 2 → Nat :=
  ![(Scalar.indexCast (Scalar.addi (Scalar.muli (Scf.iv 0#32 1#32 t) 16#32) (BitVec.ofNat 32 j))).toNat, 0]

theorem rowOff_zero (t : Fin k1_t1_loop.trips) {j : Nat} (hj : j < 16) : rowOff t j 0 = 16 * t.val + j := by
  have ht : t.val < 16 := t.isLt
  show (((BitVec.ofNat 32 0 + BitVec.ofNat 32 t.val * 1#32) * 16#32 + BitVec.ofNat 32 j) : BitVec 32).toNat = _
  simp only [BitVec.toNat_add, BitVec.toNat_mul, BitVec.toNat_ofNat]; omega

theorem rowOff_inb (t : Fin k1_t1_loop.trips) {j : Nat} (hj : j < 16) : ∀ a, rowOff t j a + S1x16.size a ≤ S256x16.size a := by
  have ht : t.val < 16 := t.isLt
  intro a
  fin_cases a
  · show rowOff t j 0 + 1 ≤ 256; rw [rowOff_zero t hj]; omega
  · show 0 + 16 ≤ 16; omega

/-- One row: the head's row of one table, the tail's row of the other, their sum stored. -/
def gatherRow {c : Fin τ.nSC} {s : Fin τ.nSub} {α : Type} (hv tv : Memref sig .scVector .vmem S64x16 .f32) (out : Memref sig .scVector .vmem S256x16 .f32)
    (t : Fin k1_t1_loop.trips) (hd tl : Vec F S16 .i32) (j : Nat) (hj : j < 16) (k : TileProg F c s α) : TileProg F c s α :=
  .op (.assume (k1_chk1 (lane hd j hj)) (k1_chk1.dec (lane hd j hj))) fun h1 =>
  .op (.load hv (Rect.unit (s := S64x16) (k1_off4 (lane hd j hj)) S1x16.size (k1_off4_inb (lane hd j hj) h1.down)).toLoadRect (View.loadsAt_vmem h_S1x16)) fun x =>
  .op (.assume (k1_chk2 (lane tl j hj)) (k1_chk2.dec (lane tl j hj))) fun h2 =>
  .op (.load tv (Rect.unit (s := S64x16) (k1_off5 (lane tl j hj)) S1x16.size (k1_off5_inb (lane tl j hj) h2.down)).toLoadRect (View.loadsAt_vmem h_S1x16)) fun y =>
  .op (.load out (Rect.unit (s := S256x16) (rowOff t j) S1x16.size (rowOff_inb t hj)).toLoadRect (View.loadsAt_vmem h_S1x16)) fun _ =>
  .op (.store out (Rect.unit (s := S256x16) (rowOff t j) S1x16.size (rowOff_inb t hj)) (shapeCast S1x16 (k1_pay3 x y) shapeCasts_S16_S1x16) Finset.univ
    (View.stores_vmem_bits_univ h_S1x16 rfl) (.inl rfl)) fun _ => k

/-- Rows made in the order of a list. -/
def gatherRows {c : Fin τ.nSC} {s : Fin τ.nSub} {α : Type} (hv tv : Memref sig .scVector .vmem S64x16 .f32) (out : Memref sig .scVector .vmem S256x16 .f32)
    (t : Fin k1_t1_loop.trips) (hd tl : Vec F S16 .i32) : List (Fin 16) → TileProg F c s α → TileProg F c s α
  | [], k => k
  | j :: js, k => gatherRow hv tv out t hd tl j.val j.isLt (gatherRows hv tv out t hd tl js k)

/-- One trip: sixteen numbers of either list, sixteen rows. -/
def trip {c : Fin τ.nSC} {s : Fin τ.nSub} (hv tv : Memref sig .scVector .vmem S64x16 .f32) (ih it : Memref sig .scVector .vmem S256 .i32)
    (out : Memref sig .scVector .vmem S256x16 .f32) (t : Fin k1_t1_loop.trips) : TileProg F c s (BitVec 32) :=
  .op (.load ih (Rect.unit (s := S256) (k1_off3 t) S16.size (k1_off3_inb t)).toLoadRect (View.loadsAt_vmem h_S16)) fun hd =>
  .op (.load it (Rect.unit (s := S256) (k1_off3 t) S16.size (k1_off3_inb t)).toLoadRect (View.loadsAt_vmem h_S16)) fun tl =>
  gatherRows hv tv out t hd tl [0, 1, 2, 3, 4, 5, 6, 7, 8, 9, 10, 11, 12, 13, 14, 15] (pure 0#32)

set_option maxRecDepth 1000000 in
/-- The printed trip is the one above. -/
theorem trip_eq (i : grid1.Coords) (arg2 : Memref sig .scVector .hbm S4x64x16 .f32) (harg2 : arg2.IsWhole) (arg3 : Memref sig .scVector .hbm S4x64x16 .f32) (harg3 : arg3.IsWhole) (arg4 : Memref sig .scVector .hbm S8x2048 .i32) (harg4 : arg4.IsWhole) (arg5 : Memref sig .scVector .hbm S8x2048 .i32) (harg5 : arg5.IsWhole) (arg6 : Memref sig .scVector .hbm S4x2048x16 .f32) (harg6 : arg6.IsWhole) (arg7 : Memref sig .scVector .vmem S64x16 .f32) (harg7 : arg7.IsWhole) (arg8 : Memref sig .scVector .vmem S64x16 .f32) (harg8 : arg8.IsWhole) (arg9 : Memref sig .scVector .vmem S256 .i32) (harg9 : arg9.IsWhole) (arg10 : Memref sig .scVector .vmem S256 .i32) (harg10 : arg10.IsWhole) (arg11 : Memref sig .scVector .vmem S256x16 .f32) (harg11 : arg11.IsWhole) (arg12 : DmaSems sig S_) (arg13 : DmaSems sig S_) (arg14 : DmaSems sig S_) (arg15 : DmaSems sig S_) (v66_r0 : DmaSems sig S_) (k1_t1 : Fin k1_t1_loop.trips) (acc : BitVec 32) :
    k1_t1_body (F := F) i arg2 harg2 arg3 harg3 arg4 harg4 arg5 harg5 arg6 harg6 arg7 harg7 arg8 harg8 arg9 harg9 arg10 harg10 arg11 harg11 arg12 arg13 arg14 arg15 v66_r0 k1_t1 acc = trip arg7 arg8 arg9 arg10 arg11 k1_t1 := by
  chain_rfl

end Cert.KernelIdeal.Rows

end
-- ==== Proof.KernelIdealBase.lean ====
/- The setting of the kernel's run: the program as the launch sees it, the ghost algebra, the buffers by name, and which
   elements of the score array each SparseCore tile writes. -/
module

public import proofs.«01_k».proof.Proof.KernelIdealRows
public import proofs.«01_k».proof.Proof.Gen.KernelIdeal.Launch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.RegionArraysT
public import Idealize.ShloMosaic.Lib.Tactic

@[expose] public section

noncomputable section

namespace Cert.KernelIdeal.Base

open Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch sees it -/

abbrev ΛP (F : FTy → Type) [FloatOps F] : Labels := Pipeline.Sig Λ₀ (Fin 2) fun p => (pcfgs (F := F) p).Adm
abbrev K : SparseCore.Cfg τ sig (ΛP F) 1 := sc (F := F)
abbrev D : Defs nD τ sig (Elt F) (ΛP F) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost algebra: the handshakes' rounds, the pipelines' rounds, the transfers' counters -/

abbrev UH : Type := URounds (GSem nD τ sig) ℕ
abbrev UP : Type := UR sig nD τ
abbrev UU : Type := UH × (UP × Counters)
abbrev MM (F : FTy → Type) [FloatOps F] : Type := MT nD τ sig (HIx 1) (Elt F) ℕ UU ℕ

abbrev EH : Emb UH (MM F) := embL
abbrev EP : Emb UP (MM F) := (Emb.inl : Emb UP (UP × Counters)).trans embR

instance EP_landsIn : (EP (F := F)).LandsIn (upEmb : UEmb _ (MM F)) := by unfold EP embR; infer_instance

/-! ## The buffers -/

abbrev eLoc (d : Dev nD) : Loc nD τ sig := (SparseCore.T d).loc main_arg0
abbrev loLoc (d : Dev nD) : Loc nD τ sig := (SparseCore.T d).loc main_arg1
abbrev lnLoc (d : Dev nD) : Loc nD τ sig := (SparseCore.T d).loc main_arg2
abbrev hdLoc (d : Dev nD) : Loc nD τ sig := (SparseCore.T d).loc main_arg3
abbrev tlLoc (d : Dev nD) : Loc nD τ sig := (SparseCore.T d).loc main_arg4
abbrev wLoc (d : Dev nD) : Loc nD τ sig := (SparseCore.T d).loc main_arg5
abbrev bLoc (d : Dev nD) : Loc nD τ sig := (SparseCore.T d).loc main_arg6
abbrev hLoc (d : Dev nD) : Loc nD τ sig := (SparseCore.T d).loc main_v0_0
abbrev tLoc (d : Dev nD) : Loc nD τ sig := (SparseCore.T d).loc main_v0_1
abbrev gLoc (d : Dev nD) : Loc nD τ sig := (SparseCore.T d).loc main_v1
abbrev hsLoc (d : Dev nD) : Loc nD τ sig := (SparseCore.T d).loc main_v2
abbrev tsLoc (d : Dev nD) : Loc nD τ sig := (SparseCore.T d).loc main_v3
abbrev sLoc (d : Dev nD) : Loc nD τ sig := (SparseCore.T d).loc main_v4
abbrev rLoc (d : Dev nD) : Loc nD τ sig := (SparseCore.T d).loc main_v5

/-! ## Which elements a tile writes -/

/-- The tile's number: the subcore's twice, plus the core's. -/
def wid (i : grid1.Coords) : Nat := (i 1).val * 2 + (i 0).val

theorem wid_lt (i : grid1.Coords) : wid i < 32 := by
  have h0 : (i 0).val < 2 := (i 0).isLt
  have h1 : (i 1).val < 16 := (i 1).isLt
  unfold wid; omega

theorem off1_eq : ∀ i : grid1.Coords, k1_off1 i = ![wid i / 8, 0, 0] := by decide +kernel
theorem off2_eq : ∀ i : grid1.Coords, k1_off2 i = ![wid i / 8 + 4, wid i % 8 * 256] := by decide +kernel
theorem off52_eq : ∀ i : grid1.Coords, k1_off52 i = ![wid i / 8, wid i % 8 * 256, 0] := by decide +kernel

end Cert.KernelIdeal.Base

end
-- ==== Proof.KernelIdealPool.lean ====
/- The pooling of a batch's spans: what one span, one group of eight, and all eight groups leave in the scratch. -/
module

public import proofs.«01_k».proof.Proof.KernelIdealBase
public import Idealize.ShloMosaic.Lib.ValueIdxCore
public import Idealize.ShloMosaic.Lib.ValueLayout
public import Idealize.ShloMosaic.Lib.Pipeline.Value

@[expose] public section

noncomputable section

namespace Cert.KernelIdeal.Spans

open Cert.KernelIdeal.Gen Cert.KernelIdeal.Base
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Where a span's forty rows begin. -/
theorem off2_eq {v : BitVec 32} (h : v.toNat < 2016) : k0_off2 v = ![0, v.toNat / 8 * 8, 0] := by
  have key : ∀ n : Fin 2016, k0_off2 (BitVec.ofNat 32 n.val) 0 = 0 ∧ k0_off2 (BitVec.ofNat 32 n.val) 1 = n.val / 8 * 8 ∧ k0_off2 (BitVec.ofNat 32 n.val) 2 = 0 := by decide +kernel
  have k := key ⟨v.toNat, h⟩
  simp only [BitVec.ofNat_toNat, BitVec.setWidth_eq] at k
  funext a
  fin_cases a
  · exact k.1
  · exact k.2.1
  · exact k.2.2

theorem chk_of {v : BitVec 32} (h : v.toNat < 2016) : k0_chk1 v := by
  intro a
  rw [off2_eq h]
  fin_cases a
  · show 0 + 1 ≤ 1; omega
  · show v.toNat / 8 * 8 + 40 ≤ 2048; omega
  · show 0 + 256 ≤ 256; omega

/-- The forty rows read for a span that starts at `v`. -/
def window (E : S1x2048x256.Idx → Elt F .f32) (v : BitVec 32) : Vec F S1x40x256 .f32 :=
  fun z => E (ix3 (0 : Fin 1) (⟨(v.toNat / 8 * 8 + (z 1).val) % 2048, Nat.mod_lt _ (by decide)⟩ : Fin 2048) (z 2))

/-- The pooled row of span `s`. -/
def pool (E : S1x2048x256.Idx → Elt F .f32) (lo ln : Fin 64 → BitVec 32) (s : Fin 64) : FVec F S1x256 .f32 :=
  row (lo s) (ln s) (window E (lo s))

/-- The pooled rows of a batch. -/
def pooled (E : S1x2048x256.Idx → Elt F .f32) (lo ln : Fin 64 → BitVec 32) : S64x256.Idx → Elt F .f32 :=
  fun y => pool E lo ln (y 0) (ValueIdx.ix2 (0 : Fin 1) (y 1))

/-- A row of a table. -/
def tblRow (r : BitVec 32) (hr : r.toNat < 8) (A : S8x64.Idx → BitVec 32) : Fin 64 → BitVec 32 := fun s => A (ValueIdx.ix2 (⟨r.toNat, hr⟩ : Fin 8) s)

theorem read_entry (m : Memref sig .tc .smem S8x64 .i32) (f : m.view.ty.Contents (Elt F)) {r : BitVec 32} (hr : r.toNat < 8) {s : Nat} (hs : s < 64) (x : S1x1.Idx) :
    (m.access (Rect.unit (s := S8x64) (entry r s) S1x1.size (entry_inb hr hs))).read (Elt F) f x = tblRow r hr (m.view.read (Elt F) f) ⟨s, hs⟩ := by
  refine congrArg (m.view.read (Elt F) f) ?_
  have h0 : (x 0).val < 1 := (x 0).isLt
  have h1 : (x 1).val < 1 := (x 1).isLt
  have e : (Scalar.indexCast r).toNat = r.toNat := rfl
  refine (eq_ix2 _).trans (congrArg₂ ValueIdx.ix2 (Fin.ext ?_) (Fin.ext ?_))
  · show (Scalar.indexCast r).toNat + 1 * (x 0).val = r.toNat; omega
  · show s + 1 * (x 1).val = s; omega

theorem read_window (m : Memref sig .tc .vmem S1x2048x256 .f32) (f : m.view.ty.Contents (Elt F)) (v : BitVec 32) (h : v.toNat < 2016) (hk : k0_chk1 v) :
    m.view.readAt (Elt F) (Rect.unit (s := S1x2048x256) (k0_off2 v) S1x40x256.size (k0_off2_inb v hk)).toLoadRect f = window (m.view.read (Elt F) f) v := by
  funext z
  refine congrArg (m.view.read (Elt F) f) ?_
  have h0 : (z 0).val < 1 := (z 0).isLt
  have h1 : (z 1).val < 40 := (z 1).isLt
  have e := off2_eq h
  have e0 : k0_off2 v 0 = 0 := congrFun e 0
  have e1 : k0_off2 v 1 = v.toNat / 8 * 8 := congrFun e 1
  have e2 : k0_off2 v 2 = 0 := congrFun e 2
  refine (eq_ix3 _).trans ?_
  congr 1 <;> refine Fin.ext ?_
  · show k0_off2 v 0 + 1 * (z 0).val = 0; omega
  · show k0_off2 v 1 + 1 * (z 1).val = (v.toNat / 8 * 8 + (z 1).val) % 2048; omega
  · show k0_off2 v 2 + 1 * (z 2).val = (z 2).val; omega

abbrev tc (d : Dev nD) : Thread nD τ := SparseCore.T d

variable (d : Dev nD) (a1 a2 : Memref sig .tc .smem S8x64 .i32) (a3 : Memref sig .tc .vmem S1x2048x256 .f32) (sc : Memref sig .tc .vmem S64x256 .f32)
variable {r : BitVec 32} (hr : r.toNat < 8) {q1 q2 q3 : PosShare TreeShare}
variable (f1 : Buf (Elt F) (a1.view.loc (tc d))) (f2 : Buf (Elt F) (a2.view.loc (tc d))) (f3 : Buf (Elt F) (a3.view.loc (tc d)))

/-- The pooled row of span `s` as the buffers hold its start, its length and its rows. -/
abbrev poolOf (s : Fin 64) : FVec F S1x256 .f32 :=
  pool (a3.view.read (Elt F) f3) (tblRow r hr (a1.view.read (Elt F) f1)) (tblRow r hr (a2.view.read (Elt F) f2)) s

/-- The tables and the batch's rows as a span finds and leaves them. -/
abbrev held3 (q1 q2 q3 : PosShare TreeShare) : sProp (MM F) :=
  iprop((a1.view.loc (tc d) ↦{q1} f1) ∗ (a2.view.loc (tc d) ↦{q2} f2) ∗ (a3.view.loc (tc d) ↦{q3} f3))

theorem wp_span {s : Nat} {hs : s < 64} {k : FVec F S1x256 .f32 → TcProg F} {Q : PUnit → sProp (MM F)}
    (hlo : ∀ y, (a1.view.read (Elt F) f1 y : BitVec 32).toNat < 2016) :
    iprop(held3 d a1 a2 a3 f1 f2 f3 q1 q2 q3
        ∗ (held3 d a1 a2 a3 f1 f2 f3 q1 q2 q3 -∗ wp frame (wpE (defs₀ (F := F)) 𝒱₀ (tc d) none) Set.univ (k (poolOf d a1 a2 a3 hr f1 f2 f3 ⟨s, hs⟩)) Q))
      ⊢ wp frame (wpE (defs₀ (F := F)) 𝒱₀ (tc d) none) Set.univ (span a1 a2 a3 r hr s hs k) Q := by
  have hl : (tblRow r hr (a1.view.read (Elt F) f1) ⟨s, hs⟩).toNat < 2016 := hlo _
  unfold span held3
  iintro ⟨⟨H1, H2, H3⟩, Hk⟩
  iapply (wp_smemLoadElt 𝒱₀ (tc d) none Set.univ (m := a1) (r := Rect.unit (s := S8x64) (entry r s) S1x1.size (entry_inb hr hs)) (S := Finset.univ) (f := f1) (Finset.subset_univ _)) $$ H1
  iintro H1
  rw [read_entry a1 f1 hr hs]
  iapply (wp_assume 𝒱₀ (tc d) none Set.univ (chk_of hl))
  iapply (wp_smemLoadElt 𝒱₀ (tc d) none Set.univ (m := a2) (r := Rect.unit (s := S8x64) (entry r s) S1x1.size (entry_inb hr hs)) (S := Finset.univ) (f := f2) (Finset.subset_univ _)) $$ H2
  iintro H2
  rw [read_entry a2 f2 hr hs]
  iapply (wp_load 𝒱₀ (tc d) none Set.univ (m := a3) (Finset.subset_univ _)) $$ H3
  iintro H3
  rw [read_window a3 f3 _ hl (chk_of hl)]
  iapply Hk
  isplitl [H1]; · iexact H1
  isplitl [H2]; · iexact H2
  iexact H3

/-- The rows of a group, stacked, at an index. -/
theorem stack_apply (g : Fin 8 → FVec F S1x256 .f32) (y : S8x256.Idx) :
    stack (g 0) (g 1) (g 2) (g 3) (g 4) (g 5) (g 6) (g 7) y = g (y 0) (ValueIdx.ix2 (0 : Fin 1) (y 1)) := by
  unfold stack
  refine (shapeCast_apply _ _ y y rfl).trans ?_
  exact concatenate_ofFn_unit_apply (t := S8x256) (s₁ := S1x256) 0 (N := 8) g concatenates_S1x256_S1x256_S1x256_S1x256_S1x256_S1x256_S1x256_S1x256_S8x256_d0 rfl rfl y (y 0) rfl
    (ValueIdx.ix2 (0 : Fin 1) (y 1)) (fun b hb => by
      fin_cases b
      · exact absurd rfl hb
      · rfl)

/-- What a group's store leaves, read through the scratch. -/
theorem read_group (g : Nat) (hg : g < 8) (fs : sc.view.ty.Contents (Elt F)) (w : FVec F S8x256 .f32) (y : S64x256.Idx) :
    sc.view.read (Elt F) ((sc.access (Rect.unit (s := S64x256) ![8 * g, 0] S8x256.size (grp_inb hg))).write (Elt F) fs w Finset.univ) y
      = if h : (y 0).val / 8 = g then w (ValueIdx.ix2 (⟨(y 0).val % 8, Nat.mod_lt _ (by decide)⟩ : Fin 8) (y 1)) else sc.view.read (Elt F) fs y := by
  split
  · next h =>
    have e : y = (Rect.unit (s := S64x256) ![8 * g, 0] S8x256.size (grp_inb hg)).emb (ValueIdx.ix2 (⟨(y 0).val % 8, Nat.mod_lt _ (by decide)⟩ : Fin 8) (y 1 : Fin 256) : S8x256.Idx) := by
      funext a
      refine Fin.ext ?_
      fin_cases a
      · exact (show (y 0).val = 8 * g + 1 * ((y 0).val % 8) by omega)
      · exact (show (y 1).val = 0 + 1 * (y 1).val by omega)
    exact (congrArg (sc.view.read (Elt F) _) e).trans (View.read_slice_write_emb (v := sc.view) _ fs _ (Finset.mem_univ _))
  · next h =>
    refine View.read_slice_write_of_not_mem (v := sc.view) _ fs _ _ fun hm => h ?_
    obtain ⟨x, -, rfl⟩ := Finset.mem_map.mp hm
    have hx : (x 0).val < 8 := (x 0).isLt
    have e : ((Rect.unit (s := S64x256) ![8 * g, 0] S8x256.size (grp_inb hg)).emb x 0).val = 8 * g + 1 * (x 0).val := rfl
    rw [e]; omega

/-- One group: its eight rows are pooled, the others are what they were. -/
theorem wp_group {g : Nat} {hg : g < 8} {k : TcProg F} {Q : PUnit → sProp (MM F)}
    (hlo : ∀ y, (a1.view.read (Elt F) f1 y : BitVec 32).toNat < 2016) (fs : Buf (Elt F) (sc.view.loc (tc d))) :
    iprop(held3 d a1 a2 a3 f1 f2 f3 q1 q2 q3 ∗ (sc.view.loc (tc d) ↦{fullShare} fs)
        ∗ (∀ fs', ⌜∀ y, sc.view.read (Elt F) fs' y = if (y 0).val / 8 = g then poolOf d a1 a2 a3 hr f1 f2 f3 (y 0) (ValueIdx.ix2 (0 : Fin 1) (y 1)) else sc.view.read (Elt F) fs y⌝
            -∗ held3 d a1 a2 a3 f1 f2 f3 q1 q2 q3 -∗ (sc.view.loc (tc d) ↦{fullShare} fs')
            -∗ wp frame (wpE (defs₀ (F := F)) 𝒱₀ (tc d) none) Set.univ k Q))
      ⊢ wp frame (wpE (defs₀ (F := F)) 𝒱₀ (tc d) none) Set.univ (group a1 a2 a3 sc r hr g hg k) Q := by
  unfold group
  iintro ⟨HT, Hs, Hk⟩
  iapply (wp_span d a1 a2 a3 hr f1 f2 f3 hlo); isplitl [HT]; · iexact HT
  iintro HT
  iapply (wp_span d a1 a2 a3 hr f1 f2 f3 hlo); isplitl [HT]; · iexact HT
  iintro HT
  iapply (wp_span d a1 a2 a3 hr f1 f2 f3 hlo); isplitl [HT]; · iexact HT
  iintro HT
  iapply (wp_span d a1 a2 a3 hr f1 f2 f3 hlo); isplitl [HT]; · iexact HT
  iintro HT
  iapply (wp_span d a1 a2 a3 hr f1 f2 f3 hlo); isplitl [HT]; · iexact HT
  iintro HT
  iapply (wp_span d a1 a2 a3 hr f1 f2 f3 hlo); isplitl [HT]; · iexact HT
  iintro HT
  iapply (wp_span d a1 a2 a3 hr f1 f2 f3 hlo); isplitl [HT]; · iexact HT
  iintro HT
  iapply (wp_span d a1 a2 a3 hr f1 f2 f3 hlo); isplitl [HT]; · iexact HT
  iintro HT
  iapply (wp_load 𝒱₀ (tc d) none Set.univ (m := sc) (Finset.subset_univ _)) $$ Hs
  iintro Hs
  iapply (wp_store 𝒱₀ (tc d) none Set.univ (m := sc) (r := Rect.unit (s := S64x256) ![8 * g, 0] S8x256.size (grp_inb hg)) (S := Finset.univ) (f := fs) (Finset.subset_univ _)) $$ Hs
  iintro Hs
  iapply Hk $$ [] HT Hs
  ipureintro
  intro y
  rw [read_group sc g hg fs _ y]
  split
  · next h =>
    refine (stack_apply (fun j : Fin 8 => poolOf d a1 a2 a3 hr f1 f2 f3 ⟨8 * g + j.val, by omega⟩) _).trans ?_
    exact congrArg (fun j : Fin 64 => poolOf d a1 a2 a3 hr f1 f2 f3 j (ValueIdx.ix2 (0 : Fin 1) (y 1))) (Fin.ext (show 8 * g + (y 0).val % 8 = (y 0).val by omega))
  · rfl

/-- Groups run in the order of a list: the rows of its groups are pooled. -/
theorem wp_groups {k : TcProg F} {Q : PUnit → sProp (MM F)}
    (hlo : ∀ y, (a1.view.read (Elt F) f1 y : BitVec 32).toNat < 2016) (gs : List (Fin 8)) (fs : Buf (Elt F) (sc.view.loc (tc d))) :
    iprop(held3 d a1 a2 a3 f1 f2 f3 q1 q2 q3 ∗ (sc.view.loc (tc d) ↦{fullShare} fs)
        ∗ (∀ fs', ⌜∀ y, ((∃ g ∈ gs, (y 0).val / 8 = g.val) → sc.view.read (Elt F) fs' y = poolOf d a1 a2 a3 hr f1 f2 f3 (y 0) (ValueIdx.ix2 (0 : Fin 1) (y 1)))
              ∧ ((∀ g ∈ gs, (y 0).val / 8 ≠ g.val) → sc.view.read (Elt F) fs' y = sc.view.read (Elt F) fs y)⌝
            -∗ held3 d a1 a2 a3 f1 f2 f3 q1 q2 q3 -∗ (sc.view.loc (tc d) ↦{fullShare} fs')
            -∗ wp frame (wpE (defs₀ (F := F)) 𝒱₀ (tc d) none) Set.univ k Q))
      ⊢ wp frame (wpE (defs₀ (F := F)) 𝒱₀ (tc d) none) Set.univ (groups a1 a2 a3 sc r hr gs k) Q := by
  induction gs generalizing fs with
  | nil =>
    unfold groups
    iintro ⟨HT, Hs, Hk⟩
    iapply Hk $$ [] HT Hs
    ipureintro
    exact fun y => ⟨fun ⟨g, hg, _⟩ => absurd hg List.not_mem_nil, fun _ => rfl⟩
  | cons g gs ih =>
    unfold groups
    iintro ⟨HT, Hs, Hk⟩
    iapply (wp_group d a1 a2 a3 sc hr f1 f2 f3 hlo fs)
    isplitl [HT]; · iexact HT
    isplitl [Hs]; · iexact Hs
    iintro %s1 %h1 HT Hs
    iapply (ih s1)
    isplitl [HT]; · iexact HT
    isplitl [Hs]; · iexact Hs
    iintro %s2 %h2 HT Hs
    iapply Hk $$ [] HT Hs
    ipureintro
    intro y
    refine ⟨fun ⟨i, hi, e⟩ => ?_, fun hn => ?_⟩
    · by_cases hm : ∃ g ∈ gs, (y 0).val / 8 = g.val
      · exact (h2 y).1 hm
      · rw [(h2 y).2 fun i' hi' e' => hm ⟨i', hi', e'⟩, h1 y, if_pos]
        rcases List.mem_cons.mp hi with rfl | hi
        · exact e
        · exact absurd ⟨i, hi, e⟩ hm
    · rw [(h2 y).2 fun i' hi' => hn i' (List.mem_cons_of_mem _ hi'), h1 y, if_neg (hn g List.mem_cons_self)]

/-- All eight groups: the scratch holds the batch's pooled rows. -/
theorem wp_pool {k : TcProg F} {Q : PUnit → sProp (MM F)}
    (hlo : ∀ y, (a1.view.read (Elt F) f1 y : BitVec 32).toNat < 2016) (fs : Buf (Elt F) (sc.view.loc (tc d))) :
    iprop(held3 d a1 a2 a3 f1 f2 f3 q1 q2 q3 ∗ (sc.view.loc (tc d) ↦{fullShare} fs)
        ∗ (∀ fs', ⌜sc.view.read (Elt F) fs' = pooled (a3.view.read (Elt F) f3) (tblRow r hr (a1.view.read (Elt F) f1)) (tblRow r hr (a2.view.read (Elt F) f2))⌝
            -∗ held3 d a1 a2 a3 f1 f2 f3 q1 q2 q3 -∗ (sc.view.loc (tc d) ↦{fullShare} fs')
            -∗ wp frame (wpE (defs₀ (F := F)) 𝒱₀ (tc d) none) Set.univ k Q))
      ⊢ wp frame (wpE (defs₀ (F := F)) 𝒱₀ (tc d) none) Set.univ (groups a1 a2 a3 sc r hr [0, 1, 2, 3, 4, 5, 6, 7] k) Q := by
  iintro ⟨HT, Hs, Hk⟩
  iapply (wp_groups d a1 a2 a3 sc hr f1 f2 f3 hlo _ fs)
  isplitl [HT]; · iexact HT
  isplitl [Hs]; · iexact Hs
  iintro %s1 %h1 HT Hs
  iapply Hk $$ [] HT Hs
  ipureintro
  funext y
  have hy : (y 0).val < 64 := (y 0).isLt
  exact (h1 y).1 ⟨⟨(y 0).val / 8, by omega⟩, by generalize (⟨_, _⟩ : Fin 8) = q; revert q; decide, rfl⟩

end Cert.KernelIdeal.Spans

end
-- ==== Proof.KernelIdealEnds.lean ====
/- What each of the two TensorCore kernels leaves in its result blocks, as a function of the blocks it reads. -/
module

public import proofs.«01_k».proof.Proof.KernelIdealPool

@[expose] public section

noncomputable section

namespace Cert.KernelIdeal.Spans

open Cert.KernelIdeal.Gen Cert.KernelIdeal.Base
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The upper half of the weights, and the lower. -/
def top (W : S512x16.Idx → Elt F .f32) : Vec F S256x16 .f32 := fun z => W (ValueIdx.ix2 (⟨(z 0).val, Nat.lt_of_lt_of_le (z 0).isLt (by decide)⟩ : Fin 512) (z 1))
def bot (W : S512x16.Idx → Elt F .f32) : Vec F S256x16 .f32 := fun z => W (ValueIdx.ix2 (⟨256 + (z 0).val, Nat.lt_of_lt_of_le (Nat.add_lt_add_left (z 0).isLt 256) (by decide)⟩ : Fin 512) (z 1))

/-- Row `i` of the four batches' span numbers. -/
def idRow (i : Fin 4) (X : S4x2048.Idx → BitVec 32) : Vec F S1x2048 .i32 := fun z => X (ValueIdx.ix2 i (z 1))

theorem read_full2 (m : Memref sig .tc .vmem S64x256 .f32) (f : m.view.ty.Contents (Elt F)) (h : ∀ a, (![0, 0] : Fin 2 → Nat) a + S64x256.size a ≤ S64x256.size a) :
    m.view.readAt (Elt F) (Rect.unit (s := S64x256) ![0, 0] S64x256.size h).toLoadRect f = m.view.read (Elt F) f := by
  funext z
  refine congrArg (m.view.read (Elt F) f) ?_
  funext a
  refine Fin.ext ?_
  fin_cases a
  · show 0 + 1 * (z 0).val = _; simp
  · show 0 + 1 * (z 1).val = _; simp

theorem read_full1 (m : Memref sig .tc .vmem S16 .f32) (f : m.view.ty.Contents (Elt F)) (h : ∀ a, (![0] : Fin 1 → Nat) a + S16.size a ≤ S16.size a) :
    m.view.readAt (Elt F) (Rect.unit (s := S16) ![0] S16.size h).toLoadRect f = m.view.read (Elt F) f := by
  funext z
  refine congrArg (m.view.read (Elt F) f) ?_
  funext a
  refine Fin.ext ?_
  fin_cases a
  show 0 + 1 * (z 0).val = _; simp

theorem read_top (m : Memref sig .tc .vmem S512x16 .f32) (f : m.view.ty.Contents (Elt F)) :
    m.view.readAt (Elt F) (Rect.unit (s := S512x16) ![0, 0] S256x16.size inb_S512x16_S256x16_0_0).toLoadRect f = top (m.view.read (Elt F) f) := by
  funext z
  refine congrArg (m.view.read (Elt F) f) ?_
  refine (eq_ix2 _).trans (congrArg₂ ValueIdx.ix2 (Fin.ext ?_) (Fin.ext ?_))
  · show 0 + 1 * (z 0).val = (z 0).val; omega
  · show 0 + 1 * (z 1).val = (z 1).val; omega

theorem read_bot (m : Memref sig .tc .vmem S512x16 .f32) (f : m.view.ty.Contents (Elt F)) :
    m.view.readAt (Elt F) (Rect.unit (s := S512x16) ![256, 0] S256x16.size inb_S512x16_S256x16_256_0).toLoadRect f = bot (m.view.read (Elt F) f) := by
  funext z
  refine congrArg (m.view.read (Elt F) f) ?_
  refine (eq_ix2 _).trans (congrArg₂ ValueIdx.ix2 (Fin.ext ?_) (Fin.ext ?_))
  · show 256 + 1 * (z 0).val = 256 + (z 0).val; omega
  · show 0 + 1 * (z 1).val = (z 1).val; omega

theorem read_idRow (i : grid2.Coords) (m : Memref sig .tc .vmem S4x2048 .i32) (f : m.view.ty.Contents (Elt F)) :
    m.view.readAt (Elt F) (Rect.unit (s := S4x2048) (k2_off129 i) S1x2048.size (k2_off129_inb i)).toLoadRect f = idRow (F := F) (i 0) (m.view.read (Elt F) f) := by
  funext z
  refine congrArg (m.view.read (Elt F) f) ?_
  have h0 : (z 0).val < 1 := (z 0).isLt
  have hi : (i 0).val < 4 := (i 0).isLt
  have e0 : k2_off129 i 0 = (i 0).val := by
    unfold k2_off129
    show (Scalar.indexCast (BitVec.ofNat 32 (i 0).val)).toNat = _
    show (BitVec.ofNat 32 (i 0).val).toNat = _
    rw [BitVec.toNat_ofNat, Nat.mod_eq_of_lt (by omega)]
  refine (eq_ix2 _).trans (congrArg₂ ValueIdx.ix2 (Fin.ext ?_) (Fin.ext ?_))
  · show k2_off129 i 0 + 1 * (z 0).val = (i 0).val; omega
  · show 0 + 1 * (z 1).val = (z 1).val; omega

/-- A store over the whole of a three-axis block leaves what was stored. -/
theorem read_stored {sz : Fin 3 → Nat} {e : EltTy} (m : Memref sig .tc .vmem ⟨3, sz⟩ e) (f : m.view.ty.Contents (Elt F)) (w : Shape.Idx ⟨3, sz⟩ → Elt F e) (h : ∀ a, (![0, 0, 0] : Fin 3 → Nat) a + sz a ≤ sz a) :
    m.view.read (Elt F) ((m.access (Rect.unit (s := ⟨3, sz⟩) ![0, 0, 0] sz h)).write (Elt F) f w Finset.univ) = w := by
  funext y
  have e : y = (Rect.unit (s := ⟨3, sz⟩) ![0, 0, 0] sz h).emb y := by
    funext a
    refine Fin.ext ?_
    fin_cases a
    · show _ = 0 + 1 * (y 0).val; simp
    · show _ = 0 + 1 * (y 1).val; simp
    · show _ = 0 + 1 * (y 2).val; simp
  exact (congrArg (m.view.read (Elt F) _) e).trans (View.read_slice_write_emb (v := m.view) (Rect.unit (s := ⟨3, sz⟩) ![0, 0, 0] sz h) f w (Finset.mem_univ (α := Shape.Idx ⟨3, sz⟩) y))

/-- What a batch's pooled rows give: the head and tail projections, and the scores of its pairs. -/
def projH (p : S64x256.Idx → Elt F .f32) (W : S512x16.Idx → Elt F .f32) (b : S16.Idx → Elt F .f32) : S1x64x16.Idx → Elt F .f32 := k0_pay2 p (top W) b
def projT (p : S64x256.Idx → Elt F .f32) (W : S512x16.Idx → Elt F .f32) : S1x64x16.Idx → Elt F .f32 := k0_pay3 p (bot W)
def pairs (i : Fin 4) (p : S64x256.Idx → Elt F .f32) (W : S512x16.Idx → Elt F .f32) (b : S16.Idx → Elt F .f32) (X Y : S4x2048.Idx → BitVec 32) : S1x2048x16.Idx → Elt F .f32 :=
  k2_pay1 (k2_pay86 p (top W) b (bot W) (idRow i X) (idRow i Y))

variable (d : Dev nD) (a1 a2 : Memref sig .tc .smem S8x64 .i32) (a3 : Memref sig .tc .vmem S1x2048x256 .f32)
variable {q1 q2 q3 q4 q5 q6 q7 : PosShare TreeShare}
variable (f1 : Buf (Elt F) (a1.view.loc (tc d))) (f2 : Buf (Elt F) (a2.view.loc (tc d))) (f3 : Buf (Elt F) (a3.view.loc (tc d)))

/-- The first TensorCore kernel at a point of its grid. -/
theorem wp_kernelA (i : grid0.Coords) (h1 : a1.IsWhole) (h2 : a2.IsWhole) (h3 : a3.IsWhole)
    (a4 : Memref sig .tc .vmem S512x16 .f32) (h4 : a4.IsWhole) (a5 : Memref sig .tc .vmem S16 .f32) (h5 : a5.IsWhole)
    (a6 : Memref sig .tc .vmem S1x64x16 .f32) (h6 : a6.IsWhole) (a7 : Memref sig .tc .vmem S1x64x16 .f32) (h7 : a7.IsWhole)
    (a8 : Memref sig .tc .vmem S64x256 .f32) (h8 : a8.IsWhole)
    (f4 : Buf (Elt F) (a4.view.loc (tc d))) (f5 : Buf (Elt F) (a5.view.loc (tc d))) (f6 : Buf (Elt F) (a6.view.loc (tc d)))
    (f7 : Buf (Elt F) (a7.view.loc (tc d))) (f8 : Buf (Elt F) (a8.view.loc (tc d)))
    (hlo : ∀ y, (a1.view.read (Elt F) f1 y : BitVec 32).toNat < 2016) {Q : PUnit → sProp (MM F)} :
    iprop(held3 d a1 a2 a3 f1 f2 f3 q1 q2 q3 ∗ (a4.view.loc (tc d) ↦{q4} f4) ∗ (a5.view.loc (tc d) ↦{q5} f5)
        ∗ (a6.view.loc (tc d) ↦{fullShare} f6) ∗ (a7.view.loc (tc d) ↦{fullShare} f7) ∗ (a8.view.loc (tc d) ↦{fullShare} f8)
        ∗ (∀ f6' f7' f8', ⌜a6.view.read (Elt F) f6' = projH (pooled (a3.view.read (Elt F) f3) (tblRow (rowA i) (rowA_lt i) (a1.view.read (Elt F) f1)) (tblRow (rowA i) (rowA_lt i) (a2.view.read (Elt F) f2))) (a4.view.read (Elt F) f4) (a5.view.read (Elt F) f5)
              ∧ a7.view.read (Elt F) f7' = projT (pooled (a3.view.read (Elt F) f3) (tblRow (rowA i) (rowA_lt i) (a1.view.read (Elt F) f1)) (tblRow (rowA i) (rowA_lt i) (a2.view.read (Elt F) f2))) (a4.view.read (Elt F) f4)⌝
            -∗ held3 d a1 a2 a3 f1 f2 f3 q1 q2 q3 -∗ (a4.view.loc (tc d) ↦{q4} f4) -∗ (a5.view.loc (tc d) ↦{q5} f5)
            -∗ (a6.view.loc (tc d) ↦{fullShare} f6') -∗ (a7.view.loc (tc d) ↦{fullShare} f7') -∗ (a8.view.loc (tc d) ↦{fullShare} f8') -∗ Q ⟨⟩))
      ⊢ wp frame (wpE (defs₀ (F := F)) 𝒱₀ (tc d) none) Set.univ (cc0__pool_project_kernel i a1 h1 a2 h2 a3 h3 a4 h4 a5 h5 a6 h6 a7 h7 a8 h8) Q := by
  rw [kernelA_eq]
  iintro ⟨HT, H4, H5, H6, H7, H8, Hk⟩
  iapply (wp_pool d a1 a2 a3 a8 (rowA_lt i) f1 f2 f3 hlo f8)
  isplitl [HT]; · iexact HT
  isplitl [H8]; · iexact H8
  iintro %s %hs HT H8
  unfold endA
  simp only [Prog.lift, Prog.bind_op, Prog.bind_ret]
  iapply (wp_load 𝒱₀ (tc d) none Set.univ (m := a8) (Finset.subset_univ _)) $$ H8
  iintro H8
  iapply (wp_load 𝒱₀ (tc d) none Set.univ (m := a4) (Finset.subset_univ _)) $$ H4
  iintro H4
  iapply (wp_load 𝒱₀ (tc d) none Set.univ (m := a5) (Finset.subset_univ _)) $$ H5
  iintro H5
  iapply (wp_load 𝒱₀ (tc d) none Set.univ (m := a6) (Finset.subset_univ _)) $$ H6
  iintro H6
  iapply (wp_store 𝒱₀ (tc d) none Set.univ (m := a6) (r := Rect.unit (s := S1x64x16) ![0, 0, 0] S1x64x16.size inb_S1x64x16_S1x64x16_0_0_0) (S := Finset.univ) (f := f6) (Finset.subset_univ _)) $$ H6
  iintro H6
  iapply (wp_load 𝒱₀ (tc d) none Set.univ (m := a4) (Finset.subset_univ _)) $$ H4
  iintro H4
  iapply (wp_load 𝒱₀ (tc d) none Set.univ (m := a7) (Finset.subset_univ _)) $$ H7
  iintro H7
  iapply (wp_store 𝒱₀ (tc d) none Set.univ (m := a7) (r := Rect.unit (s := S1x64x16) ![0, 0, 0] S1x64x16.size inb_S1x64x16_S1x64x16_0_0_0) (S := Finset.univ) (f := f7) (Finset.subset_univ _)) $$ H7
  iintro H7
  simp only [wp_ret, wp_pure]
  imodintro
  iapply Hk $$ [] HT H4 H5 H6 H7 H8
  ipureintro
  rw [read_full2, read_top, read_full1, read_bot, hs]
  exact ⟨read_stored _ _ _ _, read_stored _ _ _ _⟩

/-- The second TensorCore kernel at a point of its grid. -/
theorem wp_kernelB (i : grid2.Coords) (h1 : a1.IsWhole) (h2 : a2.IsWhole) (h3 : a3.IsWhole)
    (a4 : Memref sig .tc .vmem S512x16 .f32) (h4 : a4.IsWhole) (a5 : Memref sig .tc .vmem S16 .f32) (h5 : a5.IsWhole)
    (a6 : Memref sig .tc .vmem S4x2048 .i32) (h6 : a6.IsWhole) (a7 : Memref sig .tc .vmem S4x2048 .i32) (h7 : a7.IsWhole)
    (a8 : Memref sig .tc .vmem S1x2048x16 .f32) (h8 : a8.IsWhole) (a9 : Memref sig .tc .vmem S64x256 .f32) (h9 : a9.IsWhole)
    (f4 : Buf (Elt F) (a4.view.loc (tc d))) (f5 : Buf (Elt F) (a5.view.loc (tc d))) (f6 : Buf (Elt F) (a6.view.loc (tc d)))
    (f7 : Buf (Elt F) (a7.view.loc (tc d))) (f8 : Buf (Elt F) (a8.view.loc (tc d))) (f9 : Buf (Elt F) (a9.view.loc (tc d)))
    (hlo : ∀ y, (a1.view.read (Elt F) f1 y : BitVec 32).toNat < 2016) {Q : PUnit → sProp (MM F)} :
    iprop(held3 d a1 a2 a3 f1 f2 f3 q1 q2 q3 ∗ (a4.view.loc (tc d) ↦{q4} f4) ∗ (a5.view.loc (tc d) ↦{q5} f5)
        ∗ (a6.view.loc (tc d) ↦{q6} f6) ∗ (a7.view.loc (tc d) ↦{q7} f7) ∗ (a8.view.loc (tc d) ↦{fullShare} f8) ∗ (a9.view.loc (tc d) ↦{fullShare} f9)
        ∗ (∀ f8' f9', ⌜a8.view.read (Elt F) f8' = pairs (i 0) (pooled (a3.view.read (Elt F) f3) (tblRow (rowB i) (rowB_lt i) (a1.view.read (Elt F) f1)) (tblRow (rowB i) (rowB_lt i) (a2.view.read (Elt F) f2))) (a4.view.read (Elt F) f4) (a5.view.read (Elt F) f5) (a6.view.read (Elt F) f6) (a7.view.read (Elt F) f7)⌝
            -∗ held3 d a1 a2 a3 f1 f2 f3 q1 q2 q3 -∗ (a4.view.loc (tc d) ↦{q4} f4) -∗ (a5.view.loc (tc d) ↦{q5} f5)
            -∗ (a6.view.loc (tc d) ↦{q6} f6) -∗ (a7.view.loc (tc d) ↦{q7} f7) -∗ (a8.view.loc (tc d) ↦{fullShare} f8') -∗ (a9.view.loc (tc d) ↦{fullShare} f9') -∗ Q ⟨⟩))
      ⊢ wp frame (wpE (defs₀ (F := F)) 𝒱₀ (tc d) none) Set.univ (cc2__pool_project_score_kernel i a1 h1 a2 h2 a3 h3 a4 h4 a5 h5 a6 h6 a7 h7 a8 h8 a9 h9) Q := by
  rw [kernelB_eq]
  iintro ⟨HT, H4, H5, H6, H7, H8, H9, Hk⟩
  iapply (wp_pool d a1 a2 a3 a9 (rowB_lt i) f1 f2 f3 hlo f9)
  isplitl [HT]; · iexact HT
  isplitl [H9]; · iexact H9
  iintro %s %hs HT H9
  unfold endB
  simp only [Prog.lift, Prog.bind_op, Prog.bind_ret]
  iapply (wp_load 𝒱₀ (tc d) none Set.univ (m := a9) (Finset.subset_univ _)) $$ H9
  iintro H9
  iapply (wp_load 𝒱₀ (tc d) none Set.univ (m := a4) (Finset.subset_univ _)) $$ H4
  iintro H4
  iapply (wp_load 𝒱₀ (tc d) none Set.univ (m := a5) (Finset.subset_univ _)) $$ H5
  iintro H5
  iapply (wp_load 𝒱₀ (tc d) none Set.univ (m := a4) (Finset.subset_univ _)) $$ H4
  iintro H4
  iapply (wp_load 𝒱₀ (tc d) none Set.univ (m := a6) (Finset.subset_univ _)) $$ H6
  iintro H6
  iapply (wp_load 𝒱₀ (tc d) none Set.univ (m := a7) (Finset.subset_univ _)) $$ H7
  iintro H7
  iapply (wp_load 𝒱₀ (tc d) none Set.univ (m := a8) (Finset.subset_univ _)) $$ H8
  iintro H8
  iapply (wp_store 𝒱₀ (tc d) none Set.univ (m := a8) (r := Rect.unit (s := S1x2048x16) ![0, 0, 0] S1x2048x16.size inb_S1x2048x16_S1x2048x16_0_0_0) (S := Finset.univ) (f := f8) (Finset.subset_univ _)) $$ H8
  iintro H8
  simp only [wp_ret, wp_pure]
  imodintro
  iapply Hk $$ [] HT H4 H5 H6 H7 H8 H9
  ipureintro
  rw [read_full2, read_top, read_full1, read_bot, read_idRow, read_idRow, hs]
  exact read_stored _ _ _ _

end Cert.KernelIdeal.Spans

end
-- ==== Proof.KernelIdealRegionA.lean ====
/- The first TensorCore call as a region of the program: from the batch arrays and tables to the two projection tables. -/
module

public import proofs.«01_k».proof.Proof.KernelIdealEnds
public import Idealize.ShloMosaic.Lib.Pipeline.ValueKit
public import Idealize.ShloMosaic.Lib.Pipeline.RegionArraysT

@[expose] public section

noncomputable section

namespace Cert.KernelIdeal.Region

open Cert.KernelIdeal.Gen Cert.KernelIdeal.Base Cert.KernelIdeal.Spans
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-! ## What the calls compute, as functions of the arguments -/

/-- Batch `i` of the encoded rows. -/
def encRow (E : S8x2048x256.Idx → Elt F .f32) (i : Fin 8) : S1x2048x256.Idx → Elt F .f32 := fun z => E (ValueIdx.ix3 i (z 1) (z 2))

/-- The pooled rows of batch `i`. -/
def poolB (E : S8x2048x256.Idx → Elt F .f32) (lo ln : S8x64.Idx → BitVec 32) (i : Fin 8) : S64x256.Idx → Elt F .f32 :=
  pooled (encRow E i) (fun s => lo (ValueIdx.ix2 i s)) (fun s => ln (ValueIdx.ix2 i s))

/-- The batch number of the upper half's batch `j`, and of the lower half's. -/
def up (j : Fin 4) : Fin 8 := ⟨j.val + 4, by omega⟩
def dn (j : Fin 4) : Fin 8 := ⟨j.val, by omega⟩

/-- The head projections of the upper four batches' spans, and the tail projections. -/
def hVal (E : S8x2048x256.Idx → Elt F .f32) (lo ln : S8x64.Idx → BitVec 32) (W : S512x16.Idx → Elt F .f32) (b : S16.Idx → Elt F .f32) : S4x64x16.Idx → Elt F .f32 :=
  fun y => projH (poolB E lo ln (up (y 0))) W b (ValueIdx.ix3 (0 : Fin 1) (y 1) (y 2))
def tVal (E : S8x2048x256.Idx → Elt F .f32) (lo ln : S8x64.Idx → BitVec 32) (W : S512x16.Idx → Elt F .f32) : S4x64x16.Idx → Elt F .f32 :=
  fun y => projT (poolB E lo ln (up (y 0))) W (ValueIdx.ix3 (0 : Fin 1) (y 1) (y 2))

theorem tbl_rowA (i : grid0.Coords) (A : S8x64.Idx → BitVec 32) : tblRow (rowA i) (rowA_lt i) A = fun s => A (ValueIdx.ix2 (up (i 0)) s) := by
  have h : (⟨(rowA i).toNat, rowA_lt i⟩ : Fin 8) = up (i 0) := by
    have key : ∀ n : Fin 4, (Scalar.addi (BitVec.ofNat 32 n.val) 4#32).toNat = n.val + 4 := by decide
    exact Fin.ext (key (i 0))
  funext s
  exact congrArg (fun j => A (ValueIdx.ix2 j s)) h

/-! ## The launch's families -/

variable (adm : (p : Fin 2) → (pcfgs (F := F) p).Adm)

abbrev lo₀ : S8x64.Idx → BitVec 32 := (adm 0).1 0
abbrev ln₀ : S8x64.Idx → BitVec 32 := (adm 0).1 1

/-- Proof data of a pipeline that is not entered. -/
def idleDat {cfg : Pipeline.Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- The pairs recorded so far are low enough. -/
abbrev low (c : Dev nD) (n : ℕ) : Set (SemLoc sig × HIx 1) := fun p => (K (F := F)).lev (SparseCore.T c, p.1) p.2 ≤ 8 * n

variable (E : S8x2048x256.Idx → Elt F .f32) (W : S512x16.Idx → Elt F .f32) (b : S16.Idx → Elt F .f32)
variable (H₀ T₀ : S4x64x16.Idx → Elt F .f32)

/-- The first call's proof data. -/
def datA (c : Dev nD) : Dat τ (Elt F) (HIx 1) ℕ UU ℕ (cfg0 (adm 0)) c where
  A w := match w with
    | ⟨0, _⟩ => E
    | ⟨1, _⟩ => W
    | ⟨2, _⟩ => b
    | ⟨3, _⟩ => H₀
    | ⟨4, _⟩ => T₀
  after w t := match w with
    | ⟨0, _⟩ => encRow E (up (grid0.coords t 0))
    | ⟨1, _⟩ => W
    | ⟨2, _⟩ => b
    | ⟨3, _⟩ => projH (poolB E (lo₀ adm) (ln₀ adm) (up (grid0.coords t 0))) W b
    | ⟨4, _⟩ => projT (poolB E (lo₀ adm) (ln₀ adm) (up (grid0.coords t 0))) W
  Φ _ := iprop(Pipeline.scopedRest (Ix := HIx 1) (Name := ℕ) (U := UU) (Lvl := ℕ) (Val := Elt F) spec0 c
      ∗ Pipeline.tablesAt (Ix := HIx 1) (Name := ℕ) (U := UU) (Lvl := ℕ) (nD := nD) (τ := τ) (pcfgs (F := F)) adm 0 c)
  q _ := fullShare
  owed _ := (K (F := F)).Otc c 0
  recorded _ := low (F := F) c 0

/-- The proof data of the family: the first call's at its place. -/
def pdatsA : (p : Fin 2) → (c : Dev nD) → Dat τ (Elt F) (HIx 1) ℕ UU ℕ (Pipeline.pin (pcfgs (F := F)) adm p) c
  | ⟨0, _⟩ => fun c => datA adm E W b H₀ T₀ c
  | ⟨1, _⟩ => fun c => idleDat c

/-! ## What the staging buffers hold when the body runs -/

theorem coords0 (t : Fin grid0.N) : (grid0.coords t 0).val = t.val := by
  revert t; decide

theorem ixE (i : grid0.Coords) : cc0_transform_0 i = ![(i 0).val + 4, 0, 0] := by
  revert i; decide +kernel

theorem before_enc (c : Dev nD) (t : Fin grid0.N) (d : S1x2048x256.Idx → Elt F .f32) :
    (datA adm E W b H₀ T₀ c).before 0 t d = encRow E (up (grid0.coords t 0)) := by
  have hf : ((cfg0 (adm 0)).win 0).fetch t = true := by
    have key : ∀ t : Fin grid0.N, (!false && (t.val = 0 || decide (∃ h : 0 < t.val, cc0_transform_0 (grid0.coords t) ≠ cc0_transform_0 (grid0.coords ⟨t.val - 1, by omega⟩)))) = true := by
      decide +kernel
    exact key t
  unfold Dat.before
  rw [if_pos hf]
  refine funext fun (z : S1x2048x256.Idx) => ?_
  show E _ = E _
  refine congrArg E ?_
  have e := ixE (grid0.coords t)
  have h0 : (z 0).val < 1 := (z 0).isLt
  have e0 := congrFun e 0
  have e1 := congrFun e 1
  have e2 := congrFun e 2
  refine (ValueIdx.eq_ix3 _).trans ?_
  congr 1 <;> refine Fin.ext ?_
  · show cc0_transform_0 (grid0.coords t) 0 * 1 + 1 * (z 0).val = (grid0.coords t 0).val + 4
    rw [e0]; show ((grid0.coords t 0).val + 4) * 1 + 1 * (z 0).val = _; omega
  · show cc0_transform_0 (grid0.coords t) 1 * 2048 + 1 * (z 1).val = (z 1).val
    rw [e1]; show 0 * 2048 + 1 * (z 1).val = _; omega
  · show cc0_transform_0 (grid0.coords t) 2 * 256 + 1 * (z 2).val = (z 2).val
    rw [e2]; show 0 * 256 + 1 * (z 2).val = _; omega

theorem key1 : ∀ t : Fin grid0.N, (!false && (t.val = 0 || decide (∃ h : 0 < t.val, cc0_transform_1 (grid0.coords t) ≠ cc0_transform_1 (grid0.coords ⟨t.val - 1, by omega⟩)))) = decide (t.val = 0) := by
  decide +kernel

theorem fetch1 (t : Fin grid0.N) : ((cfg0 (adm 0)).win 1).fetch t = decide (t.val = 0) := key1 t

theorem key2 : ∀ t : Fin grid0.N, (!false && (t.val = 0 || decide (∃ h : 0 < t.val, cc0_transform_2 (grid0.coords t) ≠ cc0_transform_2 (grid0.coords ⟨t.val - 1, by omega⟩)))) = decide (t.val = 0) := by
  decide +kernel

theorem fetch2 (t : Fin grid0.N) : ((cfg0 (adm 0)).win 2).fetch t = decide (t.val = 0) := key2 t

theorem before_w (c : Dev nD) (t : Fin grid0.N) (d : S512x16.Idx → Elt F .f32) : (datA adm E W b H₀ T₀ c).before 1 t d = W := by
  by_cases ht : t.val = 0
  · unfold Dat.before
    rw [if_pos ((fetch1 adm t).trans (decide_eq_true ht))]
    refine funext fun (z : S512x16.Idx) => ?_
    show W _ = W _
    refine congrArg W ((ValueIdx.eq_ix2 _).trans ((congrArg₂ ValueIdx.ix2 (Fin.ext ?_) (Fin.ext ?_)).trans (ValueIdx.eq_ix2 z).symm))
    · show 0 * 512 + 1 * (z 0).val = (z 0).val; omega
    · show 0 * 16 + 1 * (z 1).val = (z 1).val; omega
  · exact (Dat.before_of_pos (datA adm E W b H₀ T₀ c) 1 t ht ((fetch1 adm t).trans (decide_eq_false ht)) d).trans rfl

theorem before_b (c : Dev nD) (t : Fin grid0.N) (d : S16.Idx → Elt F .f32) : (datA adm E W b H₀ T₀ c).before 2 t d = b := by
  by_cases ht : t.val = 0
  · unfold Dat.before
    rw [if_pos ((fetch2 adm t).trans (decide_eq_true ht))]
    refine funext fun (z : S16.Idx) => ?_
    show b _ = b _
    refine congrArg b ((ValueIdx.eq_ix1 _).trans ((congrArg ValueIdx.ix1 (Fin.ext ?_)).trans (ValueIdx.eq_ix1 z).symm))
    show 0 * 16 + 1 * (z 0).val = (z 0).val; omega
  · exact (Dat.before_of_pos (datA adm E W b H₀ T₀ c) 2 t ht ((fetch2 adm t).trans (decide_eq_false ht)) d).trans rfl

/-! ## The body at a point -/

/-- A whole memref owned at a value is its buffer held whole, read there as that value. -/
theorem whole_of_owns (c : Dev nD) {sp : Space} {S : Shape} {e : EltTy} {m : Memref sig .tc sp S e} (h : m.IsWhole) {q : PosShare TreeShare} {X : S.Idx → Elt F e} :
    owns (SparseCore.T c) m q X ⊢ (iprop(∃ f, ⌜m.view.read (Elt F) f = X⌝ ∗ (m.view.loc (SparseCore.T c) ↦{q} f)) : sProp (MM F)) := by
  unfold owns
  rw [h.set_eq_univ]

theorem owns_of_whole (c : Dev nD) {sp : Space} {S : Shape} {e : EltTy} {m : Memref sig .tc sp S e} (h : m.IsWhole) {q : PosShare TreeShare} {X : S.Idx → Elt F e}
    {f : Buf (Elt F) (m.view.loc (SparseCore.T c))} (hf : m.view.read (Elt F) f = X) :
    (m.view.loc (SparseCore.T c) ↦{q} f : sProp (MM F)) ⊢ owns (SparseCore.T c) m q X := by
  unfold owns
  rw [h.set_eq_univ]
  iintro H
  iexists f
  isplitr; · ipureintro; exact hf
  iexact H

/-- The scratch out of the buffers no window stages, and back. -/
theorem rest_split (c : Dev nD) : ∃ R : sProp (MM F),
    (Pipeline.scopedRest (Ix := HIx 1) (Name := ℕ) (U := UU) (Lvl := ℕ) (Val := Elt F) spec0 c : sProp (MM F))
      = iprop((∃ f : Buf (Elt F) ((SparseCore.T c).loc cc0_scratch0), (SparseCore.T c).loc cc0_scratch0 ↦{fullShare} f) ∗ R) := by
  rw [scopedRest0_eq]
  exact ⟨_, rfl⟩

theorem tables_eq (c : Dev nD) :
    (Pipeline.tablesAt (Ix := HIx 1) (Name := ℕ) (U := UU) (Lvl := ℕ) (nD := nD) (τ := τ) (pcfgs (F := F)) adm 0 c : sProp (MM F))
      = iprop((loLoc c ↦{fullShare} lo₀ adm) ∗ (lnLoc c ↦{fullShare} ln₀ adm)) := by
  show bigSep (Finset.univ : Finset (Fin 2)) _ = _
  exact bigSep_univ_eq_bigSepL [(0 : Fin 2), (1 : Fin 2)] (by decide) (by decide) _

theorem defsA (t : Fin grid0.N) (s : (w : Fin 5) → Fin (spec0 w).nbuf) : defs₀ (F := F) .tc 0 (t, s)
    = cc0__pool_project_kernel (grid0.coords t) (Memref.whole main_arg1) (Memref.isWhole_whole _) (Memref.whole main_arg2) (Memref.isWhole_whole _)
      (spec0_0.stage (s 0)) (hstage0_0 ((s 0).cast nbuf0_0)) (spec0_1.stage (s 1)) (hstage0_1 ((s 1).cast nbuf0_1)) (spec0_2.stage (s 2)) (hstage0_2 ((s 2).cast nbuf0_2))
      (spec0_3.stage (s 3)) (hstage0_3 ((s 3).cast nbuf0_3)) (spec0_4.stage (s 4)) (hstage0_4 ((s 4).cast nbuf0_4)) (Memref.whole cc0_scratch0) (Memref.isWhole_whole _) := rfl

set_option maxRecDepth 16384 in
theorem bodyA (hlo : ∀ y, (lo₀ adm y).toNat < 2016) (c : Dev nD) : BodyObligation (datA adm E W b H₀ T₀ c) (defs₀ (F := F)) 𝒱₀ none Set.univ := fun t => by
  obtain ⟨R, hR⟩ := rest_split (F := F) c
  change _ ⊢ wp _ _ _ (defs₀ (F := F) .tc 0 (t, (cfg0 (adm 0)).slots t)) _
  rw [defsA]
  rw [bigSep_W0, bigSep_W0]
  rw [show (datA adm E W b H₀ T₀ c).Φ t.castSucc = iprop(_ ∗ _) from rfl, show (datA adm E W b H₀ T₀ c).Φ t.succ = iprop(_ ∗ _) from rfl,
    show (datA adm E W b H₀ T₀ c).owesAt none t.succ = (datA adm E W b H₀ T₀ c).owesAt none t.castSucc from rfl]
  rw [hR, tables_eq]
  iintro ⟨⟨⟨⟨%fs, Hs⟩, HR⟩, Hlo, Hln⟩, Howes, ⟨%d0, H0⟩, ⟨%d1, H1⟩, ⟨%d2, H2⟩, ⟨%d3, H3⟩, ⟨%d4, H4⟩⟩
  ihave H0 := (whole_of_owns c (m := spec0_0.stage ((cfg0 (adm 0)).slots t 0)) (hstage0_0 (((cfg0 (adm 0)).slots t 0).cast nbuf0_0)) (q := fullShare) (X := (datA adm E W b H₀ T₀ c).before 0 t d0)) $$ H0
  icases H0 with ⟨%f0, %h0, H0⟩
  ihave H1 := (whole_of_owns c (m := spec0_1.stage ((cfg0 (adm 0)).slots t 1)) (hstage0_1 (((cfg0 (adm 0)).slots t 1).cast nbuf0_1)) (q := fullShare) (X := (datA adm E W b H₀ T₀ c).before 1 t d1)) $$ H1
  icases H1 with ⟨%f1, %h1, H1⟩
  ihave H2 := (whole_of_owns c (m := spec0_2.stage ((cfg0 (adm 0)).slots t 2)) (hstage0_2 (((cfg0 (adm 0)).slots t 2).cast nbuf0_2)) (q := fullShare) (X := (datA adm E W b H₀ T₀ c).before 2 t d2)) $$ H2
  icases H2 with ⟨%f2, %h2, H2⟩
  ihave H3 := (whole_of_owns c (m := spec0_3.stage ((cfg0 (adm 0)).slots t 3)) (hstage0_3 (((cfg0 (adm 0)).slots t 3).cast nbuf0_3)) (q := fullShare) (X := (datA adm E W b H₀ T₀ c).before 3 t d3)) $$ H3
  icases H3 with ⟨%f3, -, H3⟩
  ihave H4 := (whole_of_owns c (m := spec0_4.stage ((cfg0 (adm 0)).slots t 4)) (hstage0_4 (((cfg0 (adm 0)).slots t 4).cast nbuf0_4)) (q := fullShare) (X := (datA adm E W b H₀ T₀ c).before 4 t d4)) $$ H4
  icases H4 with ⟨%f4, -, H4⟩
  have h0 := h0.trans (before_enc adm E W b H₀ T₀ c t d0)
  have h1 := h1.trans (before_w adm E W b H₀ T₀ c t d1)
  have h2 := h2.trans (before_b adm E W b H₀ T₀ c t d2)
  iapply (wp_kernelA c (Memref.whole main_arg1) (Memref.whole main_arg2) (spec0_0.stage ((cfg0 (adm 0)).slots t 0)) (lo₀ adm) (ln₀ adm) f0 (grid0.coords t) _ _ _
    (spec0_1.stage ((cfg0 (adm 0)).slots t 1)) _ (spec0_2.stage ((cfg0 (adm 0)).slots t 2)) _ (spec0_3.stage ((cfg0 (adm 0)).slots t 3)) _
    (spec0_4.stage ((cfg0 (adm 0)).slots t 4)) _ (Memref.whole cc0_scratch0) _ f1 f2 f3 f4 fs hlo)
  isplitl [Hlo Hln H0]
  · isplitl [Hlo]; · iexact Hlo
    isplitl [Hln]; · iexact Hln
    iexact H0
  isplitl [H1]; · iexact H1
  isplitl [H2]; · iexact H2
  isplitl [H3]; · iexact H3
  isplitl [H4]; · iexact H4
  isplitl [Hs]; · iexact Hs
  iintro %g3 %g4 %gs %hg HT H1 H2 H3 H4 Hs
  icases HT with ⟨Hlo, Hln, H0⟩
  rw [h0, h1, h2, tbl_rowA, tbl_rowA] at hg
  isplitl [Hs HR Hlo Hln]
  · isplitl [Hs HR]
    · isplitl [Hs]; · iexists gs; iexact Hs
      iexact HR
    isplitl [Hlo]; · iexact Hlo
    iexact Hln
  isplitl [Howes]; · iexact Howes
  isplitl [H0]; · iapply (owns_of_whole c (m := spec0_0.stage ((cfg0 (adm 0)).slots t 0)) (hstage0_0 (((cfg0 (adm 0)).slots t 0).cast nbuf0_0)) h0) $$ H0
  isplitl [H1]; · iapply (owns_of_whole c (m := spec0_1.stage ((cfg0 (adm 0)).slots t 1)) (hstage0_1 (((cfg0 (adm 0)).slots t 1).cast nbuf0_1)) h1) $$ H1
  isplitl [H2]; · iapply (owns_of_whole c (m := spec0_2.stage ((cfg0 (adm 0)).slots t 2)) (hstage0_2 (((cfg0 (adm 0)).slots t 2).cast nbuf0_2)) h2) $$ H2
  isplitl [H3]; · iapply (owns_of_whole c (m := spec0_3.stage ((cfg0 (adm 0)).slots t 3)) (hstage0_3 (((cfg0 (adm 0)).slots t 3).cast nbuf0_3)) hg.1) $$ H3
  iapply (owns_of_whole c (m := spec0_4.stage ((cfg0 (adm 0)).slots t 4)) (hstage0_4 (((cfg0 (adm 0)).slots t 4).cast nbuf0_4)) hg.2) $$ H4

/-! ## What the result arrays hold after the region -/

theorem ixH : ∀ i : grid0.Coords, cc0_transform_3 i = ![(i 0).val, 0, 0] := by decide +kernel
theorem ixT : ∀ i : grid0.Coords, cc0_transform_4 i = ![(i 0).val, 0, 0] := by decide +kernel

theorem cover3 : ((cfg0 (adm 0)).win 3).Covers :=
  (by decide +kernel : ((cfg0 (F := Ideal) ⟨fun _ _ => Classical.arbitrary _, trivial⟩).win 3).Covers)

theorem cover4 : ((cfg0 (adm 0)).win 4).Covers :=
  (by decide +kernel : ((cfg0 (F := Ideal) ⟨fun _ _ => Classical.arbitrary _, trivial⟩).win 4).Covers)

theorem arr_h (c : Dev nD) : (datA adm E W b H₀ T₀ c).arrAt 3 (cfg0 (adm 0)).N = hVal E (lo₀ adm) (ln₀ adm) W b := by
  refine (datA adm E W b H₀ T₀ c).arrAt_eq_of_covers 3 _ (cover3 adm) fun t _ (y : S1x64x16.Idx) => ?_
  have hi := ixH (grid0.coords t)
  have e0 := congrFun hi 0
  have e1 := congrFun hi 1
  have e2 := congrFun hi 2
  have hy : (y 0).val < 1 := (y 0).isLt
  have hy' : y = ValueIdx.ix3 (0 : Fin 1) (y 1) (y 2) := (ValueIdx.eq_ix3 y).trans (by congr 1; exact Fin.ext (by show (y 0).val = 0; omega))
  have he : (((cfg0 (adm 0)).win 3).blk t).view.emb y = (ValueIdx.ix3 (grid0.coords t 0) (y 1) (y 2) : S4x64x16.Idx) := by
    refine (ValueIdx.eq_ix3 _).trans ?_
    congr 1 <;> refine Fin.ext ?_
    · show cc0_transform_3 (grid0.coords t) 0 * 1 + 1 * (y 0).val = (grid0.coords t 0).val
      rw [e0]; show (grid0.coords t 0).val * 1 + 1 * (y 0).val = _; omega
    · show cc0_transform_3 (grid0.coords t) 1 * 64 + 1 * (y 1).val = (y 1).val
      rw [e1]; show 0 * 64 + 1 * (y 1).val = _; omega
    · show cc0_transform_3 (grid0.coords t) 2 * 16 + 1 * (y 2).val = (y 2).val
      rw [e2]; show 0 * 16 + 1 * (y 2).val = _; omega
  refine Eq.trans ?_ (congrArg (hVal E (lo₀ adm) (ln₀ adm) W b) he).symm
  show projH (poolB E (lo₀ adm) (ln₀ adm) (up (grid0.coords t 0))) W b y = projH (poolB E (lo₀ adm) (ln₀ adm) (up (grid0.coords t 0))) W b (ValueIdx.ix3 (0 : Fin 1) (y 1) (y 2))
  exact congrArg _ hy'

theorem arr_t (c : Dev nD) : (datA adm E W b H₀ T₀ c).arrAt 4 (cfg0 (adm 0)).N = tVal E (lo₀ adm) (ln₀ adm) W := by
  refine (datA adm E W b H₀ T₀ c).arrAt_eq_of_covers 4 _ (cover4 adm) fun t _ (y : S1x64x16.Idx) => ?_
  have hi := ixT (grid0.coords t)
  have e0 := congrFun hi 0
  have e1 := congrFun hi 1
  have e2 := congrFun hi 2
  have hy : (y 0).val < 1 := (y 0).isLt
  have hy' : y = ValueIdx.ix3 (0 : Fin 1) (y 1) (y 2) := (ValueIdx.eq_ix3 y).trans (by congr 1; exact Fin.ext (by show (y 0).val = 0; omega))
  have he : (((cfg0 (adm 0)).win 4).blk t).view.emb y = (ValueIdx.ix3 (grid0.coords t 0) (y 1) (y 2) : S4x64x16.Idx) := by
    refine (ValueIdx.eq_ix3 _).trans ?_
    congr 1 <;> refine Fin.ext ?_
    · show cc0_transform_4 (grid0.coords t) 0 * 1 + 1 * (y 0).val = (grid0.coords t 0).val
      rw [e0]; show (grid0.coords t 0).val * 1 + 1 * (y 0).val = _; omega
    · show cc0_transform_4 (grid0.coords t) 1 * 64 + 1 * (y 1).val = (y 1).val
      rw [e1]; show 0 * 64 + 1 * (y 1).val = _; omega
    · show cc0_transform_4 (grid0.coords t) 2 * 16 + 1 * (y 2).val = (y 2).val
      rw [e2]; show 0 * 16 + 1 * (y 2).val = _; omega
  refine Eq.trans ?_ (congrArg (tVal E (lo₀ adm) (ln₀ adm) W) he).symm
  show projT (poolB E (lo₀ adm) (ln₀ adm) (up (grid0.coords t 0))) W y = projT (poolB E (lo₀ adm) (ln₀ adm) (up (grid0.coords t 0))) W (ValueIdx.ix3 (0 : Fin 1) (y 1) (y 2))
  exact congrArg _ hy'

/-! ## The region -/

theorem Otc_none (c : Dev nD) (n : ℕ) : ∀ g, (K (F := F)).Otc c n g none = 0 := fun g => by
  by_contra h
  have := (K (F := F)).lev_of_Otc_pos (Nat.pos_of_ne_zero h)
  exact absurd this (by show ¬ (_ ≤ 0); omega)

/-- The five arrays of the first call, held whole. -/
abbrev arraysA (c : Dev nD) (H T : S4x64x16.Idx → Elt F .f32) : sProp (MM F) :=
  iprop((eLoc c ↦{fullShare} E) ∗ (wLoc c ↦{fullShare} W) ∗ (bLoc c ↦{fullShare} b) ∗ (hLoc c ↦{fullShare} H) ∗ (tLoc c ↦{fullShare} T))

/-- The tables, held whole. -/
abbrev tables (c : Dev nD) : sProp (MM F) := iprop((loLoc c ↦{fullShare} lo₀ adm) ∗ (lnLoc c ↦{fullShare} ln₀ adm))

theorem tables_out (c : Dev nD) : Pipeline.tablesAt (pcfgs (F := F)) adm 0 c ⊢ tables adm c := by
  rw [tables_eq]

/-- What the TensorCore owes before call `n`, its recorded pairs low. -/
abbrev owing (c : Dev nD) (n : ℕ) : sProp (MM F) :=
  iprop(∃ V, ⌜(K (F := F)).WBelow (SparseCore.T c) V (8 * n)⌝ ∗ owes (SparseCore.T c) ((K (F := F)).Otc c n) V)

theorem arrays_datA (c : Dev nD) (G : (w : Fin 5) → Buf (Elt F) ((spec0 w).arr.view.loc (SparseCore.T c))) :
    ((datA adm E W b H₀ T₀ c).arrays G : sProp (MM F))
      = iprop((eLoc c ↦{fullShare} G 0) ∗ (wLoc c ↦{fullShare} G 1) ∗ (bLoc c ↦{fullShare} G 2) ∗ (hLoc c ↦{fullShare} G 3) ∗ (tLoc c ↦{fullShare} G 4)) := by
  refine (Pipeline.arrays_eq (Pipeline.pin (pcfgs (F := F)) adm) (pdatsA adm E W b H₀ T₀) 0 c arr_whole0 (fun w => ?_) G).trans (bigSep_W0 _)
  fin_cases w <;> rfl

theorem arrays_end (c : Dev nD) :
    ((datA adm E W b H₀ T₀ c).arrays ((datA adm E W b H₀ T₀ c).arrAt · (cfg0 (adm 0)).N) : sProp (MM F))
      = arraysA E W b c (hVal E (lo₀ adm) (ln₀ adm) W b) (tVal E (lo₀ adm) (ln₀ adm) W) := by
  rw [arrays_datA, arr_h, arr_t, (datA adm E W b H₀ T₀ c).arrAt_in 0 rfl, (datA adm E W b H₀ T₀ c).arrAt_in 1 rfl,
    (datA adm E W b H₀ T₀ c).arrAt_in 2 rfl]
  rfl

theorem owes_in (c : Dev nD) (n : ℕ) {cfg : Pipeline.Cfg sig Λ₀} (dat : Dat τ (Elt F) (HIx 1) ℕ UU ℕ cfg c) (t : Fin (cfg.N + 1))
    (ho : dat.owed t = (K (F := F)).Otc c n) (hr : dat.recorded t = low (F := F) c n) : owing (F := F) c n ⊢ dat.owesAt none t := by
  unfold Pipeline.Dat.owesAt Pipeline.owesWithin Pipeline.Dat.bound
  rw [ho, hr]
  iintro ⟨%V, %hV, HO⟩
  iexists V
  isplitr; · ipureintro; exact fun p hp => Or.inl (hV p hp)
  iexact HO

theorem owes_out (c : Dev nD) (n : ℕ) {cfg : Pipeline.Cfg sig Λ₀} (dat : Dat τ (Elt F) (HIx 1) ℕ UU ℕ cfg c) (t : Fin (cfg.N + 1))
    (ho : dat.owed t = (K (F := F)).Otc c n) (hr : dat.recorded t = low (F := F) c n) : dat.owesAt none t ⊢ owing (F := F) c n := by
  unfold Pipeline.Dat.owesAt Pipeline.owesWithin Pipeline.Dat.bound
  rw [ho, hr]
  iintro ⟨%V, %hV, HO⟩
  iexists V
  isplitr
  · ipureintro
    intro p hp
    rcases hV hp with h | ⟨w, s, e⟩
    · exact h
    · subst e; exact Nat.zero_le _
  iexact HO

set_option backward.isDefEq.respectTransparency.types false in
/-- The first call, from its arrays and tables to the two projection tables. -/
def segA (hlo : ∀ y, (lo₀ adm y).toNat < 2016) :
    Pipeline.RegionSeg (pcfgs (F := F)) adm (pdatsA adm E W b H₀ T₀) none defs₀ 𝒱₀ (K (F := F)).L (K (F := F)).lev 0 where
  win := (launch0 (F := F)).win.to₀
  block_pos := (launch0 (F := F)).block_pos
  stage_whole := (launch0 (F := F)).stage_whole
  K := PEmpty
  osem k := k.elim
  ho := Pipeline.OwnSemFacts.none _
  hbody c := (bodyA adm E W b H₀ T₀ hlo c).loose
  hwaits c := Pipeline.cellsWaits_intro _ _ _ _ _ fun w s t => (K (F := F)).mayWait_none _ (Otc_none c 0)
  pre c := iprop(arraysA E W b c H₀ T₀ ∗ tables adm c ∗ owing (F := F) c 0)
  post c := iprop(arraysA E W b c (hVal E (lo₀ adm) (ln₀ adm) W b) (tVal E (lo₀ adm) (ln₀ adm) W) ∗ tables adm c ∗ owing (F := F) c 0)
  X _ := BI.emp
  Y c := Pipeline.tablesAt (pcfgs (F := F)) adm 0 c
  Z _ := BI.emp
  hentry c := by
    show iprop(iprop(arraysA E W b c H₀ T₀ ∗ tables adm c ∗ owing (F := F) c 0) ∗ _ ∗ _) ⊢ _
    rw [Pipeline.ownSems0_none]
    iintro ⟨⟨Ha, Ht, HO⟩, -, -⟩
    imodintro
    isplitl [Ha]; · rw [show (pdatsA adm E W b H₀ T₀ 0 c).arrays _ = _ from arrays_datA adm E W b H₀ T₀ c _]; iexact Ha
    isplitl [Ht]; · rw [show Pipeline.prefHeld _ _ _ _ = _ from tables_eq adm c]; iexact Ht
    isplitl [HO]; · iapply (owes_in c 0 (datA adm E W b H₀ T₀ c) 0 rfl rfl) $$ HO
    isplitl <;> iempintro
  hin c := by
    show _ ⊢ iprop(Pipeline.scopedRest spec0 c ∗ Pipeline.tablesAt (pcfgs (F := F)) adm 0 c)
    iintro ⟨-, Ht, Hr⟩
    isplitl [Hr] <;> iassumption
  hout c := by
    show iprop(Pipeline.scopedRest spec0 c ∗ Pipeline.tablesAt (pcfgs (F := F)) adm 0 c) ⊢ _
    rw [Pipeline.ownSems0_none]
    iintro ⟨Hr, Ht⟩
    isplitl [Ht]; · iexact Ht
    isplitr; · iempintro
    iexact Hr
  hexit c := by
    iintro ⟨Ha, HO, Ht, -⟩
    imodintro
    isplitl [Ha]
    · iapply (show (pdatsA adm E W b H₀ T₀ 0 c).arrays ((pdatsA adm E W b H₀ T₀ 0 c).arrAt · (Pipeline.pin (pcfgs (F := F)) adm 0).N) ⊢ _ from
        (arrays_end adm E W b H₀ T₀ c).le) $$ Ha
    isplitl [Ht]; · iapply (tables_out adm c) $$ Ht
    iapply (show (pdatsA adm E W b H₀ T₀ 0 c).owesAt none (Fin.last _) ⊢ owing (F := F) c 0 from
      owes_out c 0 (datA adm E W b H₀ T₀ c) (Fin.last _) rfl rfl) $$ HO

end Cert.KernelIdeal.Region

end
-- ==== Proof.KernelIdealRegionB.lean ====
/- The second TensorCore call as a region of the program: from the batch arrays, the tables and the two slices of the pairs to their scores. -/
module

public import proofs.«01_k».proof.Proof.KernelIdealRegionA

@[expose] public section

noncomputable section

namespace Cert.KernelIdeal.Region

open Cert.KernelIdeal.Gen Cert.KernelIdeal.Base Cert.KernelIdeal.Spans
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The scores of the lower four batches' pairs. -/
def sVal (E : S8x2048x256.Idx → Elt F .f32) (lo ln : S8x64.Idx → BitVec 32) (W : S512x16.Idx → Elt F .f32) (b : S16.Idx → Elt F .f32)
    (X Y : S4x2048.Idx → BitVec 32) : S4x2048x16.Idx → Elt F .f32 :=
  fun y => pairs (y 0) (poolB E lo ln (dn (y 0))) W b X Y (ValueIdx.ix3 (0 : Fin 1) (y 1) (y 2))

theorem tbl_rowB (i : grid2.Coords) (A : S8x64.Idx → BitVec 32) : tblRow (rowB i) (rowB_lt i) A = fun s => A (ValueIdx.ix2 (dn (i 0)) s) := by
  have h : (⟨(rowB i).toNat, rowB_lt i⟩ : Fin 8) = dn (i 0) := by
    have key : ∀ n : Fin 4, (BitVec.ofNat 32 n.val).toNat = n.val := by decide
    exact Fin.ext (key (i 0))
  funext s
  exact congrArg (fun j => A (ValueIdx.ix2 j s)) h

variable (adm : (p : Fin 2) → (pcfgs (F := F) p).Adm)

abbrev lo₁ : S8x64.Idx → BitVec 32 := (adm 1).1 0
abbrev ln₁ : S8x64.Idx → BitVec 32 := (adm 1).1 1

variable (E : S8x2048x256.Idx → Elt F .f32) (W : S512x16.Idx → Elt F .f32) (b : S16.Idx → Elt F .f32)
variable (X Y : S4x2048.Idx → BitVec 32) (S₀ : S4x2048x16.Idx → Elt F .f32)

/-- The second call's proof data. -/
def datB (c : Dev nD) : Dat τ (Elt F) (HIx 1) ℕ UU ℕ (cfg2 (adm 1)) c where
  A w := match w with
    | ⟨0, _⟩ => E
    | ⟨1, _⟩ => W
    | ⟨2, _⟩ => b
    | ⟨3, _⟩ => X
    | ⟨4, _⟩ => Y
    | ⟨5, _⟩ => S₀
  after w t := match w with
    | ⟨0, _⟩ => encRow E (dn (grid2.coords t 0))
    | ⟨1, _⟩ => W
    | ⟨2, _⟩ => b
    | ⟨3, _⟩ => X
    | ⟨4, _⟩ => Y
    | ⟨5, _⟩ => pairs (grid2.coords t 0) (poolB E (lo₁ adm) (ln₁ adm) (dn (grid2.coords t 0))) W b X Y
  Φ _ := iprop(Pipeline.scopedRest (Ix := HIx 1) (Name := ℕ) (U := UU) (Lvl := ℕ) (Val := Elt F) spec2 c
      ∗ Pipeline.tablesAt (Ix := HIx 1) (Name := ℕ) (U := UU) (Lvl := ℕ) (nD := nD) (τ := τ) (pcfgs (F := F)) adm 1 c)
  q _ := fullShare
  owed _ := (K (F := F)).Otc c 1
  recorded _ := low (F := F) c 1

/-- The proof data of the family: the second call's at its place. -/
def pdatsB : (p : Fin 2) → (c : Dev nD) → Dat τ (Elt F) (HIx 1) ℕ UU ℕ (Pipeline.pin (pcfgs (F := F)) adm p) c
  | ⟨0, _⟩ => fun c => idleDat c
  | ⟨1, _⟩ => fun c => datB adm E W b X Y S₀ c

/-! ## What the staging buffers hold when the body runs -/

theorem coords2 (t : Fin grid2.N) : (grid2.coords t 0).val = t.val := by
  revert t; decide

theorem ixEB (i : grid2.Coords) : cc2_transform_0 i = ![(i 0).val, 0, 0] := by
  revert i; decide +kernel

theorem before_encB (c : Dev nD) (t : Fin grid2.N) (d : S1x2048x256.Idx → Elt F .f32) :
    (datB adm E W b X Y S₀ c).before 0 t d = encRow E (dn (grid2.coords t 0)) := by
  have hf : ((cfg2 (adm 1)).win 0).fetch t = true := by
    have key : ∀ t : Fin grid2.N, (!false && (t.val = 0 || decide (∃ h : 0 < t.val, cc2_transform_0 (grid2.coords t) ≠ cc2_transform_0 (grid2.coords ⟨t.val - 1, by omega⟩)))) = true := by
      decide +kernel
    exact key t
  unfold Dat.before
  rw [if_pos hf]
  refine funext fun (z : S1x2048x256.Idx) => ?_
  show E _ = E _
  refine congrArg E ?_
  have e := ixEB (grid2.coords t)
  have h0 : (z 0).val < 1 := (z 0).isLt
  have e0 := congrFun e 0
  have e1 := congrFun e 1
  have e2 := congrFun e 2
  refine (ValueIdx.eq_ix3 _).trans ?_
  congr 1 <;> refine Fin.ext ?_
  · show cc2_transform_0 (grid2.coords t) 0 * 1 + 1 * (z 0).val = (grid2.coords t 0).val
    rw [e0]; show (grid2.coords t 0).val * 1 + 1 * (z 0).val = _; omega
  · show cc2_transform_0 (grid2.coords t) 1 * 2048 + 1 * (z 1).val = (z 1).val
    rw [e1]; show 0 * 2048 + 1 * (z 1).val = _; omega
  · show cc2_transform_0 (grid2.coords t) 2 * 256 + 1 * (z 2).val = (z 2).val
    rw [e2]; show 0 * 256 + 1 * (z 2).val = _; omega

theorem keyB1 : ∀ t : Fin grid2.N, (!false && (t.val = 0 || decide (∃ h : 0 < t.val, cc2_transform_1 (grid2.coords t) ≠ cc2_transform_1 (grid2.coords ⟨t.val - 1, by omega⟩)))) = decide (t.val = 0) := by
  decide +kernel

theorem fetchB1 (t : Fin grid2.N) : ((cfg2 (adm 1)).win 1).fetch t = decide (t.val = 0) := keyB1 t

theorem keyB2 : ∀ t : Fin grid2.N, (!false && (t.val = 0 || decide (∃ h : 0 < t.val, cc2_transform_2 (grid2.coords t) ≠ cc2_transform_2 (grid2.coords ⟨t.val - 1, by omega⟩)))) = decide (t.val = 0) := by
  decide +kernel

theorem fetchB2 (t : Fin grid2.N) : ((cfg2 (adm 1)).win 2).fetch t = decide (t.val = 0) := keyB2 t

theorem keyB3 : ∀ t : Fin grid2.N, (!false && (t.val = 0 || decide (∃ h : 0 < t.val, cc2_transform_3 (grid2.coords t) ≠ cc2_transform_3 (grid2.coords ⟨t.val - 1, by omega⟩)))) = decide (t.val = 0) := by
  decide +kernel

theorem fetchB3 (t : Fin grid2.N) : ((cfg2 (adm 1)).win 3).fetch t = decide (t.val = 0) := keyB3 t

theorem keyB4 : ∀ t : Fin grid2.N, (!false && (t.val = 0 || decide (∃ h : 0 < t.val, cc2_transform_4 (grid2.coords t) ≠ cc2_transform_4 (grid2.coords ⟨t.val - 1, by omega⟩)))) = decide (t.val = 0) := by
  decide +kernel

theorem fetchB4 (t : Fin grid2.N) : ((cfg2 (adm 1)).win 4).fetch t = decide (t.val = 0) := keyB4 t

theorem before_wB (c : Dev nD) (t : Fin grid2.N) (d : S512x16.Idx → Elt F .f32) : (datB adm E W b X Y S₀ c).before 1 t d = W := by
  by_cases ht : t.val = 0
  · unfold Dat.before
    rw [if_pos ((fetchB1 adm t).trans (decide_eq_true ht))]
    refine funext fun (z : S512x16.Idx) => ?_
    show W _ = W _
    refine congrArg W ((ValueIdx.eq_ix2 _).trans ((congrArg₂ ValueIdx.ix2 (Fin.ext ?_) (Fin.ext ?_)).trans (ValueIdx.eq_ix2 z).symm))
    · show 0 * 512 + 1 * (z 0).val = (z 0).val; omega
    · show 0 * 16 + 1 * (z 1).val = (z 1).val; omega
  · exact (Dat.before_of_pos (datB adm E W b X Y S₀ c) 1 t ht ((fetchB1 adm t).trans (decide_eq_false ht)) d).trans rfl

theorem before_bB (c : Dev nD) (t : Fin grid2.N) (d : S16.Idx → Elt F .f32) : (datB adm E W b X Y S₀ c).before 2 t d = b := by
  by_cases ht : t.val = 0
  · unfold Dat.before
    rw [if_pos ((fetchB2 adm t).trans (decide_eq_true ht))]
    refine funext fun (z : S16.Idx) => ?_
    show b _ = b _
    refine congrArg b ((ValueIdx.eq_ix1 _).trans ((congrArg ValueIdx.ix1 (Fin.ext ?_)).trans (ValueIdx.eq_ix1 z).symm))
    show 0 * 16 + 1 * (z 0).val = (z 0).val; omega
  · exact (Dat.before_of_pos (datB adm E W b X Y S₀ c) 2 t ht ((fetchB2 adm t).trans (decide_eq_false ht)) d).trans rfl

theorem before_X (c : Dev nD) (t : Fin grid2.N) (d : S4x2048.Idx → BitVec 32) : (datB adm E W b X Y S₀ c).before 3 t d = X := by
  by_cases ht : t.val = 0
  · unfold Dat.before
    rw [if_pos ((fetchB3 adm t).trans (decide_eq_true ht))]
    refine funext fun (z : S4x2048.Idx) => ?_
    show X _ = X _
    refine congrArg X ((ValueIdx.eq_ix2 _).trans ((congrArg₂ ValueIdx.ix2 (Fin.ext ?_) (Fin.ext ?_)).trans (ValueIdx.eq_ix2 z).symm))
    · show 0 * 4 + 1 * (z 0).val = (z 0).val; omega
    · show 0 * 2048 + 1 * (z 1).val = (z 1).val; omega
  · exact (Dat.before_of_pos (datB adm E W b X Y S₀ c) 3 t ht ((fetchB3 adm t).trans (decide_eq_false ht)) d).trans rfl

theorem before_Y (c : Dev nD) (t : Fin grid2.N) (d : S4x2048.Idx → BitVec 32) : (datB adm E W b X Y S₀ c).before 4 t d = Y := by
  by_cases ht : t.val = 0
  · unfold Dat.before
    rw [if_pos ((fetchB4 adm t).trans (decide_eq_true ht))]
    refine funext fun (z : S4x2048.Idx) => ?_
    show Y _ = Y _
    refine congrArg Y ((ValueIdx.eq_ix2 _).trans ((congrArg₂ ValueIdx.ix2 (Fin.ext ?_) (Fin.ext ?_)).trans (ValueIdx.eq_ix2 z).symm))
    · show 0 * 4 + 1 * (z 0).val = (z 0).val; omega
    · show 0 * 2048 + 1 * (z 1).val = (z 1).val; omega
  · exact (Dat.before_of_pos (datB adm E W b X Y S₀ c) 4 t ht ((fetchB4 adm t).trans (decide_eq_false ht)) d).trans rfl

/-! ## The body at a point -/

theorem rest_splitB (c : Dev nD) : ∃ R : sProp (MM F),
    (Pipeline.scopedRest (Ix := HIx 1) (Name := ℕ) (U := UU) (Lvl := ℕ) (Val := Elt F) spec2 c : sProp (MM F))
      = iprop((∃ f : Buf (Elt F) ((SparseCore.T c).loc cc2_scratch0), (SparseCore.T c).loc cc2_scratch0 ↦{fullShare} f) ∗ R) := by
  rw [Pipeline.scopedRest_eq_of_list spec2 c [cc2_scratch0, cc0_stg0_0, cc0_stg0_1, cc0_stg1_0, cc0_stg2_0, cc0_stg3_0, cc0_stg3_1, cc0_stg4_0, cc0_stg4_1, cc0_scratch0] (by decide) (by decide)]
  exact ⟨_, rfl⟩

theorem tables_eqB (c : Dev nD) :
    (Pipeline.tablesAt (Ix := HIx 1) (Name := ℕ) (U := UU) (Lvl := ℕ) (nD := nD) (τ := τ) (pcfgs (F := F)) adm 1 c : sProp (MM F))
      = iprop((loLoc c ↦{fullShare} lo₁ adm) ∗ (lnLoc c ↦{fullShare} ln₁ adm)) := by
  show bigSep (Finset.univ : Finset (Fin 2)) _ = _
  exact bigSep_univ_eq_bigSepL [(0 : Fin 2), (1 : Fin 2)] (by decide) (by decide) _

theorem defsB (t : Fin grid2.N) (s : (w : Fin 6) → Fin (spec2 w).nbuf) : defs₀ (F := F) .tc 2 (t, s)
    = cc2__pool_project_score_kernel (grid2.coords t) (Memref.whole main_arg1) (Memref.isWhole_whole _) (Memref.whole main_arg2) (Memref.isWhole_whole _)
      (spec2_0.stage (s 0)) (hstage2_0 ((s 0).cast nbuf2_0)) (spec2_1.stage (s 1)) (hstage2_1 ((s 1).cast nbuf2_1)) (spec2_2.stage (s 2)) (hstage2_2 ((s 2).cast nbuf2_2))
      (spec2_3.stage (s 3)) (hstage2_3 ((s 3).cast nbuf2_3)) (spec2_4.stage (s 4)) (hstage2_4 ((s 4).cast nbuf2_4)) (spec2_5.stage (s 5)) (hstage2_5 ((s 5).cast nbuf2_5))
      (Memref.whole cc2_scratch0) (Memref.isWhole_whole _) := rfl

set_option maxRecDepth 16384 in
theorem bodyB (hlo : ∀ y, (lo₁ adm y).toNat < 2016) (c : Dev nD) : BodyObligation (datB adm E W b X Y S₀ c) (defs₀ (F := F)) 𝒱₀ none Set.univ := fun t => by
  obtain ⟨R, hR⟩ := rest_splitB (F := F) c
  change _ ⊢ wp _ _ _ (defs₀ (F := F) .tc 2 (t, (cfg2 (adm 1)).slots t)) _
  rw [defsB]
  rw [bigSep_W2, bigSep_W2]
  rw [show (datB adm E W b X Y S₀ c).Φ t.castSucc = iprop(_ ∗ _) from rfl, show (datB adm E W b X Y S₀ c).Φ t.succ = iprop(_ ∗ _) from rfl,
    show (datB adm E W b X Y S₀ c).owesAt none t.succ = (datB adm E W b X Y S₀ c).owesAt none t.castSucc from rfl]
  rw [hR, tables_eqB]
  iintro ⟨⟨⟨⟨%fs, Hs⟩, HR⟩, Hlo, Hln⟩, Howes, ⟨%d0, H0⟩, ⟨%d1, H1⟩, ⟨%d2, H2⟩, ⟨%d3, H3⟩, ⟨%d4, H4⟩, ⟨%d5, H5⟩⟩
  ihave H0 := (whole_of_owns c (m := spec2_0.stage ((cfg2 (adm 1)).slots t 0)) (hstage2_0 (((cfg2 (adm 1)).slots t 0).cast nbuf2_0)) (q := fullShare) (X := (datB adm E W b X Y S₀ c).before 0 t d0)) $$ H0
  icases H0 with ⟨%f0, %h0, H0⟩
  ihave H1 := (whole_of_owns c (m := spec2_1.stage ((cfg2 (adm 1)).slots t 1)) (hstage2_1 (((cfg2 (adm 1)).slots t 1).cast nbuf2_1)) (q := fullShare) (X := (datB adm E W b X Y S₀ c).before 1 t d1)) $$ H1
  icases H1 with ⟨%f1, %h1, H1⟩
  ihave H2 := (whole_of_owns c (m := spec2_2.stage ((cfg2 (adm 1)).slots t 2)) (hstage2_2 (((cfg2 (adm 1)).slots t 2).cast nbuf2_2)) (q := fullShare) (X := (datB adm E W b X Y S₀ c).before 2 t d2)) $$ H2
  icases H2 with ⟨%f2, %h2, H2⟩
  ihave H3 := (whole_of_owns c (m := spec2_3.stage ((cfg2 (adm 1)).slots t 3)) (hstage2_3 (((cfg2 (adm 1)).slots t 3).cast nbuf2_3)) (q := fullShare) (X := (datB adm E W b X Y S₀ c).before 3 t d3)) $$ H3
  icases H3 with ⟨%f3, %h3, H3⟩
  ihave H4 := (whole_of_owns c (m := spec2_4.stage ((cfg2 (adm 1)).slots t 4)) (hstage2_4 (((cfg2 (adm 1)).slots t 4).cast nbuf2_4)) (q := fullShare) (X := (datB adm E W b X Y S₀ c).before 4 t d4)) $$ H4
  icases H4 with ⟨%f4, %h4, H4⟩
  ihave H5 := (whole_of_owns c (m := spec2_5.stage ((cfg2 (adm 1)).slots t 5)) (hstage2_5 (((cfg2 (adm 1)).slots t 5).cast nbuf2_5)) (q := fullShare) (X := (datB adm E W b X Y S₀ c).before 5 t d5)) $$ H5
  icases H5 with ⟨%f5, -, H5⟩
  have h0 := h0.trans (before_encB adm E W b X Y S₀ c t d0)
  have h1 := h1.trans (before_wB adm E W b X Y S₀ c t d1)
  have h2 := h2.trans (before_bB adm E W b X Y S₀ c t d2)
  have h3 := h3.trans (before_X adm E W b X Y S₀ c t d3)
  have h4 := h4.trans (before_Y adm E W b X Y S₀ c t d4)
  iapply (wp_kernelB c (Memref.whole main_arg1) (Memref.whole main_arg2) (spec2_0.stage ((cfg2 (adm 1)).slots t 0)) (lo₁ adm) (ln₁ adm) f0 (grid2.coords t) _ _ _
    (spec2_1.stage ((cfg2 (adm 1)).slots t 1)) _ (spec2_2.stage ((cfg2 (adm 1)).slots t 2)) _ (spec2_3.stage ((cfg2 (adm 1)).slots t 3)) _
    (spec2_4.stage ((cfg2 (adm 1)).slots t 4)) _ (spec2_5.stage ((cfg2 (adm 1)).slots t 5)) _ (Memref.whole cc2_scratch0) _ f1 f2 f3 f4 f5 fs hlo)
  isplitl [Hlo Hln H0]
  · isplitl [Hlo]; · iexact Hlo
    isplitl [Hln]; · iexact Hln
    iexact H0
  isplitl [H1]; · iexact H1
  isplitl [H2]; · iexact H2
  isplitl [H3]; · iexact H3
  isplitl [H4]; · iexact H4
  isplitl [H5]; · iexact H5
  isplitl [Hs]; · iexact Hs
  iintro %g5 %gs %hg HT H1 H2 H3 H4 H5 Hs
  icases HT with ⟨Hlo, Hln, H0⟩
  rw [h0, h1, h2, h3, h4, tbl_rowB, tbl_rowB] at hg
  isplitl [Hs HR Hlo Hln]
  · isplitl [Hs HR]
    · isplitl [Hs]; · iexists gs; iexact Hs
      iexact HR
    isplitl [Hlo]; · iexact Hlo
    iexact Hln
  isplitl [Howes]; · iexact Howes
  isplitl [H0]; · iapply (owns_of_whole c (m := spec2_0.stage ((cfg2 (adm 1)).slots t 0)) (hstage2_0 (((cfg2 (adm 1)).slots t 0).cast nbuf2_0)) h0) $$ H0
  isplitl [H1]; · iapply (owns_of_whole c (m := spec2_1.stage ((cfg2 (adm 1)).slots t 1)) (hstage2_1 (((cfg2 (adm 1)).slots t 1).cast nbuf2_1)) h1) $$ H1
  isplitl [H2]; · iapply (owns_of_whole c (m := spec2_2.stage ((cfg2 (adm 1)).slots t 2)) (hstage2_2 (((cfg2 (adm 1)).slots t 2).cast nbuf2_2)) h2) $$ H2
  isplitl [H3]; · iapply (owns_of_whole c (m := spec2_3.stage ((cfg2 (adm 1)).slots t 3)) (hstage2_3 (((cfg2 (adm 1)).slots t 3).cast nbuf2_3)) h3) $$ H3
  isplitl [H4]; · iapply (owns_of_whole c (m := spec2_4.stage ((cfg2 (adm 1)).slots t 4)) (hstage2_4 (((cfg2 (adm 1)).slots t 4).cast nbuf2_4)) h4) $$ H4
  iapply (owns_of_whole c (m := spec2_5.stage ((cfg2 (adm 1)).slots t 5)) (hstage2_5 (((cfg2 (adm 1)).slots t 5).cast nbuf2_5)) hg) $$ H5

/-! ## What the result array holds after the region -/

theorem ixS : ∀ i : grid2.Coords, cc2_transform_5 i = ![(i 0).val, 0, 0] := by decide +kernel

theorem coverS : ((cfg2 (adm 1)).win 5).Covers :=
  (by decide +kernel : ((cfg2 (F := Ideal) ⟨fun _ _ => Classical.arbitrary _, trivial⟩).win 5).Covers)

theorem arr_s (c : Dev nD) : (datB adm E W b X Y S₀ c).arrAt 5 (cfg2 (adm 1)).N = sVal E (lo₁ adm) (ln₁ adm) W b X Y := by
  refine (datB adm E W b X Y S₀ c).arrAt_eq_of_covers 5 _ (coverS adm) fun t _ (y : S1x2048x16.Idx) => ?_
  have hi := ixS (grid2.coords t)
  have e0 := congrFun hi 0
  have e1 := congrFun hi 1
  have e2 := congrFun hi 2
  have hy : (y 0).val < 1 := (y 0).isLt
  have hy' : y = ValueIdx.ix3 (0 : Fin 1) (y 1) (y 2) := (ValueIdx.eq_ix3 y).trans (by congr 1; exact Fin.ext (by show (y 0).val = 0; omega))
  have he : (((cfg2 (adm 1)).win 5).blk t).view.emb y = (ValueIdx.ix3 (grid2.coords t 0) (y 1) (y 2) : S4x2048x16.Idx) := by
    refine (ValueIdx.eq_ix3 _).trans ?_
    congr 1 <;> refine Fin.ext ?_
    · show cc2_transform_5 (grid2.coords t) 0 * 1 + 1 * (y 0).val = (grid2.coords t 0).val
      rw [e0]; show (grid2.coords t 0).val * 1 + 1 * (y 0).val = _; omega
    · show cc2_transform_5 (grid2.coords t) 1 * 2048 + 1 * (y 1).val = (y 1).val
      rw [e1]; show 0 * 2048 + 1 * (y 1).val = _; omega
    · show cc2_transform_5 (grid2.coords t) 2 * 16 + 1 * (y 2).val = (y 2).val
      rw [e2]; show 0 * 16 + 1 * (y 2).val = _; omega
  refine Eq.trans ?_ (congrArg (sVal E (lo₁ adm) (ln₁ adm) W b X Y) he).symm
  show pairs (grid2.coords t 0) (poolB E (lo₁ adm) (ln₁ adm) (dn (grid2.coords t 0))) W b X Y y = pairs (grid2.coords t 0) (poolB E (lo₁ adm) (ln₁ adm) (dn (grid2.coords t 0))) W b X Y (ValueIdx.ix3 (0 : Fin 1) (y 1) (y 2))
  exact congrArg _ hy'

/-! ## The region -/

/-- The six arrays of the second call, held whole. -/
abbrev arraysB (c : Dev nD) (S : S4x2048x16.Idx → Elt F .f32) : sProp (MM F) :=
  iprop((eLoc c ↦{fullShare} E) ∗ (wLoc c ↦{fullShare} W) ∗ (bLoc c ↦{fullShare} b) ∗ (hsLoc c ↦{fullShare} X) ∗ (tsLoc c ↦{fullShare} Y) ∗ (sLoc c ↦{fullShare} S))

/-- The tables, held whole. -/
abbrev tablesB (c : Dev nD) : sProp (MM F) := iprop((loLoc c ↦{fullShare} lo₁ adm) ∗ (lnLoc c ↦{fullShare} ln₁ adm))

theorem tables_outB (c : Dev nD) : Pipeline.tablesAt (pcfgs (F := F)) adm 1 c ⊢ tablesB adm c := by
  rw [tables_eqB]

theorem arrays_datB (c : Dev nD) (G : (w : Fin 6) → Buf (Elt F) ((spec2 w).arr.view.loc (SparseCore.T c))) :
    ((datB adm E W b X Y S₀ c).arrays G : sProp (MM F))
      = iprop((eLoc c ↦{fullShare} G 0) ∗ (wLoc c ↦{fullShare} G 1) ∗ (bLoc c ↦{fullShare} G 2) ∗ (hsLoc c ↦{fullShare} G 3) ∗ (tsLoc c ↦{fullShare} G 4) ∗ (sLoc c ↦{fullShare} G 5)) := by
  refine (Pipeline.arrays_eq (Pipeline.pin (pcfgs (F := F)) adm) (pdatsB adm E W b X Y S₀) 1 c arr_whole2 (fun w => ?_) G).trans (bigSep_W2 _)
  fin_cases w <;> rfl

theorem arrays_endB (c : Dev nD) :
    ((datB adm E W b X Y S₀ c).arrays ((datB adm E W b X Y S₀ c).arrAt · (cfg2 (adm 1)).N) : sProp (MM F))
      = arraysB E W b X Y c (sVal E (lo₁ adm) (ln₁ adm) W b X Y) := by
  rw [arrays_datB, arr_s, (datB adm E W b X Y S₀ c).arrAt_in 0 rfl, (datB adm E W b X Y S₀ c).arrAt_in 1 rfl,
    (datB adm E W b X Y S₀ c).arrAt_in 2 rfl, (datB adm E W b X Y S₀ c).arrAt_in 3 rfl, (datB adm E W b X Y S₀ c).arrAt_in 4 rfl]
  rfl

set_option backward.isDefEq.respectTransparency.types false in
/-- The second call, from its arrays and tables to the lower batches' scores. -/
def segB (hlo : ∀ y, (lo₁ adm y).toNat < 2016) :
    Pipeline.RegionSeg (pcfgs (F := F)) adm (pdatsB adm E W b X Y S₀) none defs₀ 𝒱₀ (K (F := F)).L (K (F := F)).lev 1 where
  win := (launch2 (F := F)).win.to₀
  block_pos := (launch2 (F := F)).block_pos
  stage_whole := (launch2 (F := F)).stage_whole
  K := PEmpty
  osem k := k.elim
  ho := Pipeline.OwnSemFacts.none _
  hbody c := (bodyB adm E W b X Y S₀ hlo c).loose
  hwaits c := Pipeline.cellsWaits_intro _ _ _ _ _ fun w s t => (K (F := F)).mayWait_none _ (Otc_none c 1)
  pre c := iprop(arraysB E W b X Y c S₀ ∗ tablesB adm c ∗ owing (F := F) c 1)
  post c := iprop(arraysB E W b X Y c (sVal E (lo₁ adm) (ln₁ adm) W b X Y) ∗ tablesB adm c ∗ owing (F := F) c 1)
  X _ := BI.emp
  Y c := Pipeline.tablesAt (pcfgs (F := F)) adm 1 c
  Z _ := BI.emp
  hentry c := by
    show iprop(iprop(arraysB E W b X Y c S₀ ∗ tablesB adm c ∗ owing (F := F) c 1) ∗ _ ∗ _) ⊢ _
    rw [Pipeline.ownSems0_none]
    iintro ⟨⟨Ha, Ht, HO⟩, -, -⟩
    imodintro
    isplitl [Ha]; · rw [show (pdatsB adm E W b X Y S₀ 1 c).arrays _ = _ from arrays_datB adm E W b X Y S₀ c _]; iexact Ha
    isplitl [Ht]; · rw [show Pipeline.prefHeld _ _ _ _ = _ from tables_eqB adm c]; iexact Ht
    isplitl [HO]; · iapply (owes_in c 1 (datB adm E W b X Y S₀ c) 0 rfl rfl) $$ HO
    isplitl <;> iempintro
  hin c := by
    show _ ⊢ iprop(Pipeline.scopedRest spec2 c ∗ Pipeline.tablesAt (pcfgs (F := F)) adm 1 c)
    iintro ⟨-, Ht, Hr⟩
    isplitl [Hr] <;> iassumption
  hout c := by
    show iprop(Pipeline.scopedRest spec2 c ∗ Pipeline.tablesAt (pcfgs (F := F)) adm 1 c) ⊢ _
    rw [Pipeline.ownSems0_none]
    iintro ⟨Hr, Ht⟩
    isplitl [Ht]; · iexact Ht
    isplitr; · iempintro
    iexact Hr
  hexit c := by
    iintro ⟨Ha, HO, Ht, -⟩
    imodintro
    isplitl [Ha]
    · iapply (show (pdatsB adm E W b X Y S₀ 1 c).arrays ((pdatsB adm E W b X Y S₀ 1 c).arrAt · (Pipeline.pin (pcfgs (F := F)) adm 1).N) ⊢ _ from
        (arrays_endB adm E W b X Y S₀ c).le) $$ Ha
    isplitl [Ht]; · iapply (tables_outB adm c) $$ Ht
    iapply (show (pdatsB adm E W b X Y S₀ 1 c).owesAt none (Fin.last _) ⊢ owing (F := F) c 1 from
      owes_out c 1 (datB adm E W b X Y S₀ c) (Fin.last _) rfl rfl) $$ HO

end Cert.KernelIdeal.Region

end
-- ==== Proof.KernelIdealRowRule.lean ====
/- What a SparseCore tile's rows compute: a row of the block is the sum of the row of one table its head names and the row
   of the other its tail names. The rule for one row, for a list of rows, and for a trip. -/
module

public import proofs.«01_k».proof.Proof.KernelIdealBase
public import Idealize.ShloMosaic.Lib.ValueIdxCore
public import Idealize.ShloMosaic.Lib.ValueLayout

@[expose] public section

noncomputable section

namespace Cert.KernelIdeal.Rows

open Cert.KernelIdeal.Gen Cert.KernelIdeal.Base
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A word as a row of a table of sixty-four rows. -/
def fin64 (w : BitVec 32) : Fin 64 := ⟨w.toNat % 64, Nat.mod_lt _ (by decide)⟩

/-- The sum of row `p` of `H` and row `q` of `T`. -/
def sumRow (H T : S64x16.Idx → Elt F .f32) (p q : BitVec 32) : FVec F S16 .f32 :=
  addf (fun k => H (ValueIdx.ix2 (fin64 p) (k 0)) : FVec F S16 .f32) (fun k => T (ValueIdx.ix2 (fin64 q) (k 0)))

/-- The block a tile makes, from the two tables and its two lists of row numbers. -/
def block (H T : S64x16.Idx → Elt F .f32) (P Q : S256.Idx → BitVec 32) : S256x16.Idx → Elt F .f32 :=
  fun y => sumRow H T (P (ix1 (y 0))) (Q (ix1 (y 0))) (ix1 (y 1))

variable {c : Fin τ.nSC} {s : Fin τ.nSub}

theorem chk1_of {w : BitVec 32} (h : w.toNat < 64) : k1_chk1 w := by
  intro a
  have e : (Scalar.indexCast w).toNat = w.toNat := rfl
  fin_cases a
  · show (Scalar.indexCast w).toNat + 1 ≤ 64; omega
  · show 0 + 16 ≤ 16; omega
theorem chk2_of {w : BitVec 32} (h : w.toNat < 64) : k1_chk2 w := chk1_of h

/-- A row loaded off a table. -/
theorem read_row (v : Memref sig .scVector .vmem S64x16 .f32) (f : v.view.ty.Contents (Elt F)) (w : BitVec 32) (h : w.toNat < 64) (hk : ∀ a, k1_off4 w a + S1x16.size a ≤ S64x16.size a) (k : Fin 16) :
    shapeCast S16 (v.view.readAt (Elt F) (Rect.unit (s := S64x16) (k1_off4 w) S1x16.size hk).toLoadRect f : Vec F S1x16 .f32) shapeCasts_S1x16_S16 (ix1 k)
      = v.view.read (Elt F) f (ValueIdx.ix2 (fin64 w) k) := by
  refine (shapeCast_apply _ _ (ix1 k) (ValueIdx.ix2 (0 : Fin 1) k : S1x16.Idx) ?_).trans ?_
  · rw [Shape.rowMajor_val_one, Shape.rowMajor_val_two]; simp
  · refine congrArg (v.view.read (Elt F) f) ?_
    have e : (Scalar.indexCast w).toNat = w.toNat := rfl
    refine (eq_ix2 _).trans (congrArg₂ ValueIdx.ix2 (Fin.ext ?_) (Fin.ext ?_))
    · show (Scalar.indexCast w).toNat + 1 * 0 = w.toNat % 64; omega
    · show 0 + 1 * k.val = k.val; omega

theorem pay3_eq (hv tv : Memref sig .scVector .vmem S64x16 .f32) (fh : hv.view.ty.Contents (Elt F)) (ft : tv.view.ty.Contents (Elt F))
    (p q : BitVec 32) (hp : p.toNat < 64) (hq : q.toNat < 64) (h1 : k1_chk1 p) (h2 : k1_chk2 q) :
    k1_pay3 (hv.view.readAt (Elt F) (Rect.unit (s := S64x16) (k1_off4 p) S1x16.size (k1_off4_inb p h1)).toLoadRect fh)
        (tv.view.readAt (Elt F) (Rect.unit (s := S64x16) (k1_off5 q) S1x16.size (k1_off5_inb q h2)).toLoadRect ft)
      = sumRow (hv.view.read (Elt F) fh) (tv.view.read (Elt F) ft) p q := by
  funext k
  unfold k1_pay3 sumRow
  rw [show k = ix1 (k 0) from eq_ix1 k]
  exact congrArg₂ FloatOps.addf (read_row hv fh p hp _ (k 0)) (read_row tv ft q hq _ (k 0))

variable (d : Dev nD) (hv tv : Memref sig .scVector .vmem S64x16 .f32) (out : Memref sig .scVector .vmem S256x16 .f32)

/-- What the row's store leaves, read through the block. -/
theorem read_store (t : Fin k1_t1_loop.trips) {j : Nat} (hj : j < 16) (fo : out.view.ty.Contents (Elt F)) (w : FVec F S16 .f32) (y : S256x16.Idx) :
    out.view.read (Elt F) ((out.access (Rect.unit (s := S256x16) (rowOff t j) S1x16.size (rowOff_inb t hj))).write (Elt F) fo (shapeCast S1x16 w shapeCasts_S16_S1x16) Finset.univ) y
      = if (y 0).val = 16 * t.val + j then w (ix1 (y 1)) else out.view.read (Elt F) fo y := by
  split
  · next h =>
    have hy : (y 1).val < 16 := (y 1).isLt
    have e : y = (Rect.unit (s := S256x16) (rowOff t j) S1x16.size (rowOff_inb t hj)).emb (ValueIdx.ix2 (0 : Fin 1) (y 1 : Fin 16) : S1x16.Idx) := by
      funext a
      refine Fin.ext ?_
      fin_cases a
      · exact h.trans ((rowOff_zero t hj).symm.trans (Nat.add_zero _).symm)
      · exact (show (y 1).val = 0 + 1 * (y 1).val by omega)
    refine ((congrArg (out.view.read (Elt F) _) e).trans (View.read_slice_write_emb (v := out.view) _ fo _ (Finset.mem_univ _))).trans ?_
    refine shapeCast_apply _ _ (ValueIdx.ix2 (0 : Fin 1) (y 1 : Fin 16) : S1x16.Idx) (ix1 (y 1 : Fin 16)) ?_
    rw [Shape.rowMajor_val_one, Shape.rowMajor_val_two]; simp
  · next h =>
    refine View.read_slice_write_of_not_mem (v := out.view) _ fo _ _ fun hm => h ?_
    obtain ⟨x, -, rfl⟩ := Finset.mem_map.mp hm
    have hx : (x 0).val < 1 := (x 0).isLt
    have e : ((Rect.unit (s := S256x16) (rowOff t j) S1x16.size (rowOff_inb t hj)).emb x 0).val = rowOff t j 0 + 1 * (x 0).val := rfl
    rw [e, rowOff_zero t hj]; omega

abbrev thr (d : Dev nD) (c : Fin τ.nSC) (s : Fin τ.nSub) : Thread nD τ := SparseCore.V d c s

/-- One row. -/
theorem wp_gatherRow {α : Type} {t : Fin k1_t1_loop.trips} {hd tl : Vec F S16 .i32} {j : Nat} {hj : j < 16} {k : TileProg F c s α} {Q : α → sProp (MM F)}
    (fh : Buf (Elt F) (hv.view.loc (thr d c s))) (ft : Buf (Elt F) (tv.view.loc (thr d c s))) (fo : Buf (Elt F) (out.view.loc (thr d c s)))
    (hp : (lane hd j hj).toNat < 64) (hq : (lane tl j hj).toNat < 64) :
    iprop((hv.view.loc (thr d c s) ↦{fullShare} fh) ∗ (tv.view.loc (thr d c s) ↦{fullShare} ft) ∗ (out.view.loc (thr d c s) ↦{fullShare} fo)
        ∗ (∀ fo', ⌜∀ y, out.view.read (Elt F) fo' y = if (y 0).val = 16 * t.val + j then sumRow (hv.view.read (Elt F) fh) (tv.view.read (Elt F) ft) (lane hd j hj) (lane tl j hj) (ix1 (y 1)) else out.view.read (Elt F) fo y⌝
            -∗ (hv.view.loc (thr d c s) ↦{fullShare} fh) -∗ (tv.view.loc (thr d c s) ↦{fullShare} ft) -∗ (out.view.loc (thr d c s) ↦{fullShare} fo')
            -∗ wp frame (wpE (defs₀ (F := F)) 𝒱₀ (thr d c s) none) Set.univ k Q))
      ⊢ wp frame (wpE (defs₀ (F := F)) 𝒱₀ (thr d c s) none) Set.univ (gatherRow hv tv out t hd tl j hj k) Q := by
  unfold gatherRow
  iintro ⟨Hh, Ht, Ho, Hk⟩
  iapply (wp_assume 𝒱₀ (thr d c s) none Set.univ (chk1_of hp))
  iapply (wp_load 𝒱₀ (thr d c s) none Set.univ (m := hv) (Finset.subset_univ _)) $$ Hh
  iintro Hh
  iapply (wp_assume 𝒱₀ (thr d c s) none Set.univ (chk2_of hq))
  iapply (wp_load 𝒱₀ (thr d c s) none Set.univ (m := tv) (Finset.subset_univ _)) $$ Ht
  iintro Ht
  iapply (wp_load 𝒱₀ (thr d c s) none Set.univ (m := out) (Finset.subset_univ _)) $$ Ho
  iintro Ho
  iapply (wp_store 𝒱₀ (thr d c s) none Set.univ (m := out) (r := Rect.unit (s := S256x16) (rowOff t j) S1x16.size (rowOff_inb t hj)) (S := Finset.univ) (f := fo) (Finset.subset_univ _)) $$ Ho
  iintro Ho
  rw [pay3_eq hv tv fh ft _ _ hp hq (chk1_of hp) (chk2_of hq)]
  iapply Hk $$ [] Hh Ht Ho
  ipureintro
  exact read_store out t hj fo _

/-- Rows made in the order of a list with no repeats: those of the list hold their sums, the others what they held. -/
theorem wp_gatherRows {α : Type} {t : Fin k1_t1_loop.trips} {hd tl : Vec F S16 .i32} {k : TileProg F c s α} {Q : α → sProp (MM F)}
    (fh : Buf (Elt F) (hv.view.loc (thr d c s))) (ft : Buf (Elt F) (tv.view.loc (thr d c s)))
    (hp : ∀ j hj, (lane hd j hj).toNat < 64) (hq : ∀ j hj, (lane tl j hj).toNat < 64) (js : List (Fin 16)) (fo : Buf (Elt F) (out.view.loc (thr d c s))) :
    iprop((hv.view.loc (thr d c s) ↦{fullShare} fh) ∗ (tv.view.loc (thr d c s) ↦{fullShare} ft) ∗ (out.view.loc (thr d c s) ↦{fullShare} fo)
        ∗ (∀ fo', ⌜∀ y, (∀ j ∈ js, (y 0).val = 16 * t.val + j.val → out.view.read (Elt F) fo' y = sumRow (hv.view.read (Elt F) fh) (tv.view.read (Elt F) ft) (lane hd j.val j.isLt) (lane tl j.val j.isLt) (ix1 (y 1)))
              ∧ ((∀ j ∈ js, (y 0).val ≠ 16 * t.val + j.val) → out.view.read (Elt F) fo' y = out.view.read (Elt F) fo y)⌝
            -∗ (hv.view.loc (thr d c s) ↦{fullShare} fh) -∗ (tv.view.loc (thr d c s) ↦{fullShare} ft) -∗ (out.view.loc (thr d c s) ↦{fullShare} fo')
            -∗ wp frame (wpE (defs₀ (F := F)) 𝒱₀ (thr d c s) none) Set.univ k Q))
      ⊢ wp frame (wpE (defs₀ (F := F)) 𝒱₀ (thr d c s) none) Set.univ (gatherRows hv tv out t hd tl js k) Q := by
  induction js generalizing fo with
  | nil =>
    unfold gatherRows
    iintro ⟨Hh, Ht, Ho, Hk⟩
    iapply Hk $$ [] Hh Ht Ho
    ipureintro
    exact fun y => ⟨fun j hj => absurd hj List.not_mem_nil, fun _ => rfl⟩
  | cons j js ih =>
    unfold gatherRows
    iintro ⟨Hh, Ht, Ho, Hk⟩
    iapply (wp_gatherRow d hv tv out fh ft fo (hp j.val j.isLt) (hq j.val j.isLt))
    isplitl [Hh]
    · iexact Hh
    isplitl [Ht]
    · iexact Ht
    isplitl [Ho]
    · iexact Ho
    iintro %f1 %h1 Hh Ht Ho
    iapply (ih f1)
    isplitl [Hh]
    · iexact Hh
    isplitl [Ht]
    · iexact Ht
    isplitl [Ho]
    · iexact Ho
    iintro %f2 %h2 Hh Ht Ho
    iapply Hk $$ [] Hh Ht Ho
    ipureintro
    intro y
    refine ⟨fun i hi e => ?_, fun hn => ?_⟩
    · by_cases hm : i ∈ js
      · exact (h2 y).1 i hm e
      · obtain rfl : i = j := (List.mem_cons.mp hi).resolve_right hm
        rw [(h2 y).2 fun i' hi' e' => hm ((Fin.ext (by omega) : i = i') ▸ hi'), h1 y, if_pos e]
    · rw [(h2 y).2 fun i' hi' => hn i' (List.mem_cons_of_mem _ hi'), h1 y, if_neg (hn j List.mem_cons_self)]

/-- Lane `j` of the sixteen row numbers a trip loads. -/
theorem lane_read (v : Memref sig .scVector .vmem S256 .i32) (f : v.view.ty.Contents (Elt F)) (t : Fin k1_t1_loop.trips) (j : Nat) (hj : j < 16) (y : Fin 256) (hy : y.val = 16 * t.val + j) :
    lane (v.view.readAt (Elt F) (Rect.unit (s := S256) (k1_off3 t) S16.size (k1_off3_inb t)).toLoadRect f) j hj = v.view.read (Elt F) f (ix1 y) := by
  refine congrArg (v.view.read (Elt F) f) ?_
  refine (eq_ix1 _).trans (congrArg ix1 (Fin.ext ?_))
  have e : k1_off3 t 0 = 16 * t.val := congrFun (k1_off3_eq t) 0
  show k1_off3 t 0 + 1 * (j + 1 * 0) = y.val
  omega

variable (ih it : Memref sig .scVector .vmem S256 .i32)

/-- What the block's first `n` rows hold. -/
def Done (fh : Buf (Elt F) (hv.view.loc (thr d c s))) (ft : Buf (Elt F) (tv.view.loc (thr d c s))) (fi : Buf (Elt F) (ih.view.loc (thr d c s))) (fj : Buf (Elt F) (it.view.loc (thr d c s)))
    (n : Nat) (fo : Buf (Elt F) (out.view.loc (thr d c s))) : Prop :=
  ∀ y : S256x16.Idx, (y 0).val < 16 * n → out.view.read (Elt F) fo y = block (hv.view.read (Elt F) fh) (tv.view.read (Elt F) ft) (ih.view.read (Elt F) fi) (it.view.read (Elt F) fj) y

/-- One trip: sixteen more rows are done. -/
theorem wp_trip {t : Fin k1_t1_loop.trips} {Q : BitVec 32 → sProp (MM F)}
    (fh : Buf (Elt F) (hv.view.loc (thr d c s))) (ft : Buf (Elt F) (tv.view.loc (thr d c s))) (fi : Buf (Elt F) (ih.view.loc (thr d c s))) (fj : Buf (Elt F) (it.view.loc (thr d c s)))
    (fo : Buf (Elt F) (out.view.loc (thr d c s)))
    (hp : ∀ y, (ih.view.read (Elt F) fi y : BitVec 32).toNat < 64) (hq : ∀ y, (it.view.read (Elt F) fj y : BitVec 32).toNat < 64)
    (hdone : Done d hv tv out ih it fh ft fi fj t.val fo) :
    iprop((hv.view.loc (thr d c s) ↦{fullShare} fh) ∗ (tv.view.loc (thr d c s) ↦{fullShare} ft) ∗ (ih.view.loc (thr d c s) ↦{fullShare} fi) ∗ (it.view.loc (thr d c s) ↦{fullShare} fj)
        ∗ (out.view.loc (thr d c s) ↦{fullShare} fo)
        ∗ (∀ fo', ⌜Done d hv tv out ih it fh ft fi fj (t.val + 1) fo'⌝
            -∗ (hv.view.loc (thr d c s) ↦{fullShare} fh) -∗ (tv.view.loc (thr d c s) ↦{fullShare} ft) -∗ (ih.view.loc (thr d c s) ↦{fullShare} fi) -∗ (it.view.loc (thr d c s) ↦{fullShare} fj)
            -∗ (out.view.loc (thr d c s) ↦{fullShare} fo') -∗ Q 0#32))
      ⊢ wp frame (wpE (defs₀ (F := F)) 𝒱₀ (thr d c s) none) Set.univ (trip hv tv ih it out t) Q := by
  have ht : t.val < 16 := t.isLt
  unfold trip
  iintro ⟨Hh, Ht, Hi, Hj, Ho, Hk⟩
  iapply (wp_load 𝒱₀ (thr d c s) none Set.univ (m := ih) (Finset.subset_univ _)) $$ Hi
  iintro Hi
  iapply (wp_load 𝒱₀ (thr d c s) none Set.univ (m := it) (Finset.subset_univ _)) $$ Hj
  iintro Hj
  have hl : ∀ j (hj : j < 16), _ := fun j hj => lane_read ih fi t j hj ⟨16 * t.val + j, by omega⟩ rfl
  have hl' : ∀ j (hj : j < 16), _ := fun j hj => lane_read it fj t j hj ⟨16 * t.val + j, by omega⟩ rfl
  iapply (wp_gatherRows d hv tv out fh ft (fun j hj => by rw [hl j hj]; exact hp _) (fun j hj => by rw [hl' j hj]; exact hq _) _ fo)
  isplitl [Hh]
  · iexact Hh
  isplitl [Ht]
  · iexact Ht
  isplitl [Ho]
  · iexact Ho
  iintro %f1 %h1 Hh Ht Ho
  rw [show (pure 0#32 : TileProg F c s (BitVec 32)) = .ret 0#32 from rfl]
  simp only [wp_ret]
  imodintro
  iapply Hk $$ [] Hh Ht Hi Hj Ho
  ipureintro
  intro y hy
  by_cases h : (y 0).val < 16 * t.val
  · rw [(h1 y).2 fun j _ e => by omega]; exact hdone y h
  · have e : (y 0).val = 16 * t.val + ((y 0).val - 16 * t.val) := by omega
    refine ((h1 y).1 ⟨(y 0).val - 16 * t.val, by omega⟩ (by generalize (⟨_, _⟩ : Fin 16) = q; revert q; decide) e).trans ?_
    rw [lane_read ih fi t _ _ (y 0) e, lane_read it fj t _ _ (y 0) e]
    rfl

end Cert.KernelIdeal.Rows

end
-- ==== Proof.KernelIdealTile.lean ====
/- One SparseCore tile: it brings a batch's two score tables and a chunk of the two lists of row numbers to its own memory,
   makes the chunk's rows, and copies them to its block of the score array. -/
module

public import proofs.«01_k».proof.Proof.KernelIdealRowRule

@[expose] public section

noncomputable section

namespace Cert.KernelIdeal.Tile

open Cert.KernelIdeal.Gen Cert.KernelIdeal.Base Cert.KernelIdeal.Rows
open Idealize.ShloMosaic Idealize.ShloMosaic.ValueIdx
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (ownSems0 ownCells ownBufs ownRefs mem_ownCells)
open Idealize.ShloMosaic.Tactic

variable {F : FTy → Type} [FloatOps F]

/-- The score of pair `y 1` of batch `y 0`, by the tables and the lists: batch `y 0` of the tables, batch `y 0 + 4` of the lists. -/
def scores (H T : S4x64x16.Idx → Elt F .f32) (P Q : S8x2048.Idx → BitVec 32) : S4x2048x16.Idx → Elt F .f32 :=
  fun y =>
    have hb : (y 0).val + 4 < 8 := by have : (y 0).val < 4 := (y 0).isLt; omega
    sumRow (fun z => H (ix3 (y 0) (z 0) (z 1))) (fun z => T (ix3 (y 0) (z 0) (z 1)))
      (P (ValueIdx.ix2 (⟨(y 0).val + 4, hb⟩ : Fin 8) (y 1))) (Q (ValueIdx.ix2 (⟨(y 0).val + 4, hb⟩ : Fin 8) (y 1))) (ix1 (y 2))

variable (d : Dev nD) (L : grid1.Coords)

abbrev cV (L : grid1.Coords) : Fin τ.nSC := (L 0).castLE hcore1
abbrev jV (L : grid1.Coords) : Fin τ.nSub := (L 1).castLE hsub1

local notation "hW" => (Memref.whole Cert.KernelIdeal.main_v0_0_scv : Memref Cert.KernelIdeal.sig Kind.scVector Space.hbm Cert.KernelIdeal.S4x64x16 EltTy.f32)
local notation "tW" => (Memref.whole Cert.KernelIdeal.main_v0_1_scv : Memref Cert.KernelIdeal.sig Kind.scVector Space.hbm Cert.KernelIdeal.S4x64x16 EltTy.f32)
local notation "pW" => (Memref.whole Cert.KernelIdeal.main_arg3_scv : Memref Cert.KernelIdeal.sig Kind.scVector Space.hbm Cert.KernelIdeal.S8x2048 EltTy.i32)
local notation "qW" => (Memref.whole Cert.KernelIdeal.main_arg4_scv : Memref Cert.KernelIdeal.sig Kind.scVector Space.hbm Cert.KernelIdeal.S8x2048 EltTy.i32)
local notation "gW" => (Memref.whole Cert.KernelIdeal.main_v1_scv : Memref Cert.KernelIdeal.sig Kind.scVector Space.hbm Cert.KernelIdeal.S4x2048x16 EltTy.f32)
local notation "s0" => (Memref.whole Cert.KernelIdeal.cc1_scratch0 : Memref Cert.KernelIdeal.sig Kind.scVector Space.vmem Cert.KernelIdeal.S64x16 EltTy.f32)
local notation "s1" => (Memref.whole Cert.KernelIdeal.cc1_scratch1 : Memref Cert.KernelIdeal.sig Kind.scVector Space.vmem Cert.KernelIdeal.S64x16 EltTy.f32)
local notation "s2" => (Memref.whole Cert.KernelIdeal.cc1_scratch2 : Memref Cert.KernelIdeal.sig Kind.scVector Space.vmem Cert.KernelIdeal.S256 EltTy.i32)
local notation "s3" => (Memref.whole Cert.KernelIdeal.cc1_scratch3 : Memref Cert.KernelIdeal.sig Kind.scVector Space.vmem Cert.KernelIdeal.S256 EltTy.i32)
local notation "s4" => (Memref.whole Cert.KernelIdeal.cc1_scratch4 : Memref Cert.KernelIdeal.sig Kind.scVector Space.vmem Cert.KernelIdeal.S256x16 EltTy.f32)

/-- The tile's block of the score array, as it addresses it, and which elements that is. -/
abbrev blkRect (L : grid1.Coords) : Rect S4x2048x16 := Rect.unit (s := S4x2048x16) (k1_off52 L) S1x256x16.size (k1_off52_inb L)
abbrev blkK (L : grid1.Coords) : Memref sig .scVector .hbm S256x16 .f32 := ((gW).slice (blkRect L) (fun _ => rfl)).squeeze S256x16 squeezes_S1x256x16_S256x16
abbrev blkSet (L : grid1.Coords) : Finset S4x2048x16.Idx := (blkRect L).set

theorem set_blkK : (blkK L).view.set = blkSet L := by
  show (((gW).view.slice (blkRect L)).reshape S256x16 squeezes_S1x256x16_S256x16.numel_eq).set = _
  rw [View.set_reshape]
  show ((View.whole (main_v1_scv : Ref sig .scVector)).slice (blkRect L)).set = _
  rw [View.set_slice]; exact Finset.map_refl

/-- What a tile is handed: read shares of the two tables and the two lists, and its block of the score array. -/
def tileIn (q : PosShare TreeShare) (H : Buf (Elt F) (hLoc d)) (T : Buf (Elt F) (tLoc d)) (P : Buf (Elt F) (hdLoc d)) (Q : Buf (Elt F) (tlLoc d)) (G : Buf (Elt F) (gLoc d)) : sProp (MM F) :=
  iprop((hLoc d ↦{q} H) ∗ (tLoc d ↦{q} T) ∗ (hdLoc d ↦{q} P) ∗ (tlLoc d ↦{q} Q) ∗ (gLoc d ↦[blkSet L]{fullShare} G))

abbrev cell (s : DmaSems sig S_) (d : Dev nD) (c : Fin τ.nSC) (i : Fin τ.nSub) : GSem nD τ sig := (V d c i, .dma s.sem)

theorem ownSems0_tile :
    (ownSems0 (V d (cV L) (jV L)) : sProp (MM F))
      = iprop(semVal (cell cc1_scratch5 d (cV L) (jV L)) 0 ∗ semVal (cell cc1_scratch6 d (cV L) (jV L)) 0 ∗ semVal (cell cc1_scratch7 d (cV L) (jV L)) 0
          ∗ semVal (cell cc1_scratch8 d (cV L) (jV L)) 0 ∗ semVal (cell cc1_scoped0 d (cV L) (jV L)) 0
          ∗ bigSep ((((((ownCells (V d (cV L) (jV L))).erase (cell cc1_scratch5 d (cV L) (jV L))).erase (cell cc1_scratch6 d (cV L) (jV L))).erase (cell cc1_scratch7 d (cV L) (jV L))).erase
              (cell cc1_scratch8 d (cV L) (jV L))).erase (cell cc1_scoped0 d (cV L) (jV L))) fun g => semVal g 0) := by
  have mem : ∀ s : DmaSems sig S_, (SemLoc.dma s.sem : SemLoc sig).isScoped .scVector = true → cell s d (cV L) (jV L) ∈ ownCells (V d (cV L) (jV L)) :=
    fun s h => (mem_ownCells (g := cell s d (cV L) (jV L))).mpr ⟨rfl, h⟩
  have ne : ∀ s s' : DmaSems sig S_, s.sem ≠ s'.sem → cell s d (cV L) (jV L) ≠ cell s' d (cV L) (jV L) :=
    fun s s' h e => h (SemLoc.dma.inj (Prod.mk.inj e).2)
  unfold SparseCore.Cfg.ownSems0
  rw [SparseCore.bigSep_erase' (mem cc1_scratch5 (by decide)),
    SparseCore.bigSep_erase' (Finset.mem_erase.mpr ⟨ne cc1_scratch6 cc1_scratch5 (by decide), mem cc1_scratch6 (by decide)⟩),
    SparseCore.bigSep_erase' (Finset.mem_erase.mpr ⟨ne cc1_scratch7 cc1_scratch6 (by decide), Finset.mem_erase.mpr ⟨ne cc1_scratch7 cc1_scratch5 (by decide), mem cc1_scratch7 (by decide)⟩⟩),
    SparseCore.bigSep_erase' (Finset.mem_erase.mpr ⟨ne cc1_scratch8 cc1_scratch7 (by decide), Finset.mem_erase.mpr ⟨ne cc1_scratch8 cc1_scratch6 (by decide),
      Finset.mem_erase.mpr ⟨ne cc1_scratch8 cc1_scratch5 (by decide), mem cc1_scratch8 (by decide)⟩⟩⟩),
    SparseCore.bigSep_erase' (Finset.mem_erase.mpr ⟨ne cc1_scoped0 cc1_scratch8 (by decide), Finset.mem_erase.mpr ⟨ne cc1_scoped0 cc1_scratch7 (by decide),
      Finset.mem_erase.mpr ⟨ne cc1_scoped0 cc1_scratch6 (by decide), Finset.mem_erase.mpr ⟨ne cc1_scoped0 cc1_scratch5 (by decide), mem cc1_scoped0 (by decide)⟩⟩⟩⟩)]

theorem ownBufs_tile :
    (ownBufs (V d (cV L) (jV L)) : sProp (MM F))
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ (∃ f, (V d (cV L) (jV L)).loc cc1_scratch4 ↦{fullShare} f)
          ∗ bigSep ((((((ownRefs (τ := τ) (.scVector (cV L) (jV L))).erase ((Proc.scVector (cV L) (jV L)).devRef cc1_scratch0)).erase ((Proc.scVector (cV L) (jV L)).devRef cc1_scratch1)).erase
              ((Proc.scVector (cV L) (jV L)).devRef cc1_scratch2)).erase ((Proc.scVector (cV L) (jV L)).devRef cc1_scratch3)).erase ((Proc.scVector (cV L) (jV L)).devRef cc1_scratch4))
              fun b => iprop(∃ f, ((d, b) : Loc nD τ sig) ↦{fullShare} f)) := by
  have mem : ∀ r : Ref sig .scVector, ((Proc.scVector (cV L) (jV L)).devRef r).owner = .proc (Proc.scVector (cV L) (jV L)) → (Proc.scVector (cV L) (jV L)).devRef r ∈ ownRefs (τ := τ) (.scVector (cV L) (jV L)) :=
    fun r h => SparseCore.Cfg.mem_ownRefs_of_owner (p := Proc.scVector (cV L) (jV L)) (b := (Proc.scVector (cV L) (jV L)).devRef r) h
  have ne : ∀ r r' : Ref sig .scVector, r ≠ r' → (Proc.scVector (cV L) (jV L)).devRef r ≠ (Proc.scVector (cV L) (jV L)).devRef r' := fun r r' h e => h (Proc.devRef_injective _ e)
  unfold SparseCore.Cfg.ownBufs
  refine (SparseCore.bigSep_erase' (mem cc1_scratch0 rfl)).trans ?_
  rw [SparseCore.bigSep_erase' (Finset.mem_erase.mpr ⟨ne cc1_scratch1 cc1_scratch0 (by decide), mem cc1_scratch1 rfl⟩),
    SparseCore.bigSep_erase' (Finset.mem_erase.mpr ⟨ne cc1_scratch2 cc1_scratch1 (by decide), Finset.mem_erase.mpr ⟨ne cc1_scratch2 cc1_scratch0 (by decide), mem cc1_scratch2 rfl⟩⟩),
    SparseCore.bigSep_erase' (Finset.mem_erase.mpr ⟨ne cc1_scratch3 cc1_scratch2 (by decide), Finset.mem_erase.mpr ⟨ne cc1_scratch3 cc1_scratch1 (by decide),
      Finset.mem_erase.mpr ⟨ne cc1_scratch3 cc1_scratch0 (by decide), mem cc1_scratch3 rfl⟩⟩⟩),
    SparseCore.bigSep_erase' (Finset.mem_erase.mpr ⟨ne cc1_scratch4 cc1_scratch3 (by decide), Finset.mem_erase.mpr ⟨ne cc1_scratch4 cc1_scratch2 (by decide),
      Finset.mem_erase.mpr ⟨ne cc1_scratch4 cc1_scratch1 (by decide), Finset.mem_erase.mpr ⟨ne cc1_scratch4 cc1_scratch0 (by decide), mem cc1_scratch4 rfl⟩⟩⟩⟩)]

/-- A batch's table, and a chunk of a list, as the tile's number places them. -/
def tab (L : grid1.Coords) (H : S4x64x16.Idx → Elt F .f32) : S64x16.Idx → Elt F .f32 :=
  fun z => H (ix3 (⟨wid L / 8, by have := wid_lt L; omega⟩ : Fin 4) (z 0) (z 1))
def chunk (L : grid1.Coords) (P : S8x2048.Idx → BitVec 32) : S256.Idx → BitVec 32 :=
  fun z => P (ValueIdx.ix2 (⟨wid L / 8 + 4, by have := wid_lt L; omega⟩ : Fin 8)
    (⟨wid L % 8 * 256 + (z 0).val, by have := wid_lt L; have : (z 0).val < 256 := (z 0).isLt; omega⟩ : Fin 2048))

theorem read_tab (m : Memref sig .scVector .hbm S4x64x16 .f32) (H : m.view.ty.Contents (Elt F)) :
    ((m.slice (Rect.unit (s := S4x64x16) (k1_off1 L) S1x64x16.size (k1_off1_inb L)) (fun _ => rfl)).squeeze S64x16 squeezes_S1x64x16_S64x16).view.read (Elt F) H = tab L (m.view.read (Elt F) H) := by
  funext z
  refine congrArg (m.view.read (Elt F) H) ?_
  refine (congrArg _ ((congrArg (Shape.reshapeEquiv _) (eq_ix2 z)).trans (reshapeEquiv_ix2_1ab _ (z 0) (z 1)))).trans ?_
  have e := off1_eq L
  refine (eq_ix3 _).trans ?_
  congr 1 <;> refine Fin.ext ?_
  · show k1_off1 L 0 + 1 * 0 = wid L / 8; rw [e]; rfl
  · show k1_off1 L 1 + 1 * (z 0).val = (z 0).val; rw [e]; show 0 + 1 * (z 0).val = _; omega
  · show k1_off1 L 2 + 1 * (z 1).val = (z 1).val; rw [e]; show 0 + 1 * (z 1).val = _; omega

/-- A number of a shape of one axis matched with the shape that has a leading axis of one more. -/
theorem reshape_row {a : ℕ} (h : (⟨1, ![a]⟩ : Shape).numel = (⟨2, ![1, a]⟩ : Shape).numel) (x : Fin a) :
    Shape.reshapeEquiv h (ix1 x) = ValueIdx.ix2 (⟨0, Nat.one_pos⟩ : Fin 1) x :=
  Shape.reshapeEquiv_eq_of_rowMajor h (by
    rw [Shape.rowMajor_val_one, Shape.rowMajor_val_two]
    show 0 * a + x.val = x.val
    omega)

theorem read_chunk (m : Memref sig .scVector .hbm S8x2048 .i32) (H : m.view.ty.Contents (Elt F)) :
    ((m.slice (Rect.unit (s := S8x2048) (k1_off2 L) S1x256.size (k1_off2_inb L)) (fun _ => rfl)).squeeze S256 squeezes_S1x256_S256).view.read (Elt F) H = chunk L (m.view.read (Elt F) H) := by
  funext z
  refine congrArg (m.view.read (Elt F) H) ?_
  refine (congrArg _ ((congrArg (Shape.reshapeEquiv _) (eq_ix1 z)).trans (reshape_row _ (z 0)))).trans ?_
  have e := off2_eq L
  refine (eq_ix2 _).trans ?_
  congr 1 <;> refine Fin.ext ?_
  · show k1_off2 L 0 + 1 * 0 = wid L / 8 + 4; rw [e]; rfl
  · show k1_off2 L 1 + 1 * (z 0).val = wid L % 8 * 256 + (z 0).val; rw [e]; show wid L % 8 * 256 + 1 * (z 0).val = _; omega

theorem emb_blkK (x : S256x16.Idx) :
    (blkK L).view.emb x = ix3 (⟨wid L / 8, by have := wid_lt L; omega⟩ : Fin 4)
      (⟨wid L % 8 * 256 + (x 0).val, by have := wid_lt L; have : (x 0).val < 256 := (x 0).isLt; omega⟩ : Fin 2048) (x 1) := by
  refine (show _ = (blkRect L).emb (Shape.reshapeEquiv squeezes_S1x256x16_S256x16.numel_eq x) from rfl).trans ?_
  refine (congrArg _ ((congrArg (Shape.reshapeEquiv _) (eq_ix2 x)).trans (reshapeEquiv_ix2_1ab _ (x 0) (x 1)))).trans ?_
  have e := off52_eq L
  refine (eq_ix3 _).trans ?_
  congr 1 <;> refine Fin.ext ?_
  · show k1_off52 L 0 + 1 * 0 = wid L / 8; rw [e]; rfl
  · show k1_off52 L 1 + 1 * (x 0).val = wid L % 8 * 256 + (x 0).val; rw [e]; show wid L % 8 * 256 + 1 * (x 0).val = _; omega
  · show k1_off52 L 2 + 1 * (x 1).val = (x 1).val; rw [e]; show 0 + 1 * (x 1).val = _; omega

/-- The tile's block once its rows are written there: the scores. -/
theorem blk_value (H : Buf (Elt F) (hLoc d)) (T : Buf (Elt F) (tLoc d)) (P : Buf (Elt F) (hdLoc d)) (Q : Buf (Elt F) (tlLoc d)) (G : Buf (Elt F) (gLoc d)) (w : S256x16.Idx → Elt F .f32)
    (hw : ∀ y, w y = block (tab L H) (tab L T) (chunk L P) (chunk L Q) y) :
    ((blkK L).view.loc (V d (cV L) (jV L)) ↦[(blkK L).view.set]{fullShare} (blkK L).view.writes (Elt F) G [⟨Rect.whole S256x16, w⟩] : sProp (MM F))
      = gLoc d ↦[blkSet L]{fullShare} scores H T P Q := by
  rw [← set_blkK L]
  refine pointsTo_congr fun i hi => ?_
  obtain ⟨x, -, rfl⟩ := Finset.mem_map.mp hi
  refine (View.read_writes_cons_hit (blkK L).view G (Rect.whole S256x16) w [] x x (Rect.emb_whole_apply S256x16 x)).trans ((hw x).trans ?_)
  rw [show scores H T P Q ((blkK L).view.emb x) = _ from congrArg (scores H T P Q) (emb_blkK L x)]
  rfl

/-- The loop's invariant: the first rows of the block are made. -/
def inv (fh : Buf (Elt F) ((s0).view.loc (V d (cV L) (jV L)))) (ft : Buf (Elt F) ((s1).view.loc (V d (cV L) (jV L)))) (fi : Buf (Elt F) ((s2).view.loc (V d (cV L) (jV L)))) (fj : Buf (Elt F) ((s3).view.loc (V d (cV L) (jV L))))
    (n : Nat) (_ : BitVec 32) : sProp (MM F) :=
  iprop(((s0).view.loc (V d (cV L) (jV L)) ↦{fullShare} fh) ∗ ((s1).view.loc (V d (cV L) (jV L)) ↦{fullShare} ft) ∗ ((s2).view.loc (V d (cV L) (jV L)) ↦{fullShare} fi) ∗ ((s3).view.loc (V d (cV L) (jV L)) ↦{fullShare} fj)
    ∗ ∃ fo, ⌜Done d s0 s1 s4 s2 s3 fh ft fi fj n fo⌝ ∗ ((s4).view.loc (V d (cV L) (jV L)) ↦{fullShare} fo))

set_option maxHeartbeats 4000000 in
theorem tile_body (hF : (K (F := F)).Facts) (q : PosShare TreeShare) (H : Buf (Elt F) (hLoc d)) (T : Buf (Elt F) (tLoc d)) (P : Buf (Elt F) (hdLoc d)) (Q : Buf (Elt F) (tlLoc d)) (G : Buf (Elt F) (gLoc d))
    (hP : ∀ y, (P y : BitVec 32).toNat < 64) (hQ : ∀ y, (Q y : BitVec 32).toNat < 64)
    (O : CellTallies nD τ sig (HIx 1)) (W : Waits sig (HIx 1)) (hO : ∀ g, O g none = 0) :
    iprop(levAts (K (F := F)).L (K (F := F)).lev ∗ emp ∗ tileIn d L q H T P Q G
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__pair_gather_kernel L hW (Memref.isWhole_whole _) tW (Memref.isWhole_whole _) pW (Memref.isWhole_whole _) qW (Memref.isWhole_whole _) gW (Memref.isWhole_whole _)
            s0 (Memref.isWhole_whole _) s1 (Memref.isWhole_whole _) s2 (Memref.isWhole_whole _) s3 (Memref.isWhole_whole _) s4 (Memref.isWhole_whole _)
            cc1_scratch5 cc1_scratch6 cc1_scratch7 cc1_scratch8 cc1_scoped0)
          fun _ => iprop(tileIn d L q H T P Q (scores H T P Q)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__pair_gather_kernel_eq_skeleton]; unfold cc1__pair_gather_kernel_skel
  simp only [k1_part7_eq_skeleton, k1_part8_eq_skeleton]; unfold k1_part7_skel k1_part8_skel
  simp only [bind_assoc]
  rw [(K (F := F)).scopedBufs_V hF d (cV L) (jV L), SparseCore.Cfg.scopedSems0_V (Val := Elt F) d (cV L) (jV L), ownSems0_tile, ownBufs_tile]
  unfold tileIn
  iintro ⟨#Hlv, -, ⟨Hh, Ht, Hp, Hq, Hg⟩, ⟨⟨%f0, H0⟩, ⟨%f1, H1⟩, ⟨%f2, H2⟩, ⟨%f3, H3⟩, ⟨%f4, H4⟩, Hbufs⟩, ⟨HA, HB, HC, HD, HE, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hh' := (show (hLoc d ↦{q} H : sProp (MM F)) ⊢ ((hW).view.loc (V d (cV L) (jV L)) ↦{q} H) from .rfl) $$ Hh
  ihave Ht' := (show (tLoc d ↦{q} T : sProp (MM F)) ⊢ ((tW).view.loc (V d (cV L) (jV L)) ↦{q} T) from .rfl) $$ Ht
  ihave Hp' := (show (hdLoc d ↦{q} P : sProp (MM F)) ⊢ ((pW).view.loc (V d (cV L) (jV L)) ↦{q} P) from .rfl) $$ Hp
  ihave Hq' := (show (tlLoc d ↦{q} Q : sProp (MM F)) ⊢ ((qW).view.loc (V d (cV L) (jV L)) ↦{q} Q) from .rfl) $$ Hq
  ihave Hg' := (Entails.of_eq (show (gLoc d ↦[blkSet L]{fullShare} G : sProp (MM F)) = ((blkK L).view.loc (V d (cV L) (jV L)) ↦[(blkK L).view.set]{fullShare} G) by rw [set_blkK])) $$ Hg
  ihave H0' := (show ((V d (cV L) (jV L)).loc cc1_scratch0 ↦{fullShare} f0 : sProp (MM F)) ⊢ ((s0).view.loc (V d (cV L) (jV L)) ↦{fullShare} f0) from .rfl) $$ H0
  ihave H1' := (show ((V d (cV L) (jV L)).loc cc1_scratch1 ↦{fullShare} f1 : sProp (MM F)) ⊢ ((s1).view.loc (V d (cV L) (jV L)) ↦{fullShare} f1) from .rfl) $$ H1
  ihave H2' := (show ((V d (cV L) (jV L)).loc cc1_scratch2 ↦{fullShare} f2 : sProp (MM F)) ⊢ ((s2).view.loc (V d (cV L) (jV L)) ↦{fullShare} f2) from .rfl) $$ H2
  ihave H3' := (show ((V d (cV L) (jV L)).loc cc1_scratch3 ↦{fullShare} f3 : sProp (MM F)) ⊢ ((s3).view.loc (V d (cV L) (jV L)) ↦{fullShare} f3) from .rfl) $$ H3
  ihave H4' := (show ((V d (cV L) (jV L)).loc cc1_scratch4 ↦{fullShare} f4 : sProp (MM F)) ⊢ ((s4).view.loc (V d (cV L) (jV L)) ↦{fullShare} f4) from .rfl) $$ H4
  sl_exec
  have e0 : (s0).view.read (Elt F) (View.write (Elt F) (s0).view f0 (tile_body.sl.dma0 d L H) Finset.univ) = tab L H := (View.read_write_univ (v := (s0).view) f0 _).trans (read_tab L hW H)
  have e1 : (s1).view.read (Elt F) (View.write (Elt F) (s1).view f1 (tile_body.sl.dma0_1 d L T) Finset.univ) = tab L T := (View.read_write_univ (v := (s1).view) f1 _).trans (read_tab L tW T)
  have e2 : (s2).view.read (Elt F) (View.write (Elt F) (s2).view f2 (tile_body.sl.dma0_2 d L P) Finset.univ) = chunk L P := (View.read_write_univ (v := (s2).view) f2 _).trans (read_chunk L pW P)
  have e3 : (s3).view.read (Elt F) (View.write (Elt F) (s3).view f3 (tile_body.sl.dma0_3 d L Q) Finset.univ) = chunk L Q := (View.read_write_univ (v := (s3).view) f3 _).trans (read_chunk L qW Q)
  sl_for (inv d L (View.write (Elt F) (s0).view f0 (tile_body.sl.dma0 d L H) Finset.univ) (View.write (Elt F) (s1).view f1 (tile_body.sl.dma0_1 d L T) Finset.univ)
    (View.write (Elt F) (s2).view f2 (tile_body.sl.dma0_2 d L P) Finset.univ) (View.write (Elt F) (s3).view f3 (tile_body.sl.dma0_3 d L Q) Finset.univ)) $$ [H0' H1' H2' H3' H4']
  case region =>
    intro k acc
    unfold inv
    rw [show tile_body.sl.prog.body_1 (F := F) L k acc = trip s0 s1 s2 s3 s4 k from trip_eq (F := F) L hW _ tW _ pW _ qW _ gW _ s0 _ s1 _ s2 _ s3 _ s4 _ _ _ _ _ _ k acc]
    iintro ⟨H0, H1, H2, H3, %fo, %hd, H4⟩
    iapply (wp_trip d s0 s1 s4 s2 s3 _ _ _ _ fo (by rw [e2]; exact fun y => hP _) (by rw [e3]; exact fun y => hQ _) hd)
    isplitl [H0]; · iexact H0
    isplitl [H1]; · iexact H1
    isplitl [H2]; · iexact H2
    isplitl [H3]; · iexact H3
    isplitl [H4]; · iexact H4
    iintro %fo' %hd' H0 H1 H2 H3 H4
    isplitl [H0]; · iexact H0
    isplitl [H1]; · iexact H1
    isplitl [H2]; · iexact H2
    isplitl [H3]; · iexact H3
    iexists fo'; isplitr
    · ipureintro; exact hd'
    · iexact H4
  · unfold inv
    isplitl [H0']; · iexact H0'
    isplitl [H1']; · iexact H1'
    isplitl [H2']; · iexact H2'
    isplitl [H3']; · iexact H3'
    iexists f4; isplitr
    · ipureintro; exact fun y hy => absurd hy (Nat.not_lt_zero _)
    · iexact H4'
  iintro %_ HI
  unfold inv
  icases HI with ⟨H0, H1, H2, H3, %fo, %hd, H4⟩
  sl_exec
  sl_step
  isplitl [Hh' Ht' Hp' Hq' Hg']
  · isplitl [Hh']; · iexact Hh'
    isplitl [Ht']; · iexact Ht'
    isplitl [Hp']; · iexact Hp'
    isplitl [Hq']; · iexact Hq'
    iapply (Entails.of_eq (blk_value d L H T P Q G _ fun y => (hd y (y 0).isLt).trans (by rw [e0, e1, e2, e3])))
    iexact Hg'
  isplitl [H0 H1 H2 H3 H4 Hbufs]
  · isplitl [H0]; · iexists _; iexact H0
    isplitl [H1]; · iexists _; iexact H1
    isplitl [H2]; · iexists _; iexact H2
    isplitl [H3]; · iexists _; iexact H3
    isplitl [H4]; · iexists _; iexact H4
    iexact Hbufs
  isplitl [HA HB HC HD HE Hsems]
  · isplitl [HA]; · iexact HA
    isplitl [HB]; · iexact HB
    isplitl [HC]; · iexact HC
    isplitl [HD]; · iexact HD
    isplitl [HE]; · iexact HE
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.KernelIdeal.Tile

end
-- ==== Proof.KernelIdealCall.lean ====
/- The SparseCore call as the launch sees it: what its tiles are handed and bring back, and the arrays' split among them. -/
module

public import proofs.«01_k».proof.Proof.KernelIdealTile

@[expose] public section

noncomputable section

namespace Cert.KernelIdeal.Call

open Cert.KernelIdeal.Gen Cert.KernelIdeal.Base Cert.KernelIdeal.Tile
open Idealize.ShloMosaic Idealize.ShloMosaic.ValueIdx
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Thirty-two equal shares -/

/-- One of the two halves of a share. -/
def half (q : PosShare TreeShare) : Fin 2 → PosShare TreeShare
  | 0 => q.left
  | 1 => q.right

/-- Share `i` of the `2 ^ n` that halving `n` times gives: the last half chosen by the parity of `i`. -/
def part : (n : ℕ) → PosShare TreeShare → Fin (2 ^ n) → PosShare TreeShare
  | 0, q, _ => q
  | n + 1, q, i => half (part n q (i.cast (by omega : 2 ^ (n + 1) = 2 ^ n * 2)).divNat) (i.cast (by omega : 2 ^ (n + 1) = 2 ^ n * 2)).modNat

theorem pts_half {ℓ : Loc nD τ sig} (I : Finset (Idx ℓ)) (f : Buf (Elt F) ℓ) (q : PosShare TreeShare) :
    (ℓ ↦[I]{q} f : sProp (MM F)) = bigSep Finset.univ fun i : Fin 2 => ℓ ↦[I]{half q i} f := by
  rw [bigSep_univ_eq_bigSepL [(0 : Fin 2), (1 : Fin 2)] (by decide) (by decide)]
  exact BI.Entails.antisymm (pointsTo_share (PosShare.mem_left_op_right q)).1 (pointsTo_share (PosShare.mem_left_op_right q)).2

/-- An array held at a share is held at all the parts of the share at once. -/
theorem pts_parts {ℓ : Loc nD τ sig} (I : Finset (Idx ℓ)) (f : Buf (Elt F) ℓ) (q : PosShare TreeShare) :
    ∀ n : ℕ, (ℓ ↦[I]{q} f : sProp (MM F)) = bigSep Finset.univ fun i : Fin (2 ^ n) => ℓ ↦[I]{part n q i} f
  | 0 => (bigSep_univ_of_subsingleton (0 : Fin 1) (Φ := fun i : Fin (2 ^ 0) => (ℓ ↦[I]{part 0 q i} f : sProp (MM F)))).symm
  | n + 1 => by
    rw [pts_parts I f q n,
      bigSep_univ_equiv (finProdFinEquiv.trans (finCongr (by omega : 2 ^ n * 2 = 2 ^ (n + 1)))) (fun i : Fin (2 ^ (n + 1)) => (ℓ ↦[I]{part (n + 1) q i} f : sProp (MM F))),
      bigSep_univ_prod]
    refine bigSep_congr fun i _ => (pts_half I f _).trans (bigSep_congr fun j _ => ?_)
    have e := finProdFinEquiv.symm_apply_apply (i, j)
    have e1 : (finProdFinEquiv (i, j)).divNat = i := (Prod.mk.inj e).1
    have e2 : (finProdFinEquiv (i, j)).modNat = j := (Prod.mk.inj e).2
    show _ = (ℓ ↦[I]{half (part n q (finProdFinEquiv (i, j)).divNat) (finProdFinEquiv (i, j)).modNat} f : sProp (MM F))
    rw [e1, e2]

theorem pts_shares {ℓ : Loc nD τ sig} (f : Buf (Elt F) ℓ) :
    (ℓ ↦{fullShare} f : sProp (MM F)) = bigSep Finset.univ fun i : Fin 32 => ℓ ↦{part 5 fullShare i} f :=
  pts_parts Finset.univ f fullShare 5

/-! ## The tiles -/

/-- The tile at core `c` and subcore `s`. -/
def at' (c : Fin 2) (s : Fin 16) : grid1.Coords :=
  fun | 0 => c | 1 => s | ⟨_ + 2, h⟩ => absurd h (Nat.not_lt.2 (Nat.le_add_left _ _))

/-- The tile with number `w`. -/
def tile (w : Fin 32) : grid1.Coords := at' (Fin.modNat (m := 16) (n := 2) w) (Fin.divNat (m := 16) (n := 2) w)

theorem wid_tile (w : Fin 32) : wid (tile w) = w.val := by
  show w.val / 2 * 2 + w.val % 2 = w.val
  omega

theorem mem_blkSet (L : grid1.Coords) (x : S4x2048x16.Idx) : x ∈ blkSet L ↔ wid L = (x 0).val * 8 + (x 1).val / 256 := by
  have hw := wid_lt L
  have h0 : (x 0).val < 4 := (x 0).isLt
  have h1 : (x 1).val < 2048 := (x 1).isLt
  rw [← set_blkK, View.set, Finset.mem_map]
  constructor
  · rintro ⟨y, -, rfl⟩
    have hy : (y 0).val < 256 := (y 0).isLt
    rw [emb_blkK]
    show wid L = wid L / 8 * 8 + (wid L % 8 * 256 + (y 0).val) / 256
    omega
  · intro h
    refine ⟨(ValueIdx.ix2 (⟨(x 1).val % 256, by omega⟩ : Fin 256) (x 2) : S256x16.Idx), Finset.mem_univ _, ?_⟩
    rw [emb_blkK]
    refine Eq.trans ?_ (ValueIdx.eq_ix3 x).symm
    congr 1 <;> refine Fin.ext ?_
    · show wid L / 8 = (x 0).val; omega
    · show wid L % 8 * 256 + (x 1).val % 256 = (x 1).val; omega

theorem blk_disjoint : ∀ w ∈ (Finset.univ : Finset (Fin 32)), ∀ w' ∈ (Finset.univ : Finset (Fin 32)), w ≠ w' → Disjoint (blkSet (tile w)) (blkSet (tile w')) :=
  fun w _ w' _ hne => Finset.disjoint_left.mpr fun x hx hx' => hne (Fin.ext (by
    rw [mem_blkSet, wid_tile] at hx hx'; omega))

theorem blk_cover : (Finset.univ : Finset (Fin 32)).biUnion (fun w => blkSet (tile w)) = Finset.univ :=
  Finset.eq_univ_of_forall fun x => by
    have h0 : (x 0).val < 4 := (x 0).isLt
    have h1 : (x 1).val < 2048 := (x 1).isLt
    refine Finset.mem_biUnion.mpr ⟨⟨(x 0).val * 8 + (x 1).val / 256, by omega⟩, Finset.mem_univ _, ?_⟩
    rw [mem_blkSet, wid_tile]

theorem pts_blocks (d : Dev nD) (G : Buf (Elt F) (gLoc d)) :
    (gLoc d ↦{fullShare} G : sProp (MM F)) = bigSep Finset.univ fun w : Fin 32 => gLoc d ↦[blkSet (tile w)]{fullShare} G := by
  have e := pointsTo_biUnion (ℓ := gLoc d) (q := fullShare) (f := G) (Val := Elt F) (Ix := HIx 1) (Name := ℕ) (U := UU) (Lvl := ℕ)
    (Finset.univ : Finset (Fin 32)) (fun w => (blkSet (tile w) : Finset (Idx (gLoc d)))) blk_disjoint
  exact (congrArg (fun I : Finset (Idx (gLoc d)) => (gLoc d ↦[I]{fullShare} G : sProp (MM F))) blk_cover.symm).trans e

/-- The share of the read arrays that a tile holds. -/
def shr (c : Fin 2) (s : Fin 16) : PosShare TreeShare := part 5 fullShare (finProdFinEquiv (s, c))

variable (d : Dev nD)

/-- The five arrays of the call, held whole. -/
abbrev arraysS (H : Buf (Elt F) (hLoc d)) (T : Buf (Elt F) (tLoc d)) (P : Buf (Elt F) (hdLoc d)) (Q : Buf (Elt F) (tlLoc d)) (G : Buf (Elt F) (gLoc d)) : sProp (MM F) :=
  iprop((hLoc d ↦{fullShare} H) ∗ (tLoc d ↦{fullShare} T) ∗ (hdLoc d ↦{fullShare} P) ∗ (tlLoc d ↦{fullShare} Q) ∗ (gLoc d ↦{fullShare} G))

/-- The call's arrays are its tiles' shares and blocks of them. -/
theorem arraysS_tiles (H : Buf (Elt F) (hLoc d)) (T : Buf (Elt F) (tLoc d)) (P : Buf (Elt F) (hdLoc d)) (Q : Buf (Elt F) (tlLoc d)) (G : Buf (Elt F) (gLoc d)) :
    arraysS d H T P Q G = bigSep Finset.univ fun c : Fin 2 => bigSep Finset.univ fun s : Fin 16 => tileIn d (at' c s) (shr c s) H T P Q G := by
  have e : arraysS d H T P Q G = bigSep Finset.univ fun w : Fin 32 => tileIn d (tile w) (part 5 fullShare w) H T P Q G := by
    unfold tileIn arraysS
    rw [bigSep_sep', bigSep_sep', bigSep_sep', bigSep_sep', ← pts_shares H, ← pts_shares T, ← pts_shares P, ← pts_shares Q, ← pts_blocks]
  rw [e, bigSep_univ_equiv ((Equiv.prodComm (Fin 2) (Fin 16)).trans (finProdFinEquiv (m := 16) (n := 2))) (fun w : Fin 32 => tileIn d (tile w) (part 5 fullShare w) H T P Q G), bigSep_univ_prod]
  refine bigSep_congr fun c _ => bigSep_congr fun s _ => ?_
  have e := (finProdFinEquiv (m := 16) (n := 2)).symm_apply_apply (s, c)
  have e1 : (finProdFinEquiv (m := 16) (n := 2) (s, c)).divNat = s := (Prod.mk.inj e).1
  have e2 : (finProdFinEquiv (m := 16) (n := 2) (s, c)).modNat = c := (Prod.mk.inj e).2
  have et : tile (finProdFinEquiv (m := 16) (n := 2) (s, c)) = at' c s := congrArg₂ at' e2 e1
  show tileIn d (tile (finProdFinEquiv (m := 16) (n := 2) (s, c))) _ H T P Q G = _
  rw [et]
  rfl

/-! ## What the handshakes carry -/

variable (H : (d : Dev nD) → Buf (Elt F) (hLoc d)) (T : (d : Dev nD) → Buf (Elt F) (tLoc d)) (P : (d : Dev nD) → Buf (Elt F) (hdLoc d)) (Q : (d : Dev nD) → Buf (Elt F) (tlLoc d))
variable (G : (d : Dev nD) → Buf (Elt F) (gLoc d))

/-- A tile's holdings, before and after its task. -/
abbrev given (d : Dev nD) (c : Fin 2) (s : Fin 16) : sProp (MM F) := tileIn d (at' c s) (shr c s) (H d) (T d) (P d) (Q d) (G d)
abbrev back (d : Dev nD) (c : Fin 2) (s : Fin 16) : sProp (MM F) := tileIn d (at' c s) (shr c s) (H d) (T d) (P d) (Q d) (scores (H d) (T d) (P d) (Q d))

instance given_storable (d : Dev nD) (c : Fin 2) (s : Fin 16) : BI.Storable (upEmb : UEmb _ (MM F)) (given H T P Q G d c s) := by
  unfold given tileIn; infer_instance
instance back_storable (d : Dev nD) (c : Fin 2) (s : Fin 16) : BI.Storable (upEmb : UEmb _ (MM F)) (back H T P Q d c s) := by
  unfold back tileIn; infer_instance

/-- Each core's sequencer is handed what its tiles are to hold, and each tile its own. -/
def pay : (K (F := F)).Pay (nD := nD) (Val := Elt F) (Name := ℕ) (U := UU) where
  st := fun q d c => match q with | 0 => bigSep Finset.univ fun s : Fin 16 => given H T P Q G d (Fin.cast nCore_zero c) s
  dn := fun q d c => match q with | 0 => bigSep Finset.univ fun s : Fin 16 => back H T P Q d (Fin.cast nCore_zero c) s
  go := fun q d c s => match q with | 0 => given H T P Q G d (Fin.cast nCore_zero c) (Fin.cast nSub_zero s)
  td := fun q d c s => match q with | 0 => back H T P Q d (Fin.cast nCore_zero c) (Fin.cast nSub_zero s)
  x := fun _ _ => iprop(emp)

instance pay_storable : (pay H T P Q G).IsStorable where
  st q d c := match q with
    | 0 => (inferInstance : BI.Storable (upEmb : UEmb _ (MM F)) (bigSep Finset.univ fun s : Fin 16 => given H T P Q G d (Fin.cast nCore_zero c) s))
  dn q d c := match q with
    | 0 => (inferInstance : BI.Storable (upEmb : UEmb _ (MM F)) (bigSep Finset.univ fun s : Fin 16 => back H T P Q d (Fin.cast nCore_zero c) s))
  go q d c s := match q with
    | 0 => given_storable H T P Q G d (Fin.cast nCore_zero c) (Fin.cast nSub_zero s)
  td q d c s := match q with
    | 0 => back_storable H T P Q d (Fin.cast nCore_zero c) (Fin.cast nSub_zero s)

theorem vecSplit : (K (F := F)).VecSplit' (pay H T P Q G) 0 := by
  intro d c
  show (bigSep Finset.univ fun s : Fin 16 => given H T P Q G d (Fin.cast nCore_zero c) s) ⊢ |={Set.univ}=> iprop(
      (bigSep Finset.univ fun s : Fin 16 => given H T P Q G d (Fin.cast nCore_zero c) s)
      ∗ ((bigSep Finset.univ fun s : Fin 16 => back H T P Q d (Fin.cast nCore_zero c) s)
          -∗ (bigSep Finset.univ fun s : Fin 16 => back H T P Q d (Fin.cast nCore_zero c) s)))
  iintro H; imodintro
  isplitl [H]; · iexact H
  iintro H; iexact H

theorem st_eq (d : Dev nD) : (bigSep Finset.univ fun c : Fin ((K (F := F)).nCore 0) => (pay H T P Q G).st 0 d c) = arraysS d (H d) (T d) (P d) (Q d) (G d) :=
  (arraysS_tiles d (H d) (T d) (P d) (Q d) (G d)).symm
theorem dn_eq (d : Dev nD) : (bigSep Finset.univ fun c : Fin ((K (F := F)).nCore 0) => (pay H T P Q G).dn 0 d c)
    = arraysS d (H d) (T d) (P d) (Q d) (scores (H d) (T d) (P d) (Q d)) :=
  (arraysS_tiles d (H d) (T d) (P d) (Q d) (scores (H d) (T d) (P d) (Q d))).symm

/-! ## A tile's task -/

theorem defs_tile (c : Fin τ.nSC) (s : Fin τ.nSub) :
    defs₀ (F := F) (.scVector c s) 1 ()
      = SparseCore.onTile hcore1 hsub1 (fun c s => cc1__pair_gather_kernel (at' c s)
          (Memref.whole main_v0_0_scv) (Memref.isWhole_whole _) (Memref.whole main_v0_1_scv) (Memref.isWhole_whole _) (Memref.whole main_arg3_scv) (Memref.isWhole_whole _)
          (Memref.whole main_arg4_scv) (Memref.isWhole_whole _) (Memref.whole main_v1_scv) (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) (Memref.whole cc1_scratch4) (Memref.isWhole_whole _)
          cc1_scratch5 cc1_scratch6 cc1_scratch7 cc1_scratch8 cc1_scoped0) ⟨⟩ c s := rfl

theorem task_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).elim Or.inl (fun h => Or.inr (Or.inl h))
  · iexact HO

set_option maxRecDepth 16384 in
theorem tileObl (hP : ∀ d y, (P d y : BitVec 32).toNat < 64) (hQ : ∀ d y, (Q d y : BitVec 32).toNat < 64) :
    (K (F := F)).TileObl (D (F := F)) 𝒱 (pay H T P Q G) v₀ 0 := by
  intro d c i O W hO _ _
  simp only [show (pay H T P Q G).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs_tile]; simp only [SparseCore.onTile, hci, and_self, ↓reduceDIte]
  exact (tile_body d (at' ⟨_, hci.1⟩ ⟨_, hci.2⟩) facts (shr (Fin.cast nCore_zero c) (Fin.cast nSub_zero i)) (H d) (T d) (P d) (Q d) (G d) (hP d) (hQ d) O W hO).trans (wp_mono frame _ _ fun _ => task_post)

end Cert.KernelIdeal.Call

end
-- ==== Proof.KernelIdealHost.lean ====
/- The steps of the program's main thread, each by what it takes and what it leaves: the two pipelined calls and the host operations. -/
module

public import proofs.«01_k».proof.Proof.KernelIdealRegionB
public import proofs.«01_k».proof.Proof.KernelIdealCall
public import Idealize.ShloMosaic.Lib.StableHlo.Run

@[expose] public section

noncomputable section

namespace Cert.KernelIdeal.Host

open Cert.KernelIdeal.Gen Cert.KernelIdeal.Base Cert.KernelIdeal.Region
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Host operations -/

section Ops

variable (d : Dev nD) {Φ : PUnit → sProp (MM F)}

/-- An operation of one array: its argument kept, its result computed. -/
theorem wp_one (x y : Ref sig .tc) (f : x.ty.Contents (Elt F) → y.ty.Contents (Elt F)) (hx hy) (hne : (Proc.devRef .tc x : DevRef τ sig) ≠ (Proc.devRef .tc y : DevRef τ sig))
    (X : Buf (Elt F) ((SparseCore.T d).loc x)) (Y : Buf (Elt F) ((SparseCore.T d).loc y)) :
    iprop(boundary (SparseCore.T d) ∗ ((SparseCore.T d).loc x ↦{fullShare} X) ∗ ((SparseCore.T d).loc y ↦{fullShare} Y)
        ∗ (boundary (SparseCore.T d) -∗ ((SparseCore.T d).loc x ↦{fullShare} X) -∗ ((SparseCore.T d).loc y ↦{fullShare} f X) -∗ Φ ⟨⟩))
      ⊢ wp frame (wpE ((K (F := F)).defs (D (F := F))) 𝒱 (SparseCore.T d) none) Set.univ (hlo rfl (StableHlo.unary x y f hx hy) (fun _ => .ret ⟨⟩)) Φ := by
  let V : Valuation τ sig (Elt F) := Function.update (Function.update (fun _ => Classical.arbitrary _) (Proc.devRef .tc x : DevRef τ sig) X) (Proc.devRef .tc y : DevRef τ sig) Y
  have hVx : V (Proc.devRef .tc x : DevRef τ sig) = X := (Function.update_of_ne hne _ _).trans (Function.update_self _ _ _)
  have hVy : V (Proc.devRef .tc y : DevRef τ sig) = Y := Function.update_self _ _ _
  have hheld : ∀ G : Valuation τ sig (Elt F), (StableHlo.held (SparseCore.T d) {(Proc.devRef .tc x : DevRef τ sig), (Proc.devRef .tc y : DevRef τ sig)} G : sProp (MM F))
      = iprop(((SparseCore.T d).loc x ↦{fullShare} G (Proc.devRef .tc x : DevRef τ sig)) ∗ ((SparseCore.T d).loc y ↦{fullShare} G (Proc.devRef .tc y : DevRef τ sig))) := fun G => by
    unfold StableHlo.held
    rw [SparseCore.bigSep_insert' (by rw [Finset.mem_singleton]; exact hne), bigSep_singleton]
  have hrx : (StableHlo.unary x y f hx hy : HloOp τ sig (Elt F)).result V (Proc.devRef .tc x : DevRef τ sig) = X :=
    (HloOp.result_of_not_mem _ V (show (Proc.devRef .tc x : DevRef τ sig) ∉ ({(Proc.devRef .tc y : DevRef τ sig)} : Finset (DevRef τ sig)) by rw [Finset.mem_singleton]; exact hne)).trans hVx
  have hry : (StableHlo.unary x y f hx hy : HloOp τ sig (Elt F)).result V (Proc.devRef .tc y : DevRef τ sig) = f X := by
    rw [StableHlo.unary_result, hVx]
  iintro ⟨Hb, Hx, Hy, Hk⟩
  iapply (StableHlo.wp_hlo_within 𝒱 (SparseCore.T d) none Set.univ (op := StableHlo.unary x y f hx hy) (S := {(Proc.devRef .tc x : DevRef τ sig), (Proc.devRef .tc y : DevRef τ sig)}) (Finset.Subset.refl _) (V := V)) $$ [Hb Hx Hy]
  · isplitl [Hb]; · iexact Hb
    rw [hheld, hVx, hVy]
    isplitl [Hx] <;> iassumption
  rw [hheld, hrx, hry]
  iintro ⟨Hb, Hx, Hy⟩
  simp only [wp_ret]
  imodintro
  iapply Hk $$ Hb Hx Hy

/-- An operation of two arrays: its arguments kept, its result computed. -/
theorem wp_two (a b y : Ref sig .tc) (f : a.ty.Contents (Elt F) → b.ty.Contents (Elt F) → y.ty.Contents (Elt F)) (ha hb hy)
    (hab : (Proc.devRef .tc a : DevRef τ sig) ≠ (Proc.devRef .tc b : DevRef τ sig)) (hay : (Proc.devRef .tc a : DevRef τ sig) ≠ (Proc.devRef .tc y : DevRef τ sig)) (hby : (Proc.devRef .tc b : DevRef τ sig) ≠ (Proc.devRef .tc y : DevRef τ sig))
    (A : Buf (Elt F) ((SparseCore.T d).loc a)) (B : Buf (Elt F) ((SparseCore.T d).loc b)) (Y : Buf (Elt F) ((SparseCore.T d).loc y)) :
    iprop(boundary (SparseCore.T d) ∗ ((SparseCore.T d).loc a ↦{fullShare} A) ∗ ((SparseCore.T d).loc b ↦{fullShare} B) ∗ ((SparseCore.T d).loc y ↦{fullShare} Y)
        ∗ (boundary (SparseCore.T d) -∗ ((SparseCore.T d).loc y ↦{fullShare} f A B) -∗ Φ ⟨⟩))
      ⊢ wp frame (wpE ((K (F := F)).defs (D (F := F))) 𝒱 (SparseCore.T d) none) Set.univ (hlo rfl (StableHlo.binary a b y f ha hb hy) (fun _ => .ret ⟨⟩)) Φ := by
  let V : Valuation τ sig (Elt F) :=
    Function.update (Function.update (Function.update (fun _ => Classical.arbitrary _) (Proc.devRef .tc a : DevRef τ sig) A) (Proc.devRef .tc b : DevRef τ sig) B) (Proc.devRef .tc y : DevRef τ sig) Y
  have hVa : V (Proc.devRef .tc a : DevRef τ sig) = A := (Function.update_of_ne hay _ _).trans ((Function.update_of_ne hab _ _).trans (Function.update_self _ _ _))
  have hVb : V (Proc.devRef .tc b : DevRef τ sig) = B := (Function.update_of_ne hby _ _).trans (Function.update_self _ _ _)
  have hVy : V (Proc.devRef .tc y : DevRef τ sig) = Y := Function.update_self _ _ _
  have hheld : ∀ G : Valuation τ sig (Elt F), (StableHlo.held (SparseCore.T d) {(Proc.devRef .tc a : DevRef τ sig), (Proc.devRef .tc b : DevRef τ sig), (Proc.devRef .tc y : DevRef τ sig)} G : sProp (MM F))
      = iprop(((SparseCore.T d).loc a ↦{fullShare} G (Proc.devRef .tc a : DevRef τ sig)) ∗ ((SparseCore.T d).loc b ↦{fullShare} G (Proc.devRef .tc b : DevRef τ sig))
          ∗ ((SparseCore.T d).loc y ↦{fullShare} G (Proc.devRef .tc y : DevRef τ sig))) := fun G => by
    unfold StableHlo.held
    rw [SparseCore.bigSep_insert' (by simp only [Finset.mem_insert, Finset.mem_singleton, not_or]; exact ⟨hab, hay⟩),
      SparseCore.bigSep_insert' (by rw [Finset.mem_singleton]; exact hby), bigSep_singleton]
  have hry : (StableHlo.binary a b y f ha hb hy : HloOp τ sig (Elt F)).result V (Proc.devRef .tc y : DevRef τ sig) = f A B := by
    rw [StableHlo.binary_result, hVa, hVb]
  iintro ⟨Hb, HA, HB, Hy, Hk⟩
  iapply (StableHlo.wp_hlo_within 𝒱 (SparseCore.T d) none Set.univ (op := StableHlo.binary a b y f ha hb hy)
    (S := {(Proc.devRef .tc a : DevRef τ sig), (Proc.devRef .tc b : DevRef τ sig), (Proc.devRef .tc y : DevRef τ sig)}) (Finset.Subset.refl _) (V := V)) $$ [Hb HA HB Hy]
  · isplitl [Hb]; · iexact Hb
    rw [hheld, hVa, hVb, hVy]
    isplitl [HA]; · iexact HA
    isplitl [HB]; · iexact HB
    iexact Hy
  rw [hheld, hry]
  iintro ⟨Hb, -, -, Hy⟩
  simp only [wp_ret]
  imodintro
  iapply Hk $$ Hb Hy

end Ops

/-! ## The pipelined calls -/

variable (adm : (p : Fin 2) → (pcfgs (F := F) p).Adm) (d : Dev nD) {Φ : PUnit → sProp (MM F)}

/-- A pipeline's ghost state on a core. -/
abbrev ghost (p : Fin 2) : sProp (MM F) :=
  iprop(Pipeline.cellsGhost (Pipeline.pin (pcfgs (F := F)) adm) EP p d ∗ Pipeline.toksInit (Pipeline.pin (pcfgs (F := F)) adm) EP p d)

theorem lift_call (p : Fin 2) :
    SparseCore.liftProg (nD := nD) (sig := sig) (Val := Elt F) (Λ := ΛP F) (Q := 1) (pr := (Proc.tc : Proc τ)) (.op (.customCall (Pipeline.entry p) ()) .ret)
      = Prog.lift (.customCall (SparseCore.inner (Pipeline.entry p)) ()) := rfl

/-- A program that returns at once has what its continuation is given. -/
theorem wand_ret (P : sProp (MM F)) : iprop(P -∗ Φ ⟨⟩) ⊢ iprop(P -∗ wp frame (wpE (D (F := F)) 𝒱 (SparseCore.T d) none) Set.univ (.ret ⟨⟩) Φ) := by
  iintro Hk H
  simp only [wp_ret]
  imodintro
  iapply Hk $$ H

theorem wp_callA (E : S8x2048x256.Idx → Elt F .f32) (W : S512x16.Idx → Elt F .f32) (b : S16.Idx → Elt F .f32) (H₀ T₀ : S4x64x16.Idx → Elt F .f32)
    (hlo : ∀ y, (lo₀ adm y).toNat < 2016) :
    iprop((iprop(boundary (SparseCore.T d) ∗ arraysA E W b d (hVal E (lo₀ adm) (ln₀ adm) W b) (tVal E (lo₀ adm) (ln₀ adm) W) ∗ tables adm d ∗ owing (F := F) d 0) -∗ Φ ⟨⟩)
        ∗ boundary (SparseCore.T d) ∗ iprop(arraysA E W b d H₀ T₀ ∗ tables adm d ∗ owing (F := F) d 0) ∗ levAts (K (F := F)).L (K (F := F)).lev ∗ ghost adm d 0)
      ⊢ wp frame (wpE ((K (F := F)).defs (D (F := F))) 𝒱 (SparseCore.T d) none) Set.univ (Prog.lift (.customCall (SparseCore.inner (Pipeline.entry 0)) ())) Φ := by
  rw [← lift_call]
  refine BI.Entails.trans ?_ ((K (F := F)).wp_liftProg (D (F := F)) 𝒱 (SparseCore.T d) Set.univ none _ Φ)
  have h := Pipeline.RegionSeg.wp (pcfgs (F := F)) adm (pdatsA adm E W b H₀ T₀) none (cellOf_inj adm) EP defs₀ 𝒱₀ (K (F := F)).L (K (F := F)).lev
    (segA adm E W b H₀ T₀ hlo) d none (fun u hu => absurd hu (Option.not_mem_none u)) .ret Φ
  exact (sep_mono_left (wand_ret d _)).trans h

theorem wp_callB (E : S8x2048x256.Idx → Elt F .f32) (W : S512x16.Idx → Elt F .f32) (b : S16.Idx → Elt F .f32) (X Y : S4x2048.Idx → BitVec 32) (S₀ : S4x2048x16.Idx → Elt F .f32)
    (hlo : ∀ y, (lo₁ adm y).toNat < 2016) :
    iprop((iprop(boundary (SparseCore.T d) ∗ arraysB E W b X Y d (sVal E (lo₁ adm) (ln₁ adm) W b X Y) ∗ tablesB adm d ∗ owing (F := F) d 1) -∗ Φ ⟨⟩)
        ∗ boundary (SparseCore.T d) ∗ iprop(arraysB E W b X Y d S₀ ∗ tablesB adm d ∗ owing (F := F) d 1) ∗ levAts (K (F := F)).L (K (F := F)).lev ∗ ghost adm d 1)
      ⊢ wp frame (wpE ((K (F := F)).defs (D (F := F))) 𝒱 (SparseCore.T d) none) Set.univ (Prog.lift (.customCall (SparseCore.inner (Pipeline.entry 1)) ())) Φ := by
  rw [← lift_call]
  refine BI.Entails.trans ?_ ((K (F := F)).wp_liftProg (D (F := F)) 𝒱 (SparseCore.T d) Set.univ none _ Φ)
  have h := Pipeline.RegionSeg.wp (pcfgs (F := F)) adm (pdatsB adm E W b X Y S₀) none (cellOf_inj adm) EP defs₀ 𝒱₀ (K (F := F)).L (K (F := F)).lev
    (segB adm E W b X Y S₀ hlo) d none (fun u hu => absurd hu (Option.not_mem_none u)) .ret Φ
  exact (sep_mono_left (wand_ret d _)).trans h

end Cert.KernelIdeal.Host

end
-- ==== Proof.KernelIdealMain.lean ====
/- The kernel's run: the main thread, the launch's ghost state, and what memory holds at the end — the arguments unchanged and
   the result array at `result`, a function of the arguments. -/
module

public import proofs.«01_k».proof.Proof.KernelIdealHost
public import proofs.«01_k».proof.Proof.Ranges

@[expose] public section

noncomputable section

namespace Cert.KernelIdeal.Main

open Cert.KernelIdeal.Gen Cert.KernelIdeal.Base Cert.KernelIdeal.Region Cert.KernelIdeal.Tile Cert.KernelIdeal.Call Cert.KernelIdeal.Host
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-! ## The values along the run -/

/-- The start and length tables, read from the launch memory. -/
def admOf : (p : Fin 2) → (pcfgs (F := F) p).Adm
  | 0 => ⟨fun | 0 => m (loLoc 0) | 1 => m (lnLoc 0), trivial⟩
  | 1 => ⟨fun | 0 => m (loLoc 0) | 1 => m (lnLoc 0), trivial⟩

/-- What the first call leaves: the pooled spans by the upper and by the lower half of the matrix. -/
abbrev hOf (d : Dev nD) : Buf (Elt F) (hLoc d) := hVal (m (eLoc d)) (m (loLoc d)) (m (lnLoc d)) (m (wLoc d)) (m (bLoc d))
abbrev tOf (d : Dev nD) : Buf (Elt F) (tLoc d) := tVal (m (eLoc d)) (m (loLoc d)) (m (lnLoc d)) (m (wLoc d))
/-- What the SparseCore call leaves. -/
abbrev gOf (d : Dev nD) : Buf (Elt F) (gLoc d) := scores (hOf m d) (tOf m d) (m (hdLoc d)) (m (tlLoc d))
/-- The first four batches of the lists. -/
abbrev hsOf (d : Dev nD) : Buf (Elt F) (hsLoc d) := extractStridedSlice S4x2048 ![0, 0] (m (hdLoc d)) slices_S8x2048_S4x2048_0_0
abbrev tsOf (d : Dev nD) : Buf (Elt F) (tsLoc d) := extractStridedSlice S4x2048 ![0, 0] (m (tlLoc d)) slices_S8x2048_S4x2048_0_0
/-- What the second call leaves. -/
abbrev sOf (d : Dev nD) : Buf (Elt F) (sLoc d) := sVal (m (eLoc d)) (m (loLoc d)) (m (lnLoc d)) (m (wLoc d)) (m (bLoc d)) (hsOf m d) (tsOf m d)
/-- The kernel's result. -/
def result (d : Dev nD) : Buf (Elt F) (rLoc d) :=
  concatenate S8x2048x16 0 [⟨S4x2048x16, sOf m d⟩, ⟨S4x2048x16, gOf m d⟩] concatenates_S4x2048x16_S4x2048x16_S8x2048x16_d0

abbrev payOf : (K (F := F)).Pay (nD := nD) (Val := Elt F) (Name := ℕ) (U := UU) :=
  pay (hOf m) (tOf m) (fun d => m (hdLoc d)) (fun d => m (tlLoc d)) (fun d => m (gLoc d))

/-- What the proof asks of the launch memory: the starts leave room for the longest span, and the lists name spans. -/
structure PreOK : Prop where
  lo : ∀ d y, (m (loLoc d) y : BitVec 32).toNat < 2016
  hd : ∀ d y, (m (hdLoc d) y : BitVec 32).toNat < 64
  tl : ∀ d y, (m (tlLoc d) y : BitVec 32).toNat < 64

/-! ## The launch's ghost state -/

abbrev pinned : (p : Fin 2) → Pipeline.Cfg sig Λ₀ := Pipeline.pin (pcfgs (F := F)) (admOf m)

def u₀ : UU := (initOf (K (F := F)).hsCells (K (F := F)).hsToks,
  (initOf (Pipeline.cells (nD := nD) (τ := τ) (pinned m) (cellOf_inj (admOf m))) (Pipeline.launchToks (nD := nD) (τ := τ) (pinned m) (cellOf_inj (admOf m))), 1))

abbrev ghosts (d : Dev nD) : sProp (MM F) := iprop(ghost (admOf m) d 0 ∗ ghost (admOf m) d 1)

theorem dev_zero (d : Dev nD) : d = 0 := Subsingleton.elim (α := Fin 1) d 0

theorem bigSep_two (Φ : Fin 2 → sProp (MM F)) : bigSep Finset.univ Φ = iprop(Φ 0 ∗ Φ 1) := by
  rw [show (Finset.univ : Finset (Fin 2)) = {0, 1} by decide, SparseCore.bigSep_insert' (by decide), bigSep_singleton]

theorem sep_swap (A B C E : sProp (MM F)) : iprop((A ∗ B) ∗ (C ∗ E)) ⊢ iprop((A ∗ C) ∗ (B ∗ E)) := by
  iintro ⟨⟨HA, HB⟩, HC, HE⟩
  isplitl [HA HC]
  · isplitl [HA] <;> iassumption
  isplitl [HB] <;> iassumption

theorem bigSep_dev (Φ : Dev nD → sProp (MM F)) : bigSep Finset.univ Φ = Φ 0 := bigSep_univ_of_subsingleton (I := Fin 1) (0 : Fin 1)

/-- The pipelines' ghost state, dealt to the main thread pipeline by pipeline. -/
theorem ghosts_deal :
    iprop((bigSep Finset.univ fun c : Dev nD => bigSep Finset.univ fun p => (Pipeline.cellsGhost (pinned m) EP p c : sProp (MM F)))
        ∗ (bigSep Finset.univ fun c : Dev nD => bigSep Finset.univ fun p => (Pipeline.toksInit (pinned m) EP p c : sProp (MM F))))
      ⊢ bigSep Finset.univ (ghosts m) := by
  rw [bigSep_dev, bigSep_dev, bigSep_dev, bigSep_two, bigSep_two]
  exact sep_swap _ _ _ _

theorem hu₀ : (ownU (u₀ m) : sProp (MM F))
    ⊢ |={Set.univ}=> iprop(BI.own (EH (initOf (K (F := F)).hsCells (K (F := F)).hsToks)) ∗ bigSep Finset.univ (ghosts m)
        ∗ bigSep Finset.univ fun thr : Thread nD τ => bigSep Finset.univ fun q : Fin 1 => (payOf m).x q thr) := by
  unfold u₀
  iintro Hu
  ihave H := (ownU_pair (initOf (K (F := F)).hsCells (K (F := F)).hsToks)
    ((initOf (Pipeline.cells (nD := nD) (τ := τ) (pinned m) (cellOf_inj (admOf m))) (Pipeline.launchToks (nD := nD) (τ := τ) (pinned m) (cellOf_inj (admOf m))), (1 : Counters)) : UP × Counters)) $$ Hu
  icases H with ⟨HH, HR⟩
  ihave HR' := (own_pair_emb _ (initOf (Pipeline.cells (nD := nD) (τ := τ) (pinned m) (cellOf_inj (admOf m))) (Pipeline.launchToks (nD := nD) (τ := τ) (pinned m) (cellOf_inj (admOf m)))) (1 : Counters)) $$ HR
  icases HR' with ⟨HP, -⟩
  ihave HG := (Pipeline.fund_ghost (pinned m) (EP (F := F)) (cellOf_inj (admOf m))) $$ HP
  imod HG with ⟨Hc, Ht⟩
  imodintro
  isplitl [HH]; · iexact HH
  isplitl [Hc Ht]
  · iapply (ghosts_deal m) $$ [Hc Ht]
    isplitl [Hc] <;> iassumption
  rw [show (bigSep Finset.univ fun thr : Thread nD τ => bigSep Finset.univ fun q : Fin 1 => (payOf m).x q thr) = bigSep Finset.univ fun _ => iprop(emp) from
    bigSep_congr fun _ _ => bigSep_univ_of_subsingleton (0 : Fin 1), show (bigSep Finset.univ fun _ : Thread nD τ => (iprop(emp) : sProp (MM F))) = iprop(emp) from bigSep_emp_const _]
  iempintro

/-! ## The main thread -/

theorem unscopedBufs_eq (d : Dev nD) (W : (b : Ref sig .tc) → Buf (Elt F) ((d.tc : Thread nD τ).loc b)) :
    (unscopedBufs d W : sProp (MM F)) = iprop((eLoc d ↦{fullShare} W main_arg0) ∗ (loLoc d ↦{fullShare} W main_arg1) ∗ (lnLoc d ↦{fullShare} W main_arg2)
      ∗ (hdLoc d ↦{fullShare} W main_arg3) ∗ (tlLoc d ↦{fullShare} W main_arg4) ∗ (wLoc d ↦{fullShare} W main_arg5) ∗ (bLoc d ↦{fullShare} W main_arg6)
      ∗ (hLoc d ↦{fullShare} W main_v0_0) ∗ (tLoc d ↦{fullShare} W main_v0_1) ∗ (gLoc d ↦{fullShare} W main_v1) ∗ (hsLoc d ↦{fullShare} W main_v2)
      ∗ (tsLoc d ↦{fullShare} W main_v3) ∗ (sLoc d ↦{fullShare} W main_v4) ∗ (rLoc d ↦{fullShare} W main_v5)) := by
  unfold unscopedBufs
  rw [show (Finset.univ.filter fun b : Ref sig .tc => ¬ b.isScoped)
      = {main_arg0, main_arg1, main_arg2, main_arg3, main_arg4, main_arg5, main_arg6, main_v0_0, main_v0_1, main_v1, main_v2, main_v3, main_v4, main_v5} by decide]
  repeat rw [SparseCore.bigSep_insert' (by decide)]
  rw [bigSep_singleton]

/-- What the main thread owes, out of its state and back. -/
theorem tcSt_owing (d : Dev nD) (n : ℕ) :
    ((K (F := F)).tcSt EH d n : sProp (MM F)) ⊢ iprop(owing (F := F) d n ∗ (owing (F := F) d n -∗ (K (F := F)).tcSt EH d n)) := by
  unfold SparseCore.Cfg.tcSt
  iintro ⟨HO, Hr⟩
  isplitl [HO]; · iexact HO
  iintro HO
  isplitl [HO]; · iexact HO
  iexact Hr

/-- What the main thread leaves: the arguments as they were, the result. -/
abbrev FIN (d : Dev nD) : sProp (MM F) :=
  iprop((eLoc d ↦{fullShare} m (eLoc d)) ∗ (loLoc d ↦{fullShare} m (loLoc d)) ∗ (lnLoc d ↦{fullShare} m (lnLoc d)) ∗ (hdLoc d ↦{fullShare} m (hdLoc d))
    ∗ (tlLoc d ↦{fullShare} m (tlLoc d)) ∗ (wLoc d ↦{fullShare} m (wLoc d)) ∗ (bLoc d ↦{fullShare} m (bLoc d)) ∗ (rLoc d ↦{fullShare} result m d))

theorem hmain (hok : PreOK m) (κ : GSem nD τ sig → ℕ) (d : Dev nD) :
    iprop((K (F := F)).ctx EH (payOf m) κ ∗ (K (F := F)).tcSt EH d 0 ∗ (K (F := F)).tcRes m ρ d ∗ ghosts m d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain rfl : d = 0 := dev_zero d
  unfold SparseCore.Cfg.tcRes SparseCore.Cfg.tcEnd
  rw [unscopedBufs_eq]
  simp only [main, wp_bind, wp_pure]
  iintro ⟨#Hctx, Hst, ⟨Hb, ⟨He, Hlo, Hln, Hhd, Htl, Hw, Hbb, Hh, Ht, Hg, Hhs, Hts, Hs, Hr⟩, Hsem, -⟩, Hg0, Hg1⟩
  ihave #Hlev := (SparseCore.Cfg.ctx_levAts κ) $$ Hctx
  ihave Hst' := (tcSt_owing 0 0) $$ Hst
  icases Hst' with ⟨HO, Hst⟩
  -- the first call
  iapply (wp_callA (admOf m) 0 (m (eLoc 0)) (m (wLoc 0)) (m (bLoc 0)) (m (hLoc 0)) (m (tLoc 0)) (hok.lo 0))
  isplitr [Hb He Hw Hbb Hh Ht Hlo Hln HO Hg0]
  rotate_left
  · isplitl [Hb]; · iexact Hb
    isplitl [He Hw Hbb Hh Ht Hlo Hln HO]
    · isplitl [He Hw Hbb Hh Ht]
      · isplitl [He]; · iexact He
        isplitl [Hw]; · iexact Hw
        isplitl [Hbb]; · iexact Hbb
        isplitl [Hh]; · iexact Hh
        iexact Ht
      isplitl [Hlo Hln]
      · isplitl [Hlo]; · iexact Hlo
        iexact Hln
      iexact HO
    isplitr; · iexact Hlev
    iexact Hg0
  iintro ⟨Hb, ⟨He, Hw, Hbb, Hh, Ht⟩, ⟨Hlo, Hln⟩, HO⟩
  ihave Hst := Hst $$ HO
  -- the SparseCore call
  iapply ((K (F := F)).wp_run (D (F := F)) 𝒱 (EH := EH) (P := payOf m) κ 0 0) $$ [-]
  isplitr; · iexact Hctx
  isplitl [Hst]; · iexact Hst
  isplitl [Hh Ht Hhd Htl Hg]
  · rw [st_eq]
    isplitl [Hh]; · iexact Hh
    isplitl [Ht]; · iexact Ht
    isplitl [Hhd]; · iexact Hhd
    isplitl [Htl]; · iexact Htl
    iexact Hg
  iintro ⟨Hst, Hdn⟩
  ihave Hdn' := (Entails.of_eq (dn_eq (hOf m) (tOf m) (fun d => m (hdLoc d)) (fun d => m (tlLoc d)) (fun d => m (gLoc d)) 0)) $$ Hdn
  icases Hdn' with ⟨Hh, Ht, Hhd, Htl, Hg⟩
  -- the two slices
  iapply (wp_one 0 main_arg3 main_v2 _ _ _ (by decide) (m (hdLoc 0)) (m (hsLoc 0)))
  isplitl [Hb]; · iexact Hb
  isplitl [Hhd]; · iexact Hhd
  isplitl [Hhs]; · iexact Hhs
  iintro Hb Hhd Hhs
  iapply (wp_one 0 main_arg4 main_v3 _ _ _ (by decide) (m (tlLoc 0)) (m (tsLoc 0)))
  isplitl [Hb]; · iexact Hb
  isplitl [Htl]; · iexact Htl
  isplitl [Hts]; · iexact Hts
  iintro Hb Htl Hts
  -- the second call
  ihave Hst' := (show ((K (F := F)).tcSt EH 0 ((0 : Fin 1).val + 1) : sProp (MM F)) ⊢ _ from tcSt_owing 0 1) $$ Hst
  icases Hst' with ⟨HO, Hst⟩
  iapply (wp_callB (admOf m) 0 (m (eLoc 0)) (m (wLoc 0)) (m (bLoc 0)) (hsOf m 0) (tsOf m 0) (m (sLoc 0)) (hok.lo 0))
  isplitr [Hb He Hw Hbb Hhs Hts Hs Hlo Hln HO Hg1]
  rotate_left
  · isplitl [Hb]; · iexact Hb
    isplitl [He Hw Hbb Hhs Hts Hs Hlo Hln HO]
    · isplitl [He Hw Hbb Hhs Hts Hs]
      · isplitl [He]; · iexact He
        isplitl [Hw]; · iexact Hw
        isplitl [Hbb]; · iexact Hbb
        isplitl [Hhs]; · iexact Hhs
        isplitl [Hts]; · iexact Hts
        iexact Hs
      isplitl [Hlo Hln]
      · isplitl [Hlo]; · iexact Hlo
        iexact Hln
      iexact HO
    isplitr; · iexact Hlev
    iexact Hg1
  iintro ⟨Hb, ⟨He, Hw, Hbb, Hhs, Hts, Hs⟩, ⟨Hlo, Hln⟩, HO⟩
  ihave Hst := Hst $$ HO
  -- the two halves joined
  iapply (wp_two 0 main_v4 main_v1 main_v5 _ _ _ _ (by decide) (by decide) (by decide) (sOf m 0) (gOf m 0) (m (rLoc 0)))
  isplitl [Hb]; · iexact Hb
  isplitl [Hs]; · iexact Hs
  isplitl [Hg]; · iexact Hg
  isplitl [Hr]; · iexact Hr
  iintro Hb Hr
  imodintro
  isplitl [Hst]; · iexact Hst
  isplitr [Hb Hsem]
  · isplitl [He]; · iexact He
    isplitl [Hlo]; · iexact Hlo
    isplitl [Hln]; · iexact Hln
    isplitl [Hhd]; · iexact Hhd
    isplitl [Htl]; · iexact Htl
    isplitl [Hw]; · iexact Hw
    isplitl [Hbb]; · iexact Hbb
    iexact Hr
  isplitl [Hb] <;> iassumption

/-! ## The end of the run -/

/-- Memory at the end: the arguments unchanged, the result. -/
def fq (d : Dev nD) (s' : Phys nD τ sig (Elt F)) : Prop :=
  s'.mem.mem (rLoc d) = result m d ∧ s'.mem.mem (eLoc d) = m (eLoc d) ∧ s'.mem.mem (loLoc d) = m (loLoc d) ∧ s'.mem.mem (lnLoc d) = m (lnLoc d)
    ∧ s'.mem.mem (hdLoc d) = m (hdLoc d) ∧ s'.mem.mem (tlLoc d) = m (tlLoc d) ∧ s'.mem.mem (wLoc d) = m (wLoc d) ∧ s'.mem.mem (bLoc d) = m (bLoc d)

/-- An array held whole is what memory has at it. -/
theorem read_whole (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp (MM F)) := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h1, HSI, -⟩
  isplitr
  · ipureintro; exact funext fun i => h1 i (Finset.mem_univ i)
  iexact HSI

theorem hfin (d : Dev nD) (s' : Phys nD τ sig (Elt F)) : iprop(FIN m d ∗ SI s') ⊢ (⌜fq m d s'⌝ : sProp (MM F)) := by
  iintro ⟨⟨H0, H1, H2, H3, H4, H5, H6, Hr⟩, HSI⟩
  ihave H := (read_whole (eLoc d) (m (eLoc d)) s') $$ [HSI H0]; · isplitl [H0] <;> iassumption
  icases H with ⟨%h0, HSI⟩
  ihave H := (read_whole (loLoc d) (m (loLoc d)) s') $$ [HSI H1]; · isplitl [H1] <;> iassumption
  icases H with ⟨%h1, HSI⟩
  ihave H := (read_whole (lnLoc d) (m (lnLoc d)) s') $$ [HSI H2]; · isplitl [H2] <;> iassumption
  icases H with ⟨%h2, HSI⟩
  ihave H := (read_whole (hdLoc d) (m (hdLoc d)) s') $$ [HSI H3]; · isplitl [H3] <;> iassumption
  icases H with ⟨%h3, HSI⟩
  ihave H := (read_whole (tlLoc d) (m (tlLoc d)) s') $$ [HSI H4]; · isplitl [H4] <;> iassumption
  icases H with ⟨%h4, HSI⟩
  ihave H := (read_whole (wLoc d) (m (wLoc d)) s') $$ [HSI H5]; · isplitl [H5] <;> iassumption
  icases H with ⟨%h5, HSI⟩
  ihave H := (read_whole (bLoc d) (m (bLoc d)) s') $$ [HSI H6]; · isplitl [H6] <;> iassumption
  icases H with ⟨%h6, HSI⟩
  ihave H := (read_whole (rLoc d) (result m d) s') $$ [HSI Hr]; · isplitl [Hr] <;> iassumption
  icases H with ⟨%hr, -⟩
  ipureintro
  exact ⟨hr, h0, h1, h2, h3, h4, h5, h6⟩

def QC : PUnit × MemSt nD τ sig (Elt F) → Prop := fun r =>
  (∀ d : Dev nD, r.2.mem (rLoc d) = result m d ∧ r.2.mem (eLoc d) = m (eLoc d) ∧ r.2.mem (loLoc d) = m (loLoc d) ∧ r.2.mem (lnLoc d) = m (lnLoc d)
    ∧ r.2.mem (hdLoc d) = m (hdLoc d) ∧ r.2.mem (tlLoc d) = m (tlLoc d) ∧ r.2.mem (wLoc d) = m (wLoc d) ∧ r.2.mem (bLoc d) = m (bLoc d))
  ∧ r.2.sem = fun _ => 0

/-- Every run ends, with the result at `result`, the arguments unchanged and every semaphore counter at zero. -/
theorem run_main [∀ e, Nonempty (Elt F e)] (hok : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := payOf m) (A := ∅) facts v₀
    (fun q hq => match q with | 0 => nomatch hq)
    (fun q _ => match q with | 0 => tileObl _ _ _ _ _ hok.hd hok.tl)
    (fun q _ => match q with | 0 => SparseCore.Cfg.VecSplit.of_plain (vecSplit _ _ _ _ _))
    m ρ main (ghosts m) (FIN m) (u₀ m) (sep_elim_left.trans (hu₀ m)) (hmain m ρ hok) (fq m) (hfin m) (QC m) (fun _ h hz => ⟨h, hz⟩)

/-- The precondition gives what the proof asks of the launch memory. -/
theorem ok_of_pre (h : ∀ d : Dev nD, Cert.Pre_in_range.fn (F := F) (m (eLoc d)) (m (loLoc d)) (m (lnLoc d)) (m (hdLoc d)) (m (tlLoc d)) (m (wLoc d)) (m (bLoc d)) = fun _ => 1#1) :
    PreOK m where
  lo d y := (Cert.Ranges.ranges _ _ _ _ _ _ _ (h d)).1 y
  hd d y := (Cert.Ranges.ranges _ _ _ _ _ _ _ (h d)).2.2.1 y
  tl d y := (Cert.Ranges.ranges _ _ _ _ _ _ _ (h d)).2.2.2 y

end Cert.KernelIdeal.Main

end
-- ==== Proof.ReferenceLoop.lean ====
/- The reference's run. Its program is a stretch of host operations, one counted loop of 64 trips that pools
one span of every batch per trip, and a stretch after it. `run_fold` gives the contents of every tensor value
at the end; then come one trip's values (`STEP`), and that the arguments are unchanged. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Trips

open Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 13 host operations of @main, in order. -/
abbrev hostOps0 : List (HloOp τ sig (Elt F)) :=
  [ StableHlo.nullary main_v0 (iotaInDim S2048 32 0),
    StableHlo.binary main_arg1 main_arg2 main_v1 (addi : (⟨S8x64, .i32⟩ : BufTy).Contents (Elt F) → (⟨S8x64, .i32⟩ : BufTy).Contents (Elt F) → (⟨S8x64, .i32⟩ : BufTy).Contents (Elt F)),
    StableHlo.unary main_arg1 main_v2 ((transpose S64x8 [1, 0] · transposes_S8x64_S64x8_1_0) : (⟨S8x64, .i32⟩ : BufTy).Contents (Elt F) → (⟨S64x8, .i32⟩ : BufTy).Contents (Elt F)),
    StableHlo.unary main_v1 main_v3 ((transpose S64x8 [1, 0] · transposes_S8x64_S64x8_1_0) : (⟨S8x64, .i32⟩ : BufTy).Contents (Elt F) → (⟨S64x8, .i32⟩ : BufTy).Contents (Elt F)),
    StableHlo.nullary main_cst (constant S_ .f32 0x00000000#32),
    StableHlo.unary main_cst main_v4 (broadcastInDim S64x8x256 ![] bcast_S_S64x8x256 : (⟨S_, .f32⟩ : BufTy).Contents (Elt F) → (⟨S64x8x256, .f32⟩ : BufTy).Contents (Elt F)),
    StableHlo.nullary main_c (constantI S_ 32 0#32),
    StableHlo.unary main_v2 main_v5_0 id,
    StableHlo.unary main_v3 main_v5_1 id,
    StableHlo.unary main_v0 main_v5_2 id,
    StableHlo.unary main_arg0 main_v5_3 id,
    StableHlo.unary main_c main_v5_4 id,
    StableHlo.unary main_v4 main_v5_5 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 46 host operations of @main, in order. -/
abbrev hostOps0_1 : List (HloOp τ sig (Elt F)) :=
  ( StableHlo.unary main_v5_5 main_v6 ((transpose S8x64x256 [1, 0, 2] · transposes_S64x8x256_S8x64x256_1_0_2) : (⟨S64x8x256, .f32⟩ : BufTy).Contents (Elt F) → (⟨S8x64x256, .f32⟩ : BufTy).Contents (Elt F))
  :: StableHlo.nullary main_v7 (iotaInDim S8 32 0)
  :: StableHlo.unary main_v7 main_v8 (broadcastInDim S8x1 ![0] bcast_S8_S8x1_0 : (⟨S8, .i32⟩ : BufTy).Contents (Elt F) → (⟨S8x1, .i32⟩ : BufTy).Contents (Elt F))
  :: StableHlo.nullary main_c_0 (constantI S_ 32 0#32)
  :: StableHlo.unary main_c_0 main_v9 (broadcastInDim S8x1 ![] bcast_S_S8x1 : (⟨S_, .i32⟩ : BufTy).Contents (Elt F) → (⟨S8x1, .i32⟩ : BufTy).Contents (Elt F))
  :: StableHlo.binary main_v8 main_v9 main_v10 (cmpi .slt : (⟨S8x1, .i32⟩ : BufTy).Contents (Elt F) → (⟨S8x1, .i32⟩ : BufTy).Contents (Elt F) → (⟨S8x1, .i1⟩ : BufTy).Contents (Elt F))
  :: StableHlo.nullary main_c_1 (constantI S_ 32 8#32)
  :: StableHlo.unary main_c_1 main_v11 (broadcastInDim S8x1 ![] bcast_S_S8x1 : (⟨S_, .i32⟩ : BufTy).Contents (Elt F) → (⟨S8x1, .i32⟩ : BufTy).Contents (Elt F))
  :: StableHlo.binary main_v8 main_v11 main_v12 (addi : (⟨S8x1, .i32⟩ : BufTy).Contents (Elt F) → (⟨S8x1, .i32⟩ : BufTy).Contents (Elt F) → (⟨S8x1, .i32⟩ : BufTy).Contents (Elt F))
  :: StableHlo.ternary main_v10 main_v12 main_v8 main_v13 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F))
  :: StableHlo.nullary main_c_2 (constantI S_ 32 0#32)
  :: StableHlo.unary main_c_2 main_v14 (broadcastInDim S8x2048 ![] bcast_S_S8x2048 : (⟨S_, .i32⟩ : BufTy).Contents (Elt F) → (⟨S8x2048, .i32⟩ : BufTy).Contents (Elt F))
  :: StableHlo.binary main_arg3 main_v14 main_v15 (cmpi .slt : (⟨S8x2048, .i32⟩ : BufTy).Contents (Elt F) → (⟨S8x2048, .i32⟩ : BufTy).Contents (Elt F) → (⟨S8x2048, .i1⟩ : BufTy).Contents (Elt F))
  :: StableHlo.nullary main_c_3 (constantI S_ 32 64#32)
  :: StableHlo.unary main_c_3 main_v16 (broadcastInDim S8x2048 ![] bcast_S_S8x2048 : (⟨S_, .i32⟩ : BufTy).Contents (Elt F) → (⟨S8x2048, .i32⟩ : BufTy).Contents (Elt F))
  :: StableHlo.binary main_arg3 main_v16 main_v17 (addi : (⟨S8x2048, .i32⟩ : BufTy).Contents (Elt F) → (⟨S8x2048, .i32⟩ : BufTy).Contents (Elt F) → (⟨S8x2048, .i32⟩ : BufTy).Contents (Elt F))
  :: StableHlo.ternary main_v15 main_v17 main_arg3 main_v18 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F))
  :: StableHlo.unary main_v13 main_v19 (broadcastInDim S8x2048 ![0, 1] bcast_S8x1_S8x2048_0_1 : (⟨S8x1, .i32⟩ : BufTy).Contents (Elt F) → (⟨S8x2048, .i32⟩ : BufTy).Contents (Elt F))
  :: StableHlo.unary main_v19 main_v20 (broadcastInDim S8x2048x1 ![0, 1] bcast_S8x2048_S8x2048x1_0_1 : (⟨S8x2048, .i32⟩ : BufTy).Contents (Elt F) → (⟨S8x2048x1, .i32⟩ : BufTy).Contents (Elt F))
  :: StableHlo.unary main_v18 main_v21 (broadcastInDim S8x2048x1 ![0, 1] bcast_S8x2048_S8x2048x1_0_1 : (⟨S8x2048, .i32⟩ : BufTy).Contents (Elt F) → (⟨S8x2048x1, .i32⟩ : BufTy).Contents (Elt F))
  :: StableHlo.binary main_v20 main_v21 main_v22 ((fun a b => concatenate S8x2048x2 2 [⟨S8x2048x1, a⟩, ⟨S8x2048x1, b⟩] concatenates_S8x2048x1_S8x2048x1_S8x2048x2_d2) : (⟨S8x2048x1, .i32⟩ : BufTy).Contents (Elt F) → (⟨S8x2048x1, .i32⟩ : BufTy).Contents (Elt F) → (⟨S8x2048x2, .i32⟩ : BufTy).Contents (Elt F))
  :: StableHlo.binary main_v6 main_v22 main_v23 ((fun x i => Host.gather gather_S8x64x256_S8x2048x2_S8x2048x256_2_01_n_n_01_2_11256 x i) : (⟨S8x64x256, .f32⟩ : BufTy).Contents (Elt F) → (⟨S8x2048x2, .i32⟩ : BufTy).Contents (Elt F) → (⟨S8x2048x256, .f32⟩ : BufTy).Contents (Elt F))
  :: StableHlo.nullary main_c_4 (constantI S_ 32 0#32)
  :: StableHlo.unary main_c_4 main_v24 (broadcastInDim S8x1 ![] bcast_S_S8x1 : (⟨S_, .i32⟩ : BufTy).Contents (Elt F) → (⟨S8x1, .i32⟩ : BufTy).Contents (Elt F))
  :: StableHlo.binary main_v8 main_v24 main_v25 (cmpi .slt : (⟨S8x1, .i32⟩ : BufTy).Contents (Elt F) → (⟨S8x1, .i32⟩ : BufTy).Contents (Elt F) → (⟨S8x1, .i1⟩ : BufTy).Contents (Elt F))
  :: StableHlo.nullary main_c_5 (constantI S_ 32 8#32)
  :: StableHlo.unary main_c_5 main_v26 (broadcastInDim S8x1 ![] bcast_S_S8x1 : (⟨S_, .i32⟩ : BufTy).Contents (Elt F) → (⟨S8x1, .i32⟩ : BufTy).Contents (Elt F))
  :: StableHlo.binary main_v8 main_v26 main_v27 (addi : (⟨S8x1, .i32⟩ : BufTy).Contents (Elt F) → (⟨S8x1, .i32⟩ : BufTy).Contents (Elt F) → (⟨S8x1, .i32⟩ : BufTy).Contents (Elt F))
  :: StableHlo.ternary main_v25 main_v27 main_v8 main_v28 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F))
  :: StableHlo.nullary main_c_6 (constantI S_ 32 0#32)
  :: StableHlo.unary main_c_6 main_v29 (broadcastInDim S8x2048 ![] bcast_S_S8x2048 : (⟨S_, .i32⟩ : BufTy).Contents (Elt F) → (⟨S8x2048, .i32⟩ : BufTy).Contents (Elt F))
  :: StableHlo.binary main_arg4 main_v29 main_v30 (cmpi .slt : (⟨S8x2048, .i32⟩ : BufTy).Contents (Elt F) → (⟨S8x2048, .i32⟩ : BufTy).Contents (Elt F) → (⟨S8x2048, .i1⟩ : BufTy).Contents (Elt F))
  :: StableHlo.nullary main_c_7 (constantI S_ 32 64#32)
  :: StableHlo.unary main_c_7 main_v31 (broadcastInDim S8x2048 ![] bcast_S_S8x2048 : (⟨S_, .i32⟩ : BufTy).Contents (Elt F) → (⟨S8x2048, .i32⟩ : BufTy).Contents (Elt F))
  :: StableHlo.binary main_arg4 main_v31 main_v32 (addi : (⟨S8x2048, .i32⟩ : BufTy).Contents (Elt F) → (⟨S8x2048, .i32⟩ : BufTy).Contents (Elt F) → (⟨S8x2048, .i32⟩ : BufTy).Contents (Elt F))
  :: StableHlo.ternary main_v30 main_v32 main_arg4 main_v33 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F))
  :: StableHlo.unary main_v28 main_v34 (broadcastInDim S8x2048 ![0, 1] bcast_S8x1_S8x2048_0_1 : (⟨S8x1, .i32⟩ : BufTy).Contents (Elt F) → (⟨S8x2048, .i32⟩ : BufTy).Contents (Elt F))
  :: StableHlo.unary main_v34 main_v35 (broadcastInDim S8x2048x1 ![0, 1] bcast_S8x2048_S8x2048x1_0_1 : (⟨S8x2048, .i32⟩ : BufTy).Contents (Elt F) → (⟨S8x2048x1, .i32⟩ : BufTy).Contents (Elt F))
  :: StableHlo.unary main_v33 main_v36 (broadcastInDim S8x2048x1 ![0, 1] bcast_S8x2048_S8x2048x1_0_1 : (⟨S8x2048, .i32⟩ : BufTy).Contents (Elt F) → (⟨S8x2048x1, .i32⟩ : BufTy).Contents (Elt F))
  :: StableHlo.binary main_v35 main_v36 main_v37 ((fun a b => concatenate S8x2048x2 2 [⟨S8x2048x1, a⟩, ⟨S8x2048x1, b⟩] concatenates_S8x2048x1_S8x2048x1_S8x2048x2_d2) : (⟨S8x2048x1, .i32⟩ : BufTy).Contents (Elt F) → (⟨S8x2048x1, .i32⟩ : BufTy).Contents (Elt F) → (⟨S8x2048x2, .i32⟩ : BufTy).Contents (Elt F))
  :: StableHlo.binary main_v6 main_v37 main_v38 ((fun x i => Host.gather gather_S8x64x256_S8x2048x2_S8x2048x256_2_01_n_n_01_2_11256 x i) : (⟨S8x64x256, .f32⟩ : BufTy).Contents (Elt F) → (⟨S8x2048x2, .i32⟩ : BufTy).Contents (Elt F) → (⟨S8x2048x256, .f32⟩ : BufTy).Contents (Elt F))
  :: StableHlo.binary main_v23 main_v38 main_v39 ((fun a b => concatenate S8x2048x512 2 [⟨S8x2048x256, a⟩, ⟨S8x2048x256, b⟩] concatenates_S8x2048x256_S8x2048x256_S8x2048x512_d2) : (⟨S8x2048x256, .f32⟩ : BufTy).Contents (Elt F) → (⟨S8x2048x256, .f32⟩ : BufTy).Contents (Elt F) → (⟨S8x2048x512, .f32⟩ : BufTy).Contents (Elt F))
  :: StableHlo.binary main_v39 main_arg5 main_v40 ((fun l r => Host.dotGeneral dot_S8x2048x512_S512x16_S8x2048x16_2_0_01_1_n_n none l r) : (⟨S8x2048x512, .f32⟩ : BufTy).Contents (Elt F) → (⟨S512x16, .f32⟩ : BufTy).Contents (Elt F) → (⟨S8x2048x16, .f32⟩ : BufTy).Contents (Elt F))
  :: StableHlo.unary main_arg6 main_v41 (broadcastInDim S1x1x16 ![2] bcast_S16_S1x1x16_2 : (⟨S16, .f32⟩ : BufTy).Contents (Elt F) → (⟨S1x1x16, .f32⟩ : BufTy).Contents (Elt F))
  :: StableHlo.unary main_v41 main_v42 (broadcastInDim S8x2048x16 ![0, 1, 2] bcast_S1x1x16_S8x2048x16_0_1_2 : (⟨S1x1x16, .f32⟩ : BufTy).Contents (Elt F) → (⟨S8x2048x16, .f32⟩ : BufTy).Contents (Elt F))
  :: StableHlo.binary main_v40 main_v42 main_v43 (addf : (⟨S8x2048x16, .f32⟩ : BufTy).Contents (Elt F) → (⟨S8x2048x16, .f32⟩ : BufTy).Contents (Elt F) → (⟨S8x2048x16, .f32⟩ : BufTy).Contents (Elt F))
  :: [] )
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub ..⟩
/-- 13 host operations of @main, window 0 (statements 1 … 60), in order. -/
abbrev main_part0_ops0 : List (HloOp τ sig (Elt F)) :=
  [ StableHlo.nullary main_v0 (iotaInDim S2048 32 0),
    StableHlo.binary main_arg1 main_arg2 main_v1 (addi : (⟨S8x64, .i32⟩ : BufTy).Contents (Elt F) → (⟨S8x64, .i32⟩ : BufTy).Contents (Elt F) → (⟨S8x64, .i32⟩ : BufTy).Contents (Elt F)),
    StableHlo.unary main_arg1 main_v2 ((transpose S64x8 [1, 0] · transposes_S8x64_S64x8_1_0) : (⟨S8x64, .i32⟩ : BufTy).Contents (Elt F) → (⟨S64x8, .i32⟩ : BufTy).Contents (Elt F)),
    StableHlo.unary main_v1 main_v3 ((transpose S64x8 [1, 0] · transposes_S8x64_S64x8_1_0) : (⟨S8x64, .i32⟩ : BufTy).Contents (Elt F) → (⟨S64x8, .i32⟩ : BufTy).Contents (Elt F)),
    StableHlo.nullary main_cst (constant S_ .f32 0x00000000#32),
    StableHlo.unary main_cst main_v4 (broadcastInDim S64x8x256 ![] bcast_S_S64x8x256 : (⟨S_, .f32⟩ : BufTy).Contents (Elt F) → (⟨S64x8x256, .f32⟩ : BufTy).Contents (Elt F)),
    StableHlo.nullary main_c (constantI S_ 32 0#32),
    StableHlo.unary main_v2 main_v5_0 id,
    StableHlo.unary main_v3 main_v5_1 id,
    StableHlo.unary main_v0 main_v5_2 id,
    StableHlo.unary main_arg0 main_v5_3 id,
    StableHlo.unary main_c main_v5_4 id,
    StableHlo.unary main_v4 main_v5_5 id ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 46 host operations of @main, window 0 (statements 1 … 60), in order. -/
abbrev main_part0_ops1 : List (HloOp τ sig (Elt F)) :=
  ( StableHlo.unary main_v5_5 main_v6 ((transpose S8x64x256 [1, 0, 2] · transposes_S64x8x256_S8x64x256_1_0_2) : (⟨S64x8x256, .f32⟩ : BufTy).Contents (Elt F) → (⟨S8x64x256, .f32⟩ : BufTy).Contents (Elt F))
  :: StableHlo.nullary main_v7 (iotaInDim S8 32 0)
  :: StableHlo.unary main_v7 main_v8 (broadcastInDim S8x1 ![0] bcast_S8_S8x1_0 : (⟨S8, .i32⟩ : BufTy).Contents (Elt F) → (⟨S8x1, .i32⟩ : BufTy).Contents (Elt F))
  :: StableHlo.nullary main_c_0 (constantI S_ 32 0#32)
  :: StableHlo.unary main_c_0 main_v9 (broadcastInDim S8x1 ![] bcast_S_S8x1 : (⟨S_, .i32⟩ : BufTy).Contents (Elt F) → (⟨S8x1, .i32⟩ : BufTy).Contents (Elt F))
  :: StableHlo.binary main_v8 main_v9 main_v10 (cmpi .slt : (⟨S8x1, .i32⟩ : BufTy).Contents (Elt F) → (⟨S8x1, .i32⟩ : BufTy).Contents (Elt F) → (⟨S8x1, .i1⟩ : BufTy).Contents (Elt F))
  :: StableHlo.nullary main_c_1 (constantI S_ 32 8#32)
  :: StableHlo.unary main_c_1 main_v11 (broadcastInDim S8x1 ![] bcast_S_S8x1 : (⟨S_, .i32⟩ : BufTy).Contents (Elt F) → (⟨S8x1, .i32⟩ : BufTy).Contents (Elt F))
  :: StableHlo.binary main_v8 main_v11 main_v12 (addi : (⟨S8x1, .i32⟩ : BufTy).Contents (Elt F) → (⟨S8x1, .i32⟩ : BufTy).Contents (Elt F) → (⟨S8x1, .i32⟩ : BufTy).Contents (Elt F))
  :: StableHlo.ternary main_v10 main_v12 main_v8 main_v13 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F))
  :: StableHlo.nullary main_c_2 (constantI S_ 32 0#32)
  :: StableHlo.unary main_c_2 main_v14 (broadcastInDim S8x2048 ![] bcast_S_S8x2048 : (⟨S_, .i32⟩ : BufTy).Contents (Elt F) → (⟨S8x2048, .i32⟩ : BufTy).Contents (Elt F))
  :: StableHlo.binary main_arg3 main_v14 main_v15 (cmpi .slt : (⟨S8x2048, .i32⟩ : BufTy).Contents (Elt F) → (⟨S8x2048, .i32⟩ : BufTy).Contents (Elt F) → (⟨S8x2048, .i1⟩ : BufTy).Contents (Elt F))
  :: StableHlo.nullary main_c_3 (constantI S_ 32 64#32)
  :: StableHlo.unary main_c_3 main_v16 (broadcastInDim S8x2048 ![] bcast_S_S8x2048 : (⟨S_, .i32⟩ : BufTy).Contents (Elt F) → (⟨S8x2048, .i32⟩ : BufTy).Contents (Elt F))
  :: StableHlo.binary main_arg3 main_v16 main_v17 (addi : (⟨S8x2048, .i32⟩ : BufTy).Contents (Elt F) → (⟨S8x2048, .i32⟩ : BufTy).Contents (Elt F) → (⟨S8x2048, .i32⟩ : BufTy).Contents (Elt F))
  :: StableHlo.ternary main_v15 main_v17 main_arg3 main_v18 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F))
  :: StableHlo.unary main_v13 main_v19 (broadcastInDim S8x2048 ![0, 1] bcast_S8x1_S8x2048_0_1 : (⟨S8x1, .i32⟩ : BufTy).Contents (Elt F) → (⟨S8x2048, .i32⟩ : BufTy).Contents (Elt F))
  :: StableHlo.unary main_v19 main_v20 (broadcastInDim S8x2048x1 ![0, 1] bcast_S8x2048_S8x2048x1_0_1 : (⟨S8x2048, .i32⟩ : BufTy).Contents (Elt F) → (⟨S8x2048x1, .i32⟩ : BufTy).Contents (Elt F))
  :: StableHlo.unary main_v18 main_v21 (broadcastInDim S8x2048x1 ![0, 1] bcast_S8x2048_S8x2048x1_0_1 : (⟨S8x2048, .i32⟩ : BufTy).Contents (Elt F) → (⟨S8x2048x1, .i32⟩ : BufTy).Contents (Elt F))
  :: StableHlo.binary main_v20 main_v21 main_v22 ((fun a b => concatenate S8x2048x2 2 [⟨S8x2048x1, a⟩, ⟨S8x2048x1, b⟩] concatenates_S8x2048x1_S8x2048x1_S8x2048x2_d2) : (⟨S8x2048x1, .i32⟩ : BufTy).Contents (Elt F) → (⟨S8x2048x1, .i32⟩ : BufTy).Contents (Elt F) → (⟨S8x2048x2, .i32⟩ : BufTy).Contents (Elt F))
  :: StableHlo.binary main_v6 main_v22 main_v23 ((fun x i => Host.gather gather_S8x64x256_S8x2048x2_S8x2048x256_2_01_n_n_01_2_11256 x i) : (⟨S8x64x256, .f32⟩ : BufTy).Contents (Elt F) → (⟨S8x2048x2, .i32⟩ : BufTy).Contents (Elt F) → (⟨S8x2048x256, .f32⟩ : BufTy).Contents (Elt F))
  :: StableHlo.nullary main_c_4 (constantI S_ 32 0#32)
  :: StableHlo.unary main_c_4 main_v24 (broadcastInDim S8x1 ![] bcast_S_S8x1 : (⟨S_, .i32⟩ : BufTy).Contents (Elt F) → (⟨S8x1, .i32⟩ : BufTy).Contents (Elt F))
  :: StableHlo.binary main_v8 main_v24 main_v25 (cmpi .slt : (⟨S8x1, .i32⟩ : BufTy).Contents (Elt F) → (⟨S8x1, .i32⟩ : BufTy).Contents (Elt F) → (⟨S8x1, .i1⟩ : BufTy).Contents (Elt F))
  :: StableHlo.nullary main_c_5 (constantI S_ 32 8#32)
  :: StableHlo.unary main_c_5 main_v26 (broadcastInDim S8x1 ![] bcast_S_S8x1 : (⟨S_, .i32⟩ : BufTy).Contents (Elt F) → (⟨S8x1, .i32⟩ : BufTy).Contents (Elt F))
  :: StableHlo.binary main_v8 main_v26 main_v27 (addi : (⟨S8x1, .i32⟩ : BufTy).Contents (Elt F) → (⟨S8x1, .i32⟩ : BufTy).Contents (Elt F) → (⟨S8x1, .i32⟩ : BufTy).Contents (Elt F))
  :: StableHlo.ternary main_v25 main_v27 main_v8 main_v28 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F))
  :: StableHlo.nullary main_c_6 (constantI S_ 32 0#32)
  :: StableHlo.unary main_c_6 main_v29 (broadcastInDim S8x2048 ![] bcast_S_S8x2048 : (⟨S_, .i32⟩ : BufTy).Contents (Elt F) → (⟨S8x2048, .i32⟩ : BufTy).Contents (Elt F))
  :: StableHlo.binary main_arg4 main_v29 main_v30 (cmpi .slt : (⟨S8x2048, .i32⟩ : BufTy).Contents (Elt F) → (⟨S8x2048, .i32⟩ : BufTy).Contents (Elt F) → (⟨S8x2048, .i1⟩ : BufTy).Contents (Elt F))
  :: StableHlo.nullary main_c_7 (constantI S_ 32 64#32)
  :: StableHlo.unary main_c_7 main_v31 (broadcastInDim S8x2048 ![] bcast_S_S8x2048 : (⟨S_, .i32⟩ : BufTy).Contents (Elt F) → (⟨S8x2048, .i32⟩ : BufTy).Contents (Elt F))
  :: StableHlo.binary main_arg4 main_v31 main_v32 (addi : (⟨S8x2048, .i32⟩ : BufTy).Contents (Elt F) → (⟨S8x2048, .i32⟩ : BufTy).Contents (Elt F) → (⟨S8x2048, .i32⟩ : BufTy).Contents (Elt F))
  :: StableHlo.ternary main_v30 main_v32 main_arg4 main_v33 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F))
  :: StableHlo.unary main_v28 main_v34 (broadcastInDim S8x2048 ![0, 1] bcast_S8x1_S8x2048_0_1 : (⟨S8x1, .i32⟩ : BufTy).Contents (Elt F) → (⟨S8x2048, .i32⟩ : BufTy).Contents (Elt F))
  :: StableHlo.unary main_v34 main_v35 (broadcastInDim S8x2048x1 ![0, 1] bcast_S8x2048_S8x2048x1_0_1 : (⟨S8x2048, .i32⟩ : BufTy).Contents (Elt F) → (⟨S8x2048x1, .i32⟩ : BufTy).Contents (Elt F))
  :: StableHlo.unary main_v33 main_v36 (broadcastInDim S8x2048x1 ![0, 1] bcast_S8x2048_S8x2048x1_0_1 : (⟨S8x2048, .i32⟩ : BufTy).Contents (Elt F) → (⟨S8x2048x1, .i32⟩ : BufTy).Contents (Elt F))
  :: StableHlo.binary main_v35 main_v36 main_v37 ((fun a b => concatenate S8x2048x2 2 [⟨S8x2048x1, a⟩, ⟨S8x2048x1, b⟩] concatenates_S8x2048x1_S8x2048x1_S8x2048x2_d2) : (⟨S8x2048x1, .i32⟩ : BufTy).Contents (Elt F) → (⟨S8x2048x1, .i32⟩ : BufTy).Contents (Elt F) → (⟨S8x2048x2, .i32⟩ : BufTy).Contents (Elt F))
  :: StableHlo.binary main_v6 main_v37 main_v38 ((fun x i => Host.gather gather_S8x64x256_S8x2048x2_S8x2048x256_2_01_n_n_01_2_11256 x i) : (⟨S8x64x256, .f32⟩ : BufTy).Contents (Elt F) → (⟨S8x2048x2, .i32⟩ : BufTy).Contents (Elt F) → (⟨S8x2048x256, .f32⟩ : BufTy).Contents (Elt F))
  :: StableHlo.binary main_v23 main_v38 main_v39 ((fun a b => concatenate S8x2048x512 2 [⟨S8x2048x256, a⟩, ⟨S8x2048x256, b⟩] concatenates_S8x2048x256_S8x2048x256_S8x2048x512_d2) : (⟨S8x2048x256, .f32⟩ : BufTy).Contents (Elt F) → (⟨S8x2048x256, .f32⟩ : BufTy).Contents (Elt F) → (⟨S8x2048x512, .f32⟩ : BufTy).Contents (Elt F))
  :: StableHlo.binary main_v39 main_arg5 main_v40 ((fun l r => Host.dotGeneral dot_S8x2048x512_S512x16_S8x2048x16_2_0_01_1_n_n none l r) : (⟨S8x2048x512, .f32⟩ : BufTy).Contents (Elt F) → (⟨S512x16, .f32⟩ : BufTy).Contents (Elt F) → (⟨S8x2048x16, .f32⟩ : BufTy).Contents (Elt F))
  :: StableHlo.unary main_arg6 main_v41 (broadcastInDim S1x1x16 ![2] bcast_S16_S1x1x16_2 : (⟨S16, .f32⟩ : BufTy).Contents (Elt F) → (⟨S1x1x16, .f32⟩ : BufTy).Contents (Elt F))
  :: StableHlo.unary main_v41 main_v42 (broadcastInDim S8x2048x16 ![0, 1, 2] bcast_S1x1x16_S8x2048x16_0_1_2 : (⟨S1x1x16, .f32⟩ : BufTy).Contents (Elt F) → (⟨S8x2048x16, .f32⟩ : BufTy).Contents (Elt F))
  :: StableHlo.binary main_v40 main_v42 main_v43 (addf : (⟨S8x2048x16, .f32⟩ : BufTy).Contents (Elt F) → (⟨S8x2048x16, .f32⟩ : BufTy).Contents (Elt F) → (⟨S8x2048x16, .f32⟩ : BufTy).Contents (Elt F))
  :: [] )
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    HostLoop.enter 0 ]
  (StableHlo.seq main_part0_ops1) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons]
  chain_rfl

/-- The last window of `main` (`main_part1`, statements 61 … 61) is the chain of ITS items, by `chain_rfl`. -/
theorem main_part1_chain (c : Dev nD) : main_part1 (F := F) c = (Pipeline.chain
  [  ] : Prog (TpuEff nD τ sig (Elt F) (HostLoop.Sig (Pipeline.Sig Λ₀ (Fin 0) fun p => (pcfgs (F := F) p).Adm) 1) .tc) PUnit) := by
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    HostLoop.enter 0,
    StableHlo.seq main_part0_ops1 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .prog (HostLoop.enter 0),
    .ops [main_part0_ops1] ]

/-- The windows' item list is `main_groups` with each stretch cut into its window pieces (`StableHlo.Group.cut`): the two
    lists are the same, by `chain_rfl`. -/
theorem main_chain_cut (c : Dev nD) : (Pipeline.chain
  [ StableHlo.seq main_part0_ops0,
    HostLoop.enter 0,
    StableHlo.seq main_part0_ops1 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    HostLoop.enter 0,
    StableHlo.seq hostOps0_1 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    HostLoop.enter 0,
    StableHlo.seq hostOps0_1 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 3 host operations of @dynamic_index_in_dim (main_while0b_call0), in order. -/
abbrev while0Ops0 : List (HloOp τ sig (Elt F)) :=
  [ StableHlo.TRef.nullary (.of main_while0b_call0_c : StableHlo.TRef sig ⟨S_, .i32⟩) (constantI S_ 32 0#32),
    StableHlo.TRef.unaryIndexed (.of main_v5_0 : StableHlo.TRef sig ⟨S64x8, .i32⟩) ![(.of main_v5_4 : StableHlo.TRef sig ⟨S_, .i32⟩), (.of main_while0b_call0_c : StableHlo.TRef sig ⟨S_, .i32⟩)] (.of main_while0b_call0_v0 : StableHlo.TRef sig ⟨S1x8, .i32⟩) (fun x i => Host.dynamicSlice S1x8 x (fun k => (i k (Shape.Idx.first h_S_)).toInt) sliceFits_S64x8_S1x8),
    StableHlo.TRef.reshape (.of main_while0b_call0_v0 : StableHlo.TRef sig ⟨S1x8, .i32⟩) (.of main_while0b_v44 : StableHlo.TRef sig ⟨S8, .i32⟩) (rfl : (.i32 : EltTy) = .i32) shapeCasts_S1x8_S8 ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.unaryIndexed_bufs_sub .., StableHlo.reshape_bufs_sub ..⟩
/-- 3 host operations of @dynamic_index_in_dim (main_while0b_call1), in order. -/
abbrev while0Ops0_1 : List (HloOp τ sig (Elt F)) :=
  [ StableHlo.TRef.nullary (.of main_while0b_call1_c : StableHlo.TRef sig ⟨S_, .i32⟩) (constantI S_ 32 0#32),
    StableHlo.TRef.unaryIndexed (.of main_v5_1 : StableHlo.TRef sig ⟨S64x8, .i32⟩) ![(.of main_v5_4 : StableHlo.TRef sig ⟨S_, .i32⟩), (.of main_while0b_call1_c : StableHlo.TRef sig ⟨S_, .i32⟩)] (.of main_while0b_call1_v0 : StableHlo.TRef sig ⟨S1x8, .i32⟩) (fun x i => Host.dynamicSlice S1x8 x (fun k => (i k (Shape.Idx.first h_S_)).toInt) sliceFits_S64x8_S1x8),
    StableHlo.TRef.reshape (.of main_while0b_call1_v0 : StableHlo.TRef sig ⟨S1x8, .i32⟩) (.of main_while0b_v45 : StableHlo.TRef sig ⟨S8, .i32⟩) (rfl : (.i32 : EltTy) = .i32) shapeCasts_S1x8_S8 ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.unaryIndexed_bufs_sub .., StableHlo.reshape_bufs_sub ..⟩
/-- 13 host operations of host loop 0's body region, in order. -/
abbrev while0Ops0_2 : List (HloOp τ sig (Elt F)) :=
  [ StableHlo.unary main_v5_2 main_while0b_v46 (broadcastInDim S1x2048 ![1] bcast_S2048_S1x2048_1 : (⟨S2048, .i32⟩ : BufTy).Contents (Elt F) → (⟨S1x2048, .i32⟩ : BufTy).Contents (Elt F)),
    StableHlo.unary main_while0b_v44 main_while0b_v47 (broadcastInDim S8x1 ![0] bcast_S8_S8x1_0 : (⟨S8, .i32⟩ : BufTy).Contents (Elt F) → (⟨S8x1, .i32⟩ : BufTy).Contents (Elt F)),
    StableHlo.unary main_while0b_v46 main_while0b_v48 (broadcastInDim S8x2048 ![0, 1] bcast_S1x2048_S8x2048_0_1 : (⟨S1x2048, .i32⟩ : BufTy).Contents (Elt F) → (⟨S8x2048, .i32⟩ : BufTy).Contents (Elt F)),
    StableHlo.unary main_while0b_v47 main_while0b_v49 (broadcastInDim S8x2048 ![0, 1] bcast_S8x1_S8x2048_0_1 : (⟨S8x1, .i32⟩ : BufTy).Contents (Elt F) → (⟨S8x2048, .i32⟩ : BufTy).Contents (Elt F)),
    StableHlo.binary main_while0b_v48 main_while0b_v49 main_while0b_v50 (cmpi .sge : (⟨S8x2048, .i32⟩ : BufTy).Contents (Elt F) → (⟨S8x2048, .i32⟩ : BufTy).Contents (Elt F) → (⟨S8x2048, .i1⟩ : BufTy).Contents (Elt F)),
    StableHlo.unary main_v5_2 main_while0b_v51 (broadcastInDim S1x2048 ![1] bcast_S2048_S1x2048_1 : (⟨S2048, .i32⟩ : BufTy).Contents (Elt F) → (⟨S1x2048, .i32⟩ : BufTy).Contents (Elt F)),
    StableHlo.unary main_while0b_v45 main_while0b_v52 (broadcastInDim S8x1 ![0] bcast_S8_S8x1_0 : (⟨S8, .i32⟩ : BufTy).Contents (Elt F) → (⟨S8x1, .i32⟩ : BufTy).Contents (Elt F)),
    StableHlo.unary main_while0b_v51 main_while0b_v53 (broadcastInDim S8x2048 ![0, 1] bcast_S1x2048_S8x2048_0_1 : (⟨S1x2048, .i32⟩ : BufTy).Contents (Elt F) → (⟨S8x2048, .i32⟩ : BufTy).Contents (Elt F)),
    StableHlo.unary main_while0b_v52 main_while0b_v54 (broadcastInDim S8x2048 ![0, 1] bcast_S8x1_S8x2048_0_1 : (⟨S8x1, .i32⟩ : BufTy).Contents (Elt F) → (⟨S8x2048, .i32⟩ : BufTy).Contents (Elt F)),
    StableHlo.binary main_while0b_v53 main_while0b_v54 main_while0b_v55 (cmpi .slt : (⟨S8x2048, .i32⟩ : BufTy).Contents (Elt F) → (⟨S8x2048, .i32⟩ : BufTy).Contents (Elt F) → (⟨S8x2048, .i1⟩ : BufTy).Contents (Elt F)),
    StableHlo.binary main_while0b_v50 main_while0b_v55 main_while0b_v56 (andi : (⟨S8x2048, .i1⟩ : BufTy).Contents (Elt F) → (⟨S8x2048, .i1⟩ : BufTy).Contents (Elt F) → (⟨S8x2048, .i1⟩ : BufTy).Contents (Elt F)),
    StableHlo.unary main_while0b_v56 main_while0b_v57 (broadcastInDim S8x2048x1 ![0, 1] bcast_S8x2048_S8x2048x1_0_1 : (⟨S8x2048, .i1⟩ : BufTy).Contents (Elt F) → (⟨S8x2048x1, .i1⟩ : BufTy).Contents (Elt F)),
    StableHlo.nullary main_while0b_cst_13 (constant S_ .f32 0xFF7FFFFF#32) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.nullary_bufs_sub ..⟩
/-- 3 host operations of @_where (main_while0b_call2), in order. -/
abbrev while0Ops0_3 : List (HloOp τ sig (Elt F)) :=
  [ StableHlo.TRef.unary (.of main_while0b_v57 : StableHlo.TRef sig ⟨S8x2048x1, .i1⟩) (.of main_while0b_call2_v0 : StableHlo.TRef sig ⟨S8x2048x256, .i1⟩) (broadcastInDim S8x2048x256 ![0, 1, 2] bcast_S8x2048x1_S8x2048x256_0_1_2),
    StableHlo.TRef.unary (.of main_while0b_cst_13 : StableHlo.TRef sig ⟨S_, .f32⟩) (.of main_while0b_call2_v1 : StableHlo.TRef sig ⟨S8x2048x256, .f32⟩) (broadcastInDim S8x2048x256 ![] bcast_S_S8x2048x256),
    StableHlo.TRef.ternary (.of main_while0b_call2_v0 : StableHlo.TRef sig ⟨S8x2048x256, .i1⟩) (.of main_v5_3 : StableHlo.TRef sig ⟨S8x2048x256, .f32⟩) (.of main_while0b_call2_v1 : StableHlo.TRef sig ⟨S8x2048x256, .f32⟩) (.of main_while0b_v58 : StableHlo.TRef sig ⟨S8x2048x256, .f32⟩) select ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.unary_bufs_sub .., StableHlo.unary_bufs_sub .., StableHlo.ternary_bufs_sub ..⟩
/-- 2 host operations of host loop 0's body region, in order. -/
abbrev while0Ops0_4 : List (HloOp τ sig (Elt F)) :=
  [ StableHlo.nullary main_while0b_cst_14 (constant S_ .f32 0xFF800000#32),
    StableHlo.binary main_while0b_v58 main_while0b_cst_14 main_while0b_v59 ((fun x v => Host.reduce FloatOps.maximumf x v reducesTo_S8x2048x256_S8x256_d1 h_S_) : (⟨S8x2048x256, .f32⟩ : BufTy).Contents (Elt F) → (⟨S_, .f32⟩ : BufTy).Contents (Elt F) → (⟨S8x256, .f32⟩ : BufTy).Contents (Elt F)) ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.nullary_bufs_sub .., StableHlo.binary_bufs_sub ..⟩
/-- 4 host operations of @dynamic_update_index_in_dim (main_while0b_call3), in order. -/
abbrev while0Ops0_5 : List (HloOp τ sig (Elt F)) :=
  [ StableHlo.TRef.unary (.of main_while0b_v59 : StableHlo.TRef sig ⟨S8x256, .f32⟩) (.of main_while0b_call3_v0 : StableHlo.TRef sig ⟨S1x8x256, .f32⟩) (broadcastInDim S1x8x256 ![1, 2] bcast_S8x256_S1x8x256_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.binaryIndexed (.of main_v5_5 : StableHlo.TRef sig ⟨S64x8x256, .f32⟩) (.of main_while0b_call3_v0 : StableHlo.TRef sig ⟨S1x8x256, .f32⟩) ![(.of main_v5_4 : StableHlo.TRef sig ⟨S_, .i32⟩), (.of main_while0b_call3_c : StableHlo.TRef sig ⟨S_, .i32⟩), (.of main_while0b_call3_c_0 : StableHlo.TRef sig ⟨S_, .i32⟩)] (.of main_while0b_v60 : StableHlo.TRef sig ⟨S64x8x256, .f32⟩) (fun x u i => Host.dynamicUpdateSlice x u (fun k => (i k (Shape.Idx.first h_S_)).toInt) updateFits_S64x8x256_S1x8x256) ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 4 host operations of host loop 0's body region, in order. -/
abbrev while0Ops0_6 : List (HloOp τ sig (Elt F)) :=
  [ StableHlo.nullary main_while0b_c_15 (constantI S_ 32 1#32),
    StableHlo.binary main_v5_4 main_while0b_c_15 main_while0b_v61 (addi : (⟨S_, .i32⟩ : BufTy).Contents (Elt F) → (⟨S_, .i32⟩ : BufTy).Contents (Elt F) → (⟨S_, .i32⟩ : BufTy).Contents (Elt F)),
    StableHlo.unary main_while0b_v61 main_v5_4 id,
    StableHlo.unary main_while0b_v60 main_v5_5 id ]
/-- Each touches TensorCore references only (`HostSeg.ofOps` over `StableHlo.tcRefs`, or a subset by `sub_ucRefs`). -/
theorem while0Ops0_6_sub : (while0Ops0_6 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6 ] : Prog (TpuEff nD τ sig (Elt F) (HostLoop.Sig (Pipeline.Sig Λ₀ (Fin 0) fun p => (pcfgs (F := F) p).Adm) 1) .tc) PUnit) := by
  rewrite [Pipeline.chain_cons, Pipeline.chain_cons, StableHlo.chain_seq_cons, Pipeline.chain_cons, StableHlo.chain_seq_cons, Pipeline.chain_cons, StableHlo.chain_seq_cons]
  chain_rfl

end Cert.ReferenceIdeal.Trips

namespace Cert.ReferenceIdeal.Loop

open Cert.ReferenceIdeal Cert.ReferenceIdeal.Gen Cert.ReferenceIdeal.Trips
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_v2, main_v3, main_cst, main_v4, main_c, main_v5_0, main_v5_1, main_v5_2, main_v5_3, main_v5_4, main_v5_5]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call0_c, main_while0b_call0_v0, main_while0b_v44]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call1_c, main_while0b_call1_v0, main_while0b_v45]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_v46, main_while0b_v47, main_while0b_v48, main_while0b_v49, main_while0b_v50, main_while0b_v51, main_while0b_v52, main_while0b_v53, main_while0b_v54, main_while0b_v55, main_while0b_v56, main_while0b_v57, main_while0b_cst_13]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call2_v0, main_while0b_call2_v1, main_while0b_v58]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_cst_14, main_while0b_v59]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_call3_v0, main_while0b_call3_c, main_while0b_call3_c_0, main_while0b_v60]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_c_15, main_while0b_v61, main_v5_4, main_v5_5]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_v6, main_v7, main_v8, main_c_0, main_v9, main_v10, main_c_1, main_v11, main_v12, main_v13, main_c_2, main_v14, main_v15, main_c_3, main_v16, main_v17, main_v18, main_v19, main_v20, main_v21, main_v22, main_v23, main_c_4, main_v24, main_v25, main_c_5, main_v26, main_v27, main_v28, main_c_6, main_v29, main_v30, main_c_7, main_v31, main_v32, main_v33, main_v34, main_v35, main_v36, main_v37, main_v38, main_v39, main_v40, main_v41, main_v42, main_v43]
theorem hostOps0_1_writes : (hostOps0_1 : List (HloOp τ sig (Elt F))).Forall fun op => op.writes ⊆ (hostOps0_1_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_13 (constantI S_ 32 64#32),
    StableHlo.binary main_v5_4 main_while0c_c_13 main_while0c_v44 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4, while0Ops0_5, while0Ops0_6]
abbrev postI : List (List (HloOp τ sig (Elt F))) := [hostOps0_1]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.nil)))))))
theorem hpost : Plain (postI (F := F)) := .cons hostOps0_1_sub (hf := List.forall_iff_forall_mem.mp hostOps0_1_fresh) (.nil)

/-- The reference each operation of `condOps` writes, in order. -/
abbrev condOps_W : List (Ref sig .tc) := [main_while0c_c_13, main_while0c_v44]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v5_4`) is written by one stretch of the body, `while0Ops0_6`: not by the condition, nor by the
    body's other stretches. -/
theorem ctr_cond (V : Valuation τ sig (Elt F)) : after condOps V (Proc.devRef .tc main_v5_4) = V (Proc.devRef .tc main_v5_4) :=
  after_of_writes_sub condOps V condOps_writes (by decide +kernel)
theorem ctr_while0Ops0 (V : Valuation τ sig (Elt F)) : after while0Ops0 V (Proc.devRef .tc main_v5_4) = V (Proc.devRef .tc main_v5_4) :=
  after_of_writes_sub while0Ops0 V while0Ops0_writes (by decide +kernel)
theorem ctr_while0Ops0_1 (V : Valuation τ sig (Elt F)) : after while0Ops0_1 V (Proc.devRef .tc main_v5_4) = V (Proc.devRef .tc main_v5_4) :=
  after_of_writes_sub while0Ops0_1 V while0Ops0_1_writes (by decide +kernel)
theorem ctr_while0Ops0_2 (V : Valuation τ sig (Elt F)) : after while0Ops0_2 V (Proc.devRef .tc main_v5_4) = V (Proc.devRef .tc main_v5_4) :=
  after_of_writes_sub while0Ops0_2 V while0Ops0_2_writes (by decide +kernel)
theorem ctr_while0Ops0_3 (V : Valuation τ sig (Elt F)) : after while0Ops0_3 V (Proc.devRef .tc main_v5_4) = V (Proc.devRef .tc main_v5_4) :=
  after_of_writes_sub while0Ops0_3 V while0Ops0_3_writes (by decide +kernel)
theorem ctr_while0Ops0_4 (V : Valuation τ sig (Elt F)) : after while0Ops0_4 V (Proc.devRef .tc main_v5_4) = V (Proc.devRef .tc main_v5_4) :=
  after_of_writes_sub while0Ops0_4 V while0Ops0_4_writes (by decide +kernel)
theorem ctr_while0Ops0_5 (V : Valuation τ sig (Elt F)) : after while0Ops0_5 V (Proc.devRef .tc main_v5_4) = V (Proc.devRef .tc main_v5_4) :=
  after_of_writes_sub while0Ops0_5 V while0Ops0_5_writes (by decide +kernel)

set_option maxRecDepth 100000 in
/-- `while0Ops0_6` leaves the counter one step on. -/
theorem ctr_step (X : Valuation τ sig (Elt F)) :
    after while0Ops0_6 X (Proc.devRef .tc main_v5_4) = addi (X (Proc.devRef .tc main_v5_4)) (constantI S_ 32 1#32) := by
  after_results
  rfl

/-- The counter is the loop's lower bound at the loop's entry: its last writer before the loop read back. -/
theorem ctr_entry (c : Dev nD) : entryContents preI m c (Proc.devRef .tc main_v5_4) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v5_4) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 64 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v5_4 HostLoop.idx0)
        (HloOp.result _ (atK m k c) main_while0c_c_13 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 64 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 64 m ρ (cond_spec m)

/-! ## One trip's values -/

/-- The body's operations 1 … 2 of 32. -/
abbrev trip_w0 : List (HloOp τ sig (Elt F)) :=
  [ StableHlo.TRef.nullary (.of main_while0b_call0_c : StableHlo.TRef sig ⟨S_, .i32⟩) (constantI S_ 32 0#32),
    StableHlo.TRef.unaryIndexed (.of main_v5_0 : StableHlo.TRef sig ⟨S64x8, .i32⟩) ![(.of main_v5_4 : StableHlo.TRef sig ⟨S_, .i32⟩), (.of main_while0b_call0_c : StableHlo.TRef sig ⟨S_, .i32⟩)] (.of main_while0b_call0_v0 : StableHlo.TRef sig ⟨S1x8, .i32⟩) (fun x i => Host.dynamicSlice S1x8 x (fun k => (i k (Shape.Idx.first h_S_)).toInt) sliceFits_S64x8_S1x8) ]

/-- The body's operations 3 … 3 of 32. -/
abbrev trip_w1 : List (HloOp τ sig (Elt F)) :=
  [ StableHlo.TRef.reshape (.of main_while0b_call0_v0 : StableHlo.TRef sig ⟨S1x8, .i32⟩) (.of main_while0b_v44 : StableHlo.TRef sig ⟨S8, .i32⟩) (rfl : (.i32 : EltTy) = .i32) shapeCasts_S1x8_S8 ]

/-- The body's operations 4 … 5 of 32. -/
abbrev trip_w2 : List (HloOp τ sig (Elt F)) :=
  [ StableHlo.TRef.nullary (.of main_while0b_call1_c : StableHlo.TRef sig ⟨S_, .i32⟩) (constantI S_ 32 0#32),
    StableHlo.TRef.unaryIndexed (.of main_v5_1 : StableHlo.TRef sig ⟨S64x8, .i32⟩) ![(.of main_v5_4 : StableHlo.TRef sig ⟨S_, .i32⟩), (.of main_while0b_call1_c : StableHlo.TRef sig ⟨S_, .i32⟩)] (.of main_while0b_call1_v0 : StableHlo.TRef sig ⟨S1x8, .i32⟩) (fun x i => Host.dynamicSlice S1x8 x (fun k => (i k (Shape.Idx.first h_S_)).toInt) sliceFits_S64x8_S1x8) ]

/-- The body's operations 6 … 6 of 32. -/
abbrev trip_w3 : List (HloOp τ sig (Elt F)) :=
  [ StableHlo.TRef.reshape (.of main_while0b_call1_v0 : StableHlo.TRef sig ⟨S1x8, .i32⟩) (.of main_while0b_v45 : StableHlo.TRef sig ⟨S8, .i32⟩) (rfl : (.i32 : EltTy) = .i32) shapeCasts_S1x8_S8 ]

/-- The body's operations 7 … 19 of 32. -/
abbrev trip_w4 : List (HloOp τ sig (Elt F)) :=
  [ StableHlo.unary main_v5_2 main_while0b_v46 (broadcastInDim S1x2048 ![1] bcast_S2048_S1x2048_1 : (⟨S2048, .i32⟩ : BufTy).Contents (Elt F) → (⟨S1x2048, .i32⟩ : BufTy).Contents (Elt F)),
    StableHlo.unary main_while0b_v44 main_while0b_v47 (broadcastInDim S8x1 ![0] bcast_S8_S8x1_0 : (⟨S8, .i32⟩ : BufTy).Contents (Elt F) → (⟨S8x1, .i32⟩ : BufTy).Contents (Elt F)),
    StableHlo.unary main_while0b_v46 main_while0b_v48 (broadcastInDim S8x2048 ![0, 1] bcast_S1x2048_S8x2048_0_1 : (⟨S1x2048, .i32⟩ : BufTy).Contents (Elt F) → (⟨S8x2048, .i32⟩ : BufTy).Contents (Elt F)),
    StableHlo.unary main_while0b_v47 main_while0b_v49 (broadcastInDim S8x2048 ![0, 1] bcast_S8x1_S8x2048_0_1 : (⟨S8x1, .i32⟩ : BufTy).Contents (Elt F) → (⟨S8x2048, .i32⟩ : BufTy).Contents (Elt F)),
    StableHlo.binary main_while0b_v48 main_while0b_v49 main_while0b_v50 (cmpi .sge : (⟨S8x2048, .i32⟩ : BufTy).Contents (Elt F) → (⟨S8x2048, .i32⟩ : BufTy).Contents (Elt F) → (⟨S8x2048, .i1⟩ : BufTy).Contents (Elt F)),
    StableHlo.unary main_v5_2 main_while0b_v51 (broadcastInDim S1x2048 ![1] bcast_S2048_S1x2048_1 : (⟨S2048, .i32⟩ : BufTy).Contents (Elt F) → (⟨S1x2048, .i32⟩ : BufTy).Contents (Elt F)),
    StableHlo.unary main_while0b_v45 main_while0b_v52 (broadcastInDim S8x1 ![0] bcast_S8_S8x1_0 : (⟨S8, .i32⟩ : BufTy).Contents (Elt F) → (⟨S8x1, .i32⟩ : BufTy).Contents (Elt F)),
    StableHlo.unary main_while0b_v51 main_while0b_v53 (broadcastInDim S8x2048 ![0, 1] bcast_S1x2048_S8x2048_0_1 : (⟨S1x2048, .i32⟩ : BufTy).Contents (Elt F) → (⟨S8x2048, .i32⟩ : BufTy).Contents (Elt F)),
    StableHlo.unary main_while0b_v52 main_while0b_v54 (broadcastInDim S8x2048 ![0, 1] bcast_S8x1_S8x2048_0_1 : (⟨S8x1, .i32⟩ : BufTy).Contents (Elt F) → (⟨S8x2048, .i32⟩ : BufTy).Contents (Elt F)),
    StableHlo.binary main_while0b_v53 main_while0b_v54 main_while0b_v55 (cmpi .slt : (⟨S8x2048, .i32⟩ : BufTy).Contents (Elt F) → (⟨S8x2048, .i32⟩ : BufTy).Contents (Elt F) → (⟨S8x2048, .i1⟩ : BufTy).Contents (Elt F)),
    StableHlo.binary main_while0b_v50 main_while0b_v55 main_while0b_v56 (andi : (⟨S8x2048, .i1⟩ : BufTy).Contents (Elt F) → (⟨S8x2048, .i1⟩ : BufTy).Contents (Elt F) → (⟨S8x2048, .i1⟩ : BufTy).Contents (Elt F)),
    StableHlo.unary main_while0b_v56 main_while0b_v57 (broadcastInDim S8x2048x1 ![0, 1] bcast_S8x2048_S8x2048x1_0_1 : (⟨S8x2048, .i1⟩ : BufTy).Contents (Elt F) → (⟨S8x2048x1, .i1⟩ : BufTy).Contents (Elt F)),
    StableHlo.nullary main_while0b_cst_13 (constant S_ .f32 0xFF7FFFFF#32) ]

/-- The body's operations 20 … 22 of 32. -/
abbrev trip_w5 : List (HloOp τ sig (Elt F)) :=
  [ StableHlo.TRef.unary (.of main_while0b_v57 : StableHlo.TRef sig ⟨S8x2048x1, .i1⟩) (.of main_while0b_call2_v0 : StableHlo.TRef sig ⟨S8x2048x256, .i1⟩) (broadcastInDim S8x2048x256 ![0, 1, 2] bcast_S8x2048x1_S8x2048x256_0_1_2),
    StableHlo.TRef.unary (.of main_while0b_cst_13 : StableHlo.TRef sig ⟨S_, .f32⟩) (.of main_while0b_call2_v1 : StableHlo.TRef sig ⟨S8x2048x256, .f32⟩) (broadcastInDim S8x2048x256 ![] bcast_S_S8x2048x256),
    StableHlo.TRef.ternary (.of main_while0b_call2_v0 : StableHlo.TRef sig ⟨S8x2048x256, .i1⟩) (.of main_v5_3 : StableHlo.TRef sig ⟨S8x2048x256, .f32⟩) (.of main_while0b_call2_v1 : StableHlo.TRef sig ⟨S8x2048x256, .f32⟩) (.of main_while0b_v58 : StableHlo.TRef sig ⟨S8x2048x256, .f32⟩) select ]

/-- The body's operations 23 … 24 of 32. -/
abbrev trip_w6 : List (HloOp τ sig (Elt F)) :=
  [ StableHlo.nullary main_while0b_cst_14 (constant S_ .f32 0xFF800000#32),
    StableHlo.binary main_while0b_v58 main_while0b_cst_14 main_while0b_v59 ((fun x v => Host.reduce FloatOps.maximumf x v reducesTo_S8x2048x256_S8x256_d1 h_S_) : (⟨S8x2048x256, .f32⟩ : BufTy).Contents (Elt F) → (⟨S_, .f32⟩ : BufTy).Contents (Elt F) → (⟨S8x256, .f32⟩ : BufTy).Contents (Elt F)) ]

/-- The body's operations 25 … 28 of 32. -/
abbrev trip_w7 : List (HloOp τ sig (Elt F)) :=
  [ StableHlo.TRef.unary (.of main_while0b_v59 : StableHlo.TRef sig ⟨S8x256, .f32⟩) (.of main_while0b_call3_v0 : StableHlo.TRef sig ⟨S1x8x256, .f32⟩) (broadcastInDim S1x8x256 ![1, 2] bcast_S8x256_S1x8x256_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.binaryIndexed (.of main_v5_5 : StableHlo.TRef sig ⟨S64x8x256, .f32⟩) (.of main_while0b_call3_v0 : StableHlo.TRef sig ⟨S1x8x256, .f32⟩) ![(.of main_v5_4 : StableHlo.TRef sig ⟨S_, .i32⟩), (.of main_while0b_call3_c : StableHlo.TRef sig ⟨S_, .i32⟩), (.of main_while0b_call3_c_0 : StableHlo.TRef sig ⟨S_, .i32⟩)] (.of main_while0b_v60 : StableHlo.TRef sig ⟨S64x8x256, .f32⟩) (fun x u i => Host.dynamicUpdateSlice x u (fun k => (i k (Shape.Idx.first h_S_)).toInt) updateFits_S64x8x256_S1x8x256) ]

set_option maxRecDepth 5000 in
/-- `while0Ops0` is its windows in order. -/
theorem while0Ops0_cut : (while0Ops0 : List (HloOp τ sig (Elt F))) = trip_w0 ++ (trip_w1) := rfl
set_option maxRecDepth 5000 in
/-- `while0Ops0_1` is its windows in order. -/
theorem while0Ops0_1_cut : (while0Ops0_1 : List (HloOp τ sig (Elt F))) = trip_w2 ++ (trip_w3) := rfl
set_option maxRecDepth 5000 in
/-- `while0Ops0_2` is its windows in order. -/
theorem while0Ops0_2_cut : (while0Ops0_2 : List (HloOp τ sig (Elt F))) = trip_w4 := rfl
set_option maxRecDepth 5000 in
/-- `while0Ops0_3` is its windows in order. -/
theorem while0Ops0_3_cut : (while0Ops0_3 : List (HloOp τ sig (Elt F))) = trip_w5 := rfl
set_option maxRecDepth 5000 in
/-- `while0Ops0_4` is its windows in order. -/
theorem while0Ops0_4_cut : (while0Ops0_4 : List (HloOp τ sig (Elt F))) = trip_w6 := rfl
set_option maxRecDepth 5000 in
/-- `while0Ops0_5` is its windows in order. -/
theorem while0Ops0_5_cut : (while0Ops0_5 : List (HloOp τ sig (Elt F))) = trip_w7 := rfl

/-- The device's buffer contents before the body's first window. -/
def val0 (V0 : Valuation τ sig (Elt F)) : Valuation τ sig (Elt F) := V0
theorem val0_main_v5_0 (V0 : Valuation τ sig (Elt F)) : val0 V0 (no_index (Proc.devRef .tc main_v5_0)) = V0 (Proc.devRef .tc main_v5_0) := rfl
theorem val0_main_v5_4 (V0 : Valuation τ sig (Elt F)) : val0 V0 (no_index (Proc.devRef .tc main_v5_4)) = V0 (Proc.devRef .tc main_v5_4) := rfl
theorem val0_main_v5_1 (V0 : Valuation τ sig (Elt F)) : val0 V0 (no_index (Proc.devRef .tc main_v5_1)) = V0 (Proc.devRef .tc main_v5_1) := rfl
theorem val0_main_v5_2 (V0 : Valuation τ sig (Elt F)) : val0 V0 (no_index (Proc.devRef .tc main_v5_2)) = V0 (Proc.devRef .tc main_v5_2) := rfl
theorem val0_main_v5_3 (V0 : Valuation τ sig (Elt F)) : val0 V0 (no_index (Proc.devRef .tc main_v5_3)) = V0 (Proc.devRef .tc main_v5_3) := rfl
theorem val0_main_v5_5 (V0 : Valuation τ sig (Elt F)) : val0 V0 (no_index (Proc.devRef .tc main_v5_5)) = V0 (Proc.devRef .tc main_v5_5) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_call0_c, main_while0b_call0_v0]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v5_0 (V0 : Valuation τ sig (Elt F)) : val1 V0 (no_index (Proc.devRef .tc main_v5_0)) = V0 (Proc.devRef .tc main_v5_0) :=
  (val1_keep V0 main_v5_0 (by decide)).trans (val0_main_v5_0 V0)
theorem val1_main_v5_4 (V0 : Valuation τ sig (Elt F)) : val1 V0 (no_index (Proc.devRef .tc main_v5_4)) = V0 (Proc.devRef .tc main_v5_4) :=
  (val1_keep V0 main_v5_4 (by decide)).trans (val0_main_v5_4 V0)
theorem val1_main_v5_1 (V0 : Valuation τ sig (Elt F)) : val1 V0 (no_index (Proc.devRef .tc main_v5_1)) = V0 (Proc.devRef .tc main_v5_1) :=
  (val1_keep V0 main_v5_1 (by decide)).trans (val0_main_v5_1 V0)
theorem val1_main_v5_2 (V0 : Valuation τ sig (Elt F)) : val1 V0 (no_index (Proc.devRef .tc main_v5_2)) = V0 (Proc.devRef .tc main_v5_2) :=
  (val1_keep V0 main_v5_2 (by decide)).trans (val0_main_v5_2 V0)
theorem val1_main_v5_3 (V0 : Valuation τ sig (Elt F)) : val1 V0 (no_index (Proc.devRef .tc main_v5_3)) = V0 (Proc.devRef .tc main_v5_3) :=
  (val1_keep V0 main_v5_3 (by decide)).trans (val0_main_v5_3 V0)
theorem val1_main_v5_5 (V0 : Valuation τ sig (Elt F)) : val1 V0 (no_index (Proc.devRef .tc main_v5_5)) = V0 (Proc.devRef .tc main_v5_5) :=
  (val1_keep V0 main_v5_5 (by decide)).trans (val0_main_v5_5 V0)
set_option maxRecDepth 8192 in
theorem val1_main_while0b_call0_v0 (V0 : Valuation τ sig (Elt F)) : val1 V0 (no_index (Proc.devRef .tc main_while0b_call0_v0)) = Host.dynamicSlice S1x8 (V0 (Proc.devRef .tc main_v5_0)) (fun k => (((![V0 (Proc.devRef .tc main_v5_4), constantI S_ 32 0#32] : Fin 2 → (⟨S_, .i32⟩ : BufTy).Contents (Elt F))) k (Shape.Idx.first h_S_)).toInt) sliceFits_S64x8_S1x8 := by
  unfold val1
  simp only [trip_w0]
  after_results_entrywise [val0_main_v5_4, val0_main_v5_0, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_v44]
set_option maxRecDepth 8192 in
theorem trip_w1_writes : (trip_w1 : List (HloOp τ sig (Elt F))).Forall fun op => op.writes ⊆ (trip_w1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v5_0 (V0 : Valuation τ sig (Elt F)) : val2 V0 (no_index (Proc.devRef .tc main_v5_0)) = V0 (Proc.devRef .tc main_v5_0) :=
  (val2_keep V0 main_v5_0 (by decide)).trans (val1_main_v5_0 V0)
theorem val2_main_v5_4 (V0 : Valuation τ sig (Elt F)) : val2 V0 (no_index (Proc.devRef .tc main_v5_4)) = V0 (Proc.devRef .tc main_v5_4) :=
  (val2_keep V0 main_v5_4 (by decide)).trans (val1_main_v5_4 V0)
theorem val2_main_v5_1 (V0 : Valuation τ sig (Elt F)) : val2 V0 (no_index (Proc.devRef .tc main_v5_1)) = V0 (Proc.devRef .tc main_v5_1) :=
  (val2_keep V0 main_v5_1 (by decide)).trans (val1_main_v5_1 V0)
theorem val2_main_v5_2 (V0 : Valuation τ sig (Elt F)) : val2 V0 (no_index (Proc.devRef .tc main_v5_2)) = V0 (Proc.devRef .tc main_v5_2) :=
  (val2_keep V0 main_v5_2 (by decide)).trans (val1_main_v5_2 V0)
theorem val2_main_v5_3 (V0 : Valuation τ sig (Elt F)) : val2 V0 (no_index (Proc.devRef .tc main_v5_3)) = V0 (Proc.devRef .tc main_v5_3) :=
  (val2_keep V0 main_v5_3 (by decide)).trans (val1_main_v5_3 V0)
theorem val2_main_v5_5 (V0 : Valuation τ sig (Elt F)) : val2 V0 (no_index (Proc.devRef .tc main_v5_5)) = V0 (Proc.devRef .tc main_v5_5) :=
  (val2_keep V0 main_v5_5 (by decide)).trans (val1_main_v5_5 V0)
set_option maxRecDepth 8192 in
theorem val2_main_while0b_v44 (V0 : Valuation τ sig (Elt F)) : val2 V0 (no_index (Proc.devRef .tc main_while0b_v44)) = shapeCast S8 (Host.dynamicSlice S1x8 (V0 (Proc.devRef .tc main_v5_0)) (fun k => (((![V0 (Proc.devRef .tc main_v5_4), constantI S_ 32 0#32] : Fin 2 → (⟨S_, .i32⟩ : BufTy).Contents (Elt F))) k (Shape.Idx.first h_S_)).toInt) sliceFits_S64x8_S1x8) shapeCasts_S1x8_S8 := by
  unfold val2
  simp only [trip_w1]
  after_results_entrywise [val1_main_while0b_call0_v0, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_call1_c, main_while0b_call1_v0]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v5_0 (V0 : Valuation τ sig (Elt F)) : val3 V0 (no_index (Proc.devRef .tc main_v5_0)) = V0 (Proc.devRef .tc main_v5_0) :=
  (val3_keep V0 main_v5_0 (by decide)).trans (val2_main_v5_0 V0)
theorem val3_main_v5_4 (V0 : Valuation τ sig (Elt F)) : val3 V0 (no_index (Proc.devRef .tc main_v5_4)) = V0 (Proc.devRef .tc main_v5_4) :=
  (val3_keep V0 main_v5_4 (by decide)).trans (val2_main_v5_4 V0)
theorem val3_main_v5_1 (V0 : Valuation τ sig (Elt F)) : val3 V0 (no_index (Proc.devRef .tc main_v5_1)) = V0 (Proc.devRef .tc main_v5_1) :=
  (val3_keep V0 main_v5_1 (by decide)).trans (val2_main_v5_1 V0)
theorem val3_main_v5_2 (V0 : Valuation τ sig (Elt F)) : val3 V0 (no_index (Proc.devRef .tc main_v5_2)) = V0 (Proc.devRef .tc main_v5_2) :=
  (val3_keep V0 main_v5_2 (by decide)).trans (val2_main_v5_2 V0)
theorem val3_main_v5_3 (V0 : Valuation τ sig (Elt F)) : val3 V0 (no_index (Proc.devRef .tc main_v5_3)) = V0 (Proc.devRef .tc main_v5_3) :=
  (val3_keep V0 main_v5_3 (by decide)).trans (val2_main_v5_3 V0)
theorem val3_main_v5_5 (V0 : Valuation τ sig (Elt F)) : val3 V0 (no_index (Proc.devRef .tc main_v5_5)) = V0 (Proc.devRef .tc main_v5_5) :=
  (val3_keep V0 main_v5_5 (by decide)).trans (val2_main_v5_5 V0)
theorem val3_main_while0b_v44 (V0 : Valuation τ sig (Elt F)) : val3 V0 (no_index (Proc.devRef .tc main_while0b_v44)) = shapeCast S8 (Host.dynamicSlice S1x8 (V0 (Proc.devRef .tc main_v5_0)) (fun k => (((![V0 (Proc.devRef .tc main_v5_4), constantI S_ 32 0#32] : Fin 2 → (⟨S_, .i32⟩ : BufTy).Contents (Elt F))) k (Shape.Idx.first h_S_)).toInt) sliceFits_S64x8_S1x8) shapeCasts_S1x8_S8 :=
  (val3_keep V0 main_while0b_v44 (by decide)).trans (val2_main_while0b_v44 V0)
set_option maxRecDepth 8192 in
theorem val3_main_while0b_call1_v0 (V0 : Valuation τ sig (Elt F)) : val3 V0 (no_index (Proc.devRef .tc main_while0b_call1_v0)) = Host.dynamicSlice S1x8 (V0 (Proc.devRef .tc main_v5_1)) (fun k => (((![V0 (Proc.devRef .tc main_v5_4), constantI S_ 32 0#32] : Fin 2 → (⟨S_, .i32⟩ : BufTy).Contents (Elt F))) k (Shape.Idx.first h_S_)).toInt) sliceFits_S64x8_S1x8 := by
  unfold val3
  simp only [trip_w2]
  after_results_entrywise [val2_main_v5_4, val2_main_v5_1, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_v45]
set_option maxRecDepth 8192 in
theorem trip_w3_writes : (trip_w3 : List (HloOp τ sig (Elt F))).Forall fun op => op.writes ⊆ (trip_w3_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v5_0 (V0 : Valuation τ sig (Elt F)) : val4 V0 (no_index (Proc.devRef .tc main_v5_0)) = V0 (Proc.devRef .tc main_v5_0) :=
  (val4_keep V0 main_v5_0 (by decide)).trans (val3_main_v5_0 V0)
theorem val4_main_v5_4 (V0 : Valuation τ sig (Elt F)) : val4 V0 (no_index (Proc.devRef .tc main_v5_4)) = V0 (Proc.devRef .tc main_v5_4) :=
  (val4_keep V0 main_v5_4 (by decide)).trans (val3_main_v5_4 V0)
theorem val4_main_v5_1 (V0 : Valuation τ sig (Elt F)) : val4 V0 (no_index (Proc.devRef .tc main_v5_1)) = V0 (Proc.devRef .tc main_v5_1) :=
  (val4_keep V0 main_v5_1 (by decide)).trans (val3_main_v5_1 V0)
theorem val4_main_v5_2 (V0 : Valuation τ sig (Elt F)) : val4 V0 (no_index (Proc.devRef .tc main_v5_2)) = V0 (Proc.devRef .tc main_v5_2) :=
  (val4_keep V0 main_v5_2 (by decide)).trans (val3_main_v5_2 V0)
theorem val4_main_v5_3 (V0 : Valuation τ sig (Elt F)) : val4 V0 (no_index (Proc.devRef .tc main_v5_3)) = V0 (Proc.devRef .tc main_v5_3) :=
  (val4_keep V0 main_v5_3 (by decide)).trans (val3_main_v5_3 V0)
theorem val4_main_v5_5 (V0 : Valuation τ sig (Elt F)) : val4 V0 (no_index (Proc.devRef .tc main_v5_5)) = V0 (Proc.devRef .tc main_v5_5) :=
  (val4_keep V0 main_v5_5 (by decide)).trans (val3_main_v5_5 V0)
theorem val4_main_while0b_v44 (V0 : Valuation τ sig (Elt F)) : val4 V0 (no_index (Proc.devRef .tc main_while0b_v44)) = shapeCast S8 (Host.dynamicSlice S1x8 (V0 (Proc.devRef .tc main_v5_0)) (fun k => (((![V0 (Proc.devRef .tc main_v5_4), constantI S_ 32 0#32] : Fin 2 → (⟨S_, .i32⟩ : BufTy).Contents (Elt F))) k (Shape.Idx.first h_S_)).toInt) sliceFits_S64x8_S1x8) shapeCasts_S1x8_S8 :=
  (val4_keep V0 main_while0b_v44 (by decide)).trans (val3_main_while0b_v44 V0)
set_option maxRecDepth 8192 in
theorem val4_main_while0b_v45 (V0 : Valuation τ sig (Elt F)) : val4 V0 (no_index (Proc.devRef .tc main_while0b_v45)) = shapeCast S8 (Host.dynamicSlice S1x8 (V0 (Proc.devRef .tc main_v5_1)) (fun k => (((![V0 (Proc.devRef .tc main_v5_4), constantI S_ 32 0#32] : Fin 2 → (⟨S_, .i32⟩ : BufTy).Contents (Elt F))) k (Shape.Idx.first h_S_)).toInt) sliceFits_S64x8_S1x8) shapeCasts_S1x8_S8 := by
  unfold val4
  simp only [trip_w3]
  after_results_entrywise [val3_main_while0b_call1_v0, cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while0b_v46, main_while0b_v47, main_while0b_v48, main_while0b_v49, main_while0b_v50, main_while0b_v51, main_while0b_v52, main_while0b_v53, main_while0b_v54, main_while0b_v55, main_while0b_v56, main_while0b_v57, main_while0b_cst_13]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v5_0 (V0 : Valuation τ sig (Elt F)) : val5 V0 (no_index (Proc.devRef .tc main_v5_0)) = V0 (Proc.devRef .tc main_v5_0) :=
  (val5_keep V0 main_v5_0 (by decide)).trans (val4_main_v5_0 V0)
theorem val5_main_v5_4 (V0 : Valuation τ sig (Elt F)) : val5 V0 (no_index (Proc.devRef .tc main_v5_4)) = V0 (Proc.devRef .tc main_v5_4) :=
  (val5_keep V0 main_v5_4 (by decide)).trans (val4_main_v5_4 V0)
theorem val5_main_v5_1 (V0 : Valuation τ sig (Elt F)) : val5 V0 (no_index (Proc.devRef .tc main_v5_1)) = V0 (Proc.devRef .tc main_v5_1) :=
  (val5_keep V0 main_v5_1 (by decide)).trans (val4_main_v5_1 V0)
theorem val5_main_v5_2 (V0 : Valuation τ sig (Elt F)) : val5 V0 (no_index (Proc.devRef .tc main_v5_2)) = V0 (Proc.devRef .tc main_v5_2) :=
  (val5_keep V0 main_v5_2 (by decide)).trans (val4_main_v5_2 V0)
theorem val5_main_v5_3 (V0 : Valuation τ sig (Elt F)) : val5 V0 (no_index (Proc.devRef .tc main_v5_3)) = V0 (Proc.devRef .tc main_v5_3) :=
  (val5_keep V0 main_v5_3 (by decide)).trans (val4_main_v5_3 V0)
theorem val5_main_v5_5 (V0 : Valuation τ sig (Elt F)) : val5 V0 (no_index (Proc.devRef .tc main_v5_5)) = V0 (Proc.devRef .tc main_v5_5) :=
  (val5_keep V0 main_v5_5 (by decide)).trans (val4_main_v5_5 V0)
set_option maxRecDepth 8192 in
set_option maxHeartbeats 1300000 in
theorem val5_main_while0b_v57 (V0 : Valuation τ sig (Elt F)) : val5 V0 (no_index (Proc.devRef .tc main_while0b_v57)) = broadcastInDim S8x2048x1 ![0, 1] bcast_S8x2048_S8x2048x1_0_1 (andi (cmpi .sge (broadcastInDim S8x2048 ![0, 1] bcast_S1x2048_S8x2048_0_1 (broadcastInDim S1x2048 ![1] bcast_S2048_S1x2048_1 (V0 (Proc.devRef .tc main_v5_2)))) (broadcastInDim S8x2048 ![0, 1] bcast_S8x1_S8x2048_0_1 (broadcastInDim S8x1 ![0] bcast_S8_S8x1_0 (shapeCast S8 (Host.dynamicSlice S1x8 (V0 (Proc.devRef .tc main_v5_0)) (fun k => (((![V0 (Proc.devRef .tc main_v5_4), constantI S_ 32 0#32] : Fin 2 → (⟨S_, .i32⟩ : BufTy).Contents (Elt F))) k (Shape.Idx.first h_S_)).toInt) sliceFits_S64x8_S1x8) shapeCasts_S1x8_S8)))) (cmpi .slt (broadcastInDim S8x2048 ![0, 1] bcast_S1x2048_S8x2048_0_1 (broadcastInDim S1x2048 ![1] bcast_S2048_S1x2048_1 (V0 (Proc.devRef .tc main_v5_2)))) (broadcastInDim S8x2048 ![0, 1] bcast_S8x1_S8x2048_0_1 (broadcastInDim S8x1 ![0] bcast_S8_S8x1_0 (shapeCast S8 (Host.dynamicSlice S1x8 (V0 (Proc.devRef .tc main_v5_1)) (fun k => (((![V0 (Proc.devRef .tc main_v5_4), constantI S_ 32 0#32] : Fin 2 → (⟨S_, .i32⟩ : BufTy).Contents (Elt F))) k (Shape.Idx.first h_S_)).toInt) sliceFits_S64x8_S1x8) shapeCasts_S1x8_S8))))) := by
  unfold val5
  simp only [trip_w4]
  after_results_entrywise [val4_main_while0b_v45, val4_main_v5_2, val4_main_while0b_v44, cast_eq]
set_option maxRecDepth 8192 in
set_option maxHeartbeats 1300000 in
theorem val5_main_while0b_cst_13 (V0 : Valuation τ sig (Elt F)) : val5 V0 (no_index (Proc.devRef .tc main_while0b_cst_13)) = constant S_ .f32 0xFF7FFFFF#32 := by
  unfold val5
  simp only [trip_w4]
  after_results_entrywise [cast_eq]

/-- The device's buffer contents after the body's first 6 windows. -/
def val6 (V0 : Valuation τ sig (Elt F)) : Valuation τ sig (Elt F) := after trip_w5 (val5 V0)
/-- The buffers that window `trip_w5`'s operations write. -/
abbrev trip_w5_W : List (Ref sig .tc) := [main_while0b_call2_v0, main_while0b_call2_v1, main_while0b_v58]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v5_0 (V0 : Valuation τ sig (Elt F)) : val6 V0 (no_index (Proc.devRef .tc main_v5_0)) = V0 (Proc.devRef .tc main_v5_0) :=
  (val6_keep V0 main_v5_0 (by decide)).trans (val5_main_v5_0 V0)
theorem val6_main_v5_4 (V0 : Valuation τ sig (Elt F)) : val6 V0 (no_index (Proc.devRef .tc main_v5_4)) = V0 (Proc.devRef .tc main_v5_4) :=
  (val6_keep V0 main_v5_4 (by decide)).trans (val5_main_v5_4 V0)
theorem val6_main_v5_1 (V0 : Valuation τ sig (Elt F)) : val6 V0 (no_index (Proc.devRef .tc main_v5_1)) = V0 (Proc.devRef .tc main_v5_1) :=
  (val6_keep V0 main_v5_1 (by decide)).trans (val5_main_v5_1 V0)
theorem val6_main_v5_2 (V0 : Valuation τ sig (Elt F)) : val6 V0 (no_index (Proc.devRef .tc main_v5_2)) = V0 (Proc.devRef .tc main_v5_2) :=
  (val6_keep V0 main_v5_2 (by decide)).trans (val5_main_v5_2 V0)
theorem val6_main_v5_3 (V0 : Valuation τ sig (Elt F)) : val6 V0 (no_index (Proc.devRef .tc main_v5_3)) = V0 (Proc.devRef .tc main_v5_3) :=
  (val6_keep V0 main_v5_3 (by decide)).trans (val5_main_v5_3 V0)
theorem val6_main_v5_5 (V0 : Valuation τ sig (Elt F)) : val6 V0 (no_index (Proc.devRef .tc main_v5_5)) = V0 (Proc.devRef .tc main_v5_5) :=
  (val6_keep V0 main_v5_5 (by decide)).trans (val5_main_v5_5 V0)
set_option maxRecDepth 8192 in
theorem val6_main_while0b_v58 (V0 : Valuation τ sig (Elt F)) : val6 V0 (no_index (Proc.devRef .tc main_while0b_v58)) = select (broadcastInDim S8x2048x256 ![0, 1, 2] bcast_S8x2048x1_S8x2048x256_0_1_2 (broadcastInDim S8x2048x1 ![0, 1] bcast_S8x2048_S8x2048x1_0_1 (andi (cmpi .sge (broadcastInDim S8x2048 ![0, 1] bcast_S1x2048_S8x2048_0_1 (broadcastInDim S1x2048 ![1] bcast_S2048_S1x2048_1 (V0 (Proc.devRef .tc main_v5_2)))) (broadcastInDim S8x2048 ![0, 1] bcast_S8x1_S8x2048_0_1 (broadcastInDim S8x1 ![0] bcast_S8_S8x1_0 (shapeCast S8 (Host.dynamicSlice S1x8 (V0 (Proc.devRef .tc main_v5_0)) (fun k => (((![V0 (Proc.devRef .tc main_v5_4), constantI S_ 32 0#32] : Fin 2 → (⟨S_, .i32⟩ : BufTy).Contents (Elt F))) k (Shape.Idx.first h_S_)).toInt) sliceFits_S64x8_S1x8) shapeCasts_S1x8_S8)))) (cmpi .slt (broadcastInDim S8x2048 ![0, 1] bcast_S1x2048_S8x2048_0_1 (broadcastInDim S1x2048 ![1] bcast_S2048_S1x2048_1 (V0 (Proc.devRef .tc main_v5_2)))) (broadcastInDim S8x2048 ![0, 1] bcast_S8x1_S8x2048_0_1 (broadcastInDim S8x1 ![0] bcast_S8_S8x1_0 (shapeCast S8 (Host.dynamicSlice S1x8 (V0 (Proc.devRef .tc main_v5_1)) (fun k => (((![V0 (Proc.devRef .tc main_v5_4), constantI S_ 32 0#32] : Fin 2 → (⟨S_, .i32⟩ : BufTy).Contents (Elt F))) k (Shape.Idx.first h_S_)).toInt) sliceFits_S64x8_S1x8) shapeCasts_S1x8_S8))))))) (V0 (Proc.devRef .tc main_v5_3)) (broadcastInDim S8x2048x256 ![] bcast_S_S8x2048x256 (constant S_ .f32 0xFF7FFFFF#32)) := by
  unfold val6
  simp only [trip_w5]
  after_results_entrywise [val5_main_while0b_cst_13, val5_main_v5_3, val5_main_while0b_v57, cast_eq]

/-- The device's buffer contents after the body's first 7 windows. -/
def val7 (V0 : Valuation τ sig (Elt F)) : Valuation τ sig (Elt F) := after trip_w6 (val6 V0)
/-- The buffers that window `trip_w6`'s operations write. -/
abbrev trip_w6_W : List (Ref sig .tc) := [main_while0b_cst_14, main_while0b_v59]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v5_0 (V0 : Valuation τ sig (Elt F)) : val7 V0 (no_index (Proc.devRef .tc main_v5_0)) = V0 (Proc.devRef .tc main_v5_0) :=
  (val7_keep V0 main_v5_0 (by decide)).trans (val6_main_v5_0 V0)
theorem val7_main_v5_4 (V0 : Valuation τ sig (Elt F)) : val7 V0 (no_index (Proc.devRef .tc main_v5_4)) = V0 (Proc.devRef .tc main_v5_4) :=
  (val7_keep V0 main_v5_4 (by decide)).trans (val6_main_v5_4 V0)
theorem val7_main_v5_1 (V0 : Valuation τ sig (Elt F)) : val7 V0 (no_index (Proc.devRef .tc main_v5_1)) = V0 (Proc.devRef .tc main_v5_1) :=
  (val7_keep V0 main_v5_1 (by decide)).trans (val6_main_v5_1 V0)
theorem val7_main_v5_2 (V0 : Valuation τ sig (Elt F)) : val7 V0 (no_index (Proc.devRef .tc main_v5_2)) = V0 (Proc.devRef .tc main_v5_2) :=
  (val7_keep V0 main_v5_2 (by decide)).trans (val6_main_v5_2 V0)
theorem val7_main_v5_3 (V0 : Valuation τ sig (Elt F)) : val7 V0 (no_index (Proc.devRef .tc main_v5_3)) = V0 (Proc.devRef .tc main_v5_3) :=
  (val7_keep V0 main_v5_3 (by decide)).trans (val6_main_v5_3 V0)
theorem val7_main_v5_5 (V0 : Valuation τ sig (Elt F)) : val7 V0 (no_index (Proc.devRef .tc main_v5_5)) = V0 (Proc.devRef .tc main_v5_5) :=
  (val7_keep V0 main_v5_5 (by decide)).trans (val6_main_v5_5 V0)
set_option maxRecDepth 8192 in
theorem val7_main_while0b_v59 (V0 : Valuation τ sig (Elt F)) : val7 V0 (no_index (Proc.devRef .tc main_while0b_v59)) = Host.reduce FloatOps.maximumf (select (broadcastInDim S8x2048x256 ![0, 1, 2] bcast_S8x2048x1_S8x2048x256_0_1_2 (broadcastInDim S8x2048x1 ![0, 1] bcast_S8x2048_S8x2048x1_0_1 (andi (cmpi .sge (broadcastInDim S8x2048 ![0, 1] bcast_S1x2048_S8x2048_0_1 (broadcastInDim S1x2048 ![1] bcast_S2048_S1x2048_1 (V0 (Proc.devRef .tc main_v5_2)))) (broadcastInDim S8x2048 ![0, 1] bcast_S8x1_S8x2048_0_1 (broadcastInDim S8x1 ![0] bcast_S8_S8x1_0 (shapeCast S8 (Host.dynamicSlice S1x8 (V0 (Proc.devRef .tc main_v5_0)) (fun k => (((![V0 (Proc.devRef .tc main_v5_4), constantI S_ 32 0#32] : Fin 2 → (⟨S_, .i32⟩ : BufTy).Contents (Elt F))) k (Shape.Idx.first h_S_)).toInt) sliceFits_S64x8_S1x8) shapeCasts_S1x8_S8)))) (cmpi .slt (broadcastInDim S8x2048 ![0, 1] bcast_S1x2048_S8x2048_0_1 (broadcastInDim S1x2048 ![1] bcast_S2048_S1x2048_1 (V0 (Proc.devRef .tc main_v5_2)))) (broadcastInDim S8x2048 ![0, 1] bcast_S8x1_S8x2048_0_1 (broadcastInDim S8x1 ![0] bcast_S8_S8x1_0 (shapeCast S8 (Host.dynamicSlice S1x8 (V0 (Proc.devRef .tc main_v5_1)) (fun k => (((![V0 (Proc.devRef .tc main_v5_4), constantI S_ 32 0#32] : Fin 2 → (⟨S_, .i32⟩ : BufTy).Contents (Elt F))) k (Shape.Idx.first h_S_)).toInt) sliceFits_S64x8_S1x8) shapeCasts_S1x8_S8))))))) (V0 (Proc.devRef .tc main_v5_3)) (broadcastInDim S8x2048x256 ![] bcast_S_S8x2048x256 (constant S_ .f32 0xFF7FFFFF#32))) (constant S_ .f32 0xFF800000#32) reducesTo_S8x2048x256_S8x256_d1 h_S_ := by
  unfold val7
  simp only [trip_w6]
  after_results_entrywise [val6_main_while0b_v58, cast_eq]

/-- The device's buffer contents after the body's first 8 windows. -/
def val8 (V0 : Valuation τ sig (Elt F)) : Valuation τ sig (Elt F) := after trip_w7 (val7 V0)
/-- The buffers that window `trip_w7`'s operations write. -/
abbrev trip_w7_W : List (Ref sig .tc) := [main_while0b_call3_v0, main_while0b_call3_c, main_while0b_call3_c_0, main_while0b_v60]
set_option maxRecDepth 8192 in
theorem trip_w7_writes : (trip_w7 : List (HloOp τ sig (Elt F))).Forall fun op => op.writes ⊆ (trip_w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v5_0 (V0 : Valuation τ sig (Elt F)) : val8 V0 (no_index (Proc.devRef .tc main_v5_0)) = V0 (Proc.devRef .tc main_v5_0) :=
  (val8_keep V0 main_v5_0 (by decide)).trans (val7_main_v5_0 V0)
theorem val8_main_v5_4 (V0 : Valuation τ sig (Elt F)) : val8 V0 (no_index (Proc.devRef .tc main_v5_4)) = V0 (Proc.devRef .tc main_v5_4) :=
  (val8_keep V0 main_v5_4 (by decide)).trans (val7_main_v5_4 V0)
theorem val8_main_v5_1 (V0 : Valuation τ sig (Elt F)) : val8 V0 (no_index (Proc.devRef .tc main_v5_1)) = V0 (Proc.devRef .tc main_v5_1) :=
  (val8_keep V0 main_v5_1 (by decide)).trans (val7_main_v5_1 V0)
theorem val8_main_v5_2 (V0 : Valuation τ sig (Elt F)) : val8 V0 (no_index (Proc.devRef .tc main_v5_2)) = V0 (Proc.devRef .tc main_v5_2) :=
  (val8_keep V0 main_v5_2 (by decide)).trans (val7_main_v5_2 V0)
theorem val8_main_v5_3 (V0 : Valuation τ sig (Elt F)) : val8 V0 (no_index (Proc.devRef .tc main_v5_3)) = V0 (Proc.devRef .tc main_v5_3) :=
  (val8_keep V0 main_v5_3 (by decide)).trans (val7_main_v5_3 V0)
theorem val8_main_v5_5 (V0 : Valuation τ sig (Elt F)) : val8 V0 (no_index (Proc.devRef .tc main_v5_5)) = V0 (Proc.devRef .tc main_v5_5) :=
  (val8_keep V0 main_v5_5 (by decide)).trans (val7_main_v5_5 V0)
set_option maxRecDepth 8192 in
theorem val8_main_while0b_v60 (V0 : Valuation τ sig (Elt F)) : val8 V0 (no_index (Proc.devRef .tc main_while0b_v60)) = Host.dynamicUpdateSlice (V0 (Proc.devRef .tc main_v5_5)) (broadcastInDim S1x8x256 ![1, 2] bcast_S8x256_S1x8x256_1_2 (Host.reduce FloatOps.maximumf (select (broadcastInDim S8x2048x256 ![0, 1, 2] bcast_S8x2048x1_S8x2048x256_0_1_2 (broadcastInDim S8x2048x1 ![0, 1] bcast_S8x2048_S8x2048x1_0_1 (andi (cmpi .sge (broadcastInDim S8x2048 ![0, 1] bcast_S1x2048_S8x2048_0_1 (broadcastInDim S1x2048 ![1] bcast_S2048_S1x2048_1 (V0 (Proc.devRef .tc main_v5_2)))) (broadcastInDim S8x2048 ![0, 1] bcast_S8x1_S8x2048_0_1 (broadcastInDim S8x1 ![0] bcast_S8_S8x1_0 (shapeCast S8 (Host.dynamicSlice S1x8 (V0 (Proc.devRef .tc main_v5_0)) (fun k => (((![V0 (Proc.devRef .tc main_v5_4), constantI S_ 32 0#32] : Fin 2 → (⟨S_, .i32⟩ : BufTy).Contents (Elt F))) k (Shape.Idx.first h_S_)).toInt) sliceFits_S64x8_S1x8) shapeCasts_S1x8_S8)))) (cmpi .slt (broadcastInDim S8x2048 ![0, 1] bcast_S1x2048_S8x2048_0_1 (broadcastInDim S1x2048 ![1] bcast_S2048_S1x2048_1 (V0 (Proc.devRef .tc main_v5_2)))) (broadcastInDim S8x2048 ![0, 1] bcast_S8x1_S8x2048_0_1 (broadcastInDim S8x1 ![0] bcast_S8_S8x1_0 (shapeCast S8 (Host.dynamicSlice S1x8 (V0 (Proc.devRef .tc main_v5_1)) (fun k => (((![V0 (Proc.devRef .tc main_v5_4), constantI S_ 32 0#32] : Fin 2 → (⟨S_, .i32⟩ : BufTy).Contents (Elt F))) k (Shape.Idx.first h_S_)).toInt) sliceFits_S64x8_S1x8) shapeCasts_S1x8_S8))))))) (V0 (Proc.devRef .tc main_v5_3)) (broadcastInDim S8x2048x256 ![] bcast_S_S8x2048x256 (constant S_ .f32 0xFF7FFFFF#32))) (constant S_ .f32 0xFF800000#32) reducesTo_S8x2048x256_S8x256_d1 h_S_)) (fun k => (((![V0 (Proc.devRef .tc main_v5_4), constantI S_ 32 0#32, constantI S_ 32 0#32] : Fin 3 → (⟨S_, .i32⟩ : BufTy).Contents (Elt F))) k (Shape.Idx.first h_S_)).toInt) updateFits_S64x8x256_S1x8x256 := by
  unfold val8
  simp only [trip_w7]
  after_results_entrywise [val7_main_v5_4, val7_main_while0b_v59, val7_main_v5_5, cast_eq]

set_option maxRecDepth 8192 in
/-- The body's stretches before `while0Ops0_6`, from any contents: their windows in order. -/
theorem trip_windows (V0 : Valuation τ sig (Elt F)) : after while0Ops0_5 (after while0Ops0_4 (after while0Ops0_3 (after while0Ops0_2 (after while0Ops0_1 (after while0Ops0 (V0)))))) = val8 V0 := by
  simp only [while0Ops0_cut, while0Ops0_1_cut, while0Ops0_2_cut, while0Ops0_3_cut, while0Ops0_4_cut, while0Ops0_5_cut, after_append]
  rfl

set_option maxRecDepth 8192 in
set_option maxHeartbeats 2000000 in
/-- `main_v5_0` after one trip's body, from any contents. -/
theorem trip_main_v5_0 (V0 : Valuation τ sig (Elt F)) : afterL bodyI V0 (no_index (Proc.devRef .tc main_v5_0)) = V0 (Proc.devRef .tc main_v5_0) := by
  simp only [bodyI, afterL_cons, afterL_nil, trip_windows]
  after_results
  all_goals (try simp only [val8_main_while0b_v60, val8_main_v5_0, val8_main_v5_1, val8_main_v5_2, val8_main_v5_3, val8_main_v5_4, val8_main_v5_5]) <;> rfl
set_option maxRecDepth 8192 in
set_option maxHeartbeats 2000000 in
/-- `main_v5_1` after one trip's body, from any contents. -/
theorem trip_main_v5_1 (V0 : Valuation τ sig (Elt F)) : afterL bodyI V0 (no_index (Proc.devRef .tc main_v5_1)) = V0 (Proc.devRef .tc main_v5_1) := by
  simp only [bodyI, afterL_cons, afterL_nil, trip_windows]
  after_results
  all_goals (try simp only [val8_main_while0b_v60, val8_main_v5_0, val8_main_v5_1, val8_main_v5_2, val8_main_v5_3, val8_main_v5_4, val8_main_v5_5]) <;> rfl
set_option maxRecDepth 8192 in
set_option maxHeartbeats 2000000 in
/-- `main_v5_2` after one trip's body, from any contents. -/
theorem trip_main_v5_2 (V0 : Valuation τ sig (Elt F)) : afterL bodyI V0 (no_index (Proc.devRef .tc main_v5_2)) = V0 (Proc.devRef .tc main_v5_2) := by
  simp only [bodyI, afterL_cons, afterL_nil, trip_windows]
  after_results
  all_goals (try simp only [val8_main_while0b_v60, val8_main_v5_0, val8_main_v5_1, val8_main_v5_2, val8_main_v5_3, val8_main_v5_4, val8_main_v5_5]) <;> rfl
set_option maxRecDepth 8192 in
set_option maxHeartbeats 2000000 in
/-- `main_v5_3` after one trip's body, from any contents. -/
theorem trip_main_v5_3 (V0 : Valuation τ sig (Elt F)) : afterL bodyI V0 (no_index (Proc.devRef .tc main_v5_3)) = V0 (Proc.devRef .tc main_v5_3) := by
  simp only [bodyI, afterL_cons, afterL_nil, trip_windows]
  after_results
  all_goals (try simp only [val8_main_while0b_v60, val8_main_v5_0, val8_main_v5_1, val8_main_v5_2, val8_main_v5_3, val8_main_v5_4, val8_main_v5_5]) <;> rfl
set_option maxRecDepth 8192 in
set_option maxHeartbeats 2000000 in
/-- `main_v5_4` after one trip's body, from any contents. -/
theorem trip_main_v5_4 (V0 : Valuation τ sig (Elt F)) : afterL bodyI V0 (no_index (Proc.devRef .tc main_v5_4)) = id (addi (V0 (Proc.devRef .tc main_v5_4)) (constantI S_ 32 1#32)) := by
  simp only [bodyI, afterL_cons, afterL_nil, trip_windows]
  after_results
  all_goals (try simp only [val8_main_while0b_v60, val8_main_v5_0, val8_main_v5_1, val8_main_v5_2, val8_main_v5_3, val8_main_v5_4, val8_main_v5_5]) <;> rfl
set_option maxRecDepth 8192 in
set_option maxHeartbeats 2000000 in
/-- `main_v5_5` after one trip's body, from any contents. -/
theorem trip_main_v5_5 (V0 : Valuation τ sig (Elt F)) : afterL bodyI V0 (no_index (Proc.devRef .tc main_v5_5)) = id (Host.dynamicUpdateSlice (V0 (Proc.devRef .tc main_v5_5)) (broadcastInDim S1x8x256 ![1, 2] bcast_S8x256_S1x8x256_1_2 (Host.reduce FloatOps.maximumf (select (broadcastInDim S8x2048x256 ![0, 1, 2] bcast_S8x2048x1_S8x2048x256_0_1_2 (broadcastInDim S8x2048x1 ![0, 1] bcast_S8x2048_S8x2048x1_0_1 (andi (cmpi .sge (broadcastInDim S8x2048 ![0, 1] bcast_S1x2048_S8x2048_0_1 (broadcastInDim S1x2048 ![1] bcast_S2048_S1x2048_1 (V0 (Proc.devRef .tc main_v5_2)))) (broadcastInDim S8x2048 ![0, 1] bcast_S8x1_S8x2048_0_1 (broadcastInDim S8x1 ![0] bcast_S8_S8x1_0 (shapeCast S8 (Host.dynamicSlice S1x8 (V0 (Proc.devRef .tc main_v5_0)) (fun k => (((![V0 (Proc.devRef .tc main_v5_4), constantI S_ 32 0#32] : Fin 2 → (⟨S_, .i32⟩ : BufTy).Contents (Elt F))) k (Shape.Idx.first h_S_)).toInt) sliceFits_S64x8_S1x8) shapeCasts_S1x8_S8)))) (cmpi .slt (broadcastInDim S8x2048 ![0, 1] bcast_S1x2048_S8x2048_0_1 (broadcastInDim S1x2048 ![1] bcast_S2048_S1x2048_1 (V0 (Proc.devRef .tc main_v5_2)))) (broadcastInDim S8x2048 ![0, 1] bcast_S8x1_S8x2048_0_1 (broadcastInDim S8x1 ![0] bcast_S8_S8x1_0 (shapeCast S8 (Host.dynamicSlice S1x8 (V0 (Proc.devRef .tc main_v5_1)) (fun k => (((![V0 (Proc.devRef .tc main_v5_4), constantI S_ 32 0#32] : Fin 2 → (⟨S_, .i32⟩ : BufTy).Contents (Elt F))) k (Shape.Idx.first h_S_)).toInt) sliceFits_S64x8_S1x8) shapeCasts_S1x8_S8))))))) (V0 (Proc.devRef .tc main_v5_3)) (broadcastInDim S8x2048x256 ![] bcast_S_S8x2048x256 (constant S_ .f32 0xFF7FFFFF#32))) (constant S_ .f32 0xFF800000#32) reducesTo_S8x2048x256_S8x256_d1 h_S_)) (fun k => (((![V0 (Proc.devRef .tc main_v5_4), constantI S_ 32 0#32, constantI S_ 32 0#32] : Fin 3 → (⟨S_, .i32⟩ : BufTy).Contents (Elt F))) k (Shape.Idx.first h_S_)).toInt) updateFits_S64x8x256_S1x8x256) := by
  simp only [bodyI, afterL_cons, afterL_nil, trip_windows]
  after_results
  all_goals (try simp only [val8_main_while0b_v60, val8_main_v5_0, val8_main_v5_1, val8_main_v5_2, val8_main_v5_3, val8_main_v5_4, val8_main_v5_5]) <;> rfl

/-- The loop's carried buffers. -/
abbrev carriedRefs : List (Ref sig .tc) := [main_v5_0, main_v5_1, main_v5_2, main_v5_3, main_v5_4, main_v5_5]
/-- Two contents agree on the carried buffers: all that one trip reads. -/
def Agree (V V' : Valuation τ sig (Elt F)) : Prop := ∀ j ∈ carriedRefs, V (Proc.devRef .tc j) = V' (Proc.devRef .tc j)

set_option maxRecDepth 8192 in
/-- `main_v5_4` after one trip, of the contents before it. -/
def step_main_v5_4 (V0 : Valuation τ sig (Elt F)) : (Proc.devRef .tc main_v5_4 : DevRef τ sig).ty.Contents (Elt F) :=
  id (addi (V0 (Proc.devRef .tc main_v5_4)) (constantI S_ 32 1#32))
set_option maxRecDepth 8192 in
theorem step_main_v5_4_congr {V0 V0' : Valuation τ sig (Elt F)} (h : Agree V0 V0') : step_main_v5_4 V0 = step_main_v5_4 V0' := by
  unfold step_main_v5_4
  rw [h main_v5_4 (by decide)]
set_option maxRecDepth 8192 in
/-- `main_v5_5` after one trip, of the contents before it. -/
def step_main_v5_5 (V0 : Valuation τ sig (Elt F)) : (Proc.devRef .tc main_v5_5 : DevRef τ sig).ty.Contents (Elt F) :=
  id (Host.dynamicUpdateSlice (V0 (Proc.devRef .tc main_v5_5)) (broadcastInDim S1x8x256 ![1, 2] bcast_S8x256_S1x8x256_1_2 (Host.reduce FloatOps.maximumf (select (broadcastInDim S8x2048x256 ![0, 1, 2] bcast_S8x2048x1_S8x2048x256_0_1_2 (broadcastInDim S8x2048x1 ![0, 1] bcast_S8x2048_S8x2048x1_0_1 (andi (cmpi .sge (broadcastInDim S8x2048 ![0, 1] bcast_S1x2048_S8x2048_0_1 (broadcastInDim S1x2048 ![1] bcast_S2048_S1x2048_1 (V0 (Proc.devRef .tc main_v5_2)))) (broadcastInDim S8x2048 ![0, 1] bcast_S8x1_S8x2048_0_1 (broadcastInDim S8x1 ![0] bcast_S8_S8x1_0 (shapeCast S8 (Host.dynamicSlice S1x8 (V0 (Proc.devRef .tc main_v5_0)) (fun k => (((![V0 (Proc.devRef .tc main_v5_4), constantI S_ 32 0#32] : Fin 2 → (⟨S_, .i32⟩ : BufTy).Contents (Elt F))) k (Shape.Idx.first h_S_)).toInt) sliceFits_S64x8_S1x8) shapeCasts_S1x8_S8)))) (cmpi .slt (broadcastInDim S8x2048 ![0, 1] bcast_S1x2048_S8x2048_0_1 (broadcastInDim S1x2048 ![1] bcast_S2048_S1x2048_1 (V0 (Proc.devRef .tc main_v5_2)))) (broadcastInDim S8x2048 ![0, 1] bcast_S8x1_S8x2048_0_1 (broadcastInDim S8x1 ![0] bcast_S8_S8x1_0 (shapeCast S8 (Host.dynamicSlice S1x8 (V0 (Proc.devRef .tc main_v5_1)) (fun k => (((![V0 (Proc.devRef .tc main_v5_4), constantI S_ 32 0#32] : Fin 2 → (⟨S_, .i32⟩ : BufTy).Contents (Elt F))) k (Shape.Idx.first h_S_)).toInt) sliceFits_S64x8_S1x8) shapeCasts_S1x8_S8))))))) (V0 (Proc.devRef .tc main_v5_3)) (broadcastInDim S8x2048x256 ![] bcast_S_S8x2048x256 (constant S_ .f32 0xFF7FFFFF#32))) (constant S_ .f32 0xFF800000#32) reducesTo_S8x2048x256_S8x256_d1 h_S_)) (fun k => (((![V0 (Proc.devRef .tc main_v5_4), constantI S_ 32 0#32, constantI S_ 32 0#32] : Fin 3 → (⟨S_, .i32⟩ : BufTy).Contents (Elt F))) k (Shape.Idx.first h_S_)).toInt) updateFits_S64x8x256_S1x8x256)
set_option maxRecDepth 8192 in
theorem step_main_v5_5_congr {V0 V0' : Valuation τ sig (Elt F)} (h : Agree V0 V0') : step_main_v5_5 V0 = step_main_v5_5 V0' := by
  unfold step_main_v5_5
  rw [h main_v5_5 (by decide), h main_v5_2 (by decide), h main_v5_0 (by decide), h main_v5_4 (by decide), h main_v5_1 (by decide), h main_v5_3 (by decide)]

/-- ONE TRIP on the carried buffers: the buffers the body writes step, everything else is as it was. -/
def STEP (V0 : Valuation τ sig (Elt F)) : Valuation τ sig (Elt F) :=
  Function.update (Function.update (V0) (Proc.devRef .tc main_v5_4) (step_main_v5_4 V0)) (Proc.devRef .tc main_v5_5) (step_main_v5_5 V0)

theorem STEP_main_v5_0 (V0 : Valuation τ sig (Elt F)) : STEP V0 (Proc.devRef .tc main_v5_0) = V0 (Proc.devRef .tc main_v5_0) := by
  unfold STEP; rw [Function.update_of_ne (devRef_ne_of_ne (by decide))]; rw [Function.update_of_ne (devRef_ne_of_ne (by decide))]
theorem STEP_main_v5_1 (V0 : Valuation τ sig (Elt F)) : STEP V0 (Proc.devRef .tc main_v5_1) = V0 (Proc.devRef .tc main_v5_1) := by
  unfold STEP; rw [Function.update_of_ne (devRef_ne_of_ne (by decide))]; rw [Function.update_of_ne (devRef_ne_of_ne (by decide))]
theorem STEP_main_v5_2 (V0 : Valuation τ sig (Elt F)) : STEP V0 (Proc.devRef .tc main_v5_2) = V0 (Proc.devRef .tc main_v5_2) := by
  unfold STEP; rw [Function.update_of_ne (devRef_ne_of_ne (by decide))]; rw [Function.update_of_ne (devRef_ne_of_ne (by decide))]
theorem STEP_main_v5_3 (V0 : Valuation τ sig (Elt F)) : STEP V0 (Proc.devRef .tc main_v5_3) = V0 (Proc.devRef .tc main_v5_3) := by
  unfold STEP; rw [Function.update_of_ne (devRef_ne_of_ne (by decide))]; rw [Function.update_of_ne (devRef_ne_of_ne (by decide))]
theorem STEP_main_v5_4 (V0 : Valuation τ sig (Elt F)) : STEP V0 (Proc.devRef .tc main_v5_4) = step_main_v5_4 V0 := by
  unfold STEP; rw [Function.update_of_ne (devRef_ne_of_ne (by decide))]; rw [Function.update_self]
theorem STEP_main_v5_5 (V0 : Valuation τ sig (Elt F)) : STEP V0 (Proc.devRef .tc main_v5_5) = step_main_v5_5 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v5_0 (after condOps X)).trans ((hc main_v5_0 (by decide)).trans (STEP_main_v5_0 X).symm)
  · exact (trip_main_v5_1 (after condOps X)).trans ((hc main_v5_1 (by decide)).trans (STEP_main_v5_1 X).symm)
  · exact (trip_main_v5_2 (after condOps X)).trans ((hc main_v5_2 (by decide)).trans (STEP_main_v5_2 X).symm)
  · exact (trip_main_v5_3 (after condOps X)).trans ((hc main_v5_3 (by decide)).trans (STEP_main_v5_3 X).symm)
  · exact (trip_main_v5_4 (after condOps X)).trans ((step_main_v5_4_congr hc).trans (STEP_main_v5_4 X).symm)
  · exact (trip_main_v5_5 (after condOps X)).trans ((step_main_v5_5_congr hc).trans (STEP_main_v5_5 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v5_0, STEP_main_v5_0]; exact h main_v5_0 (by decide)
  · rw [STEP_main_v5_1, STEP_main_v5_1]; exact h main_v5_1 (by decide)
  · rw [STEP_main_v5_2, STEP_main_v5_2]; exact h main_v5_2 (by decide)
  · rw [STEP_main_v5_3, STEP_main_v5_3]; exact h main_v5_3 (by decide)
  · rw [STEP_main_v5_4, STEP_main_v5_4]; exact step_main_v5_4_congr h
  · rw [STEP_main_v5_5, STEP_main_v5_5]; exact step_main_v5_5_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_while0Ops0_3 (V : Valuation τ sig (Elt F)) : after while0Ops0_3 V (Proc.devRef .tc main_arg0) = V (Proc.devRef .tc main_arg0) :=
  after_of_writes_sub while0Ops0_3 V while0Ops0_3_writes (by decide +kernel)
theorem keep_main_arg0_while0Ops0_4 (V : Valuation τ sig (Elt F)) : after while0Ops0_4 V (Proc.devRef .tc main_arg0) = V (Proc.devRef .tc main_arg0) :=
  after_of_writes_sub while0Ops0_4 V while0Ops0_4_writes (by decide +kernel)
theorem keep_main_arg0_while0Ops0_5 (V : Valuation τ sig (Elt F)) : after while0Ops0_5 V (Proc.devRef .tc main_arg0) = V (Proc.devRef .tc main_arg0) :=
  after_of_writes_sub while0Ops0_5 V while0Ops0_5_writes (by decide +kernel)
theorem keep_main_arg0_while0Ops0_6 (V : Valuation τ sig (Elt F)) : after while0Ops0_6 V (Proc.devRef .tc main_arg0) = V (Proc.devRef .tc main_arg0) :=
  after_of_writes_sub while0Ops0_6 V while0Ops0_6_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0]
  | k + 1 => by
    rw [show atK m (k + 1) c = afterL bodyI (after condOps (atK m k c)) from rfl]
    simp only [afterL_cons, afterL_nil]
    rw [keep_main_arg0_while0Ops0_6, keep_main_arg0_while0Ops0_5, keep_main_arg0_while0Ops0_4, keep_main_arg0_while0Ops0_3, keep_main_arg0_while0Ops0_2, keep_main_arg0_while0Ops0_1, keep_main_arg0_while0Ops0, keep_main_arg0_condOps, atK_main_arg0 c k]

theorem keep_main_arg1_hostOps0 (V : Valuation τ sig (Elt F)) : after hostOps0 V (Proc.devRef .tc main_arg1) = V (Proc.devRef .tc main_arg1) :=
  after_of_writes_sub hostOps0 V hostOps0_writes (by decide +kernel)
theorem keep_main_arg1_condOps (V : Valuation τ sig (Elt F)) : after condOps V (Proc.devRef .tc main_arg1) = V (Proc.devRef .tc main_arg1) :=
  after_of_writes_sub condOps V condOps_writes (by decide +kernel)
theorem keep_main_arg1_while0Ops0 (V : Valuation τ sig (Elt F)) : after while0Ops0 V (Proc.devRef .tc main_arg1) = V (Proc.devRef .tc main_arg1) :=
  after_of_writes_sub while0Ops0 V while0Ops0_writes (by decide +kernel)
theorem keep_main_arg1_while0Ops0_1 (V : Valuation τ sig (Elt F)) : after while0Ops0_1 V (Proc.devRef .tc main_arg1) = V (Proc.devRef .tc main_arg1) :=
  after_of_writes_sub while0Ops0_1 V while0Ops0_1_writes (by decide +kernel)
theorem keep_main_arg1_while0Ops0_2 (V : Valuation τ sig (Elt F)) : after while0Ops0_2 V (Proc.devRef .tc main_arg1) = V (Proc.devRef .tc main_arg1) :=
  after_of_writes_sub while0Ops0_2 V while0Ops0_2_writes (by decide +kernel)
theorem keep_main_arg1_while0Ops0_3 (V : Valuation τ sig (Elt F)) : after while0Ops0_3 V (Proc.devRef .tc main_arg1) = V (Proc.devRef .tc main_arg1) :=
  after_of_writes_sub while0Ops0_3 V while0Ops0_3_writes (by decide +kernel)
theorem keep_main_arg1_while0Ops0_4 (V : Valuation τ sig (Elt F)) : after while0Ops0_4 V (Proc.devRef .tc main_arg1) = V (Proc.devRef .tc main_arg1) :=
  after_of_writes_sub while0Ops0_4 V while0Ops0_4_writes (by decide +kernel)
theorem keep_main_arg1_while0Ops0_5 (V : Valuation τ sig (Elt F)) : after while0Ops0_5 V (Proc.devRef .tc main_arg1) = V (Proc.devRef .tc main_arg1) :=
  after_of_writes_sub while0Ops0_5 V while0Ops0_5_writes (by decide +kernel)
theorem keep_main_arg1_while0Ops0_6 (V : Valuation τ sig (Elt F)) : after while0Ops0_6 V (Proc.devRef .tc main_arg1) = V (Proc.devRef .tc main_arg1) :=
  after_of_writes_sub while0Ops0_6 V while0Ops0_6_writes (by decide +kernel)
theorem keep_main_arg1_hostOps0_1 (V : Valuation τ sig (Elt F)) : after hostOps0_1 V (Proc.devRef .tc main_arg1) = V (Proc.devRef .tc main_arg1) :=
  after_of_writes_sub hostOps0_1 V hostOps0_1_writes (by decide +kernel)
/-- The argument `main_arg1` is written by nothing: it holds its launch contents before every condition. -/
theorem atK_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [keep_main_arg1_hostOps0]
  | k + 1 => by
    rw [show atK m (k + 1) c = afterL bodyI (after condOps (atK m k c)) from rfl]
    simp only [afterL_cons, afterL_nil]
    rw [keep_main_arg1_while0Ops0_6, keep_main_arg1_while0Ops0_5, keep_main_arg1_while0Ops0_4, keep_main_arg1_while0Ops0_3, keep_main_arg1_while0Ops0_2, keep_main_arg1_while0Ops0_1, keep_main_arg1_while0Ops0, keep_main_arg1_condOps, atK_main_arg1 c k]

theorem keep_main_arg2_hostOps0 (V : Valuation τ sig (Elt F)) : after hostOps0 V (Proc.devRef .tc main_arg2) = V (Proc.devRef .tc main_arg2) :=
  after_of_writes_sub hostOps0 V hostOps0_writes (by decide +kernel)
theorem keep_main_arg2_condOps (V : Valuation τ sig (Elt F)) : after condOps V (Proc.devRef .tc main_arg2) = V (Proc.devRef .tc main_arg2) :=
  after_of_writes_sub condOps V condOps_writes (by decide +kernel)
theorem keep_main_arg2_while0Ops0 (V : Valuation τ sig (Elt F)) : after while0Ops0 V (Proc.devRef .tc main_arg2) = V (Proc.devRef .tc main_arg2) :=
  after_of_writes_sub while0Ops0 V while0Ops0_writes (by decide +kernel)
theorem keep_main_arg2_while0Ops0_1 (V : Valuation τ sig (Elt F)) : after while0Ops0_1 V (Proc.devRef .tc main_arg2) = V (Proc.devRef .tc main_arg2) :=
  after_of_writes_sub while0Ops0_1 V while0Ops0_1_writes (by decide +kernel)
theorem keep_main_arg2_while0Ops0_2 (V : Valuation τ sig (Elt F)) : after while0Ops0_2 V (Proc.devRef .tc main_arg2) = V (Proc.devRef .tc main_arg2) :=
  after_of_writes_sub while0Ops0_2 V while0Ops0_2_writes (by decide +kernel)
theorem keep_main_arg2_while0Ops0_3 (V : Valuation τ sig (Elt F)) : after while0Ops0_3 V (Proc.devRef .tc main_arg2) = V (Proc.devRef .tc main_arg2) :=
  after_of_writes_sub while0Ops0_3 V while0Ops0_3_writes (by decide +kernel)
theorem keep_main_arg2_while0Ops0_4 (V : Valuation τ sig (Elt F)) : after while0Ops0_4 V (Proc.devRef .tc main_arg2) = V (Proc.devRef .tc main_arg2) :=
  after_of_writes_sub while0Ops0_4 V while0Ops0_4_writes (by decide +kernel)
theorem keep_main_arg2_while0Ops0_5 (V : Valuation τ sig (Elt F)) : after while0Ops0_5 V (Proc.devRef .tc main_arg2) = V (Proc.devRef .tc main_arg2) :=
  after_of_writes_sub while0Ops0_5 V while0Ops0_5_writes (by decide +kernel)
theorem keep_main_arg2_while0Ops0_6 (V : Valuation τ sig (Elt F)) : after while0Ops0_6 V (Proc.devRef .tc main_arg2) = V (Proc.devRef .tc main_arg2) :=
  after_of_writes_sub while0Ops0_6 V while0Ops0_6_writes (by decide +kernel)
theorem keep_main_arg2_hostOps0_1 (V : Valuation τ sig (Elt F)) : after hostOps0_1 V (Proc.devRef .tc main_arg2) = V (Proc.devRef .tc main_arg2) :=
  after_of_writes_sub hostOps0_1 V hostOps0_1_writes (by decide +kernel)
/-- The argument `main_arg2` is written by nothing: it holds its launch contents before every condition. -/
theorem atK_main_arg2 (c : Dev nD) : ∀ k, atK m k c (Proc.devRef .tc main_arg2) = m ((c.tc : Thread nD τ).loc main_arg2)
  | 0 => by
    rw [show atK m 0 c = entryContents preI m c from rfl]
    simp only [entryContents, afterL_cons, afterL_nil]
    rw [keep_main_arg2_hostOps0]
  | k + 1 => by
    rw [show atK m (k + 1) c = afterL bodyI (after condOps (atK m k c)) from rfl]
    simp only [afterL_cons, afterL_nil]
    rw [keep_main_arg2_while0Ops0_6, keep_main_arg2_while0Ops0_5, keep_main_arg2_while0Ops0_4, keep_main_arg2_while0Ops0_3, keep_main_arg2_while0Ops0_2, keep_main_arg2_while0Ops0_1, keep_main_arg2_while0Ops0, keep_main_arg2_condOps, atK_main_arg2 c k]

theorem keep_main_arg3_hostOps0 (V : Valuation τ sig (Elt F)) : after hostOps0 V (Proc.devRef .tc main_arg3) = V (Proc.devRef .tc main_arg3) :=
  after_of_writes_sub hostOps0 V hostOps0_writes (by decide +kernel)
theorem keep_main_arg3_condOps (V : Valuation τ sig (Elt F)) : after condOps V (Proc.devRef .tc main_arg3) = V (Proc.devRef .tc main_arg3) :=
  after_of_writes_sub condOps V condOps_writes (by decide +kernel)
theorem keep_main_arg3_while0Ops0 (V : Valuation τ sig (Elt F)) : after while0Ops0 V (Proc.devRef .tc main_arg3) = V (Proc.devRef .tc main_arg3) :=
  after_of_writes_sub while0Ops0 V while0Ops0_writes (by decide +kernel)
theorem keep_main_arg3_while0Ops0_1 (V : Valuation τ sig (Elt F)) : after while0Ops0_1 V (Proc.devRef .tc main_arg3) = V (Proc.devRef .tc main_arg3) :=
  after_of_writes_sub while0Ops0_1 V while0Ops0_1_writes (by decide +kernel)
theorem keep_main_arg3_while0Ops0_2 (V : Valuation τ sig (Elt F)) : after while0Ops0_2 V (Proc.devRef .tc main_arg3) = V (Proc.devRef .tc main_arg3) :=
  after_of_writes_sub while0Ops0_2 V while0Ops0_2_writes (by decide +kernel)
theorem keep_main_arg3_while0Ops0_3 (V : Valuation τ sig (Elt F)) : after while0Ops0_3 V (Proc.devRef .tc main_arg3) = V (Proc.devRef .tc main_arg3) :=
  after_of_writes_sub while0Ops0_3 V while0Ops0_3_writes (by decide +kernel)
theorem keep_main_arg3_while0Ops0_4 (V : Valuation τ sig (Elt F)) : after while0Ops0_4 V (Proc.devRef .tc main_arg3) = V (Proc.devRef .tc main_arg3) :=
  after_of_writes_sub while0Ops0_4 V while0Ops0_4_writes (by decide +kernel)
theorem keep_main_arg3_while0Ops0_5 (V : Valuation τ sig (Elt F)) : after while0Ops0_5 V (Proc.devRef .tc main_arg3) = V (Proc.devRef .tc main_arg3) :=
  after_of_writes_sub while0Ops0_5 V while0Ops0_5_writes (by decide +kernel)
theorem keep_main_arg3_while0Ops0_6 (V : Valuation τ sig (Elt F)) : after while0Ops0_6 V (Proc.devRef .tc main_arg3) = V (Proc.devRef .tc main_arg3) :=
  after_of_writes_sub while0Ops0_6 V while0Ops0_6_writes (by decide +kernel)
theorem keep_main_arg3_hostOps0_1 (V : Valuation τ sig (Elt F)) : after hostOps0_1 V (Proc.devRef .tc main_arg3) = V (Proc.devRef .tc main_arg3) :=
  after_of_writes_sub hostOps0_1 V hostOps0_1_writes (by decide +kernel)
/-- The argument `main_arg3` is written by nothing: it holds its launch contents before every condition. -/
theorem atK_main_arg3 (c : Dev nD) : ∀ k, atK m k c (Proc.devRef .tc main_arg3) = m ((c.tc : Thread nD τ).loc main_arg3)
  | 0 => by
    rw [show atK m 0 c = entryContents preI m c from rfl]
    simp only [entryContents, afterL_cons, afterL_nil]
    rw [keep_main_arg3_hostOps0]
  | k + 1 => by
    rw [show atK m (k + 1) c = afterL bodyI (after condOps (atK m k c)) from rfl]
    simp only [afterL_cons, afterL_nil]
    rw [keep_main_arg3_while0Ops0_6, keep_main_arg3_while0Ops0_5, keep_main_arg3_while0Ops0_4, keep_main_arg3_while0Ops0_3, keep_main_arg3_while0Ops0_2, keep_main_arg3_while0Ops0_1, keep_main_arg3_while0Ops0, keep_main_arg3_condOps, atK_main_arg3 c k]

theorem keep_main_arg4_hostOps0 (V : Valuation τ sig (Elt F)) : after hostOps0 V (Proc.devRef .tc main_arg4) = V (Proc.devRef .tc main_arg4) :=
  after_of_writes_sub hostOps0 V hostOps0_writes (by decide +kernel)
theorem keep_main_arg4_condOps (V : Valuation τ sig (Elt F)) : after condOps V (Proc.devRef .tc main_arg4) = V (Proc.devRef .tc main_arg4) :=
  after_of_writes_sub condOps V condOps_writes (by decide +kernel)
theorem keep_main_arg4_while0Ops0 (V : Valuation τ sig (Elt F)) : after while0Ops0 V (Proc.devRef .tc main_arg4) = V (Proc.devRef .tc main_arg4) :=
  after_of_writes_sub while0Ops0 V while0Ops0_writes (by decide +kernel)
theorem keep_main_arg4_while0Ops0_1 (V : Valuation τ sig (Elt F)) : after while0Ops0_1 V (Proc.devRef .tc main_arg4) = V (Proc.devRef .tc main_arg4) :=
  after_of_writes_sub while0Ops0_1 V while0Ops0_1_writes (by decide +kernel)
theorem keep_main_arg4_while0Ops0_2 (V : Valuation τ sig (Elt F)) : after while0Ops0_2 V (Proc.devRef .tc main_arg4) = V (Proc.devRef .tc main_arg4) :=
  after_of_writes_sub while0Ops0_2 V while0Ops0_2_writes (by decide +kernel)
theorem keep_main_arg4_while0Ops0_3 (V : Valuation τ sig (Elt F)) : after while0Ops0_3 V (Proc.devRef .tc main_arg4) = V (Proc.devRef .tc main_arg4) :=
  after_of_writes_sub while0Ops0_3 V while0Ops0_3_writes (by decide +kernel)
theorem keep_main_arg4_while0Ops0_4 (V : Valuation τ sig (Elt F)) : after while0Ops0_4 V (Proc.devRef .tc main_arg4) = V (Proc.devRef .tc main_arg4) :=
  after_of_writes_sub while0Ops0_4 V while0Ops0_4_writes (by decide +kernel)
theorem keep_main_arg4_while0Ops0_5 (V : Valuation τ sig (Elt F)) : after while0Ops0_5 V (Proc.devRef .tc main_arg4) = V (Proc.devRef .tc main_arg4) :=
  after_of_writes_sub while0Ops0_5 V while0Ops0_5_writes (by decide +kernel)
theorem keep_main_arg4_while0Ops0_6 (V : Valuation τ sig (Elt F)) : after while0Ops0_6 V (Proc.devRef .tc main_arg4) = V (Proc.devRef .tc main_arg4) :=
  after_of_writes_sub while0Ops0_6 V while0Ops0_6_writes (by decide +kernel)
theorem keep_main_arg4_hostOps0_1 (V : Valuation τ sig (Elt F)) : after hostOps0_1 V (Proc.devRef .tc main_arg4) = V (Proc.devRef .tc main_arg4) :=
  after_of_writes_sub hostOps0_1 V hostOps0_1_writes (by decide +kernel)
/-- The argument `main_arg4` is written by nothing: it holds its launch contents before every condition. -/
theorem atK_main_arg4 (c : Dev nD) : ∀ k, atK m k c (Proc.devRef .tc main_arg4) = m ((c.tc : Thread nD τ).loc main_arg4)
  | 0 => by
    rw [show atK m 0 c = entryContents preI m c from rfl]
    simp only [entryContents, afterL_cons, afterL_nil]
    rw [keep_main_arg4_hostOps0]
  | k + 1 => by
    rw [show atK m (k + 1) c = afterL bodyI (after condOps (atK m k c)) from rfl]
    simp only [afterL_cons, afterL_nil]
    rw [keep_main_arg4_while0Ops0_6, keep_main_arg4_while0Ops0_5, keep_main_arg4_while0Ops0_4, keep_main_arg4_while0Ops0_3, keep_main_arg4_while0Ops0_2, keep_main_arg4_while0Ops0_1, keep_main_arg4_while0Ops0, keep_main_arg4_condOps, atK_main_arg4 c k]

theorem keep_main_arg5_hostOps0 (V : Valuation τ sig (Elt F)) : after hostOps0 V (Proc.devRef .tc main_arg5) = V (Proc.devRef .tc main_arg5) :=
  after_of_writes_sub hostOps0 V hostOps0_writes (by decide +kernel)
theorem keep_main_arg5_condOps (V : Valuation τ sig (Elt F)) : after condOps V (Proc.devRef .tc main_arg5) = V (Proc.devRef .tc main_arg5) :=
  after_of_writes_sub condOps V condOps_writes (by decide +kernel)
theorem keep_main_arg5_while0Ops0 (V : Valuation τ sig (Elt F)) : after while0Ops0 V (Proc.devRef .tc main_arg5) = V (Proc.devRef .tc main_arg5) :=
  after_of_writes_sub while0Ops0 V while0Ops0_writes (by decide +kernel)
theorem keep_main_arg5_while0Ops0_1 (V : Valuation τ sig (Elt F)) : after while0Ops0_1 V (Proc.devRef .tc main_arg5) = V (Proc.devRef .tc main_arg5) :=
  after_of_writes_sub while0Ops0_1 V while0Ops0_1_writes (by decide +kernel)
theorem keep_main_arg5_while0Ops0_2 (V : Valuation τ sig (Elt F)) : after while0Ops0_2 V (Proc.devRef .tc main_arg5) = V (Proc.devRef .tc main_arg5) :=
  after_of_writes_sub while0Ops0_2 V while0Ops0_2_writes (by decide +kernel)
theorem keep_main_arg5_while0Ops0_3 (V : Valuation τ sig (Elt F)) : after while0Ops0_3 V (Proc.devRef .tc main_arg5) = V (Proc.devRef .tc main_arg5) :=
  after_of_writes_sub while0Ops0_3 V while0Ops0_3_writes (by decide +kernel)
theorem keep_main_arg5_while0Ops0_4 (V : Valuation τ sig (Elt F)) : after while0Ops0_4 V (Proc.devRef .tc main_arg5) = V (Proc.devRef .tc main_arg5) :=
  after_of_writes_sub while0Ops0_4 V while0Ops0_4_writes (by decide +kernel)
theorem keep_main_arg5_while0Ops0_5 (V : Valuation τ sig (Elt F)) : after while0Ops0_5 V (Proc.devRef .tc main_arg5) = V (Proc.devRef .tc main_arg5) :=
  after_of_writes_sub while0Ops0_5 V while0Ops0_5_writes (by decide +kernel)
theorem keep_main_arg5_while0Ops0_6 (V : Valuation τ sig (Elt F)) : after while0Ops0_6 V (Proc.devRef .tc main_arg5) = V (Proc.devRef .tc main_arg5) :=
  after_of_writes_sub while0Ops0_6 V while0Ops0_6_writes (by decide +kernel)
theorem keep_main_arg5_hostOps0_1 (V : Valuation τ sig (Elt F)) : after hostOps0_1 V (Proc.devRef .tc main_arg5) = V (Proc.devRef .tc main_arg5) :=
  after_of_writes_sub hostOps0_1 V hostOps0_1_writes (by decide +kernel)
/-- The argument `main_arg5` is written by nothing: it holds its launch contents before every condition. -/
theorem atK_main_arg5 (c : Dev nD) : ∀ k, atK m k c (Proc.devRef .tc main_arg5) = m ((c.tc : Thread nD τ).loc main_arg5)
  | 0 => by
    rw [show atK m 0 c = entryContents preI m c from rfl]
    simp only [entryContents, afterL_cons, afterL_nil]
    rw [keep_main_arg5_hostOps0]
  | k + 1 => by
    rw [show atK m (k + 1) c = afterL bodyI (after condOps (atK m k c)) from rfl]
    simp only [afterL_cons, afterL_nil]
    rw [keep_main_arg5_while0Ops0_6, keep_main_arg5_while0Ops0_5, keep_main_arg5_while0Ops0_4, keep_main_arg5_while0Ops0_3, keep_main_arg5_while0Ops0_2, keep_main_arg5_while0Ops0_1, keep_main_arg5_while0Ops0, keep_main_arg5_condOps, atK_main_arg5 c k]

theorem keep_main_arg6_hostOps0 (V : Valuation τ sig (Elt F)) : after hostOps0 V (Proc.devRef .tc main_arg6) = V (Proc.devRef .tc main_arg6) :=
  after_of_writes_sub hostOps0 V hostOps0_writes (by decide +kernel)
theorem keep_main_arg6_condOps (V : Valuation τ sig (Elt F)) : after condOps V (Proc.devRef .tc main_arg6) = V (Proc.devRef .tc main_arg6) :=
  after_of_writes_sub condOps V condOps_writes (by decide +kernel)
theorem keep_main_arg6_while0Ops0 (V : Valuation τ sig (Elt F)) : after while0Ops0 V (Proc.devRef .tc main_arg6) = V (Proc.devRef .tc main_arg6) :=
  after_of_writes_sub while0Ops0 V while0Ops0_writes (by decide +kernel)
theorem keep_main_arg6_while0Ops0_1 (V : Valuation τ sig (Elt F)) : after while0Ops0_1 V (Proc.devRef .tc main_arg6) = V (Proc.devRef .tc main_arg6) :=
  after_of_writes_sub while0Ops0_1 V while0Ops0_1_writes (by decide +kernel)
theorem keep_main_arg6_while0Ops0_2 (V : Valuation τ sig (Elt F)) : after while0Ops0_2 V (Proc.devRef .tc main_arg6) = V (Proc.devRef .tc main_arg6) :=
  after_of_writes_sub while0Ops0_2 V while0Ops0_2_writes (by decide +kernel)
theorem keep_main_arg6_while0Ops0_3 (V : Valuation τ sig (Elt F)) : after while0Ops0_3 V (Proc.devRef .tc main_arg6) = V (Proc.devRef .tc main_arg6) :=
  after_of_writes_sub while0Ops0_3 V while0Ops0_3_writes (by decide +kernel)
theorem keep_main_arg6_while0Ops0_4 (V : Valuation τ sig (Elt F)) : after while0Ops0_4 V (Proc.devRef .tc main_arg6) = V (Proc.devRef .tc main_arg6) :=
  after_of_writes_sub while0Ops0_4 V while0Ops0_4_writes (by decide +kernel)
theorem keep_main_arg6_while0Ops0_5 (V : Valuation τ sig (Elt F)) : after while0Ops0_5 V (Proc.devRef .tc main_arg6) = V (Proc.devRef .tc main_arg6) :=
  after_of_writes_sub while0Ops0_5 V while0Ops0_5_writes (by decide +kernel)
theorem keep_main_arg6_while0Ops0_6 (V : Valuation τ sig (Elt F)) : after while0Ops0_6 V (Proc.devRef .tc main_arg6) = V (Proc.devRef .tc main_arg6) :=
  after_of_writes_sub while0Ops0_6 V while0Ops0_6_writes (by decide +kernel)
theorem keep_main_arg6_hostOps0_1 (V : Valuation τ sig (Elt F)) : after hostOps0_1 V (Proc.devRef .tc main_arg6) = V (Proc.devRef .tc main_arg6) :=
  after_of_writes_sub hostOps0_1 V hostOps0_1_writes (by decide +kernel)
/-- The argument `main_arg6` is written by nothing: it holds its launch contents before every condition. -/
theorem atK_main_arg6 (c : Dev nD) : ∀ k, atK m k c (Proc.devRef .tc main_arg6) = m ((c.tc : Thread nD τ).loc main_arg6)
  | 0 => by
    rw [show atK m 0 c = entryContents preI m c from rfl]
    simp only [entryContents, afterL_cons, afterL_nil]
    rw [keep_main_arg6_hostOps0]
  | k + 1 => by
    rw [show atK m (k + 1) c = afterL bodyI (after condOps (atK m k c)) from rfl]
    simp only [afterL_cons, afterL_nil]
    rw [keep_main_arg6_while0Ops0_6, keep_main_arg6_while0Ops0_5, keep_main_arg6_while0Ops0_4, keep_main_arg6_while0Ops0_3, keep_main_arg6_while0Ops0_2, keep_main_arg6_while0Ops0_1, keep_main_arg6_while0Ops0, keep_main_arg6_condOps, atK_main_arg6 c k]

/-! ## After the loop -/

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_1]
/-- The operations after the loop do not write `main_arg1`. -/
theorem post_keeps_main_arg1 (V0 : Valuation τ sig (Elt F)) : afterL postI V0 (Proc.devRef .tc main_arg1) = V0 (Proc.devRef .tc main_arg1) := by
  simp only [postI, afterL_cons, afterL_nil]
  rw [keep_main_arg1_hostOps0_1]
/-- The operations after the loop do not write `main_arg2`. -/
theorem post_keeps_main_arg2 (V0 : Valuation τ sig (Elt F)) : afterL postI V0 (Proc.devRef .tc main_arg2) = V0 (Proc.devRef .tc main_arg2) := by
  simp only [postI, afterL_cons, afterL_nil]
  rw [keep_main_arg2_hostOps0_1]
/-- The operations after the loop do not write `main_arg3`. -/
theorem post_keeps_main_arg3 (V0 : Valuation τ sig (Elt F)) : afterL postI V0 (Proc.devRef .tc main_arg3) = V0 (Proc.devRef .tc main_arg3) := by
  simp only [postI, afterL_cons, afterL_nil]
  rw [keep_main_arg3_hostOps0_1]
/-- The operations after the loop do not write `main_arg4`. -/
theorem post_keeps_main_arg4 (V0 : Valuation τ sig (Elt F)) : afterL postI V0 (Proc.devRef .tc main_arg4) = V0 (Proc.devRef .tc main_arg4) := by
  simp only [postI, afterL_cons, afterL_nil]
  rw [keep_main_arg4_hostOps0_1]
/-- The operations after the loop do not write `main_arg5`. -/
theorem post_keeps_main_arg5 (V0 : Valuation τ sig (Elt F)) : afterL postI V0 (Proc.devRef .tc main_arg5) = V0 (Proc.devRef .tc main_arg5) := by
  simp only [postI, afterL_cons, afterL_nil]
  rw [keep_main_arg5_hostOps0_1]
/-- The operations after the loop do not write `main_arg6`. -/
theorem post_keeps_main_arg6 (V0 : Valuation τ sig (Elt F)) : afterL postI V0 (Proc.devRef .tc main_arg6) = V0 (Proc.devRef .tc main_arg6) := by
  simp only [postI, afterL_cons, afterL_nil]
  rw [keep_main_arg6_hostOps0_1]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; exact iter_main_arg0 c k
/-- `STEP` iterated on the loop's entry leaves the argument `main_arg1` as the launch has it. -/
theorem iter_main_arg1 (c : Dev nD) : ∀ k, (STEP^[k] (entryContents preI m c)) (Proc.devRef .tc main_arg1) = m ((c.tc : Thread nD τ).loc main_arg1)
  | 0 => by rw [Function.iterate_zero, id_eq, ← atTrip_zero condOps bodyI (entryContents preI m)]; exact atK_main_arg1 m c 0
  | k + 1 => by
    rw [Function.iterate_succ_apply']
    unfold STEP; rw [Function.update_of_ne (devRef_ne_of_ne (by decide))]; rw [Function.update_of_ne (devRef_ne_of_ne (by decide))]; exact iter_main_arg1 c k
/-- `STEP` iterated on the loop's entry leaves the argument `main_arg2` as the launch has it. -/
theorem iter_main_arg2 (c : Dev nD) : ∀ k, (STEP^[k] (entryContents preI m c)) (Proc.devRef .tc main_arg2) = m ((c.tc : Thread nD τ).loc main_arg2)
  | 0 => by rw [Function.iterate_zero, id_eq, ← atTrip_zero condOps bodyI (entryContents preI m)]; exact atK_main_arg2 m c 0
  | k + 1 => by
    rw [Function.iterate_succ_apply']
    unfold STEP; rw [Function.update_of_ne (devRef_ne_of_ne (by decide))]; rw [Function.update_of_ne (devRef_ne_of_ne (by decide))]; exact iter_main_arg2 c k
/-- `STEP` iterated on the loop's entry leaves the argument `main_arg3` as the launch has it. -/
theorem iter_main_arg3 (c : Dev nD) : ∀ k, (STEP^[k] (entryContents preI m c)) (Proc.devRef .tc main_arg3) = m ((c.tc : Thread nD τ).loc main_arg3)
  | 0 => by rw [Function.iterate_zero, id_eq, ← atTrip_zero condOps bodyI (entryContents preI m)]; exact atK_main_arg3 m c 0
  | k + 1 => by
    rw [Function.iterate_succ_apply']
    unfold STEP; rw [Function.update_of_ne (devRef_ne_of_ne (by decide))]; rw [Function.update_of_ne (devRef_ne_of_ne (by decide))]; exact iter_main_arg3 c k
/-- `STEP` iterated on the loop's entry leaves the argument `main_arg4` as the launch has it. -/
theorem iter_main_arg4 (c : Dev nD) : ∀ k, (STEP^[k] (entryContents preI m c)) (Proc.devRef .tc main_arg4) = m ((c.tc : Thread nD τ).loc main_arg4)
  | 0 => by rw [Function.iterate_zero, id_eq, ← atTrip_zero condOps bodyI (entryContents preI m)]; exact atK_main_arg4 m c 0
  | k + 1 => by
    rw [Function.iterate_succ_apply']
    unfold STEP; rw [Function.update_of_ne (devRef_ne_of_ne (by decide))]; rw [Function.update_of_ne (devRef_ne_of_ne (by decide))]; exact iter_main_arg4 c k
/-- `STEP` iterated on the loop's entry leaves the argument `main_arg5` as the launch has it. -/
theorem iter_main_arg5 (c : Dev nD) : ∀ k, (STEP^[k] (entryContents preI m c)) (Proc.devRef .tc main_arg5) = m ((c.tc : Thread nD τ).loc main_arg5)
  | 0 => by rw [Function.iterate_zero, id_eq, ← atTrip_zero condOps bodyI (entryContents preI m)]; exact atK_main_arg5 m c 0
  | k + 1 => by
    rw [Function.iterate_succ_apply']
    unfold STEP; rw [Function.update_of_ne (devRef_ne_of_ne (by decide))]; rw [Function.update_of_ne (devRef_ne_of_ne (by decide))]; exact iter_main_arg5 c k
/-- `STEP` iterated on the loop's entry leaves the argument `main_arg6` as the launch has it. -/
theorem iter_main_arg6 (c : Dev nD) : ∀ k, (STEP^[k] (entryContents preI m c)) (Proc.devRef .tc main_arg6) = m ((c.tc : Thread nD τ).loc main_arg6)
  | 0 => by rw [Function.iterate_zero, id_eq, ← atTrip_zero condOps bodyI (entryContents preI m)]; exact atK_main_arg6 m c 0
  | k + 1 => by
    rw [Function.iterate_succ_apply']
    unfold STEP; rw [Function.update_of_ne (devRef_ne_of_ne (by decide))]; rw [Function.update_of_ne (devRef_ne_of_ne (by decide))]; exact iter_main_arg6 c k

end Cert.ReferenceIdeal.Loop

end
-- ==== Proof.ReferenceEnd.lean ====
/- The reference after its loop. From the pools of all spans it reads, for every pair, the pools of its head and of
its tail, puts them side by side, multiplies them with the weights and adds the bias. -/
module

public import proofs.«01_k».proof.Proof.ReferenceLoop
public import Idealize.ShloMosaic.Lib.Quiescent

@[expose] public section

noncomputable section

namespace Cert.ReferenceIdeal.End

open Cert.ReferenceIdeal Cert.ReferenceIdeal.Gen Cert.ReferenceIdeal.Trips Cert.ReferenceIdeal.Loop
open Idealize.ShloMosaic Idealize.ShloMosaic.TcCoe Idealize.ShloMosaic.Tactic
open Idealize.SL Idealize.SL.Sem
open Idealize.ShloMosaic.StableHlo

variable {F : FTy → Type} [FloatOps F]

/-! ## What the stretch makes -/

/-- Every batch's own index, as the program counts it: 8 is added to a negative one. -/
def batchIx : IVec S8x1 32 :=
  select (cmpi .slt (broadcastInDim S8x1 ![0] bcast_S8_S8x1_0 (iotaInDim S8 32 0)) (broadcastInDim S8x1 ![] bcast_S_S8x1 (constantI S_ 32 0#32)))
    (addi (broadcastInDim S8x1 ![0] bcast_S8_S8x1_0 (iotaInDim S8 32 0)) (broadcastInDim S8x1 ![] bcast_S_S8x1 (constantI S_ 32 8#32)))
    (broadcastInDim S8x1 ![0] bcast_S8_S8x1_0 (iotaInDim S8 32 0))

/-- Span indices, 64 added to a negative one. -/
def spanIx (P : IVec S8x2048 32) : IVec S8x2048 32 :=
  select (cmpi .slt P (broadcastInDim S8x2048 ![] bcast_S_S8x2048 (constantI S_ 32 0#32)))
    (addi P (broadcastInDim S8x2048 ![] bcast_S_S8x2048 (constantI S_ 32 64#32))) P

/-- A batch index beside a span index, for every pair. -/
def ixPairs (Bx : IVec S8x1 32) (P : IVec S8x2048 32) : IVec S8x2048x2 32 :=
  concatenate S8x2048x2 2 [⟨S8x2048x1, broadcastInDim S8x2048x1 ![0, 1] bcast_S8x2048_S8x2048x1_0_1 (broadcastInDim S8x2048 ![0, 1] bcast_S8x1_S8x2048_0_1 Bx)⟩,
    ⟨S8x2048x1, broadcastInDim S8x2048x1 ![0, 1] bcast_S8x2048_S8x2048x1_0_1 P⟩] concatenates_S8x2048x1_S8x2048x1_S8x2048x2_d2

/-- The pools by batch and span. -/
def byBatch (S : (⟨S64x8x256, .f32⟩ : BufTy).Contents (Elt F)) : (⟨S8x64x256, .f32⟩ : BufTy).Contents (Elt F) :=
  transpose S8x64x256 [1, 0, 2] S transposes_S64x8x256_S8x64x256_1_0_2

/-- The pools that pairs of a batch index and a span index name. -/
def picked (X : (⟨S8x64x256, .f32⟩ : BufTy).Contents (Elt F)) (Ix : IVec S8x2048x2 32) : (⟨S8x2048x256, .f32⟩ : BufTy).Contents (Elt F) :=
  Host.gather gather_S8x64x256_S8x2048x2_S8x2048x256_2_01_n_n_01_2_11256 X Ix

/-- The scores of the pairs whose head pools are `H` and tail pools `T`. -/
def scored (H T : (⟨S8x2048x256, .f32⟩ : BufTy).Contents (Elt F)) (W : (⟨S512x16, .f32⟩ : BufTy).Contents (Elt F))
    (b : (⟨S16, .f32⟩ : BufTy).Contents (Elt F)) : (⟨S8x2048x16, .f32⟩ : BufTy).Contents (Elt F) :=
  addf (Host.dotGeneral dot_S8x2048x512_S512x16_S8x2048x16_2_0_01_1_n_n none
      (concatenate S8x2048x512 2 [⟨S8x2048x256, H⟩, ⟨S8x2048x256, T⟩] concatenates_S8x2048x256_S8x2048x256_S8x2048x512_d2) W)
    (broadcastInDim S8x2048x16 ![0, 1, 2] bcast_S1x1x16_S8x2048x16_0_1_2 (broadcastInDim S1x1x16 ![2] bcast_S16_S1x1x16_2 b))

/-! ## The stretch in seven parts -/

/-- Part A: the transposed pools, and the batch indices made non-negative. -/
abbrev partA : List (HloOp τ sig (Elt F)) :=
  [ StableHlo.unary main_v5_5 main_v6 ((transpose S8x64x256 [1, 0, 2] · transposes_S64x8x256_S8x64x256_1_0_2) : (⟨S64x8x256, .f32⟩ : BufTy).Contents (Elt F) → (⟨S8x64x256, .f32⟩ : BufTy).Contents (Elt F)),
    StableHlo.nullary main_v7 (iotaInDim S8 32 0),
    StableHlo.unary main_v7 main_v8 (broadcastInDim S8x1 ![0] bcast_S8_S8x1_0 : (⟨S8, .i32⟩ : BufTy).Contents (Elt F) → (⟨S8x1, .i32⟩ : BufTy).Contents (Elt F)),
    StableHlo.nullary main_c_0 (constantI S_ 32 0#32),
    StableHlo.unary main_c_0 main_v9 (broadcastInDim S8x1 ![] bcast_S_S8x1 : (⟨S_, .i32⟩ : BufTy).Contents (Elt F) → (⟨S8x1, .i32⟩ : BufTy).Contents (Elt F)),
    StableHlo.binary main_v8 main_v9 main_v10 (cmpi .slt : (⟨S8x1, .i32⟩ : BufTy).Contents (Elt F) → (⟨S8x1, .i32⟩ : BufTy).Contents (Elt F) → (⟨S8x1, .i1⟩ : BufTy).Contents (Elt F)),
    StableHlo.nullary main_c_1 (constantI S_ 32 8#32),
    StableHlo.unary main_c_1 main_v11 (broadcastInDim S8x1 ![] bcast_S_S8x1 : (⟨S_, .i32⟩ : BufTy).Contents (Elt F) → (⟨S8x1, .i32⟩ : BufTy).Contents (Elt F)),
    StableHlo.binary main_v8 main_v11 main_v12 (addi : (⟨S8x1, .i32⟩ : BufTy).Contents (Elt F) → (⟨S8x1, .i32⟩ : BufTy).Contents (Elt F) → (⟨S8x1, .i32⟩ : BufTy).Contents (Elt F)),
    StableHlo.ternary main_v10 main_v12 main_v8 main_v13 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)) ]

/-- Part B: the heads made non-negative. -/
abbrev partB : List (HloOp τ sig (Elt F)) :=
  [ StableHlo.nullary main_c_2 (constantI S_ 32 0#32),
    StableHlo.unary main_c_2 main_v14 (broadcastInDim S8x2048 ![] bcast_S_S8x2048 : (⟨S_, .i32⟩ : BufTy).Contents (Elt F) → (⟨S8x2048, .i32⟩ : BufTy).Contents (Elt F)),
    StableHlo.binary main_arg3 main_v14 main_v15 (cmpi .slt : (⟨S8x2048, .i32⟩ : BufTy).Contents (Elt F) → (⟨S8x2048, .i32⟩ : BufTy).Contents (Elt F) → (⟨S8x2048, .i1⟩ : BufTy).Contents (Elt F)),
    StableHlo.nullary main_c_3 (constantI S_ 32 64#32),
    StableHlo.unary main_c_3 main_v16 (broadcastInDim S8x2048 ![] bcast_S_S8x2048 : (⟨S_, .i32⟩ : BufTy).Contents (Elt F) → (⟨S8x2048, .i32⟩ : BufTy).Contents (Elt F)),
    StableHlo.binary main_arg3 main_v16 main_v17 (addi : (⟨S8x2048, .i32⟩ : BufTy).Contents (Elt F) → (⟨S8x2048, .i32⟩ : BufTy).Contents (Elt F) → (⟨S8x2048, .i32⟩ : BufTy).Contents (Elt F)),
    StableHlo.ternary main_v15 main_v17 main_arg3 main_v18 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)) ]

/-- Part C: the pools at the heads. -/
abbrev partC : List (HloOp τ sig (Elt F)) :=
  [ StableHlo.unary main_v13 main_v19 (broadcastInDim S8x2048 ![0, 1] bcast_S8x1_S8x2048_0_1 : (⟨S8x1, .i32⟩ : BufTy).Contents (Elt F) → (⟨S8x2048, .i32⟩ : BufTy).Contents (Elt F)),
    StableHlo.unary main_v19 main_v20 (broadcastInDim S8x2048x1 ![0, 1] bcast_S8x2048_S8x2048x1_0_1 : (⟨S8x2048, .i32⟩ : BufTy).Contents (Elt F) → (⟨S8x2048x1, .i32⟩ : BufTy).Contents (Elt F)),
    StableHlo.unary main_v18 main_v21 (broadcastInDim S8x2048x1 ![0, 1] bcast_S8x2048_S8x2048x1_0_1 : (⟨S8x2048, .i32⟩ : BufTy).Contents (Elt F) → (⟨S8x2048x1, .i32⟩ : BufTy).Contents (Elt F)),
    StableHlo.binary main_v20 main_v21 main_v22 ((fun a b => concatenate S8x2048x2 2 [⟨S8x2048x1, a⟩, ⟨S8x2048x1, b⟩] concatenates_S8x2048x1_S8x2048x1_S8x2048x2_d2) : (⟨S8x2048x1, .i32⟩ : BufTy).Contents (Elt F) → (⟨S8x2048x1, .i32⟩ : BufTy).Contents (Elt F) → (⟨S8x2048x2, .i32⟩ : BufTy).Contents (Elt F)),
    StableHlo.binary main_v6 main_v22 main_v23 ((fun x i => Host.gather gather_S8x64x256_S8x2048x2_S8x2048x256_2_01_n_n_01_2_11256 x i) : (⟨S8x64x256, .f32⟩ : BufTy).Contents (Elt F) → (⟨S8x2048x2, .i32⟩ : BufTy).Contents (Elt F) → (⟨S8x2048x256, .f32⟩ : BufTy).Contents (Elt F)) ]

/-- Part D: the batch indices made non-negative once more. -/
abbrev partD : List (HloOp τ sig (Elt F)) :=
  [ StableHlo.nullary main_c_4 (constantI S_ 32 0#32),
    StableHlo.unary main_c_4 main_v24 (broadcastInDim S8x1 ![] bcast_S_S8x1 : (⟨S_, .i32⟩ : BufTy).Contents (Elt F) → (⟨S8x1, .i32⟩ : BufTy).Contents (Elt F)),
    StableHlo.binary main_v8 main_v24 main_v25 (cmpi .slt : (⟨S8x1, .i32⟩ : BufTy).Contents (Elt F) → (⟨S8x1, .i32⟩ : BufTy).Contents (Elt F) → (⟨S8x1, .i1⟩ : BufTy).Contents (Elt F)),
    StableHlo.nullary main_c_5 (constantI S_ 32 8#32),
    StableHlo.unary main_c_5 main_v26 (broadcastInDim S8x1 ![] bcast_S_S8x1 : (⟨S_, .i32⟩ : BufTy).Contents (Elt F) → (⟨S8x1, .i32⟩ : BufTy).Contents (Elt F)),
    StableHlo.binary main_v8 main_v26 main_v27 (addi : (⟨S8x1, .i32⟩ : BufTy).Contents (Elt F) → (⟨S8x1, .i32⟩ : BufTy).Contents (Elt F) → (⟨S8x1, .i32⟩ : BufTy).Contents (Elt F)),
    StableHlo.ternary main_v25 main_v27 main_v8 main_v28 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)) ]

/-- Part E: the tails made non-negative. -/
abbrev partE : List (HloOp τ sig (Elt F)) :=
  [ StableHlo.nullary main_c_6 (constantI S_ 32 0#32),
    StableHlo.unary main_c_6 main_v29 (broadcastInDim S8x2048 ![] bcast_S_S8x2048 : (⟨S_, .i32⟩ : BufTy).Contents (Elt F) → (⟨S8x2048, .i32⟩ : BufTy).Contents (Elt F)),
    StableHlo.binary main_arg4 main_v29 main_v30 (cmpi .slt : (⟨S8x2048, .i32⟩ : BufTy).Contents (Elt F) → (⟨S8x2048, .i32⟩ : BufTy).Contents (Elt F) → (⟨S8x2048, .i1⟩ : BufTy).Contents (Elt F)),
    StableHlo.nullary main_c_7 (constantI S_ 32 64#32),
    StableHlo.unary main_c_7 main_v31 (broadcastInDim S8x2048 ![] bcast_S_S8x2048 : (⟨S_, .i32⟩ : BufTy).Contents (Elt F) → (⟨S8x2048, .i32⟩ : BufTy).Contents (Elt F)),
    StableHlo.binary main_arg4 main_v31 main_v32 (addi : (⟨S8x2048, .i32⟩ : BufTy).Contents (Elt F) → (⟨S8x2048, .i32⟩ : BufTy).Contents (Elt F) → (⟨S8x2048, .i32⟩ : BufTy).Contents (Elt F)),
    StableHlo.ternary main_v30 main_v32 main_arg4 main_v33 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)) ]

/-- Part G: the pools at the tails. -/
abbrev partG : List (HloOp τ sig (Elt F)) :=
  [ StableHlo.unary main_v28 main_v34 (broadcastInDim S8x2048 ![0, 1] bcast_S8x1_S8x2048_0_1 : (⟨S8x1, .i32⟩ : BufTy).Contents (Elt F) → (⟨S8x2048, .i32⟩ : BufTy).Contents (Elt F)),
    StableHlo.unary main_v34 main_v35 (broadcastInDim S8x2048x1 ![0, 1] bcast_S8x2048_S8x2048x1_0_1 : (⟨S8x2048, .i32⟩ : BufTy).Contents (Elt F) → (⟨S8x2048x1, .i32⟩ : BufTy).Contents (Elt F)),
    StableHlo.unary main_v33 main_v36 (broadcastInDim S8x2048x1 ![0, 1] bcast_S8x2048_S8x2048x1_0_1 : (⟨S8x2048, .i32⟩ : BufTy).Contents (Elt F) → (⟨S8x2048x1, .i32⟩ : BufTy).Contents (Elt F)),
    StableHlo.binary main_v35 main_v36 main_v37 ((fun a b => concatenate S8x2048x2 2 [⟨S8x2048x1, a⟩, ⟨S8x2048x1, b⟩] concatenates_S8x2048x1_S8x2048x1_S8x2048x2_d2) : (⟨S8x2048x1, .i32⟩ : BufTy).Contents (Elt F) → (⟨S8x2048x1, .i32⟩ : BufTy).Contents (Elt F) → (⟨S8x2048x2, .i32⟩ : BufTy).Contents (Elt F)),
    StableHlo.binary main_v6 main_v37 main_v38 ((fun x i => Host.gather gather_S8x64x256_S8x2048x2_S8x2048x256_2_01_n_n_01_2_11256 x i) : (⟨S8x64x256, .f32⟩ : BufTy).Contents (Elt F) → (⟨S8x2048x2, .i32⟩ : BufTy).Contents (Elt F) → (⟨S8x2048x256, .f32⟩ : BufTy).Contents (Elt F)) ]

/-- Part H: the two pools of a pair side by side, their product with the weights, and the bias. -/
abbrev partH : List (HloOp τ sig (Elt F)) :=
  [ StableHlo.binary main_v23 main_v38 main_v39 ((fun a b => concatenate S8x2048x512 2 [⟨S8x2048x256, a⟩, ⟨S8x2048x256, b⟩] concatenates_S8x2048x256_S8x2048x256_S8x2048x512_d2) : (⟨S8x2048x256, .f32⟩ : BufTy).Contents (Elt F) → (⟨S8x2048x256, .f32⟩ : BufTy).Contents (Elt F) → (⟨S8x2048x512, .f32⟩ : BufTy).Contents (Elt F)),
    StableHlo.binary main_v39 main_arg5 main_v40 ((fun l r => Host.dotGeneral dot_S8x2048x512_S512x16_S8x2048x16_2_0_01_1_n_n none l r) : (⟨S8x2048x512, .f32⟩ : BufTy).Contents (Elt F) → (⟨S512x16, .f32⟩ : BufTy).Contents (Elt F) → (⟨S8x2048x16, .f32⟩ : BufTy).Contents (Elt F)),
    StableHlo.unary main_arg6 main_v41 (broadcastInDim S1x1x16 ![2] bcast_S16_S1x1x16_2 : (⟨S16, .f32⟩ : BufTy).Contents (Elt F) → (⟨S1x1x16, .f32⟩ : BufTy).Contents (Elt F)),
    StableHlo.unary main_v41 main_v42 (broadcastInDim S8x2048x16 ![0, 1, 2] bcast_S1x1x16_S8x2048x16_0_1_2 : (⟨S1x1x16, .f32⟩ : BufTy).Contents (Elt F) → (⟨S8x2048x16, .f32⟩ : BufTy).Contents (Elt F)),
    StableHlo.binary main_v40 main_v42 main_v43 (addf : (⟨S8x2048x16, .f32⟩ : BufTy).Contents (Elt F) → (⟨S8x2048x16, .f32⟩ : BufTy).Contents (Elt F) → (⟨S8x2048x16, .f32⟩ : BufTy).Contents (Elt F)) ]

set_option maxRecDepth 8192 in
/-- The stretch is its parts in order. -/
theorem cut : (hostOps0_1 : List (HloOp τ sig (Elt F))) =
    partA ++ (partB ++ (partC ++ (partD ++ (partE ++ (partG ++ partH))))) := rfl

/-- What part A writes. -/
abbrev partA_W : List (Ref sig .tc) := [main_v6, main_v7, main_v8, main_c_0, main_v9, main_v10, main_c_1, main_v11, main_v12, main_v13]
theorem partA_writes : (partA : List (HloOp τ sig (Elt F))).Forall fun op => op.writes ⊆ (partA_W.map (Proc.devRef (τ := τ) .tc)).toFinset :=
  StableHlo.forall_writes_sub_of_map rfl
/-- Part A keeps what it does not write. -/
theorem partA_keep (V : Valuation τ sig (Elt F)) (r : Ref sig .tc) (h : r ∉ partA_W) :
    after partA V (Proc.devRef .tc r) = V (Proc.devRef .tc r) :=
  after_of_writes_sub partA V partA_writes h

/-- What part B writes. -/
abbrev partB_W : List (Ref sig .tc) := [main_c_2, main_v14, main_v15, main_c_3, main_v16, main_v17, main_v18]
theorem partB_writes : (partB : List (HloOp τ sig (Elt F))).Forall fun op => op.writes ⊆ (partB_W.map (Proc.devRef (τ := τ) .tc)).toFinset :=
  StableHlo.forall_writes_sub_of_map rfl
/-- Part B keeps what it does not write. -/
theorem partB_keep (V : Valuation τ sig (Elt F)) (r : Ref sig .tc) (h : r ∉ partB_W) :
    after partB V (Proc.devRef .tc r) = V (Proc.devRef .tc r) :=
  after_of_writes_sub partB V partB_writes h

/-- What part C writes. -/
abbrev partC_W : List (Ref sig .tc) := [main_v19, main_v20, main_v21, main_v22, main_v23]
theorem partC_writes : (partC : List (HloOp τ sig (Elt F))).Forall fun op => op.writes ⊆ (partC_W.map (Proc.devRef (τ := τ) .tc)).toFinset :=
  StableHlo.forall_writes_sub_of_map rfl
/-- Part C keeps what it does not write. -/
theorem partC_keep (V : Valuation τ sig (Elt F)) (r : Ref sig .tc) (h : r ∉ partC_W) :
    after partC V (Proc.devRef .tc r) = V (Proc.devRef .tc r) :=
  after_of_writes_sub partC V partC_writes h

/-- What part D writes. -/
abbrev partD_W : List (Ref sig .tc) := [main_c_4, main_v24, main_v25, main_c_5, main_v26, main_v27, main_v28]
theorem partD_writes : (partD : List (HloOp τ sig (Elt F))).Forall fun op => op.writes ⊆ (partD_W.map (Proc.devRef (τ := τ) .tc)).toFinset :=
  StableHlo.forall_writes_sub_of_map rfl
/-- Part D keeps what it does not write. -/
theorem partD_keep (V : Valuation τ sig (Elt F)) (r : Ref sig .tc) (h : r ∉ partD_W) :
    after partD V (Proc.devRef .tc r) = V (Proc.devRef .tc r) :=
  after_of_writes_sub partD V partD_writes h

/-- What part E writes. -/
abbrev partE_W : List (Ref sig .tc) := [main_c_6, main_v29, main_v30, main_c_7, main_v31, main_v32, main_v33]
theorem partE_writes : (partE : List (HloOp τ sig (Elt F))).Forall fun op => op.writes ⊆ (partE_W.map (Proc.devRef (τ := τ) .tc)).toFinset :=
  StableHlo.forall_writes_sub_of_map rfl
/-- Part E keeps what it does not write. -/
theorem partE_keep (V : Valuation τ sig (Elt F)) (r : Ref sig .tc) (h : r ∉ partE_W) :
    after partE V (Proc.devRef .tc r) = V (Proc.devRef .tc r) :=
  after_of_writes_sub partE V partE_writes h

/-- What part G writes. -/
abbrev partG_W : List (Ref sig .tc) := [main_v34, main_v35, main_v36, main_v37, main_v38]
theorem partG_writes : (partG : List (HloOp τ sig (Elt F))).Forall fun op => op.writes ⊆ (partG_W.map (Proc.devRef (τ := τ) .tc)).toFinset :=
  StableHlo.forall_writes_sub_of_map rfl
/-- Part G keeps what it does not write. -/
theorem partG_keep (V : Valuation τ sig (Elt F)) (r : Ref sig .tc) (h : r ∉ partG_W) :
    after partG V (Proc.devRef .tc r) = V (Proc.devRef .tc r) :=
  after_of_writes_sub partG V partG_writes h

/-- What part H writes. -/
abbrev partH_W : List (Ref sig .tc) := [main_v39, main_v40, main_v41, main_v42, main_v43]
theorem partH_writes : (partH : List (HloOp τ sig (Elt F))).Forall fun op => op.writes ⊆ (partH_W.map (Proc.devRef (τ := τ) .tc)).toFinset :=
  StableHlo.forall_writes_sub_of_map rfl
/-- Part H keeps what it does not write. -/
theorem partH_keep (V : Valuation τ sig (Elt F)) (r : Ref sig .tc) (h : r ∉ partH_W) :
    after partH V (Proc.devRef .tc r) = V (Proc.devRef .tc r) :=
  after_of_writes_sub partH V partH_writes h

set_option maxRecDepth 8192 in
/-- Part A has the pools by batch and span. -/
theorem a_pools (V : Valuation τ sig (Elt F)) : after partA V (Proc.devRef .tc main_v6) = byBatch (V (Proc.devRef .tc main_v5_5)) := by
  after_results
  rfl

set_option maxRecDepth 8192 in
/-- Part A counts the batches. -/
theorem a_iota (V : Valuation τ sig (Elt F)) : after partA V (Proc.devRef .tc main_v8) = broadcastInDim S8x1 ![0] bcast_S8_S8x1_0 (iotaInDim S8 32 0) := by
  after_results

set_option maxRecDepth 8192 in
/-- Part A has the batch indices. -/
theorem a_batch (V : Valuation τ sig (Elt F)) : after partA V (Proc.devRef .tc main_v13) = batchIx := by
  after_results
  rfl

set_option maxRecDepth 8192 in
/-- Part B has the heads. -/
theorem b_span (V : Valuation τ sig (Elt F)) : after partB V (Proc.devRef .tc main_v18) = spanIx (V (Proc.devRef .tc main_arg3)) := by
  after_results
  rfl

set_option maxRecDepth 8192 in
/-- Part C has the pools at the heads. -/
theorem c_pick (V : Valuation τ sig (Elt F)) : after partC V (Proc.devRef .tc main_v23) = picked (V (Proc.devRef .tc main_v6)) (ixPairs (V (Proc.devRef .tc main_v13)) (V (Proc.devRef .tc main_v18))) := by
  after_results
  rfl

set_option maxRecDepth 8192 in
/-- Part D has the batch indices. -/
theorem d_batch (V : Valuation τ sig (Elt F)) (h : V (Proc.devRef .tc main_v8) = broadcastInDim S8x1 ![0] bcast_S8_S8x1_0 (iotaInDim S8 32 0)) :
    after partD V (Proc.devRef .tc main_v28) = batchIx := by
  unfold batchIx
  rw [← h]
  after_results

set_option maxRecDepth 8192 in
/-- Part E has the tails. -/
theorem e_span (V : Valuation τ sig (Elt F)) : after partE V (Proc.devRef .tc main_v33) = spanIx (V (Proc.devRef .tc main_arg4)) := by
  after_results
  rfl

set_option maxRecDepth 8192 in
/-- Part G has the pools at the tails. -/
theorem g_pick (V : Valuation τ sig (Elt F)) : after partG V (Proc.devRef .tc main_v38) = picked (V (Proc.devRef .tc main_v6)) (ixPairs (V (Proc.devRef .tc main_v28)) (V (Proc.devRef .tc main_v33))) := by
  after_results
  rfl

set_option maxRecDepth 8192 in
/-- Part H has the scores. -/
theorem h_score (V : Valuation τ sig (Elt F)) : after partH V (Proc.devRef .tc main_v43) = scored (V (Proc.devRef .tc main_v23)) (V (Proc.devRef .tc main_v38)) (V (Proc.devRef .tc main_arg5)) (V (Proc.devRef .tc main_arg6)) := by
  after_results
  rfl

/-- The reference's result, of the pools of all spans. -/
def outOf (S : (⟨S64x8x256, .f32⟩ : BufTy).Contents (Elt F)) (P Q : IVec S8x2048 32) (W : (⟨S512x16, .f32⟩ : BufTy).Contents (Elt F))
    (b : (⟨S16, .f32⟩ : BufTy).Contents (Elt F)) : (⟨S8x2048x16, .f32⟩ : BufTy).Contents (Elt F) :=
  scored (picked (byBatch S) (ixPairs batchIx (spanIx P))) (picked (byBatch S) (ixPairs batchIx (spanIx Q))) W b

/-- The stretch after the loop leaves the result. -/
theorem post_result (V : Valuation τ sig (Elt F)) : afterL postI V (Proc.devRef .tc main_v43) =
    outOf (V (Proc.devRef .tc main_v5_5)) (V (Proc.devRef .tc main_arg3)) (V (Proc.devRef .tc main_arg4))
      (V (Proc.devRef .tc main_arg5)) (V (Proc.devRef .tc main_arg6)) := by
  simp only [postI, afterL_cons, afterL_nil]
  rw [cut, after_append, after_append, after_append, after_append, after_append, after_append]
  rw [h_score]
  rw [partG_keep _ main_v23 (by decide), partE_keep _ main_v23 (by decide), partD_keep _ main_v23 (by decide), c_pick, g_pick]
  rw [partE_keep _ main_v6 (by decide), partD_keep _ main_v6 (by decide), partC_keep _ main_v6 (by decide), partB_keep _ main_v6 (by decide), a_pools]
  rw [partB_keep _ main_v13 (by decide), a_batch, b_span]
  rw [partE_keep _ main_v28 (by decide), d_batch _ (by rw [partC_keep _ main_v8 (by decide), partB_keep _ main_v8 (by decide)]; exact a_iota _), e_span]
  rw [partA_keep _ main_arg3 (by decide)]
  rw [partD_keep _ main_arg4 (by decide), partC_keep _ main_arg4 (by decide), partB_keep _ main_arg4 (by decide), partA_keep _ main_arg4 (by decide)]
  rw [partG_keep _ main_arg5 (by decide), partE_keep _ main_arg5 (by decide), partD_keep _ main_arg5 (by decide), partC_keep _ main_arg5 (by decide), partB_keep _ main_arg5 (by decide), partA_keep _ main_arg5 (by decide)]
  rw [partG_keep _ main_arg6 (by decide), partE_keep _ main_arg6 (by decide), partD_keep _ main_arg6 (by decide), partC_keep _ main_arg6 (by decide), partB_keep _ main_arg6 (by decide), partA_keep _ main_arg6 (by decide)]
  rfl

variable (m : (ℓ : Loc nD τ sig) → Buf (Elt F) ℓ) (ρ : Dev nD → PrngReg)

/-- The pools of all spans, as the loop leaves them. -/
def pools (c : Dev nD) : (⟨S64x8x256, .f32⟩ : BufTy).Contents (Elt F) :=
  (STEP^[64] (entryContents preI m c)) (Proc.devRef .tc main_v5_5)

/-- The reference's run: its result, its arguments unchanged, every semaphore counter at zero. -/
theorem run [∀ e, Nonempty (Elt F e)] : θ_run (defs (F := F)) (onTc (τ := τ) (main (F := F))) ⟨m, fun _ => 0, ρ⟩ fun r =>
    (∀ c : Dev nD,
      r.2.mem ((c.tc : Thread nD τ).loc main_v43) = outOf (pools m c) (m ((c.tc : Thread nD τ).loc main_arg3))
        (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0 := by
  refine (θ_run defs _ _).mono (fun r h => ⟨fun c => ⟨?_, ?_, ?_, ?_, ?_, ?_, ?_, ?_⟩, sem_eq_zero_of_no_sems rfl _⟩) (run_fold m ρ)
  · refine (h c main_v43 rfl).trans ((post_result _).trans ?_)
    rw [cond_keeps _ main_v5_5 (by decide), keep_main_arg3_condOps, keep_main_arg4_condOps, keep_main_arg5_condOps, keep_main_arg6_condOps]
    rw [show atTrip condOps bodyI (entryContents preI m) 64 c (Proc.devRef .tc main_v5_5) = pools m c from atK_agree m c 64 main_v5_5 (by decide)]
    rw [show atTrip condOps bodyI (entryContents preI m) 64 c (Proc.devRef .tc main_arg3) = _ from atK_main_arg3 m c 64,
      show atTrip condOps bodyI (entryContents preI m) 64 c (Proc.devRef .tc main_arg4) = _ from atK_main_arg4 m c 64,
      show atTrip condOps bodyI (entryContents preI m) 64 c (Proc.devRef .tc main_arg5) = _ from atK_main_arg5 m c 64,
      show atTrip condOps bodyI (entryContents preI m) 64 c (Proc.devRef .tc main_arg6) = _ from atK_main_arg6 m c 64]
  · exact (h c main_arg0 rfl).trans ((post_keeps_main_arg0 _).trans ((keep_main_arg0_condOps _).trans (atK_main_arg0 m c 64)))
  · exact (h c main_arg1 rfl).trans ((post_keeps_main_arg1 _).trans ((keep_main_arg1_condOps _).trans (atK_main_arg1 m c 64)))
  · exact (h c main_arg2 rfl).trans ((post_keeps_main_arg2 _).trans ((keep_main_arg2_condOps _).trans (atK_main_arg2 m c 64)))
  · exact (h c main_arg3 rfl).trans ((post_keeps_main_arg3 _).trans ((keep_main_arg3_condOps _).trans (atK_main_arg3 m c 64)))
  · exact (h c main_arg4 rfl).trans ((post_keeps_main_arg4 _).trans ((keep_main_arg4_condOps _).trans (atK_main_arg4 m c 64)))
  · exact (h c main_arg5 rfl).trans ((post_keeps_main_arg5 _).trans ((keep_main_arg5_condOps _).trans (atK_main_arg5 m c 64)))
  · exact (h c main_arg6 rfl).trans ((post_keeps_main_arg6 _).trans ((keep_main_arg6_condOps _).trans (atK_main_arg6 m c 64)))

end Cert.ReferenceIdeal.End

end
-- ==== Proof.SpanMax.lean ====
/- The maximum over a span of a column of 2048 rows: over all rows, those outside the span replaced by the least finite
   number; and over the forty rows around the span, which is the same. -/
module

public import proofs.«01_k».proof.Proof.KernelIdealPool
public import Idealize.ShloMosaic.Lib.Pointwise
public import Idealize.ShloMosaic.Lib.Tactic.WordOmega

@[expose] public section

noncomputable section

namespace Cert.SpanMax

open Idealize.ShloMosaic

/-- What stands for a row outside the span: the least finite number. -/
def lowest : EReal := Ideal.ofBits .f32 0xFF7FFFFF#32

/-- Where a maximum begins. -/
def bottom : EReal := Ideal.ofBits .f32 0xFF800000#32

/-- The maximum of a column over the span of `n` rows from row `s`. -/
def spanMax (x : Fin 2048 → EReal) (s n : ℕ) : EReal :=
  Finset.univ.fold max bottom fun t : Fin 2048 => if s ≤ t.val ∧ t.val < s + n then x t else lowest

/-- The same, over the forty rows from the last multiple of eight up to `s`. -/
theorem spanMax_window (x : Fin 2048 → EReal) (s n : ℕ) (hs : s < 2016) (hn : n < 32) (g : Fin 40 → EReal)
    (hg : ∀ k : Fin 40, g k = if s % 8 ≤ k.val ∧ k.val < s % 8 + n then x ⟨(s / 8 * 8 + k.val) % 2048, Nat.mod_lt _ (by decide)⟩ else lowest) :
    Finset.univ.fold max bottom g = spanMax x s n := by
  refine eq_of_forall_ge_iff fun c => ?_
  unfold spanMax
  rw [Finset.fold_max_le, Finset.fold_max_le]
  refine and_congr_right fun _ => ⟨fun h t _ => ?_, fun h k _ => ?_⟩
  · by_cases ht : s ≤ t.val ∧ t.val < s + n
    · rw [if_pos ht]
      have hk := h ⟨t.val - s / 8 * 8, by omega⟩ (Finset.mem_univ _)
      rw [hg, if_pos (by constructor <;> simp only [] <;> omega)] at hk
      have e : (⟨(s / 8 * 8 + (t.val - s / 8 * 8)) % 2048, Nat.mod_lt _ (by decide)⟩ : Fin 2048) = t := Fin.ext (by
        have := t.isLt
        simp only []
        omega)
      rw [e] at hk
      exact hk
    · rw [if_neg ht]
      have hk := h ⟨39, by decide⟩ (Finset.mem_univ _)
      rwa [hg, if_neg (by simp only []; omega)] at hk
  · rw [hg]
    have hk := k.isLt
    have ht := h ⟨(s / 8 * 8 + k.val) % 2048, Nat.mod_lt _ (by decide)⟩ (Finset.mem_univ _)
    have e : (s / 8 * 8 + k.val) % 2048 = s / 8 * 8 + k.val := Nat.mod_eq_of_lt (by omega)
    by_cases hc : s % 8 ≤ k.val ∧ k.val < s % 8 + n
    · rw [if_pos hc]; rwa [if_pos (by simp only [e]; omega)] at ht
    · rw [if_neg hc]; rwa [if_neg (by simp only [e]; omega)] at ht

/-- How far past a multiple of eight a span starts, as the kernel computes it. -/
def past (lo : BitVec 32) : BitVec 32 :=
  Scalar.subi lo (Scalar.muli (Scalar.select (Scalar.andi
      (Scalar.cmpi .ne (Scalar.subi (Scalar.extui (Scalar.cmpi .sgt lo 0#32)) (Scalar.extui (Scalar.cmpi .slt lo 0#32)))
        (Scalar.subi (Scalar.extui (Scalar.cmpi .sgt 8#32 0#32)) (Scalar.extui (Scalar.cmpi .slt 8#32 0#32))))
      (Scalar.cmpi .ne (Scalar.remsi lo 8#32) 0#32)) (Scalar.subi (Scalar.divsi lo 8#32) 1#32) (Scalar.divsi lo 8#32)) 8#32)

theorem past_eq {lo : BitVec 32} (h : lo.toNat < 2016) : (past lo).toNat = lo.toNat % 8 := by
  have key : ∀ n : Fin 2016, (past (BitVec.ofNat 32 n.val)).toNat = n.val % 8 := by decide +kernel
  have k := key ⟨lo.toNat, h⟩
  simpa only [BitVec.ofNat_toNat, BitVec.setWidth_eq] using k

/-- Choosing by an unsigned comparison. -/
theorem select_ult {α : Type} (u v : BitVec 32) (a b : α) : Scalar.select (IntOp.cmpi .ult u v) a b = if u.toNat < v.toNat then a else b := by
  show (if BitVec.ofBool (BitVec.ult u v) = 1#1 then a else b) = _
  rcases hc : BitVec.ult u v with _ | _
  · rw [if_neg (by decide), if_neg (by simpa [BitVec.ult] using hc)]
  · rw [if_pos (by decide), if_pos (by simpa [BitVec.ult] using hc)]

/-- The row of a span as the kernel pools it. -/
theorem row_eq (lo ln : BitVec 32) (hlo : lo.toNat < 2016) (hln : ln.toNat < 32) (w : Vec Ideal Cert.KernelIdeal.S1x40x256 .f32) (d : Fin 256) :
    Cert.KernelIdeal.Spans.row (F := Ideal) lo ln w (ix2 (0 : Fin 1) d)
      = Finset.univ.fold max bottom fun k : Fin 40 => if lo.toNat % 8 ≤ k.val ∧ k.val < lo.toNat % 8 + ln.toNat then w (ix3 (0 : Fin 1) k d) else lowest := by
  pointwise [Cert.KernelIdeal.Spans.row, Cert.KernelIdeal.Gen.k0_pay4]
  refine congrArg (fun f => Finset.fold max bottom f Finset.univ) (funext fun k => ?_)
  show Scalar.select (IntOp.cmpi .ult (IntOp.subi (BitVec.ofNat 32 k.val) (past lo)) ln) _ _ = _
  rw [select_ult]
  have hp := past_eq hlo
  have hk := k.isLt
  have hpl := (past lo).isLt
  have e : (IntOp.subi (BitVec.ofNat 32 k.val) (past lo)).toNat = (2 ^ 32 - lo.toNat % 8 + k.val) % 2 ^ 32 := by
    show (BitVec.ofNat 32 k.val - past lo).toNat = _
    rw [BitVec.toNat_sub, hp, BitVec.toNat_ofNat, Nat.mod_eq_of_lt (show k.val < 2 ^ 32 by omega)]
  refine if_congr ?_ rfl rfl
  rw [e]
  omega

/-- The pooled rows of a batch: each the maximum over its span. -/
theorem pooled_eq (E : Cert.KernelIdeal.S1x2048x256.Idx → EReal) (lo ln : Fin 64 → BitVec 32) (s : Fin 64) (d : Fin 256)
    (hlo : (lo s).toNat < 2016) (hln : (ln s).toNat < 32) :
    Cert.KernelIdeal.Spans.pooled (F := Ideal) E lo ln (ix2 s d) = spanMax (fun t => E (ix3 (0 : Fin 1) t d)) (lo s).toNat (ln s).toNat := by
  refine (row_eq (lo s) (ln s) hlo hln (Cert.KernelIdeal.Spans.window E (lo s)) d).trans ?_
  exact spanMax_window _ _ _ hlo hln _ fun k => rfl

end Cert.SpanMax

end
-- ==== Proof.KernelScores.lean ====
/- The scores that the kernel makes of a batch's pooled rows, at exact arithmetic. -/
module

public import proofs.«01_k».proof.Proof.KernelIdealEnds
public import proofs.«01_k».proof.Proof.SpanMax

@[expose] public section

noncomputable section

namespace Cert.KernelScores

open Idealize.ShloMosaic
open Cert.KernelIdeal (S64x256 S512x16 S16 S4x2048)

variable (p : S64x256.Idx → EReal) (W : S512x16.Idx → EReal) (b : S16.Idx → EReal)

/-- A pooled row times the upper half of the weights. -/
def headPart (s : Fin 64) (r : Fin 16) : EReal := ∑ d : Fin 256, p (ix2 s d) * W (ix2 (⟨d.val, by have := d.isLt; omega⟩ : Fin 512) r)
/-- A pooled row times the lower half of the weights. -/
def tailPart (s : Fin 64) (r : Fin 16) : EReal := ∑ d : Fin 256, p (ix2 s d) * W (ix2 (⟨256 + d.val, by have := d.isLt; omega⟩ : Fin 512) r)

theorem projH_eq (s : Fin 64) (r : Fin 16) :
    Cert.KernelIdeal.Spans.projH (F := Ideal) p W b (ix3 (0 : Fin 1) s r) = headPart p W s r + b (ix1 r) := by
  pointwise [Cert.KernelIdeal.Spans.projH, Cert.KernelIdeal.Gen.k0_pay2, Cert.KernelIdeal.Spans.top]
  rfl

theorem projT_eq (s : Fin 64) (r : Fin 16) :
    Cert.KernelIdeal.Spans.projT (F := Ideal) p W (ix3 (0 : Fin 1) s r) = tailPart p W s r := by
  pointwise [Cert.KernelIdeal.Spans.projT, Cert.KernelIdeal.Gen.k0_pay3, Cert.KernelIdeal.Spans.bot]
  rfl

/-- An entry of the selection: one where the row number is either of the two sought, else zero. -/
theorem selects (k u v : BitVec 32) :
    (FloatOps.sitofp (F := Ideal) .f32 (BitVec.setWidth 32 (IntOp.ori (IntOp.cmpi .eq k u) (IntOp.cmpi .eq k v))) : EReal)
      = if k = u ∨ k = v then 1 else 0 := by
  have one : (FloatOps.sitofp (F := Ideal) .f32 (1#32) : EReal) = 1 := by
    show (((1#32 : BitVec 32).toInt : ℝ) : EReal) = 1
    rw [show (1#32 : BitVec 32).toInt = 1 from by decide, Int.cast_one, EReal.coe_one]
  have zero : (FloatOps.sitofp (F := Ideal) .f32 (0#32) : EReal) = 0 := by
    show (((0#32 : BitVec 32).toInt : ℝ) : EReal) = 0
    rw [show (0#32 : BitVec 32).toInt = 0 from by decide, Int.cast_zero, EReal.coe_zero]
  have word : BitVec.setWidth 32 (IntOp.ori (IntOp.cmpi .eq k u) (IntOp.cmpi .eq k v)) = if k = u ∨ k = v then 1#32 else 0#32 := by
    show BitVec.setWidth 32 (BitVec.ofBool (k == u) ||| BitVec.ofBool (k == v)) = _
    have bit : ∀ a c : BitVec 32, BitVec.ofBool (a == c) = if a = c then 1#1 else 0#1 := fun a c => by
      by_cases h : a = c
      · rw [if_pos h, beq_iff_eq.mpr h]; rfl
      · rw [if_neg h, beq_eq_false_iff_ne.mpr h]; rfl
    rw [bit, bit]
    by_cases hu : k = u
    · rw [if_pos hu, if_pos (Or.inl hu)]
      by_cases hv : k = v
      · rw [if_pos hv]; decide
      · rw [if_neg hv]; decide
    · rw [if_neg hu]
      by_cases hv : k = v
      · rw [if_pos hv, if_pos (Or.inr hv)]; decide
      · rw [if_neg hv, if_neg (fun h => h.elim hu hv)]; decide
  rw [word]
  by_cases h : k = u ∨ k = v
  · rw [if_pos h, if_pos h, one]
  · rw [if_neg h, if_neg h, zero]

/-- A sum that one entry selects. -/
theorem sum_selected (c : Fin 64 → BitVec 32) (u v : BitVec 32) (f : Fin 64 → EReal) (j : Fin 64) (h : ∀ k, (c k = u ∨ c k = v) ↔ k = j) :
    ∑ k, (FloatOps.sitofp (F := Ideal) .f32 (BitVec.setWidth 32 (IntOp.ori (IntOp.cmpi .eq (c k) u) (IntOp.cmpi .eq (c k) v))) : EReal) * f k = f j := by
  have e : ∀ k, (FloatOps.sitofp (F := Ideal) .f32 (BitVec.setWidth 32 (IntOp.ori (IntOp.cmpi .eq (c k) u) (IntOp.cmpi .eq (c k) v))) : EReal) * f k
      = if k = j then f k else 0 := fun k => by
    refine (congrArg (· * f k) (selects (c k) u v)).trans ?_
    by_cases hk : k = j
    · rw [if_pos ((h k).mpr hk), if_pos hk, one_mul]
    · rw [if_neg (fun a => hk ((h k).mp a)), if_neg hk, zero_mul]
  rw [Finset.sum_congr rfl fun k _ => e k, Finset.sum_ite_eq' Finset.univ j f, if_pos (Finset.mem_univ _)]

theorem pairs_eq (i : Fin 4) (X Y : S4x2048.Idx → BitVec 32) (x : Fin 2048) (r : Fin 16) (hX : (X (ix2 i x)).toNat < 64) (hY : (Y (ix2 i x)).toNat < 64) :
    Cert.KernelIdeal.Spans.pairs (F := Ideal) i p W b X Y (ix3 (0 : Fin 1) x r)
      = headPart p W ⟨_, hX⟩ r + b (ix1 r) + tailPart p W ⟨_, hY⟩ r := by
  pointwise [Cert.KernelIdeal.Spans.pairs, Cert.KernelIdeal.Gen.k2_pay1, Cert.KernelIdeal.Gen.k2_pay86, Cert.KernelIdeal.Spans.top, Cert.KernelIdeal.Spans.bot, Cert.KernelIdeal.Spans.idRow]
  refine congrArg₂ (· + ·) ?_ ?_
  · refine sum_selected (fun k => BitVec.ofNat 32 k.val) (X (ix2 i x)) (IntOp.addi (Y (ix2 i x)) 64#32) _ ⟨_, hX⟩ fun k => ?_
    have hk := k.isLt
    show (BitVec.ofNat 32 k.val = X (ix2 i x) ∨ BitVec.ofNat 32 k.val = Y (ix2 i x) + 64#32) ↔ _
    rw [Fin.ext_iff, ← BitVec.toNat_inj, ← BitVec.toNat_inj, BitVec.toNat_add, BitVec.toNat_ofNat, BitVec.toNat_ofNat]
    show _ ↔ k.val = (X (ix2 i x)).toNat
    omega
  · refine sum_selected (fun k => BitVec.ofNat 32 (64 + k.val)) (X (ix2 i x)) (IntOp.addi (Y (ix2 i x)) 64#32) _ ⟨_, hY⟩ fun k => ?_
    have hk := k.isLt
    show (BitVec.ofNat 32 (64 + k.val) = X (ix2 i x) ∨ BitVec.ofNat 32 (64 + k.val) = Y (ix2 i x) + 64#32) ↔ _
    rw [Fin.ext_iff, ← BitVec.toNat_inj, ← BitVec.toNat_inj, BitVec.toNat_add, BitVec.toNat_ofNat, BitVec.toNat_ofNat]
    show _ ↔ k.val = (Y (ix2 i x)).toNat
    omega

end Cert.KernelScores

end
-- ==== Proof.ReferencePools.lean ====
/- The reference's loop: after it, the pool of every span of every batch is the maximum over the span. -/
module

public import proofs.«01_k».proof.Proof.ReferenceEnd
public import proofs.«01_k».proof.Proof.SpanMax
public import Idealize.ShloMosaic.Lib.Tactic.CleanTypes

@[expose] public section

noncomputable section

namespace Cert.ReferencePools

open Cert.ReferenceIdeal Cert.ReferenceIdeal.Gen Cert.ReferenceIdeal.Trips Cert.ReferenceIdeal.Loop
open Idealize.ShloMosaic Idealize.ShloMosaic.TcCoe Idealize.ShloMosaic.Tactic
open Idealize.ShloMosaic.StableHlo
open Cert.SpanMax (spanMax bottom lowest)

variable {F : FTy → Type} [FloatOps F]

/-- Row `ctr` of a table of the batches' numbers. -/
def rowAt (ctr : (⟨S_, .i32⟩ : BufTy).Contents (Elt F)) (A : (⟨S64x8, .i32⟩ : BufTy).Contents (Elt F)) : (⟨S8, .i32⟩ : BufTy).Contents (Elt F) :=
  shapeCast S8 (Host.dynamicSlice S1x8 A (fun k => (((![ctr, constantI S_ 32 0#32] : Fin 2 → (⟨S_, .i32⟩ : BufTy).Contents (Elt F))) k (Shape.Idx.first h_S_)).toInt) sliceFits_S64x8_S1x8) shapeCasts_S1x8_S8

/-- The pools of one span of every batch. -/
def poolAt (lo hi : (⟨S8, .i32⟩ : BufTy).Contents (Elt F)) (pos : (⟨S2048, .i32⟩ : BufTy).Contents (Elt F))
    (E : (⟨S8x2048x256, .f32⟩ : BufTy).Contents (Elt F)) : (⟨S8x256, .f32⟩ : BufTy).Contents (Elt F) :=
  Host.reduce FloatOps.maximumf (select (broadcastInDim S8x2048x256 ![0, 1, 2] bcast_S8x2048x1_S8x2048x256_0_1_2 (broadcastInDim S8x2048x1 ![0, 1] bcast_S8x2048_S8x2048x1_0_1
      (andi (cmpi .sge (broadcastInDim S8x2048 ![0, 1] bcast_S1x2048_S8x2048_0_1 (broadcastInDim S1x2048 ![1] bcast_S2048_S1x2048_1 pos)) (broadcastInDim S8x2048 ![0, 1] bcast_S8x1_S8x2048_0_1 (broadcastInDim S8x1 ![0] bcast_S8_S8x1_0 lo)))
        (cmpi .slt (broadcastInDim S8x2048 ![0, 1] bcast_S1x2048_S8x2048_0_1 (broadcastInDim S1x2048 ![1] bcast_S2048_S1x2048_1 pos)) (broadcastInDim S8x2048 ![0, 1] bcast_S8x1_S8x2048_0_1 (broadcastInDim S8x1 ![0] bcast_S8_S8x1_0 hi))))))
      E (broadcastInDim S8x2048x256 ![] bcast_S_S8x2048x256 (constant S_ .f32 0xFF7FFFFF#32))) (constant S_ .f32 0xFF800000#32) reducesTo_S8x2048x256_S8x256_d1 h_S_

/-- The pools with one span's put in. -/
def putAt (ctr : (⟨S_, .i32⟩ : BufTy).Contents (Elt F)) (S : (⟨S64x8x256, .f32⟩ : BufTy).Contents (Elt F))
    (p : (⟨S8x256, .f32⟩ : BufTy).Contents (Elt F)) : (⟨S64x8x256, .f32⟩ : BufTy).Contents (Elt F) :=
  Host.dynamicUpdateSlice S (broadcastInDim S1x8x256 ![1, 2] bcast_S8x256_S1x8x256_1_2 p)
    (fun k => (((![ctr, constantI S_ 32 0#32, constantI S_ 32 0#32] : Fin 3 → (⟨S_, .i32⟩ : BufTy).Contents (Elt F))) k (Shape.Idx.first h_S_)).toInt) updateFits_S64x8x256_S1x8x256

/-- What a trip makes of the pools. -/
theorem step_eq (V : Valuation τ sig (Elt F)) : step_main_v5_5 V =
    putAt (V (Proc.devRef .tc main_v5_4)) (V (Proc.devRef .tc main_v5_5))
      (poolAt (rowAt (F := F) (V (Proc.devRef .tc main_v5_4)) (V (Proc.devRef .tc main_v5_0))) (rowAt (F := F) (V (Proc.devRef .tc main_v5_4)) (V (Proc.devRef .tc main_v5_1)))
        (V (Proc.devRef .tc main_v5_2)) (V (Proc.devRef .tc main_v5_3))) := by
  unfold step_main_v5_5 putAt poolAt rowAt
  clean_types
  rfl

/-- A small number read from its word. -/
theorem toInt_small (k : ℕ) (hk : k < 4096) : (BitVec.ofNat 32 k).toInt = k := by
  rw [BitVec.toInt_eq_toNat_of_lt (by rw [BitVec.toNat_ofNat]; omega), BitVec.toNat_ofNat]
  omega

/-- Row `k` of a table. -/
theorem rowAt_apply (k : ℕ) (hk : k < 64) (A : IVec S64x8 32) (b : Fin 8) :
    rowAt (F := F) (fun _ => BitVec.ofNat 32 k) A (ix1 b) = A (ix2 (⟨k, hk⟩ : Fin 64) b) := by
  pointwise [rowAt]
  have h0 : ∀ h, Host.clampedStart S64x8 S1x8 h (fun a => BitVec.toInt
      ((![fun _ => BitVec.ofNat 32 k, constantI S_ 32 0#32] : Fin 2 → IVec S_ 32) a (Shape.Idx.first h_S_))) 0 = k :=
    fun h => Host.clampedStart_of_le _ _ _ _ (toInt_small k (by omega)) (show k + 1 ≤ 64 by omega)
  have h1 : ∀ h, Host.clampedStart S64x8 S1x8 h (fun a => BitVec.toInt
      ((![fun _ => BitVec.ofNat 32 k, constantI S_ 32 0#32] : Fin 2 → IVec S_ 32) a (Shape.Idx.first h_S_))) 1 = 0 :=
    fun h => Host.clampedStart_of_le _ _ 1 0 rfl (show 0 + 8 ≤ 8 by omega)
  simp only [h0, h1, Nat.zero_add]

/-- Row `k` of a turned table of spans. -/
theorem rowAt_turned (k : ℕ) (hk : k < 64) (A : IVec S8x64 32) :
    rowAt (F := F) (fun _ => BitVec.ofNat 32 k) (transpose S64x8 [1, 0] A transposes_S8x64_S64x8_1_0) = fun i => A (ix2 (i 0) (⟨k, hk⟩ : Fin 64)) := by
  funext i
  idx_vars i
  refine (rowAt_apply k hk _ _).trans ?_
  pointwise

/-- A position's word is inside a span as its number is. -/
theorem inside (t : Fin 2048) (a l : BitVec 32) (ha : a.toNat < 2016) (hl : l.toNat < 32) :
    IntOp.andi (IntOp.cmpi CmpIPredicate.sge (BitVec.ofNat 32 t.val) a) (IntOp.cmpi CmpIPredicate.slt (BitVec.ofNat 32 t.val) (IntOp.addi a l)) =
      if a.toNat ≤ t.val ∧ t.val < a.toNat + l.toNat then 1#1 else 0#1 := by
  have ht := t.isLt
  have e1 : IntOp.cmpi CmpIPredicate.sge (BitVec.ofNat 32 t.val) a = BitVec.ofBool (decide (a.toNat ≤ t.val)) := by
    unfold IntOp.cmpi
    show BitVec.ofBool (a.sle (BitVec.ofNat 32 t.val)) = _
    rw [BitVec.sle_eq_decide, toInt_small _ (by omega), BitVec.toInt_eq_toNat_of_lt (by omega)]
    simp only [Int.ofNat_le]
  have e2 : IntOp.cmpi CmpIPredicate.slt (BitVec.ofNat 32 t.val) (IntOp.addi a l) = BitVec.ofBool (decide (t.val < a.toNat + l.toNat)) := by
    unfold IntOp.cmpi
    show BitVec.ofBool ((BitVec.ofNat 32 t.val).slt (a + l)) = _
    have hs : (a + l).toNat = a.toNat + l.toNat := by rw [BitVec.toNat_add]; omega
    rw [BitVec.slt_eq_decide, toInt_small _ (by omega), BitVec.toInt_eq_toNat_of_lt (by omega), hs]
    simp only [Int.ofNat_lt]
  rw [e1, e2]
  by_cases h1 : a.toNat ≤ t.val <;> by_cases h2 : t.val < a.toNat + l.toNat <;> simp [h1, h2, IntOp.andi]

/-- The pool of a span at a batch and a column. -/
theorem poolAt_apply (lo len : IVec S8 32) (E : FVec Ideal S8x2048x256 .f32) (b : Fin 8) (d : Fin 256)
    (hlo : (lo (ix1 b)).toNat < 2016) (hlen : (len (ix1 b)).toNat < 32) :
    poolAt (F := Ideal) lo (addi lo len) (iotaInDim S2048 32 0) E (ix2 b d) = spanMax (fun t => E (ix3 b t d)) (lo (ix1 b)).toNat (len (ix1 b)).toNat := by
  pointwise [poolAt]
  unfold spanMax
  congr 1
  funext t
  rw [inside t _ _ hlo hlen]
  split <;> rfl

/-- The pool that trip `k` makes. -/
theorem pool_of_span (k : ℕ) (hk : k < 64) (lo len : IVec S8x64 32) (E : FVec Ideal S8x2048x256 .f32) (b : Fin 8) (d : Fin 256)
    (hlo : (lo (ix2 b (⟨k, hk⟩ : Fin 64))).toNat < 2016) (hlen : (len (ix2 b (⟨k, hk⟩ : Fin 64))).toNat < 32) :
    poolAt (F := Ideal) (rowAt (F := Ideal) (fun _ => BitVec.ofNat 32 k) (transpose S64x8 [1, 0] lo transposes_S8x64_S64x8_1_0))
      (rowAt (F := Ideal) (fun _ => BitVec.ofNat 32 k) (transpose S64x8 [1, 0] (addi lo len) transposes_S8x64_S64x8_1_0)) (iotaInDim S2048 32 0) E (ix2 b d)
    = spanMax (fun t => E (ix3 b t d)) (lo (ix2 b (⟨k, hk⟩ : Fin 64))).toNat (len (ix2 b (⟨k, hk⟩ : Fin 64))).toNat := by
  rw [rowAt_turned k hk lo, rowAt_turned k hk (addi lo len)]
  exact poolAt_apply (fun i => lo (ix2 (i 0) (⟨k, hk⟩ : Fin 64))) (fun i => len (ix2 (i 0) (⟨k, hk⟩ : Fin 64))) E b d hlo hlen

/-- Putting one span's pools in. -/
theorem putAt_apply (k : ℕ) (hk : k < 64) (S : FVec F S64x8x256 .f32) (p : FVec F S8x256 .f32) (s : Fin 64) (b : Fin 8) (d : Fin 256) :
    putAt (fun _ => BitVec.ofNat 32 k) S p (ix3 s b d) = if s.val = k then p (ix2 b d) else S (ix3 s b d) := by
  pointwise [putAt]
  have h0 : ∀ h, Host.clampedStart S64x8x256 S1x8x256 h (fun a => BitVec.toInt
      ((![fun _ => BitVec.ofNat 32 k, constantI S_ 32 0#32, constantI S_ 32 0#32] : Fin 3 → IVec S_ 32) a (Shape.Idx.first h_S_))) 0 = k :=
    fun h => Host.clampedStart_of_le _ _ _ _ (toInt_small k (by omega)) (show k + 1 ≤ 64 by omega)
  have h1 : ∀ h, Host.clampedStart S64x8x256 S1x8x256 h (fun a => BitVec.toInt
      ((![fun _ => BitVec.ofNat 32 k, constantI S_ 32 0#32, constantI S_ 32 0#32] : Fin 3 → IVec S_ 32) a (Shape.Idx.first h_S_))) 1 = 0 :=
    fun h => Host.clampedStart_of_le _ _ 1 0 rfl (show 0 + 8 ≤ 8 by omega)
  have h2 : ∀ h, Host.clampedStart S64x8x256 S1x8x256 h (fun a => BitVec.toInt
      ((![fun _ => BitVec.ofNat 32 k, constantI S_ 32 0#32, constantI S_ 32 0#32] : Fin 3 → IVec S_ 32) a (Shape.Idx.first h_S_))) 2 = 0 :=
    fun h => Host.clampedStart_of_le _ _ 2 0 rfl (show 0 + 256 ≤ 256 by omega)
  simp only [h0, h1, h2, Nat.sub_zero, Nat.zero_le, and_true]
  split
  · rw [if_pos (by omega)]
  · rw [if_neg (by omega)]

/-! ## The loop -/

/-- A trip counts one up. -/
theorem count_eq (V : Valuation τ sig (Elt F)) (k : ℕ) (h : V (Proc.devRef .tc main_v5_4) = fun _ => BitVec.ofNat 32 k) :
    step_main_v5_4 V = fun _ => BitVec.ofNat 32 (k + 1) := by
  unfold step_main_v5_4
  rw [h]
  funext i
  show BitVec.ofNat 32 k + 1#32 = BitVec.ofNat 32 (k + 1)
  rw [BitVec.ofNat_add]

variable (m : (ℓ : Loc nD τ sig) → Buf (Elt F) ℓ) (ρ : Dev nD → PrngReg)

/-- What the loop finds: the first positions, the ends, all positions, the vectors and the counter. -/
theorem entry (c : Dev nD) :
    entryContents preI m c (Proc.devRef .tc main_v5_0) = transpose S64x8 [1, 0] (m ((c.tc : Thread nD τ).loc main_arg1)) transposes_S8x64_S64x8_1_0
    ∧ entryContents preI m c (Proc.devRef .tc main_v5_1) = transpose S64x8 [1, 0] (addi (m ((c.tc : Thread nD τ).loc main_arg1)) (m ((c.tc : Thread nD τ).loc main_arg2))) transposes_S8x64_S64x8_1_0
    ∧ entryContents preI m c (Proc.devRef .tc main_v5_2) = iotaInDim S2048 32 0
    ∧ entryContents preI m c (Proc.devRef .tc main_v5_3) = m ((c.tc : Thread nD τ).loc main_arg0) := by
  simp only [entryContents, afterL_cons, afterL_nil]
  refine ⟨?_, ?_, ?_, ?_⟩ <;> (after_results; rfl)

/-- Before trip `k` the counter is `k` and what the loop only reads is as it was. -/
theorem before (c : Dev nD) : ∀ k : ℕ,
    (STEP^[k] (entryContents preI m c)) (Proc.devRef .tc main_v5_0) = entryContents preI m c (Proc.devRef .tc main_v5_0)
    ∧ (STEP^[k] (entryContents preI m c)) (Proc.devRef .tc main_v5_1) = entryContents preI m c (Proc.devRef .tc main_v5_1)
    ∧ (STEP^[k] (entryContents preI m c)) (Proc.devRef .tc main_v5_2) = entryContents preI m c (Proc.devRef .tc main_v5_2)
    ∧ (STEP^[k] (entryContents preI m c)) (Proc.devRef .tc main_v5_3) = entryContents preI m c (Proc.devRef .tc main_v5_3)
    ∧ (STEP^[k] (entryContents preI m c)) (Proc.devRef .tc main_v5_4) = fun _ => BitVec.ofNat 32 k
  | 0 => ⟨rfl, rfl, rfl, rfl, ctr_entry m c⟩
  | k + 1 => by
    obtain ⟨h0, h1, h2, h3, h4⟩ := before c k
    rw [Function.iterate_succ_apply', STEP_main_v5_0, STEP_main_v5_1, STEP_main_v5_2, STEP_main_v5_3, STEP_main_v5_4]
    exact ⟨h0, h1, h2, h3, count_eq _ k h4⟩

/-- Before trip `k` the first `k` spans' pools are there. -/
theorem rows (m : (ℓ : Loc nD τ sig) → Buf (Elt Ideal) ℓ) (c : Dev nD)
    (hlo : ∀ i, (m ((c.tc : Thread nD τ).loc main_arg1) i).toNat < 2016) (hlen : ∀ i, (m ((c.tc : Thread nD τ).loc main_arg2) i).toNat < 32)
    (b : Fin 8) (d : Fin 256) : ∀ k : ℕ, k ≤ 64 → ∀ s : Fin 64, s.val < k →
    (STEP^[k] (entryContents preI m c)) (Proc.devRef .tc main_v5_5) (ix3 s b d) =
      spanMax (fun t => m ((c.tc : Thread nD τ).loc main_arg0) (ix3 b t d)) (m ((c.tc : Thread nD τ).loc main_arg1) (ix2 b s)).toNat
        (m ((c.tc : Thread nD τ).loc main_arg2) (ix2 b s)).toNat
  | 0, _, s, hs => absurd hs (Nat.not_lt_zero _)
  | k + 1, hk, s, hs => by
    obtain ⟨h0, h1, h2, h3, h4⟩ := before m c k
    obtain ⟨e0, e1, e2, e3⟩ := entry m c
    rw [Function.iterate_succ_apply', STEP_main_v5_5, step_eq, h0, h1, h2, h3, h4, e0, e1, e2, e3]
    refine (putAt_apply k hk _ _ s b d).trans ?_
    by_cases h : s.val = k
    · rw [if_pos h]
      obtain ⟨s, hs'⟩ := s
      dsimp only at h
      subst h
      exact pool_of_span s hs' (m ((c.tc : Thread nD τ).loc main_arg1)) (m ((c.tc : Thread nD τ).loc main_arg2)) (m ((c.tc : Thread nD τ).loc main_arg0)) b d (hlo _) (hlen _)
    · rw [if_neg h]
      exact rows m c hlo hlen b d k (by omega) s (by omega)

/-- After the loop every span's pool of every batch is the maximum over the span. -/
theorem pools_apply (m : (ℓ : Loc nD τ sig) → Buf (Elt Ideal) ℓ) (c : Dev nD)
    (hlo : ∀ i, (m ((c.tc : Thread nD τ).loc main_arg1) i).toNat < 2016) (hlen : ∀ i, (m ((c.tc : Thread nD τ).loc main_arg2) i).toNat < 32)
    (s : Fin 64) (b : Fin 8) (d : Fin 256) :
    Cert.ReferenceIdeal.End.pools m c (ix3 s b d) =
      spanMax (fun t => m ((c.tc : Thread nD τ).loc main_arg0) (ix3 b t d)) (m ((c.tc : Thread nD τ).loc main_arg1) (ix2 b s)).toNat
        (m ((c.tc : Thread nD τ).loc main_arg2) (ix2 b s)).toNat :=
  rows m c hlo hlen b d 64 (Nat.le_refl _) s s.isLt

end Cert.ReferencePools

end
-- ==== Proof.ReferenceScores.lean ====
/- The reference's scores at exact arithmetic: the head's part, the tail's part, the bias. -/
module

public import proofs.«01_k».proof.Proof.ReferenceEnd
public import proofs.«01_k».proof.Proof.KernelScores

@[expose] public section

noncomputable section

namespace Cert.ReferenceScores

open Cert.ReferenceIdeal Cert.ReferenceIdeal.Gen Cert.ReferenceIdeal.End
open Idealize.ShloMosaic

variable {F : FTy → Type} [FloatOps F]

/-- A number below half the words is not negative. -/
theorem not_neg (w : BitVec 32) (n : BitVec 32) (h : w.toNat < 64) :
    Scalar.select (IntOp.cmpi CmpIPredicate.slt w 0#32) (IntOp.addi w n) w = w := by
  have e : IntOp.cmpi CmpIPredicate.slt w 0#32 = 0#1 := by
    unfold IntOp.cmpi
    show BitVec.ofBool (w.slt 0#32) = _
    rw [BitVec.slt_eq_decide, BitVec.toInt_eq_toNat_of_lt (by omega), decide_eq_false (by simp)]
    rfl
  rw [e]
  rfl

/-- A batch's index is its number. -/
theorem batchIx_apply (b : Fin 8) : batchIx (ix2 b (0 : Fin 1)) = BitVec.ofNat 32 b.val := by
  pointwise [batchIx]
  exact not_neg _ _ (by rw [BitVec.toNat_ofNat]; omega)

/-- A span index that names a span stays. -/
theorem spanIx_apply (P : IVec S8x2048 32) (b : Fin 8) (x : Fin 2048) (h : (P (ix2 b x)).toNat < 64) : spanIx P (ix2 b x) = P (ix2 b x) := by
  pointwise [spanIx]
  exact not_neg _ _ h

/-- The first of a pair is the batch's index. -/
theorem ixPairs_fst (Bx : IVec S8x1 32) (P : IVec S8x2048 32) (b : Fin 8) (x : Fin 2048) : ixPairs Bx P (ix3 b x (0 : Fin 2)) = Bx (ix2 b (0 : Fin 1)) := by
  pointwise [ixPairs]

/-- The second of a pair is the span's index. -/
theorem ixPairs_snd (Bx : IVec S8x1 32) (P : IVec S8x2048 32) (b : Fin 8) (x : Fin 2048) : ixPairs Bx P (ix3 b x (1 : Fin 2)) = P (ix2 b x) := by
  pointwise [ixPairs]

/-- The pools by batch at an index. -/
theorem byBatch_apply (S : FVec F S64x8x256 .f32) (b : Fin 8) (s : Fin 64) (d : Fin 256) : byBatch (F := F) S (ix3 b s d) = S (ix3 s b d) := by
  pointwise [byBatch]

/-- A small number read from its word. -/
theorem start_small (w : BitVec 32) (n s : ℕ) (h : w.toNat = n) (hn : n ≤ s) (hs : s < 64) : min w.toInt.toNat s = n := by
  rw [BitVec.toInt_eq_toNat_of_lt (by omega), Int.toNat_natCast]
  omega

/-- The vector picked for a pair. -/
theorem picked_apply (X : FVec F S8x64x256 .f32) (Ix : IVec S8x2048x2 32) (b : Fin 8) (x : Fin 2048) (d : Fin 256) (s : Fin 64)
    (hb : (Ix (ix3 b x (0 : Fin 2))).toNat = b.val) (hs : (Ix (ix3 b x (1 : Fin 2))).toNat = s.val) :
    picked (F := F) X Ix (ix3 b x d) = X (ix3 b s d) := by
  unfold picked Host.gather
  congr 1
  funext a
  refine Fin.ext ?_
  let g := gather_S8x64x256_S8x2048x2_S8x2048x256_2_01_n_n_01_2_11256
  show g.start (ix3 b x d) Ix a + g.batchCoord (ix3 b x d) a + g.offCoord (ix3 b x d) a = _
  rw [GatherDims.batchCoord_eq_zero g _ _ (List.not_mem_nil (a := a)), Nat.add_zero]
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero g _ _ (fun h => ((GatherDims.mem_sKept g _).mp h).1 (by decide)), Nat.add_zero]
    unfold GatherDims.start
    rw [dif_pos (by decide)]
    refine Eq.trans (congrArg (fun i => min (Ix i).toInt.toNat 7) (?_ : _ = ix3 b x (0 : Fin 2))) (start_small _ b.val 7 hb (by omega) (by omega))
    funext c
    match c with
    | ⟨0, _⟩ => rfl
    | ⟨1, _⟩ => rfl
    | ⟨2, _⟩ => rfl
  · rw [GatherDims.offCoord_eq_zero g _ _ (fun h => ((GatherDims.mem_sKept g _).mp h).1 (by decide)), Nat.add_zero]
    unfold GatherDims.start
    rw [dif_pos (by decide)]
    refine Eq.trans (congrArg (fun i => min (Ix i).toInt.toNat 63) (?_ : _ = ix3 b x (1 : Fin 2))) (start_small _ s.val 63 hs (by omega) (by omega))
    funext c
    match c with
    | ⟨0, _⟩ => rfl
    | ⟨1, _⟩ => rfl
    | ⟨2, _⟩ => rfl
  · unfold GatherDims.start
    rw [dif_neg (by decide), Nat.zero_add]
    unfold GatherDims.offCoord
    rw [dif_pos (by decide)]
    rfl

/-- The scores of pairs. -/
theorem scored_apply (H T : FVec Ideal S8x2048x256 .f32) (W : FVec Ideal S512x16 .f32) (bb : FVec Ideal S16 .f32) (b : Fin 8) (x : Fin 2048) (r : Fin 16) :
    scored (F := Ideal) H T W bb (ix3 b x r) = (∑ d : Fin 256, H (ix3 b x d) * W (ix2 (⟨d.val, by omega⟩ : Fin 512) r))
      + (∑ d : Fin 256, T (ix3 b x d) * W (ix2 (⟨256 + d.val, by omega⟩ : Fin 512) r)) + bb (ix1 r) := by
  pointwise [scored]

/-- The reference's result at an index, of the pools that its loop leaves. -/
theorem outOf_apply (S : FVec Ideal S64x8x256 .f32) (P Q : IVec S8x2048 32) (W : FVec Ideal S512x16 .f32) (bb : FVec Ideal S16 .f32)
    (b : Fin 8) (x : Fin 2048) (r : Fin 16) (hP : (P (ix2 b x)).toNat < 64) (hQ : (Q (ix2 b x)).toNat < 64) :
    outOf (F := Ideal) S P Q W bb (ix3 b x r) = (∑ d : Fin 256, S (ix3 (⟨(P (ix2 b x)).toNat, hP⟩ : Fin 64) b d) * W (ix2 (⟨d.val, by omega⟩ : Fin 512) r))
      + (∑ d : Fin 256, S (ix3 (⟨(Q (ix2 b x)).toNat, hQ⟩ : Fin 64) b d) * W (ix2 (⟨256 + d.val, by omega⟩ : Fin 512) r)) + bb (ix1 r) := by
  have key : ∀ (R : IVec S8x2048 32) (hR : (R (ix2 b x)).toNat < 64) (d : Fin 256),
      picked (F := Ideal) (byBatch S) (ixPairs batchIx (spanIx R)) (ix3 b x d) = S (ix3 (⟨(R (ix2 b x)).toNat, hR⟩ : Fin 64) b d) := fun R hR d => by
    exact (picked_apply (F := Ideal) (byBatch (F := Ideal) S) _ b x d ⟨(R (ix2 b x)).toNat, hR⟩
      (by rw [ixPairs_fst, batchIx_apply, BitVec.toNat_ofNat]; omega) (by rw [ixPairs_snd, spanIx_apply R b x hR])).trans (byBatch_apply (F := Ideal) S b _ d)
  refine (scored_apply _ _ W bb b x r).trans ?_
  simp only [key P hP, key Q hQ]

end Cert.ReferenceScores

end
-- ==== Proof.Equation.lean ====
/- The kernel's result is the reference's, at exact arithmetic: both give a pair the head's pool times the upper half
of the weights, the tail's pool times the lower half, and the bias. -/
module

public import proofs.«01_k».proof.Proof.KernelIdealMain
public import proofs.«01_k».proof.Proof.KernelScores
public import proofs.«01_k».proof.Proof.ReferencePools
public import proofs.«01_k».proof.Proof.ReferenceScores

@[expose] public section

noncomputable section

namespace Cert.Equation

open Cert.KernelIdeal Cert.KernelIdeal.Gen
open Cert.KernelIdeal.Region (poolB sVal hVal tVal up dn encRow)
open Cert.KernelIdeal.Tile (scores)
open Cert.KernelIdeal.Base
open Cert.KernelScores (headPart tailPart)
open Cert.SpanMax (spanMax)
open Idealize.ShloMosaic

variable (E : S8x2048x256.Idx → EReal) (lo ln : S8x64.Idx → BitVec 32) (hd tl : S8x2048.Idx → BitVec 32) (W : S512x16.Idx → EReal) (b : S16.Idx → EReal)

/-- The first half of the kernel's scores at an index. -/
theorem sVal_apply (X Y : S4x2048.Idx → BitVec 32) (i : Fin 4) (x : Fin 2048) (r : Fin 16) (hX : (X (ix2 i x)).toNat < 64) (hY : (Y (ix2 i x)).toNat < 64) :
    sVal (F := Ideal) E lo ln W b X Y (ix3 i x r)
      = headPart (poolB (F := Ideal) E lo ln (dn i)) W ⟨_, hX⟩ r + b (ix1 r) + tailPart (poolB (F := Ideal) E lo ln (dn i)) W ⟨_, hY⟩ r :=
  Cert.KernelScores.pairs_eq (poolB (F := Ideal) E lo ln (dn i)) W b i X Y x r hX hY

/-- A row number below 64 names that row. -/
theorem fin64_of_lt (w : BitVec 32) (h : w.toNat < 64) : Cert.KernelIdeal.Rows.fin64 w = ⟨w.toNat, h⟩ := Fin.ext (Nat.mod_eq_of_lt h)

/-- The second half of the kernel's scores at an index. -/
theorem scores_apply (i : Fin 4) (x : Fin 2048) (r : Fin 16) (hX : (hd (ix2 (up i) x)).toNat < 64) (hY : (tl (ix2 (up i) x)).toNat < 64) :
    scores (F := Ideal) (hVal (F := Ideal) E lo ln W b) (tVal (F := Ideal) E lo ln W) hd tl (ix3 i x r)
      = headPart (poolB (F := Ideal) E lo ln (up i)) W ⟨_, hX⟩ r + b (ix1 r) + tailPart (poolB (F := Ideal) E lo ln (up i)) W ⟨_, hY⟩ r := by
  rw [← Cert.KernelScores.projH_eq, ← Cert.KernelScores.projT_eq, ← fin64_of_lt _ hX, ← fin64_of_lt _ hY]
  rfl

/-- The kernel's score of a pair in batch `i`. -/
theorem joined_apply (hhd : ∀ y, (hd y).toNat < 64) (htl : ∀ y, (tl y).toNat < 64) (i : Fin 8) (x : Fin 2048) (r : Fin 16) :
    concatenate S8x2048x16 0 [⟨S4x2048x16, sVal (F := Ideal) E lo ln W b (extractStridedSlice S4x2048 ![0, 0] hd slices_S8x2048_S4x2048_0_0) (extractStridedSlice S4x2048 ![0, 0] tl slices_S8x2048_S4x2048_0_0)⟩,
        ⟨S4x2048x16, scores (F := Ideal) (hVal (F := Ideal) E lo ln W b) (tVal (F := Ideal) E lo ln W) hd tl⟩] concatenates_S4x2048x16_S4x2048x16_S8x2048x16_d0 (ix3 i x r)
      = headPart (poolB (F := Ideal) E lo ln i) W ⟨_, hhd (ix2 i x)⟩ r + b (ix1 r) + tailPart (poolB (F := Ideal) E lo ln i) W ⟨_, htl (ix2 i x)⟩ r := by
  pointwise
  split
  · rename_i h
    have e : ∀ P : S8x2048.Idx → BitVec 32, extractStridedSlice S4x2048 ![0, 0] P slices_S8x2048_S4x2048_0_0 (ix2 (⟨i.val, h⟩ : Fin 4) x) = P (ix2 i x) := fun P => by
      pointwise
    refine (sVal_apply E lo ln W b _ _ ⟨i.val, h⟩ x r (by rw [e]; exact hhd _) (by rw [e]; exact htl _)).trans ?_
    simp only [e]
    rfl
  · rename_i h
    have hi : i.val - 4 < 4 := by have := i.isLt; omega
    have e : up ⟨i.val - 4, hi⟩ = i := Fin.ext (show i.val - 4 + 4 = i.val by omega)
    refine (scores_apply E lo ln hd tl W b ⟨i.val - 4, hi⟩ x r (hhd _) (htl _)).trans ?_
    simp only [e]

/-- A batch's pools are the maxima over its spans. -/
theorem poolB_apply (hlo : ∀ y, (lo y).toNat < 2016) (hln : ∀ y, (ln y).toNat < 32) (i : Fin 8) (s : Fin 64) (d : Fin 256) :
    poolB (F := Ideal) E lo ln i (ix2 s d) = spanMax (fun t => E (ix3 i t d)) (lo (ix2 i s)).toNat (ln (ix2 i s)).toNat :=
  Cert.SpanMax.pooled_eq (encRow (F := Ideal) E i) (fun s => lo (ix2 i s)) (fun s => ln (ix2 i s)) s d (hlo _) (hln _)

/-- The reference's score of a pair, of pools that are the maxima over the spans. -/
theorem ref_apply (S : Cert.ReferenceIdeal.S64x8x256.Idx → EReal) (hlo : ∀ y, (lo y).toNat < 2016) (hln : ∀ y, (ln y).toNat < 32)
    (hhd : ∀ y, (hd y).toNat < 64) (htl : ∀ y, (tl y).toNat < 64)
    (hS : ∀ (s : Fin 64) (i : Fin 8) (d : Fin 256), S (ix3 s i d) = spanMax (fun t => E (ix3 i t d)) (lo (ix2 i s)).toNat (ln (ix2 i s)).toNat)
    (i : Fin 8) (x : Fin 2048) (r : Fin 16) :
    Cert.ReferenceIdeal.End.outOf (F := Ideal) S hd tl W b (ix3 i x r)
      = headPart (poolB (F := Ideal) E lo ln i) W ⟨_, hhd (ix2 i x)⟩ r + b (ix1 r) + tailPart (poolB (F := Ideal) E lo ln i) W ⟨_, htl (ix2 i x)⟩ r := by
  refine (Cert.ReferenceScores.outOf_apply S hd tl W b i x r (hhd _) (htl _)).trans ?_
  unfold headPart tailPart
  simp only [poolB_apply E lo ln hlo hln, hS]
  exact add_right_comm _ _ _

/-- The two results are the same. -/
theorem results_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hlo : ∀ y, (m (loLoc c) y : BitVec 32).toNat < 2016) (hln : ∀ y, (m (lnLoc c) y : BitVec 32).toNat < 32)
    (hhd : ∀ y, (m (hdLoc c) y : BitVec 32).toNat < 64) (htl : ∀ y, (m (tlLoc c) y : BitVec 32).toNat < 64)
    (h0 : m' ((c.tc : Thread Cert.ReferenceIdeal.nD Cert.ReferenceIdeal.τ).loc Cert.ReferenceIdeal.main_arg0) = m (eLoc c))
    (h1 : m' ((c.tc : Thread Cert.ReferenceIdeal.nD Cert.ReferenceIdeal.τ).loc Cert.ReferenceIdeal.main_arg1) = m (loLoc c))
    (h2 : m' ((c.tc : Thread Cert.ReferenceIdeal.nD Cert.ReferenceIdeal.τ).loc Cert.ReferenceIdeal.main_arg2) = m (lnLoc c)) :
    Cert.ReferenceIdeal.End.outOf (F := Ideal) (Cert.ReferenceIdeal.End.pools m' c) (m (hdLoc c)) (m (tlLoc c)) (m (wLoc c)) (m (bLoc c))
      = Cert.KernelIdeal.Main.result m c := by
  have hS : ∀ (s : Fin 64) (i : Fin 8) (d : Fin 256), Cert.ReferenceIdeal.End.pools m' c (ix3 s i d)
      = spanMax (fun t => m (eLoc c) (ix3 i t d)) (m (loLoc c) (ix2 i s) : BitVec 32).toNat (m (lnLoc c) (ix2 i s) : BitVec 32).toNat := fun s i d => by
    rw [← h0, ← h1, ← h2]
    exact Cert.ReferencePools.pools_apply m' c (fun y => by rw [h1]; exact hlo y) (fun y => by rw [h2]; exact hln y) s i d
  have key : ∀ (i : Fin 8) (x : Fin 2048) (r : Fin 16),
      Cert.ReferenceIdeal.End.outOf (F := Ideal) (Cert.ReferenceIdeal.End.pools m' c) (m (hdLoc c)) (m (tlLoc c)) (m (wLoc c)) (m (bLoc c)) (ix3 i x r)
        = Cert.KernelIdeal.Main.result m c (ix3 i x r) := fun i x r =>
    (ref_apply (m (eLoc c)) (m (loLoc c)) (m (lnLoc c)) (m (hdLoc c)) (m (tlLoc c)) (m (wLoc c)) (m (bLoc c)) _ hlo hln hhd htl hS i x r).trans
      (joined_apply (m (eLoc c)) (m (loLoc c)) (m (lnLoc c)) (m (hdLoc c)) (m (tlLoc c)) (m (wLoc c)) (m (bLoc c)) hhd htl i x r).symm
  funext y
  have hy : y = ix3 (y 0) (y 1) (y 2) := ValueIdx.eq_ix3 y
  rw [hy]
  exact key (y 0) (y 1) (y 2)

end Cert.Equation

end
-- ==== Proof.lean ====
/- The claims: the frames of the kernel and of the reference, that idealizing the kernel changes nothing, and that
   the kernel and the reference have equal results at exact arithmetic. -/
module

public import proofs.«01_k».proof.Defs
public import proofs.«01_k».proof.Proof.KernelMain
public import proofs.«01_k».proof.Proof.KernelIdealMain
public import proofs.«01_k».proof.Proof.ReferenceEnd
public import proofs.«01_k».proof.Proof.Equation

@[expose] public section

noncomputable section

namespace Cert.Proof

open Idealize.ShloMosaic Idealize.SL.Sem

/-- The kernel's frame. -/
theorem kernel_frame : quiescent_Kernel (hKernel := Cert.Kernel.Gen.facts) (hPre_in_range := Cert.Pre_in_range.Gen.facts) := by
  intro m g h
  exact (θ_run _ _ _).mono (fun r hr => ⟨fun c => (hr.1 c).2, hr.2⟩) (Cert.Kernel.Main.run_main m g (Cert.Kernel.Main.ok_of_pre m h))

/-- The frame of the kernel read at exact arithmetic. -/
theorem kernelIdeal_frame : quiescent_KernelIdeal (hKernelIdeal := Cert.KernelIdeal.Gen.facts) (hPre_in_range := Cert.Pre_in_range.Gen.facts) := by
  intro m g h
  exact (θ_run _ _ _).mono (fun r hr => ⟨fun c => (hr.1 c).2, hr.2⟩) (Cert.KernelIdeal.Main.run_main m g (Cert.KernelIdeal.Main.ok_of_pre m h))

/-- The reference's frame. -/
theorem reference_frame : quiescent_ReferenceIdeal (hReferenceIdeal := Cert.ReferenceIdeal.Gen.facts) := by
  intro m g h
  exact (θ_run _ _ _).mono (fun r hr => ⟨fun c => (hr.1 c).2, hr.2⟩) (Cert.ReferenceIdeal.End.run m g)

/-- At exact arithmetic the kernel and the reference leave the same scores. -/
theorem kernelIdeal_reference : algebraic_KernelIdeal_ReferenceIdeal (hKernelIdeal := Cert.KernelIdeal.Gen.facts) (hReferenceIdeal := Cert.ReferenceIdeal.Gen.facts)
    (hPre_in_range := Cert.Pre_in_range.Gen.facts) := by
  intro m g m' g' h hargs
  refine ⟨fun c => Cert.KernelIdeal.Main.result m c, ?_, ?_⟩
  · exact (θ_run _ _ _).mono (fun r hr => hr.1) (Cert.KernelIdeal.Main.run_main m g (Cert.KernelIdeal.Main.ok_of_pre m h))
  · refine (θ_run _ _ _).mono (fun r hr c => ?_) (Cert.ReferenceIdeal.End.run m' g')
    obtain ⟨hres, hkept⟩ := hr.1 c
    obtain ⟨a0, a1, a2, a3, a4, a5, a6⟩ := hargs c
    obtain ⟨hlo, hln, hhd, htl⟩ := Cert.Ranges.ranges _ _ _ _ _ _ _ (h c)
    refine ⟨hres.trans ?_, hkept⟩
    rw [a3, a4, a5, a6]
    exact Cert.Equation.results_eq m m' c hlo (fun y => (hln y).2) hhd htl a0 a1 a2

theorem claim : Cert.Claim := ⟨Cert.Kernel.Gen.facts, Cert.KernelIdeal.Gen.facts, Cert.ReferenceIdeal.Gen.facts, Cert.Pre_in_range.Gen.facts,
  kernel_frame, kernelIdeal_frame, reference_frame, fun m g _ => reference_frame m g trivial, trivial, kernelIdeal_reference⟩

end Cert.Proof

end
